-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_WgradGate (m : (ℓ : Loc Cert.WgradGate.nD Cert.WgradGate.τ Cert.WgradGate.sig) → Buf (Elt Bits) ℓ) : Prop :=
  True

def Pre_WgradGateIdeal (m : (ℓ : Loc Cert.WgradGateIdeal.nD Cert.WgradGateIdeal.τ Cert.WgradGateIdeal.sig) → Buf (Elt Ideal) ℓ) : Prop :=
  True

def Pre_WgradGateRefIdeal (m : (ℓ : Loc Cert.WgradGateRefIdeal.nD Cert.WgradGateRefIdeal.τ Cert.WgradGateRefIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownRefIdeal (m : (ℓ : Loc Cert.WgradDownRefIdeal.nD Cert.WgradDownRefIdeal.τ Cert.WgradDownRefIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutRefIdeal (m : (ℓ : Loc Cert.WgradOutRefIdeal.nD Cert.WgradOutRefIdeal.τ Cert.WgradOutRefIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInRefIdeal (m : (ℓ : Loc Cert.WgradInRefIdeal.nD Cert.WgradInRefIdeal.τ Cert.WgradInRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdRefIdeal (m : (ℓ : Loc Cert.ModBwdRefIdeal.nD Cert.ModBwdRefIdeal.τ Cert.ModBwdRefIdeal.sig) → Buf (Elt Ideal) ℓ) : Prop :=
  True

def Pre_Totals (m : (ℓ : Loc Cert.Totals.nD Cert.Totals.τ Cert.Totals.sig) → Buf (Elt Bits) ℓ) : Prop :=
  True

def Pre_TotalsIdeal (m : (ℓ : Loc Cert.TotalsIdeal.nD Cert.TotalsIdeal.τ Cert.TotalsIdeal.sig) → Buf (Elt Ideal) ℓ) : Prop :=
  True

def Pre_TotalsRefIdeal (m : (ℓ : Loc Cert.TotalsRefIdeal.nD Cert.TotalsRefIdeal.τ Cert.TotalsRefIdeal.sig) → Buf (Elt Ideal) ℓ) : Prop :=
  True

def Pre_CtxGrad (m : (ℓ : Loc Cert.CtxGrad.nD Cert.CtxGrad.τ Cert.CtxGrad.sig) → Buf (Elt Bits) ℓ) : Prop :=
  True

def Pre_CtxGradIdeal (m : (ℓ : Loc Cert.CtxGradIdeal.nD Cert.CtxGradIdeal.τ Cert.CtxGradIdeal.sig) → Buf (Elt Ideal) ℓ) : Prop :=
  True

def Pre_CtxGradIdeal_finite_ctx [hPre_finite_ctx : Cert.Pre_finite_ctx.Facts] (m : (ℓ : Loc Cert.CtxGradIdeal.nD Cert.CtxGradIdeal.τ Cert.CtxGradIdeal.sig) → Buf (Elt Ideal) ℓ) : Prop :=
  ∀ c : Dev Cert.CtxGradIdeal.nD,
    (Cert.Pre_finite_ctx.fn (F := Ideal) (m ((c.tc : Thread Cert.CtxGradIdeal.nD Cert.CtxGradIdeal.τ).loc Cert.CtxGradIdeal.main_arg0)) (m ((c.tc : Thread Cert.CtxGradIdeal.nD Cert.CtxGradIdeal.τ).loc Cert.CtxGradIdeal.main_arg1))) = (fun _ => 1#1)

def Pre_CtxGradRefIdeal (m : (ℓ : Loc Cert.CtxGradRefIdeal.nD Cert.CtxGradRefIdeal.τ Cert.CtxGradRefIdeal.sig) → Buf (Elt Ideal) ℓ) : Prop :=
  True

def Pre_CtxGradRefIdeal_finite_ctx [hPre_finite_ctx : Cert.Pre_finite_ctx.Facts] (m : (ℓ : Loc Cert.CtxGradRefIdeal.nD Cert.CtxGradRefIdeal.τ Cert.CtxGradRefIdeal.sig) → Buf (Elt Ideal) ℓ) : Prop :=
  ∀ c : Dev Cert.CtxGradRefIdeal.nD,
    (Cert.Pre_finite_ctx.fn (F := Ideal) (m ((c.tc : Thread Cert.CtxGradRefIdeal.nD Cert.CtxGradRefIdeal.τ).loc Cert.CtxGradRefIdeal.main_arg0)) (m ((c.tc : Thread Cert.CtxGradRefIdeal.nD Cert.CtxGradRefIdeal.τ).loc Cert.CtxGradRefIdeal.main_arg1))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_merge [hPre_finite_merge : Cert.Pre_finite_merge.Facts] (m : (ℓ : Loc Cert.MergeIdeal.nD Cert.MergeIdeal.τ Cert.MergeIdeal.sig) → Buf (Elt Ideal) ℓ) : Prop :=
  ∀ c : Dev Cert.MergeIdeal.nD,
    (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_merge [hPre_finite_merge : Cert.Pre_finite_merge.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.2.2.2.2.2 = (fun _ => 1#1)

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryRefIdeal (m : (ℓ : Loc Cert.EntryRefIdeal.nD Cert.EntryRefIdeal.τ Cert.EntryRefIdeal.sig) → Buf (Elt Ideal) ℓ) : Prop :=
  True

def Pre_States (m : (ℓ : Loc Cert.States.nD Cert.States.τ Cert.States.sig) → Buf (Elt Bits) ℓ) : Prop :=
  True

def Pre_StatesIdeal (m : (ℓ : Loc Cert.StatesIdeal.nD Cert.StatesIdeal.τ Cert.StatesIdeal.sig) → Buf (Elt Ideal) ℓ) : Prop :=
  True

def Pre_StatesIdeal_finite_states [hPre_finite_states : Cert.Pre_finite_states.Facts] (m : (ℓ : Loc Cert.StatesIdeal.nD Cert.StatesIdeal.τ Cert.StatesIdeal.sig) → Buf (Elt Ideal) ℓ) : Prop :=
  ∀ c : Dev Cert.StatesIdeal.nD,
    (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4))).1 = (fun _ => 1#1)
    ∧ (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4))).2.1 = (fun _ => 1#1)
    ∧ (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4))).2.2.1 = (fun _ => 1#1)
    ∧ (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4))).2.2.2.1 = (fun _ => 1#1)
    ∧ (Cert.Pre_finite_states.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4))).2.2.2.2 = (fun _ => 1#1)

def Pre_StatesRefIdeal (m : (ℓ : Loc Cert.StatesRefIdeal.nD Cert.StatesRefIdeal.τ Cert.StatesRefIdeal.sig) → Buf (Elt Ideal) ℓ) : Prop :=
  True

def Pre_StatesRefIdeal_finite_states [hPre_finite_states : Cert.Pre_finite_states.Facts] (m : (ℓ : Loc Cert.StatesRefIdeal.nD Cert.StatesRefIdeal.τ Cert.StatesRefIdeal.sig) → Buf (Elt Ideal) ℓ) : Prop :=
  ∀ c : Dev Cert.StatesRefIdeal.nD,
    (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4))).1 = (fun _ => 1#1)
    ∧ (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4))).2.1 = (fun _ => 1#1)
    ∧ (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4))).2.2.1 = (fun _ => 1#1)
    ∧ (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4))).2.2.2.1 = (fun _ => 1#1)
    ∧ (Cert.Pre_finite_states.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1)) (m ((c.tc : Thread Cert.StatesRefIdeal.nD Cert.StatesRefIdeal.τ).loc Cert.StatesRefIdeal.main_arg2)) (m ((c.tc : Thread Cert.StatesRefIdeal.nD Cert.StatesRefIdeal.τ).loc Cert.StatesRefIdeal.main_arg3)) (m ((c.tc : Thread Cert.StatesRefIdeal.nD Cert.StatesRefIdeal.τ).loc Cert.StatesRefIdeal.main_arg4))).2.2.2.2 = (fun _ => 1#1)

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_WgradGate [hWgradGate : Cert.WgradGate.Facts] : Prop :=
  ∀ (m : (ℓ : Loc Cert.WgradGate.nD Cert.WgradGate.τ Cert.WgradGate.sig) → Buf (Elt Bits) ℓ) (g : Dev Cert.WgradGate.nD → PrngReg), Pre_WgradGate m →
    θ_run (Cert.WgradGate.defs (F := Bits)) (onTc (τ := Cert.WgradGate.τ) (Cert.WgradGate.main (F := Bits))) ⟨m, fun _ => 0, g⟩ (fun r => (∀ c : Dev Cert.WgradGate.nD,
      r.2.mem ((c.tc : Thread Cert.WgradGate.nD Cert.WgradGate.τ).loc Cert.WgradGate.main_arg0) = m ((c.tc : Thread Cert.WgradGate.nD Cert.WgradGate.τ).loc Cert.WgradGate.main_arg0)
      ∧ r.2.mem ((c.tc : Thread Cert.WgradGate.nD Cert.WgradGate.τ).loc Cert.WgradGate.main_arg1) = m ((c.tc : Thread Cert.WgradGate.nD Cert.WgradGate.τ).loc Cert.WgradGate.main_arg1))
      ∧ r.2.sem = fun _ => 0)

def quiescent_WgradGateIdeal [hWgradGateIdeal : Cert.WgradGateIdeal.Facts] : Prop :=
  ∀ (m : (ℓ : Loc Cert.WgradGateIdeal.nD Cert.WgradGateIdeal.τ Cert.WgradGateIdeal.sig) → Buf (Elt Ideal) ℓ) (g : Dev Cert.WgradGateIdeal.nD → PrngReg), Pre_WgradGateIdeal m →
    θ_run (Cert.WgradGateIdeal.defs (F := Ideal)) (onTc (τ := Cert.WgradGateIdeal.τ) (Cert.WgradGateIdeal.main (F := Ideal))) ⟨m, fun _ => 0, g⟩ (fun r => (∀ c : Dev Cert.WgradGateIdeal.nD,
      r.2.mem ((c.tc : Thread Cert.WgradGateIdeal.nD Cert.WgradGateIdeal.τ).loc Cert.WgradGateIdeal.main_arg0) = m ((c.tc : Thread Cert.WgradGateIdeal.nD Cert.WgradGateIdeal.τ).loc Cert.WgradGateIdeal.main_arg0)
      ∧ r.2.mem ((c.tc : Thread Cert.WgradGateIdeal.nD Cert.WgradGateIdeal.τ).loc Cert.WgradGateIdeal.main_arg1) = m ((c.tc : Thread Cert.WgradGateIdeal.nD Cert.WgradGateIdeal.τ).loc Cert.WgradGateIdeal.main_arg1))
      ∧ r.2.sem = fun _ => 0)

def quiescent_WgradGateRefIdeal [hWgradGateRefIdeal : Cert.WgradGateRefIdeal.Facts] : Prop :=
  ∀ (m : (ℓ : Loc Cert.WgradGateRefIdeal.nD Cert.WgradGateRefIdeal.τ Cert.WgradGateRefIdeal.sig) → Buf (Elt Ideal) ℓ) (g : Dev Cert.WgradGateRefIdeal.nD → PrngReg), Pre_WgradGateRefIdeal m →
    θ_run (Cert.WgradGateRefIdeal.defs (F := Ideal)) (onTc (τ := Cert.WgradGateRefIdeal.τ) (Cert.WgradGateRefIdeal.main (F := Ideal))) ⟨m, fun _ => 0, g⟩ (fun r => (∀ c : Dev Cert.WgradGateRefIdeal.nD,
      r.2.mem ((c.tc : Thread Cert.WgradGateRefIdeal.nD Cert.WgradGateRefIdeal.τ).loc Cert.WgradGateRefIdeal.main_arg0) = m ((c.tc : Thread Cert.WgradGateRefIdeal.nD Cert.WgradGateRefIdeal.τ).loc Cert.WgradGateRefIdeal.main_arg0)
      ∧ r.2.mem ((c.tc : Thread Cert.WgradGateRefIdeal.nD Cert.WgradGateRefIdeal.τ).loc Cert.WgradGateRefIdeal.main_arg1) = m ((c.tc : Thread Cert.WgradGateRefIdeal.nD Cert.WgradGateRefIdeal.τ).loc Cert.WgradGateRefIdeal.main_arg1))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ r.2.sem = fun _ => 0)

def quiescent_WgradDownRefIdeal [hWgradDownRefIdeal : Cert.WgradDownRefIdeal.Facts] : Prop :=
  ∀ (m : (ℓ : Loc Cert.WgradDownRefIdeal.nD Cert.WgradDownRefIdeal.τ Cert.WgradDownRefIdeal.sig) → Buf (Elt Ideal) ℓ) (g : Dev Cert.WgradDownRefIdeal.nD → PrngReg), Pre_WgradDownRefIdeal m →
    θ_run (Cert.WgradDownRefIdeal.defs (F := Ideal)) (onTc (τ := Cert.WgradDownRefIdeal.τ) (Cert.WgradDownRefIdeal.main (F := Ideal))) ⟨m, fun _ => 0, g⟩ (fun r => (∀ c : Dev Cert.WgradDownRefIdeal.nD,
      r.2.mem ((c.tc : Thread Cert.WgradDownRefIdeal.nD Cert.WgradDownRefIdeal.τ).loc Cert.WgradDownRefIdeal.main_arg0) = m ((c.tc : Thread Cert.WgradDownRefIdeal.nD Cert.WgradDownRefIdeal.τ).loc Cert.WgradDownRefIdeal.main_arg0)
      ∧ r.2.mem ((c.tc : Thread Cert.WgradDownRefIdeal.nD Cert.WgradDownRefIdeal.τ).loc Cert.WgradDownRefIdeal.main_arg1) = m ((c.tc : Thread Cert.WgradDownRefIdeal.nD Cert.WgradDownRefIdeal.τ).loc Cert.WgradDownRefIdeal.main_arg1))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ r.2.sem = fun _ => 0)

def quiescent_WgradOutRefIdeal [hWgradOutRefIdeal : Cert.WgradOutRefIdeal.Facts] : Prop :=
  ∀ (m : (ℓ : Loc Cert.WgradOutRefIdeal.nD Cert.WgradOutRefIdeal.τ Cert.WgradOutRefIdeal.sig) → Buf (Elt Ideal) ℓ) (g : Dev Cert.WgradOutRefIdeal.nD → PrngReg), Pre_WgradOutRefIdeal m →
    θ_run (Cert.WgradOutRefIdeal.defs (F := Ideal)) (onTc (τ := Cert.WgradOutRefIdeal.τ) (Cert.WgradOutRefIdeal.main (F := Ideal))) ⟨m, fun _ => 0, g⟩ (fun r => (∀ c : Dev Cert.WgradOutRefIdeal.nD,
      r.2.mem ((c.tc : Thread Cert.WgradOutRefIdeal.nD Cert.WgradOutRefIdeal.τ).loc Cert.WgradOutRefIdeal.main_arg0) = m ((c.tc : Thread Cert.WgradOutRefIdeal.nD Cert.WgradOutRefIdeal.τ).loc Cert.WgradOutRefIdeal.main_arg0)
      ∧ r.2.mem ((c.tc : Thread Cert.WgradOutRefIdeal.nD Cert.WgradOutRefIdeal.τ).loc Cert.WgradOutRefIdeal.main_arg1) = m ((c.tc : Thread Cert.WgradOutRefIdeal.nD Cert.WgradOutRefIdeal.τ).loc Cert.WgradOutRefIdeal.main_arg1))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1)
      ∧ r.2.mem ((c.tc : Thread Cert.WgradIn.nD Cert.WgradIn.τ).loc Cert.WgradIn.main_arg2) = m ((c.tc : Thread Cert.WgradIn.nD Cert.WgradIn.τ).loc Cert.WgradIn.main_arg2))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
      ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2))
      ∧ r.2.sem = fun _ => 0)

def quiescent_WgradInRefIdeal [hWgradInRefIdeal : Cert.WgradInRefIdeal.Facts] : Prop :=
  ∀ (m : (ℓ : Loc Cert.WgradInRefIdeal.nD Cert.WgradInRefIdeal.τ Cert.WgradInRefIdeal.sig) → Buf (Elt Ideal) ℓ) (g : Dev Cert.WgradInRefIdeal.nD → PrngReg), Pre_WgradInRefIdeal m →
    θ_run (Cert.WgradInRefIdeal.defs (F := Ideal)) (onTc (τ := Cert.WgradInRefIdeal.τ) (Cert.WgradInRefIdeal.main (F := Ideal))) ⟨m, fun _ => 0, g⟩ (fun r => (∀ c : Dev Cert.WgradInRefIdeal.nD,
      r.2.mem ((c.tc : Thread Cert.WgradInRefIdeal.nD Cert.WgradInRefIdeal.τ).loc Cert.WgradInRefIdeal.main_arg0) = m ((c.tc : Thread Cert.WgradInRefIdeal.nD Cert.WgradInRefIdeal.τ).loc Cert.WgradInRefIdeal.main_arg0)
      ∧ r.2.mem ((c.tc : Thread Cert.WgradInRefIdeal.nD Cert.WgradInRefIdeal.τ).loc Cert.WgradInRefIdeal.main_arg1) = m ((c.tc : Thread Cert.WgradInRefIdeal.nD Cert.WgradInRefIdeal.τ).loc Cert.WgradInRefIdeal.main_arg1)
      ∧ r.2.mem ((c.tc : Thread Cert.WgradInRefIdeal.nD Cert.WgradInRefIdeal.τ).loc Cert.WgradInRefIdeal.main_arg2) = m ((c.tc : Thread Cert.WgradInRefIdeal.nD Cert.WgradInRefIdeal.τ).loc Cert.WgradInRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2))
      ∧ r.2.sem = fun _ => 0)

def quiescent_ModBwdRefIdeal [hModBwdRefIdeal : Cert.ModBwdRefIdeal.Facts] : Prop :=
  ∀ (m : (ℓ : Loc Cert.ModBwdRefIdeal.nD Cert.ModBwdRefIdeal.τ Cert.ModBwdRefIdeal.sig) → Buf (Elt Ideal) ℓ) (g : Dev Cert.ModBwdRefIdeal.nD → PrngReg), Pre_ModBwdRefIdeal m →
    θ_run (Cert.ModBwdRefIdeal.defs (F := Ideal)) (onTc (τ := Cert.ModBwdRefIdeal.τ) (Cert.ModBwdRefIdeal.main (F := Ideal))) ⟨m, fun _ => 0, g⟩ (fun r => (∀ c : Dev Cert.ModBwdRefIdeal.nD,
      r.2.mem ((c.tc : Thread Cert.ModBwdRefIdeal.nD Cert.ModBwdRefIdeal.τ).loc Cert.ModBwdRefIdeal.main_arg0) = m ((c.tc : Thread Cert.ModBwdRefIdeal.nD Cert.ModBwdRefIdeal.τ).loc Cert.ModBwdRefIdeal.main_arg0)
      ∧ r.2.mem ((c.tc : Thread Cert.ModBwdRefIdeal.nD Cert.ModBwdRefIdeal.τ).loc Cert.ModBwdRefIdeal.main_arg1) = m ((c.tc : Thread Cert.ModBwdRefIdeal.nD Cert.ModBwdRefIdeal.τ).loc Cert.ModBwdRefIdeal.main_arg1)
      ∧ r.2.mem ((c.tc : Thread Cert.ModBwdRefIdeal.nD Cert.ModBwdRefIdeal.τ).loc Cert.ModBwdRefIdeal.main_arg2) = m ((c.tc : Thread Cert.ModBwdRefIdeal.nD Cert.ModBwdRefIdeal.τ).loc Cert.ModBwdRefIdeal.main_arg2))
      ∧ r.2.sem = fun _ => 0)

def quiescent_Totals [hTotals : Cert.Totals.Facts] : Prop :=
  ∀ (m : (ℓ : Loc Cert.Totals.nD Cert.Totals.τ Cert.Totals.sig) → Buf (Elt Bits) ℓ) (g : Dev Cert.Totals.nD → PrngReg), Pre_Totals m →
    θ_run (Cert.Totals.defs (F := Bits)) (onTc (τ := Cert.Totals.τ) (Cert.Totals.main (F := Bits))) ⟨m, fun _ => 0, g⟩ (fun r => (∀ c : Dev Cert.Totals.nD,
      r.2.mem ((c.tc : Thread Cert.Totals.nD Cert.Totals.τ).loc Cert.Totals.main_arg0) = m ((c.tc : Thread Cert.Totals.nD Cert.Totals.τ).loc Cert.Totals.main_arg0))
      ∧ r.2.sem = fun _ => 0)

def quiescent_TotalsIdeal [hTotalsIdeal : Cert.TotalsIdeal.Facts] : Prop :=
  ∀ (m : (ℓ : Loc Cert.TotalsIdeal.nD Cert.TotalsIdeal.τ Cert.TotalsIdeal.sig) → Buf (Elt Ideal) ℓ) (g : Dev Cert.TotalsIdeal.nD → PrngReg), Pre_TotalsIdeal m →
    θ_run (Cert.TotalsIdeal.defs (F := Ideal)) (onTc (τ := Cert.TotalsIdeal.τ) (Cert.TotalsIdeal.main (F := Ideal))) ⟨m, fun _ => 0, g⟩ (fun r => (∀ c : Dev Cert.TotalsIdeal.nD,
      r.2.mem ((c.tc : Thread Cert.TotalsIdeal.nD Cert.TotalsIdeal.τ).loc Cert.TotalsIdeal.main_arg0) = m ((c.tc : Thread Cert.TotalsIdeal.nD Cert.TotalsIdeal.τ).loc Cert.TotalsIdeal.main_arg0))
      ∧ r.2.sem = fun _ => 0)

def quiescent_TotalsRefIdeal [hTotalsRefIdeal : Cert.TotalsRefIdeal.Facts] : Prop :=
  ∀ (m : (ℓ : Loc Cert.TotalsRefIdeal.nD Cert.TotalsRefIdeal.τ Cert.TotalsRefIdeal.sig) → Buf (Elt Ideal) ℓ) (g : Dev Cert.TotalsRefIdeal.nD → PrngReg), Pre_TotalsRefIdeal m →
    θ_run (Cert.TotalsRefIdeal.defs (F := Ideal)) (onTc (τ := Cert.TotalsRefIdeal.τ) (Cert.TotalsRefIdeal.main (F := Ideal))) ⟨m, fun _ => 0, g⟩ (fun r => (∀ c : Dev Cert.TotalsRefIdeal.nD,
      r.2.mem ((c.tc : Thread Cert.TotalsRefIdeal.nD Cert.TotalsRefIdeal.τ).loc Cert.TotalsRefIdeal.main_arg0) = m ((c.tc : Thread Cert.TotalsRefIdeal.nD Cert.TotalsRefIdeal.τ).loc Cert.TotalsRefIdeal.main_arg0))
      ∧ r.2.sem = fun _ => 0)

def quiescent_CtxGrad [hCtxGrad : Cert.CtxGrad.Facts] : Prop :=
  ∀ (m : (ℓ : Loc Cert.CtxGrad.nD Cert.CtxGrad.τ Cert.CtxGrad.sig) → Buf (Elt Bits) ℓ) (g : Dev Cert.CtxGrad.nD → PrngReg), Pre_CtxGrad m →
    θ_run (Cert.CtxGrad.defs (F := Bits)) (onTc (τ := Cert.CtxGrad.τ) (Cert.CtxGrad.main (F := Bits))) ⟨m, fun _ => 0, g⟩ (fun r => (∀ c : Dev Cert.CtxGrad.nD,
      r.2.mem ((c.tc : Thread Cert.CtxGrad.nD Cert.CtxGrad.τ).loc Cert.CtxGrad.main_arg0) = m ((c.tc : Thread Cert.CtxGrad.nD Cert.CtxGrad.τ).loc Cert.CtxGrad.main_arg0)
      ∧ r.2.mem ((c.tc : Thread Cert.CtxGrad.nD Cert.CtxGrad.τ).loc Cert.CtxGrad.main_arg1) = m ((c.tc : Thread Cert.CtxGrad.nD Cert.CtxGrad.τ).loc Cert.CtxGrad.main_arg1))
      ∧ r.2.sem = fun _ => 0)

def quiescent_CtxGradIdeal [hCtxGradIdeal : Cert.CtxGradIdeal.Facts] : Prop :=
  ∀ (m : (ℓ : Loc Cert.CtxGradIdeal.nD Cert.CtxGradIdeal.τ Cert.CtxGradIdeal.sig) → Buf (Elt Ideal) ℓ) (g : Dev Cert.CtxGradIdeal.nD → PrngReg), Pre_CtxGradIdeal m →
    θ_run (Cert.CtxGradIdeal.defs (F := Ideal)) (onTc (τ := Cert.CtxGradIdeal.τ) (Cert.CtxGradIdeal.main (F := Ideal))) ⟨m, fun _ => 0, g⟩ (fun r => (∀ c : Dev Cert.CtxGradIdeal.nD,
      r.2.mem ((c.tc : Thread Cert.CtxGradIdeal.nD Cert.CtxGradIdeal.τ).loc Cert.CtxGradIdeal.main_arg0) = m ((c.tc : Thread Cert.CtxGradIdeal.nD Cert.CtxGradIdeal.τ).loc Cert.CtxGradIdeal.main_arg0)
      ∧ r.2.mem ((c.tc : Thread Cert.CtxGradIdeal.nD Cert.CtxGradIdeal.τ).loc Cert.CtxGradIdeal.main_arg1) = m ((c.tc : Thread Cert.CtxGradIdeal.nD Cert.CtxGradIdeal.τ).loc Cert.CtxGradIdeal.main_arg1))
      ∧ r.2.sem = fun _ => 0)

def quiescent_CtxGradIdeal_pre_finite_ctx [hCtxGradIdeal : Cert.CtxGradIdeal.Facts] [hPre_finite_ctx : Cert.Pre_finite_ctx.Facts] : Prop :=
  ∀ (m : (ℓ : Loc Cert.CtxGradIdeal.nD Cert.CtxGradIdeal.τ Cert.CtxGradIdeal.sig) → Buf (Elt Ideal) ℓ) (g : Dev Cert.CtxGradIdeal.nD → PrngReg), Pre_CtxGradIdeal_finite_ctx m →
    θ_run (Cert.CtxGradIdeal.defs (F := Ideal)) (onTc (τ := Cert.CtxGradIdeal.τ) (Cert.CtxGradIdeal.main (F := Ideal))) ⟨m, fun _ => 0, g⟩ (fun r => (∀ c : Dev Cert.CtxGradIdeal.nD,
      r.2.mem ((c.tc : Thread Cert.CtxGradIdeal.nD Cert.CtxGradIdeal.τ).loc Cert.CtxGradIdeal.main_arg0) = m ((c.tc : Thread Cert.CtxGradIdeal.nD Cert.CtxGradIdeal.τ).loc Cert.CtxGradIdeal.main_arg0)
      ∧ r.2.mem ((c.tc : Thread Cert.CtxGradIdeal.nD Cert.CtxGradIdeal.τ).loc Cert.CtxGradIdeal.main_arg1) = m ((c.tc : Thread Cert.CtxGradIdeal.nD Cert.CtxGradIdeal.τ).loc Cert.CtxGradIdeal.main_arg1))
      ∧ r.2.sem = fun _ => 0)

def quiescent_CtxGradRefIdeal [hCtxGradRefIdeal : Cert.CtxGradRefIdeal.Facts] : Prop :=
  ∀ (m : (ℓ : Loc Cert.CtxGradRefIdeal.nD Cert.CtxGradRefIdeal.τ Cert.CtxGradRefIdeal.sig) → Buf (Elt Ideal) ℓ) (g : Dev Cert.CtxGradRefIdeal.nD → PrngReg), Pre_CtxGradRefIdeal m →
    θ_run (Cert.CtxGradRefIdeal.defs (F := Ideal)) (onTc (τ := Cert.CtxGradRefIdeal.τ) (Cert.CtxGradRefIdeal.main (F := Ideal))) ⟨m, fun _ => 0, g⟩ (fun r => (∀ c : Dev Cert.CtxGradRefIdeal.nD,
      r.2.mem ((c.tc : Thread Cert.CtxGradRefIdeal.nD Cert.CtxGradRefIdeal.τ).loc Cert.CtxGradRefIdeal.main_arg0) = m ((c.tc : Thread Cert.CtxGradRefIdeal.nD Cert.CtxGradRefIdeal.τ).loc Cert.CtxGradRefIdeal.main_arg0)
      ∧ r.2.mem ((c.tc : Thread Cert.CtxGradRefIdeal.nD Cert.CtxGradRefIdeal.τ).loc Cert.CtxGradRefIdeal.main_arg1) = m ((c.tc : Thread Cert.CtxGradRefIdeal.nD Cert.CtxGradRefIdeal.τ).loc Cert.CtxGradRefIdeal.main_arg1))
      ∧ r.2.sem = fun _ => 0)

def quiescent_CtxGradRefIdeal_pre_finite_ctx [hCtxGradRefIdeal : Cert.CtxGradRefIdeal.Facts] [hPre_finite_ctx : Cert.Pre_finite_ctx.Facts] : Prop :=
  ∀ (m : (ℓ : Loc Cert.CtxGradRefIdeal.nD Cert.CtxGradRefIdeal.τ Cert.CtxGradRefIdeal.sig) → Buf (Elt Ideal) ℓ) (g : Dev Cert.CtxGradRefIdeal.nD → PrngReg), Pre_CtxGradRefIdeal_finite_ctx m →
    θ_run (Cert.CtxGradRefIdeal.defs (F := Ideal)) (onTc (τ := Cert.CtxGradRefIdeal.τ) (Cert.CtxGradRefIdeal.main (F := Ideal))) ⟨m, fun _ => 0, g⟩ (fun r => (∀ c : Dev Cert.CtxGradRefIdeal.nD,
      r.2.mem ((c.tc : Thread Cert.CtxGradRefIdeal.nD Cert.CtxGradRefIdeal.τ).loc Cert.CtxGradRefIdeal.main_arg0) = m ((c.tc : Thread Cert.CtxGradRefIdeal.nD Cert.CtxGradRefIdeal.τ).loc Cert.CtxGradRefIdeal.main_arg0)
      ∧ r.2.mem ((c.tc : Thread Cert.CtxGradRefIdeal.nD Cert.CtxGradRefIdeal.τ).loc Cert.CtxGradRefIdeal.main_arg1) = m ((c.tc : Thread Cert.CtxGradRefIdeal.nD Cert.CtxGradRefIdeal.τ).loc Cert.CtxGradRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeIdeal_pre_finite_merge [hMergeIdeal : Cert.MergeIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_merge m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeRefIdeal_pre_finite_merge [hMergeRefIdeal : Cert.MergeRefIdeal.Facts] [hPre_finite_merge : Cert.Pre_finite_merge.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_merge m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6)
      ∧ r.2.mem ((c.tc : Thread Cert.Join.nD Cert.Join.τ).loc Cert.Join.main_arg7) = m ((c.tc : Thread Cert.Join.nD Cert.Join.τ).loc Cert.Join.main_arg7))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2)
      ∧ r.2.mem ((c.tc : Thread Cert.Entry.nD Cert.Entry.τ).loc Cert.Entry.main_arg3) = m ((c.tc : Thread Cert.Entry.nD Cert.Entry.τ).loc Cert.Entry.main_arg3)
      ∧ r.2.mem ((c.tc : Thread Cert.Entry.nD Cert.Entry.τ).loc Cert.Entry.main_arg4) = m ((c.tc : Thread Cert.Entry.nD Cert.Entry.τ).loc Cert.Entry.main_arg4)
      ∧ r.2.mem ((c.tc : Thread Cert.Entry.nD Cert.Entry.τ).loc Cert.Entry.main_arg5) = m ((c.tc : Thread Cert.Entry.nD Cert.Entry.τ).loc Cert.Entry.main_arg5)
      ∧ r.2.mem ((c.tc : Thread Cert.Entry.nD Cert.Entry.τ).loc Cert.Entry.main_arg6) = m ((c.tc : Thread Cert.Entry.nD Cert.Entry.τ).loc Cert.Entry.main_arg6))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
      ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3)
      ∧ r.2.mem ((c.tc : Thread Cert.EntryIdeal.nD Cert.EntryIdeal.τ).loc Cert.EntryIdeal.main_arg4) = m ((c.tc : Thread Cert.EntryIdeal.nD Cert.EntryIdeal.τ).loc Cert.EntryIdeal.main_arg4)
      ∧ r.2.mem ((c.tc : Thread Cert.EntryIdeal.nD Cert.EntryIdeal.τ).loc Cert.EntryIdeal.main_arg5) = m ((c.tc : Thread Cert.EntryIdeal.nD Cert.EntryIdeal.τ).loc Cert.EntryIdeal.main_arg5)
      ∧ r.2.mem ((c.tc : Thread Cert.EntryIdeal.nD Cert.EntryIdeal.τ).loc Cert.EntryIdeal.main_arg6) = m ((c.tc : Thread Cert.EntryIdeal.nD Cert.EntryIdeal.τ).loc Cert.EntryIdeal.main_arg6))
      ∧ r.2.sem = fun _ => 0)

def quiescent_EntryRefIdeal [hEntryRefIdeal : Cert.EntryRefIdeal.Facts] : Prop :=
  ∀ (m : (ℓ : Loc Cert.EntryRefIdeal.nD Cert.EntryRefIdeal.τ Cert.EntryRefIdeal.sig) → Buf (Elt Ideal) ℓ) (g : Dev Cert.EntryRefIdeal.nD → PrngReg), Pre_EntryRefIdeal m →
    θ_run (Cert.EntryRefIdeal.defs (F := Ideal)) (onTc (τ := Cert.EntryRefIdeal.τ) (Cert.EntryRefIdeal.main (F := Ideal))) ⟨m, fun _ => 0, g⟩ (fun r => (∀ c : Dev Cert.EntryRefIdeal.nD,
      r.2.mem ((c.tc : Thread Cert.EntryRefIdeal.nD Cert.EntryRefIdeal.τ).loc Cert.EntryRefIdeal.main_arg0) = m ((c.tc : Thread Cert.EntryRefIdeal.nD Cert.EntryRefIdeal.τ).loc Cert.EntryRefIdeal.main_arg0)
      ∧ r.2.mem ((c.tc : Thread Cert.EntryRefIdeal.nD Cert.EntryRefIdeal.τ).loc Cert.EntryRefIdeal.main_arg1) = m ((c.tc : Thread Cert.EntryRefIdeal.nD Cert.EntryRefIdeal.τ).loc Cert.EntryRefIdeal.main_arg1)
      ∧ r.2.mem ((c.tc : Thread Cert.EntryRefIdeal.nD Cert.EntryRefIdeal.τ).loc Cert.EntryRefIdeal.main_arg2) = m ((c.tc : Thread Cert.EntryRefIdeal.nD Cert.EntryRefIdeal.τ).loc Cert.EntryRefIdeal.main_arg2)
      ∧ r.2.mem ((c.tc : Thread Cert.EntryRefIdeal.nD Cert.EntryRefIdeal.τ).loc Cert.EntryRefIdeal.main_arg3) = m ((c.tc : Thread Cert.EntryRefIdeal.nD Cert.EntryRefIdeal.τ).loc Cert.EntryRefIdeal.main_arg3)
      ∧ r.2.mem ((c.tc : Thread Cert.EntryRefIdeal.nD Cert.EntryRefIdeal.τ).loc Cert.EntryRefIdeal.main_arg4) = m ((c.tc : Thread Cert.EntryRefIdeal.nD Cert.EntryRefIdeal.τ).loc Cert.EntryRefIdeal.main_arg4)
      ∧ r.2.mem ((c.tc : Thread Cert.EntryRefIdeal.nD Cert.EntryRefIdeal.τ).loc Cert.EntryRefIdeal.main_arg5) = m ((c.tc : Thread Cert.EntryRefIdeal.nD Cert.EntryRefIdeal.τ).loc Cert.EntryRefIdeal.main_arg5)
      ∧ r.2.mem ((c.tc : Thread Cert.EntryRefIdeal.nD Cert.EntryRefIdeal.τ).loc Cert.EntryRefIdeal.main_arg6) = m ((c.tc : Thread Cert.EntryRefIdeal.nD Cert.EntryRefIdeal.τ).loc Cert.EntryRefIdeal.main_arg6))
      ∧ r.2.sem = fun _ => 0)

def quiescent_States [hStates : Cert.States.Facts] : Prop :=
  ∀ (m : (ℓ : Loc Cert.States.nD Cert.States.τ Cert.States.sig) → Buf (Elt Bits) ℓ) (g : Dev Cert.States.nD → PrngReg), Pre_States m →
    θ_run (Cert.States.defs (F := Bits)) (onTc (τ := Cert.States.τ) (Cert.States.main (F := Bits))) ⟨m, fun _ => 0, g⟩ (fun r => (∀ c : Dev Cert.States.nD,
      r.2.mem ((c.tc : Thread Cert.States.nD Cert.States.τ).loc Cert.States.main_arg0) = m ((c.tc : Thread Cert.States.nD Cert.States.τ).loc Cert.States.main_arg0)
      ∧ r.2.mem ((c.tc : Thread Cert.States.nD Cert.States.τ).loc Cert.States.main_arg1) = m ((c.tc : Thread Cert.States.nD Cert.States.τ).loc Cert.States.main_arg1)
      ∧ r.2.mem ((c.tc : Thread Cert.States.nD Cert.States.τ).loc Cert.States.main_arg2) = m ((c.tc : Thread Cert.States.nD Cert.States.τ).loc Cert.States.main_arg2)
      ∧ r.2.mem ((c.tc : Thread Cert.States.nD Cert.States.τ).loc Cert.States.main_arg3) = m ((c.tc : Thread Cert.States.nD Cert.States.τ).loc Cert.States.main_arg3)
      ∧ r.2.mem ((c.tc : Thread Cert.States.nD Cert.States.τ).loc Cert.States.main_arg4) = m ((c.tc : Thread Cert.States.nD Cert.States.τ).loc Cert.States.main_arg4))
      ∧ r.2.sem = fun _ => 0)

def quiescent_StatesIdeal [hStatesIdeal : Cert.StatesIdeal.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
      ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
      ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4))
      ∧ r.2.sem = fun _ => 0)

def quiescent_StatesIdeal_pre_finite_states [hStatesIdeal : Cert.StatesIdeal.Facts] [hPre_finite_states : Cert.Pre_finite_states.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal_finite_states m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
      ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
      ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4))
      ∧ r.2.sem = fun _ => 0)

def quiescent_StatesRefIdeal [hStatesRefIdeal : Cert.StatesRefIdeal.Facts] : Prop :=
  ∀ (m : (ℓ : Loc Cert.StatesRefIdeal.nD Cert.StatesRefIdeal.τ Cert.StatesRefIdeal.sig) → Buf (Elt Ideal) ℓ) (g : Dev Cert.StatesRefIdeal.nD → PrngReg), Pre_StatesRefIdeal m →
    θ_run (Cert.StatesRefIdeal.defs (F := Ideal)) (onTc (τ := Cert.StatesRefIdeal.τ) (Cert.StatesRefIdeal.main (F := Ideal))) ⟨m, fun _ => 0, g⟩ (fun r => (∀ c : Dev Cert.StatesRefIdeal.nD,
      r.2.mem ((c.tc : Thread Cert.StatesRefIdeal.nD Cert.StatesRefIdeal.τ).loc Cert.StatesRefIdeal.main_arg0) = m ((c.tc : Thread Cert.StatesRefIdeal.nD Cert.StatesRefIdeal.τ).loc Cert.StatesRefIdeal.main_arg0)
      ∧ r.2.mem ((c.tc : Thread Cert.StatesRefIdeal.nD Cert.StatesRefIdeal.τ).loc Cert.StatesRefIdeal.main_arg1) = m ((c.tc : Thread Cert.StatesRefIdeal.nD Cert.StatesRefIdeal.τ).loc Cert.StatesRefIdeal.main_arg1)
      ∧ r.2.mem ((c.tc : Thread Cert.StatesRefIdeal.nD Cert.StatesRefIdeal.τ).loc Cert.StatesRefIdeal.main_arg2) = m ((c.tc : Thread Cert.StatesRefIdeal.nD Cert.StatesRefIdeal.τ).loc Cert.StatesRefIdeal.main_arg2)
      ∧ r.2.mem ((c.tc : Thread Cert.StatesRefIdeal.nD Cert.StatesRefIdeal.τ).loc Cert.StatesRefIdeal.main_arg3) = m ((c.tc : Thread Cert.StatesRefIdeal.nD Cert.StatesRefIdeal.τ).loc Cert.StatesRefIdeal.main_arg3)
      ∧ r.2.mem ((c.tc : Thread Cert.StatesRefIdeal.nD Cert.StatesRefIdeal.τ).loc Cert.StatesRefIdeal.main_arg4) = m ((c.tc : Thread Cert.StatesRefIdeal.nD Cert.StatesRefIdeal.τ).loc Cert.StatesRefIdeal.main_arg4))
      ∧ r.2.sem = fun _ => 0)

def quiescent_StatesRefIdeal_pre_finite_states [hStatesRefIdeal : Cert.StatesRefIdeal.Facts] [hPre_finite_states : Cert.Pre_finite_states.Facts] : Prop :=
  ∀ (m : (ℓ : Loc Cert.StatesRefIdeal.nD Cert.StatesRefIdeal.τ Cert.StatesRefIdeal.sig) → Buf (Elt Ideal) ℓ) (g : Dev Cert.StatesRefIdeal.nD → PrngReg), Pre_StatesRefIdeal_finite_states m →
    θ_run (Cert.StatesRefIdeal.defs (F := Ideal)) (onTc (τ := Cert.StatesRefIdeal.τ) (Cert.StatesRefIdeal.main (F := Ideal))) ⟨m, fun _ => 0, g⟩ (fun r => (∀ c : Dev Cert.StatesRefIdeal.nD,
      r.2.mem ((c.tc : Thread Cert.StatesRefIdeal.nD Cert.StatesRefIdeal.τ).loc Cert.StatesRefIdeal.main_arg0) = m ((c.tc : Thread Cert.StatesRefIdeal.nD Cert.StatesRefIdeal.τ).loc Cert.StatesRefIdeal.main_arg0)
      ∧ r.2.mem ((c.tc : Thread Cert.StatesRefIdeal.nD Cert.StatesRefIdeal.τ).loc Cert.StatesRefIdeal.main_arg1) = m ((c.tc : Thread Cert.StatesRefIdeal.nD Cert.StatesRefIdeal.τ).loc Cert.StatesRefIdeal.main_arg1)
      ∧ r.2.mem ((c.tc : Thread Cert.StatesRefIdeal.nD Cert.StatesRefIdeal.τ).loc Cert.StatesRefIdeal.main_arg2) = m ((c.tc : Thread Cert.StatesRefIdeal.nD Cert.StatesRefIdeal.τ).loc Cert.StatesRefIdeal.main_arg2)
      ∧ r.2.mem ((c.tc : Thread Cert.StatesRefIdeal.nD Cert.StatesRefIdeal.τ).loc Cert.StatesRefIdeal.main_arg3) = m ((c.tc : Thread Cert.StatesRefIdeal.nD Cert.StatesRefIdeal.τ).loc Cert.StatesRefIdeal.main_arg3)
      ∧ r.2.mem ((c.tc : Thread Cert.StatesRefIdeal.nD Cert.StatesRefIdeal.τ).loc Cert.StatesRefIdeal.main_arg4) = m ((c.tc : Thread Cert.StatesRefIdeal.nD Cert.StatesRefIdeal.τ).loc Cert.StatesRefIdeal.main_arg4))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1)
      ∧ r.2.mem ((c.tc : Thread Cert.Pack.nD Cert.Pack.τ).loc Cert.Pack.main_arg2) = m ((c.tc : Thread Cert.Pack.nD Cert.Pack.τ).loc Cert.Pack.main_arg2)
      ∧ r.2.mem ((c.tc : Thread Cert.Pack.nD Cert.Pack.τ).loc Cert.Pack.main_arg3) = m ((c.tc : Thread Cert.Pack.nD Cert.Pack.τ).loc Cert.Pack.main_arg3)
      ∧ r.2.mem ((c.tc : Thread Cert.Pack.nD Cert.Pack.τ).loc Cert.Pack.main_arg4) = m ((c.tc : Thread Cert.Pack.nD Cert.Pack.τ).loc Cert.Pack.main_arg4)
      ∧ r.2.mem ((c.tc : Thread Cert.Pack.nD Cert.Pack.τ).loc Cert.Pack.main_arg5) = m ((c.tc : Thread Cert.Pack.nD Cert.Pack.τ).loc Cert.Pack.main_arg5)
      ∧ r.2.mem ((c.tc : Thread Cert.Pack.nD Cert.Pack.τ).loc Cert.Pack.main_arg6) = m ((c.tc : Thread Cert.Pack.nD Cert.Pack.τ).loc Cert.Pack.main_arg6)
      ∧ r.2.mem ((c.tc : Thread Cert.Pack.nD Cert.Pack.τ).loc Cert.Pack.main_arg7) = m ((c.tc : Thread Cert.Pack.nD Cert.Pack.τ).loc Cert.Pack.main_arg7))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
      ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
      ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
      ∧ r.2.mem ((c.tc : Thread Cert.PackIdeal.nD Cert.PackIdeal.τ).loc Cert.PackIdeal.main_arg6) = m ((c.tc : Thread Cert.PackIdeal.nD Cert.PackIdeal.τ).loc Cert.PackIdeal.main_arg6)
      ∧ r.2.mem ((c.tc : Thread Cert.PackIdeal.nD Cert.PackIdeal.τ).loc Cert.PackIdeal.main_arg7) = m ((c.tc : Thread Cert.PackIdeal.nD Cert.PackIdeal.τ).loc Cert.PackIdeal.main_arg7))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3)
      ∧ r.2.mem ((c.tc : Thread Cert.PackRefIdeal.nD Cert.PackRefIdeal.τ).loc Cert.PackRefIdeal.main_arg4) = m ((c.tc : Thread Cert.PackRefIdeal.nD Cert.PackRefIdeal.τ).loc Cert.PackRefIdeal.main_arg4)
      ∧ r.2.mem ((c.tc : Thread Cert.PackRefIdeal.nD Cert.PackRefIdeal.τ).loc Cert.PackRefIdeal.main_arg5) = m ((c.tc : Thread Cert.PackRefIdeal.nD Cert.PackRefIdeal.τ).loc Cert.PackRefIdeal.main_arg5)
      ∧ r.2.mem ((c.tc : Thread Cert.PackRefIdeal.nD Cert.PackRefIdeal.τ).loc Cert.PackRefIdeal.main_arg6) = m ((c.tc : Thread Cert.PackRefIdeal.nD Cert.PackRefIdeal.τ).loc Cert.PackRefIdeal.main_arg6)
      ∧ r.2.mem ((c.tc : Thread Cert.PackRefIdeal.nD Cert.PackRefIdeal.τ).loc Cert.PackRefIdeal.main_arg7) = m ((c.tc : Thread Cert.PackRefIdeal.nD Cert.PackRefIdeal.τ).loc Cert.PackRefIdeal.main_arg7))
      ∧ r.2.sem = fun _ => 0)

def preserves_Kernel_KernelIdeal : Prop :=
  True

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)) (v4 : (c : Dev Cert.FfnIdeal.nD) → Buf (Elt Ideal) ((c.tc : Thread Cert.FfnIdeal.nD Cert.FfnIdeal.τ).loc Cert.FfnIdeal.main_v0_4)) (v5 : (c : Dev Cert.FfnIdeal.nD) → Buf (Elt Ideal) ((c.tc : Thread Cert.FfnIdeal.nD Cert.FfnIdeal.τ).loc Cert.FfnIdeal.main_v0_5)) (v6 : (c : Dev Cert.FfnIdeal.nD) → Buf (Elt Ideal) ((c.tc : Thread Cert.FfnIdeal.nD Cert.FfnIdeal.τ).loc Cert.FfnIdeal.main_v0_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_v0_4) = v4 c
          ∧ r.2.mem ((c.tc : Thread Cert.FfnIdeal.nD Cert.FfnIdeal.τ).loc Cert.FfnIdeal.main_v0_5) = v5 c
          ∧ r.2.mem ((c.tc : Thread Cert.FfnIdeal.nD Cert.FfnIdeal.τ).loc Cert.FfnIdeal.main_v0_6) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v126) = v0 c
          ∧ r.2.mem ((c.tc : Thread Cert.FfnRefIdeal.nD Cert.FfnRefIdeal.τ).loc Cert.FfnRefIdeal.main_v127) = v1 c
          ∧ r.2.mem ((c.tc : Thread Cert.FfnRefIdeal.nD Cert.FfnRefIdeal.τ).loc Cert.FfnRefIdeal.main_v128) = v2 c
          ∧ r.2.mem ((c.tc : Thread Cert.FfnRefIdeal.nD Cert.FfnRefIdeal.τ).loc Cert.FfnRefIdeal.main_v129) = v3 c
          ∧ r.2.mem ((c.tc : Thread Cert.FfnRefIdeal.nD Cert.FfnRefIdeal.τ).loc Cert.FfnRefIdeal.main_v130) = v4 c
          ∧ r.2.mem ((c.tc : Thread Cert.FfnRefIdeal.nD Cert.FfnRefIdeal.τ).loc Cert.FfnRefIdeal.main_v131) = v5 c
          ∧ r.2.mem ((c.tc : Thread Cert.FfnRefIdeal.nD Cert.FfnRefIdeal.τ).loc Cert.FfnRefIdeal.main_v132) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_WgradGate_WgradGateIdeal : Prop :=
  True

def algebraic_WgradGateIdeal_WgradGateRefIdeal [hWgradGateIdeal : Cert.WgradGateIdeal.Facts] [hWgradGateRefIdeal : Cert.WgradGateRefIdeal.Facts] : Prop :=
  ∀ (m : (ℓ : Loc Cert.WgradGateIdeal.nD Cert.WgradGateIdeal.τ Cert.WgradGateIdeal.sig) → Buf (Elt Ideal) ℓ) (g : Dev Cert.WgradGateIdeal.nD → PrngReg)
    (m' : (ℓ : Loc Cert.WgradGateRefIdeal.nD Cert.WgradGateRefIdeal.τ Cert.WgradGateRefIdeal.sig) → Buf (Elt Ideal) ℓ) (g' : Dev Cert.WgradGateRefIdeal.nD → PrngReg), Pre_WgradGateIdeal m →
    (∀ c : Dev Cert.WgradGateIdeal.nD,
      m' ((c.tc : Thread Cert.WgradGateRefIdeal.nD Cert.WgradGateRefIdeal.τ).loc Cert.WgradGateRefIdeal.main_arg0) = m ((c.tc : Thread Cert.WgradGateIdeal.nD Cert.WgradGateIdeal.τ).loc Cert.WgradGateIdeal.main_arg0)
      ∧ m' ((c.tc : Thread Cert.WgradGateRefIdeal.nD Cert.WgradGateRefIdeal.τ).loc Cert.WgradGateRefIdeal.main_arg1) = m ((c.tc : Thread Cert.WgradGateIdeal.nD Cert.WgradGateIdeal.τ).loc Cert.WgradGateIdeal.main_arg1)) →
    ∃ (v0 : (c : Dev Cert.WgradGateIdeal.nD) → Buf (Elt Ideal) ((c.tc : Thread Cert.WgradGateIdeal.nD Cert.WgradGateIdeal.τ).loc Cert.WgradGateIdeal.main_v0)),
      θ_run (Cert.WgradGateIdeal.defs (F := Ideal)) (onTc (τ := Cert.WgradGateIdeal.τ) (Cert.WgradGateIdeal.main (F := Ideal))) ⟨m, fun _ => 0, g⟩ (fun r => ∀ c : Dev Cert.WgradGateIdeal.nD,
          r.2.mem ((c.tc : Thread Cert.WgradGateIdeal.nD Cert.WgradGateIdeal.τ).loc Cert.WgradGateIdeal.main_v0) = v0 c
          ∧ r.2.mem ((c.tc : Thread Cert.WgradGateIdeal.nD Cert.WgradGateIdeal.τ).loc Cert.WgradGateIdeal.main_arg0) = m ((c.tc : Thread Cert.WgradGateIdeal.nD Cert.WgradGateIdeal.τ).loc Cert.WgradGateIdeal.main_arg0)
          ∧ r.2.mem ((c.tc : Thread Cert.WgradGateIdeal.nD Cert.WgradGateIdeal.τ).loc Cert.WgradGateIdeal.main_arg1) = m ((c.tc : Thread Cert.WgradGateIdeal.nD Cert.WgradGateIdeal.τ).loc Cert.WgradGateIdeal.main_arg1))
      ∧ θ_run (Cert.WgradGateRefIdeal.defs (F := Ideal)) (onTc (τ := Cert.WgradGateRefIdeal.τ) (Cert.WgradGateRefIdeal.main (F := Ideal))) ⟨m', fun _ => 0, g'⟩ (fun r => ∀ c : Dev Cert.WgradGateRefIdeal.nD,
          r.2.mem ((c.tc : Thread Cert.WgradGateRefIdeal.nD Cert.WgradGateRefIdeal.τ).loc Cert.WgradGateRefIdeal.main_v5) = v0 c
          ∧ r.2.mem ((c.tc : Thread Cert.WgradGateRefIdeal.nD Cert.WgradGateRefIdeal.τ).loc Cert.WgradGateRefIdeal.main_arg0) = m' ((c.tc : Thread Cert.WgradGateRefIdeal.nD Cert.WgradGateRefIdeal.τ).loc Cert.WgradGateRefIdeal.main_arg0)
          ∧ r.2.mem ((c.tc : Thread Cert.WgradGateRefIdeal.nD Cert.WgradGateRefIdeal.τ).loc Cert.WgradGateRefIdeal.main_arg1) = m' ((c.tc : Thread Cert.WgradGateRefIdeal.nD Cert.WgradGateRefIdeal.τ).loc Cert.WgradGateRefIdeal.main_arg1))

def preserves_WgradDown_WgradDownIdeal : Prop :=
  True

def algebraic_WgradDownIdeal_WgradDownRefIdeal [hWgradDownIdeal : Cert.WgradDownIdeal.Facts] [hWgradDownRefIdeal : Cert.WgradDownRefIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg), Pre_WgradDownIdeal m →
    (∀ c : Dev Cert.WgradDownIdeal.nD,
      m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)) →
    ∃ (v0 : (c : Dev Cert.WgradDownIdeal.nD) → Buf (Elt Ideal) ((c.tc : Thread Cert.WgradDownIdeal.nD Cert.WgradDownIdeal.τ).loc Cert.WgradDownIdeal.main_v0)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v0) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v5) = v0 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1))

def preserves_WgradOut_WgradOutIdeal : Prop :=
  True

def algebraic_WgradOutIdeal_WgradOutRefIdeal [hWgradOutIdeal : Cert.WgradOutIdeal.Facts] [hWgradOutRefIdeal : Cert.WgradOutRefIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg), Pre_WgradOutIdeal m →
    (∀ c : Dev Cert.WgradOutIdeal.nD,
      m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)) →
    ∃ (v0 : (c : Dev Cert.WgradOutIdeal.nD) → Buf (Elt Ideal) ((c.tc : Thread Cert.WgradOutIdeal.nD Cert.WgradOutIdeal.τ).loc Cert.WgradOutIdeal.main_v0)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v0) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v5) = v0 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1))

def preserves_WgradIn_WgradInIdeal : Prop :=
  True

def algebraic_WgradInIdeal_WgradInRefIdeal [hWgradInIdeal : Cert.WgradInIdeal.Facts] [hWgradInRefIdeal : Cert.WgradInRefIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInRefIdeal.nD Cert.WgradInRefIdeal.τ Cert.WgradInRefIdeal.sig) → Buf (Elt Ideal) ℓ) (g' : Dev Cert.WgradInRefIdeal.nD → PrngReg), Pre_WgradInIdeal m →
    (∀ c : Dev Cert.WgradInIdeal.nD,
      m' ((c.tc : Thread Cert.WgradInRefIdeal.nD Cert.WgradInRefIdeal.τ).loc Cert.WgradInRefIdeal.main_arg0) = m ((c.tc : Thread Cert.WgradInIdeal.nD Cert.WgradInIdeal.τ).loc Cert.WgradInIdeal.main_arg0)
      ∧ m' ((c.tc : Thread Cert.WgradInRefIdeal.nD Cert.WgradInRefIdeal.τ).loc Cert.WgradInRefIdeal.main_arg1) = m ((c.tc : Thread Cert.WgradInIdeal.nD Cert.WgradInIdeal.τ).loc Cert.WgradInIdeal.main_arg1)
      ∧ m' ((c.tc : Thread Cert.WgradInRefIdeal.nD Cert.WgradInRefIdeal.τ).loc Cert.WgradInRefIdeal.main_arg2) = m ((c.tc : Thread Cert.WgradInIdeal.nD Cert.WgradInIdeal.τ).loc Cert.WgradInIdeal.main_arg2)) →
    ∃ (v0 : (c : Dev Cert.WgradInIdeal.nD) → Buf (Elt Ideal) ((c.tc : Thread Cert.WgradInIdeal.nD Cert.WgradInIdeal.τ).loc Cert.WgradInIdeal.main_v0)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v0) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
          ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2))
      ∧ θ_run (Cert.WgradInRefIdeal.defs (F := Ideal)) (onTc (τ := Cert.WgradInRefIdeal.τ) (Cert.WgradInRefIdeal.main (F := Ideal))) ⟨m', fun _ => 0, g'⟩ (fun r => ∀ c : Dev Cert.WgradInRefIdeal.nD,
          r.2.mem ((c.tc : Thread Cert.WgradInRefIdeal.nD Cert.WgradInRefIdeal.τ).loc Cert.WgradInRefIdeal.main_v6) = v0 c
          ∧ r.2.mem ((c.tc : Thread Cert.WgradInRefIdeal.nD Cert.WgradInRefIdeal.τ).loc Cert.WgradInRefIdeal.main_arg0) = m' ((c.tc : Thread Cert.WgradInRefIdeal.nD Cert.WgradInRefIdeal.τ).loc Cert.WgradInRefIdeal.main_arg0)
          ∧ r.2.mem ((c.tc : Thread Cert.WgradInRefIdeal.nD Cert.WgradInRefIdeal.τ).loc Cert.WgradInRefIdeal.main_arg1) = m' ((c.tc : Thread Cert.WgradInRefIdeal.nD Cert.WgradInRefIdeal.τ).loc Cert.WgradInRefIdeal.main_arg1)
          ∧ r.2.mem ((c.tc : Thread Cert.WgradInRefIdeal.nD Cert.WgradInRefIdeal.τ).loc Cert.WgradInRefIdeal.main_arg2) = m' ((c.tc : Thread Cert.WgradInRefIdeal.nD Cert.WgradInRefIdeal.τ).loc Cert.WgradInRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg1) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg1) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v23) = v0 c
          ∧ r.2.mem ((c.tc : Thread Cert.AdamModRefIdeal.nD Cert.AdamModRefIdeal.τ).loc Cert.AdamModRefIdeal.main_v4) = v1 c
          ∧ r.2.mem ((c.tc : Thread Cert.AdamModRefIdeal.nD Cert.AdamModRefIdeal.τ).loc Cert.AdamModRefIdeal.main_v10) = v2 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_ModBwd_ModBwdIdeal : Prop :=
  True

def algebraic_ModBwdIdeal_ModBwdRefIdeal [hModBwdIdeal : Cert.ModBwdIdeal.Facts] [hModBwdRefIdeal : Cert.ModBwdRefIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdRefIdeal.nD Cert.ModBwdRefIdeal.τ Cert.ModBwdRefIdeal.sig) → Buf (Elt Ideal) ℓ) (g' : Dev Cert.ModBwdRefIdeal.nD → PrngReg), Pre_ModBwdIdeal m →
    (∀ c : Dev Cert.ModBwdIdeal.nD,
      m' ((c.tc : Thread Cert.ModBwdRefIdeal.nD Cert.ModBwdRefIdeal.τ).loc Cert.ModBwdRefIdeal.main_arg0) = m ((c.tc : Thread Cert.ModBwdIdeal.nD Cert.ModBwdIdeal.τ).loc Cert.ModBwdIdeal.main_arg0)
      ∧ m' ((c.tc : Thread Cert.ModBwdRefIdeal.nD Cert.ModBwdRefIdeal.τ).loc Cert.ModBwdRefIdeal.main_arg1) = m ((c.tc : Thread Cert.ModBwdIdeal.nD Cert.ModBwdIdeal.τ).loc Cert.ModBwdIdeal.main_arg1)
      ∧ m' ((c.tc : Thread Cert.ModBwdRefIdeal.nD Cert.ModBwdRefIdeal.τ).loc Cert.ModBwdRefIdeal.main_arg2) = m ((c.tc : Thread Cert.ModBwdIdeal.nD Cert.ModBwdIdeal.τ).loc Cert.ModBwdIdeal.main_arg2)) →
    ∃ (v0 : (c : Dev Cert.ModBwdIdeal.nD) → Buf (Elt Ideal) ((c.tc : Thread Cert.ModBwdIdeal.nD Cert.ModBwdIdeal.τ).loc Cert.ModBwdIdeal.main_v0_0)) (v1 : (c : Dev Cert.ModBwdIdeal.nD) → Buf (Elt Ideal) ((c.tc : Thread Cert.ModBwdIdeal.nD Cert.ModBwdIdeal.τ).loc Cert.ModBwdIdeal.main_v0_1)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v0_0) = v0 c
          ∧ r.2.mem ((c.tc : Thread Cert.ModBwdIdeal.nD Cert.ModBwdIdeal.τ).loc Cert.ModBwdIdeal.main_v0_1) = v1 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2))
      ∧ θ_run (Cert.ModBwdRefIdeal.defs (F := Ideal)) (onTc (τ := Cert.ModBwdRefIdeal.τ) (Cert.ModBwdRefIdeal.main (F := Ideal))) ⟨m', fun _ => 0, g'⟩ (fun r => ∀ c : Dev Cert.ModBwdRefIdeal.nD,
          r.2.mem ((c.tc : Thread Cert.ModBwdRefIdeal.nD Cert.ModBwdRefIdeal.τ).loc Cert.ModBwdRefIdeal.main_v3) = v0 c
          ∧ r.2.mem ((c.tc : Thread Cert.ModBwdRefIdeal.nD Cert.ModBwdRefIdeal.τ).loc Cert.ModBwdRefIdeal.main_v4) = v1 c
          ∧ r.2.mem ((c.tc : Thread Cert.ModBwdRefIdeal.nD Cert.ModBwdRefIdeal.τ).loc Cert.ModBwdRefIdeal.main_arg0) = m' ((c.tc : Thread Cert.ModBwdRefIdeal.nD Cert.ModBwdRefIdeal.τ).loc Cert.ModBwdRefIdeal.main_arg0)
          ∧ r.2.mem ((c.tc : Thread Cert.ModBwdRefIdeal.nD Cert.ModBwdRefIdeal.τ).loc Cert.ModBwdRefIdeal.main_arg1) = m' ((c.tc : Thread Cert.ModBwdRefIdeal.nD Cert.ModBwdRefIdeal.τ).loc Cert.ModBwdRefIdeal.main_arg1)
          ∧ r.2.mem ((c.tc : Thread Cert.ModBwdRefIdeal.nD Cert.ModBwdRefIdeal.τ).loc Cert.ModBwdRefIdeal.main_arg2) = m' ((c.tc : Thread Cert.ModBwdRefIdeal.nD Cert.ModBwdRefIdeal.τ).loc Cert.ModBwdRefIdeal.main_arg2))

def preserves_Totals_TotalsIdeal : Prop :=
  True

def algebraic_TotalsIdeal_TotalsRefIdeal [hTotalsIdeal : Cert.TotalsIdeal.Facts] [hTotalsRefIdeal : Cert.TotalsRefIdeal.Facts] : Prop :=
  ∀ (m : (ℓ : Loc Cert.TotalsIdeal.nD Cert.TotalsIdeal.τ Cert.TotalsIdeal.sig) → Buf (Elt Ideal) ℓ) (g : Dev Cert.TotalsIdeal.nD → PrngReg)
    (m' : (ℓ : Loc Cert.TotalsRefIdeal.nD Cert.TotalsRefIdeal.τ Cert.TotalsRefIdeal.sig) → Buf (Elt Ideal) ℓ) (g' : Dev Cert.TotalsRefIdeal.nD → PrngReg), Pre_TotalsIdeal m →
    (∀ c : Dev Cert.TotalsIdeal.nD,
      m' ((c.tc : Thread Cert.TotalsRefIdeal.nD Cert.TotalsRefIdeal.τ).loc Cert.TotalsRefIdeal.main_arg0) = m ((c.tc : Thread Cert.TotalsIdeal.nD Cert.TotalsIdeal.τ).loc Cert.TotalsIdeal.main_arg0)) →
    ∃ (v0 : (c : Dev Cert.TotalsIdeal.nD) → Buf (Elt Ideal) ((c.tc : Thread Cert.TotalsIdeal.nD Cert.TotalsIdeal.τ).loc Cert.TotalsIdeal.main_v0_0)) (v1 : (c : Dev Cert.TotalsIdeal.nD) → Buf (Elt Ideal) ((c.tc : Thread Cert.TotalsIdeal.nD Cert.TotalsIdeal.τ).loc Cert.TotalsIdeal.main_v0_1)) (v2 : (c : Dev Cert.TotalsIdeal.nD) → Buf (Elt Ideal) ((c.tc : Thread Cert.TotalsIdeal.nD Cert.TotalsIdeal.τ).loc Cert.TotalsIdeal.main_v0_2)),
      θ_run (Cert.TotalsIdeal.defs (F := Ideal)) (onTc (τ := Cert.TotalsIdeal.τ) (Cert.TotalsIdeal.main (F := Ideal))) ⟨m, fun _ => 0, g⟩ (fun r => ∀ c : Dev Cert.TotalsIdeal.nD,
          r.2.mem ((c.tc : Thread Cert.TotalsIdeal.nD Cert.TotalsIdeal.τ).loc Cert.TotalsIdeal.main_v0_0) = v0 c
          ∧ r.2.mem ((c.tc : Thread Cert.TotalsIdeal.nD Cert.TotalsIdeal.τ).loc Cert.TotalsIdeal.main_v0_1) = v1 c
          ∧ r.2.mem ((c.tc : Thread Cert.TotalsIdeal.nD Cert.TotalsIdeal.τ).loc Cert.TotalsIdeal.main_v0_2) = v2 c
          ∧ r.2.mem ((c.tc : Thread Cert.TotalsIdeal.nD Cert.TotalsIdeal.τ).loc Cert.TotalsIdeal.main_arg0) = m ((c.tc : Thread Cert.TotalsIdeal.nD Cert.TotalsIdeal.τ).loc Cert.TotalsIdeal.main_arg0))
      ∧ θ_run (Cert.TotalsRefIdeal.defs (F := Ideal)) (onTc (τ := Cert.TotalsRefIdeal.τ) (Cert.TotalsRefIdeal.main (F := Ideal))) ⟨m', fun _ => 0, g'⟩ (fun r => ∀ c : Dev Cert.TotalsRefIdeal.nD,
          r.2.mem ((c.tc : Thread Cert.TotalsRefIdeal.nD Cert.TotalsRefIdeal.τ).loc Cert.TotalsRefIdeal.main_v0) = v0 c
          ∧ r.2.mem ((c.tc : Thread Cert.TotalsRefIdeal.nD Cert.TotalsRefIdeal.τ).loc Cert.TotalsRefIdeal.main_v6) = v1 c
          ∧ r.2.mem ((c.tc : Thread Cert.TotalsRefIdeal.nD Cert.TotalsRefIdeal.τ).loc Cert.TotalsRefIdeal.main_v10) = v2 c
          ∧ r.2.mem ((c.tc : Thread Cert.TotalsRefIdeal.nD Cert.TotalsRefIdeal.τ).loc Cert.TotalsRefIdeal.main_arg0) = m' ((c.tc : Thread Cert.TotalsRefIdeal.nD Cert.TotalsRefIdeal.τ).loc Cert.TotalsRefIdeal.main_arg0))

def preserves_CtxGrad_CtxGradIdeal : Prop :=
  True

def algebraic_CtxGradIdeal_CtxGradRefIdeal_pre_finite_ctx [hCtxGradIdeal : Cert.CtxGradIdeal.Facts] [hCtxGradRefIdeal : Cert.CtxGradRefIdeal.Facts] [hPre_finite_ctx : Cert.Pre_finite_ctx.Facts] : Prop :=
  ∀ (m : (ℓ : Loc Cert.CtxGradIdeal.nD Cert.CtxGradIdeal.τ Cert.CtxGradIdeal.sig) → Buf (Elt Ideal) ℓ) (g : Dev Cert.CtxGradIdeal.nD → PrngReg)
    (m' : (ℓ : Loc Cert.CtxGradRefIdeal.nD Cert.CtxGradRefIdeal.τ Cert.CtxGradRefIdeal.sig) → Buf (Elt Ideal) ℓ) (g' : Dev Cert.CtxGradRefIdeal.nD → PrngReg), Pre_CtxGradIdeal_finite_ctx m →
    (∀ c : Dev Cert.CtxGradIdeal.nD,
      m' ((c.tc : Thread Cert.CtxGradRefIdeal.nD Cert.CtxGradRefIdeal.τ).loc Cert.CtxGradRefIdeal.main_arg0) = m ((c.tc : Thread Cert.CtxGradIdeal.nD Cert.CtxGradIdeal.τ).loc Cert.CtxGradIdeal.main_arg0)
      ∧ m' ((c.tc : Thread Cert.CtxGradRefIdeal.nD Cert.CtxGradRefIdeal.τ).loc Cert.CtxGradRefIdeal.main_arg1) = m ((c.tc : Thread Cert.CtxGradIdeal.nD Cert.CtxGradIdeal.τ).loc Cert.CtxGradIdeal.main_arg1)) →
    ∃ (v0 : (c : Dev Cert.CtxGradIdeal.nD) → Buf (Elt Ideal) ((c.tc : Thread Cert.CtxGradIdeal.nD Cert.CtxGradIdeal.τ).loc Cert.CtxGradIdeal.main_v0)),
      θ_run (Cert.CtxGradIdeal.defs (F := Ideal)) (onTc (τ := Cert.CtxGradIdeal.τ) (Cert.CtxGradIdeal.main (F := Ideal))) ⟨m, fun _ => 0, g⟩ (fun r => ∀ c : Dev Cert.CtxGradIdeal.nD,
          r.2.mem ((c.tc : Thread Cert.CtxGradIdeal.nD Cert.CtxGradIdeal.τ).loc Cert.CtxGradIdeal.main_v0) = v0 c
          ∧ r.2.mem ((c.tc : Thread Cert.CtxGradIdeal.nD Cert.CtxGradIdeal.τ).loc Cert.CtxGradIdeal.main_arg0) = m ((c.tc : Thread Cert.CtxGradIdeal.nD Cert.CtxGradIdeal.τ).loc Cert.CtxGradIdeal.main_arg0)
          ∧ r.2.mem ((c.tc : Thread Cert.CtxGradIdeal.nD Cert.CtxGradIdeal.τ).loc Cert.CtxGradIdeal.main_arg1) = m ((c.tc : Thread Cert.CtxGradIdeal.nD Cert.CtxGradIdeal.τ).loc Cert.CtxGradIdeal.main_arg1))
      ∧ θ_run (Cert.CtxGradRefIdeal.defs (F := Ideal)) (onTc (τ := Cert.CtxGradRefIdeal.τ) (Cert.CtxGradRefIdeal.main (F := Ideal))) ⟨m', fun _ => 0, g'⟩ (fun r => ∀ c : Dev Cert.CtxGradRefIdeal.nD,
          r.2.mem ((c.tc : Thread Cert.CtxGradRefIdeal.nD Cert.CtxGradRefIdeal.τ).loc Cert.CtxGradRefIdeal.main_v9) = v0 c
          ∧ r.2.mem ((c.tc : Thread Cert.CtxGradRefIdeal.nD Cert.CtxGradRefIdeal.τ).loc Cert.CtxGradRefIdeal.main_arg0) = m' ((c.tc : Thread Cert.CtxGradRefIdeal.nD Cert.CtxGradRefIdeal.τ).loc Cert.CtxGradRefIdeal.main_arg0)
          ∧ r.2.mem ((c.tc : Thread Cert.CtxGradRefIdeal.nD Cert.CtxGradRefIdeal.τ).loc Cert.CtxGradRefIdeal.main_arg1) = m' ((c.tc : Thread Cert.CtxGradRefIdeal.nD Cert.CtxGradRefIdeal.τ).loc Cert.CtxGradRefIdeal.main_arg1))

def preserves_Merge_MergeIdeal : Prop :=
  True

def algebraic_MergeIdeal_MergeRefIdeal_pre_finite_merge [hMergeIdeal : Cert.MergeIdeal.Facts] [hMergeRefIdeal : Cert.MergeRefIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_merge m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v64) = v0 c
          ∧ r.2.mem ((c.tc : Thread Cert.MergeRefIdeal.nD Cert.MergeRefIdeal.τ).loc Cert.MergeRefIdeal.main_v65) = v1 c
          ∧ r.2.mem ((c.tc : Thread Cert.MergeRefIdeal.nD Cert.MergeRefIdeal.τ).loc Cert.MergeRefIdeal.main_v66) = v2 c
          ∧ r.2.mem ((c.tc : Thread Cert.MergeRefIdeal.nD Cert.MergeRefIdeal.τ).loc Cert.MergeRefIdeal.main_v67) = v3 c
          ∧ r.2.mem ((c.tc : Thread Cert.MergeRefIdeal.nD Cert.MergeRefIdeal.τ).loc Cert.MergeRefIdeal.main_v60) = v4 c
          ∧ r.2.mem ((c.tc : Thread Cert.MergeRefIdeal.nD Cert.MergeRefIdeal.τ).loc Cert.MergeRefIdeal.main_v62) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)
      ∧ m' ((c.tc : Thread Cert.JoinRefIdeal.nD Cert.JoinRefIdeal.τ).loc Cert.JoinRefIdeal.main_arg5) = m ((c.tc : Thread Cert.JoinIdeal.nD Cert.JoinIdeal.τ).loc Cert.JoinIdeal.main_arg5)
      ∧ m' ((c.tc : Thread Cert.JoinRefIdeal.nD Cert.JoinRefIdeal.τ).loc Cert.JoinRefIdeal.main_arg6) = m ((c.tc : Thread Cert.JoinIdeal.nD Cert.JoinIdeal.τ).loc Cert.JoinIdeal.main_arg6)
      ∧ m' ((c.tc : Thread Cert.JoinRefIdeal.nD Cert.JoinRefIdeal.τ).loc Cert.JoinRefIdeal.main_arg7) = m ((c.tc : Thread Cert.JoinIdeal.nD Cert.JoinIdeal.τ).loc Cert.JoinIdeal.main_arg7)) →
    ∃ (v0 : (c : Dev Cert.JoinIdeal.nD) → Buf (Elt Ideal) ((c.tc : Thread Cert.JoinIdeal.nD Cert.JoinIdeal.τ).loc Cert.JoinIdeal.main_v0_0)) (v1 : (c : Dev Cert.JoinIdeal.nD) → Buf (Elt Ideal) ((c.tc : Thread Cert.JoinIdeal.nD Cert.JoinIdeal.τ).loc Cert.JoinIdeal.main_v0_1)) (v2 : (c : Dev Cert.JoinIdeal.nD) → Buf (Elt Ideal) ((c.tc : Thread Cert.JoinIdeal.nD Cert.JoinIdeal.τ).loc Cert.JoinIdeal.main_v0_2)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v0_0) = v0 c
          ∧ r.2.mem ((c.tc : Thread Cert.JoinIdeal.nD Cert.JoinIdeal.τ).loc Cert.JoinIdeal.main_v0_1) = v1 c
          ∧ r.2.mem ((c.tc : Thread Cert.JoinIdeal.nD Cert.JoinIdeal.τ).loc Cert.JoinIdeal.main_v0_2) = v2 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
          ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v31) = v0 c
          ∧ r.2.mem ((c.tc : Thread Cert.JoinRefIdeal.nD Cert.JoinRefIdeal.τ).loc Cert.JoinRefIdeal.main_v32) = v1 c
          ∧ r.2.mem ((c.tc : Thread Cert.JoinRefIdeal.nD Cert.JoinRefIdeal.τ).loc Cert.JoinRefIdeal.main_v22) = v2 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4)
          ∧ r.2.mem ((c.tc : Thread Cert.JoinRefIdeal.nD Cert.JoinRefIdeal.τ).loc Cert.JoinRefIdeal.main_arg5) = m' ((c.tc : Thread Cert.JoinRefIdeal.nD Cert.JoinRefIdeal.τ).loc Cert.JoinRefIdeal.main_arg5)
          ∧ r.2.mem ((c.tc : Thread Cert.JoinRefIdeal.nD Cert.JoinRefIdeal.τ).loc Cert.JoinRefIdeal.main_arg6) = m' ((c.tc : Thread Cert.JoinRefIdeal.nD Cert.JoinRefIdeal.τ).loc Cert.JoinRefIdeal.main_arg6)
          ∧ r.2.mem ((c.tc : Thread Cert.JoinRefIdeal.nD Cert.JoinRefIdeal.τ).loc Cert.JoinRefIdeal.main_arg7) = m' ((c.tc : Thread Cert.JoinRefIdeal.nD Cert.JoinRefIdeal.τ).loc Cert.JoinRefIdeal.main_arg7))

def preserves_Entry_EntryIdeal : Prop :=
  True

def algebraic_EntryIdeal_EntryRefIdeal [hEntryIdeal : Cert.EntryIdeal.Facts] [hEntryRefIdeal : Cert.EntryRefIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryRefIdeal.nD Cert.EntryRefIdeal.τ Cert.EntryRefIdeal.sig) → Buf (Elt Ideal) ℓ) (g' : Dev Cert.EntryRefIdeal.nD → PrngReg), Pre_EntryIdeal m →
    (∀ c : Dev Cert.EntryIdeal.nD,
      m' ((c.tc : Thread Cert.EntryRefIdeal.nD Cert.EntryRefIdeal.τ).loc Cert.EntryRefIdeal.main_arg0) = m ((c.tc : Thread Cert.EntryIdeal.nD Cert.EntryIdeal.τ).loc Cert.EntryIdeal.main_arg0)
      ∧ m' ((c.tc : Thread Cert.EntryRefIdeal.nD Cert.EntryRefIdeal.τ).loc Cert.EntryRefIdeal.main_arg1) = m ((c.tc : Thread Cert.EntryIdeal.nD Cert.EntryIdeal.τ).loc Cert.EntryIdeal.main_arg1)
      ∧ m' ((c.tc : Thread Cert.EntryRefIdeal.nD Cert.EntryRefIdeal.τ).loc Cert.EntryRefIdeal.main_arg2) = m ((c.tc : Thread Cert.EntryIdeal.nD Cert.EntryIdeal.τ).loc Cert.EntryIdeal.main_arg2)
      ∧ m' ((c.tc : Thread Cert.EntryRefIdeal.nD Cert.EntryRefIdeal.τ).loc Cert.EntryRefIdeal.main_arg3) = m ((c.tc : Thread Cert.EntryIdeal.nD Cert.EntryIdeal.τ).loc Cert.EntryIdeal.main_arg3)
      ∧ m' ((c.tc : Thread Cert.EntryRefIdeal.nD Cert.EntryRefIdeal.τ).loc Cert.EntryRefIdeal.main_arg4) = m ((c.tc : Thread Cert.EntryIdeal.nD Cert.EntryIdeal.τ).loc Cert.EntryIdeal.main_arg4)
      ∧ m' ((c.tc : Thread Cert.EntryRefIdeal.nD Cert.EntryRefIdeal.τ).loc Cert.EntryRefIdeal.main_arg5) = m ((c.tc : Thread Cert.EntryIdeal.nD Cert.EntryIdeal.τ).loc Cert.EntryIdeal.main_arg5)
      ∧ m' ((c.tc : Thread Cert.EntryRefIdeal.nD Cert.EntryRefIdeal.τ).loc Cert.EntryRefIdeal.main_arg6) = m ((c.tc : Thread Cert.EntryIdeal.nD Cert.EntryIdeal.τ).loc Cert.EntryIdeal.main_arg6)) →
    ∃ (v0 : (c : Dev Cert.EntryIdeal.nD) → Buf (Elt Ideal) ((c.tc : Thread Cert.EntryIdeal.nD Cert.EntryIdeal.τ).loc Cert.EntryIdeal.main_v0_0)) (v1 : (c : Dev Cert.EntryIdeal.nD) → Buf (Elt Ideal) ((c.tc : Thread Cert.EntryIdeal.nD Cert.EntryIdeal.τ).loc Cert.EntryIdeal.main_v0_1)) (v2 : (c : Dev Cert.EntryIdeal.nD) → Buf (Elt Ideal) ((c.tc : Thread Cert.EntryIdeal.nD Cert.EntryIdeal.τ).loc Cert.EntryIdeal.main_v0_2)) (v3 : (c : Dev Cert.EntryIdeal.nD) → Buf (Elt Ideal) ((c.tc : Thread Cert.EntryIdeal.nD Cert.EntryIdeal.τ).loc Cert.EntryIdeal.main_v0_3)) (v4 : (c : Dev Cert.EntryIdeal.nD) → Buf (Elt Ideal) ((c.tc : Thread Cert.EntryIdeal.nD Cert.EntryIdeal.τ).loc Cert.EntryIdeal.main_v0_4)) (v5 : (c : Dev Cert.EntryIdeal.nD) → Buf (Elt Ideal) ((c.tc : Thread Cert.EntryIdeal.nD Cert.EntryIdeal.τ).loc Cert.EntryIdeal.main_v0_5)) (v6 : (c : Dev Cert.EntryIdeal.nD) → Buf (Elt Ideal) ((c.tc : Thread Cert.EntryIdeal.nD Cert.EntryIdeal.τ).loc Cert.EntryIdeal.main_v0_6)) (v7 : (c : Dev Cert.EntryIdeal.nD) → Buf (Elt Ideal) ((c.tc : Thread Cert.EntryIdeal.nD Cert.EntryIdeal.τ).loc Cert.EntryIdeal.main_v0_7)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v0_0) = v0 c
          ∧ r.2.mem ((c.tc : Thread Cert.EntryIdeal.nD Cert.EntryIdeal.τ).loc Cert.EntryIdeal.main_v0_1) = v1 c
          ∧ r.2.mem ((c.tc : Thread Cert.EntryIdeal.nD Cert.EntryIdeal.τ).loc Cert.EntryIdeal.main_v0_2) = v2 c
          ∧ r.2.mem ((c.tc : Thread Cert.EntryIdeal.nD Cert.EntryIdeal.τ).loc Cert.EntryIdeal.main_v0_3) = v3 c
          ∧ r.2.mem ((c.tc : Thread Cert.EntryIdeal.nD Cert.EntryIdeal.τ).loc Cert.EntryIdeal.main_v0_4) = v4 c
          ∧ r.2.mem ((c.tc : Thread Cert.EntryIdeal.nD Cert.EntryIdeal.τ).loc Cert.EntryIdeal.main_v0_5) = v5 c
          ∧ r.2.mem ((c.tc : Thread Cert.EntryIdeal.nD Cert.EntryIdeal.τ).loc Cert.EntryIdeal.main_v0_6) = v6 c
          ∧ r.2.mem ((c.tc : Thread Cert.EntryIdeal.nD Cert.EntryIdeal.τ).loc Cert.EntryIdeal.main_v0_7) = v7 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
          ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3)
          ∧ r.2.mem ((c.tc : Thread Cert.EntryIdeal.nD Cert.EntryIdeal.τ).loc Cert.EntryIdeal.main_arg4) = m ((c.tc : Thread Cert.EntryIdeal.nD Cert.EntryIdeal.τ).loc Cert.EntryIdeal.main_arg4)
          ∧ r.2.mem ((c.tc : Thread Cert.EntryIdeal.nD Cert.EntryIdeal.τ).loc Cert.EntryIdeal.main_arg5) = m ((c.tc : Thread Cert.EntryIdeal.nD Cert.EntryIdeal.τ).loc Cert.EntryIdeal.main_arg5)
          ∧ r.2.mem ((c.tc : Thread Cert.EntryIdeal.nD Cert.EntryIdeal.τ).loc Cert.EntryIdeal.main_arg6) = m ((c.tc : Thread Cert.EntryIdeal.nD Cert.EntryIdeal.τ).loc Cert.EntryIdeal.main_arg6))
      ∧ θ_run (Cert.EntryRefIdeal.defs (F := Ideal)) (onTc (τ := Cert.EntryRefIdeal.τ) (Cert.EntryRefIdeal.main (F := Ideal))) ⟨m', fun _ => 0, g'⟩ (fun r => ∀ c : Dev Cert.EntryRefIdeal.nD,
          r.2.mem ((c.tc : Thread Cert.EntryRefIdeal.nD Cert.EntryRefIdeal.τ).loc Cert.EntryRefIdeal.main_v309) = v0 c
          ∧ r.2.mem ((c.tc : Thread Cert.EntryRefIdeal.nD Cert.EntryRefIdeal.τ).loc Cert.EntryRefIdeal.main_v279) = v1 c
          ∧ r.2.mem ((c.tc : Thread Cert.EntryRefIdeal.nD Cert.EntryRefIdeal.τ).loc Cert.EntryRefIdeal.main_v310) = v2 c
          ∧ r.2.mem ((c.tc : Thread Cert.EntryRefIdeal.nD Cert.EntryRefIdeal.τ).loc Cert.EntryRefIdeal.main_v311) = v3 c
          ∧ r.2.mem ((c.tc : Thread Cert.EntryRefIdeal.nD Cert.EntryRefIdeal.τ).loc Cert.EntryRefIdeal.main_v312) = v4 c
          ∧ r.2.mem ((c.tc : Thread Cert.EntryRefIdeal.nD Cert.EntryRefIdeal.τ).loc Cert.EntryRefIdeal.main_v313) = v5 c
          ∧ r.2.mem ((c.tc : Thread Cert.EntryRefIdeal.nD Cert.EntryRefIdeal.τ).loc Cert.EntryRefIdeal.main_v44) = v6 c
          ∧ r.2.mem ((c.tc : Thread Cert.EntryRefIdeal.nD Cert.EntryRefIdeal.τ).loc Cert.EntryRefIdeal.main_v36) = v7 c
          ∧ r.2.mem ((c.tc : Thread Cert.EntryRefIdeal.nD Cert.EntryRefIdeal.τ).loc Cert.EntryRefIdeal.main_arg0) = m' ((c.tc : Thread Cert.EntryRefIdeal.nD Cert.EntryRefIdeal.τ).loc Cert.EntryRefIdeal.main_arg0)
          ∧ r.2.mem ((c.tc : Thread Cert.EntryRefIdeal.nD Cert.EntryRefIdeal.τ).loc Cert.EntryRefIdeal.main_arg1) = m' ((c.tc : Thread Cert.EntryRefIdeal.nD Cert.EntryRefIdeal.τ).loc Cert.EntryRefIdeal.main_arg1)
          ∧ r.2.mem ((c.tc : Thread Cert.EntryRefIdeal.nD Cert.EntryRefIdeal.τ).loc Cert.EntryRefIdeal.main_arg2) = m' ((c.tc : Thread Cert.EntryRefIdeal.nD Cert.EntryRefIdeal.τ).loc Cert.EntryRefIdeal.main_arg2)
          ∧ r.2.mem ((c.tc : Thread Cert.EntryRefIdeal.nD Cert.EntryRefIdeal.τ).loc Cert.EntryRefIdeal.main_arg3) = m' ((c.tc : Thread Cert.EntryRefIdeal.nD Cert.EntryRefIdeal.τ).loc Cert.EntryRefIdeal.main_arg3)
          ∧ r.2.mem ((c.tc : Thread Cert.EntryRefIdeal.nD Cert.EntryRefIdeal.τ).loc Cert.EntryRefIdeal.main_arg4) = m' ((c.tc : Thread Cert.EntryRefIdeal.nD Cert.EntryRefIdeal.τ).loc Cert.EntryRefIdeal.main_arg4)
          ∧ r.2.mem ((c.tc : Thread Cert.EntryRefIdeal.nD Cert.EntryRefIdeal.τ).loc Cert.EntryRefIdeal.main_arg5) = m' ((c.tc : Thread Cert.EntryRefIdeal.nD Cert.EntryRefIdeal.τ).loc Cert.EntryRefIdeal.main_arg5)
          ∧ r.2.mem ((c.tc : Thread Cert.EntryRefIdeal.nD Cert.EntryRefIdeal.τ).loc Cert.EntryRefIdeal.main_arg6) = m' ((c.tc : Thread Cert.EntryRefIdeal.nD Cert.EntryRefIdeal.τ).loc Cert.EntryRefIdeal.main_arg6))

def preserves_States_StatesIdeal : Prop :=
  True

def algebraic_StatesIdeal_StatesRefIdeal_pre_finite_states [hStatesIdeal : Cert.StatesIdeal.Facts] [hStatesRefIdeal : Cert.StatesRefIdeal.Facts] [hPre_finite_states : Cert.Pre_finite_states.Facts] : Prop :=
  ∀ (m : (ℓ : Loc Cert.StatesIdeal.nD Cert.StatesIdeal.τ Cert.StatesIdeal.sig) → Buf (Elt Ideal) ℓ) (g : Dev Cert.StatesIdeal.nD → PrngReg)
    (m' : (ℓ : Loc Cert.StatesRefIdeal.nD Cert.StatesRefIdeal.τ Cert.StatesRefIdeal.sig) → Buf (Elt Ideal) ℓ) (g' : Dev Cert.StatesRefIdeal.nD → PrngReg), Pre_StatesIdeal_finite_states m →
    (∀ c : Dev Cert.StatesIdeal.nD,
      m' ((c.tc : Thread Cert.StatesRefIdeal.nD Cert.StatesRefIdeal.τ).loc Cert.StatesRefIdeal.main_arg0) = m ((c.tc : Thread Cert.StatesIdeal.nD Cert.StatesIdeal.τ).loc Cert.StatesIdeal.main_arg0)
      ∧ m' ((c.tc : Thread Cert.StatesRefIdeal.nD Cert.StatesRefIdeal.τ).loc Cert.StatesRefIdeal.main_arg1) = m ((c.tc : Thread Cert.StatesIdeal.nD Cert.StatesIdeal.τ).loc Cert.StatesIdeal.main_arg1)
      ∧ m' ((c.tc : Thread Cert.StatesRefIdeal.nD Cert.StatesRefIdeal.τ).loc Cert.StatesRefIdeal.main_arg2) = m ((c.tc : Thread Cert.StatesIdeal.nD Cert.StatesIdeal.τ).loc Cert.StatesIdeal.main_arg2)
      ∧ m' ((c.tc : Thread Cert.StatesRefIdeal.nD Cert.StatesRefIdeal.τ).loc Cert.StatesRefIdeal.main_arg3) = m ((c.tc : Thread Cert.StatesIdeal.nD Cert.StatesIdeal.τ).loc Cert.StatesIdeal.main_arg3)
      ∧ m' ((c.tc : Thread Cert.StatesRefIdeal.nD Cert.StatesRefIdeal.τ).loc Cert.StatesRefIdeal.main_arg4) = m ((c.tc : Thread Cert.StatesIdeal.nD Cert.StatesIdeal.τ).loc Cert.StatesIdeal.main_arg4)) →
    ∃ (v0 : (c : Dev Cert.StatesIdeal.nD) → Buf (Elt Ideal) ((c.tc : Thread Cert.StatesIdeal.nD Cert.StatesIdeal.τ).loc Cert.StatesIdeal.main_v0)),
      θ_run (Cert.StatesIdeal.defs (F := Ideal)) (onTc (τ := Cert.StatesIdeal.τ) (Cert.StatesIdeal.main (F := Ideal))) ⟨m, fun _ => 0, g⟩ (fun r => ∀ c : Dev Cert.StatesIdeal.nD,
          r.2.mem ((c.tc : Thread Cert.StatesIdeal.nD Cert.StatesIdeal.τ).loc Cert.StatesIdeal.main_v0) = v0 c
          ∧ r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
          ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
          ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
          ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
          ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4))
      ∧ θ_run (Cert.StatesRefIdeal.defs (F := Ideal)) (onTc (τ := Cert.StatesRefIdeal.τ) (Cert.StatesRefIdeal.main (F := Ideal))) ⟨m', fun _ => 0, g'⟩ (fun r => ∀ c : Dev Cert.StatesRefIdeal.nD,
          r.2.mem ((c.tc : Thread Cert.StatesRefIdeal.nD Cert.StatesRefIdeal.τ).loc Cert.StatesRefIdeal.main_v75) = v0 c
          ∧ r.2.mem ((c.tc : Thread Cert.StatesRefIdeal.nD Cert.StatesRefIdeal.τ).loc Cert.StatesRefIdeal.main_arg0) = m' ((c.tc : Thread Cert.StatesRefIdeal.nD Cert.StatesRefIdeal.τ).loc Cert.StatesRefIdeal.main_arg0)
          ∧ r.2.mem ((c.tc : Thread Cert.StatesRefIdeal.nD Cert.StatesRefIdeal.τ).loc Cert.StatesRefIdeal.main_arg1) = m' ((c.tc : Thread Cert.StatesRefIdeal.nD Cert.StatesRefIdeal.τ).loc Cert.StatesRefIdeal.main_arg1)
          ∧ r.2.mem ((c.tc : Thread Cert.StatesRefIdeal.nD Cert.StatesRefIdeal.τ).loc Cert.StatesRefIdeal.main_arg2) = m' ((c.tc : Thread Cert.StatesRefIdeal.nD Cert.StatesRefIdeal.τ).loc Cert.StatesRefIdeal.main_arg2)
          ∧ r.2.mem ((c.tc : Thread Cert.StatesRefIdeal.nD Cert.StatesRefIdeal.τ).loc Cert.StatesRefIdeal.main_arg3) = m' ((c.tc : Thread Cert.StatesRefIdeal.nD Cert.StatesRefIdeal.τ).loc Cert.StatesRefIdeal.main_arg3)
          ∧ r.2.mem ((c.tc : Thread Cert.StatesRefIdeal.nD Cert.StatesRefIdeal.τ).loc Cert.StatesRefIdeal.main_arg4) = m' ((c.tc : Thread Cert.StatesRefIdeal.nD Cert.StatesRefIdeal.τ).loc Cert.StatesRefIdeal.main_arg4))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)
      ∧ m' ((c.tc : Thread Cert.PackRefIdeal.nD Cert.PackRefIdeal.τ).loc Cert.PackRefIdeal.main_arg2) = m ((c.tc : Thread Cert.PackIdeal.nD Cert.PackIdeal.τ).loc Cert.PackIdeal.main_arg2)
      ∧ m' ((c.tc : Thread Cert.PackRefIdeal.nD Cert.PackRefIdeal.τ).loc Cert.PackRefIdeal.main_arg3) = m ((c.tc : Thread Cert.PackIdeal.nD Cert.PackIdeal.τ).loc Cert.PackIdeal.main_arg3)
      ∧ m' ((c.tc : Thread Cert.PackRefIdeal.nD Cert.PackRefIdeal.τ).loc Cert.PackRefIdeal.main_arg4) = m ((c.tc : Thread Cert.PackIdeal.nD Cert.PackIdeal.τ).loc Cert.PackIdeal.main_arg4)
      ∧ m' ((c.tc : Thread Cert.PackRefIdeal.nD Cert.PackRefIdeal.τ).loc Cert.PackRefIdeal.main_arg5) = m ((c.tc : Thread Cert.PackIdeal.nD Cert.PackIdeal.τ).loc Cert.PackIdeal.main_arg5)
      ∧ m' ((c.tc : Thread Cert.PackRefIdeal.nD Cert.PackRefIdeal.τ).loc Cert.PackRefIdeal.main_arg6) = m ((c.tc : Thread Cert.PackIdeal.nD Cert.PackIdeal.τ).loc Cert.PackIdeal.main_arg6)
      ∧ m' ((c.tc : Thread Cert.PackRefIdeal.nD Cert.PackRefIdeal.τ).loc Cert.PackRefIdeal.main_arg7) = m ((c.tc : Thread Cert.PackIdeal.nD Cert.PackIdeal.τ).loc Cert.PackIdeal.main_arg7)) →
    ∃ (v0 : (c : Dev Cert.PackIdeal.nD) → Buf (Elt Ideal) ((c.tc : Thread Cert.PackIdeal.nD Cert.PackIdeal.τ).loc Cert.PackIdeal.main_v0_0)) (v1 : (c : Dev Cert.PackIdeal.nD) → Buf (Elt Ideal) ((c.tc : Thread Cert.PackIdeal.nD Cert.PackIdeal.τ).loc Cert.PackIdeal.main_v0_1)) (v2 : (c : Dev Cert.PackIdeal.nD) → Buf (Elt Ideal) ((c.tc : Thread Cert.PackIdeal.nD Cert.PackIdeal.τ).loc Cert.PackIdeal.main_v0_2)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v0_0) = v0 c
          ∧ r.2.mem ((c.tc : Thread Cert.PackIdeal.nD Cert.PackIdeal.τ).loc Cert.PackIdeal.main_v0_1) = v1 c
          ∧ r.2.mem ((c.tc : Thread Cert.PackIdeal.nD Cert.PackIdeal.τ).loc Cert.PackIdeal.main_v0_2) = v2 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
          ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
          ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
          ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
          ∧ r.2.mem ((c.tc : Thread Cert.PackIdeal.nD Cert.PackIdeal.τ).loc Cert.PackIdeal.main_arg6) = m ((c.tc : Thread Cert.PackIdeal.nD Cert.PackIdeal.τ).loc Cert.PackIdeal.main_arg6)
          ∧ r.2.mem ((c.tc : Thread Cert.PackIdeal.nD Cert.PackIdeal.τ).loc Cert.PackIdeal.main_arg7) = m ((c.tc : Thread Cert.PackIdeal.nD Cert.PackIdeal.τ).loc Cert.PackIdeal.main_arg7))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v58) = v0 c
          ∧ r.2.mem ((c.tc : Thread Cert.PackRefIdeal.nD Cert.PackRefIdeal.τ).loc Cert.PackRefIdeal.main_arg5) = v1 c
          ∧ r.2.mem ((c.tc : Thread Cert.PackRefIdeal.nD Cert.PackRefIdeal.τ).loc Cert.PackRefIdeal.main_v60) = v2 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2)
          ∧ r.2.mem ((c.tc : Thread Cert.PackRefIdeal.nD Cert.PackRefIdeal.τ).loc Cert.PackRefIdeal.main_arg3) = m' ((c.tc : Thread Cert.PackRefIdeal.nD Cert.PackRefIdeal.τ).loc Cert.PackRefIdeal.main_arg3)
          ∧ r.2.mem ((c.tc : Thread Cert.PackRefIdeal.nD Cert.PackRefIdeal.τ).loc Cert.PackRefIdeal.main_arg4) = m' ((c.tc : Thread Cert.PackRefIdeal.nD Cert.PackRefIdeal.τ).loc Cert.PackRefIdeal.main_arg4)
          ∧ r.2.mem ((c.tc : Thread Cert.PackRefIdeal.nD Cert.PackRefIdeal.τ).loc Cert.PackRefIdeal.main_arg5) = m' ((c.tc : Thread Cert.PackRefIdeal.nD Cert.PackRefIdeal.τ).loc Cert.PackRefIdeal.main_arg5)
          ∧ r.2.mem ((c.tc : Thread Cert.PackRefIdeal.nD Cert.PackRefIdeal.τ).loc Cert.PackRefIdeal.main_arg6) = m' ((c.tc : Thread Cert.PackRefIdeal.nD Cert.PackRefIdeal.τ).loc Cert.PackRefIdeal.main_arg6)
          ∧ r.2.mem ((c.tc : Thread Cert.PackRefIdeal.nD Cert.PackRefIdeal.τ).loc Cert.PackRefIdeal.main_arg7) = m' ((c.tc : Thread Cert.PackRefIdeal.nD Cert.PackRefIdeal.τ).loc Cert.PackRefIdeal.main_arg7))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hWgradGate : Cert.WgradGate.Facts) (hWgradGateIdeal : Cert.WgradGateIdeal.Facts) (hWgradGateRefIdeal : Cert.WgradGateRefIdeal.Facts) (hWgradDown : Cert.WgradDown.Facts) (hWgradDownIdeal : Cert.WgradDownIdeal.Facts) (hWgradDownRefIdeal : Cert.WgradDownRefIdeal.Facts) (hWgradOut : Cert.WgradOut.Facts) (hWgradOutIdeal : Cert.WgradOutIdeal.Facts) (hWgradOutRefIdeal : Cert.WgradOutRefIdeal.Facts) (hWgradIn : Cert.WgradIn.Facts) (hWgradInIdeal : Cert.WgradInIdeal.Facts) (hWgradInRefIdeal : Cert.WgradInRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hAdamMod : Cert.AdamMod.Facts) (hAdamModIdeal : Cert.AdamModIdeal.Facts) (hAdamModRefIdeal : Cert.AdamModRefIdeal.Facts) (hAdamSmall : Cert.AdamSmall.Facts) (hAdamSmallIdeal : Cert.AdamSmallIdeal.Facts) (hAdamSmallRefIdeal : Cert.AdamSmallRefIdeal.Facts) (hModBwd : Cert.ModBwd.Facts) (hModBwdIdeal : Cert.ModBwdIdeal.Facts) (hModBwdRefIdeal : Cert.ModBwdRefIdeal.Facts) (hTotals : Cert.Totals.Facts) (hTotalsIdeal : Cert.TotalsIdeal.Facts) (hTotalsRefIdeal : Cert.TotalsRefIdeal.Facts) (hCtxGrad : Cert.CtxGrad.Facts) (hCtxGradIdeal : Cert.CtxGradIdeal.Facts) (hCtxGradRefIdeal : Cert.CtxGradRefIdeal.Facts) (hMerge : Cert.Merge.Facts) (hMergeIdeal : Cert.MergeIdeal.Facts) (hMergeRefIdeal : Cert.MergeRefIdeal.Facts) (hJoin : Cert.Join.Facts) (hJoinIdeal : Cert.JoinIdeal.Facts) (hJoinRefIdeal : Cert.JoinRefIdeal.Facts) (hEntry : Cert.Entry.Facts) (hEntryIdeal : Cert.EntryIdeal.Facts) (hEntryRefIdeal : Cert.EntryRefIdeal.Facts) (hStates : Cert.States.Facts) (hStatesIdeal : Cert.StatesIdeal.Facts) (hStatesRefIdeal : Cert.StatesRefIdeal.Facts) (hPack : Cert.Pack.Facts) (hPackIdeal : Cert.PackIdeal.Facts) (hPackRefIdeal : Cert.PackRefIdeal.Facts) (hPre_finite : Cert.Pre_finite.Facts) (hPre_finite_ctx : Cert.Pre_finite_ctx.Facts) (hPre_finite_merge : Cert.Pre_finite_merge.Facts) (hPre_finite_states : Cert.Pre_finite_states.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_WgradGate (hWgradGate := hWgradGate)
    ∧ quiescent_WgradGateIdeal (hWgradGateIdeal := hWgradGateIdeal)
    ∧ quiescent_WgradGateRefIdeal (hWgradGateRefIdeal := hWgradGateRefIdeal)
    ∧ quiescent_WgradDown (hWgradDown := hWgradDown)
    ∧ quiescent_WgradDownIdeal (hWgradDownIdeal := hWgradDownIdeal)
    ∧ quiescent_WgradDownRefIdeal (hWgradDownRefIdeal := hWgradDownRefIdeal)
    ∧ quiescent_WgradOut (hWgradOut := hWgradOut)
    ∧ quiescent_WgradOutIdeal (hWgradOutIdeal := hWgradOutIdeal)
    ∧ quiescent_WgradOutRefIdeal (hWgradOutRefIdeal := hWgradOutRefIdeal)
    ∧ quiescent_WgradIn (hWgradIn := hWgradIn)
    ∧ quiescent_WgradInIdeal (hWgradInIdeal := hWgradInIdeal)
    ∧ quiescent_WgradInRefIdeal (hWgradInRefIdeal := hWgradInRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_ModBwd (hModBwd := hModBwd)
    ∧ quiescent_ModBwdIdeal (hModBwdIdeal := hModBwdIdeal)
    ∧ quiescent_ModBwdRefIdeal (hModBwdRefIdeal := hModBwdRefIdeal)
    ∧ quiescent_Totals (hTotals := hTotals)
    ∧ quiescent_TotalsIdeal (hTotalsIdeal := hTotalsIdeal)
    ∧ quiescent_TotalsRefIdeal (hTotalsRefIdeal := hTotalsRefIdeal)
    ∧ quiescent_CtxGrad (hCtxGrad := hCtxGrad)
    ∧ quiescent_CtxGradIdeal (hCtxGradIdeal := hCtxGradIdeal)
    ∧ quiescent_CtxGradIdeal_pre_finite_ctx (hCtxGradIdeal := hCtxGradIdeal) (hPre_finite_ctx := hPre_finite_ctx)
    ∧ quiescent_CtxGradRefIdeal (hCtxGradRefIdeal := hCtxGradRefIdeal)
    ∧ quiescent_CtxGradRefIdeal_pre_finite_ctx (hCtxGradRefIdeal := hCtxGradRefIdeal) (hPre_finite_ctx := hPre_finite_ctx)
    ∧ quiescent_Merge (hMerge := hMerge)
    ∧ quiescent_MergeIdeal (hMergeIdeal := hMergeIdeal)
    ∧ quiescent_MergeIdeal_pre_finite_merge (hMergeIdeal := hMergeIdeal) (hPre_finite_merge := hPre_finite_merge)
    ∧ quiescent_MergeRefIdeal (hMergeRefIdeal := hMergeRefIdeal)
    ∧ quiescent_MergeRefIdeal_pre_finite_merge (hMergeRefIdeal := hMergeRefIdeal) (hPre_finite_merge := hPre_finite_merge)
    ∧ quiescent_Join (hJoin := hJoin)
    ∧ quiescent_JoinIdeal (hJoinIdeal := hJoinIdeal)
    ∧ quiescent_JoinRefIdeal (hJoinRefIdeal := hJoinRefIdeal)
    ∧ quiescent_Entry (hEntry := hEntry)
    ∧ quiescent_EntryIdeal (hEntryIdeal := hEntryIdeal)
    ∧ quiescent_EntryRefIdeal (hEntryRefIdeal := hEntryRefIdeal)
    ∧ quiescent_States (hStates := hStates)
    ∧ quiescent_StatesIdeal (hStatesIdeal := hStatesIdeal)
    ∧ quiescent_StatesIdeal_pre_finite_states (hStatesIdeal := hStatesIdeal) (hPre_finite_states := hPre_finite_states)
    ∧ quiescent_StatesRefIdeal (hStatesRefIdeal := hStatesRefIdeal)
    ∧ quiescent_StatesRefIdeal_pre_finite_states (hStatesRefIdeal := hStatesRefIdeal) (hPre_finite_states := hPre_finite_states)
    ∧ quiescent_Pack (hPack := hPack)
    ∧ quiescent_PackIdeal (hPackIdeal := hPackIdeal)
    ∧ quiescent_PackRefIdeal (hPackRefIdeal := hPackRefIdeal)
    ∧ preserves_Kernel_KernelIdeal
    ∧ preserves_Ffn_FfnIdeal
    ∧ algebraic_FfnIdeal_FfnRefIdeal_pre_finite (hFfnIdeal := hFfnIdeal) (hFfnRefIdeal := hFfnRefIdeal) (hPre_finite := hPre_finite)
    ∧ preserves_WgradGate_WgradGateIdeal
    ∧ algebraic_WgradGateIdeal_WgradGateRefIdeal (hWgradGateIdeal := hWgradGateIdeal) (hWgradGateRefIdeal := hWgradGateRefIdeal)
    ∧ preserves_WgradDown_WgradDownIdeal
    ∧ algebraic_WgradDownIdeal_WgradDownRefIdeal (hWgradDownIdeal := hWgradDownIdeal) (hWgradDownRefIdeal := hWgradDownRefIdeal)
    ∧ preserves_WgradOut_WgradOutIdeal
    ∧ algebraic_WgradOutIdeal_WgradOutRefIdeal (hWgradOutIdeal := hWgradOutIdeal) (hWgradOutRefIdeal := hWgradOutRefIdeal)
    ∧ preserves_WgradIn_WgradInIdeal
    ∧ algebraic_WgradInIdeal_WgradInRefIdeal (hWgradInIdeal := hWgradInIdeal) (hWgradInRefIdeal := hWgradInRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamMod_AdamModIdeal
    ∧ algebraic_AdamModIdeal_AdamModRefIdeal (hAdamModIdeal := hAdamModIdeal) (hAdamModRefIdeal := hAdamModRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_ModBwd_ModBwdIdeal
    ∧ algebraic_ModBwdIdeal_ModBwdRefIdeal (hModBwdIdeal := hModBwdIdeal) (hModBwdRefIdeal := hModBwdRefIdeal)
    ∧ preserves_Totals_TotalsIdeal
    ∧ algebraic_TotalsIdeal_TotalsRefIdeal (hTotalsIdeal := hTotalsIdeal) (hTotalsRefIdeal := hTotalsRefIdeal)
    ∧ preserves_CtxGrad_CtxGradIdeal
    ∧ algebraic_CtxGradIdeal_CtxGradRefIdeal_pre_finite_ctx (hCtxGradIdeal := hCtxGradIdeal) (hCtxGradRefIdeal := hCtxGradRefIdeal) (hPre_finite_ctx := hPre_finite_ctx)
    ∧ preserves_Merge_MergeIdeal
    ∧ algebraic_MergeIdeal_MergeRefIdeal_pre_finite_merge (hMergeIdeal := hMergeIdeal) (hMergeRefIdeal := hMergeRefIdeal) (hPre_finite_merge := hPre_finite_merge)
    ∧ preserves_Join_JoinIdeal
    ∧ algebraic_JoinIdeal_JoinRefIdeal (hJoinIdeal := hJoinIdeal) (hJoinRefIdeal := hJoinRefIdeal)
    ∧ preserves_Entry_EntryIdeal
    ∧ algebraic_EntryIdeal_EntryRefIdeal (hEntryIdeal := hEntryIdeal) (hEntryRefIdeal := hEntryRefIdeal)
    ∧ preserves_States_StatesIdeal
    ∧ algebraic_StatesIdeal_StatesRefIdeal_pre_finite_states (hStatesIdeal := hStatesIdeal) (hStatesRefIdeal := hStatesRefIdeal) (hPre_finite_states := hPre_finite_states)
    ∧ preserves_Pack_PackIdeal
    ∧ algebraic_PackIdeal_PackRefIdeal (hPackIdeal := hPackIdeal) (hPackRefIdeal := hPackRefIdeal)
-- ==== Pre_finite.lean ====
abbrev S16384x1024 : Shape := ⟨2, ![16384, 1024]⟩
abbrev S8x1024 : Shape := ⟨2, ![8, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S8x1024 : S_.BroadcastsInDim S8x1024 (![] : Fin 0 → Fin S8x1024.rank)
  bitsLt_bf16_f32 : FTy.bits .bf16 < FTy.bits .f32
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_v2 : IVec S16384x1024 1) (main_v5 : IVec S16384x1024 1) (main_v8 : IVec S8x1024 1) (main_v12 : IVec S1024x2816 1) (main_v16 : IVec S1024x2816 1) (main_v18 : FVec F S2816x1024 .f32) : IVec S16384x1024 1 × IVec S16384x1024 1 × IVec S8x1024 1 × IVec S1024x2816 1 × IVec S1024x2816 1 × IVec S2816x1024 1 :=
  let main_cst_4 : FVec F S_ .f32 := constant S_ .f32 0x7F800000#32
  let main_v19 : FVec F S2816x1024 .f32 := broadcastInDim S2816x1024 ![] bcast_S_S2816x1024 main_cst_4
  let main_v20 : IVec S2816x1024 1 := cmpf .olt main_v18 main_v19
  (main_v2, main_v5, main_v8, main_v12, main_v16, main_v20)

def fn {F : FTy → Type} [FloatOps F] (main_arg0 : FVec F S16384x1024 .f32) (main_arg1 : FVec F S16384x1024 .f32) (main_arg2 : FVec F S8x1024 .f32) (main_arg3 : FVec F S1024x2816 .bf16) (main_arg4 : FVec F S1024x2816 .bf16) (main_arg5 : FVec F S2816x1024 .bf16) : IVec S16384x1024 1 × IVec S16384x1024 1 × IVec S8x1024 1 × IVec S1024x2816 1 × IVec S1024x2816 1 × IVec S2816x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S8x1024 .f32 := Host.absf main_arg2
  let main_cst_1 : FVec F S_ .f32 := constant S_ .f32 0x7F800000#32
  let main_v7 : FVec F S8x1024 .f32 := broadcastInDim S8x1024 ![] bcast_S_S8x1024 main_cst_1
  let main_v8 : IVec S8x1024 1 := cmpf .olt main_v6 main_v7
  let main_v9 : FVec F S1024x2816 .f32 := (extf .f32 · bitsLt_bf16_f32) main_arg3
  let main_v10 : FVec F S1024x2816 .f32 := Host.absf main_v9
  let main_cst_2 : FVec F S_ .f32 := constant S_ .f32 0x7F800000#32
  let main_v11 : FVec F S1024x2816 .f32 := broadcastInDim S1024x2816 ![] bcast_S_S1024x2816 main_cst_2
  let main_v12 : IVec S1024x2816 1 := cmpf .olt main_v10 main_v11
  let main_v13 : FVec F S1024x2816 .f32 := (extf .f32 · bitsLt_bf16_f32) main_arg4
  let main_v14 : FVec F S1024x2816 .f32 := Host.absf main_v13
  let main_cst_3 : FVec F S_ .f32 := constant S_ .f32 0x7F800000#32
  let main_v15 : FVec F S1024x2816 .f32 := broadcastInDim S1024x2816 ![] bcast_S_S1024x2816 main_cst_3
  let main_v16 : IVec S1024x2816 1 := cmpf .olt main_v14 main_v15
  let main_v17 : FVec F S2816x1024 .f32 := (extf .f32 · bitsLt_bf16_f32) main_arg5
  let main_v18 : FVec F S2816x1024 .f32 := Host.absf main_v17
  fn_part1 (F := F) main_v2 main_v5 main_v8 main_v12 main_v16 main_v18
-- ==== Pre_finite_ctx.lean ====
abbrev S8x8x1024 : Shape := ⟨3, ![8, 8, 1024]⟩
abbrev S8x1024 : Shape := ⟨2, ![8, 1024]⟩
abbrev S_ : Shape := ⟨0, ![]⟩

class Facts : Prop where
  bcast_S_S8x8x1024 : S_.BroadcastsInDim S8x8x1024 (![] : Fin 0 → Fin S8x8x1024.rank)

variable [Facts]

def fn {F : FTy → Type} [FloatOps F] (main_arg0 : FVec F S8x8x1024 .f32) (main_arg1 : FVec F S8x1024 .f32) : IVec S8x8x1024 1 :=
  let main_v0 : FVec F S8x8x1024 .f32 := Host.absf main_arg0
  let main_cst : FVec F S_ .f32 := constant S_ .f32 0x7F800000#32
  let main_v1 : FVec F S8x8x1024 .f32 := broadcastInDim S8x8x1024 ![] bcast_S_S8x8x1024 main_cst
  let main_v2 : IVec S8x8x1024 1 := cmpf .olt main_v0 main_v1
  main_v2
-- ==== Pre_finite_merge.lean ====
abbrev S16384x1024 : Shape := ⟨2, ![16384, 1024]⟩
abbrev S16384x512 : Shape := ⟨2, ![16384, 512]⟩
abbrev S8x1024 : Shape := ⟨2, ![8, 1024]⟩
abbrev S1x512 : Shape := ⟨2, ![1, 512]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  bitsLt_bf16_f32 : FTy.bits .bf16 < FTy.bits .f32
  bcast_S_S16384x512 : S_.BroadcastsInDim S16384x512 (![] : Fin 0 → Fin S16384x512.rank)
  bcast_S_S8x1024 : S_.BroadcastsInDim S8x1024 (![] : Fin 0 → Fin S8x1024.rank)
  bcast_S_S1x512 : S_.BroadcastsInDim S1x512 (![] : Fin 0 → Fin S1x512.rank)
  bcast_S_S1024x1024 : S_.BroadcastsInDim S1024x1024 (![] : Fin 0 → Fin S1024x1024.rank)

variable [Facts]

def fn_part1 {F : FTy → Type} [FloatOps F] (main_arg5 : FVec F S8x1024 .f32) (main_arg6 : FVec F S1x512 .f32) (main_arg7 : FVec F S1024x1024 .bf16) (main_v2 : IVec S16384x1024 1) (main_v6 : IVec S16384x1024 1) (main_v10 : IVec S16384x512 1) (main_v14 : IVec S16384x512 1) (main_v18 : IVec S16384x512 1) : IVec S16384x1024 1 × IVec S16384x1024 1 × IVec S16384x512 1 × IVec S16384x512 1 × IVec S16384x512 1 × IVec S8x1024 1 × IVec S1x512 1 × IVec S1024x1024 1 :=
  let main_v19 : FVec F S8x1024 .f32 := Host.absf main_arg5
  let main_cst_4 : FVec F S_ .f32 := constant S_ .f32 0x7F800000#32
  let main_v20 : FVec F S8x1024 .f32 := broadcastInDim S8x1024 ![] bcast_S_S8x1024 main_cst_4
  let main_v21 : IVec S8x1024 1 := cmpf .olt main_v19 main_v20
  let main_v22 : FVec F S1x512 .f32 := Host.absf main_arg6
  let main_cst_5 : FVec F S_ .f32 := constant S_ .f32 0x7F800000#32
  let main_v23 : FVec F S1x512 .f32 := broadcastInDim S1x512 ![] bcast_S_S1x512 main_cst_5
  let main_v24 : IVec S1x512 1 := cmpf .olt main_v22 main_v23
  let main_v25 : FVec F S1024x1024 .f32 := (extf .f32 · bitsLt_bf16_f32) main_arg7
  let main_v26 : FVec F S1024x1024 .f32 := Host.absf main_v25
  let main_cst_6 : FVec F S_ .f32 := constant S_ .f32 0x7F800000#32
  let main_v27 : FVec F S1024x1024 .f32 := broadcastInDim S1024x1024 ![] bcast_S_S1024x1024 main_cst_6
  let main_v28 : IVec S1024x1024 1 := cmpf .olt main_v26 main_v27
  (main_v2, main_v6, main_v10, main_v14, main_v18, main_v21, main_v24, main_v28)

def fn {F : FTy → Type} [FloatOps F] (main_arg0 : FVec F S16384x1024 .f32) (main_arg1 : FVec F S16384x1024 .bf16) (main_arg2 : FVec F S16384x512 .bf16) (main_arg3 : FVec F S16384x512 .bf16) (main_arg4 : FVec F S16384x512 .bf16) (main_arg5 : FVec F S8x1024 .f32) (main_arg6 : FVec F S1x512 .f32) (main_arg7 : FVec F S1024x1024 .bf16) : IVec S16384x1024 1 × IVec S16384x1024 1 × IVec S16384x512 1 × IVec S16384x512 1 × IVec S16384x512 1 × IVec S8x1024 1 × IVec S1x512 1 × IVec S1024x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := (extf .f32 · bitsLt_bf16_f32) main_arg1
  let main_v4 : FVec F S16384x1024 .f32 := Host.absf main_v3
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_v7 : FVec F S16384x512 .f32 := (extf .f32 · bitsLt_bf16_f32) main_arg2
  let main_v8 : FVec F S16384x512 .f32 := Host.absf main_v7
  let main_cst_1 : FVec F S_ .f32 := constant S_ .f32 0x7F800000#32
  let main_v9 : FVec F S16384x512 .f32 := broadcastInDim S16384x512 ![] bcast_S_S16384x512 main_cst_1
  let main_v10 : IVec S16384x512 1 := cmpf .olt main_v8 main_v9
  let main_v11 : FVec F S16384x512 .f32 := (extf .f32 · bitsLt_bf16_f32) main_arg3
  let main_v12 : FVec F S16384x512 .f32 := Host.absf main_v11
  let main_cst_2 : FVec F S_ .f32 := constant S_ .f32 0x7F800000#32
  let main_v13 : FVec F S16384x512 .f32 := broadcastInDim S16384x512 ![] bcast_S_S16384x512 main_cst_2
  let main_v14 : IVec S16384x512 1 := cmpf .olt main_v12 main_v13
  let main_v15 : FVec F S16384x512 .f32 := (extf .f32 · bitsLt_bf16_f32) main_arg4
  let main_v16 : FVec F S16384x512 .f32 := Host.absf main_v15
  let main_cst_3 : FVec F S_ .f32 := constant S_ .f32 0x7F800000#32
  let main_v17 : FVec F S16384x512 .f32 := broadcastInDim S16384x512 ![] bcast_S_S16384x512 main_cst_3
  let main_v18 : IVec S16384x512 1 := cmpf .olt main_v16 main_v17
  fn_part1 (F := F) main_arg5 main_arg6 main_arg7 main_v2 main_v6 main_v10 main_v14 main_v18
-- ==== Pre_finite_states.lean ====
abbrev S256x1024 : Shape := ⟨2, ![256, 1024]⟩
abbrev S8x1024 : Shape := ⟨2, ![8, 1024]⟩
abbrev S1024x2688 : Shape := ⟨2, ![1024, 2688]⟩
abbrev S128x512 : Shape := ⟨2, ![128, 512]⟩
abbrev S1x512 : Shape := ⟨2, ![1, 512]⟩
abbrev S_ : Shape := ⟨0, ![]⟩

class Facts : Prop where
  bcast_S_S256x1024 : S_.BroadcastsInDim S256x1024 (![] : Fin 0 → Fin S256x1024.rank)
  bcast_S_S8x1024 : S_.BroadcastsInDim S8x1024 (![] : Fin 0 → Fin S8x1024.rank)
  bitsLt_bf16_f32 : FTy.bits .bf16 < FTy.bits .f32
  bcast_S_S1024x2688 : S_.BroadcastsInDim S1024x2688 (![] : Fin 0 → Fin S1024x2688.rank)
  bcast_S_S128x512 : S_.BroadcastsInDim S128x512 (![] : Fin 0 → Fin S128x512.rank)
  bcast_S_S1x512 : S_.BroadcastsInDim S1x512 (![] : Fin 0 → Fin S1x512.rank)

variable [Facts]

def fn {F : FTy → Type} [FloatOps F] (main_arg0 : FVec F S256x1024 .f32) (main_arg1 : FVec F S8x1024 .f32) (main_arg2 : FVec F S1024x2688 .bf16) (main_arg3 : FVec F S128x512 .bf16) (main_arg4 : FVec F S1x512 .f32) : IVec S256x1024 1 × IVec S8x1024 1 × IVec S1024x2688 1 × IVec S128x512 1 × IVec S1x512 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S8x1024 .f32 := Host.absf main_arg1
  let main_cst_0 : FVec F S_ .f32 := constant S_ .f32 0x7F800000#32
  let main_v4 : FVec F S8x1024 .f32 := broadcastInDim S8x1024 ![] bcast_S_S8x1024 main_cst_0
  let main_v5 : IVec S8x1024 1 := cmpf .olt main_v3 main_v4
  let main_v6 : FVec F S1024x2688 .f32 := (extf .f32 · bitsLt_bf16_f32) main_arg2
  let main_v7 : FVec F S1024x2688 .f32 := Host.absf main_v6
  let main_cst_1 : FVec F S_ .f32 := constant S_ .f32 0x7F800000#32
  let main_v8 : FVec F S1024x2688 .f32 := broadcastInDim S1024x2688 ![] bcast_S_S1024x2688 main_cst_1
  let main_v9 : IVec S1024x2688 1 := cmpf .olt main_v7 main_v8
  let main_v10 : FVec F S128x512 .f32 := (extf .f32 · bitsLt_bf16_f32) main_arg3
  let main_v11 : FVec F S128x512 .f32 := Host.absf main_v10
  let main_cst_2 : FVec F S_ .f32 := constant S_ .f32 0x7F800000#32
  let main_v12 : FVec F S128x512 .f32 := broadcastInDim S128x512 ![] bcast_S_S128x512 main_cst_2
  let main_v13 : IVec S128x512 1 := cmpf .olt main_v11 main_v12
  let main_v14 : FVec F S1x512 .f32 := Host.absf main_arg4
  let main_cst_3 : FVec F S_ .f32 := constant S_ .f32 0x7F800000#32
  let main_v15 : FVec F S1x512 .f32 := broadcastInDim S1x512 ![] bcast_S_S1x512 main_cst_3
  let main_v16 : IVec S1x512 1 := cmpf .olt main_v14 main_v15
  (main_v2, main_v5, main_v9, main_v13, main_v16)
-- ==== Kernel.lean ====
abbrev S16384x512 : Shape := ⟨2, ![16384, 512]⟩
abbrev S256x2x128x128 : Shape := ⟨4, ![256, 2, 128, 128]⟩
abbrev S16384x256 : Shape := ⟨2, ![16384, 256]⟩
abbrev S2x2x128x128 : Shape := ⟨4, ![2, 2, 128, 128]⟩
abbrev S512x512 : Shape := ⟨2, ![512, 512]⟩
abbrev S512x256 : Shape := ⟨2, ![512, 256]⟩
abbrev S8x2x128x128 : Shape := ⟨4, ![8, 2, 128, 128]⟩
abbrev S64x64 : Shape := ⟨2, ![64, 64]⟩
abbrev S64x512 : Shape := ⟨2, ![64, 512]⟩
abbrev S64x256 : Shape := ⟨2, ![64, 256]⟩
abbrev S1x256 : Shape := ⟨2, ![1, 256]⟩
abbrev S1x1x128x128 : Shape := ⟨4, ![1, 1, 128, 128]⟩
abbrev S128x128 : Shape := ⟨2, ![128, 128]⟩
abbrev S64x128 : Shape := ⟨2, ![64, 128]⟩
abbrev S128x64 : Shape := ⟨2, ![128, 64]⟩
abbrev S256x128 : Shape := ⟨2, ![256, 128]⟩
abbrev S128 : Shape := ⟨1, ![128]⟩
abbrev S1x128 : Shape := ⟨2, ![1, 128]⟩
abbrev S256 : Shape := ⟨1, ![256]⟩

abbrev nBuf : Space → Nat
  | .hbm => 13
  | .vmem => 34
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .f32⟩
  | .hbm, ⟨3, _⟩ => ⟨S16384x512, .bf16⟩
  | .hbm, ⟨4, _⟩ => ⟨S256x2x128x128, .f32⟩
  | .hbm, ⟨5, _⟩ => ⟨S256x2x128x128, .f32⟩
  | .hbm, ⟨6, _⟩ => ⟨S16384x512, .bf16⟩
  | .hbm, ⟨7, _⟩ => ⟨S16384x512, .bf16⟩
  | .hbm, ⟨8, _⟩ => ⟨S16384x256, .f32⟩
  | .hbm, ⟨9, _⟩ => ⟨S16384x512, .bf16⟩
  | .hbm, ⟨10, _⟩ => ⟨S16384x512, .bf16⟩
  | .hbm, ⟨11, _⟩ => ⟨S16384x256, .f32⟩
  | .hbm, ⟨12, _⟩ => ⟨S2x2x128x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x256, .f32⟩
  | .local _ .vmem, ⟨5, _⟩ => ⟨S512x256, .f32⟩
  | .local _ .vmem, ⟨6, _⟩ => ⟨S512x512, .bf16⟩
  | .local _ .vmem, ⟨7, _⟩ => ⟨S512x512, .bf16⟩
  | .local _ .vmem, ⟨8, _⟩ => ⟨S8x2x128x128, .f32⟩
  | .local _ .vmem, ⟨9, _⟩ => ⟨S8x2x128x128, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x256, .f32⟩
  | .local _ .vmem, ⟨15, _⟩ => ⟨S512x256, .f32⟩
  | .local _ .vmem, ⟨16, _⟩ => ⟨S512x512, .bf16⟩
  | .local _ .vmem, ⟨17, _⟩ => ⟨S512x512, .bf16⟩
  | .local _ .vmem, ⟨18, _⟩ => ⟨S8x2x128x128, .f32⟩
  | .local _ .vmem, ⟨19, _⟩ => ⟨S8x2x128x128, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x256, .f32⟩
  | .local _ .vmem, ⟨25, _⟩ => ⟨S512x256, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x256, .f32⟩
  | .local _ .vmem, ⟨31, _⟩ => ⟨S512x256, .f32⟩
  | .local _ .vmem, ⟨32, _⟩ => ⟨S2x2x128x128, .f32⟩
  | .local _ .vmem, ⟨33, _⟩ => ⟨S2x2x128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c7_i32 : BitVec 32 := 7#32
  let c0_i32_1 : BitVec 32 := 0#32
  let c1_i32 : BitVec 32 := 1#32
  let arg19 : BitVec 32 := Scf.iv c0_i32_1 c1_i32 k0_t1
  let v7 : BitVec 32 := Scalar.subi c7_i32 arg19
  let c64_i32 : BitVec 32 := 64#32
  let v8 : BitVec 32 := Scalar.muli v7 c64_i32
  v8
def k0_off1 (k0_t1 : Fin k0_t1_loop.trips) : Fin 2 → Nat :=
  let c7_i32 : BitVec 32 := 7#32
  let c0_i32_1 : BitVec 32 := 0#32
  let c1_i32 : BitVec 32 := 1#32
  let arg19 : BitVec 32 := Scf.iv c0_i32_1 c1_i32 k0_t1
  let v7 : BitVec 32 := Scalar.subi c7_i32 arg19
  let c64_i32 : BitVec 32 := 64#32
  let v8 : BitVec 32 := Scalar.muli v7 c64_i32
  let v9 : BitVec 32 := v8
  let v13 : Index := Scalar.indexCast v9
  let c0 : Index := 0#32
  ![v13.toNat, 0]
def k0_off2 (k0_t1 : Fin k0_t1_loop.trips) : Fin 2 → Nat :=
  let c7_i32 : BitVec 32 := 7#32
  let c0_i32_1 : BitVec 32 := 0#32
  let c1_i32 : BitVec 32 := 1#32
  let arg19 : BitVec 32 := Scf.iv c0_i32_1 c1_i32 k0_t1
  let v7 : BitVec 32 := Scalar.subi c7_i32 arg19
  let c64_i32 : BitVec 32 := 64#32
  let v8 : BitVec 32 := Scalar.muli v7 c64_i32
  let v9 : BitVec 32 := v8
  let v15 : Index := Scalar.indexCast v9
  let c0_4 : Index := 0#32
  ![v15.toNat, 0]
def k0_off3 (k0_t1 : Fin k0_t1_loop.trips) : Fin 4 → Nat :=
  let c7_i32 : BitVec 32 := 7#32
  let c0_i32_1 : BitVec 32 := 0#32
  let c1_i32 : BitVec 32 := 1#32
  let arg19 : BitVec 32 := Scf.iv c0_i32_1 c1_i32 k0_t1
  let v7 : BitVec 32 := Scalar.subi c7_i32 arg19
  let v55 : Index := Scalar.indexCast v7
  let c0_10 : Index := 0#32
  let c0_11 : Index := 0#32
  let c0_12 : Index := 0#32
  ![v55.toNat, 0, 0, 0]
def k0_off4 (k0_t1 : Fin k0_t1_loop.trips) : Fin 4 → Nat :=
  let c7_i32 : BitVec 32 := 7#32
  let c0_i32_1 : BitVec 32 := 0#32
  let c1_i32 : BitVec 32 := 1#32
  let arg19 : BitVec 32 := Scf.iv c0_i32_1 c1_i32 k0_t1
  let v7 : BitVec 32 := Scalar.subi c7_i32 arg19
  let v58 : Index := Scalar.indexCast v7
  let c1 : Index := 1#32
  let c0_13 : Index := 0#32
  let c0_14 : Index := 0#32
  ![v58.toNat, 1, 0, 0]
def k0_mult2 (k0_t1 : Fin k0_t1_loop.trips) : BitVec 32 :=
  let c0_i32_1 : BitVec 32 := 0#32
  let c1_i32 : BitVec 32 := 1#32
  let arg19 : BitVec 32 := Scf.iv c0_i32_1 c1_i32 k0_t1
  let c64_i32_23 : BitVec 32 := 64#32
  let v65 : BitVec 32 := Scalar.muli arg19 c64_i32_23
  v65
def k0_off5 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let c64_i32_23 : BitVec 32 := 64#32
  let v65 : BitVec 32 := Scalar.muli arg19 c64_i32_23
  let v66 : BitVec 32 := v65
  let v70 : Index := Scalar.indexCast v66
  let c0_24 : Index := 0#32
  ![v70.toNat, 0]
def k0_off6 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let c64_i32_23 : BitVec 32 := 64#32
  let v65 : BitVec 32 := Scalar.muli arg19 c64_i32_23
  let v66 : BitVec 32 := v65
  let v72 : Index := Scalar.indexCast v66
  let c0_25 : Index := 0#32
  ![v72.toNat, 0]
def k0_off7 (k0_t1 : Fin k0_t1_loop.trips) : Fin 4 → Nat :=
  let c0_i32_1 : BitVec 32 := 0#32
  let c1_i32 : BitVec 32 := 1#32
  let arg19 : BitVec 32 := Scf.iv c0_i32_1 c1_i32 k0_t1
  let v112 : Index := Scalar.indexCast arg19
  let c0_32 : Index := 0#32
  let c0_33 : Index := 0#32
  let c0_34 : Index := 0#32
  ![v112.toNat, 0, 0, 0]
def k0_off8 (k0_t1 : Fin k0_t1_loop.trips) : Fin 4 → Nat :=
  let c0_i32_1 : BitVec 32 := 0#32
  let c1_i32 : BitVec 32 := 1#32
  let arg19 : BitVec 32 := Scf.iv c0_i32_1 c1_i32 k0_t1
  let v115 : Index := Scalar.indexCast arg19
  let c1_35 : Index := 1#32
  let c0_36 : Index := 0#32
  let c0_37 : Index := 0#32
  ![v115.toNat, 1, 0, 0]
def k0_off9 (k0_t1 : Fin k0_t1_loop.trips) : Fin 2 → Nat :=
  let c7_i32 : BitVec 32 := 7#32
  let c0_i32_1 : BitVec 32 := 0#32
  let c1_i32 : BitVec 32 := 1#32
  let arg19 : BitVec 32 := Scf.iv c0_i32_1 c1_i32 k0_t1
  let v7 : BitVec 32 := Scalar.subi c7_i32 arg19
  let c64_i32 : BitVec 32 := 64#32
  let v8 : BitVec 32 := Scalar.muli v7 c64_i32
  let v9 : BitVec 32 := v8
  let v439 : Index := Scalar.indexCast v9
  let c0_146 : Index := 0#32
  ![v439.toNat, 0]
def k0_off10 (k0_t1 : Fin k0_t1_loop.trips) : Fin 2 → Nat :=
  let c7_i32 : BitVec 32 := 7#32
  let c0_i32_1 : BitVec 32 := 0#32
  let c1_i32 : BitVec 32 := 1#32
  let arg19 : BitVec 32 := Scf.iv c0_i32_1 c1_i32 k0_t1
  let v7 : BitVec 32 := Scalar.subi c7_i32 arg19
  let c64_i32 : BitVec 32 := 64#32
  let v8 : BitVec 32 := Scalar.muli v7 c64_i32
  let v9 : BitVec 32 := v8
  let v442 : Index := Scalar.indexCast v9
  let c128 : Index := 128#32
  ![v442.toNat, 128]
def k0_off11 (k0_t1 : Fin k0_t1_loop.trips) : Fin 2 → Nat :=
  let c7_i32 : BitVec 32 := 7#32
  let c0_i32_1 : BitVec 32 := 0#32
  let c1_i32 : BitVec 32 := 1#32
  let arg19 : BitVec 32 := Scf.iv c0_i32_1 c1_i32 k0_t1
  let v7 : BitVec 32 := Scalar.subi c7_i32 arg19
  let c64_i32 : BitVec 32 := 64#32
  let v8 : BitVec 32 := Scalar.muli v7 c64_i32
  let v9 : BitVec 32 := v8
  let v445 : Index := Scalar.indexCast v9
  let c256 : Index := 256#32
  ![v445.toNat, 256]
def k0_off12 (k0_t1 : Fin k0_t1_loop.trips) : Fin 2 → Nat :=
  let c7_i32 : BitVec 32 := 7#32
  let c0_i32_1 : BitVec 32 := 0#32
  let c1_i32 : BitVec 32 := 1#32
  let arg19 : BitVec 32 := Scf.iv c0_i32_1 c1_i32 k0_t1
  let v7 : BitVec 32 := Scalar.subi c7_i32 arg19
  let c64_i32 : BitVec 32 := 64#32
  let v8 : BitVec 32 := Scalar.muli v7 c64_i32
  let v9 : BitVec 32 := v8
  let v448 : Index := Scalar.indexCast v9
  let c384 : Index := 384#32
  ![v448.toNat, 384]
def k0_off13 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let c64_i32_23 : BitVec 32 := 64#32
  let v65 : BitVec 32 := Scalar.muli arg19 c64_i32_23
  let v66 : BitVec 32 := v65
  let v565 : Index := Scalar.indexCast v66
  let c0_172 : Index := 0#32
  ![v565.toNat, 0]
def k0_off14 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let c64_i32_23 : BitVec 32 := 64#32
  let v65 : BitVec 32 := Scalar.muli arg19 c64_i32_23
  let v66 : BitVec 32 := v65
  let v568 : Index := Scalar.indexCast v66
  let c128_173 : Index := 128#32
  ![v568.toNat, 128]
def k0_off15 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let c64_i32_23 : BitVec 32 := 64#32
  let v65 : BitVec 32 := Scalar.muli arg19 c64_i32_23
  let v66 : BitVec 32 := v65
  let v571 : Index := Scalar.indexCast v66
  let c256_174 : Index := 256#32
  ![v571.toNat, 256]
def k0_off16 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let c64_i32_23 : BitVec 32 := 64#32
  let v65 : BitVec 32 := Scalar.muli arg19 c64_i32_23
  let v66 : BitVec 32 := v65
  let v574 : Index := Scalar.indexCast v66
  let c384_175 : Index := 384#32
  ![v574.toNat, 384]
def k0_cond2 (i : grid0.Coords) : BitVec 1 :=
  let arg0 : BitVec 32 := BitVec.ofNat 32 (i 0).val
  let c31_i32 : BitVec 32 := 31#32
  let v4 : BitVec 1 := Scalar.cmpi .eq arg0 c31_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x2x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2x2x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Ffn.lean ====
abbrev S16384x1024 : Shape := ⟨2, ![16384, 1024]⟩
abbrev S8x1024 : Shape := ⟨2, ![8, 1024]⟩
abbrev S1024x2816 : Shape := ⟨2, ![1024, 2816]⟩
abbrev S2816x1024 : Shape := ⟨2, ![2816, 1024]⟩
abbrev S16384x2816 : Shape := ⟨2, ![16384, 2816]⟩
abbrev S48x1024 : Shape := ⟨2, ![48, 1024]⟩
abbrev S256x1024 : Shape := ⟨2, ![256, 1024]⟩
abbrev S256x2816 : Shape := ⟨2, ![256, 2816]⟩
abbrev S1x1024 : Shape := ⟨2, ![1, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 13
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S16384x1024, .f32⟩
  | .hbm, ⟨7, _⟩ => ⟨S16384x1024, .bf16⟩
  | .hbm, ⟨8, _⟩ => ⟨S16384x2816, .bf16⟩
  | .hbm, ⟨9, _⟩ => ⟨S16384x2816, .bf16⟩
  | .hbm, ⟨10, _⟩ => ⟨S16384x2816, .bf16⟩
  | .hbm, ⟨11, _⟩ => ⟨S16384x1024, .bf16⟩
  | .hbm, ⟨12, _⟩ => ⟨S48x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S48x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S48x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnRefIdeal.lean ====
abbrev S16384x1024 : Shape := ⟨2, ![16384, 1024]⟩
abbrev S8x1024 : Shape := ⟨2, ![8, 1024]⟩
abbrev S1024x2816 : Shape := ⟨2, ![1024, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S2048x8x1024 : Shape := ⟨3, ![2048, 8, 1024]⟩
abbrev S48x1024 : Shape := ⟨2, ![48, 1024]⟩

abbrev nBuf : Space → Nat
  | .hbm => 181
  | .vmem => 0
  | .smem => 0
  | _ => 0

abbrev hbmTy0_0 (i : Nat) : BufTy := match i % 128 with
  | 0 => ⟨S16384x1024, .f32⟩
  | 1 => ⟨S16384x1024, .f32⟩
  | 2 => ⟨S8x1024, .f32⟩
  | 3 => ⟨S1024x2816, .bf16⟩
  | 4 => ⟨S1024x2816, .bf16⟩
  | 5 => ⟨S2816x1024, .bf16⟩
  | 6 => ⟨S1024x2816, .f32⟩
  | 7 => ⟨S1024x2816, .f32⟩
  | 8 => ⟨S2816x1024, .f32⟩
  | 9 => ⟨S1x1024, .f32⟩
  | 10 => ⟨S1024, .f32⟩
  | 11 => ⟨S16384x1024, .f32⟩
  | 12 => ⟨S1x1024, .f32⟩
  | 13 => ⟨S1024, .f32⟩
  | 14 => ⟨S16384x1024, .f32⟩
  | 15 => ⟨S1x1024, .f32⟩
  | 16 => ⟨S1024, .f32⟩
  | 17 => ⟨S16384x1024, .f32⟩
  | 18 => ⟨S1x1024, .f32⟩
  | 19 => ⟨S1024, .f32⟩
  | 20 => ⟨S16384x1024, .f32⟩
  | 21 => ⟨S1x1024, .f32⟩
  | 22 => ⟨S1024, .f32⟩
  | 23 => ⟨S16384x1024, .f32⟩
  | 24 => ⟨S16384x1024, .f32⟩
  | 25 => ⟨S_, .f32⟩
  | 26 => ⟨S16384, .f32⟩
  | 27 => ⟨S16384x1, .f32⟩
  | 28 => ⟨S_, .f32⟩
  | 29 => ⟨S16384x1, .f32⟩
  | 30 => ⟨S16384x1, .f32⟩
  | 31 => ⟨S_, .f32⟩
  | 32 => ⟨S16384x1, .f32⟩
  | 33 => ⟨S16384x1, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1024, .f32⟩
  | 40 => ⟨S16384x1024, .f32⟩
  | 41 => ⟨S16384x1024, .f32⟩
  | 42 => ⟨S_, .f32⟩
  | 43 => ⟨S16384x1024, .f32⟩
  | 44 => ⟨S16384x1024, .f32⟩
  | 45 => ⟨S16384x1024, .f32⟩
  | 46 => ⟨S16384x1024, .f32⟩
  | 47 => ⟨S16384x2816, .f32⟩
  | 48 => ⟨S16384x2816, .f32⟩
  | 49 => ⟨S16384x2816, .f32⟩
  | 50 => ⟨S16384x2816, .f32⟩
  | 51 => ⟨S_, .f32⟩
  | 52 => ⟨S16384x2816, .f32⟩
  | 53 => ⟨S16384x2816, .f32⟩
  | 54 => ⟨S_, .f32⟩
  | 55 => ⟨S16384x2816, .f32⟩
  | 56 => ⟨S16384x2816, .f32⟩
  | 57 => ⟨S_, .f32⟩
  | 58 => ⟨S16384x2816, .f32⟩
  | 59 => ⟨S16384x2816, .f32⟩
  | 60 => ⟨S16384x2816, .f32⟩
  | 61 => ⟨S16384x2816, .f32⟩
  | 62 => ⟨S16384x2816, .f32⟩
  | 63 => ⟨S16384x1024, .f32⟩
  | 64 => ⟨S16384x1024, .f32⟩
  | 65 => ⟨S16384x1024, .f32⟩
  | 66 => ⟨S16384x1024, .f32⟩
  | 67 => ⟨S_, .f32⟩
  | 68 => ⟨S16384, .f32⟩
  | 69 => ⟨S16384x1, .f32⟩
  | 70 => ⟨S_, .f32⟩
  | 71 => ⟨S16384x1, .f32⟩
  | 72 => ⟨S16384x1, .f32⟩
  | 73 => ⟨S_, .f32⟩
  | 74 => ⟨S16384x1, .f32⟩
  | 75 => ⟨S16384x1, .f32⟩
  | 76 => ⟨S16384x1, .f32⟩
  | 77 => ⟨S16384x1, .f32⟩
  | 78 => ⟨S_, .f32⟩
  | 79 => ⟨S16384x1, .f32⟩
  | 80 => ⟨S16384x1, .f32⟩
  | 81 => ⟨S16384x1024, .f32⟩
  | 82 => ⟨S16384x1024, .f32⟩
  | 83 => ⟨S16384x1024, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S_, .f32⟩
  | 90 => ⟨S16384x1024, .f32⟩
  | 91 => ⟨S16384x1024, .f32⟩
  | 92 => ⟨S_, .f32⟩
  | 93 => ⟨S16384x1024, .f32⟩
  | 94 => ⟨S16384x1024, .f32⟩
  | 95 => ⟨S_, .f32⟩
  | 96 => ⟨S16384x1024, .f32⟩
  | 97 => ⟨S_, .f32⟩
  | 98 => ⟨S16384x1024, .f32⟩
  | 99 => ⟨S16384x1024, .f32⟩
  | 100 => ⟨S_, .f32⟩
  | 101 => ⟨S16384x1024, .f32⟩
  | 102 => ⟨S16384x1024, .f32⟩
  | 103 => ⟨S16384x1024, .f32⟩
  | 104 => ⟨S16384x1024, .f32⟩
  | 105 => ⟨S16384x1024, .f32⟩
  | 106 => ⟨S16384x1024, .f32⟩
  | 107 => ⟨S_, .f32⟩
  | 108 => ⟨S16384, .f32⟩
  | 109 => ⟨S16384x1, .f32⟩
  | 110 => ⟨S16384x1024, .f32⟩
  | 111 => ⟨S16384x1024, .f32⟩
  | 112 => ⟨S16384x1, .f32⟩
  | 113 => ⟨S_, .f32⟩
  | 114 => ⟨S16384x1, .f32⟩
  | 115 => ⟨S16384x1, .f32⟩
  | 116 => ⟨S_, .f32⟩
  | 117 => ⟨S16384, .f32⟩
  | 118 => ⟨S16384x1024, .f32⟩
  | 119 => ⟨S16384x1024, .f32⟩
  | 120 => ⟨S16384x1024, .f32⟩
  | 121 => ⟨S16384x1024, .f32⟩
  | 122 => ⟨S16384x1024, .f32⟩
  | 123 => ⟨S16384x1024, .f32⟩
  | 124 => ⟨S16384x1024, .f32⟩
  | 125 => ⟨S16384x2816, .f32⟩
  | 126 => ⟨S16384x2816, .f32⟩
  | 127 => ⟨S16384x2816, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S16384x2816, .f32⟩
  | 4 => ⟨S16384x1024, .f32⟩
  | 5 => ⟨S16384x1024, .f32⟩
  | 6 => ⟨S16384x1024, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S_, .f32⟩
  | 13 => ⟨S16384, .f32⟩
  | 14 => ⟨S16384x1, .f32⟩
  | 15 => ⟨S16384x1024, .f32⟩
  | 16 => ⟨S16384x1024, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384, .f32⟩
  | 23 => ⟨S16384x1024, .f32⟩
  | 24 => ⟨S16384x1024, .f32⟩
  | 25 => ⟨S16384x1024, .f32⟩
  | 26 => ⟨S16384x1024, .f32⟩
  | 27 => ⟨S16384x1024, .f32⟩
  | 28 => ⟨S2048x8x1024, .f32⟩
  | 29 => ⟨S_, .f32⟩
  | 30 => ⟨S8x1024, .f32⟩
  | 31 => ⟨S2048x8x1024, .f32⟩
  | 32 => ⟨S_, .f32⟩
  | 33 => ⟨S8x1024, .f32⟩
  | 34 => ⟨S2048x8x1024, .f32⟩
  | 35 => ⟨S_, .f32⟩
  | 36 => ⟨S8x1024, .f32⟩
  | 37 => ⟨S2048x8x1024, .f32⟩
  | 38 => ⟨S_, .f32⟩
  | 39 => ⟨S8x1024, .f32⟩
  | 40 => ⟨S2048x8x1024, .f32⟩
  | 41 => ⟨S_, .f32⟩
  | 42 => ⟨S8x1024, .f32⟩
  | 43 => ⟨S2048x8x1024, .f32⟩
  | 44 => ⟨S_, .f32⟩
  | 45 => ⟨S8x1024, .f32⟩
  | 46 => ⟨S16384x1024, .f32⟩
  | 47 => ⟨S16384x1024, .bf16⟩
  | 48 => ⟨S16384x2816, .bf16⟩
  | 49 => ⟨S16384x2816, .bf16⟩
  | 50 => ⟨S16384x2816, .bf16⟩
  | 51 => ⟨S16384x1024, .bf16⟩
  | 52 => ⟨S48x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v38_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v38_1 : Ref sig .tc := ⟨.hbm, 60, rfl⟩
abbrev main_v38_0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_8 : Ref sig .tc := ⟨.hbm, 86, rfl⟩
abbrev main_v59 : Ref sig .tc := ⟨.hbm, 87, rfl⟩
abbrev main_v60 : Ref sig .tc := ⟨.hbm, 88, rfl⟩
abbrev main_cst_9 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_17 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_18 : Ref sig .tc := ⟨.hbm, 146, rfl⟩
abbrev main_v106 : Ref sig .tc := ⟨.hbm, 147, rfl⟩
abbrev main_v107 : Ref sig .tc := ⟨.hbm, 148, rfl⟩
abbrev main_cst_19 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_20 : Ref sig .tc := ⟨.hbm, 157, rfl⟩
abbrev main_v115 : Ref sig .tc := ⟨.hbm, 158, rfl⟩
abbrev main_v116 : Ref sig .tc := ⟨.hbm, 159, rfl⟩
abbrev main_cst_21 : Ref sig .tc := ⟨.hbm, 160, rfl⟩
abbrev main_v117 : Ref sig .tc := ⟨.hbm, 161, rfl⟩
abbrev main_v118 : Ref sig .tc := ⟨.hbm, 162, rfl⟩
abbrev main_cst_22 : Ref sig .tc := ⟨.hbm, 163, rfl⟩
abbrev main_v119 : Ref sig .tc := ⟨.hbm, 164, rfl⟩
abbrev main_v120 : Ref sig .tc := ⟨.hbm, 165, rfl⟩
abbrev main_cst_23 : Ref sig .tc := ⟨.hbm, 166, rfl⟩
abbrev main_v121 : Ref sig .tc := ⟨.hbm, 167, rfl⟩
abbrev main_v122 : Ref sig .tc := ⟨.hbm, 168, rfl⟩
abbrev main_cst_24 : Ref sig .tc := ⟨.hbm, 169, rfl⟩
abbrev main_v123 : Ref sig .tc := ⟨.hbm, 170, rfl⟩
abbrev main_v124 : Ref sig .tc := ⟨.hbm, 171, rfl⟩
abbrev main_cst_25 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩

abbrev nD : Nat := 1
abbrev τ : Topo := Topo.v7x

variable {F : FTy → Type} [FloatOps F]
-- ==== WgradGate.lean ====
abbrev S16384x1024 : Shape := ⟨2, ![16384, 1024]⟩
abbrev S16384x2816 : Shape := ⟨2, ![16384, 2816]⟩
abbrev S1024x2816 : Shape := ⟨2, ![1024, 2816]⟩
abbrev S2048x512 : Shape := ⟨2, ![2048, 512]⟩
abbrev S2048x2816 : Shape := ⟨2, ![2048, 2816]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .local _ .vmem, ⟨0, _⟩ => ⟨S2048x512, .bf16⟩
  | .local _ .vmem, ⟨1, _⟩ => ⟨S2048x512, .bf16⟩
  | .local _ .vmem, ⟨2, _⟩ => ⟨S2048x2816, .bf16⟩
  | .local _ .vmem, ⟨3, _⟩ => ⟨S2048x2816, .bf16⟩
  | .local _ .vmem, ⟨4, _⟩ => ⟨S512x2816, .f32⟩
  | .local _ .vmem, ⟨5, _⟩ => ⟨S512x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradGateRefIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradDown.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradDownRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradOut.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradOutRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradIn.lean ====
abbrev S16384x1024 : Shape := ⟨2, ![16384, 1024]⟩
abbrev S16384x2688 : Shape := ⟨2, ![16384, 2688]⟩
abbrev S1024x2688 : Shape := ⟨2, ![1024, 2688]⟩
abbrev S2048x512 : Shape := ⟨2, ![2048, 512]⟩
abbrev S2048x2688 : Shape := ⟨2, ![2048, 2688]⟩
abbrev S512x2688 : Shape := ⟨2, ![512, 2688]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x2688, .bf16⟩
  | .hbm, ⟨2, _⟩ => ⟨S1024x2688, .f32⟩
  | .hbm, ⟨3, _⟩ => ⟨S1024x2688, .f32⟩
  | .local _ .vmem, ⟨0, _⟩ => ⟨S2048x512, .bf16⟩
  | .local _ .vmem, ⟨1, _⟩ => ⟨S2048x512, .bf16⟩
  | .local _ .vmem, ⟨2, _⟩ => ⟨S2048x2688, .bf16⟩
  | .local _ .vmem, ⟨3, _⟩ => ⟨S2048x2688, .bf16⟩
  | .local _ .vmem, ⟨4, _⟩ => ⟨S512x2688, .f32⟩
  | .local _ .vmem, ⟨5, _⟩ => ⟨S512x2688, .f32⟩
  | .local _ .vmem, ⟨6, _⟩ => ⟨S512x2688, .f32⟩
  | .local _ .vmem, ⟨7, _⟩ => ⟨S512x2688, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WgradInRefIdeal.lean ====
abbrev S16384x1024 : Shape := ⟨2, ![16384, 1024]⟩
abbrev S16384x2688 : Shape := ⟨2, ![16384, 2688]⟩
abbrev S1024x2688 : Shape := ⟨2, ![1024, 2688]⟩
abbrev S_ : Shape := ⟨0, ![]⟩
abbrev S2688x1024 : Shape := ⟨2, ![2688, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2688, .bf16⟩
  | .hbm, ⟨2, _⟩ => ⟨S1024x2688, .f32⟩
  | .hbm, ⟨3, _⟩ => ⟨S_, .f32⟩
  | .hbm, ⟨4, _⟩ => ⟨S1024x2688, .f32⟩
  | .hbm, ⟨5, _⟩ => ⟨S16384x1024, .f32⟩
  | .hbm, ⟨6, _⟩ => ⟨S16384x2688, .f32⟩
  | .hbm, ⟨7, _⟩ => ⟨S16384x2688, .f32⟩
  | .hbm, ⟨8, _⟩ => ⟨S2688x1024, .f32⟩
  | .hbm, ⟨9, _⟩ => ⟨S1024x2688, .f32⟩
  | .hbm, ⟨10, _⟩ => ⟨S1024x2688, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AdamIn.lean ====
abbrev S1024x672 : Shape := ⟨2, ![1024, 672]⟩
abbrev S512x672 : Shape := ⟨2, ![512, 672]⟩

abbrev nBuf : Space → Nat
  | .hbm => 8
  | .vmem => 16
  | .smem => 0
  | _ => 0

abbrev bufTy : (tb : Table) → Fin (tcTables nBuf tb) → BufTy
  | .hbm, ⟨0, _⟩ => ⟨S1024x672, .f32⟩
  | .hbm, ⟨1, _⟩ => ⟨S1024x672, .f32⟩
  | .hbm, ⟨2, _⟩ => ⟨S1024x672, .f32⟩
  | .hbm, ⟨3, _⟩ => ⟨S1024x672, .f32⟩
  | .hbm, ⟨4, _⟩ => ⟨S1024x672, .f32⟩
  | .hbm, ⟨5, _⟩ => ⟨S1024x672, .f32⟩
  | .hbm, ⟨6, _⟩ => ⟨S1024x672, .f32⟩
  | .hbm, ⟨7, _⟩ => ⟨S1024x672, .f32⟩
  | .local _ .vmem, ⟨0, _⟩ => ⟨S512x672, .f32⟩
  | .local _ .vmem, ⟨1, _⟩ => ⟨S512x672, .f32⟩
  | .local _ .vmem, ⟨2, _⟩ => ⟨S512x672, .f32⟩
  | .local _ .vmem, ⟨3, _⟩ => ⟨S512x672, .f32⟩
  | .local _ .vmem, ⟨4, _⟩ => ⟨S512x672, .f32⟩
  | .local _ .vmem, ⟨5, _⟩ => ⟨S512x672, .f32⟩
  | .local _ .vmem, ⟨6, _⟩ => ⟨S512x672, .f32⟩
  | .local _ .vmem, ⟨7, _⟩ => ⟨S512x672, .f32⟩
  | .local _ .vmem, ⟨8, _⟩ => ⟨S512x672, .f32⟩
  | .local _ .vmem, ⟨9, _⟩ => ⟨S512x672, .f32⟩
  | .local _ .vmem, ⟨10, _⟩ => ⟨S512x672, .f32⟩
  | .local _ .vmem, ⟨11, _⟩ => ⟨S512x672, .f32⟩
  | .local _ .vmem, ⟨12, _⟩ => ⟨S512x672, .f32⟩
  | .local _ .vmem, ⟨13, _⟩ => ⟨S512x672, .f32⟩
  | .local _ .vmem, ⟨14, _⟩ => ⟨S512x672, .f32⟩
  | .local _ .vmem, ⟨15, _⟩ => ⟨S512x672, .f32⟩
  | _, _ => ⟨S1024x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x672 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x672 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1024x672 : Shape := ⟨2, ![1024, 672]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x672, .f32⟩
  | .hbm, ⟨1, _⟩ => ⟨S1024x672, .f32⟩
  | .hbm, ⟨2, _⟩ => ⟨S1024x672, .f32⟩
  | .hbm, ⟨3, _⟩ => ⟨S1024x672, .f32⟩
  | .hbm, ⟨4, _⟩ => ⟨S_, .f32⟩
  | .hbm, ⟨5, _⟩ => ⟨S1024x672, .f32⟩
  | .hbm, ⟨6, _⟩ => ⟨S1024x672, .f32⟩
  | .hbm, ⟨7, _⟩ => ⟨S_, .f32⟩
  | .hbm, ⟨8, _⟩ => ⟨S1024x672, .f32⟩
  | .hbm, ⟨9, _⟩ => ⟨S1024x672, .f32⟩
  | .hbm, ⟨10, _⟩ => ⟨S1024x672, .f32⟩
  | .hbm, ⟨11, _⟩ => ⟨S_, .f32⟩
  | .hbm, ⟨12, _⟩ => ⟨S1024x672, .f32⟩
  | .hbm, ⟨13, _⟩ => ⟨S1024x672, .f32⟩
  | .hbm, ⟨14, _⟩ => ⟨S1024x672, .f32⟩
  | .hbm, ⟨15, _⟩ => ⟨S_, .f32⟩
  | .hbm, ⟨16, _⟩ => ⟨S1024x672, .f32⟩
  | .hbm, ⟨17, _⟩ => ⟨S1024x672, .f32⟩
  | .hbm, ⟨18, _⟩ => ⟨S1024x672, .f32⟩
  | .hbm, ⟨19, _⟩ => ⟨S_, .f32⟩
  | .hbm, ⟨20, _⟩ => ⟨S1024x672, .f32⟩
  | .hbm, ⟨21, _⟩ => ⟨S1024x672, .f32⟩
  | .hbm, ⟨22, _⟩ => ⟨S_, .f32⟩
  | .hbm, ⟨23, _⟩ => ⟨S1024x672, .f32⟩
  | .hbm, ⟨24, _⟩ => ⟨S1024x672, .f32⟩
  | .hbm, ⟨25, _⟩ => ⟨S1024x672, .f32⟩
  | .hbm, ⟨26, _⟩ => ⟨S_, .f32⟩
  | .hbm, ⟨27, _⟩ => ⟨S1024x672, .f32⟩
  | .hbm, ⟨28, _⟩ => ⟨S1024x672, .f32⟩
  | .hbm, ⟨29, _⟩ => ⟨S1024x672, .f32⟩
  | .hbm, ⟨30, _⟩ => ⟨S_, .f32⟩
  | .hbm, ⟨31, _⟩ => ⟨S1024x672, .f32⟩
  | .hbm, ⟨32, _⟩ => ⟨S1024x672, .f32⟩
  | .hbm, ⟨33, _⟩ => ⟨S1024x672, .f32⟩
  | .hbm, ⟨34, _⟩ => ⟨S_, .f32⟩
  | .hbm, ⟨35, _⟩ => ⟨S1024x672, .f32⟩
  | .hbm, ⟨36, _⟩ => ⟨S1024x672, .f32⟩
  | _, _ => ⟨S1024x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S1024x704 : Shape := ⟨2, ![1024, 704]⟩
abbrev S512x704 : Shape := ⟨2, ![512, 704]⟩

abbrev nBuf : Space → Nat
  | .hbm => 8
  | .vmem => 16
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateRefIdeal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMod.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S24x1024 : Shape := ⟨2, ![24, 1024]⟩

abbrev nBuf : Space → Nat
  | .hbm => 7
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S24x1024 : Shape := ⟨2, ![24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ModBwd.lean ====
abbrev S16x1024 : Shape := ⟨2, ![16, 1024]⟩
abbrev S16x1536 : Shape := ⟨2, ![16, 1536]⟩
abbrev S1024x1536 : Shape := ⟨2, ![1024, 1536]⟩

abbrev nBuf : Space → Nat
  | .hbm => 5
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .hbm, ⟨3, _⟩ => ⟨S1024x1536, .f32⟩
  | .hbm, ⟨4, _⟩ => ⟨S16x1024, .f32⟩
  | .local _ .vmem, ⟨0, _⟩ => ⟨S16x1024, .f32⟩
  | .local _ .vmem, ⟨1, _⟩ => ⟨S16x1536, .f32⟩
  | .local _ .vmem, ⟨2, _⟩ => ⟨S1024x1536, .f32⟩
  | .local _ .vmem, ⟨3, _⟩ => ⟨S1024x1536, .f32⟩
  | .local _ .vmem, ⟨4, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ModBwdRefIdeal.lean ====
abbrev S16x1024 : Shape := ⟨2, ![16, 1024]⟩
abbrev S16x1536 : Shape := ⟨2, ![16, 1536]⟩
abbrev S1024x1536 : Shape := ⟨2, ![1024, 1536]⟩
abbrev S_ : Shape := ⟨0, ![]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1536, .f32⟩
  | .hbm, ⟨13, _⟩ => ⟨S1536x1024, .f32⟩
  | .hbm, ⟨14, _⟩ => ⟨S1024x1536, .f32⟩
  | .hbm, ⟨15, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Totals.lean ====
abbrev S8x48x1024 : Shape := ⟨3, ![8, 48, 1024]⟩
abbrev S48x1024 : Shape := ⟨2, ![48, 1024]⟩
abbrev S8x1024 : Shape := ⟨2, ![8, 1024]⟩
abbrev S8x128 : Shape := ⟨2, ![8, 128]⟩
abbrev S1x48x1024 : Shape := ⟨3, ![1, 48, 1024]⟩
abbrev S6x1024 : Shape := ⟨2, ![6, 1024]⟩
abbrev S2x1024 : Shape := ⟨2, ![2, 1024]⟩
abbrev S1x1024 : Shape := ⟨2, ![1, 1024]⟩
abbrev S1 : Shape := ⟨1, ![1]⟩
abbrev S1x1 : Shape := ⟨2, ![1, 1]⟩

abbrev nBuf : Space → Nat
  | .hbm => 4
  | .vmem => 4
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .hbm, ⟨2, _⟩ => ⟨S8x1024, .f32⟩
  | .hbm, ⟨3, _⟩ => ⟨S8x128, .f32⟩
  | .local _ .vmem, ⟨0, _⟩ => ⟨S8x48x1024, .f32⟩
  | .local _ .vmem, ⟨1, _⟩ => ⟨S48x1024, .f32⟩
  | .local _ .vmem, ⟨2, _⟩ => ⟨S8x1024, .f32⟩
  | .local _ .vmem, ⟨3, _⟩ => ⟨S8x128, .f32⟩
  | _, _ => ⟨S8x48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== TotalsRefIdeal.lean ====
abbrev S8x48x1024 : Shape := ⟨3, ![8, 48, 1024]⟩
abbrev S_ : Shape := ⟨0, ![]⟩
abbrev S48x1024 : Shape := ⟨2, ![48, 1024]⟩
abbrev S2x1024 : Shape := ⟨2, ![2, 1024]⟩
abbrev S4x1024 : Shape := ⟨2, ![4, 1024]⟩
abbrev S8x1024 : Shape := ⟨2, ![8, 1024]⟩
abbrev S1x1024 : Shape := ⟨2, ![1, 1024]⟩
abbrev S1024 : Shape := ⟨1, ![1024]⟩
abbrev S8x128 : Shape := ⟨2, ![8, 128]⟩

abbrev nBuf : Space → Nat
  | .hbm => 15
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S_, .f32⟩
  | .hbm, ⟨2, _⟩ => ⟨S48x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S4x1024, .f32⟩
  | .hbm, ⟨7, _⟩ => ⟨S_, .f32⟩
  | .hbm, ⟨8, _⟩ => ⟨S2x1024, .f32⟩
  | .hbm, ⟨9, _⟩ => ⟨S8x1024, .f32⟩
  | .hbm, ⟨10, _⟩ => ⟨S1x1024, .f32⟩
  | .hbm, ⟨11, _⟩ => ⟨S1024, .f32⟩
  | .hbm, ⟨12, _⟩ => ⟨S_, .f32⟩
  | .hbm, ⟨13, _⟩ => ⟨S_, .f32⟩
  | .hbm, ⟨14, _⟩ => ⟨S8x128, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== CtxGrad.lean ====
abbrev S8x8x1024 : Shape := ⟨3, ![8, 8, 1024]⟩
abbrev S8x1024 : Shape := ⟨2, ![8, 1024]⟩
abbrev S1x1x1024 : Shape := ⟨3, ![1, 1, 1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CtxGradRefIdeal.lean ====
abbrev S8x8x1024 : Shape := ⟨3, ![8, 8, 1024]⟩
abbrev S8x1024 : Shape := ⟨2, ![8, 1024]⟩
abbrev S4x2x8x1024 : Shape := ⟨4, ![4, 2, 8, 1024]⟩
abbrev S4x1x1x1024 : Shape := ⟨4, ![4, 1, 1, 1024]⟩
abbrev S4x1024 : Shape := ⟨2, ![4, 1024]⟩
abbrev S_ : Shape := ⟨0, ![]⟩
abbrev S1024 : Shape := ⟨1, ![1024]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S4x2x8x1024, .f32⟩
  | .hbm, ⟨3, _⟩ => ⟨S4x1x1x1024, .f32⟩
  | .hbm, ⟨4, _⟩ => ⟨S4x1024, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S_, .i32⟩
  | .hbm, ⟨28, _⟩ => ⟨S_, .f32⟩
  | .hbm, ⟨29, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_call2_v0 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S8x1024 : Shape := ⟨2, ![8, 1024]⟩
abbrev S1x512 : Shape := ⟨2, ![1, 512]⟩
abbrev S1024x1024 : Shape := ⟨2, ![1024, 1024]⟩
abbrev S8x512 : Shape := ⟨2, ![8, 512]⟩
abbrev S1024x512 : Shape := ⟨2, ![1024, 512]⟩
abbrev S128x8x1024 : Shape := ⟨3, ![128, 8, 1024]⟩
abbrev S1x1024 : Shape := ⟨2, ![1, 1024]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩
abbrev S8x128 : Shape := ⟨2, ![8, 128]⟩
abbrev S128x8x128 : Shape := ⟨3, ![128, 8, 128]⟩

abbrev nBuf : Space → Nat
  | .hbm => 14
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S8x1024, .f32⟩
  | .hbm, ⟨6, _⟩ => ⟨S1x512, .f32⟩
  | .hbm, ⟨7, _⟩ => ⟨S1024x1024, .bf16⟩
  | .hbm, ⟨8, _⟩ => ⟨S16384x1024, .bf16⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S8x1024, .f32⟩
  | .hbm, ⟨13, _⟩ => ⟨S8x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S8x1024, .f32⟩
  | .local _ .vmem, ⟨11, _⟩ => ⟨S1x512, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S8x1024, .f32⟩
  | .local _ .vmem, ⟨22, _⟩ => ⟨S8x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MergeRefIdeal.lean ====
abbrev S16384x1024 : Shape := ⟨2, ![16384, 1024]⟩
abbrev S16384x512 : Shape := ⟨2, ![16384, 512]⟩
abbrev S8x1024 : Shape := ⟨2, ![8, 1024]⟩
abbrev S1x512 : Shape := ⟨2, ![1, 512]⟩
abbrev S1024x1024 : Shape := ⟨2, ![1024, 1024]⟩
abbrev S1x1024 : Shape := ⟨2, ![1, 1024]⟩
abbrev S1024 : Shape := ⟨1, ![1024]⟩
abbrev S512 : Shape := ⟨1, ![512]⟩
abbrev S_ : Shape := ⟨0, ![]⟩
abbrev S16384x4x128 : Shape := ⟨3, ![16384, 4, 128]⟩
abbrev S16384x4 : Shape := ⟨2, ![16384, 4]⟩
abbrev S16384x4x1 : Shape := ⟨3, ![16384, 4, 1]⟩
abbrev S2048x8x1024 : Shape := ⟨3, ![2048, 8, 1024]⟩
abbrev S2048x8x512 : Shape := ⟨3, ![2048, 8, 512]⟩
abbrev S8x512 : Shape := ⟨2, ![8, 512]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S8x1024, .f32⟩
  | .hbm, ⟨6, _⟩ => ⟨S1x512, .f32⟩
  | .hbm, ⟨7, _⟩ => ⟨S1024x1024, .bf16⟩
  | .hbm, ⟨8, _⟩ => ⟨S16384x1024, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S1024x1024, .f32⟩
  | .hbm, ⟨14, _⟩ => ⟨S1x1024, .f32⟩
  | .hbm, ⟨15, _⟩ => ⟨S1024, .f32⟩
  | .hbm, ⟨16, _⟩ => ⟨S16384x1024, .f32⟩
  | .hbm, ⟨17, _⟩ => ⟨S512, .f32⟩
  | .hbm, ⟨18, _⟩ => ⟨S16384x512, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x4x128, .f32⟩
  | .hbm, ⟨27, _⟩ => ⟨S16384x4x128, .f32⟩
  | .hbm, ⟨28, _⟩ => ⟨S16384x4x128, .f32⟩
  | .hbm, ⟨29, _⟩ => ⟨S_, .f32⟩
  | .hbm, ⟨30, _⟩ => ⟨S16384x4, .f32⟩
  | .hbm, ⟨31, _⟩ => ⟨S16384x4x1, .f32⟩
  | .hbm, ⟨32, _⟩ => ⟨S_, .f32⟩
  | .hbm, ⟨33, _⟩ => ⟨S16384x4x1, .f32⟩
  | .hbm, ⟨34, _⟩ => ⟨S16384x4x1, .f32⟩
  | .hbm, ⟨35, _⟩ => ⟨S_, .f32⟩
  | .hbm, ⟨36, _⟩ => ⟨S16384x4x1, .f32⟩
  | .hbm, ⟨37, _⟩ => ⟨S16384x4x1, .f32⟩
  | .hbm, ⟨38, _⟩ => ⟨S16384x4x1, .f32⟩
  | .hbm, ⟨39, _⟩ => ⟨S16384x4x1, .f32⟩
  | .hbm, ⟨40, _⟩ => ⟨S_, .f32⟩
  | .hbm, ⟨41, _⟩ => ⟨S16384x4x1, .f32⟩
  | .hbm, ⟨42, _⟩ => ⟨S16384x4x1, .f32⟩
  | .hbm, ⟨43, _⟩ => ⟨S16384x4x128, .f32⟩
  | .hbm, ⟨44, _⟩ => ⟨S16384x4x128, .f32⟩
  | .hbm, ⟨45, _⟩ => ⟨S16384x4x128, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S_, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S16384x4x128, .f32⟩
  | .hbm, ⟨69, _⟩ => ⟨S16384x4x128, .f32⟩
  | .hbm, ⟨70, _⟩ => ⟨S16384x4x128, .f32⟩
  | .hbm, ⟨71, _⟩ => ⟨S16384x4x128, .f32⟩
  | .hbm, ⟨72, _⟩ => ⟨S_, .f32⟩
  | .hbm, ⟨73, _⟩ => ⟨S16384x4, .f32⟩
  | .hbm, ⟨74, _⟩ => ⟨S16384x4x1, .f32⟩
  | .hbm, ⟨75, _⟩ => ⟨S16384x4x128, .f32⟩
  | .hbm, ⟨76, _⟩ => ⟨S16384x4x128, .f32⟩
  | .hbm, ⟨77, _⟩ => ⟨S16384x4x1, .f32⟩
  | .hbm, ⟨78, _⟩ => ⟨S_, .f32⟩
  | .hbm, ⟨79, _⟩ => ⟨S16384x4x1, .f32⟩
  | .hbm, ⟨80, _⟩ => ⟨S16384x4x1, .f32⟩
  | .hbm, ⟨81, _⟩ => ⟨S_, .f32⟩
  | .hbm, ⟨82, _⟩ => ⟨S16384x4, .f32⟩
  | .hbm, ⟨83, _⟩ => ⟨S16384x4x128, .f32⟩
  | .hbm, ⟨84, _⟩ => ⟨S16384x4x128, .f32⟩
  | .hbm, ⟨85, _⟩ => ⟨S16384x4x128, .f32⟩
  | .hbm, ⟨86, _⟩ => ⟨S16384x4x128, .f32⟩
  | .hbm, ⟨87, _⟩ => ⟨S16384x4x128, .f32⟩
  | .hbm, ⟨88, _⟩ => ⟨S16384x512, .f32⟩
  | .hbm, ⟨89, _⟩ => ⟨S16384x512, .f32⟩
  | .hbm, ⟨90, _⟩ => ⟨S2048x8x1024, .f32⟩
  | .hbm, ⟨91, _⟩ => ⟨S_, .f32⟩
  | .hbm, ⟨92, _⟩ => ⟨S8x1024, .f32⟩
  | .hbm, ⟨93, _⟩ => ⟨S2048x8x512, .f32⟩
  | .hbm, ⟨94, _⟩ => ⟨S_, .f32⟩
  | .hbm, ⟨95, _⟩ => ⟨S8x512, .f32⟩
  | .hbm, ⟨96, _⟩ => ⟨S16384x512, .f32⟩
  | .hbm, ⟨97, _⟩ => ⟨S16384x1024, .bf16⟩
  | .hbm, ⟨98, _⟩ => ⟨S16384x512, .bf16⟩
  | .hbm, ⟨99, _⟩ => ⟨S16384x512, .bf16⟩
  | .hbm, ⟨100, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v34_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v34_1 : Ref sig .tc := ⟨.hbm, 58, rfl⟩
abbrev main_v34_0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_4 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_5 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_7 : Ref sig .tc := ⟨.hbm, 91, rfl⟩
abbrev main_v60 : Ref sig .tc := ⟨.hbm, 92, rfl⟩
abbrev main_v61 : Ref sig .tc := ⟨.hbm, 93, rfl⟩
abbrev main_cst_8 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩

abbrev nD : Nat := 1
abbrev τ : Topo := Topo.v7x

variable {F : FTy → Type} [FloatOps F]
-- ==== Join.lean ====
abbrev S16384x1024 : Shape := ⟨2, ![16384, 1024]⟩
abbrev S16384x512 : Shape := ⟨2, ![16384, 512]⟩
abbrev S8x1024 : Shape := ⟨2, ![8, 1024]⟩
abbrev S1x512 : Shape := ⟨2, ![1, 512]⟩
abbrev S1024x1024 : Shape := ⟨2, ![1024, 1024]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩
abbrev S1x1024 : Shape := ⟨2, ![1, 1024]⟩

abbrev nBuf : Space → Nat
  | .hbm => 11
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S8x1024, .f32⟩
  | .hbm, ⟨6, _⟩ => ⟨S1x512, .f32⟩
  | .hbm, ⟨7, _⟩ => ⟨S1024x1024, .bf16⟩
  | .hbm, ⟨8, _⟩ => ⟨S16384x1024, .f32⟩
  | .hbm, ⟨9, _⟩ => ⟨S16384x1024, .bf16⟩
  | .hbm, ⟨10, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S8x1024, .f32⟩
  | .local _ .vmem, ⟨11, _⟩ => ⟨S1x512, .f32⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== JoinRefIdeal.lean ====
abbrev S16384x1024 : Shape := ⟨2, ![16384, 1024]⟩
abbrev S16384x512 : Shape := ⟨2, ![16384, 512]⟩
abbrev S8x1024 : Shape := ⟨2, ![8, 1024]⟩
abbrev S1x512 : Shape := ⟨2, ![1, 512]⟩
abbrev S1024x1024 : Shape := ⟨2, ![1024, 1024]⟩
abbrev S16384x4x128 : Shape := ⟨3, ![16384, 4, 128]⟩
abbrev S1x4x128 : Shape := ⟨3, ![1, 4, 128]⟩
abbrev S_ : Shape := ⟨0, ![]⟩
abbrev S16384x4 : Shape := ⟨2, ![16384, 4]⟩
abbrev S16384x4x1 : Shape := ⟨3, ![16384, 4, 1]⟩
abbrev S1x1024 : Shape := ⟨2, ![1, 1024]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S8x1024, .f32⟩
  | .hbm, ⟨6, _⟩ => ⟨S1x512, .f32⟩
  | .hbm, ⟨7, _⟩ => ⟨S1024x1024, .bf16⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x4x128, .f32⟩
  | .hbm, ⟨13, _⟩ => ⟨S1x4x128, .f32⟩
  | .hbm, ⟨14, _⟩ => ⟨S16384x4x128, .f32⟩
  | .hbm, ⟨15, _⟩ => ⟨S_, .f32⟩
  | .hbm, ⟨16, _⟩ => ⟨S16384x4, .f32⟩
  | .hbm, ⟨17, _⟩ => ⟨S16384x4x1, .f32⟩
  | .hbm, ⟨18, _⟩ => ⟨S_, .f32⟩
  | .hbm, ⟨19, _⟩ => ⟨S16384x4x1, .f32⟩
  | .hbm, ⟨20, _⟩ => ⟨S16384x4x1, .f32⟩
  | .hbm, ⟨21, _⟩ => ⟨S_, .f32⟩
  | .hbm, ⟨22, _⟩ => ⟨S16384x4x1, .f32⟩
  | .hbm, ⟨23, _⟩ => ⟨S16384x4x1, .f32⟩
  | .hbm, ⟨24, _⟩ => ⟨S16384x4x1, .f32⟩
  | .hbm, ⟨25, _⟩ => ⟨S16384x4x128, .f32⟩
  | .hbm, ⟨26, _⟩ => ⟨S16384x4x128, .f32⟩
  | .hbm, ⟨27, _⟩ => ⟨S16384x4x128, .f32⟩
  | .hbm, ⟨28, _⟩ => ⟨S16384x4x128, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .bf16⟩
  | .hbm, ⟨41, _⟩ => ⟨S16384x1024, .bf16⟩
  | .hbm, ⟨42, _⟩ => ⟨S16384x1024, .f32⟩
  | .hbm, ⟨43, _⟩ => ⟨S1024x1024, .f32⟩
  | .hbm, ⟨44, _⟩ => ⟨S16384x1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Entry.lean ====
abbrev S16384x1024 : Shape := ⟨2, ![16384, 1024]⟩
abbrev S8x1024 : Shape := ⟨2, ![8, 1024]⟩
abbrev S1024x2688 : Shape := ⟨2, ![1024, 2688]⟩
abbrev S32x512 : Shape := ⟨2, ![32, 512]⟩
abbrev S8x512 : Shape := ⟨2, ![8, 512]⟩
abbrev S128x512 : Shape := ⟨2, ![128, 512]⟩
abbrev S1x512 : Shape := ⟨2, ![1, 512]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S8x96x512 : Shape := ⟨3, ![8, 96, 512]⟩
abbrev S512 : Shape := ⟨1, ![512]⟩
abbrev S512x1 : Shape := ⟨2, ![512, 1]⟩
abbrev S1x1024 : Shape := ⟨2, ![1, 1024]⟩
abbrev S1024x1024 : Shape := ⟨2, ![1024, 1024]⟩
abbrev S8x16x512 : Shape := ⟨3, ![8, 16, 512]⟩
abbrev S8x64x512 : Shape := ⟨3, ![8, 64, 512]⟩
abbrev S64x128 : Shape := ⟨2, ![64, 128]⟩
abbrev S1x96x128 : Shape := ⟨3, ![1, 96, 128]⟩
abbrev S96x128 : Shape := ⟨2, ![96, 128]⟩
abbrev S1x128 : Shape := ⟨2, ![1, 128]⟩
abbrev S1024x1664 : Shape := ⟨2, ![1024, 1664]⟩
abbrev S512x1664 : Shape := ⟨2, ![512, 1664]⟩

abbrev nBuf : Space → Nat
  | .hbm => 15
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S8x1024, .f32⟩
  | .hbm, ⟨2, _⟩ => ⟨S1024x2688, .bf16⟩
  | .hbm, ⟨3, _⟩ => ⟨S32x512, .f32⟩
  | .hbm, ⟨4, _⟩ => ⟨S8x512, .f32⟩
  | .hbm, ⟨5, _⟩ => ⟨S128x512, .bf16⟩
  | .hbm, ⟨6, _⟩ => ⟨S1x512, .f32⟩
  | .hbm, ⟨7, _⟩ => ⟨S16384x1024, .bf16⟩
  | .hbm, ⟨8, _⟩ => ⟨S16384x512, .f32⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x512, .f32⟩
  | .hbm, ⟨14, _⟩ => ⟨S16384x128, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x2688, .bf16⟩
  | .local _ .vmem, ⟨4, _⟩ => ⟨S32x512, .f32⟩
  | .local _ .vmem, ⟨5, _⟩ => ⟨S8x512, .f32⟩
  | .local _ .vmem, ⟨6, _⟩ => ⟨S128x512, .bf16⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x128, .bf16⟩
  | .local _ .vmem, ⟨23, _⟩ => ⟨S512x128, .bf16⟩
  | .local _ .vmem, ⟨24, _⟩ => ⟨S8x96x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== EntryRefIdeal.lean ====
abbrev S16384x1024 : Shape := ⟨2, ![16384, 1024]⟩
abbrev S8x1024 : Shape := ⟨2, ![8, 1024]⟩
abbrev S1024x2688 : Shape := ⟨2, ![1024, 2688]⟩
abbrev S32x512 : Shape := ⟨2, ![32, 512]⟩
abbrev S8x512 : Shape := ⟨2, ![8, 512]⟩
abbrev S128x512 : Shape := ⟨2, ![128, 512]⟩
abbrev S1x512 : Shape := ⟨2, ![1, 512]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2688 : Shape := ⟨2, ![16384, 2688]⟩
abbrev S16384x512 : Shape := ⟨2, ![16384, 512]⟩
abbrev S16384x128 : Shape := ⟨2, ![16384, 128]⟩
abbrev S256x64x512 : Shape := ⟨3, ![256, 64, 512]⟩
abbrev S256x94x512 : Shape := ⟨3, ![256, 94, 512]⟩
abbrev S512 : Shape := ⟨1, ![512]⟩
abbrev S1x1x512 : Shape := ⟨3, ![1, 1, 512]⟩

abbrev nBuf : Space → Nat
  | .hbm => 359
  | .vmem => 0
  | .smem => 0
  | _ => 0

abbrev hbmTy0_0 (i : Nat) : BufTy := match i % 128 with
  | 0 => ⟨S16384x1024, .f32⟩
  | 1 => ⟨S8x1024, .f32⟩
  | 2 => ⟨S1024x2688, .bf16⟩
  | 3 => ⟨S32x512, .f32⟩
  | 4 => ⟨S8x512, .f32⟩
  | 5 => ⟨S128x512, .bf16⟩
  | 6 => ⟨S1x512, .f32⟩
  | 7 => ⟨S1x1024, .f32⟩
  | 8 => ⟨S1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S1x1024, .f32⟩
  | 23 => ⟨S16384x1024, .f32⟩
  | 24 => ⟨S16384x1024, .f32⟩
  | 25 => ⟨S1x1024, .f32⟩
  | 26 => ⟨S1024, .f32⟩
  | 27 => ⟨S1x1024, .f32⟩
  | 28 => ⟨S1024, .f32⟩
  | 29 => ⟨S_, .f32⟩
  | 30 => ⟨S1024, .f32⟩
  | 31 => ⟨S1024, .f32⟩
  | 32 => ⟨S1x1024, .f32⟩
  | 33 => ⟨S16384x1024, .f32⟩
  | 34 => ⟨S16384x1024, .f32⟩
  | 35 => ⟨S1x1024, .f32⟩
  | 36 => ⟨S16384x1024, .f32⟩
  | 37 => ⟨S16384x1024, .f32⟩
  | 38 => ⟨S16384x1024, .bf16⟩
  | 39 => ⟨S16384x1024, .f32⟩
  | 40 => ⟨S1024x2688, .f32⟩
  | 41 => ⟨S16384x2688, .f32⟩
  | 42 => ⟨S16384x1024, .f32⟩
  | 43 => ⟨S16384x512, .f32⟩
  | 44 => ⟨S16384x512, .f32⟩
  | 45 => ⟨S16384x512, .f32⟩
  | 46 => ⟨S16384x128, .f32⟩
  | 47 => ⟨S16384x128, .bf16⟩
  | 48 => ⟨S16384x128, .f32⟩
  | 49 => ⟨S128x512, .f32⟩
  | 50 => ⟨S16384x512, .f32⟩
  | 51 => ⟨S16384x512, .f32⟩
  | 52 => ⟨S16384x512, .f32⟩
  | 53 => ⟨S16384x512, .f32⟩
  | 54 => ⟨S_, .f32⟩
  | 55 => ⟨S16384x512, .f32⟩
  | 56 => ⟨S16384x512, .f32⟩
  | 57 => ⟨S16384x512, .f32⟩
  | 58 => ⟨S16384x512, .f32⟩
  | 59 => ⟨S16384x512, .i1⟩
  | 60 => ⟨S16384x512, .f32⟩
  | 61 => ⟨S16384x512, .f32⟩
  | 62 => ⟨S16384x512, .f32⟩
  | 63 => ⟨S16384x512, .f32⟩
  | 64 => ⟨S16384x512, .f32⟩
  | 65 => ⟨S16384x512, .f32⟩
  | 66 => ⟨S16384x512, .f32⟩
  | 67 => ⟨S16384x512, .f32⟩
  | 68 => ⟨S16384x512, .f32⟩
  | 69 => ⟨S_, .f32⟩
  | 70 => ⟨S16384x512, .f32⟩
  | 71 => ⟨S16384x512, .f32⟩
  | 72 => ⟨S16384x512, .f32⟩
  | 73 => ⟨S16384x512, .f32⟩
  | 74 => ⟨S16384x512, .f32⟩
  | 75 => ⟨S16384x512, .f32⟩
  | 76 => ⟨S_, .f32⟩
  | 77 => ⟨S16384x512, .f32⟩
  | 78 => ⟨S16384x512, .f32⟩
  | 79 => ⟨S_, .f32⟩
  | 80 => ⟨S16384x512, .f32⟩
  | 81 => ⟨S16384x512, .f32⟩
  | 82 => ⟨S16384x512, .f32⟩
  | 83 => ⟨S256x64x512, .f32⟩
  | 84 => ⟨S_, .i32⟩
  | 85 => ⟨S_, .f32⟩
  | 86 => ⟨S256x94x512, .f32⟩
  | 87 => ⟨S1x512, .f32⟩
  | 88 => ⟨S512, .f32⟩
  | 89 => ⟨S256x64x512, .f32⟩
  | 90 => ⟨S1x1x512, .f32⟩
  | 91 => ⟨S256x64x512, .f32⟩
  | 92 => ⟨S256x64x512, .f32⟩
  | 93 => ⟨S_, .f32⟩
  | 94 => ⟨S256x64x512, .f32⟩
  | 95 => ⟨S256x64x512, .f32⟩
  | 96 => ⟨S1x512, .f32⟩
  | 97 => ⟨S512, .f32⟩
  | 98 => ⟨S256x64x512, .f32⟩
  | 99 => ⟨S1x1x512, .f32⟩
  | 100 => ⟨S256x64x512, .f32⟩
  | 101 => ⟨S256x64x512, .f32⟩
  | 102 => ⟨S256x64x512, .f32⟩
  | 103 => ⟨S1x512, .f32⟩
  | 104 => ⟨S512, .f32⟩
  | 105 => ⟨S256x64x512, .f32⟩
  | 106 => ⟨S1x1x512, .f32⟩
  | 107 => ⟨S256x64x512, .f32⟩
  | 108 => ⟨S256x64x512, .f32⟩
  | 109 => ⟨S256x64x512, .f32⟩
  | 110 => ⟨S1x512, .f32⟩
  | 111 => ⟨S512, .f32⟩
  | 112 => ⟨S256x64x512, .f32⟩
  | 113 => ⟨S1x1x512, .f32⟩
  | 114 => ⟨S256x64x512, .f32⟩
  | 115 => ⟨S256x64x512, .f32⟩
  | 116 => ⟨S256x64x512, .f32⟩
  | 117 => ⟨S1x512, .f32⟩
  | 118 => ⟨S512, .f32⟩
  | 119 => ⟨S256x64x512, .f32⟩
  | 120 => ⟨S1x1x512, .f32⟩
  | 121 => ⟨S256x64x512, .f32⟩
  | 122 => ⟨S256x64x512, .f32⟩
  | 123 => ⟨S256x64x512, .f32⟩
  | 124 => ⟨S1x512, .f32⟩
  | 125 => ⟨S512, .f32⟩
  | 126 => ⟨S256x64x512, .f32⟩
  | 127 => ⟨S1x1x512, .f32⟩
  | _ => ⟨S16384x1024, .f32⟩

abbrev hbmTy0_1 (i : Nat) : BufTy := match i % 128 with
  | 0 => ⟨S256x64x512, .f32⟩
  | 1 => ⟨S256x64x512, .f32⟩
  | 2 => ⟨S256x64x512, .f32⟩
  | 3 => ⟨S1x512, .f32⟩
  | 4 => ⟨S512, .f32⟩
  | 5 => ⟨S256x64x512, .f32⟩
  | 6 => ⟨S1x1x512, .f32⟩
  | 7 => ⟨S256x64x512, .f32⟩
  | 8 => ⟨S256x64x512, .f32⟩
  | 9 => ⟨S256x64x512, .f32⟩
  | 10 => ⟨S1x512, .f32⟩
  | 11 => ⟨S512, .f32⟩
  | 12 => ⟨S256x64x512, .f32⟩
  | 13 => ⟨S1x1x512, .f32⟩
  | 14 => ⟨S256x64x512, .f32⟩
  | 15 => ⟨S256x64x512, .f32⟩
  | 16 => ⟨S256x64x512, .f32⟩
  | 17 => ⟨S1x512, .f32⟩
  | 18 => ⟨S512, .f32⟩
  | 19 => ⟨S256x64x512, .f32⟩
  | 20 => ⟨S1x1x512, .f32⟩
  | 21 => ⟨S256x64x512, .f32⟩
  | 22 => ⟨S256x64x512, .f32⟩
  | 23 => ⟨S256x64x512, .f32⟩
  | 24 => ⟨S1x512, .f32⟩
  | 25 => ⟨S512, .f32⟩
  | 26 => ⟨S256x64x512, .f32⟩
  | 27 => ⟨S1x1x512, .f32⟩
  | 28 => ⟨S256x64x512, .f32⟩
  | 29 => ⟨S256x64x512, .f32⟩
  | 30 => ⟨S256x64x512, .f32⟩
  | 31 => ⟨S1x512, .f32⟩
  | 32 => ⟨S512, .f32⟩
  | 33 => ⟨S256x64x512, .f32⟩
  | 34 => ⟨S1x1x512, .f32⟩
  | 35 => ⟨S256x64x512, .f32⟩
  | 36 => ⟨S256x64x512, .f32⟩
  | 37 => ⟨S256x64x512, .f32⟩
  | 38 => ⟨S1x512, .f32⟩
  | 39 => ⟨S512, .f32⟩
  | 40 => ⟨S256x64x512, .f32⟩
  | 41 => ⟨S1x1x512, .f32⟩
  | 42 => ⟨S256x64x512, .f32⟩
  | 43 => ⟨S256x64x512, .f32⟩
  | 44 => ⟨S256x64x512, .f32⟩
  | 45 => ⟨S1x512, .f32⟩
  | 46 => ⟨S512, .f32⟩
  | 47 => ⟨S256x64x512, .f32⟩
  | 48 => ⟨S1x1x512, .f32⟩
  | 49 => ⟨S256x64x512, .f32⟩
  | 50 => ⟨S256x64x512, .f32⟩
  | 51 => ⟨S256x64x512, .f32⟩
  | 52 => ⟨S1x512, .f32⟩
  | 53 => ⟨S512, .f32⟩
  | 54 => ⟨S256x64x512, .f32⟩
  | 55 => ⟨S1x1x512, .f32⟩
  | 56 => ⟨S256x64x512, .f32⟩
  | 57 => ⟨S256x64x512, .f32⟩
  | 58 => ⟨S256x64x512, .f32⟩
  | 59 => ⟨S1x512, .f32⟩
  | 60 => ⟨S512, .f32⟩
  | 61 => ⟨S256x64x512, .f32⟩
  | 62 => ⟨S1x1x512, .f32⟩
  | 63 => ⟨S256x64x512, .f32⟩
  | 64 => ⟨S256x64x512, .f32⟩
  | 65 => ⟨S256x64x512, .f32⟩
  | 66 => ⟨S1x512, .f32⟩
  | 67 => ⟨S512, .f32⟩
  | 68 => ⟨S256x64x512, .f32⟩
  | 69 => ⟨S1x1x512, .f32⟩
  | 70 => ⟨S256x64x512, .f32⟩
  | 71 => ⟨S256x64x512, .f32⟩
  | 72 => ⟨S256x64x512, .f32⟩
  | 73 => ⟨S1x512, .f32⟩
  | 74 => ⟨S512, .f32⟩
  | 75 => ⟨S256x64x512, .f32⟩
  | 76 => ⟨S1x1x512, .f32⟩
  | 77 => ⟨S256x64x512, .f32⟩
  | 78 => ⟨S256x64x512, .f32⟩
  | 79 => ⟨S256x64x512, .f32⟩
  | 80 => ⟨S1x512, .f32⟩
  | 81 => ⟨S512, .f32⟩
  | 82 => ⟨S256x64x512, .f32⟩
  | 83 => ⟨S1x1x512, .f32⟩
  | 84 => ⟨S256x64x512, .f32⟩
  | 85 => ⟨S256x64x512, .f32⟩
  | 86 => ⟨S256x64x512, .f32⟩
  | 87 => ⟨S1x512, .f32⟩
  | 88 => ⟨S512, .f32⟩
  | 89 => ⟨S256x64x512, .f32⟩
  | 90 => ⟨S1x1x512, .f32⟩
  | 91 => ⟨S256x64x512, .f32⟩
  | 92 => ⟨S256x64x512, .f32⟩
  | 93 => ⟨S256x64x512, .f32⟩
  | 94 => ⟨S1x512, .f32⟩
  | 95 => ⟨S512, .f32⟩
  | 96 => ⟨S256x64x512, .f32⟩
  | 97 => ⟨S1x1x512, .f32⟩
  | 98 => ⟨S256x64x512, .f32⟩
  | 99 => ⟨S256x64x512, .f32⟩
  | 100 => ⟨S256x64x512, .f32⟩
  | 101 => ⟨S1x512, .f32⟩
  | 102 => ⟨S512, .f32⟩
  | 103 => ⟨S256x64x512, .f32⟩
  | 104 => ⟨S1x1x512, .f32⟩
  | 105 => ⟨S256x64x512, .f32⟩
  | 106 => ⟨S256x64x512, .f32⟩
  | 107 => ⟨S256x64x512, .f32⟩
  | 108 => ⟨S1x512, .f32⟩
  | 109 => ⟨S512, .f32⟩
  | 110 => ⟨S256x64x512, .f32⟩
  | 111 => ⟨S1x1x512, .f32⟩
  | 112 => ⟨S256x64x512, .f32⟩
  | 113 => ⟨S256x64x512, .f32⟩
  | 114 => ⟨S256x64x512, .f32⟩
  | 115 => ⟨S1x512, .f32⟩
  | 116 => ⟨S512, .f32⟩
  | 117 => ⟨S256x64x512, .f32⟩
  | 118 => ⟨S1x1x512, .f32⟩
  | 119 => ⟨S256x64x512, .f32⟩
  | 120 => ⟨S256x64x512, .f32⟩
  | 121 => ⟨S256x64x512, .f32⟩
  | 122 => ⟨S1x512, .f32⟩
  | 123 => ⟨S512, .f32⟩
  | 124 => ⟨S256x64x512, .f32⟩
  | 125 => ⟨S1x1x512, .f32⟩
  | 126 => ⟨S256x64x512, .f32⟩
  | 127 => ⟨S256x64x512, .f32⟩
  | _ => ⟨S16384x1024, .f32⟩

abbrev hbmTy0_2 (i : Nat) : BufTy := match i % 128 with
  | 0 => ⟨S256x64x512, .f32⟩
  | 1 => ⟨S1x512, .f32⟩
  | 2 => ⟨S512, .f32⟩
  | 3 => ⟨S256x64x512, .f32⟩
  | 4 => ⟨S1x1x512, .f32⟩
  | 5 => ⟨S256x64x512, .f32⟩
  | 6 => ⟨S256x64x512, .f32⟩
  | 7 => ⟨S256x64x512, .f32⟩
  | 8 => ⟨S1x512, .f32⟩
  | 9 => ⟨S512, .f32⟩
  | 10 => ⟨S256x64x512, .f32⟩
  | 11 => ⟨S1x1x512, .f32⟩
  | 12 => ⟨S256x64x512, .f32⟩
  | 13 => ⟨S256x64x512, .f32⟩
  | 14 => ⟨S256x64x512, .f32⟩
  | 15 => ⟨S1x512, .f32⟩
  | 16 => ⟨S512, .f32⟩
  | 17 => ⟨S256x64x512, .f32⟩
  | 18 => ⟨S1x1x512, .f32⟩
  | 19 => ⟨S256x64x512, .f32⟩
  | 20 => ⟨S256x64x512, .f32⟩
  | 21 => ⟨S256x64x512, .f32⟩
  | 22 => ⟨S1x512, .f32⟩
  | 23 => ⟨S512, .f32⟩
  | 24 => ⟨S256x64x512, .f32⟩
  | 25 => ⟨S1x1x512, .f32⟩
  | 26 => ⟨S256x64x512, .f32⟩
  | 27 => ⟨S256x64x512, .f32⟩
  | 28 => ⟨S256x64x512, .f32⟩
  | 29 => ⟨S1x512, .f32⟩
  | 30 => ⟨S512, .f32⟩
  | 31 => ⟨S256x64x512, .f32⟩
  | 32 => ⟨S1x1x512, .f32⟩
  | 33 => ⟨S256x64x512, .f32⟩
  | 34 => ⟨S256x64x512, .f32⟩
  | 35 => ⟨S256x64x512, .f32⟩
  | 36 => ⟨S1x512, .f32⟩
  | 37 => ⟨S512, .f32⟩
  | 38 => ⟨S256x64x512, .f32⟩
  | 39 => ⟨S1x1x512, .f32⟩
  | 40 => ⟨S256x64x512, .f32⟩
  | 41 => ⟨S256x64x512, .f32⟩
  | 42 => ⟨S256x64x512, .f32⟩
  | 43 => ⟨S1x512, .f32⟩
  | 44 => ⟨S512, .f32⟩
  | 45 => ⟨S256x64x512, .f32⟩
  | 46 => ⟨S1x1x512, .f32⟩
  | 47 => ⟨S256x64x512, .f32⟩
  | 48 => ⟨S256x64x512, .f32⟩
  | 49 => ⟨S256x64x512, .f32⟩
  | 50 => ⟨S16384x512, .f32⟩
  | 51 => ⟨S1x512, .f32⟩
  | 52 => ⟨S512, .f32⟩
  | 53 => ⟨S1x512, .f32⟩
  | 54 => ⟨S16384x512, .f32⟩
  | 55 => ⟨S16384x512, .f32⟩
  | 56 => ⟨S1x512, .f32⟩
  | 57 => ⟨S512, .f32⟩
  | 58 => ⟨S1x512, .f32⟩
  | 59 => ⟨S512, .f32⟩
  | 60 => ⟨S_, .f32⟩
  | 61 => ⟨S16384, .f32⟩
  | 62 => ⟨S16384x1, .f32⟩
  | 63 => ⟨S_, .f32⟩
  | 64 => ⟨S16384x1, .f32⟩
  | 65 => ⟨S16384x1, .f32⟩
  | 66 => ⟨S16384x512, .f32⟩
  | 67 => ⟨S16384x512, .f32⟩
  | 68 => ⟨S16384x512, .f32⟩
  | 69 => ⟨S_, .f32⟩
  | 70 => ⟨S16384, .f32⟩
  | 71 => ⟨S16384x1, .f32⟩
  | 72 => ⟨S_, .f32⟩
  | 73 => ⟨S16384x1, .f32⟩
  | 74 => ⟨S16384x1, .f32⟩
  | 75 => ⟨S16384x512, .f32⟩
  | 76 => ⟨S16384x512, .f32⟩
  | 77 => ⟨S_, .f32⟩
  | 78 => ⟨S16384x1, .f32⟩
  | 79 => ⟨S16384x1, .f32⟩
  | 80 => ⟨S16384x1, .f32⟩
  | 81 => ⟨S16384x512, .f32⟩
  | 82 => ⟨S16384x512, .f32⟩
  | 83 => ⟨S1x512, .f32⟩
  | 84 => ⟨S16384x512, .f32⟩
  | 85 => ⟨S16384x512, .f32⟩
  | 86 => ⟨S1x512, .f32⟩
  | 87 => ⟨S16384x512, .f32⟩
  | 88 => ⟨S16384x512, .f32⟩
  | 89 => ⟨S16384x512, .f32⟩
  | 90 => ⟨S16384x512, .f32⟩
  | 91 => ⟨S_, .f32⟩
  | 92 => ⟨S16384x512, .f32⟩
  | 93 => ⟨S16384x512, .f32⟩
  | 94 => ⟨S_, .f32⟩
  | 95 => ⟨S16384x512, .f32⟩
  | 96 => ⟨S16384x512, .f32⟩
  | 97 => ⟨S16384x512, .f32⟩
  | 98 => ⟨S16384x1024, .bf16⟩
  | 99 => ⟨S16384x512, .bf16⟩
  | 100 => ⟨S16384x512, .bf16⟩
  | 101 => ⟨S16384x512, .bf16⟩
  | 102 => ⟨S16384x512, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_v0 : Ref sig .tc := ⟨.hbm, 53, rfl⟩
abbrev main_call0_call0_cst : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_call0_v2 : Ref sig .tc := ⟨.hbm, 57, rfl⟩
abbrev main_call0_call0_v3 : Ref sig .tc := ⟨.hbm, 58, rfl⟩
abbrev main_call0_call0_v4 : Ref sig .tc := ⟨.hbm, 59, rfl⟩
abbrev main_call0_call0_v5 : Ref sig .tc := ⟨.hbm, 60, rfl⟩
abbrev main_call0_call0_v6 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_v1 : Ref sig .tc := ⟨.hbm, 67, rfl⟩
abbrev main_v42 : Ref sig .tc := ⟨.hbm, 68, rfl⟩
abbrev main_cst_3 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_4 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c : Ref sig .tc := ⟨.hbm, 84, rfl⟩
abbrev main_call1_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_6 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_cst_7 : Ref sig .tc := ⟨.hbm, 316, rfl⟩
abbrev main_v284 : Ref sig .tc := ⟨.hbm, 317, rfl⟩
abbrev main_v285 : Ref sig .tc := ⟨.hbm, 318, rfl⟩
abbrev main_cst_8 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_cst_9 : Ref sig .tc := ⟨.hbm, 325, rfl⟩
abbrev main_v291 : Ref sig .tc := ⟨.hbm, 326, rfl⟩
abbrev main_v292 : Ref sig .tc := ⟨.hbm, 327, rfl⟩
abbrev main_cst_10 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_cst_11 : Ref sig .tc := ⟨.hbm, 333, rfl⟩
abbrev main_v297 : Ref sig .tc := ⟨.hbm, 334, rfl⟩
abbrev main_v298 : Ref sig .tc := ⟨.hbm, 335, rfl⟩
abbrev main_v299 : Ref sig .tc := ⟨.hbm, 336, rfl⟩
abbrev main_v300 : Ref sig .tc := ⟨.hbm, 337, rfl⟩
abbrev main_v301 : Ref sig .tc := ⟨.hbm, 338, rfl⟩
abbrev main_v302 : Ref sig .tc := ⟨.hbm, 339, rfl⟩
abbrev main_v303 : Ref sig .tc := ⟨.hbm, 340, rfl⟩
abbrev main_v304 : Ref sig .tc := ⟨.hbm, 341, rfl⟩
abbrev main_v305 : Ref sig .tc := ⟨.hbm, 342, rfl⟩
abbrev main_v306 : Ref sig .tc := ⟨.hbm, 343, rfl⟩
abbrev main_v307 : Ref sig .tc := ⟨.hbm, 344, rfl⟩
abbrev main_call2_v0 : Ref sig .tc := ⟨.hbm, 345, rfl⟩
abbrev main_call2_v1 : Ref sig .tc := ⟨.hbm, 346, rfl⟩
abbrev main_call2_cst : Ref sig .tc := ⟨.hbm, 347, rfl⟩
abbrev main_call2_v2 : Ref sig .tc := ⟨.hbm, 348, rfl⟩
abbrev main_call2_v3 : Ref sig .tc := ⟨.hbm, 349, rfl⟩
abbrev main_call2_cst_0 : Ref sig .tc := ⟨.hbm, 350, rfl⟩
abbrev main_call2_v4 : Ref sig .tc := ⟨.hbm, 351, rfl⟩
abbrev main_call2_v5 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩

abbrev nD : Nat := 1
abbrev τ : Topo := Topo.v7x

variable {F : FTy → Type} [FloatOps F]
-- ==== States.lean ====
abbrev S256x1024 : Shape := ⟨2, ![256, 1024]⟩
abbrev S8x1024 : Shape := ⟨2, ![8, 1024]⟩
abbrev S1024x2688 : Shape := ⟨2, ![1024, 2688]⟩
abbrev S128x512 : Shape := ⟨2, ![128, 512]⟩
abbrev S1x512 : Shape := ⟨2, ![1, 512]⟩
abbrev S2x2x128x128 : Shape := ⟨4, ![2, 2, 128, 128]⟩
abbrev S256 : Shape := ⟨1, ![256]⟩
abbrev S256x1 : Shape := ⟨2, ![256, 1]⟩
abbrev S1x1024 : Shape := ⟨2, ![1, 1024]⟩
abbrev S1024x768 : Shape := ⟨2, ![1024, 768]⟩
abbrev S256x768 : Shape := ⟨2, ![256, 768]⟩
abbrev S1024x128 : Shape := ⟨2, ![1024, 128]⟩
abbrev S256x128 : Shape := ⟨2, ![256, 128]⟩
abbrev S256x512 : Shape := ⟨2, ![256, 512]⟩
abbrev S256x256 : Shape := ⟨2, ![256, 256]⟩
abbrev S1x256 : Shape := ⟨2, ![1, 256]⟩
abbrev S256x64 : Shape := ⟨2, ![256, 64]⟩
abbrev S128x64 : Shape := ⟨2, ![128, 64]⟩
abbrev S1x1x128x64 : Shape := ⟨4, ![1, 1, 128, 64]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S8x1024, .f32⟩
  | .hbm, ⟨2, _⟩ => ⟨S1024x2688, .bf16⟩
  | .hbm, ⟨3, _⟩ => ⟨S128x512, .bf16⟩
  | .hbm, ⟨4, _⟩ => ⟨S1x512, .f32⟩
  | .hbm, ⟨5, _⟩ => ⟨S2x2x128x128, .f32⟩
  | .local _ .vmem, ⟨0, _⟩ => ⟨S256x1024, .f32⟩
  | .local _ .vmem, ⟨1, _⟩ => ⟨S8x1024, .f32⟩
  | .local _ .vmem, ⟨2, _⟩ => ⟨S1024x2688, .bf16⟩
  | .local _ .vmem, ⟨3, _⟩ => ⟨S128x512, .bf16⟩
  | .local _ .vmem, ⟨4, _⟩ => ⟨S1x512, .f32⟩
  | .local _ .vmem, ⟨5, _⟩ => ⟨S2x2x128x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== StatesRefIdeal.lean ====
abbrev S256x1024 : Shape := ⟨2, ![256, 1024]⟩
abbrev S8x1024 : Shape := ⟨2, ![8, 1024]⟩
abbrev S1024x2688 : Shape := ⟨2, ![1024, 2688]⟩
abbrev S128x512 : Shape := ⟨2, ![128, 512]⟩
abbrev S1x512 : Shape := ⟨2, ![1, 512]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩
abbrev S256x2688 : Shape := ⟨2, ![256, 2688]⟩
abbrev S256x1280 : Shape := ⟨2, ![256, 1280]⟩
abbrev S256x256 : Shape := ⟨2, ![256, 256]⟩
abbrev S256x512 : Shape := ⟨2, ![256, 512]⟩
abbrev S256x128 : Shape := ⟨2, ![256, 128]⟩
abbrev S8x128x64 : Shape := ⟨3, ![8, 128, 64]⟩
abbrev S256x1x256 : Shape := ⟨3, ![256, 1, 256]⟩
abbrev S256x2x256 : Shape := ⟨3, ![256, 2, 256]⟩
abbrev S256x8x64 : Shape := ⟨3, ![256, 8, 64]⟩
abbrev S256x1x512 : Shape := ⟨3, ![256, 1, 512]⟩
abbrev S256x2x512 : Shape := ⟨3, ![256, 2, 512]⟩
abbrev S256x8x128 : Shape := ⟨3, ![256, 8, 128]⟩
abbrev S1x8x64 : Shape := ⟨3, ![1, 8, 64]⟩
abbrev S8x64 : Shape := ⟨2, ![8, 64]⟩
abbrev S1x8x128 : Shape := ⟨3, ![1, 8, 128]⟩
abbrev S8x128 : Shape := ⟨2, ![8, 128]⟩
abbrev S8x1x64 : Shape := ⟨3, ![8, 1, 64]⟩
abbrev S8x128x1 : Shape := ⟨3, ![8, 128, 1]⟩
abbrev S2x2x2x128x64 : Shape := ⟨5, ![2, 2, 2, 128, 64]⟩
abbrev S2x2x128x2x64 : Shape := ⟨5, ![2, 2, 128, 2, 64]⟩
abbrev S2x2x128x128 : Shape := ⟨4, ![2, 2, 128, 128]⟩

abbrev nBuf : Space → Nat
  | .hbm => 119
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x1024, .f32⟩
  | .hbm, ⟨2, _⟩ => ⟨S1024x2688, .bf16⟩
  | .hbm, ⟨3, _⟩ => ⟨S128x512, .bf16⟩
  | .hbm, ⟨4, _⟩ => ⟨S1x512, .f32⟩
  | .hbm, ⟨5, _⟩ => ⟨S1x1024, .f32⟩
  | .hbm, ⟨6, _⟩ => ⟨S1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S256x1024, .f32⟩
  | .hbm, ⟨32, _⟩ => ⟨S256x1024, .f32⟩
  | .hbm, ⟨33, _⟩ => ⟨S1x1024, .f32⟩
  | .hbm, ⟨34, _⟩ => ⟨S256x1024, .f32⟩
  | .hbm, ⟨35, _⟩ => ⟨S256x1024, .f32⟩
  | .hbm, ⟨36, _⟩ => ⟨S256x1024, .bf16⟩
  | .hbm, ⟨37, _⟩ => ⟨S256x1024, .f32⟩
  | .hbm, ⟨38, _⟩ => ⟨S1024x2688, .f32⟩
  | .hbm, ⟨39, _⟩ => ⟨S256x2688, .f32⟩
  | .hbm, ⟨40, _⟩ => ⟨S256x1280, .f32⟩
  | .hbm, ⟨41, _⟩ => ⟨S256x256, .f32⟩
  | .hbm, ⟨42, _⟩ => ⟨S256x512, .f32⟩
  | .hbm, ⟨43, _⟩ => ⟨S256x512, .f32⟩
  | .hbm, ⟨44, _⟩ => ⟨S256x128, .f32⟩
  | .hbm, ⟨45, _⟩ => ⟨S256x256, .bf16⟩
  | .hbm, ⟨46, _⟩ => ⟨S256x256, .f32⟩
  | .hbm, ⟨47, _⟩ => ⟨S256x512, .bf16⟩
  | .hbm, ⟨48, _⟩ => ⟨S256x512, .f32⟩
  | .hbm, ⟨49, _⟩ => ⟨S256x128, .bf16⟩
  | .hbm, ⟨50, _⟩ => ⟨S256x128, .f32⟩
  | .hbm, ⟨51, _⟩ => ⟨S128x512, .f32⟩
  | .hbm, ⟨52, _⟩ => ⟨S256x512, .f32⟩
  | .hbm, ⟨53, _⟩ => ⟨S256x512, .f32⟩
  | .hbm, ⟨54, _⟩ => ⟨S256x512, .f32⟩
  | .hbm, ⟨55, _⟩ => ⟨S256x512, .f32⟩
  | .hbm, ⟨56, _⟩ => ⟨S256x512, .f32⟩
  | .hbm, ⟨57, _⟩ => ⟨S_, .f32⟩
  | .hbm, ⟨58, _⟩ => ⟨S256x512, .f32⟩
  | .hbm, ⟨59, _⟩ => ⟨S256x512, .f32⟩
  | .hbm, ⟨60, _⟩ => ⟨S256x512, .f32⟩
  | .hbm, ⟨61, _⟩ => ⟨S256x512, .f32⟩
  | .hbm, ⟨62, _⟩ => ⟨S_, .f32⟩
  | .hbm, ⟨63, _⟩ => ⟨S256x512, .f32⟩
  | .hbm, ⟨64, _⟩ => ⟨S256x512, .f32⟩
  | .hbm, ⟨65, _⟩ => ⟨S_, .f32⟩
  | .hbm, ⟨66, _⟩ => ⟨S8x128x64, .f32⟩
  | .hbm, ⟨67, _⟩ => ⟨S256x256, .f32⟩
  | .hbm, ⟨68, _⟩ => ⟨S256x1x256, .f32⟩
  | .hbm, ⟨69, _⟩ => ⟨S256x1x256, .f32⟩
  | .hbm, ⟨70, _⟩ => ⟨S256x2x256, .f32⟩
  | .hbm, ⟨71, _⟩ => ⟨S256x8x64, .f32⟩
  | .hbm, ⟨72, _⟩ => ⟨S256x512, .f32⟩
  | .hbm, ⟨73, _⟩ => ⟨S256x1x512, .f32⟩
  | .hbm, ⟨74, _⟩ => ⟨S256x1x512, .f32⟩
  | .hbm, ⟨75, _⟩ => ⟨S256x2x512, .f32⟩
  | .hbm, ⟨76, _⟩ => ⟨S256x8x128, .f32⟩
  | .hbm, ⟨77, _⟩ => ⟨S256x256, .f32⟩
  | .hbm, ⟨78, _⟩ => ⟨S256x256, .f32⟩
  | .hbm, ⟨79, _⟩ => ⟨S256x256, .f32⟩
  | .hbm, ⟨80, _⟩ => ⟨S256x1x256, .f32⟩
  | .hbm, ⟨81, _⟩ => ⟨S256x1x256, .f32⟩
  | .hbm, ⟨82, _⟩ => ⟨S256x2x256, .f32⟩
  | .hbm, ⟨83, _⟩ => ⟨S256x8x64, .f32⟩
  | .hbm, ⟨84, _⟩ => ⟨S_, .i32⟩
  | .hbm, ⟨85, _⟩ => ⟨S256x8x64, .f32⟩
  | .hbm, ⟨86, _⟩ => ⟨S256x8x128, .f32⟩
  | .hbm, ⟨87, _⟩ => ⟨S256x8x64, .f32⟩
  | .hbm, ⟨88, _⟩ => ⟨S_, .i32⟩
  | .hbm, ⟨89, _⟩ => ⟨S8x128x64, .f32⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i32⟩
  | .hbm, ⟨94, _⟩ => ⟨S1x8x64, .f32⟩
  | .hbm, ⟨95, _⟩ => ⟨S8x64, .f32⟩
  | .hbm, ⟨96, _⟩ => ⟨S_, .i32⟩
  | .hbm, ⟨97, _⟩ => ⟨S_, .i32⟩
  | .hbm, ⟨98, _⟩ => ⟨S1x8x128, .f32⟩
  | .hbm, ⟨99, _⟩ => ⟨S8x128, .f32⟩
  | .hbm, ⟨100, _⟩ => ⟨S_, .i32⟩
  | .hbm, ⟨101, _⟩ => ⟨S_, .i32⟩
  | .hbm, ⟨102, _⟩ => ⟨S1x8x64, .f32⟩
  | .hbm, ⟨103, _⟩ => ⟨S8x64, .f32⟩
  | .hbm, ⟨104, _⟩ => ⟨S8x64, .f32⟩
  | .hbm, ⟨105, _⟩ => ⟨S8x1x64, .f32⟩
  | .hbm, ⟨106, _⟩ => ⟨S8x128x64, .f32⟩
  | .hbm, ⟨107, _⟩ => ⟨S8x128x64, .f32⟩
  | .hbm, ⟨108, _⟩ => ⟨S8x128x1, .f32⟩
  | .hbm, ⟨109, _⟩ => ⟨S8x1x64, .f32⟩
  | .hbm, ⟨110, _⟩ => ⟨S8x128x64, .f32⟩
  | .hbm, ⟨111, _⟩ => ⟨S8x128x64, .f32⟩
  | .hbm, ⟨112, _⟩ => ⟨S8x128x64, .f32⟩
  | .hbm, ⟨113, _⟩ => ⟨S8x128x64, .f32⟩
  | .hbm, ⟨114, _⟩ => ⟨S_, .i32⟩
  | .hbm, ⟨115, _⟩ => ⟨S_, .i32⟩
  | .hbm, ⟨116, _⟩ => ⟨S2x2x2x128x64, .f32⟩
  | .hbm, ⟨117, _⟩ => ⟨S2x2x128x2x64, .f32⟩
  | .hbm, ⟨118, _⟩ => ⟨S2x2x128x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_c : Ref sig .tc := ⟨.hbm, 84, rfl⟩
abbrev main_v72_0 : Ref sig .tc := ⟨.hbm, 85, rfl⟩
abbrev main_v72_1 : Ref sig .tc := ⟨.hbm, 86, rfl⟩
abbrev main_v72_2 : Ref sig .tc := ⟨.hbm, 87, rfl⟩
abbrev main_v72_3 : Ref sig .tc := ⟨.hbm, 88, rfl⟩
abbrev main_v72_4 : Ref sig .tc := ⟨.hbm, 89, rfl⟩
abbrev main_while0c_c_10 : Ref sig .tc := ⟨.hbm, 90, rfl⟩
abbrev main_while0c_v76 : Ref sig .tc := ⟨.hbm, 91, rfl⟩
abbrev main_while0b_call3_c : Ref sig .tc := ⟨.hbm, 92, rfl⟩
abbrev main_while0b_call3_c_0 : Ref sig .tc := ⟨.hbm, 93, rfl⟩
abbrev main_while0b_call3_v0 : Ref sig .tc := ⟨.hbm, 94, rfl⟩
abbrev main_while0b_v76 : Ref sig .tc := ⟨.hbm, 95, rfl⟩
abbrev main_while0b_call4_c : Ref sig .tc := ⟨.hbm, 96, rfl⟩
abbrev main_while0b_call4_c_0 : Ref sig .tc := ⟨.hbm, 97, rfl⟩
abbrev main_while0b_call4_v0 : Ref sig .tc := ⟨.hbm, 98, rfl⟩
abbrev main_while0b_v77 : Ref sig .tc := ⟨.hbm, 99, rfl⟩
abbrev main_while0b_call5_c : Ref sig .tc := ⟨.hbm, 100, rfl⟩
abbrev main_while0b_call5_c_0 : Ref sig .tc := ⟨.hbm, 101, rfl⟩
abbrev main_while0b_call5_v0 : Ref sig .tc := ⟨.hbm, 102, rfl⟩
abbrev main_while0b_v78 : Ref sig .tc := ⟨.hbm, 103, rfl⟩
abbrev main_while0b_v79 : Ref sig .tc := ⟨.hbm, 104, rfl⟩
abbrev main_while0b_v80 : Ref sig .tc := ⟨.hbm, 105, rfl⟩
abbrev main_while0b_v81 : Ref sig .tc := ⟨.hbm, 106, rfl⟩
abbrev main_while0b_v82 : Ref sig .tc := ⟨.hbm, 107, rfl⟩
abbrev main_while0b_v83 : Ref sig .tc := ⟨.hbm, 108, rfl⟩
abbrev main_while0b_v84 : Ref sig .tc := ⟨.hbm, 109, rfl⟩
abbrev main_while0b_v85 : Ref sig .tc := ⟨.hbm, 110, rfl⟩
abbrev main_while0b_v86 : Ref sig .tc := ⟨.hbm, 111, rfl⟩
abbrev main_while0b_v87 : Ref sig .tc := ⟨.hbm, 112, rfl⟩
abbrev main_while0b_v88 : Ref sig .tc := ⟨.hbm, 113, rfl⟩
abbrev main_while0b_c_10 : Ref sig .tc := ⟨.hbm, 114, rfl⟩
abbrev main_while0b_v89 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩

abbrev nD : Nat := 1
abbrev τ : Topo := Topo.v7x

variable {F : FTy → Type} [FloatOps F]

abbrev main_while0_count : Scf.Loop 32 := ⟨0#32, 256#32, 1#32⟩
-- ==== Pack.lean ====
abbrev S48x1024 : Shape := ⟨2, ![48, 1024]⟩
abbrev S8x1024 : Shape := ⟨2, ![8, 1024]⟩
abbrev S8x512 : Shape := ⟨2, ![8, 512]⟩
abbrev S40x1024 : Shape := ⟨2, ![40, 1024]⟩
abbrev S32x512 : Shape := ⟨2, ![32, 512]⟩
abbrev S128x512 : Shape := ⟨2, ![128, 512]⟩
abbrev S16x1024 : Shape := ⟨2, ![16, 1024]⟩
abbrev S1024 : Shape := ⟨1, ![1024]⟩
abbrev S1x1024 : Shape := ⟨2, ![1, 1024]⟩
abbrev S512 : Shape := ⟨1, ![512]⟩
abbrev S1x512 : Shape := ⟨2, ![1, 512]⟩
abbrev S1x128 : Shape := ⟨2, ![1, 128]⟩

abbrev nBuf : Space → Nat
  | .hbm => 11
  | .vmem => 11
  | .smem => 0
  | _ => 0

abbrev bufTy : (tb : Table) → Fin (tcTables nBuf tb) → BufTy
  | .hbm, ⟨0, _⟩ => ⟨S48x1024, .f32⟩
  | .hbm, ⟨1, _⟩ => ⟨S8x1024, .f32⟩
  | .hbm, ⟨2, _⟩ => ⟨S8x512, .f32⟩
  | .hbm, ⟨3, _⟩ => ⟨S40x1024, .f32⟩
  | .hbm, ⟨4, _⟩ => ⟨S8x1024, .f32⟩
  | .hbm, ⟨5, _⟩ => ⟨S32x512, .f32⟩
  | .hbm, ⟨6, _⟩ => ⟨S128x512, .f32⟩
  | .hbm, ⟨7, _⟩ => ⟨S128x512, .f32⟩
  | .hbm, ⟨8, _⟩ => ⟨S16x1024, .f32⟩
  | .hbm, ⟨9, _⟩ => ⟨S32x512, .f32⟩
  | .hbm, ⟨10, _⟩ => ⟨S32x512, .f32⟩
  | .local _ .vmem, ⟨0, _⟩ => ⟨S48x1024, .f32⟩
  | .local _ .vmem, ⟨1, _⟩ => ⟨S8x1024, .f32⟩
  | .local _ .vmem, ⟨2, _⟩ => ⟨S8x512, .f32⟩
  | .local _ .vmem, ⟨3, _⟩ => ⟨S40x1024, .f32⟩
  | .local _ .vmem, ⟨4, _⟩ => ⟨S8x1024, .f32⟩
  | .local _ .vmem, ⟨5, _⟩ => ⟨S32x512, .f32⟩
  | .local _ .vmem, ⟨6, _⟩ => ⟨S128x512, .f32⟩
  | .local _ .vmem, ⟨7, _⟩ => ⟨S128x512, .f32⟩
  | .local _ .vmem, ⟨8, _⟩ => ⟨S16x1024, .f32⟩
  | .local _ .vmem, ⟨9, _⟩ => ⟨S32x512, .f32⟩
  | .local _ .vmem, ⟨10, _⟩ => ⟨S32x512, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== PackRefIdeal.lean ====
abbrev S48x1024 : Shape := ⟨2, ![48, 1024]⟩
abbrev S8x1024 : Shape := ⟨2, ![8, 1024]⟩
abbrev S8x512 : Shape := ⟨2, ![8, 512]⟩
abbrev S40x1024 : Shape := ⟨2, ![40, 1024]⟩
abbrev S32x512 : Shape := ⟨2, ![32, 512]⟩
abbrev S128x512 : Shape := ⟨2, ![128, 512]⟩
abbrev S6x8x1024 : Shape := ⟨3, ![6, 8, 1024]⟩
abbrev S_ : Shape := ⟨0, ![]⟩
abbrev S6x1024 : Shape := ⟨2, ![6, 1024]⟩
abbrev S5x8x1024 : Shape := ⟨3, ![5, 8, 1024]⟩
abbrev S5x1024 : Shape := ⟨2, ![5, 1024]⟩
abbrev S1024 : Shape := ⟨1, ![1024]⟩
abbrev S512 : Shape := ⟨1, ![512]⟩
abbrev S4x128 : Shape := ⟨2, ![4, 128]⟩
abbrev S128 : Shape := ⟨1, ![128]⟩
abbrev S1x1024 : Shape := ⟨2, ![1, 1024]⟩
abbrev S16x1024 : Shape := ⟨2, ![16, 1024]⟩

abbrev nBuf : Space → Nat
  | .hbm => 77
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S8x1024, .f32⟩
  | .hbm, ⟨2, _⟩ => ⟨S8x512, .f32⟩
  | .hbm, ⟨3, _⟩ => ⟨S40x1024, .f32⟩
  | .hbm, ⟨4, _⟩ => ⟨S8x1024, .f32⟩
  | .hbm, ⟨5, _⟩ => ⟨S32x512, .f32⟩
  | .hbm, ⟨6, _⟩ => ⟨S128x512, .f32⟩
  | .hbm, ⟨7, _⟩ => ⟨S128x512, .f32⟩
  | .hbm, ⟨8, _⟩ => ⟨S6x8x1024, .f32⟩
  | .hbm, ⟨9, _⟩ => ⟨S_, .f32⟩
  | .hbm, ⟨10, _⟩ => ⟨S6x1024, .f32⟩
  | .hbm, ⟨11, _⟩ => ⟨S5x8x1024, .f32⟩
  | .hbm, ⟨12, _⟩ => ⟨S_, .f32⟩
  | .hbm, ⟨13, _⟩ => ⟨S5x1024, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S512, .f32⟩
  | .hbm, ⟨18, _⟩ => ⟨S4x128, .f32⟩
  | .hbm, ⟨19, _⟩ => ⟨S_, .f32⟩
  | .hbm, ⟨20, _⟩ => ⟨S128, .f32⟩
  | .hbm, ⟨21, _⟩ => ⟨S_, .i32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1024, .f32⟩
  | .hbm, ⟨53, _⟩ => ⟨S1024, .f32⟩
  | .hbm, ⟨54, _⟩ => ⟨S1x1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S16x1024, .f32⟩
  | .hbm, ⟨75, _⟩ => ⟨S128x512, .f32⟩
  | .hbm, ⟨76, _⟩ => ⟨S32x512, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_c : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Proof.Trip.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384
set_option maxHeartbeats 4000000

noncomputable section

namespace Cert.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one trip of the chunk loop holds: the ten blocks it reads at their contents, the six blocks and the
    state it writes at theirs. -/
abbrev Held (c : Dev nD)
    (a1 : Memref sig .tc .vmem S512x512 .bf16)
    (a2 : Memref sig .tc .vmem S512x512 .bf16)
    (a3 : Memref sig .tc .vmem S512x256 .f32)
    (a4 : Memref sig .tc .vmem S512x512 .bf16)
    (a5 : Memref sig .tc .vmem S8x2x128x128 .f32)
    (a6 : Memref sig .tc .vmem S512x512 .bf16)
    (a7 : Memref sig .tc .vmem S512x512 .bf16)
    (a8 : Memref sig .tc .vmem S512x256 .f32)
    (a9 : Memref sig .tc .vmem S512x512 .bf16)
    (a10 : Memref sig .tc .vmem S8x2x128x128 .f32)
    (a11 : Memref sig .tc .vmem S512x512 .bf16)
    (a12 : Memref sig .tc .vmem S512x512 .bf16)
    (a13 : Memref sig .tc .vmem S512x256 .f32)
    (a14 : Memref sig .tc .vmem S512x512 .bf16)
    (a15 : Memref sig .tc .vmem S512x512 .bf16)
    (a16 : Memref sig .tc .vmem S512x256 .f32)
    (a18 : Memref sig .tc .vmem S2x2x128x128 .f32)
    (X1 : BufTy.Contents (Elt F) a1.view.ty)
    (X2 : BufTy.Contents (Elt F) a2.view.ty)
    (X3 : BufTy.Contents (Elt F) a3.view.ty)
    (X4 : BufTy.Contents (Elt F) a4.view.ty)
    (X5 : BufTy.Contents (Elt F) a5.view.ty)
    (X6 : BufTy.Contents (Elt F) a6.view.ty)
    (X7 : BufTy.Contents (Elt F) a7.view.ty)
    (X8 : BufTy.Contents (Elt F) a8.view.ty)
    (X9 : BufTy.Contents (Elt F) a9.view.ty)
    (X10 : BufTy.Contents (Elt F) a10.view.ty)
    (f11 : BufTy.Contents (Elt F) a11.view.ty)
    (f12 : BufTy.Contents (Elt F) a12.view.ty)
    (f13 : BufTy.Contents (Elt F) a13.view.ty)
    (f14 : BufTy.Contents (Elt F) a14.view.ty)
    (f15 : BufTy.Contents (Elt F) a15.view.ty)
    (f16 : BufTy.Contents (Elt F) a16.view.ty)
    (f18 : BufTy.Contents (Elt F) a18.view.ty)
    : sProp 𝕄 :=
  iprop((a1.view.loc (c : Thread nD τ) ↦[a1.view.set]{fullShare} X1) ∗ (a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a6.view.loc (c : Thread nD τ) ↦[a6.view.set]{fullShare} X6) ∗ (a7.view.loc (c : Thread nD τ) ↦[a7.view.set]{fullShare} X7) ∗ (a8.view.loc (c : Thread nD τ) ↦[a8.view.set]{fullShare} X8) ∗ (a9.view.loc (c : Thread nD τ) ↦[a9.view.set]{fullShare} X9) ∗ (a10.view.loc (c : Thread nD τ) ↦[a10.view.set]{fullShare} X10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16) ∗ (a18.view.loc (c : Thread nD τ) ↦[a18.view.set]{fullShare} f18))

/-- One trip at a symbolic trip number: the pieces it writes are what the run finds, each a function of the
    state contents the trip starts from. -/
@[irreducible] def trip (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x256 .f32) (h3 : a3.IsWhole)
    (a4 : Memref sig .tc .vmem S512x512 .bf16) (h4 : a4.IsWhole)
    (a5 : Memref sig .tc .vmem S8x2x128x128 .f32) (h5 : a5.IsWhole)
    (a6 : Memref sig .tc .vmem S512x512 .bf16) (h6 : a6.IsWhole)
    (a7 : Memref sig .tc .vmem S512x512 .bf16) (h7 : a7.IsWhole)
    (a8 : Memref sig .tc .vmem S512x256 .f32) (h8 : a8.IsWhole)
    (a9 : Memref sig .tc .vmem S512x512 .bf16) (h9 : a9.IsWhole)
    (a10 : Memref sig .tc .vmem S8x2x128x128 .f32) (h10 : a10.IsWhole)
    (a11 : Memref sig .tc .vmem S512x512 .bf16) (h11 : a11.IsWhole)
    (a12 : Memref sig .tc .vmem S512x512 .bf16) (h12 : a12.IsWhole)
    (a13 : Memref sig .tc .vmem S512x256 .f32) (h13 : a13.IsWhole)
    (a14 : Memref sig .tc .vmem S512x512 .bf16) (h14 : a14.IsWhole)
    (a15 : Memref sig .tc .vmem S512x512 .bf16) (h15 : a15.IsWhole)
    (a16 : Memref sig .tc .vmem S512x256 .f32) (h16 : a16.IsWhole)
    (a17 : Memref sig .tc .vmem S2x2x128x128 .f32) (h17 : a17.IsWhole)
    (a18 : Memref sig .tc .vmem S2x2x128x128 .f32) (h18 : a18.IsWhole)
    (X1 : BufTy.Contents (Elt F) a1.view.ty)
    (X2 : BufTy.Contents (Elt F) a2.view.ty)
    (X3 : BufTy.Contents (Elt F) a3.view.ty)
    (X4 : BufTy.Contents (Elt F) a4.view.ty)
    (X5 : BufTy.Contents (Elt F) a5.view.ty)
    (X6 : BufTy.Contents (Elt F) a6.view.ty)
    (X7 : BufTy.Contents (Elt F) a7.view.ty)
    (X8 : BufTy.Contents (Elt F) a8.view.ty)
    (X9 : BufTy.Contents (Elt F) a9.view.ty)
    (X10 : BufTy.Contents (Elt F) a10.view.ty)
    (k : Fin k0_t1_loop.trips) :
    Σ' (L11 : BufTy.Contents (Elt F) a18.view.ty → List (View.Piece (Elt F) S512x512 .bf16)),
    Σ' (L12 : BufTy.Contents (Elt F) a18.view.ty → List (View.Piece (Elt F) S512x512 .bf16)),
    Σ' (L13 : BufTy.Contents (Elt F) a18.view.ty → List (View.Piece (Elt F) S512x256 .f32)),
    Σ' (L14 : BufTy.Contents (Elt F) a18.view.ty → List (View.Piece (Elt F) S512x512 .bf16)),
    Σ' (L15 : BufTy.Contents (Elt F) a18.view.ty → List (View.Piece (Elt F) S512x512 .bf16)),
    Σ' (L16 : BufTy.Contents (Elt F) a18.view.ty → List (View.Piece (Elt F) S512x256 .f32)),
    { L18 : BufTy.Contents (Elt F) a18.view.ty → List (View.Piece (Elt F) S2x2x128x128 .f32) //
      ∀ (E : Set ℕ) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f18 : BufTy.Contents (Elt F) a18.view.ty),
        Held (F := F) c a1 a2 a3 a4 a5 a6 a7 a8 a9 a10 a11 a12 a13 a14 a15 a16 a18 X1 X2 X3 X4 X5 X6 X7 X8 X9 X10 f11 f12 f13 f14 f15 f16 f18
        ⊢ wp frame (wpE (defs₀ (F := F)) Variants.none (c : Thread nD τ) none) E (k0_t1_body (F := F) i a1 h1 a2 h2 a3 h3 a4 h4 a5 h5 a6 h6 a7 h7 a8 h8 a9 h9 a10 h10 a11 h11 a12 h12 a13 h13 a14 h14 a15 h15 a16 h16 a17 h17 a18 h18 k PUnit.unit)
            (fun _ => Held (F := F) c a1 a2 a3 a4 a5 a6 a7 a8 a9 a10 a11 a12 a13 a14 a15 a16 a18 X1 X2 X3 X4 X5 X6 X7 X8 X9 X10 (a11.view.writes (Elt F) f11 (L11 f18)) (a12.view.writes (Elt F) f12 (L12 f18)) (a13.view.writes (Elt F) f13 (L13 f18)) (a14.view.writes (Elt F) f14 (L14 f18)) (a15.view.writes (Elt F) f15 (L15 f18)) (a16.view.writes (Elt F) f16 (L16 f18)) (a18.view.writes (Elt F) f18 (L18 f18))) } := by
  have hk : k.val < 8 := Nat.lt_of_lt_of_le k.isLt k0_t1_abs.2.1
  refine ⟨?_, ?_, ?_, ?_, ?_, ?_, ?_, fun E f11 f12 f13 f14 f15 f16 f18 => ?run⟩
  case run =>
    unfold k0_t1_body
    iintro ⟨HR1, HR2, HR3, HR4, HR5, HR6, HR7, HR8, HR9, HR10, HW11, HW12, HW13, HW14, HW15, HW16, HW18⟩
    sl_exec
    sl_step
    sl_close

end Cert.Gla

end
-- ==== Proof.Loop.lean ====
module

public import proofs.«01_k».proof.Proof.Trip

@[expose] public section

set_option maxRecDepth 16384
set_option maxHeartbeats 4000000

noncomputable section

namespace Cert.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x256 .f32) (h3 : a3.IsWhole)
    (a4 : Memref sig .tc .vmem S512x512 .bf16) (h4 : a4.IsWhole)
    (a5 : Memref sig .tc .vmem S8x2x128x128 .f32) (h5 : a5.IsWhole)
    (a6 : Memref sig .tc .vmem S512x512 .bf16) (h6 : a6.IsWhole)
    (a7 : Memref sig .tc .vmem S512x512 .bf16) (h7 : a7.IsWhole)
    (a8 : Memref sig .tc .vmem S512x256 .f32) (h8 : a8.IsWhole)
    (a9 : Memref sig .tc .vmem S512x512 .bf16) (h9 : a9.IsWhole)
    (a10 : Memref sig .tc .vmem S8x2x128x128 .f32) (h10 : a10.IsWhole)
    (a11 : Memref sig .tc .vmem S512x512 .bf16) (h11 : a11.IsWhole)
    (a12 : Memref sig .tc .vmem S512x512 .bf16) (h12 : a12.IsWhole)
    (a13 : Memref sig .tc .vmem S512x256 .f32) (h13 : a13.IsWhole)
    (a14 : Memref sig .tc .vmem S512x512 .bf16) (h14 : a14.IsWhole)
    (a15 : Memref sig .tc .vmem S512x512 .bf16) (h15 : a15.IsWhole)
    (a16 : Memref sig .tc .vmem S512x256 .f32) (h16 : a16.IsWhole)
    (a17 : Memref sig .tc .vmem S2x2x128x128 .f32) (h17 : a17.IsWhole)
    (a18 : Memref sig .tc .vmem S2x2x128x128 .f32) (h18 : a18.IsWhole)
    (X1 : BufTy.Contents (Elt F) a1.view.ty)
    (X2 : BufTy.Contents (Elt F) a2.view.ty)
    (X3 : BufTy.Contents (Elt F) a3.view.ty)
    (X4 : BufTy.Contents (Elt F) a4.view.ty)
    (X5 : BufTy.Contents (Elt F) a5.view.ty)
    (X6 : BufTy.Contents (Elt F) a6.view.ty)
    (X7 : BufTy.Contents (Elt F) a7.view.ty)
    (X8 : BufTy.Contents (Elt F) a8.view.ty)
    (X9 : BufTy.Contents (Elt F) a9.view.ty)
    (X10 : BufTy.Contents (Elt F) a10.view.ty)

/-- The state's contents before trip `n`, from the contents the loop starts with. -/
def st (g : BufTy.Contents (Elt F) a18.view.ty) : ℕ → BufTy.Contents (Elt F) a18.view.ty
  | 0 => g
  | n + 1 => if h : n < k0_t1_loop.trips then a18.view.writes (Elt F) (st g n) ((trip c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 ⟨n, h⟩).2.2.2.2.2.2.1 (st g n)) else st g n

/-- The contents of output block 0 before trip `n`. -/
def ob11 (g : BufTy.Contents (Elt F) a18.view.ty) (f : BufTy.Contents (Elt F) a11.view.ty) : ℕ → BufTy.Contents (Elt F) a11.view.ty
  | 0 => f
  | n + 1 => if h : n < k0_t1_loop.trips then a11.view.writes (Elt F) (ob11 g f n) ((trip c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 ⟨n, h⟩).1 (st c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g n)) else ob11 g f n

/-- The contents of output block 1 before trip `n`. -/
def ob12 (g : BufTy.Contents (Elt F) a18.view.ty) (f : BufTy.Contents (Elt F) a12.view.ty) : ℕ → BufTy.Contents (Elt F) a12.view.ty
  | 0 => f
  | n + 1 => if h : n < k0_t1_loop.trips then a12.view.writes (Elt F) (ob12 g f n) ((trip c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 ⟨n, h⟩).2.1 (st c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g n)) else ob12 g f n

/-- The contents of output block 2 before trip `n`. -/
def ob13 (g : BufTy.Contents (Elt F) a18.view.ty) (f : BufTy.Contents (Elt F) a13.view.ty) : ℕ → BufTy.Contents (Elt F) a13.view.ty
  | 0 => f
  | n + 1 => if h : n < k0_t1_loop.trips then a13.view.writes (Elt F) (ob13 g f n) ((trip c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 ⟨n, h⟩).2.2.1 (st c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g n)) else ob13 g f n

/-- The contents of output block 3 before trip `n`. -/
def ob14 (g : BufTy.Contents (Elt F) a18.view.ty) (f : BufTy.Contents (Elt F) a14.view.ty) : ℕ → BufTy.Contents (Elt F) a14.view.ty
  | 0 => f
  | n + 1 => if h : n < k0_t1_loop.trips then a14.view.writes (Elt F) (ob14 g f n) ((trip c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 ⟨n, h⟩).2.2.2.1 (st c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g n)) else ob14 g f n

/-- The contents of output block 4 before trip `n`. -/
def ob15 (g : BufTy.Contents (Elt F) a18.view.ty) (f : BufTy.Contents (Elt F) a15.view.ty) : ℕ → BufTy.Contents (Elt F) a15.view.ty
  | 0 => f
  | n + 1 => if h : n < k0_t1_loop.trips then a15.view.writes (Elt F) (ob15 g f n) ((trip c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 ⟨n, h⟩).2.2.2.2.1 (st c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g n)) else ob15 g f n

/-- The contents of output block 5 before trip `n`. -/
def ob16 (g : BufTy.Contents (Elt F) a18.view.ty) (f : BufTy.Contents (Elt F) a16.view.ty) : ℕ → BufTy.Contents (Elt F) a16.view.ty
  | 0 => f
  | n + 1 => if h : n < k0_t1_loop.trips then a16.view.writes (Elt F) (ob16 g f n) ((trip c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 ⟨n, h⟩).2.2.2.2.2.1 (st c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g n)) else ob16 g f n

/-- The chunk loop: before trip `k` the blocks and the state hold what the trips before left. -/
@[sl_loop] def loopInv
    (g11 : BufTy.Contents (Elt F) a11.view.ty)
    (g12 : BufTy.Contents (Elt F) a12.view.ty)
    (g13 : BufTy.Contents (Elt F) a13.view.ty)
    (g14 : BufTy.Contents (Elt F) a14.view.ty)
    (g15 : BufTy.Contents (Elt F) a15.view.ty)
    (g16 : BufTy.Contents (Elt F) a16.view.ty)
    (g18 : BufTy.Contents (Elt F) a18.view.ty) :
    LoopInvTy_k0_t1 (F := F) Unit ℕ (UR sig nD τ) ℕ Variants.none c none Set.univ i a1 h1 a2 h2 a3 h3 a4 h4 a5 h5 a6 h6 a7 h7 a8 h8 a9 h9 a10 h10 a11 h11 a12 h12 a13 h13 a14 h14 a15 h15 a16 h16 a17 h17 a18 h18 where
  inv k _ := Held (F := F) c a1 a2 a3 a4 a5 a6 a7 a8 a9 a10 a11 a12 a13 a14 a15 a16 a18 X1 X2 X3 X4 X5 X6 X7 X8 X9 X10 (ob11 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g18 g11 k) (ob12 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g18 g12 k) (ob13 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g18 g13 k) (ob14 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g18 g14 k) (ob15 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g18 g15 k) (ob16 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g18 g16 k) (st c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 g18 k)
  step k acc := by
    simp only [st, ob11, ob12, ob13, ob14, ob15, ob16, Fin.is_lt, dite_true, Fin.eta]
    exact (trip c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 k).2.2.2.2.2.2.2 Set.univ _ _ _ _ _ _ _

end

end Cert.Gla

end
-- ==== Proof.Body.lean ====
module

public import proofs.«01_k».proof.Proof.Loop

@[expose] public section

set_option maxRecDepth 16384
set_option maxHeartbeats 4000000

noncomputable section

namespace Cert.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first point, in the grid coordinates. -/
abbrev cond0 (i : grid0.Coords) : Prop := (Scalar.cmpi .ne (Scalar.extui (Scalar.cmpi .eq (BitVec.ofNat 32 (i 0).val) 0#32)) 0#32) = 1#1

/-- The store of zeros that starts the state. -/
def zero0 : List (View.Piece (Elt F) S2x2x128x128 .f32) :=
  [⟨Rect.unit (s := S2x2x128x128) ![0, 0, 0, 0] S2x2x128x128.size inb_S2x2x128x128_S2x2x128x128_0_0_0_0, k0_pay1 (F := F)⟩]

variable (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x256 .f32) (h3 : a3.IsWhole)
    (a4 : Memref sig .tc .vmem S512x512 .bf16) (h4 : a4.IsWhole)
    (a5 : Memref sig .tc .vmem S8x2x128x128 .f32) (h5 : a5.IsWhole)
    (a6 : Memref sig .tc .vmem S512x512 .bf16) (h6 : a6.IsWhole)
    (a7 : Memref sig .tc .vmem S512x512 .bf16) (h7 : a7.IsWhole)
    (a8 : Memref sig .tc .vmem S512x256 .f32) (h8 : a8.IsWhole)
    (a9 : Memref sig .tc .vmem S512x512 .bf16) (h9 : a9.IsWhole)
    (a10 : Memref sig .tc .vmem S8x2x128x128 .f32) (h10 : a10.IsWhole)
    (a11 : Memref sig .tc .vmem S512x512 .bf16) (h11 : a11.IsWhole)
    (a12 : Memref sig .tc .vmem S512x512 .bf16) (h12 : a12.IsWhole)
    (a13 : Memref sig .tc .vmem S512x256 .f32) (h13 : a13.IsWhole)
    (a14 : Memref sig .tc .vmem S512x512 .bf16) (h14 : a14.IsWhole)
    (a15 : Memref sig .tc .vmem S512x512 .bf16) (h15 : a15.IsWhole)
    (a16 : Memref sig .tc .vmem S512x256 .f32) (h16 : a16.IsWhole)
    (a17 : Memref sig .tc .vmem S2x2x128x128 .f32) (h17 : a17.IsWhole)
    (a18 : Memref sig .tc .vmem S2x2x128x128 .f32) (h18 : a18.IsWhole)
    (X1 : BufTy.Contents (Elt F) a1.view.ty)
    (X2 : BufTy.Contents (Elt F) a2.view.ty)
    (X3 : BufTy.Contents (Elt F) a3.view.ty)
    (X4 : BufTy.Contents (Elt F) a4.view.ty)
    (X5 : BufTy.Contents (Elt F) a5.view.ty)
    (X6 : BufTy.Contents (Elt F) a6.view.ty)
    (X7 : BufTy.Contents (Elt F) a7.view.ty)
    (X8 : BufTy.Contents (Elt F) a8.view.ty)
    (X9 : BufTy.Contents (Elt F) a9.view.ty)
    (X10 : BufTy.Contents (Elt F) a10.view.ty)

/-- The first point: the state starts at zero. -/
theorem run_first
    (hc0 : cond0 i) (hc1 : ¬k0_cond2 i = 1#1)  :
    ∀ (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty),
      iprop((a17.view.loc (c : Thread nD τ) ↦[a17.view.set]{fullShare} f17) ∗ Held (F := F) c a1 a2 a3 a4 a5 a6 a7 a8 a9 a10 a11 a12 a13 a14 a15 a16 a18 X1 X2 X3 X4 X5 X6 X7 X8 X9 X10 f11 f12 f13 f14 f15 f16 f18)
        ⊢ wp frame (wpE (defs₀ (F := F)) Variants.none (c : Thread nD τ) none) Set.univ (cc0_gla_bwd (F := F) i a1 h1 a2 h2 a3 h3 a4 h4 a5 h5 a6 h6 a7 h7 a8 h8 a9 h9 a10 h10 a11 h11 a12 h12 a13 h13 a14 h14 a15 h15 a16 h16 a17 h17 a18 h18)
            (fun _ => iprop((a17.view.loc (c : Thread nD τ) ↦[a17.view.set]{fullShare} f17) ∗ Held (F := F) c a1 a2 a3 a4 a5 a6 a7 a8 a9 a10 a11 a12 a13 a14 a15 a16 a18 X1 X2 X3 X4 X5 X6 X7 X8 X9 X10 (ob11 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 (a18.view.writes (Elt F) a18.view.junk zero0) f11 k0_t1_loop.trips) (ob12 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 (a18.view.writes (Elt F) a18.view.junk zero0) f12 k0_t1_loop.trips) (ob13 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 (a18.view.writes (Elt F) a18.view.junk zero0) f13 k0_t1_loop.trips) (ob14 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 (a18.view.writes (Elt F) a18.view.junk zero0) f14 k0_t1_loop.trips) (ob15 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 (a18.view.writes (Elt F) a18.view.junk zero0) f15 k0_t1_loop.trips) (ob16 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 (a18.view.writes (Elt F) a18.view.junk zero0) f16 k0_t1_loop.trips) (st c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 (a18.view.writes (Elt F) a18.view.junk zero0) k0_t1_loop.trips))) := by
  intro f11 f12 f13 f14 f15 f16 f17 f18
  simp only [cc0_gla_bwd_eq_skeleton]; unfold cc0_gla_bwd_skel
  iintro ⟨H17, HR1, HR2, HR3, HR4, HR5, HR6, HR7, HR8, HR9, HR10, HW11, HW12, HW13, HW14, HW15, HW16, HW18⟩
  sl_exec (disch := first | sl_exact hc0 | sl_exact hc1)
  sl_step
  unfold zero0
  sl_close

/-- A point between: the state is carried on. -/
theorem run_mid
    (hc0 : ¬cond0 i) (hc1 : ¬k0_cond2 i = 1#1)  :
    ∀ (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty),
      iprop((a17.view.loc (c : Thread nD τ) ↦[a17.view.set]{fullShare} f17) ∗ Held (F := F) c a1 a2 a3 a4 a5 a6 a7 a8 a9 a10 a11 a12 a13 a14 a15 a16 a18 X1 X2 X3 X4 X5 X6 X7 X8 X9 X10 f11 f12 f13 f14 f15 f16 f18)
        ⊢ wp frame (wpE (defs₀ (F := F)) Variants.none (c : Thread nD τ) none) Set.univ (cc0_gla_bwd (F := F) i a1 h1 a2 h2 a3 h3 a4 h4 a5 h5 a6 h6 a7 h7 a8 h8 a9 h9 a10 h10 a11 h11 a12 h12 a13 h13 a14 h14 a15 h15 a16 h16 a17 h17 a18 h18)
            (fun _ => iprop((a17.view.loc (c : Thread nD τ) ↦[a17.view.set]{fullShare} f17) ∗ Held (F := F) c a1 a2 a3 a4 a5 a6 a7 a8 a9 a10 a11 a12 a13 a14 a15 a16 a18 X1 X2 X3 X4 X5 X6 X7 X8 X9 X10 (ob11 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f11 k0_t1_loop.trips) (ob12 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f12 k0_t1_loop.trips) (ob13 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f13 k0_t1_loop.trips) (ob14 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f14 k0_t1_loop.trips) (ob15 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f15 k0_t1_loop.trips) (ob16 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f16 k0_t1_loop.trips) (st c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 k0_t1_loop.trips))) := by
  intro f11 f12 f13 f14 f15 f16 f17 f18
  simp only [cc0_gla_bwd_eq_skeleton]; unfold cc0_gla_bwd_skel
  iintro ⟨H17, HR1, HR2, HR3, HR4, HR5, HR6, HR7, HR8, HR9, HR10, HW11, HW12, HW13, HW14, HW15, HW16, HW18⟩
  sl_exec (disch := first | sl_exact hc0 | sl_exact hc1)
  sl_step
  sl_close

/-- The last point: the state is also stored into the last result. -/
def run_last
    (hc0 : ¬cond0 i) (hc1 : k0_cond2 i = 1#1) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty) :
    { L1 : List (View.Piece (Elt F) S2x2x128x128 .f32) //
      iprop((a17.view.loc (c : Thread nD τ) ↦[a17.view.set]{fullShare} f17) ∗ Held (F := F) c a1 a2 a3 a4 a5 a6 a7 a8 a9 a10 a11 a12 a13 a14 a15 a16 a18 X1 X2 X3 X4 X5 X6 X7 X8 X9 X10 f11 f12 f13 f14 f15 f16 f18)
        ⊢ wp frame (wpE (defs₀ (F := F)) Variants.none (c : Thread nD τ) none) Set.univ (cc0_gla_bwd (F := F) i a1 h1 a2 h2 a3 h3 a4 h4 a5 h5 a6 h6 a7 h7 a8 h8 a9 h9 a10 h10 a11 h11 a12 h12 a13 h13 a14 h14 a15 h15 a16 h16 a17 h17 a18 h18)
            (fun _ => iprop((a17.view.loc (c : Thread nD τ) ↦[a17.view.set]{fullShare} a17.view.writes (Elt F) f17 L1) ∗ Held (F := F) c a1 a2 a3 a4 a5 a6 a7 a8 a9 a10 a11 a12 a13 a14 a15 a16 a18 X1 X2 X3 X4 X5 X6 X7 X8 X9 X10 (ob11 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f11 k0_t1_loop.trips) (ob12 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f12 k0_t1_loop.trips) (ob13 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f13 k0_t1_loop.trips) (ob14 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f14 k0_t1_loop.trips) (ob15 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f15 k0_t1_loop.trips) (ob16 c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 f16 k0_t1_loop.trips) (st c i a1 h1 a2 h2 a3 h3 a4 h4 a5 h5 a6 h6 a7 h7 a8 h8 a9 h9 a10 h10 a11 h11 a12 h12 a13 h13 a14 h14 a15 h15 a16 h16 a17 h17 a18 h18 X1 X2 X3 X4 X5 X6 X7 X8 X9 X10 f18 k0_t1_loop.trips))) } := by
  refine ⟨?_, ?run⟩
  case run =>
    simp only [cc0_gla_bwd_eq_skeleton]; unfold cc0_gla_bwd_skel
    iintro ⟨H17, HR1, HR2, HR3, HR4, HR5, HR6, HR7, HR8, HR9, HR10, HW11, HW12, HW13, HW14, HW15, HW16, HW18⟩
    sl_exec (disch := first | sl_exact hc0 | sl_exact hc1)
    sl_step
    sl_close

end Cert.Gla

end
-- ==== Proof.GlaFrame.lean ====
module

public import proofs.«01_k».proof.Defs
public import proofs.«01_k».proof.Proof.Gen.Kernel
public import proofs.«01_k».proof.Proof.Body
public import Idealize.ShloMosaic.Adequacy
public import Idealize.ShloMosaic.Init

@[expose] public section

set_option maxRecDepth 16384
set_option maxHeartbeats 4000000

noncomputable section

namespace Cert.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

local notation "𝕄" => MT nD τ sig Unit (Elt F) ℕ (UR sig nD τ) ℕ

theorem hcond0 : ∀ t : Fin cfg0.N, cond0 (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    rw [show (t.val = 0 ↔ t.val % 32 = 0) from by omega]
    simp only [cond0, e0]
    word_cmp
   : ∀ t : Fin grid0.N, cond0 (grid0.coords t) ↔ t.val = 0)

theorem hcond2 : ∀ t : Fin cfg0.N, k0_cond2 (grid0.coords t) = 1#1 ↔ t.val = 31 :=
  (by decide +kernel : ∀ t : Fin grid0.N, k0_cond2 (grid0.coords t) = 1#1 ↔ t.val = 31)

variable (m : (ℓ : Loc nD τ sig) → Buf (Elt F) ℓ) (ρ : Dev nD → PrngReg)

abbrev scM : Memref sig .tc .vmem S2x2x128x128 .f32 := Memref.whole cc0_scratch0

abbrev mm1 (t : Fin cfg0.N) : Memref sig .tc .vmem S512x512 .bf16 := win0_0.stage (cfg0.slots t 0)
abbrev hm1 (t : Fin cfg0.N) : (mm1 t).IsWhole := hstage0_0 ((cfg0.slots t 0).cast nbuf0_0)
abbrev mm2 (t : Fin cfg0.N) : Memref sig .tc .vmem S512x512 .bf16 := win0_1.stage (cfg0.slots t 1)
abbrev hm2 (t : Fin cfg0.N) : (mm2 t).IsWhole := hstage0_1 ((cfg0.slots t 1).cast nbuf0_1)
abbrev mm3 (t : Fin cfg0.N) : Memref sig .tc .vmem S512x256 .f32 := win0_2.stage (cfg0.slots t 2)
abbrev hm3 (t : Fin cfg0.N) : (mm3 t).IsWhole := hstage0_2 ((cfg0.slots t 2).cast nbuf0_2)
abbrev mm4 (t : Fin cfg0.N) : Memref sig .tc .vmem S512x512 .bf16 := win0_3.stage (cfg0.slots t 3)
abbrev hm4 (t : Fin cfg0.N) : (mm4 t).IsWhole := hstage0_3 ((cfg0.slots t 3).cast nbuf0_3)
abbrev mm5 (t : Fin cfg0.N) : Memref sig .tc .vmem S8x2x128x128 .f32 := win0_4.stage (cfg0.slots t 4)
abbrev hm5 (t : Fin cfg0.N) : (mm5 t).IsWhole := hstage0_4 ((cfg0.slots t 4).cast nbuf0_4)
abbrev mm6 (t : Fin cfg0.N) : Memref sig .tc .vmem S512x512 .bf16 := win0_5.stage (cfg0.slots t 5)
abbrev hm6 (t : Fin cfg0.N) : (mm6 t).IsWhole := hstage0_5 ((cfg0.slots t 5).cast nbuf0_5)
abbrev mm7 (t : Fin cfg0.N) : Memref sig .tc .vmem S512x512 .bf16 := win0_6.stage (cfg0.slots t 6)
abbrev hm7 (t : Fin cfg0.N) : (mm7 t).IsWhole := hstage0_6 ((cfg0.slots t 6).cast nbuf0_6)
abbrev mm8 (t : Fin cfg0.N) : Memref sig .tc .vmem S512x256 .f32 := win0_7.stage (cfg0.slots t 7)
abbrev hm8 (t : Fin cfg0.N) : (mm8 t).IsWhole := hstage0_7 ((cfg0.slots t 7).cast nbuf0_7)
abbrev mm9 (t : Fin cfg0.N) : Memref sig .tc .vmem S512x512 .bf16 := win0_8.stage (cfg0.slots t 8)
abbrev hm9 (t : Fin cfg0.N) : (mm9 t).IsWhole := hstage0_8 ((cfg0.slots t 8).cast nbuf0_8)
abbrev mm10 (t : Fin cfg0.N) : Memref sig .tc .vmem S8x2x128x128 .f32 := win0_9.stage (cfg0.slots t 9)
abbrev hm10 (t : Fin cfg0.N) : (mm10 t).IsWhole := hstage0_9 ((cfg0.slots t 9).cast nbuf0_9)
abbrev mm11 (t : Fin cfg0.N) : Memref sig .tc .vmem S512x512 .bf16 := win0_10.stage (cfg0.slots t 10)
abbrev hm11 (t : Fin cfg0.N) : (mm11 t).IsWhole := hstage0_10 ((cfg0.slots t 10).cast nbuf0_10)
abbrev mm12 (t : Fin cfg0.N) : Memref sig .tc .vmem S512x512 .bf16 := win0_11.stage (cfg0.slots t 11)
abbrev hm12 (t : Fin cfg0.N) : (mm12 t).IsWhole := hstage0_11 ((cfg0.slots t 11).cast nbuf0_11)
abbrev mm13 (t : Fin cfg0.N) : Memref sig .tc .vmem S512x256 .f32 := win0_12.stage (cfg0.slots t 12)
abbrev hm13 (t : Fin cfg0.N) : (mm13 t).IsWhole := hstage0_12 ((cfg0.slots t 12).cast nbuf0_12)
abbrev mm14 (t : Fin cfg0.N) : Memref sig .tc .vmem S512x512 .bf16 := win0_13.stage (cfg0.slots t 13)
abbrev hm14 (t : Fin cfg0.N) : (mm14 t).IsWhole := hstage0_13 ((cfg0.slots t 13).cast nbuf0_13)
abbrev mm15 (t : Fin cfg0.N) : Memref sig .tc .vmem S512x512 .bf16 := win0_14.stage (cfg0.slots t 14)
abbrev hm15 (t : Fin cfg0.N) : (mm15 t).IsWhole := hstage0_14 ((cfg0.slots t 14).cast nbuf0_14)
abbrev mm16 (t : Fin cfg0.N) : Memref sig .tc .vmem S512x256 .f32 := win0_15.stage (cfg0.slots t 15)
abbrev hm16 (t : Fin cfg0.N) : (mm16 t).IsWhole := hstage0_15 ((cfg0.slots t 15).cast nbuf0_15)
abbrev mm17 (t : Fin cfg0.N) : Memref sig .tc .vmem S2x2x128x128 .f32 := win0_16.stage (cfg0.slots t 16)
abbrev hm17 (t : Fin cfg0.N) : (mm17 t).IsWhole := hstage0_16 ((cfg0.slots t 16).cast nbuf0_16)

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The results: nothing of them is named for the frame. -/
def forgets : Fin 17 → Bool := fun w => 10 ≤ w.val

/-- The region's proof data for the frame: each operand's buffer keeps its block. -/
def fdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨n + 17, h⟩ => (Nat.not_lt_of_le (Nat.le_add_left 17 n) h).elim
  Φ _ := Pipeline.ΦA spec0 c
  q w := Pipeline.shareOf spec0 w
  owed _ := 0

theorem fdat_A (c : Dev nD) (w : Fin cfg0.W) : (fdat m 0 c).A w = V m c (Pipeline.arrRef spec0 w) := by
  dsimp only [fdat]

theorem fbefore0 (c : Dev nD) (t : Fin cfg0.N) (d) : (fdat m 0 c).before 0 t d = iblk m c 0 t :=
  before0_0_of m _ (fdat_A m c 0) (fun _ => by dsimp only [fdat]) t d
theorem fbefore1 (c : Dev nD) (t : Fin cfg0.N) (d) : (fdat m 0 c).before 1 t d = iblk m c 1 t :=
  before0_1_of m _ (fdat_A m c 1) (fun _ => by dsimp only [fdat]) t d
theorem fbefore2 (c : Dev nD) (t : Fin cfg0.N) (d) : (fdat m 0 c).before 2 t d = iblk m c 2 t :=
  before0_2_of m _ (fdat_A m c 2) (fun _ => by dsimp only [fdat]) t d
theorem fbefore3 (c : Dev nD) (t : Fin cfg0.N) (d) : (fdat m 0 c).before 3 t d = iblk m c 3 t :=
  before0_3_of m _ (fdat_A m c 3) (fun _ => by dsimp only [fdat]) t d
theorem fbefore4 (c : Dev nD) (t : Fin cfg0.N) (d) : (fdat m 0 c).before 4 t d = iblk m c 4 t :=
  before0_4_of m _ (fdat_A m c 4) (fun _ => by dsimp only [fdat]) t d
theorem fbefore5 (c : Dev nD) (t : Fin cfg0.N) (d) : (fdat m 0 c).before 5 t d = iblk m c 5 t :=
  before0_5_of m _ (fdat_A m c 5) (fun _ => by dsimp only [fdat]) t d
theorem fbefore6 (c : Dev nD) (t : Fin cfg0.N) (d) : (fdat m 0 c).before 6 t d = iblk m c 6 t :=
  before0_6_of m _ (fdat_A m c 6) (fun _ => by dsimp only [fdat]) t d
theorem fbefore7 (c : Dev nD) (t : Fin cfg0.N) (d) : (fdat m 0 c).before 7 t d = iblk m c 7 t :=
  before0_7_of m _ (fdat_A m c 7) (fun _ => by dsimp only [fdat]) t d
theorem fbefore8 (c : Dev nD) (t : Fin cfg0.N) (d) : (fdat m 0 c).before 8 t d = iblk m c 8 t :=
  before0_8_of m _ (fdat_A m c 8) (fun _ => by dsimp only [fdat]) t d
theorem fbefore9 (c : Dev nD) (t : Fin cfg0.N) (d) : (fdat m 0 c).before 9 t d = iblk m c 9 t :=
  before0_9_of m _ (fdat_A m c 9) (fun _ => by dsimp only [fdat]) t d

def fpre (c : Dev nD) (t : Fin cfg0.N) : sProp 𝕄 :=
  iprop((fdat m 0 c).Φ t.castSucc ∗ (fdat m 0 c).owesAt () t.castSucc
    ∗ (∃ d, owns (c : Thread nD τ) (mm1 t) fullShare ((fdat m 0 c).before 0 t d))
    ∗ (∃ d, owns (c : Thread nD τ) (mm2 t) fullShare ((fdat m 0 c).before 1 t d))
    ∗ (∃ d, owns (c : Thread nD τ) (mm3 t) fullShare ((fdat m 0 c).before 2 t d))
    ∗ (∃ d, owns (c : Thread nD τ) (mm4 t) fullShare ((fdat m 0 c).before 3 t d))
    ∗ (∃ d, owns (c : Thread nD τ) (mm5 t) fullShare ((fdat m 0 c).before 4 t d))
    ∗ (∃ d, owns (c : Thread nD τ) (mm6 t) fullShare ((fdat m 0 c).before 5 t d))
    ∗ (∃ d, owns (c : Thread nD τ) (mm7 t) fullShare ((fdat m 0 c).before 6 t d))
    ∗ (∃ d, owns (c : Thread nD τ) (mm8 t) fullShare ((fdat m 0 c).before 7 t d))
    ∗ (∃ d, owns (c : Thread nD τ) (mm9 t) fullShare ((fdat m 0 c).before 8 t d))
    ∗ (∃ d, owns (c : Thread nD τ) (mm10 t) fullShare ((fdat m 0 c).before 9 t d))
    ∗ (∃ d, owns (c : Thread nD τ) (mm11 t) fullShare (d))
    ∗ (∃ d, owns (c : Thread nD τ) (mm12 t) fullShare (d))
    ∗ (∃ d, owns (c : Thread nD τ) (mm13 t) fullShare (d))
    ∗ (∃ d, owns (c : Thread nD τ) (mm14 t) fullShare (d))
    ∗ (∃ d, owns (c : Thread nD τ) (mm15 t) fullShare (d))
    ∗ (∃ d, owns (c : Thread nD τ) (mm16 t) fullShare (d))
    ∗ (∃ d, owns (c : Thread nD τ) (mm17 t) fullShare (d)))

def fpost (c : Dev nD) (t : Fin cfg0.N) : sProp 𝕄 :=
  iprop((fdat m 0 c).Φ t.succ ∗ (fdat m 0 c).owesAt () t.succ
    ∗ owns (c : Thread nD τ) (mm1 t) fullShare (iblk m c 0 t)
    ∗ owns (c : Thread nD τ) (mm2 t) fullShare (iblk m c 1 t)
    ∗ owns (c : Thread nD τ) (mm3 t) fullShare (iblk m c 2 t)
    ∗ owns (c : Thread nD τ) (mm4 t) fullShare (iblk m c 3 t)
    ∗ owns (c : Thread nD τ) (mm5 t) fullShare (iblk m c 4 t)
    ∗ owns (c : Thread nD τ) (mm6 t) fullShare (iblk m c 5 t)
    ∗ owns (c : Thread nD τ) (mm7 t) fullShare (iblk m c 6 t)
    ∗ owns (c : Thread nD τ) (mm8 t) fullShare (iblk m c 7 t)
    ∗ owns (c : Thread nD τ) (mm9 t) fullShare (iblk m c 8 t)
    ∗ owns (c : Thread nD τ) (mm10 t) fullShare (iblk m c 9 t)
    ∗ (∃ d, owns (c : Thread nD τ) (mm11 t) fullShare (d))
    ∗ (∃ d, owns (c : Thread nD τ) (mm12 t) fullShare (d))
    ∗ (∃ d, owns (c : Thread nD τ) (mm13 t) fullShare (d))
    ∗ (∃ d, owns (c : Thread nD τ) (mm14 t) fullShare (d))
    ∗ (∃ d, owns (c : Thread nD τ) (mm15 t) fullShare (d))
    ∗ (∃ d, owns (c : Thread nD τ) (mm16 t) fullShare (d))
    ∗ (∃ d, owns (c : Thread nD τ) (mm17 t) fullShare (d)))

theorem fbody (c : Dev nD) (t : Fin cfg0.N) :
    fpre m c t ⊢ wp frame (wpE (defs₀ (F := F)) Variants.none c none) Set.univ (bodyAt0 t) (fun _ => fpost m c t) := by
  unfold fpre fpost bodyAt0
  simp only [fbefore0, fbefore1, fbefore2, fbefore3, fbefore4, fbefore5, fbefore6, fbefore7, fbefore8, fbefore9]
  rw [show (fdat m 0 c).owesAt () t.succ = (fdat m 0 c).owesAt () t.castSucc from rfl,
    show (fdat m 0 c).Φ t.succ = Pipeline.ΦA spec0 c from rfl, show (fdat m 0 c).Φ t.castSucc = Pipeline.ΦA spec0 c from rfl, PhiA_eq]
  unfold owns
  iintro ⟨⟨⟨%d18, %f18, -, H18⟩, Hg⟩, Ho, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩
  obtain rfl := (hm1 t).eq_unread e1; obtain rfl := (hm2 t).eq_unread e2; obtain rfl := (hm3 t).eq_unread e3; obtain rfl := (hm4 t).eq_unread e4; obtain rfl := (hm5 t).eq_unread e5; obtain rfl := (hm6 t).eq_unread e6; obtain rfl := (hm7 t).eq_unread e7; obtain rfl := (hm8 t).eq_unread e8; obtain rfl := (hm9 t).eq_unread e9; obtain rfl := (hm10 t).eq_unread e10
  have hN : t.val < 32 := lt_of_lt_of_eq t.isLt (show cfg0.N = 32 from N_0)
  rcases (by omega : t.val = 0 ∨ t.val = 31 ∨ (¬ t.val = 0 ∧ ¬ t.val = 31)) with h | h | h
  all_goals
    iapply (wp_wand_r frame (wpE (defs₀ (F := F)) Variants.none (c : Thread nD τ) none) Set.univ)
    isplitl [H1 H2 H3 H4 H5 H6 H7 H8 H9 H10 H11 H12 H13 H14 H15 H16 H17 H18]
    · first
      | iapply (run_first (F := F) c (grid0.coords t) (mm1 t) (hm1 t) (mm2 t) (hm2 t) (mm3 t) (hm3 t) (mm4 t) (hm4 t) (mm5 t) (hm5 t) (mm6 t) (hm6 t) (mm7 t) (hm7 t) (mm8 t) (hm8 t) (mm9 t) (hm9 t) (mm10 t) (hm10 t) (mm11 t) (hm11 t) (mm12 t) (hm12 t) (mm13 t) (hm13 t) (mm14 t) (hm14 t) (mm15 t) (hm15 t) (mm16 t) (hm16 t) (mm17 t) (hm17 t) scM (Memref.isWhole_whole _) ((hm1 t).unread (iblk m c 0 t)) ((hm2 t).unread (iblk m c 1 t)) ((hm3 t).unread (iblk m c 2 t)) ((hm4 t).unread (iblk m c 3 t)) ((hm5 t).unread (iblk m c 4 t)) ((hm6 t).unread (iblk m c 5 t)) ((hm7 t).unread (iblk m c 6 t)) ((hm8 t).unread (iblk m c 7 t)) ((hm9 t).unread (iblk m c 8 t)) ((hm10 t).unread (iblk m c 9 t)) ((hcond0 t).mpr h) (fun h' => absurd ((hcond2 t).mp h') (by omega)) f11 f12 f13 f14 f15 f16 f17 f18)
      | iapply ((run_last (F := F) c (grid0.coords t) (mm1 t) (hm1 t) (mm2 t) (hm2 t) (mm3 t) (hm3 t) (mm4 t) (hm4 t) (mm5 t) (hm5 t) (mm6 t) (hm6 t) (mm7 t) (hm7 t) (mm8 t) (hm8 t) (mm9 t) (hm9 t) (mm10 t) (hm10 t) (mm11 t) (hm11 t) (mm12 t) (hm12 t) (mm13 t) (hm13 t) (mm14 t) (hm14 t) (mm15 t) (hm15 t) (mm16 t) (hm16 t) (mm17 t) (hm17 t) scM (Memref.isWhole_whole _) ((hm1 t).unread (iblk m c 0 t)) ((hm2 t).unread (iblk m c 1 t)) ((hm3 t).unread (iblk m c 2 t)) ((hm4 t).unread (iblk m c 3 t)) ((hm5 t).unread (iblk m c 4 t)) ((hm6 t).unread (iblk m c 5 t)) ((hm7 t).unread (iblk m c 6 t)) ((hm8 t).unread (iblk m c 7 t)) ((hm9 t).unread (iblk m c 8 t)) ((hm10 t).unread (iblk m c 9 t)) (fun h' => absurd ((hcond0 t).mp h') (by omega)) ((hcond2 t).mpr h) f11 f12 f13 f14 f15 f16 f17 f18).2)
      | iapply (run_mid (F := F) c (grid0.coords t) (mm1 t) (hm1 t) (mm2 t) (hm2 t) (mm3 t) (hm3 t) (mm4 t) (hm4 t) (mm5 t) (hm5 t) (mm6 t) (hm6 t) (mm7 t) (hm7 t) (mm8 t) (hm8 t) (mm9 t) (hm9 t) (mm10 t) (hm10 t) (mm11 t) (hm11 t) (mm12 t) (hm12 t) (mm13 t) (hm13 t) (mm14 t) (hm14 t) (mm15 t) (hm15 t) (mm16 t) (hm16 t) (mm17 t) (hm17 t) scM (Memref.isWhole_whole _) ((hm1 t).unread (iblk m c 0 t)) ((hm2 t).unread (iblk m c 1 t)) ((hm3 t).unread (iblk m c 2 t)) ((hm4 t).unread (iblk m c 3 t)) ((hm5 t).unread (iblk m c 4 t)) ((hm6 t).unread (iblk m c 5 t)) ((hm7 t).unread (iblk m c 6 t)) ((hm8 t).unread (iblk m c 7 t)) ((hm9 t).unread (iblk m c 8 t)) ((hm10 t).unread (iblk m c 9 t)) (fun h' => h.1 ((hcond0 t).mp h')) (fun h' => h.2 ((hcond2 t).mp h')) f11 f12 f13 f14 f15 f16 f17 f18)
      isplitl [H17]; · iexact H17
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H18
    · iintro %_ ⟨H17, H1, H2, H3, H4, H5, H6, H7, H8, H9, H10, H11, H12, H13, H14, H15, H16, H18⟩
      isplitl [H18 Hg]
      · isplitl [H18]
        · iexists _, _; isplitr; swap; · iexact H18
          ipureintro; rfl
        iexact Hg
      isplitl [Ho]; · iexact Ho
      isplitl [H1]
      · iexists _; isplitr; · ipureintro; exact (hm1 t).read_unread _
        iexact H1
      isplitl [H2]
      · iexists _; isplitr; · ipureintro; exact (hm2 t).read_unread _
        iexact H2
      isplitl [H3]
      · iexists _; isplitr; · ipureintro; exact (hm3 t).read_unread _
        iexact H3
      isplitl [H4]
      · iexists _; isplitr; · ipureintro; exact (hm4 t).read_unread _
        iexact H4
      isplitl [H5]
      · iexists _; isplitr; · ipureintro; exact (hm5 t).read_unread _
        iexact H5
      isplitl [H6]
      · iexists _; isplitr; · ipureintro; exact (hm6 t).read_unread _
        iexact H6
      isplitl [H7]
      · iexists _; isplitr; · ipureintro; exact (hm7 t).read_unread _
        iexact H7
      isplitl [H8]
      · iexists _; isplitr; · ipureintro; exact (hm8 t).read_unread _
        iexact H8
      isplitl [H9]
      · iexists _; isplitr; · ipureintro; exact (hm9 t).read_unread _
        iexact H9
      isplitl [H10]
      · iexists _; isplitr; · ipureintro; exact (hm10 t).read_unread _
        iexact H10
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      iexists _, _; isplitr; swap; · iexact H17
      ipureintro; rfl

theorem frow (t : Fin cfg0.N) :
    defs₀ (F := F) .tc cfg0.body (cfg0.bodyArgs t (cfg0.slots t)) = bodyAt0 t := by
  unfold defs₀; rw [Defs.onTc_tc]

theorem fobl (c : Dev nD) : BodyObligation (fdat (F := F) m 0 c) (defs₀ (F := F)) Variants.none () Set.univ forgets := fun t => by
  rw [bigSep_W0, bigSep_W0, frow]
  exact triple_restated (fbody m c t) rfl .rfl fun _ => .rfl

-- unifying the launch's conclusion with this one unfolds plain definitions in a metavariable's type
set_option backward.isDefEq.respectTransparency.types false in
/-- The run: the operands' arrays end as they began, and every counter at zero. -/
theorem run_q : θ_run defs (onTc (τ := τ) (main (F := F))) (s₀ m ρ) (fun r => (Pipeline.RDat.FramePost (cfgs 0) (fun c => (fdat m 0 c).toRForget forgets) (V m)) r ∧ r.2.sem = fun _ => 0) :=
  Pipeline.θ_run_frame_track_forget_shared (Q' := _) cfgs (fdat m) (0 : Fin 1) launch₀0 defs₀ Variants.none forgets m ρ main
    (hbody := fun c => (fobl m c).loose) (hq := fun _ _ _ => rfl)
    (howed := fun _ _ => rfl) (V := V m) (hmain := hmain m Variants.none) (hA := fdat_A m) (hin := fun _ => .rfl) (hout := fun _ => .rfl)

theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 5 rfl).trans (V_main_arg0 m c),
      (Pipeline.RDat.FramePost.arr_in h.1 c 6 rfl).trans (V_main_arg1 m c),
      (Pipeline.RDat.FramePost.arr_in h.1 c 7 rfl).trans (V_main_arg2 m c),
      (Pipeline.RDat.FramePost.arr_in h.1 c 8 rfl).trans (V_main_arg3 m c),
      (Pipeline.RDat.FramePost.arr_in h.1 c 4 rfl).trans (V_main_arg4 m c),
      (Pipeline.RDat.FramePost.arr_in h.1 c 9 rfl).trans (V_main_arg5 m c)⟩, h.2⟩) (run_q m ρ)

theorem frame_ideal : Cert.quiescent_KernelIdeal := fun m ρ _ => frame_main (F := Ideal) m ρ

end Cert.Gla

end
-- ==== Proof.Same.lean ====
module

public import proofs.«01_k».proof.Proof.GlaFrame
public import proofs.«01_k».proof.Proof.Gen.Kernel

@[expose] public section

/-! The frame of the printed kernel from the run over any values: the two printed modules are one text. -/

namespace Cert.Gla

open Idealize.ShloMosaic Idealize.ShloMosaic.TcCoe Idealize.SL.Sem

theorem body_same : Cert.Kernel.cc0_gla_bwd (F := Bits) = Cert.KernelIdeal.cc0_gla_bwd (F := Bits) := rfl

set_option maxHeartbeats 8000000 in
theorem table_same : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => simp only [body_same]; rfl
  | ⟨n + 1, h⟩, _ => exact absurd h (Nat.not_lt.2 (Nat.le_add_left _ _))

theorem defs_same : Cert.Kernel.defs (F := Bits) = Cert.KernelIdeal.defs (F := Bits) :=
  congrArg (Pipeline.defs (Cert.KernelIdeal.pcfgs (F := Bits))) table_same

theorem frame_kernel : Cert.quiescent_Kernel := fun m ρ _ => by
  have h := frame_main (F := Bits) m ρ
  rw [← defs_same] at h
  exact h

end Cert.Gla

end
-- ==== Proof.Dots.lean ====
/-
  The three matrix products of two arrays of rank two, read at an entry: rows by columns, rows by rows,
  columns by columns.
-/
module

public import Idealize.ShloMosaic.Lib.ValueIdx
public import Idealize.ShloMosaic.PureOps.Ideal.Laws

@[expose] public section

noncomputable section

namespace Cert.Dots

open Idealize.ShloMosaic Idealize.ShloMosaic.ValueIdx

/-- The dimension numbers of the product of rows by columns. -/
abbrev nn (n p q : ℕ) (wf : DotDims.WF (⟨2, ![p, n]⟩ : Shape) (⟨2, ![n, q]⟩ : Shape) (⟨2, ![p, q]⟩ : Shape) [1] [0] [0] [1] [] []) :
    DotDims (⟨2, ![p, n]⟩ : Shape) (⟨2, ![n, q]⟩ : Shape) (⟨2, ![p, q]⟩ : Shape) :=
  ⟨[1], [0], [0], [1], [], [], wf⟩

theorem nn_lhs (n p q : ℕ) (wf) (i : (⟨2, ![p, q]⟩ : Shape).Idx) (k : (nn n p q wf).contr.Idx) :
    ((nn n p q wf).lhsIdx i k 0).val = (i 0).val := by
  unfold DotDims.lhsIdx
  rw [dif_neg (show ¬(0 : Fin 2) ∈ ([] : List (Fin 2)) by decide), dif_pos (show (0 : Fin 2) ∈ [(0 : Fin 2)] by decide)]
  rfl

theorem nn_rhs (n p q : ℕ) (wf) (i : (⟨2, ![p, q]⟩ : Shape).Idx) (k : (nn n p q wf).contr.Idx) :
    ((nn n p q wf).rhsIdx i k 1).val = (i 1).val := by
  unfold DotDims.rhsIdx
  rw [dif_neg (show ¬(1 : Fin 2) ∈ ([] : List (Fin 2)) by decide), dif_pos (show (1 : Fin 2) ∈ [(1 : Fin 2)] by decide)]
  rfl

/-- The product of rows by columns into zero, at an entry. -/
theorem nn_apply {n p q : ℕ} {φ₁ φ₂ : FTy} (wf) (prec : Option ContractPrecision)
    (l : FVec Ideal (⟨2, ![p, n]⟩ : Shape) φ₁) (r : FVec Ideal (⟨2, ![n, q]⟩ : Shape) φ₂) (i : (⟨2, ![p, q]⟩ : Shape).Idx) :
    matmul (nn n p q wf) prec l r (constant (F := Ideal) (⟨2, ![p, q]⟩ : Shape) .f32 0x00000000#32) i
      = ∑ k : Fin n, (l (ix2 (i 0) k) * r (ix2 k (i 1)) : EReal) := by
  show FloatOps.matmul (nn n p q wf) prec l r (constant (F := Ideal) (⟨2, ![p, q]⟩ : Shape) .f32 0x00000000#32) i = _
  rw [Ideal.matmul_constant_zero_apply, ← Equiv.sum_comp (contrEquiv1 (nn n p q wf) n rfl rfl).symm]
  refine Finset.sum_congr rfl fun k _ => ?_
  have hk := contrEquiv1_symm_val (nn n p q wf) n rfl rfl k
  refine congrArg₂ (· * ·) (congrArg l (funext fun a => Fin.ext ?_)) (congrArg r (funext fun a => Fin.ext ?_))
  · match a with
    | ⟨1, _⟩ => exact ((nn n p q wf).lhsIdx_val_of_single rfl i _).trans hk
    | ⟨0, _⟩ => exact nn_lhs n p q wf i _
  · match a with
    | ⟨0, _⟩ => exact ((nn n p q wf).rhsIdx_val_of_single rfl i _).trans hk
    | ⟨1, _⟩ => exact nn_rhs n p q wf i _

/-- The dimension numbers of the product of rows by rows. -/
abbrev nt (n p q : ℕ) (wf : DotDims.WF (⟨2, ![p, n]⟩ : Shape) (⟨2, ![q, n]⟩ : Shape) (⟨2, ![p, q]⟩ : Shape) [1] [1] [0] [0] [] []) :
    DotDims (⟨2, ![p, n]⟩ : Shape) (⟨2, ![q, n]⟩ : Shape) (⟨2, ![p, q]⟩ : Shape) :=
  ⟨[1], [1], [0], [0], [], [], wf⟩

theorem nt_lhs (n p q : ℕ) (wf) (i : (⟨2, ![p, q]⟩ : Shape).Idx) (k : (nt n p q wf).contr.Idx) :
    ((nt n p q wf).lhsIdx i k 0).val = (i 0).val := by
  unfold DotDims.lhsIdx
  rw [dif_neg (show ¬(0 : Fin 2) ∈ ([] : List (Fin 2)) by decide), dif_pos (show (0 : Fin 2) ∈ [(0 : Fin 2)] by decide)]
  rfl

theorem nt_rhs (n p q : ℕ) (wf) (i : (⟨2, ![p, q]⟩ : Shape).Idx) (k : (nt n p q wf).contr.Idx) :
    ((nt n p q wf).rhsIdx i k 0).val = (i 1).val := by
  unfold DotDims.rhsIdx
  rw [dif_neg (show ¬(0 : Fin 2) ∈ ([] : List (Fin 2)) by decide), dif_pos (show (0 : Fin 2) ∈ [(0 : Fin 2)] by decide)]
  rfl

/-- The product of rows by rows into zero, at an entry. -/
theorem nt_apply {n p q : ℕ} {φ₁ φ₂ : FTy} (wf) (prec : Option ContractPrecision)
    (l : FVec Ideal (⟨2, ![p, n]⟩ : Shape) φ₁) (r : FVec Ideal (⟨2, ![q, n]⟩ : Shape) φ₂) (i : (⟨2, ![p, q]⟩ : Shape).Idx) :
    matmul (nt n p q wf) prec l r (constant (F := Ideal) (⟨2, ![p, q]⟩ : Shape) .f32 0x00000000#32) i
      = ∑ k : Fin n, (l (ix2 (i 0) k) * r (ix2 (i 1) k) : EReal) := by
  show FloatOps.matmul (nt n p q wf) prec l r (constant (F := Ideal) (⟨2, ![p, q]⟩ : Shape) .f32 0x00000000#32) i = _
  rw [Ideal.matmul_constant_zero_apply, ← Equiv.sum_comp (contrEquiv1 (nt n p q wf) n rfl rfl).symm]
  refine Finset.sum_congr rfl fun k _ => ?_
  have hk := contrEquiv1_symm_val (nt n p q wf) n rfl rfl k
  refine congrArg₂ (· * ·) (congrArg l (funext fun a => Fin.ext ?_)) (congrArg r (funext fun a => Fin.ext ?_))
  · match a with
    | ⟨1, _⟩ => exact ((nt n p q wf).lhsIdx_val_of_single rfl i _).trans hk
    | ⟨0, _⟩ => exact nt_lhs n p q wf i _
  · match a with
    | ⟨1, _⟩ => exact ((nt n p q wf).rhsIdx_val_of_single rfl i _).trans hk
    | ⟨0, _⟩ => exact nt_rhs n p q wf i _

/-- The dimension numbers of the product of columns by columns. -/
abbrev tn (n p q : ℕ) (wf : DotDims.WF (⟨2, ![n, p]⟩ : Shape) (⟨2, ![n, q]⟩ : Shape) (⟨2, ![p, q]⟩ : Shape) [0] [0] [1] [1] [] []) :
    DotDims (⟨2, ![n, p]⟩ : Shape) (⟨2, ![n, q]⟩ : Shape) (⟨2, ![p, q]⟩ : Shape) :=
  ⟨[0], [0], [1], [1], [], [], wf⟩

theorem tn_lhs (n p q : ℕ) (wf) (i : (⟨2, ![p, q]⟩ : Shape).Idx) (k : (tn n p q wf).contr.Idx) :
    ((tn n p q wf).lhsIdx i k 1).val = (i 0).val := by
  unfold DotDims.lhsIdx
  rw [dif_neg (show ¬(1 : Fin 2) ∈ ([] : List (Fin 2)) by decide), dif_pos (show (1 : Fin 2) ∈ [(1 : Fin 2)] by decide)]
  rfl

theorem tn_rhs (n p q : ℕ) (wf) (i : (⟨2, ![p, q]⟩ : Shape).Idx) (k : (tn n p q wf).contr.Idx) :
    ((tn n p q wf).rhsIdx i k 1).val = (i 1).val := by
  unfold DotDims.rhsIdx
  rw [dif_neg (show ¬(1 : Fin 2) ∈ ([] : List (Fin 2)) by decide), dif_pos (show (1 : Fin 2) ∈ [(1 : Fin 2)] by decide)]
  rfl

/-- The product of columns by columns into zero, at an entry. -/
theorem tn_apply {n p q : ℕ} {φ₁ φ₂ : FTy} (wf) (prec : Option ContractPrecision)
    (l : FVec Ideal (⟨2, ![n, p]⟩ : Shape) φ₁) (r : FVec Ideal (⟨2, ![n, q]⟩ : Shape) φ₂) (i : (⟨2, ![p, q]⟩ : Shape).Idx) :
    matmul (tn n p q wf) prec l r (constant (F := Ideal) (⟨2, ![p, q]⟩ : Shape) .f32 0x00000000#32) i
      = ∑ k : Fin n, (l (ix2 k (i 0)) * r (ix2 k (i 1)) : EReal) := by
  show FloatOps.matmul (tn n p q wf) prec l r (constant (F := Ideal) (⟨2, ![p, q]⟩ : Shape) .f32 0x00000000#32) i = _
  rw [Ideal.matmul_constant_zero_apply, ← Equiv.sum_comp (contrEquiv1 (tn n p q wf) n rfl rfl).symm]
  refine Finset.sum_congr rfl fun k _ => ?_
  have hk := contrEquiv1_symm_val (tn n p q wf) n rfl rfl k
  refine congrArg₂ (· * ·) (congrArg l (funext fun a => Fin.ext ?_)) (congrArg r (funext fun a => Fin.ext ?_))
  · match a with
    | ⟨0, _⟩ => exact ((tn n p q wf).lhsIdx_val_of_single rfl i _).trans hk
    | ⟨1, _⟩ => exact tn_lhs n p q wf i _
  · match a with
    | ⟨0, _⟩ => exact ((tn n p q wf).rhsIdx_val_of_single rfl i _).trans hk
    | ⟨1, _⟩ => exact tn_rhs n p q wf i _

end Cert.Dots
-- ==== Proof.Reals.lean ====
/-
  Arrays all of whose entries are real numbers: each operation on such arrays is the operation on the reals.
-/
module

public import proofs.«01_k».proof.Proof.Dots
public import Idealize.ShloMosaic.Lib.ValueIdx
public import Idealize.ShloMosaic.Lib.IdealHost
public import Idealize.ShloMosaic.Lib.Pipeline.Value
public import Idealize.ShloMosaic.PureOps.Ideal.Laws

@[expose] public section

noncomputable section

namespace Cert.Reals

open Idealize.ShloMosaic Idealize.ShloMosaic.ValueIdx

/-- Every entry of `v` is the real number `r` names. -/
def Re {s : Shape} (v : s.Idx → EReal) (r : s.Idx → ℝ) : Prop := ∀ i, v i = ((r i : ℝ) : EReal)

/-- A matrix of real numbers. -/
abbrev Mat (n m : ℕ) := Fin n → Fin m → ℝ

/-- Arrays of reals from functions of the coordinates. -/
abbrev c0 {s : Shape} (x : ℝ) : s.Idx → ℝ := fun _ => x
abbrev c1 {n : ℕ} (f : Fin n → ℝ) : (⟨1, ![n]⟩ : Shape).Idx → ℝ := fun i => f (i 0)
abbrev c2 {n m : ℕ} (f : Mat n m) : (⟨2, ![n, m]⟩ : Shape).Idx → ℝ := fun i => f (i 0) (i 1)
abbrev c3 {n m k : ℕ} (f : Fin n → Mat m k) : (⟨3, ![n, m, k]⟩ : Shape).Idx → ℝ := fun i => f (i 0) (i 1) (i 2)

theorem coe_sum {n : ℕ} (f : Fin n → ℝ) : ∑ k : Fin n, ((f k : ℝ) : EReal) = ((∑ k : Fin n, f k : ℝ) : EReal) :=
  (map_sum (⟨⟨Real.toEReal, EReal.coe_zero⟩, EReal.coe_add⟩ : ℝ →+ EReal) f Finset.univ).symm

section Elementwise
variable {s : Shape} {φ : FTy} {a b : FVec Ideal s φ} {ra rb : s.Idx → ℝ}

theorem mul (ha : Re a ra) (hb : Re b rb) : Re (s := s) (mulf a b) fun i => ra i * rb i :=
  fun i => (congrArg₂ (fun x y : EReal => x * y) (ha i) (hb i)).trans (EReal.coe_mul _ _).symm
theorem add (ha : Re a ra) (hb : Re b rb) : Re (s := s) (addf a b) fun i => ra i + rb i :=
  fun i => (congrArg₂ (fun x y : EReal => x + y) (ha i) (hb i)).trans (EReal.coe_add _ _).symm
theorem sub (ha : Re a ra) (hb : Re b rb) : Re (s := s) (subf a b) fun i => ra i - rb i :=
  fun i => (congrArg₂ (fun x y : EReal => x - y) (ha i) (hb i)).trans (EReal.coe_sub _ _).symm
theorem neg (ha : Re a ra) : Re (s := s) (Host.negf a) fun i => - ra i :=
  fun i => (congrArg (fun x : EReal => -x) (ha i)).trans (EReal.coe_neg _).symm
theorem div_coe_coe {x y : ℝ} (h : y ≠ 0) : Ideal.div (x : EReal) (y : EReal) = ((x / y : ℝ) : EReal) := by
  rw [Ideal.div_coe h, ← EReal.coe_mul, mul_one_div]
theorem div (ha : Re a ra) (hb : Re b rb) (h : ∀ i, rb i ≠ 0) : Re (s := s) (divf a b) fun i => ra i / rb i :=
  fun i => (congrArg₂ Ideal.div (ha i) (hb i)).trans (div_coe_coe (h i))
theorem hdiv (ha : Re a ra) (hb : Re b rb) (h : ∀ i, rb i ≠ 0) : Re (s := s) (Host.divf a b) fun i => ra i / rb i :=
  fun i => (congrArg₂ Ideal.div (ha i) (hb i)).trans (div_coe_coe (h i))
theorem rsqrt_pos {x : ℝ} (h : 0 < x) : Ideal.rsqrt (x : EReal) = (((Real.sqrt x)⁻¹ : ℝ) : EReal) := by
  rw [Ideal.rsqrt_coe, if_neg (not_lt.mpr h.le), if_neg h.ne']
theorem rsqrt (ha : Re a ra) (h : ∀ i, 0 < ra i) : Re (s := s) (rsqrt a) fun i => (Real.sqrt (ra i))⁻¹ :=
  fun i => (congrArg Ideal.rsqrt (ha i)).trans (rsqrt_pos (h i))
theorem hrsqrt (ha : Re a ra) (h : ∀ i, 0 < ra i) : Re (s := s) (Host.rsqrt a) fun i => (Real.sqrt (ra i))⁻¹ :=
  fun i => (congrArg Ideal.rsqrt (ha i)).trans (rsqrt_pos (h i))
theorem exp (ha : Re a ra) : Re (s := s) (exp a) fun i => Real.exp (ra i) :=
  fun i => (congrArg Ideal.exp (ha i)).trans (Ideal.exp_coe _)
theorem hexp (ha : Re a ra) : Re (s := s) (Host.exp a) fun i => Real.exp (ra i) :=
  fun i => (congrArg Ideal.exp (ha i)).trans (Ideal.exp_coe _)
theorem trunc {ψ : FTy} (h : ψ.bits < φ.bits) (ha : Re a ra) : Re (s := s) (truncf ψ a h) ra := ha
theorem ext {ψ : FTy} (h : φ.bits < ψ.bits) (ha : Re a ra) : Re (s := s) (extf ψ a h) ra := ha
/-- An array written from one word. -/
theorem const {w : BitVec φ.bits} {x : ℝ} (h : Ideal.ofBits φ w = ((x : ℝ) : EReal)) : Re (s := s) (constant (F := Ideal) s φ w) (c0 x) := fun _ => h
theorem splat {w : BitVec φ.bits} {x : ℝ} (h : Ideal.ofBits φ w = ((x : ℝ) : EReal)) :
    Re (s := s) (broadcast s (Scalar.ofBits (F := Ideal) φ w)) (c0 x) := fun _ => h
end Elementwise

/-! Words. -/

theorem w_zero : Ideal.ofBits .f32 0x00000000#32 = ((0 : ℝ) : EReal) := by
  simp [Ideal.ofBits, Ideal.ieee, -EReal.coe_mul]
theorem w_one : Ideal.ofBits .f32 0x3F800000#32 = ((1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_neg_half : Ideal.ofBits .f32 0xBF000000#32 = ((-(1 / 2) : ℝ) : EReal) := by
  simp [Ideal.ofBits, Ideal.ieee, -EReal.coe_mul, -EReal.coe_neg]; norm_num
theorem w_1024 : Ideal.ofBits .f32 0x44800000#32 = ((1024 : ℝ) : EReal) := by
  simp [Ideal.ofBits, Ideal.ieee, -EReal.coe_mul]; norm_num
theorem w_inv_1024 : Ideal.ofBits .f32 0x3A800000#32 = ((1 / 1024 : ℝ) : EReal) := by
  simp [Ideal.ofBits, Ideal.ieee, -EReal.coe_mul]; norm_num
theorem w_inv_2048 : Ideal.ofBits .f32 0x3A000000#32 = ((1 / 2048 : ℝ) : EReal) := by
  simp [Ideal.ofBits, Ideal.ieee, -EReal.coe_mul]; norm_num
/-- The constant added under the root of a mean square. -/
def eps : ℝ := (8388608 + 407485) * (2 : ℝ) ^ (-43 : ℤ)
theorem eps_pos : 0 < eps := by unfold eps; positivity
theorem w_eps : Ideal.ofBits .f32 0x358637BD#32 = ((eps : ℝ) : EReal) := by
  unfold eps; simp [Ideal.ofBits, Ideal.ieee, -EReal.coe_mul]; norm_num
theorem w_inf : Ideal.ofBits .f32 0x7F800000#32 = (⊤ : EReal) := by
  simp [Ideal.ofBits, Ideal.ieee]

/-! Layout. -/

section Layout
variable {n m k : ℕ} {f : Mat n m} {g : Fin n → ℝ} {φ : FTy}

theorem of_entry {s t : Shape} {v : s.Idx → EReal} {w : t.Idx → EReal} {r : s.Idx → ℝ} {q : t.Idx → ℝ} (hv : Re v r)
    (h : ∀ i, ∃ j, w i = v j ∧ r j = q i) : Re w q := fun i => by
  obtain ⟨j, h1, h2⟩ := h i
  rw [h1, hv j, h2]

/-- One row to many (kernel). -/
theorem rows {v : (⟨2, ![1, m]⟩ : Shape).Idx → EReal} {f : Mat 1 m} (h : (⟨2, ![1, m]⟩ : Shape).Broadcasts ⟨2, ![n, m]⟩) (hv : Re v (c2 f)) :
    Re (broadcastTo (⟨2, ![n, m]⟩ : Shape) v h) (c2 fun _ j => f 0 j) :=
  of_entry hv fun i => ⟨ix2 0 (i 1), broadcastTo_apply v h i _ fun a => by
    match a with
    | ⟨0, _⟩ => rfl
    | ⟨1, _⟩ =>
      show (i 1).val = if m = 1 then 0 else (i 1).val
      have : (i 1).val < m := (i 1).isLt
      split <;> omega, rfl⟩
/-- One column to many (kernel). -/
theorem cols {v : (⟨2, ![n, 1]⟩ : Shape).Idx → EReal} {f : Mat n 1} (h : (⟨2, ![n, 1]⟩ : Shape).Broadcasts ⟨2, ![n, m]⟩) (hv : Re v (c2 f)) :
    Re (broadcastTo (⟨2, ![n, m]⟩ : Shape) v h) (c2 fun i _ => f i 0) :=
  of_entry hv fun i => ⟨ix2 (i 0) 0, broadcastTo_apply v h i _ fun a => by
    match a with
    | ⟨1, _⟩ => rfl
    | ⟨0, _⟩ =>
      show (i 0).val = if n = 1 then 0 else (i 0).val
      have : (i 0).val < n := (i 0).isLt
      split <;> omega, rfl⟩
/-- One column to many (host). -/
theorem hcols {v : (⟨2, ![n, 1]⟩ : Shape).Idx → EReal} {f : Mat n 1} (h : (⟨2, ![n, 1]⟩ : Shape).BroadcastsInDim ⟨2, ![n, m]⟩ ![0, 1]) (hv : Re v (c2 f)) :
    Re (broadcastInDim (⟨2, ![n, m]⟩ : Shape) ![0, 1] h v) (c2 fun i _ => f i 0) :=
  of_entry hv fun i => ⟨ix2 (i 0) 0, broadcastInDim_apply _ h v i _ fun a => by
    match a with
    | ⟨1, _⟩ => rfl
    | ⟨0, _⟩ =>
      show (i 0).val = if n = 1 then 0 else (i 0).val
      have : (i 0).val < n := (i 0).isLt
      split <;> omega, rfl⟩
/-- A vector along the second axis (host). -/
theorem hrow {v : (⟨1, ![m]⟩ : Shape).Idx → EReal} {f : Fin m → ℝ} (h : (⟨1, ![m]⟩ : Shape).BroadcastsInDim ⟨2, ![n, m]⟩ ![1]) (hv : Re v (c1 f)) :
    Re (broadcastInDim (⟨2, ![n, m]⟩ : Shape) ![1] h v) (c2 fun _ j => f j) :=
  of_entry hv fun i => ⟨ix1 (i 1), broadcastInDim_apply _ h v i _ fun a => by
    match a with
    | ⟨0, _⟩ =>
      show (i 1).val = if m = 1 then 0 else (i 1).val
      have : (i 1).val < m := (i 1).isLt
      split <;> omega, rfl⟩
/-- A vector along the first axis (host). -/
theorem hcol {v : (⟨1, ![n]⟩ : Shape).Idx → EReal} {f : Fin n → ℝ} (h : (⟨1, ![n]⟩ : Shape).BroadcastsInDim ⟨2, ![n, m]⟩ ![0]) (hv : Re v (c1 f)) :
    Re (broadcastInDim (⟨2, ![n, m]⟩ : Shape) ![0] h v) (c2 fun i _ => f i) :=
  of_entry hv fun i => ⟨ix1 (i 0), broadcastInDim_apply _ h v i _ fun a => by
    match a with
    | ⟨0, _⟩ =>
      show (i 0).val = if n = 1 then 0 else (i 0).val
      have : (i 0).val < n := (i 0).isLt
      split <;> omega, rfl⟩
/-- A number over an array (host). -/
theorem hscal {s : Shape} {v : (⟨0, ![]⟩ : Shape).Idx → EReal} {x : ℝ} (h : (⟨0, ![]⟩ : Shape).BroadcastsInDim s ![]) (hv : Re v (c0 x)) :
    Re (broadcastInDim s ![] h v) (c0 x) :=
  of_entry hv fun i => ⟨ix0, broadcastInDim_apply _ h v i _ fun a => a.elim0, rfl⟩
/-- A row of an array (host). -/
theorem hslice {v : (⟨2, ![n, m]⟩ : Shape).Idx → EReal} (q : Fin n) (h : (⟨2, ![n, m]⟩ : Shape).Slices ![q.val, 0] ⟨2, ![1, m]⟩) (hv : Re v (c2 f)) :
    Re (extractStridedSlice (⟨2, ![1, m]⟩ : Shape) ![q.val, 0] v h) (c2 fun _ j => f q j) :=
  of_entry hv fun i => ⟨ix2 q (i 1), extractStridedSlice_apply _ v h i _ fun a => by
    match a with
    | ⟨0, _⟩ =>
      show q.val = q.val + (i 0).val
      have : (i 0).val < 1 := (i 0).isLt
      omega
    | ⟨1, _⟩ => exact (Nat.zero_add _).symm, rfl⟩
theorem squeeze {v : (⟨2, ![1, m]⟩ : Shape).Idx → EReal} {f : Mat 1 m} (h : (⟨2, ![1, m]⟩ : Shape).ShapeCasts ⟨1, ![m]⟩) (hv : Re v (c2 f)) :
    Re (shapeCast (⟨1, ![m]⟩ : Shape) v h) (c1 fun j => f 0 j) :=
  of_entry hv fun i => ⟨ix2 0 (i 0), shapeCast_apply v h i _ (by
    rw [Shape.rowMajor_val_one, Shape.rowMajor_val_two]
    show 0 * m + (i 0).val = (i 0).val
    omega), rfl⟩
theorem column {v : (⟨1, ![n]⟩ : Shape).Idx → EReal} (h : (⟨1, ![n]⟩ : Shape).ShapeCasts ⟨2, ![n, 1]⟩) (hv : Re v (c1 g)) :
    Re (shapeCast (⟨2, ![n, 1]⟩ : Shape) v h) (c2 fun i _ => g i) :=
  of_entry hv fun i => ⟨ix1 (i 0), shapeCast_apply v h i _ (by
    rw [Shape.rowMajor_val_one, Shape.rowMajor_val_two]
    show (i 0).val = (i 0).val * 1 + (i 1).val
    have : (i 1).val < 1 := (i 1).isLt
    omega), rfl⟩
/-- Rows regrouped eight by eight. -/
theorem eights {N b : ℕ} (hN : b * 8 = N) {v : (⟨2, ![N, m]⟩ : Shape).Idx → EReal} {f : Mat N m} (h : (⟨2, ![N, m]⟩ : Shape).ShapeCasts ⟨3, ![b, 8, m]⟩)
    (hv : Re v (c2 f)) :
    Re (shapeCast (⟨3, ![b, 8, m]⟩ : Shape) v h) (c3 fun i r j => f ⟨8 * i.val + r.val, by have := i.isLt; have := r.isLt; omega⟩ j) :=
  of_entry hv fun i => ⟨ix2 ⟨8 * (i 0).val + (i 1).val, by have : (i 0).val < b := (i 0).isLt; have : (i 1).val < 8 := (i 1).isLt; omega⟩ (i 2),
    shapeCast_apply v h i _ (by
    rw [Shape.rowMajor_val_two, Shape.rowMajor_val_three]
    show (8 * (i 0).val + (i 1).val) * m + (i 2).val = ((i 0).val * 8 + (i 1).val) * m + (i 2).val
    rw [Nat.mul_comm 8]), rfl⟩
theorem sameShape {s : Shape} {v : s.Idx → EReal} {r : s.Idx → ℝ} (h : s.ShapeCasts s) (hv : Re v r) : Re (shapeCast s v h) r := by
  rw [shapeCast_self]; exact hv

/-! Sums. -/

/-- The sum of each row (kernel). -/
theorem rowSum {v : FVec Ideal (⟨2, ![n, m]⟩ : Shape) φ} {acc : BitVec φ.bits} (h : (⟨2, ![n, m]⟩ : Shape).Reduces [1] ⟨1, ![n]⟩)
    (hφ : FKind.Formats φ) (hacc : acc = FKind.add.neutral φ hφ) (hv : Re v (c2 f)) :
    Re (s := ⟨1, ![n]⟩) (multiReduction .add [1] (⟨1, ![n]⟩ : Shape) v acc h hφ hacc) (c1 fun i => ∑ j, f i j) := fun i => by
  refine (Ideal.multiReduction_add_single v acc h hφ hacc i).trans ?_
  refine Eq.trans ?_ (coe_sum (fun j => f (i 0) j))
  exact Finset.sum_congr rfl fun j _ => hv _
/-- The sum over the first axis (kernel). -/
theorem headSum {v : FVec Ideal (⟨3, ![n, m, k]⟩ : Shape) φ} {f : Fin n → Mat m k} {acc : BitVec φ.bits} (h : (⟨3, ![n, m, k]⟩ : Shape).Reduces [0] ⟨2, ![m, k]⟩)
    (hφ : FKind.Formats φ) (hacc : acc = FKind.add.neutral φ hφ) (hv : Re v (c3 f)) :
    Re (s := ⟨2, ![m, k]⟩) (multiReduction .add [0] (⟨2, ![m, k]⟩ : Shape) v acc h hφ hacc) (c2 fun r j => ∑ i, f i r j) := fun i => by
  refine (Ideal.multiReduction_add_single v acc h hφ hacc i).trans ?_
  refine Eq.trans ?_ (coe_sum (fun a => f a (i 0) (i 1)))
  exact Finset.sum_congr rfl fun j _ => hv _
/-- The sum of each row (host). -/
theorem hrowSum {v : FVec Ideal (⟨2, ![n, m]⟩ : Shape) φ} {z : FVec Ideal (⟨0, ![]⟩ : Shape) φ} (h' : (⟨2, ![n, m]⟩ : Shape).ReducesTo [1] ⟨1, ![n]⟩)
    (h : (⟨2, ![n, m]⟩ : Shape).Reduces [1] ⟨1, ![n]⟩) (h0 : 0 < (⟨0, ![]⟩ : Shape).numel) (hv : Re v (c2 f)) (hz : Re z (c0 0)) :
    Re (s := ⟨1, ![n]⟩) (Host.reduceAdd v z h' h0) (c1 fun i => ∑ j, f i j) := fun i => by
  refine (Ideal.hostReduceAdd_single h' h v _ i).trans ?_
  refine (congrArg (· + _) (hz _)).trans ?_
  refine (congrArg (_ + ·) (Eq.trans ?_ (coe_sum (fun j => f (i 0) j)))).trans (by rw [← EReal.coe_add, zero_add])
  exact Finset.sum_congr rfl fun j _ => hv _
/-- The sum over the first axis (host). -/
theorem hheadSum {v : FVec Ideal (⟨3, ![n, m, k]⟩ : Shape) φ} {f : Fin n → Mat m k} {z : FVec Ideal (⟨0, ![]⟩ : Shape) φ} (h' : (⟨3, ![n, m, k]⟩ : Shape).ReducesTo [0] ⟨2, ![m, k]⟩)
    (h : (⟨3, ![n, m, k]⟩ : Shape).Reduces [0] ⟨2, ![m, k]⟩) (h0 : 0 < (⟨0, ![]⟩ : Shape).numel) (hv : Re v (c3 f)) (hz : Re z (c0 0)) :
    Re (s := ⟨2, ![m, k]⟩) (Host.reduceAdd v z h' h0) (c2 fun r j => ∑ i, f i r j) := fun i => by
  refine (Ideal.hostReduceAdd_single h' h v _ i).trans ?_
  refine (congrArg (· + _) (hz _)).trans ?_
  refine (congrArg (_ + ·) (Eq.trans ?_ (coe_sum (fun a => f a (i 0) (i 1))))).trans (by rw [← EReal.coe_add, zero_add])
  exact Finset.sum_congr rfl fun j _ => hv _

/-! Products. -/

theorem sum_mul_coe {n : ℕ} {x y : Fin n → EReal} {a b : Fin n → ℝ} (hx : ∀ k, x k = ((a k : ℝ) : EReal)) (hy : ∀ k, y k = ((b k : ℝ) : EReal)) :
    ∑ k, x k * y k = ((∑ k, a k * b k : ℝ) : EReal) := by
  rw [← coe_sum]
  exact Finset.sum_congr rfl fun k _ => by rw [hx, hy, EReal.coe_mul]

variable {p q : ℕ} {φ₁ φ₂ : FTy} {prec : Option ContractPrecision}

theorem dotNN {wf} {l : FVec Ideal (⟨2, ![p, n]⟩ : Shape) φ₁} {r : FVec Ideal (⟨2, ![n, q]⟩ : Shape) φ₂} {a : Mat p n} {b : Mat n q}
    (hl : Re l (c2 a)) (hr : Re r (c2 b)) :
    Re (s := ⟨2, ![p, q]⟩) (matmul (Dots.nn n p q wf) prec l r (constant (F := Ideal) (⟨2, ![p, q]⟩ : Shape) .f32 0x00000000#32)) (c2 fun i j => ∑ k, a i k * b k j) :=
  fun i => (Dots.nn_apply wf prec l r i).trans (sum_mul_coe (fun k => hl _) (fun k => hr _))
theorem dotNT {wf} {l : FVec Ideal (⟨2, ![p, n]⟩ : Shape) φ₁} {r : FVec Ideal (⟨2, ![q, n]⟩ : Shape) φ₂} {a : Mat p n} {b : Mat q n}
    (hl : Re l (c2 a)) (hr : Re r (c2 b)) :
    Re (s := ⟨2, ![p, q]⟩) (matmul (Dots.nt n p q wf) prec l r (constant (F := Ideal) (⟨2, ![p, q]⟩ : Shape) .f32 0x00000000#32)) (c2 fun i j => ∑ k, a i k * b j k) :=
  fun i => (Dots.nt_apply wf prec l r i).trans (sum_mul_coe (fun k => hl _) (fun k => hr _))
/-- A host product is the kernel's into zero. -/
theorem dot_host {sl sr so : Shape} (d : DotDims sl sr so) (l : FVec Ideal sl φ₁) (r : FVec Ideal sr φ₂) :
    (Host.dotGeneral (F := Ideal) (φ₁ := φ₁) (φ₂ := φ₂) d prec l r : FVec Ideal so .f32) = matmul d none l r (constant (F := Ideal) so .f32 0x00000000#32) := by
  funext i
  show Ideal.matmul d l r (fun _ => 0) i = Ideal.matmul d l r _ i
  unfold Ideal.matmul
  exact congrArg (· + _) Ideal.ofBits_zero_f32.symm
theorem host_dotNN {wf} {l : FVec Ideal (⟨2, ![p, n]⟩ : Shape) φ₁} {r : FVec Ideal (⟨2, ![n, q]⟩ : Shape) φ₂} {a : Mat p n} {b : Mat n q}
    (hl : Re l (c2 a)) (hr : Re r (c2 b)) :
    Re (s := ⟨2, ![p, q]⟩) (Host.dotGeneral (F := Ideal) (φ₁ := φ₁) (φ₂ := φ₂) (Dots.nn n p q wf) prec l r) (c2 fun i j => ∑ k, a i k * b k j) := by
  rw [dot_host]; exact dotNN hl hr
theorem host_dotNT {wf} {l : FVec Ideal (⟨2, ![p, n]⟩ : Shape) φ₁} {r : FVec Ideal (⟨2, ![q, n]⟩ : Shape) φ₂} {a : Mat p n} {b : Mat q n}
    (hl : Re l (c2 a)) (hr : Re r (c2 b)) :
    Re (s := ⟨2, ![p, q]⟩) (Host.dotGeneral (F := Ideal) (φ₁ := φ₁) (φ₂ := φ₂) (Dots.nt n p q wf) prec l r) (c2 fun i j => ∑ k, a i k * b j k) := by
  rw [dot_host]; exact dotNT hl hr
end Layout

/-! Finite inputs. -/

/-- An entry smaller in absolute value than infinity is a real number. -/
theorem real_of_abs {x : EReal} (h : max x (-x) < ⊤) : x = ((x.toReal : ℝ) : EReal) := by
  refine (EReal.coe_toReal ?_ ?_).symm
  · rintro rfl; simp at h
  · rintro rfl; simp at h

theorem one_add_exp_pos (x : ℝ) : 0 < 1 + Real.exp x := by positivity

theorem pos_ms {n : ℕ} (x : Fin n → ℝ) : 0 < (∑ j, x j * x j) / 1024 + eps := by
  have : 0 ≤ ∑ j, x j * x j := Finset.sum_nonneg fun j _ => mul_self_nonneg _
  have := eps_pos
  positivity

end Cert.Reals
-- ==== Proof.FfnReals.lean ====
/-
  One block of the feed-forward kernel on real inputs: each of its values, over the reals.
-/
module

public import proofs.«01_k».proof.Proof.Reals
public import proofs.«01_k».proof.Proof.Gen.FfnIdeal.Skeleton

@[expose] public section

noncomputable section

namespace Cert.FfnIdeal.Reals

open Cert.FfnIdeal Cert.FfnIdeal.Gen Idealize.ShloMosaic Idealize.ShloMosaic.ValueIdx Cert.Reals

def pay1_v141 : Mat 1 1024 := fun i j => 1
def pay1_v142 (X5 : Mat 1 1024) : Mat 1 1024 := fun i j => pay1_v141 i j + X5 i j
def pay1_v143 (X5 : Mat 1 1024) : Mat 256 1024 := fun i j => pay1_v142 X5 0 j
def pay1_v144 (X5 : Mat 1 1024) (X130 : Mat 256 1024) : Mat 256 1024 := fun i j => X130 i j * pay1_v143 X5 i j
def pay1_v145 (X5 : Mat 1 1024) (X130 : Mat 256 1024) : Fin 32 → Mat 8 1024 := fun i j l => ((pay1_v144 X5 X130) ⟨8 * i.val + j.val, by omega⟩ l)
def pay1_v146 (X5 : Mat 1 1024) (X130 : Mat 256 1024) : Mat 8 1024 := fun i j => ∑ k, pay1_v145 X5 X130 k i j
def pay1_v147 (X5 : Mat 1 1024) (X130 : Mat 256 1024) (X140 : Mat 8 1024) : Mat 8 1024 := fun i j => X140 i j + pay1_v146 X5 X130 i j
def pay1 (X5 : Mat 1 1024) (X130 : Mat 256 1024) (X140 : Mat 8 1024) : Mat 8 1024 := (pay1_v147 X5 X130 X140)
theorem t_pay1 {v5 : FVec Ideal S1x1024 .f32} {X5 : Mat 1 1024} {v130 : FVec Ideal S256x1024 .f32} {X130 : Mat 256 1024} {v140 : FVec Ideal S8x1024 .f32} {X140 : Mat 8 1024} (h5 : Re v5 (c2 X5)) (h130 : Re v130 (c2 X130)) (h140 : Re v140 (c2 X140)) :
    Re (s := S8x1024) (k0_pay1 (F := Ideal) v5 v130 v140) (c2 (pay1 X5 X130 X140)) := by
  have hv141 : Re (s := S1x1024) _ (c2 pay1_v141) := Reals.splat w_one
  have hv142 : Re (s := S1x1024) _ (c2 (pay1_v142 X5)) := Reals.add hv141 h5
  have hv143 : Re (s := S256x1024) _ (c2 (pay1_v143 X5)) := Reals.rows broadcasts_S1x1024_S256x1024 hv142
  have hv144 : Re (s := S256x1024) _ (c2 (pay1_v144 X5 X130)) := Reals.mul h130 hv143
  have hv145 : Re (s := S32x8x1024) _ (c3 (pay1_v145 X5 X130)) := Reals.eights (by norm_num) shapeCasts_S256x1024_S32x8x1024 hv144
  have hv146 : Re (s := S8x1024) _ (c2 (pay1_v146 X5 X130)) := Reals.headSum reduces_S32x8x1024_S8x1024 (.inl rfl) rfl hv145
  have hv147 : Re (s := S8x1024) _ (c2 (pay1_v147 X5 X130 X140)) := Reals.add h140 hv146
  exact hv147
def pay2_v149 : Mat 1 1024 := fun i j => 1
def pay2_v150 (X5 : Mat 1 1024) : Mat 1 1024 := fun i j => pay2_v149 i j + X5 i j
def pay2_v151 (X3 X5 : Mat 1 1024) : Mat 1 1024 := fun i j => pay2_v150 X5 i j * X3 i j
def pay2_v152 (X3 X5 : Mat 1 1024) : Mat 256 1024 := fun i j => pay2_v151 X3 X5 0 j
def pay2_v153 (X3 X5 : Mat 1 1024) (X123 : Mat 256 1024) : Mat 256 1024 := fun i j => X123 i j * pay2_v152 X3 X5 i j
def pay2_v154 (X3 X5 : Mat 1 1024) (X18 X123 : Mat 256 1024) : Mat 256 1024 := fun i j => pay2_v153 X3 X5 X123 i j * X18 i j
def pay2_v155 (X3 X5 : Mat 1 1024) (X18 X123 : Mat 256 1024) : Fin 256 → ℝ := fun i => ∑ k, pay2_v154 X3 X5 X18 X123 i k
def pay2_v156 (X3 X5 : Mat 1 1024) (X18 X123 : Mat 256 1024) : Mat 256 1 := fun i j => pay2_v155 X3 X5 X18 X123 i
def pay2_v157 : Mat 256 1 := fun i j => 1024
def pay2_v158 (X3 X5 : Mat 1 1024) (X18 X123 : Mat 256 1024) : Mat 256 1 := fun i j => pay2_v156 X3 X5 X18 X123 i j / pay2_v157 i j
def pay2_v159 (X3 X5 : Mat 1 1024) (X18 X123 : Mat 256 1024) : Mat 256 1024 := fun i j => pay2_v158 X3 X5 X18 X123 i 0
def pay2_v160 (X3 X5 : Mat 1 1024) (X18 X123 : Mat 256 1024) : Mat 256 1024 := fun i j => X18 i j * pay2_v159 X3 X5 X18 X123 i j
def pay2_v161 (X3 X5 : Mat 1 1024) (X18 X123 : Mat 256 1024) : Mat 256 1024 := fun i j => pay2_v153 X3 X5 X123 i j - pay2_v160 X3 X5 X18 X123 i j
def pay2_v162 (X16 : Mat 256 1) : Mat 256 1024 := fun i j => X16 i 0
def pay2_v163 (X3 X5 : Mat 1 1024) (X16 : Mat 256 1) (X18 X123 : Mat 256 1024) : Mat 256 1024 := fun i j => pay2_v162 X16 i j * pay2_v161 X3 X5 X18 X123 i j
def pay2_v164 (X3 X5 : Mat 1 1024) (X16 : Mat 256 1) (X18 X92 X123 : Mat 256 1024) : Mat 256 1024 := fun i j => X92 i j + pay2_v163 X3 X5 X16 X18 X123 i j
def pay2 (X3 X5 : Mat 1 1024) (X16 : Mat 256 1) (X18 X92 X123 : Mat 256 1024) : Mat 256 1024 := (pay2_v164 X3 X5 X16 X18 X92 X123)
theorem t_pay2 {v3 v5 : FVec Ideal S1x1024 .f32} {X3 X5 : Mat 1 1024} {v16 : FVec Ideal S256x1 .f32} {X16 : Mat 256 1} {v18 v92 v123 : FVec Ideal S256x1024 .f32} {X18 X92 X123 : Mat 256 1024} (h3 : Re v3 (c2 X3)) (h5 : Re v5 (c2 X5)) (h16 : Re v16 (c2 X16)) (h18 : Re v18 (c2 X18)) (h92 : Re v92 (c2 X92)) (h123 : Re v123 (c2 X123)) :
    Re (s := S256x1024) (k0_pay2 (F := Ideal) v3 v5 v16 v18 v92 v123) (c2 (pay2 X3 X5 X16 X18 X92 X123)) := by
  have hv149 : Re (s := S1x1024) _ (c2 pay2_v149) := Reals.splat w_one
  have hv150 : Re (s := S1x1024) _ (c2 (pay2_v150 X5)) := Reals.add hv149 h5
  have hv151 : Re (s := S1x1024) _ (c2 (pay2_v151 X3 X5)) := Reals.mul hv150 h3
  have hv152 : Re (s := S256x1024) _ (c2 (pay2_v152 X3 X5)) := Reals.rows broadcasts_S1x1024_S256x1024 hv151
  have hv153 : Re (s := S256x1024) _ (c2 (pay2_v153 X3 X5 X123)) := Reals.mul h123 hv152
  have hv154 : Re (s := S256x1024) _ (c2 (pay2_v154 X3 X5 X18 X123)) := Reals.mul hv153 h18
  have hv155 : Re (s := S256) _ (c1 (pay2_v155 X3 X5 X18 X123)) := Reals.rowSum reduces_S256x1024_S256 (.inl rfl) rfl hv154
  have hv156 : Re (s := S256x1) _ (c2 (pay2_v156 X3 X5 X18 X123)) := Reals.column shapeCasts_S256_S256x1 hv155
  have hv157 : Re (s := S256x1) _ (c2 pay2_v157) := Reals.splat w_1024
  have hv158 : Re (s := S256x1) _ (c2 (pay2_v158 X3 X5 X18 X123)) := Reals.div (φ := .f32) hv156 hv157 (fun _ => (by norm_num : (1024 : ℝ) ≠ 0))
  have hv159 : Re (s := S256x1024) _ (c2 (pay2_v159 X3 X5 X18 X123)) := Reals.cols broadcasts_S256x1_S256x1024 hv158
  have hv160 : Re (s := S256x1024) _ (c2 (pay2_v160 X3 X5 X18 X123)) := Reals.mul h18 hv159
  have hv161 : Re (s := S256x1024) _ (c2 (pay2_v161 X3 X5 X18 X123)) := Reals.sub hv153 hv160
  have hv162 : Re (s := S256x1024) _ (c2 (pay2_v162 X16)) := Reals.cols broadcasts_S256x1_S256x1024 h16
  have hv163 : Re (s := S256x1024) _ (c2 (pay2_v163 X3 X5 X16 X18 X123)) := Reals.mul hv162 hv161
  have hv164 : Re (s := S256x1024) _ (c2 (pay2_v164 X3 X5 X16 X18 X92 X123)) := Reals.add h92 hv163
  exact hv164
def pay3_v166  : Mat 48 1024 := fun i j => 0
def pay3  : Mat 48 1024 := pay3_v166
theorem t_pay3   :
    Re (s := S48x1024) (k0_pay3 (F := Ideal) ) (c2 pay3) := by
  have hv166 : Re (s := S48x1024) _ (c2 pay3_v166) := Reals.splat w_zero
  exact hv166
def pay4_v9 (X8 : Mat 256 1024) : Mat 256 1024 := fun i j => X8 i j * X8 i j
def pay4_v10 (X8 : Mat 256 1024) : Fin 256 → ℝ := fun i => ∑ k, pay4_v9 X8 i k
def pay4_v11 (X8 : Mat 256 1024) : Mat 256 1 := fun i j => pay4_v10 X8 i
def pay4_v12 : Mat 256 1 := fun i j => 1024
def pay4_v13 (X8 : Mat 256 1024) : Mat 256 1 := fun i j => pay4_v11 X8 i j / pay4_v12 i j
def pay4_v14 : Mat 256 1 := fun i j => eps
def pay4_v15 (X8 : Mat 256 1024) : Mat 256 1 := fun i j => pay4_v13 X8 i j + pay4_v14 i j
def pay4_v16 (X8 : Mat 256 1024) : Mat 256 1 := fun i j => (Real.sqrt (pay4_v15 X8 i j))⁻¹
def pay4 (X8 : Mat 256 1024) : Mat 256 1 := (pay4_v16 X8)
theorem t_pay4 {v8 : FVec Ideal S256x1024 .f32} {X8 : Mat 256 1024} (h8 : Re v8 (c2 X8)) :
    Re (s := S256x1) (k0_pay4 (F := Ideal) v8) (c2 (pay4 X8)) := by
  have hv9 : Re (s := S256x1024) _ (c2 (pay4_v9 X8)) := Reals.mul h8 h8
  have hv10 : Re (s := S256) _ (c1 (pay4_v10 X8)) := Reals.rowSum reduces_S256x1024_S256 (.inl rfl) rfl hv9
  have hv11 : Re (s := S256x1) _ (c2 (pay4_v11 X8)) := Reals.column shapeCasts_S256_S256x1 hv10
  have hv12 : Re (s := S256x1) _ (c2 pay4_v12) := Reals.splat w_1024
  have hv13 : Re (s := S256x1) _ (c2 (pay4_v13 X8)) := Reals.div (φ := .f32) hv11 hv12 (fun _ => (by norm_num : (1024 : ℝ) ≠ 0))
  have hv14 : Re (s := S256x1) _ (c2 pay4_v14) := Reals.splat w_eps
  have hv15 : Re (s := S256x1) _ (c2 (pay4_v15 X8)) := Reals.add hv13 hv14
  have hv16 : Re (s := S256x1) _ (c2 (pay4_v16 X8)) := Reals.rsqrt hv15 (fun i : Shape.Idx S256x1 => pos_ms (fun k => (X8 (i 0) k)))
  exact hv16
def pay5_v17 (X8 : Mat 256 1024) : Mat 256 1024 := fun i j => pay4 X8 i 0
def pay5_v18 (X8 : Mat 256 1024) : Mat 256 1024 := fun i j => X8 i j * pay5_v17 X8 i j
def pay5 (X8 : Mat 256 1024) : Mat 256 1024 := (pay5_v18 X8)
theorem t_pay5 {v8 : FVec Ideal S256x1024 .f32} {X8 : Mat 256 1024} (h8 : Re v8 (c2 X8)) :
    Re (s := S256x1024) (k0_pay5 (F := Ideal) v8) (c2 (pay5 X8)) := by
  have hv17 : Re (s := S256x1024) _ (c2 (pay5_v17 X8)) := Reals.cols broadcasts_S256x1_S256x1024 (t_pay4 h8)
  have hv18 : Re (s := S256x1024) _ (c2 (pay5_v18 X8)) := Reals.mul h8 hv17
  exact hv18
def pay6_v19 (X3 : Mat 1 1024) : Mat 256 1024 := fun i j => X3 0 j
def pay6_v20 (X3 : Mat 1 1024) (X8 : Mat 256 1024) : Mat 256 1024 := fun i j => pay5 X8 i j * pay6_v19 X3 i j
def pay6_v21 : Mat 1 1024 := fun i j => 1
def pay6_v22 (X5 : Mat 1 1024) : Mat 1 1024 := fun i j => pay6_v21 i j + X5 i j
def pay6_v23 (X5 : Mat 1 1024) : Mat 256 1024 := fun i j => pay6_v22 X5 0 j
def pay6_v24 (X3 X5 : Mat 1 1024) (X8 : Mat 256 1024) : Mat 256 1024 := fun i j => pay6_v20 X3 X8 i j * pay6_v23 X5 i j
def pay6_v25 (X4 : Mat 1 1024) : Mat 256 1024 := fun i j => X4 0 j
def pay6_v26 (X3 X4 X5 : Mat 1 1024) (X8 : Mat 256 1024) : Mat 256 1024 := fun i j => pay6_v24 X3 X5 X8 i j + pay6_v25 X4 i j
def pay6_v27 (X3 X4 X5 : Mat 1 1024) (X8 : Mat 256 1024) : Mat 256 1024 := fun i j => pay6_v26 X3 X4 X5 X8 i j
def pay6 (X3 X4 X5 : Mat 1 1024) (X8 : Mat 256 1024) : Mat 256 1024 := (pay6_v27 X3 X4 X5 X8)
theorem t_pay6 {v3 v4 v5 : FVec Ideal S1x1024 .f32} {X3 X4 X5 : Mat 1 1024} {v8 : FVec Ideal S256x1024 .f32} {X8 : Mat 256 1024} (h3 : Re v3 (c2 X3)) (h4 : Re v4 (c2 X4)) (h5 : Re v5 (c2 X5)) (h8 : Re v8 (c2 X8)) :
    Re (s := S256x1024) (k0_pay6 (F := Ideal) v3 v4 v5 v8) (c2 (pay6 X3 X4 X5 X8)) := by
  have hv19 : Re (s := S256x1024) _ (c2 (pay6_v19 X3)) := Reals.rows broadcasts_S1x1024_S256x1024 h3
  have hv20 : Re (s := S256x1024) _ (c2 (pay6_v20 X3 X8)) := Reals.mul (t_pay5 h8) hv19
  have hv21 : Re (s := S1x1024) _ (c2 pay6_v21) := Reals.splat w_one
  have hv22 : Re (s := S1x1024) _ (c2 (pay6_v22 X5)) := Reals.add hv21 h5
  have hv23 : Re (s := S256x1024) _ (c2 (pay6_v23 X5)) := Reals.rows broadcasts_S1x1024_S256x1024 hv22
  have hv24 : Re (s := S256x1024) _ (c2 (pay6_v24 X3 X5 X8)) := Reals.mul hv20 hv23
  have hv25 : Re (s := S256x1024) _ (c2 (pay6_v25 X4)) := Reals.rows broadcasts_S1x1024_S256x1024 h4
  have hv26 : Re (s := S256x1024) _ (c2 (pay6_v26 X3 X4 X5 X8)) := Reals.add hv24 hv25
  have hv27 : Re (s := S256x1024) _ (c2 (pay6_v27 X3 X4 X5 X8)) := Reals.trunc bitsLt_bf16_f32 hv26
  exact hv27
def pay7_v30 (X3 X4 X5 : Mat 1 1024) (X8 : Mat 256 1024) (X29 : Mat 1024 2816) : Mat 256 2816 := fun i j => ∑ k, pay6 X3 X4 X5 X8 i k * X29 k j
def pay7 (X3 X4 X5 : Mat 1 1024) (X8 : Mat 256 1024) (X29 : Mat 1024 2816) : Mat 256 2816 := (pay7_v30 X3 X4 X5 X8 X29)
theorem t_pay7 {v3 v4 v5 : FVec Ideal S1x1024 .f32} {X3 X4 X5 : Mat 1 1024} {v8 : FVec Ideal S256x1024 .f32} {X8 : Mat 256 1024} {v29 : FVec Ideal S1024x2816 .bf16} {X29 : Mat 1024 2816} (h3 : Re v3 (c2 X3)) (h4 : Re v4 (c2 X4)) (h5 : Re v5 (c2 X5)) (h8 : Re v8 (c2 X8)) (h29 : Re v29 (c2 X29)) :
    Re (s := S256x2816) (k0_pay7 (F := Ideal) v3 v4 v5 v8 v29) (c2 (pay7 X3 X4 X5 X8 X29)) := by
  let cst_15 : FVec Ideal S256x2816 .f32 := constant S256x2816 .f32 0x00000000#32
  let v30 : FVec Ideal S256x2816 .f32 := matmul dot_S256x1024_S1024x2816_S256x2816_1_0_0_1_n_n none (k0_pay6 v3 v4 v5 v8) v29 cst_15
  have hv30 : Re (s := S256x2816) v30 (c2 (pay7_v30 X3 X4 X5 X8 X29)) := Reals.dotNN (t_pay6 h3 h4 h5 h8) h29
  exact hv30
def pay8_v32 (X27 : Mat 256 1024) (X31 : Mat 1024 2816) : Mat 256 2816 := fun i j => ∑ k, X27 i k * X31 k j
def pay8 (X27 : Mat 256 1024) (X31 : Mat 1024 2816) : Mat 256 2816 := (pay8_v32 X27 X31)
theorem t_pay8 {v27 : FVec Ideal S256x1024 .bf16} {X27 : Mat 256 1024} {v31 : FVec Ideal S1024x2816 .bf16} {X31 : Mat 1024 2816} (h27 : Re v27 (c2 X27)) (h31 : Re v31 (c2 X31)) :
    Re (s := S256x2816) (k0_pay8 (F := Ideal) v27 v31) (c2 (pay8 X27 X31)) := by
  let cst_18 : FVec Ideal S256x2816 .f32 := constant S256x2816 .f32 0x00000000#32
  let v32 : FVec Ideal S256x2816 .f32 := matmul dot_S256x1024_S1024x2816_S256x2816_1_0_0_1_n_n none v27 v31 cst_18
  have hv32 : Re (s := S256x2816) v32 (c2 (pay8_v32 X27 X31)) := Reals.dotNN h27 h31
  exact hv32
def pay9_v33 : Mat 256 2816 := fun i j => 0
def pay9_v34 (X30 : Mat 256 2816) : Mat 256 2816 := fun i j => pay9_v33 i j - X30 i j
def pay9_v35 (X30 : Mat 256 2816) : Mat 256 2816 := fun i j => Real.exp (pay9_v34 X30 i j)
def pay9_v36 : Mat 256 2816 := fun i j => 1
def pay9_v37 (X30 : Mat 256 2816) : Mat 256 2816 := fun i j => pay9_v36 i j + pay9_v35 X30 i j
def pay9_v38 : Mat 256 2816 := fun i j => 1
def pay9_v39 (X30 : Mat 256 2816) : Mat 256 2816 := fun i j => pay9_v38 i j / pay9_v37 X30 i j
def pay9 (X30 : Mat 256 2816) : Mat 256 2816 := (pay9_v39 X30)
theorem t_pay9 {v30 : FVec Ideal S256x2816 .f32} {X30 : Mat 256 2816} (h30 : Re v30 (c2 X30)) :
    Re (s := S256x2816) (k0_pay9 (F := Ideal) v30) (c2 (pay9 X30)) := by
  have hv33 : Re (s := S256x2816) _ (c2 pay9_v33) := Reals.splat w_zero
  have hv34 : Re (s := S256x2816) _ (c2 (pay9_v34 X30)) := Reals.sub hv33 h30
  have hv35 : Re (s := S256x2816) _ (c2 (pay9_v35 X30)) := Reals.exp hv34
  have hv36 : Re (s := S256x2816) _ (c2 pay9_v36) := Reals.splat w_one
  have hv37 : Re (s := S256x2816) _ (c2 (pay9_v37 X30)) := Reals.add hv36 hv35
  have hv38 : Re (s := S256x2816) _ (c2 pay9_v38) := Reals.splat w_one
  have hv39 : Re (s := S256x2816) _ (c2 (pay9_v39 X30)) := Reals.div (φ := .f32) hv38 hv37 (fun _ => (one_add_exp_pos _).ne')
  exact hv39
def pay10_v40 (X30 : Mat 256 2816) : Mat 256 2816 := fun i j => X30 i j * pay9 X30 i j
def pay10 (X30 : Mat 256 2816) : Mat 256 2816 := (pay10_v40 X30)
theorem t_pay10 {v30 : FVec Ideal S256x2816 .f32} {X30 : Mat 256 2816} (h30 : Re v30 (c2 X30)) :
    Re (s := S256x2816) (k0_pay10 (F := Ideal) v30) (c2 (pay10 X30)) := by
  have hv40 : Re (s := S256x2816) _ (c2 (pay10_v40 X30)) := Reals.mul h30 (t_pay9 h30)
  exact hv40
def pay11_v41 (X27 : Mat 256 1024) (X30 : Mat 256 2816) (X31 : Mat 1024 2816) : Mat 256 2816 := fun i j => pay10 X30 i j * pay8 X27 X31 i j
def pay11_v42 (X27 : Mat 256 1024) (X30 : Mat 256 2816) (X31 : Mat 1024 2816) : Mat 256 2816 := fun i j => pay11_v41 X27 X30 X31 i j
def pay11 (X27 : Mat 256 1024) (X30 : Mat 256 2816) (X31 : Mat 1024 2816) : Mat 256 2816 := (pay11_v42 X27 X30 X31)
theorem t_pay11 {v27 : FVec Ideal S256x1024 .bf16} {X27 : Mat 256 1024} {v30 : FVec Ideal S256x2816 .f32} {X30 : Mat 256 2816} {v31 : FVec Ideal S1024x2816 .bf16} {X31 : Mat 1024 2816} (h27 : Re v27 (c2 X27)) (h30 : Re v30 (c2 X30)) (h31 : Re v31 (c2 X31)) :
    Re (s := S256x2816) (k0_pay11 (F := Ideal) v27 v30 v31) (c2 (pay11 X27 X30 X31)) := by
  have hv41 : Re (s := S256x2816) _ (c2 (pay11_v41 X27 X30 X31)) := Reals.mul (t_pay10 h30) (t_pay8 h27 h31)
  have hv42 : Re (s := S256x2816) _ (c2 (pay11_v42 X27 X30 X31)) := Reals.trunc bitsLt_bf16_f32 hv41
  exact hv42
def pay12_v45 (X27 : Mat 256 1024) (X30 : Mat 256 2816) (X31 : Mat 1024 2816) (X44 : Mat 2816 1024) : Mat 256 1024 := fun i j => ∑ k, pay11 X27 X30 X31 i k * X44 k j
def pay12 (X27 : Mat 256 1024) (X30 : Mat 256 2816) (X31 : Mat 1024 2816) (X44 : Mat 2816 1024) : Mat 256 1024 := (pay12_v45 X27 X30 X31 X44)
theorem t_pay12 {v27 : FVec Ideal S256x1024 .bf16} {X27 : Mat 256 1024} {v30 : FVec Ideal S256x2816 .f32} {X30 : Mat 256 2816} {v31 : FVec Ideal S1024x2816 .bf16} {X31 : Mat 1024 2816} {v44 : FVec Ideal S2816x1024 .bf16} {X44 : Mat 2816 1024} (h27 : Re v27 (c2 X27)) (h30 : Re v30 (c2 X30)) (h31 : Re v31 (c2 X31)) (h44 : Re v44 (c2 X44)) :
    Re (s := S256x1024) (k0_pay12 (F := Ideal) v27 v30 v31 v44) (c2 (pay12 X27 X30 X31 X44)) := by
  let cst_26 : FVec Ideal S256x1024 .f32 := constant S256x1024 .f32 0x00000000#32
  let v45 : FVec Ideal S256x1024 .f32 := matmul dot_S256x2816_S2816x1024_S256x1024_1_0_0_1_n_n none (k0_pay11 v27 v30 v31) v44 cst_26
  have hv45 : Re (s := S256x1024) v45 (c2 (pay12_v45 X27 X30 X31 X44)) := Reals.dotNN (t_pay11 h27 h30 h31) h44
  exact hv45
def pay13_v46 (X6 : Mat 1 1024) : Mat 256 1024 := fun i j => X6 0 j
def pay13_v47 (X6 : Mat 1 1024) (X27 : Mat 256 1024) (X30 : Mat 256 2816) (X31 : Mat 1024 2816) (X44 : Mat 2816 1024) : Mat 256 1024 := fun i j => pay13_v46 X6 i j * pay12 X27 X30 X31 X44 i j
def pay13_v48 (X6 : Mat 1 1024) (X8 X27 : Mat 256 1024) (X30 : Mat 256 2816) (X31 : Mat 1024 2816) (X44 : Mat 2816 1024) : Mat 256 1024 := fun i j => X8 i j + pay13_v47 X6 X27 X30 X31 X44 i j
def pay13 (X6 : Mat 1 1024) (X8 X27 : Mat 256 1024) (X30 : Mat 256 2816) (X31 : Mat 1024 2816) (X44 : Mat 2816 1024) : Mat 256 1024 := (pay13_v48 X6 X8 X27 X30 X31 X44)
theorem t_pay13 {v6 : FVec Ideal S1x1024 .f32} {X6 : Mat 1 1024} {v8 : FVec Ideal S256x1024 .f32} {X8 X27 : Mat 256 1024} {v27 : FVec Ideal S256x1024 .bf16} {v30 : FVec Ideal S256x2816 .f32} {X30 : Mat 256 2816} {v31 : FVec Ideal S1024x2816 .bf16} {X31 : Mat 1024 2816} {v44 : FVec Ideal S2816x1024 .bf16} {X44 : Mat 2816 1024} (h6 : Re v6 (c2 X6)) (h8 : Re v8 (c2 X8)) (h27 : Re v27 (c2 X27)) (h30 : Re v30 (c2 X30)) (h31 : Re v31 (c2 X31)) (h44 : Re v44 (c2 X44)) :
    Re (s := S256x1024) (k0_pay13 (F := Ideal) v6 v8 v27 v30 v31 v44) (c2 (pay13 X6 X8 X27 X30 X31 X44)) := by
  have hv46 : Re (s := S256x1024) _ (c2 (pay13_v46 X6)) := Reals.rows broadcasts_S1x1024_S256x1024 h6
  have hv47 : Re (s := S256x1024) _ (c2 (pay13_v47 X6 X27 X30 X31 X44)) := Reals.mul hv46 (t_pay12 h27 h30 h31 h44)
  have hv48 : Re (s := S256x1024) _ (c2 (pay13_v48 X6 X8 X27 X30 X31 X44)) := Reals.add h8 hv47
  exact hv48
def pay14_v49 (X6 : Mat 1 1024) (X8 X27 : Mat 256 1024) (X30 : Mat 256 2816) (X31 : Mat 1024 2816) (X44 : Mat 2816 1024) : Mat 256 1024 := fun i j => pay13 X6 X8 X27 X30 X31 X44 i j * pay13 X6 X8 X27 X30 X31 X44 i j
def pay14_v50 (X6 : Mat 1 1024) (X8 X27 : Mat 256 1024) (X30 : Mat 256 2816) (X31 : Mat 1024 2816) (X44 : Mat 2816 1024) : Fin 256 → ℝ := fun i => ∑ k, pay14_v49 X6 X8 X27 X30 X31 X44 i k
def pay14_v51 (X6 : Mat 1 1024) (X8 X27 : Mat 256 1024) (X30 : Mat 256 2816) (X31 : Mat 1024 2816) (X44 : Mat 2816 1024) : Mat 256 1 := fun i j => pay14_v50 X6 X8 X27 X30 X31 X44 i
def pay14_v52 : Mat 256 1 := fun i j => 1024
def pay14_v53 (X6 : Mat 1 1024) (X8 X27 : Mat 256 1024) (X30 : Mat 256 2816) (X31 : Mat 1024 2816) (X44 : Mat 2816 1024) : Mat 256 1 := fun i j => pay14_v51 X6 X8 X27 X30 X31 X44 i j / pay14_v52 i j
def pay14_v54 : Mat 256 1 := fun i j => eps
def pay14_v55 (X6 : Mat 1 1024) (X8 X27 : Mat 256 1024) (X30 : Mat 256 2816) (X31 : Mat 1024 2816) (X44 : Mat 2816 1024) : Mat 256 1 := fun i j => pay14_v53 X6 X8 X27 X30 X31 X44 i j + pay14_v54 i j
def pay14_v56 (X6 : Mat 1 1024) (X8 X27 : Mat 256 1024) (X30 : Mat 256 2816) (X31 : Mat 1024 2816) (X44 : Mat 2816 1024) : Mat 256 1 := fun i j => (Real.sqrt (pay14_v55 X6 X8 X27 X30 X31 X44 i j))⁻¹
def pay14 (X6 : Mat 1 1024) (X8 X27 : Mat 256 1024) (X30 : Mat 256 2816) (X31 : Mat 1024 2816) (X44 : Mat 2816 1024) : Mat 256 1 := (pay14_v56 X6 X8 X27 X30 X31 X44)
theorem t_pay14 {v6 : FVec Ideal S1x1024 .f32} {X6 : Mat 1 1024} {v8 : FVec Ideal S256x1024 .f32} {X8 X27 : Mat 256 1024} {v27 : FVec Ideal S256x1024 .bf16} {v30 : FVec Ideal S256x2816 .f32} {X30 : Mat 256 2816} {v31 : FVec Ideal S1024x2816 .bf16} {X31 : Mat 1024 2816} {v44 : FVec Ideal S2816x1024 .bf16} {X44 : Mat 2816 1024} (h6 : Re v6 (c2 X6)) (h8 : Re v8 (c2 X8)) (h27 : Re v27 (c2 X27)) (h30 : Re v30 (c2 X30)) (h31 : Re v31 (c2 X31)) (h44 : Re v44 (c2 X44)) :
    Re (s := S256x1) (k0_pay14 (F := Ideal) v6 v8 v27 v30 v31 v44) (c2 (pay14 X6 X8 X27 X30 X31 X44)) := by
  have hv49 : Re (s := S256x1024) _ (c2 (pay14_v49 X6 X8 X27 X30 X31 X44)) := Reals.mul (t_pay13 h6 h8 h27 h30 h31 h44) (t_pay13 h6 h8 h27 h30 h31 h44)
  have hv50 : Re (s := S256) _ (c1 (pay14_v50 X6 X8 X27 X30 X31 X44)) := Reals.rowSum reduces_S256x1024_S256 (.inl rfl) rfl hv49
  have hv51 : Re (s := S256x1) _ (c2 (pay14_v51 X6 X8 X27 X30 X31 X44)) := Reals.column shapeCasts_S256_S256x1 hv50
  have hv52 : Re (s := S256x1) _ (c2 pay14_v52) := Reals.splat w_1024
  have hv53 : Re (s := S256x1) _ (c2 (pay14_v53 X6 X8 X27 X30 X31 X44)) := Reals.div (φ := .f32) hv51 hv52 (fun _ => (by norm_num : (1024 : ℝ) ≠ 0))
  have hv54 : Re (s := S256x1) _ (c2 pay14_v54) := Reals.splat w_eps
  have hv55 : Re (s := S256x1) _ (c2 (pay14_v55 X6 X8 X27 X30 X31 X44)) := Reals.add hv53 hv54
  have hv56 : Re (s := S256x1) _ (c2 (pay14_v56 X6 X8 X27 X30 X31 X44)) := Reals.rsqrt hv55 (fun i : Shape.Idx S256x1 => pos_ms (fun k => ((pay13 X6 X8 X27 X30 X31 X44) (i 0) k)))
  exact hv56
def pay15_v57 (X6 : Mat 1 1024) (X8 X27 : Mat 256 1024) (X30 : Mat 256 2816) (X31 : Mat 1024 2816) (X44 : Mat 2816 1024) : Mat 256 1024 := fun i j => pay14 X6 X8 X27 X30 X31 X44 i 0
def pay15_v58 (X6 : Mat 1 1024) (X8 X27 : Mat 256 1024) (X30 : Mat 256 2816) (X31 : Mat 1024 2816) (X44 : Mat 2816 1024) : Mat 256 1024 := fun i j => pay13 X6 X8 X27 X30 X31 X44 i j * pay15_v57 X6 X8 X27 X30 X31 X44 i j
def pay15 (X6 : Mat 1 1024) (X8 X27 : Mat 256 1024) (X30 : Mat 256 2816) (X31 : Mat 1024 2816) (X44 : Mat 2816 1024) : Mat 256 1024 := (pay15_v58 X6 X8 X27 X30 X31 X44)
theorem t_pay15 {v6 : FVec Ideal S1x1024 .f32} {X6 : Mat 1 1024} {v8 : FVec Ideal S256x1024 .f32} {X8 X27 : Mat 256 1024} {v27 : FVec Ideal S256x1024 .bf16} {v30 : FVec Ideal S256x2816 .f32} {X30 : Mat 256 2816} {v31 : FVec Ideal S1024x2816 .bf16} {X31 : Mat 1024 2816} {v44 : FVec Ideal S2816x1024 .bf16} {X44 : Mat 2816 1024} (h6 : Re v6 (c2 X6)) (h8 : Re v8 (c2 X8)) (h27 : Re v27 (c2 X27)) (h30 : Re v30 (c2 X30)) (h31 : Re v31 (c2 X31)) (h44 : Re v44 (c2 X44)) :
    Re (s := S256x1024) (k0_pay15 (F := Ideal) v6 v8 v27 v30 v31 v44) (c2 (pay15 X6 X8 X27 X30 X31 X44)) := by
  have hv57 : Re (s := S256x1024) _ (c2 (pay15_v57 X6 X8 X27 X30 X31 X44)) := Reals.cols broadcasts_S256x1_S256x1024 (t_pay14 h6 h8 h27 h30 h31 h44)
  have hv58 : Re (s := S256x1024) _ (c2 (pay15_v58 X6 X8 X27 X30 X31 X44)) := Reals.mul (t_pay13 h6 h8 h27 h30 h31 h44) hv57
  exact hv58
def pay16_v59 (X7 : Mat 1 1024) : Mat 256 1024 := fun i j => X7 0 j
def pay16_v60 (X6 X7 : Mat 1 1024) (X8 X27 : Mat 256 1024) (X30 : Mat 256 2816) (X31 : Mat 1024 2816) (X44 : Mat 2816 1024) : Mat 256 1024 := fun i j => pay15 X6 X8 X27 X30 X31 X44 i j * pay16_v59 X7 i j
def pay16_v62 (X6 X7 : Mat 1 1024) (X8 X27 : Mat 256 1024) (X30 : Mat 256 2816) (X31 : Mat 1024 2816) (X44 : Mat 2816 1024) (X61 : Mat 256 1024) : Mat 256 1024 := fun i j => pay16_v60 X6 X7 X8 X27 X30 X31 X44 i j - X61 i j
def pay16 (X6 X7 : Mat 1 1024) (X8 X27 : Mat 256 1024) (X30 : Mat 256 2816) (X31 : Mat 1024 2816) (X44 : Mat 2816 1024) (X61 : Mat 256 1024) : Mat 256 1024 := (pay16_v62 X6 X7 X8 X27 X30 X31 X44 X61)
theorem t_pay16 {v6 v7 : FVec Ideal S1x1024 .f32} {X6 X7 : Mat 1 1024} {v8 v61 : FVec Ideal S256x1024 .f32} {X8 X27 X61 : Mat 256 1024} {v27 : FVec Ideal S256x1024 .bf16} {v30 : FVec Ideal S256x2816 .f32} {X30 : Mat 256 2816} {v31 : FVec Ideal S1024x2816 .bf16} {X31 : Mat 1024 2816} {v44 : FVec Ideal S2816x1024 .bf16} {X44 : Mat 2816 1024} (h6 : Re v6 (c2 X6)) (h7 : Re v7 (c2 X7)) (h8 : Re v8 (c2 X8)) (h27 : Re v27 (c2 X27)) (h30 : Re v30 (c2 X30)) (h31 : Re v31 (c2 X31)) (h44 : Re v44 (c2 X44)) (h61 : Re v61 (c2 X61)) :
    Re (s := S256x1024) (k0_pay16 (F := Ideal) v6 v7 v8 v27 v30 v31 v44 v61) (c2 (pay16 X6 X7 X8 X27 X30 X31 X44 X61)) := by
  have hv59 : Re (s := S256x1024) _ (c2 (pay16_v59 X7)) := Reals.rows broadcasts_S1x1024_S256x1024 h7
  have hv60 : Re (s := S256x1024) _ (c2 (pay16_v60 X6 X7 X8 X27 X30 X31 X44)) := Reals.mul (t_pay15 h6 h8 h27 h30 h31 h44) hv59
  have hv62 : Re (s := S256x1024) _ (c2 (pay16_v62 X6 X7 X8 X27 X30 X31 X44 X61)) := Reals.sub hv60 h61
  exact hv62
def pay17_v64 (X63 : Mat 8 1024) : Mat 8 1024 := fun i j => X63 i j
def pay17_v65 (X6 X7 : Mat 1 1024) (X8 X27 : Mat 256 1024) (X30 : Mat 256 2816) (X31 : Mat 1024 2816) (X44 : Mat 2816 1024) (X61 : Mat 256 1024) : Mat 256 1024 := fun i j => pay16 X6 X7 X8 X27 X30 X31 X44 X61 i j * pay16 X6 X7 X8 X27 X30 X31 X44 X61 i j
def pay17_v66 (X6 X7 : Mat 1 1024) (X8 X27 : Mat 256 1024) (X30 : Mat 256 2816) (X31 : Mat 1024 2816) (X44 : Mat 2816 1024) (X61 : Mat 256 1024) : Fin 32 → Mat 8 1024 := fun i j l => ((pay17_v65 X6 X7 X8 X27 X30 X31 X44 X61) ⟨8 * i.val + j.val, by omega⟩ l)
def pay17_v67 (X6 X7 : Mat 1 1024) (X8 X27 : Mat 256 1024) (X30 : Mat 256 2816) (X31 : Mat 1024 2816) (X44 : Mat 2816 1024) (X61 : Mat 256 1024) : Mat 8 1024 := fun i j => ∑ k, pay17_v66 X6 X7 X8 X27 X30 X31 X44 X61 k i j
def pay17_v68 : Mat 8 1024 := fun i j => (1 / 2048)
def pay17_v69 (X6 X7 : Mat 1 1024) (X8 X27 : Mat 256 1024) (X30 : Mat 256 2816) (X31 : Mat 1024 2816) (X44 : Mat 2816 1024) (X61 : Mat 256 1024) : Mat 8 1024 := fun i j => pay17_v67 X6 X7 X8 X27 X30 X31 X44 X61 i j * pay17_v68 i j
def pay17_v70 (X6 X7 : Mat 1 1024) (X8 X27 : Mat 256 1024) (X30 : Mat 256 2816) (X31 : Mat 1024 2816) (X44 : Mat 2816 1024) (X61 : Mat 256 1024) (X63 : Mat 8 1024) : Mat 8 1024 := fun i j => pay17_v64 X63 i j + pay17_v69 X6 X7 X8 X27 X30 X31 X44 X61 i j
def pay17 (X6 X7 : Mat 1 1024) (X8 X27 : Mat 256 1024) (X30 : Mat 256 2816) (X31 : Mat 1024 2816) (X44 : Mat 2816 1024) (X61 : Mat 256 1024) (X63 : Mat 8 1024) : Mat 8 1024 := (pay17_v70 X6 X7 X8 X27 X30 X31 X44 X61 X63)
theorem t_pay17 {v6 v7 : FVec Ideal S1x1024 .f32} {X6 X7 : Mat 1 1024} {v8 v61 : FVec Ideal S256x1024 .f32} {X8 X27 X61 : Mat 256 1024} {v27 : FVec Ideal S256x1024 .bf16} {v30 : FVec Ideal S256x2816 .f32} {X30 : Mat 256 2816} {v31 : FVec Ideal S1024x2816 .bf16} {X31 : Mat 1024 2816} {v44 : FVec Ideal S2816x1024 .bf16} {X44 : Mat 2816 1024} {v63 : FVec Ideal S8x1024 .f32} {X63 : Mat 8 1024} (h6 : Re v6 (c2 X6)) (h7 : Re v7 (c2 X7)) (h8 : Re v8 (c2 X8)) (h27 : Re v27 (c2 X27)) (h30 : Re v30 (c2 X30)) (h31 : Re v31 (c2 X31)) (h44 : Re v44 (c2 X44)) (h61 : Re v61 (c2 X61)) (h63 : Re v63 (c2 X63)) :
    Re (s := S8x1024) (k0_pay17 (F := Ideal) v6 v7 v8 v27 v30 v31 v44 v61 v63) (c2 (pay17 X6 X7 X8 X27 X30 X31 X44 X61 X63)) := by
  have hv64 : Re (s := S8x1024) _ (c2 (pay17_v64 X63)) := Reals.sameShape shapeCasts_S8x1024_S8x1024 h63
  have hv65 : Re (s := S256x1024) _ (c2 (pay17_v65 X6 X7 X8 X27 X30 X31 X44 X61)) := Reals.mul (t_pay16 h6 h7 h8 h27 h30 h31 h44 h61) (t_pay16 h6 h7 h8 h27 h30 h31 h44 h61)
  have hv66 : Re (s := S32x8x1024) _ (c3 (pay17_v66 X6 X7 X8 X27 X30 X31 X44 X61)) := Reals.eights (by norm_num) shapeCasts_S256x1024_S32x8x1024 hv65
  have hv67 : Re (s := S8x1024) _ (c2 (pay17_v67 X6 X7 X8 X27 X30 X31 X44 X61)) := Reals.headSum reduces_S32x8x1024_S8x1024 (.inl rfl) rfl hv66
  have hv68 : Re (s := S8x1024) _ (c2 pay17_v68) := Reals.splat w_inv_2048
  have hv69 : Re (s := S8x1024) _ (c2 (pay17_v69 X6 X7 X8 X27 X30 X31 X44 X61)) := Reals.mul hv67 hv68
  have hv70 : Re (s := S8x1024) _ (c2 (pay17_v70 X6 X7 X8 X27 X30 X31 X44 X61 X63)) := Reals.add hv64 hv69
  exact hv70
def pay18_v72 : Mat 256 1024 := fun i j => (1 / 1024)
def pay18_v73 (X62 : Mat 256 1024) : Mat 256 1024 := fun i j => X62 i j * pay18_v72 i j
def pay18 (X62 : Mat 256 1024) : Mat 256 1024 := (pay18_v73 X62)
theorem t_pay18 {v62 : FVec Ideal S256x1024 .f32} {X62 : Mat 256 1024} (h62 : Re v62 (c2 X62)) :
    Re (s := S256x1024) (k0_pay18 (F := Ideal) v62) (c2 (pay18 X62)) := by
  have hv72 : Re (s := S256x1024) _ (c2 pay18_v72) := Reals.splat w_inv_1024
  have hv73 : Re (s := S256x1024) _ (c2 (pay18_v73 X62)) := Reals.mul h62 hv72
  exact hv73
def pay19_v75 (X74 : Mat 8 1024) : Mat 8 1024 := fun i j => X74 i j
def pay19_v76 (X58 X62 : Mat 256 1024) : Mat 256 1024 := fun i j => pay18 X62 i j * X58 i j
def pay19_v77 (X58 X62 : Mat 256 1024) : Fin 32 → Mat 8 1024 := fun i j l => ((pay19_v76 X58 X62) ⟨8 * i.val + j.val, by omega⟩ l)
def pay19_v78 (X58 X62 : Mat 256 1024) : Mat 8 1024 := fun i j => ∑ k, pay19_v77 X58 X62 k i j
def pay19_v79 (X58 X62 : Mat 256 1024) (X74 : Mat 8 1024) : Mat 8 1024 := fun i j => pay19_v75 X74 i j + pay19_v78 X58 X62 i j
def pay19 (X58 X62 : Mat 256 1024) (X74 : Mat 8 1024) : Mat 8 1024 := (pay19_v79 X58 X62 X74)
theorem t_pay19 {v58 v62 : FVec Ideal S256x1024 .f32} {X58 X62 : Mat 256 1024} {v74 : FVec Ideal S8x1024 .f32} {X74 : Mat 8 1024} (h58 : Re v58 (c2 X58)) (h62 : Re v62 (c2 X62)) (h74 : Re v74 (c2 X74)) :
    Re (s := S8x1024) (k0_pay19 (F := Ideal) v58 v62 v74) (c2 (pay19 X58 X62 X74)) := by
  have hv75 : Re (s := S8x1024) _ (c2 (pay19_v75 X74)) := Reals.sameShape shapeCasts_S8x1024_S8x1024 h74
  have hv76 : Re (s := S256x1024) _ (c2 (pay19_v76 X58 X62)) := Reals.mul (t_pay18 h62) h58
  have hv77 : Re (s := S32x8x1024) _ (c3 (pay19_v77 X58 X62)) := Reals.eights (by norm_num) shapeCasts_S256x1024_S32x8x1024 hv76
  have hv78 : Re (s := S8x1024) _ (c2 (pay19_v78 X58 X62)) := Reals.headSum reduces_S32x8x1024_S8x1024 (.inl rfl) rfl hv77
  have hv79 : Re (s := S8x1024) _ (c2 (pay19_v79 X58 X62 X74)) := Reals.add hv75 hv78
  exact hv79
def pay20_v81 (X7 : Mat 1 1024) : Mat 256 1024 := fun i j => X7 0 j
def pay20_v82 (X7 : Mat 1 1024) (X62 : Mat 256 1024) : Mat 256 1024 := fun i j => pay18 X62 i j * pay20_v81 X7 i j
def pay20_v83 (X7 : Mat 1 1024) (X58 X62 : Mat 256 1024) : Mat 256 1024 := fun i j => pay20_v82 X7 X62 i j * X58 i j
def pay20_v84 (X7 : Mat 1 1024) (X58 X62 : Mat 256 1024) : Fin 256 → ℝ := fun i => ∑ k, pay20_v83 X7 X58 X62 i k
def pay20_v85 (X7 : Mat 1 1024) (X58 X62 : Mat 256 1024) : Mat 256 1 := fun i j => pay20_v84 X7 X58 X62 i
def pay20_v86 : Mat 256 1 := fun i j => 1024
def pay20_v87 (X7 : Mat 1 1024) (X58 X62 : Mat 256 1024) : Mat 256 1 := fun i j => pay20_v85 X7 X58 X62 i j / pay20_v86 i j
def pay20_v88 (X7 : Mat 1 1024) (X58 X62 : Mat 256 1024) : Mat 256 1024 := fun i j => pay20_v87 X7 X58 X62 i 0
def pay20_v89 (X7 : Mat 1 1024) (X58 X62 : Mat 256 1024) : Mat 256 1024 := fun i j => X58 i j * pay20_v88 X7 X58 X62 i j
def pay20_v90 (X7 : Mat 1 1024) (X58 X62 : Mat 256 1024) : Mat 256 1024 := fun i j => pay20_v82 X7 X62 i j - pay20_v89 X7 X58 X62 i j
def pay20_v91 (X56 : Mat 256 1) : Mat 256 1024 := fun i j => X56 i 0
def pay20_v92 (X7 : Mat 1 1024) (X56 : Mat 256 1) (X58 X62 : Mat 256 1024) : Mat 256 1024 := fun i j => pay20_v91 X56 i j * pay20_v90 X7 X58 X62 i j
def pay20 (X7 : Mat 1 1024) (X56 : Mat 256 1) (X58 X62 : Mat 256 1024) : Mat 256 1024 := (pay20_v92 X7 X56 X58 X62)
theorem t_pay20 {v7 : FVec Ideal S1x1024 .f32} {X7 : Mat 1 1024} {v56 : FVec Ideal S256x1 .f32} {X56 : Mat 256 1} {v58 v62 : FVec Ideal S256x1024 .f32} {X58 X62 : Mat 256 1024} (h7 : Re v7 (c2 X7)) (h56 : Re v56 (c2 X56)) (h58 : Re v58 (c2 X58)) (h62 : Re v62 (c2 X62)) :
    Re (s := S256x1024) (k0_pay20 (F := Ideal) v7 v56 v58 v62) (c2 (pay20 X7 X56 X58 X62)) := by
  have hv81 : Re (s := S256x1024) _ (c2 (pay20_v81 X7)) := Reals.rows broadcasts_S1x1024_S256x1024 h7
  have hv82 : Re (s := S256x1024) _ (c2 (pay20_v82 X7 X62)) := Reals.mul (t_pay18 h62) hv81
  have hv83 : Re (s := S256x1024) _ (c2 (pay20_v83 X7 X58 X62)) := Reals.mul hv82 h58
  have hv84 : Re (s := S256) _ (c1 (pay20_v84 X7 X58 X62)) := Reals.rowSum reduces_S256x1024_S256 (.inl rfl) rfl hv83
  have hv85 : Re (s := S256x1) _ (c2 (pay20_v85 X7 X58 X62)) := Reals.column shapeCasts_S256_S256x1 hv84
  have hv86 : Re (s := S256x1) _ (c2 pay20_v86) := Reals.splat w_1024
  have hv87 : Re (s := S256x1) _ (c2 (pay20_v87 X7 X58 X62)) := Reals.div (φ := .f32) hv85 hv86 (fun _ => (by norm_num : (1024 : ℝ) ≠ 0))
  have hv88 : Re (s := S256x1024) _ (c2 (pay20_v88 X7 X58 X62)) := Reals.cols broadcasts_S256x1_S256x1024 hv87
  have hv89 : Re (s := S256x1024) _ (c2 (pay20_v89 X7 X58 X62)) := Reals.mul h58 hv88
  have hv90 : Re (s := S256x1024) _ (c2 (pay20_v90 X7 X58 X62)) := Reals.sub hv82 hv89
  have hv91 : Re (s := S256x1024) _ (c2 (pay20_v91 X56)) := Reals.cols broadcasts_S256x1_S256x1024 h56
  have hv92 : Re (s := S256x1024) _ (c2 (pay20_v92 X7 X56 X58 X62)) := Reals.mul hv91 hv90
  exact hv92
def pay21_v94 (X93 : Mat 8 1024) : Mat 8 1024 := fun i j => X93 i j
def pay21_v95 (X7 : Mat 1 1024) (X45 : Mat 256 1024) (X56 : Mat 256 1) (X58 X62 : Mat 256 1024) : Mat 256 1024 := fun i j => pay20 X7 X56 X58 X62 i j * X45 i j
def pay21_v96 (X7 : Mat 1 1024) (X45 : Mat 256 1024) (X56 : Mat 256 1) (X58 X62 : Mat 256 1024) : Fin 32 → Mat 8 1024 := fun i j l => ((pay21_v95 X7 X45 X56 X58 X62) ⟨8 * i.val + j.val, by omega⟩ l)
def pay21_v97 (X7 : Mat 1 1024) (X45 : Mat 256 1024) (X56 : Mat 256 1) (X58 X62 : Mat 256 1024) : Mat 8 1024 := fun i j => ∑ k, pay21_v96 X7 X45 X56 X58 X62 k i j
def pay21_v98 (X7 : Mat 1 1024) (X45 : Mat 256 1024) (X56 : Mat 256 1) (X58 X62 : Mat 256 1024) (X93 : Mat 8 1024) : Mat 8 1024 := fun i j => pay21_v94 X93 i j + pay21_v97 X7 X45 X56 X58 X62 i j
def pay21 (X7 : Mat 1 1024) (X45 : Mat 256 1024) (X56 : Mat 256 1) (X58 X62 : Mat 256 1024) (X93 : Mat 8 1024) : Mat 8 1024 := (pay21_v98 X7 X45 X56 X58 X62 X93)
theorem t_pay21 {v7 : FVec Ideal S1x1024 .f32} {X7 : Mat 1 1024} {v45 v58 v62 : FVec Ideal S256x1024 .f32} {X45 X58 X62 : Mat 256 1024} {v56 : FVec Ideal S256x1 .f32} {X56 : Mat 256 1} {v93 : FVec Ideal S8x1024 .f32} {X93 : Mat 8 1024} (h7 : Re v7 (c2 X7)) (h45 : Re v45 (c2 X45)) (h56 : Re v56 (c2 X56)) (h58 : Re v58 (c2 X58)) (h62 : Re v62 (c2 X62)) (h93 : Re v93 (c2 X93)) :
    Re (s := S8x1024) (k0_pay21 (F := Ideal) v7 v45 v56 v58 v62 v93) (c2 (pay21 X7 X45 X56 X58 X62 X93)) := by
  have hv94 : Re (s := S8x1024) _ (c2 (pay21_v94 X93)) := Reals.sameShape shapeCasts_S8x1024_S8x1024 h93
  have hv95 : Re (s := S256x1024) _ (c2 (pay21_v95 X7 X45 X56 X58 X62)) := Reals.mul (t_pay20 h7 h56 h58 h62) h45
  have hv96 : Re (s := S32x8x1024) _ (c3 (pay21_v96 X7 X45 X56 X58 X62)) := Reals.eights (by norm_num) shapeCasts_S256x1024_S32x8x1024 hv95
  have hv97 : Re (s := S8x1024) _ (c2 (pay21_v97 X7 X45 X56 X58 X62)) := Reals.headSum reduces_S32x8x1024_S8x1024 (.inl rfl) rfl hv96
  have hv98 : Re (s := S8x1024) _ (c2 (pay21_v98 X7 X45 X56 X58 X62 X93)) := Reals.add hv94 hv97
  exact hv98
def pay22_v100 (X6 : Mat 1 1024) : Mat 256 1024 := fun i j => X6 0 j
def pay22_v101 (X6 X7 : Mat 1 1024) (X56 : Mat 256 1) (X58 X62 : Mat 256 1024) : Mat 256 1024 := fun i j => pay20 X7 X56 X58 X62 i j * pay22_v100 X6 i j
def pay22_v102 (X6 X7 : Mat 1 1024) (X56 : Mat 256 1) (X58 X62 : Mat 256 1024) : Mat 256 1024 := fun i j => pay22_v101 X6 X7 X56 X58 X62 i j
def pay22 (X6 X7 : Mat 1 1024) (X56 : Mat 256 1) (X58 X62 : Mat 256 1024) : Mat 256 1024 := (pay22_v102 X6 X7 X56 X58 X62)
theorem t_pay22 {v6 v7 : FVec Ideal S1x1024 .f32} {X6 X7 : Mat 1 1024} {v56 : FVec Ideal S256x1 .f32} {X56 : Mat 256 1} {v58 v62 : FVec Ideal S256x1024 .f32} {X58 X62 : Mat 256 1024} (h6 : Re v6 (c2 X6)) (h7 : Re v7 (c2 X7)) (h56 : Re v56 (c2 X56)) (h58 : Re v58 (c2 X58)) (h62 : Re v62 (c2 X62)) :
    Re (s := S256x1024) (k0_pay22 (F := Ideal) v6 v7 v56 v58 v62) (c2 (pay22 X6 X7 X56 X58 X62)) := by
  have hv100 : Re (s := S256x1024) _ (c2 (pay22_v100 X6)) := Reals.rows broadcasts_S1x1024_S256x1024 h6
  have hv101 : Re (s := S256x1024) _ (c2 (pay22_v101 X6 X7 X56 X58 X62)) := Reals.mul (t_pay20 h7 h56 h58 h62) hv100
  have hv102 : Re (s := S256x1024) _ (c2 (pay22_v102 X6 X7 X56 X58 X62)) := Reals.trunc bitsLt_bf16_f32 hv101
  exact hv102
def pay23_v105 (X6 X7 : Mat 1 1024) (X56 : Mat 256 1) (X58 X62 : Mat 256 1024) (X104 : Mat 2816 1024) : Mat 256 2816 := fun i j => ∑ k, pay22 X6 X7 X56 X58 X62 i k * X104 j k
def pay23 (X6 X7 : Mat 1 1024) (X56 : Mat 256 1) (X58 X62 : Mat 256 1024) (X104 : Mat 2816 1024) : Mat 256 2816 := (pay23_v105 X6 X7 X56 X58 X62 X104)
theorem t_pay23 {v6 v7 : FVec Ideal S1x1024 .f32} {X6 X7 : Mat 1 1024} {v56 : FVec Ideal S256x1 .f32} {X56 : Mat 256 1} {v58 v62 : FVec Ideal S256x1024 .f32} {X58 X62 : Mat 256 1024} {v104 : FVec Ideal S2816x1024 .bf16} {X104 : Mat 2816 1024} (h6 : Re v6 (c2 X6)) (h7 : Re v7 (c2 X7)) (h56 : Re v56 (c2 X56)) (h58 : Re v58 (c2 X58)) (h62 : Re v62 (c2 X62)) (h104 : Re v104 (c2 X104)) :
    Re (s := S256x2816) (k0_pay23 (F := Ideal) v6 v7 v56 v58 v62 v104) (c2 (pay23 X6 X7 X56 X58 X62 X104)) := by
  let cst_53 : FVec Ideal S256x2816 .f32 := constant S256x2816 .f32 0x00000000#32
  let v105 : FVec Ideal S256x2816 .f32 := matmul dot_S256x1024_S2816x1024_S256x2816_1_1_0_0_n_n none (k0_pay22 v6 v7 v56 v58 v62) v104 cst_53
  have hv105 : Re (s := S256x2816) v105 (c2 (pay23_v105 X6 X7 X56 X58 X62 X104)) := Reals.dotNT (t_pay22 h6 h7 h56 h58 h62) h104
  exact hv105
def pay24_v106 (X6 X7 : Mat 1 1024) (X40 : Mat 256 2816) (X56 : Mat 256 1) (X58 X62 : Mat 256 1024) (X104 : Mat 2816 1024) : Mat 256 2816 := fun i j => pay23 X6 X7 X56 X58 X62 X104 i j * X40 i j
def pay24_v107 (X6 X7 : Mat 1 1024) (X40 : Mat 256 2816) (X56 : Mat 256 1) (X58 X62 : Mat 256 1024) (X104 : Mat 2816 1024) : Mat 256 2816 := fun i j => pay24_v106 X6 X7 X40 X56 X58 X62 X104 i j
def pay24 (X6 X7 : Mat 1 1024) (X40 : Mat 256 2816) (X56 : Mat 256 1) (X58 X62 : Mat 256 1024) (X104 : Mat 2816 1024) : Mat 256 2816 := (pay24_v107 X6 X7 X40 X56 X58 X62 X104)
theorem t_pay24 {v6 v7 : FVec Ideal S1x1024 .f32} {X6 X7 : Mat 1 1024} {v40 : FVec Ideal S256x2816 .f32} {X40 : Mat 256 2816} {v56 : FVec Ideal S256x1 .f32} {X56 : Mat 256 1} {v58 v62 : FVec Ideal S256x1024 .f32} {X58 X62 : Mat 256 1024} {v104 : FVec Ideal S2816x1024 .bf16} {X104 : Mat 2816 1024} (h6 : Re v6 (c2 X6)) (h7 : Re v7 (c2 X7)) (h40 : Re v40 (c2 X40)) (h56 : Re v56 (c2 X56)) (h58 : Re v58 (c2 X58)) (h62 : Re v62 (c2 X62)) (h104 : Re v104 (c2 X104)) :
    Re (s := S256x2816) (k0_pay24 (F := Ideal) v6 v7 v40 v56 v58 v62 v104) (c2 (pay24 X6 X7 X40 X56 X58 X62 X104)) := by
  have hv106 : Re (s := S256x2816) _ (c2 (pay24_v106 X6 X7 X40 X56 X58 X62 X104)) := Reals.mul (t_pay23 h6 h7 h56 h58 h62 h104) h40
  have hv107 : Re (s := S256x2816) _ (c2 (pay24_v107 X6 X7 X40 X56 X58 X62 X104)) := Reals.trunc bitsLt_bf16_f32 hv106
  exact hv107
def pay25_v108 (X6 X7 : Mat 1 1024) (X32 : Mat 256 2816) (X56 : Mat 256 1) (X58 X62 : Mat 256 1024) (X104 : Mat 2816 1024) : Mat 256 2816 := fun i j => pay23 X6 X7 X56 X58 X62 X104 i j * X32 i j
def pay25 (X6 X7 : Mat 1 1024) (X32 : Mat 256 2816) (X56 : Mat 256 1) (X58 X62 : Mat 256 1024) (X104 : Mat 2816 1024) : Mat 256 2816 := (pay25_v108 X6 X7 X32 X56 X58 X62 X104)
theorem t_pay25 {v6 v7 : FVec Ideal S1x1024 .f32} {X6 X7 : Mat 1 1024} {v32 : FVec Ideal S256x2816 .f32} {X32 : Mat 256 2816} {v56 : FVec Ideal S256x1 .f32} {X56 : Mat 256 1} {v58 v62 : FVec Ideal S256x1024 .f32} {X58 X62 : Mat 256 1024} {v104 : FVec Ideal S2816x1024 .bf16} {X104 : Mat 2816 1024} (h6 : Re v6 (c2 X6)) (h7 : Re v7 (c2 X7)) (h32 : Re v32 (c2 X32)) (h56 : Re v56 (c2 X56)) (h58 : Re v58 (c2 X58)) (h62 : Re v62 (c2 X62)) (h104 : Re v104 (c2 X104)) :
    Re (s := S256x2816) (k0_pay25 (F := Ideal) v6 v7 v32 v56 v58 v62 v104) (c2 (pay25 X6 X7 X32 X56 X58 X62 X104)) := by
  have hv108 : Re (s := S256x2816) _ (c2 (pay25_v108 X6 X7 X32 X56 X58 X62 X104)) := Reals.mul (t_pay23 h6 h7 h56 h58 h62 h104) h32
  exact hv108
def pay26_v109 : Mat 256 2816 := fun i j => 1
def pay26_v110 (X39 : Mat 256 2816) : Mat 256 2816 := fun i j => pay26_v109 i j - X39 i j
def pay26_v111 (X30 X39 : Mat 256 2816) : Mat 256 2816 := fun i j => X30 i j * pay26_v110 X39 i j
def pay26_v112 : Mat 256 2816 := fun i j => 1
def pay26_v113 (X30 X39 : Mat 256 2816) : Mat 256 2816 := fun i j => pay26_v112 i j + pay26_v111 X30 X39 i j
def pay26_v114 (X30 X39 : Mat 256 2816) : Mat 256 2816 := fun i j => X39 i j * pay26_v113 X30 X39 i j
def pay26_v115 (X30 X39 X108 : Mat 256 2816) : Mat 256 2816 := fun i j => X108 i j * pay26_v114 X30 X39 i j
def pay26_v116 (X30 X39 X108 : Mat 256 2816) : Mat 256 2816 := fun i j => pay26_v115 X30 X39 X108 i j
def pay26 (X30 X39 X108 : Mat 256 2816) : Mat 256 2816 := (pay26_v116 X30 X39 X108)
theorem t_pay26 {v30 v39 v108 : FVec Ideal S256x2816 .f32} {X30 X39 X108 : Mat 256 2816} (h30 : Re v30 (c2 X30)) (h39 : Re v39 (c2 X39)) (h108 : Re v108 (c2 X108)) :
    Re (s := S256x2816) (k0_pay26 (F := Ideal) v30 v39 v108) (c2 (pay26 X30 X39 X108)) := by
  have hv109 : Re (s := S256x2816) _ (c2 pay26_v109) := Reals.splat w_one
  have hv110 : Re (s := S256x2816) _ (c2 (pay26_v110 X39)) := Reals.sub hv109 h39
  have hv111 : Re (s := S256x2816) _ (c2 (pay26_v111 X30 X39)) := Reals.mul h30 hv110
  have hv112 : Re (s := S256x2816) _ (c2 pay26_v112) := Reals.splat w_one
  have hv113 : Re (s := S256x2816) _ (c2 (pay26_v113 X30 X39)) := Reals.add hv112 hv111
  have hv114 : Re (s := S256x2816) _ (c2 (pay26_v114 X30 X39)) := Reals.mul h39 hv113
  have hv115 : Re (s := S256x2816) _ (c2 (pay26_v115 X30 X39 X108)) := Reals.mul h108 hv114
  have hv116 : Re (s := S256x2816) _ (c2 (pay26_v116 X30 X39 X108)) := Reals.trunc bitsLt_bf16_f32 hv115
  exact hv116
def pay27_v120 (X30 X39 X108 : Mat 256 2816) (X119 : Mat 1024 2816) : Mat 256 1024 := fun i j => ∑ k, pay26 X30 X39 X108 i k * X119 j k
def pay27_v122 (X107 : Mat 256 2816) (X121 : Mat 1024 2816) : Mat 256 1024 := fun i j => ∑ k, X107 i k * X121 j k
def pay27_v123 (X30 X39 X107 X108 : Mat 256 2816) (X119 X121 : Mat 1024 2816) : Mat 256 1024 := fun i j => pay27_v120 X30 X39 X108 X119 i j + pay27_v122 X107 X121 i j
def pay27 (X30 X39 X107 X108 : Mat 256 2816) (X119 X121 : Mat 1024 2816) : Mat 256 1024 := (pay27_v123 X30 X39 X107 X108 X119 X121)
theorem t_pay27 {v30 v39 v108 : FVec Ideal S256x2816 .f32} {X30 X39 X107 X108 : Mat 256 2816} {v107 : FVec Ideal S256x2816 .bf16} {v119 v121 : FVec Ideal S1024x2816 .bf16} {X119 X121 : Mat 1024 2816} (h30 : Re v30 (c2 X30)) (h39 : Re v39 (c2 X39)) (h107 : Re v107 (c2 X107)) (h108 : Re v108 (c2 X108)) (h119 : Re v119 (c2 X119)) (h121 : Re v121 (c2 X121)) :
    Re (s := S256x1024) (k0_pay27 (F := Ideal) v30 v39 v107 v108 v119 v121) (c2 (pay27 X30 X39 X107 X108 X119 X121)) := by
  let cst_62 : FVec Ideal S256x1024 .f32 := constant S256x1024 .f32 0x00000000#32
  let v120 : FVec Ideal S256x1024 .f32 := matmul dot_S256x2816_S1024x2816_S256x1024_1_1_0_0_n_n none (k0_pay26 v30 v39 v108) v119 cst_62
  have hv120 : Re (s := S256x1024) v120 (c2 (pay27_v120 X30 X39 X108 X119)) := Reals.dotNT (t_pay26 h30 h39 h108) h119
  let cst_65 : FVec Ideal S256x1024 .f32 := constant S256x1024 .f32 0x00000000#32
  let v122 : FVec Ideal S256x1024 .f32 := matmul dot_S256x2816_S1024x2816_S256x1024_1_1_0_0_n_n none v107 v121 cst_65
  have hv122 : Re (s := S256x1024) v122 (c2 (pay27_v122 X107 X121)) := Reals.dotNT h107 h121
  have hv123 : Re (s := S256x1024) _ (c2 (pay27_v123 X30 X39 X107 X108 X119 X121)) := Reals.add hv120 hv122
  exact hv123
def pay28_v125 (X124 : Mat 8 1024) : Mat 8 1024 := fun i j => X124 i j
def pay28_v126 (X30 X39 X107 X108 : Mat 256 2816) (X119 X121 : Mat 1024 2816) : Fin 32 → Mat 8 1024 := fun i j l => ((pay27 X30 X39 X107 X108 X119 X121) ⟨8 * i.val + j.val, by omega⟩ l)
def pay28_v127 (X30 X39 X107 X108 : Mat 256 2816) (X119 X121 : Mat 1024 2816) : Mat 8 1024 := fun i j => ∑ k, pay28_v126 X30 X39 X107 X108 X119 X121 k i j
def pay28_v128 (X30 X39 X107 X108 : Mat 256 2816) (X119 X121 : Mat 1024 2816) (X124 : Mat 8 1024) : Mat 8 1024 := fun i j => pay28_v125 X124 i j + pay28_v127 X30 X39 X107 X108 X119 X121 i j
def pay28 (X30 X39 X107 X108 : Mat 256 2816) (X119 X121 : Mat 1024 2816) (X124 : Mat 8 1024) : Mat 8 1024 := (pay28_v128 X30 X39 X107 X108 X119 X121 X124)
theorem t_pay28 {v30 v39 v108 : FVec Ideal S256x2816 .f32} {X30 X39 X107 X108 : Mat 256 2816} {v107 : FVec Ideal S256x2816 .bf16} {v119 v121 : FVec Ideal S1024x2816 .bf16} {X119 X121 : Mat 1024 2816} {v124 : FVec Ideal S8x1024 .f32} {X124 : Mat 8 1024} (h30 : Re v30 (c2 X30)) (h39 : Re v39 (c2 X39)) (h107 : Re v107 (c2 X107)) (h108 : Re v108 (c2 X108)) (h119 : Re v119 (c2 X119)) (h121 : Re v121 (c2 X121)) (h124 : Re v124 (c2 X124)) :
    Re (s := S8x1024) (k0_pay28 (F := Ideal) v30 v39 v107 v108 v119 v121 v124) (c2 (pay28 X30 X39 X107 X108 X119 X121 X124)) := by
  have hv125 : Re (s := S8x1024) _ (c2 (pay28_v125 X124)) := Reals.sameShape shapeCasts_S8x1024_S8x1024 h124
  have hv126 : Re (s := S32x8x1024) _ (c3 (pay28_v126 X30 X39 X107 X108 X119 X121)) := Reals.eights (by norm_num) shapeCasts_S256x1024_S32x8x1024 (t_pay27 h30 h39 h107 h108 h119 h121)
  have hv127 : Re (s := S8x1024) _ (c2 (pay28_v127 X30 X39 X107 X108 X119 X121)) := Reals.headSum reduces_S32x8x1024_S8x1024 (.inl rfl) rfl hv126
  have hv128 : Re (s := S8x1024) _ (c2 (pay28_v128 X30 X39 X107 X108 X119 X121 X124)) := Reals.add hv125 hv127
  exact hv128
def pay29_v130 (X18 : Mat 256 1024) (X30 X39 X107 X108 : Mat 256 2816) (X119 X121 : Mat 1024 2816) : Mat 256 1024 := fun i j => pay27 X30 X39 X107 X108 X119 X121 i j * X18 i j
def pay29 (X18 : Mat 256 1024) (X30 X39 X107 X108 : Mat 256 2816) (X119 X121 : Mat 1024 2816) : Mat 256 1024 := (pay29_v130 X18 X30 X39 X107 X108 X119 X121)
theorem t_pay29 {v18 : FVec Ideal S256x1024 .f32} {X18 : Mat 256 1024} {v30 v39 v108 : FVec Ideal S256x2816 .f32} {X30 X39 X107 X108 : Mat 256 2816} {v107 : FVec Ideal S256x2816 .bf16} {v119 v121 : FVec Ideal S1024x2816 .bf16} {X119 X121 : Mat 1024 2816} (h18 : Re v18 (c2 X18)) (h30 : Re v30 (c2 X30)) (h39 : Re v39 (c2 X39)) (h107 : Re v107 (c2 X107)) (h108 : Re v108 (c2 X108)) (h119 : Re v119 (c2 X119)) (h121 : Re v121 (c2 X121)) :
    Re (s := S256x1024) (k0_pay29 (F := Ideal) v18 v30 v39 v107 v108 v119 v121) (c2 (pay29 X18 X30 X39 X107 X108 X119 X121)) := by
  have hv130 : Re (s := S256x1024) _ (c2 (pay29_v130 X18 X30 X39 X107 X108 X119 X121)) := Reals.mul (t_pay27 h30 h39 h107 h108 h119 h121) h18
  exact hv130
def pay30_v132 (X131 : Mat 8 1024) : Mat 8 1024 := fun i j => X131 i j
def pay30_v133 (X3 : Mat 1 1024) : Mat 256 1024 := fun i j => X3 0 j
def pay30_v134 (X3 : Mat 1 1024) (X18 : Mat 256 1024) (X30 X39 X107 X108 : Mat 256 2816) (X119 X121 : Mat 1024 2816) : Mat 256 1024 := fun i j => pay29 X18 X30 X39 X107 X108 X119 X121 i j * pay30_v133 X3 i j
def pay30_v135 (X3 : Mat 1 1024) (X18 : Mat 256 1024) (X30 X39 X107 X108 : Mat 256 2816) (X119 X121 : Mat 1024 2816) : Fin 32 → Mat 8 1024 := fun i j l => ((pay30_v134 X3 X18 X30 X39 X107 X108 X119 X121) ⟨8 * i.val + j.val, by omega⟩ l)
def pay30_v136 (X3 : Mat 1 1024) (X18 : Mat 256 1024) (X30 X39 X107 X108 : Mat 256 2816) (X119 X121 : Mat 1024 2816) : Mat 8 1024 := fun i j => ∑ k, pay30_v135 X3 X18 X30 X39 X107 X108 X119 X121 k i j
def pay30_v137 (X3 : Mat 1 1024) (X18 : Mat 256 1024) (X30 X39 X107 X108 : Mat 256 2816) (X119 X121 : Mat 1024 2816) (X131 : Mat 8 1024) : Mat 8 1024 := fun i j => pay30_v132 X131 i j + pay30_v136 X3 X18 X30 X39 X107 X108 X119 X121 i j
def pay30 (X3 : Mat 1 1024) (X18 : Mat 256 1024) (X30 X39 X107 X108 : Mat 256 2816) (X119 X121 : Mat 1024 2816) (X131 : Mat 8 1024) : Mat 8 1024 := (pay30_v137 X3 X18 X30 X39 X107 X108 X119 X121 X131)
theorem t_pay30 {v3 : FVec Ideal S1x1024 .f32} {X3 : Mat 1 1024} {v18 : FVec Ideal S256x1024 .f32} {X18 : Mat 256 1024} {v30 v39 v108 : FVec Ideal S256x2816 .f32} {X30 X39 X107 X108 : Mat 256 2816} {v107 : FVec Ideal S256x2816 .bf16} {v119 v121 : FVec Ideal S1024x2816 .bf16} {X119 X121 : Mat 1024 2816} {v131 : FVec Ideal S8x1024 .f32} {X131 : Mat 8 1024} (h3 : Re v3 (c2 X3)) (h18 : Re v18 (c2 X18)) (h30 : Re v30 (c2 X30)) (h39 : Re v39 (c2 X39)) (h107 : Re v107 (c2 X107)) (h108 : Re v108 (c2 X108)) (h119 : Re v119 (c2 X119)) (h121 : Re v121 (c2 X121)) (h131 : Re v131 (c2 X131)) :
    Re (s := S8x1024) (k0_pay30 (F := Ideal) v3 v18 v30 v39 v107 v108 v119 v121 v131) (c2 (pay30 X3 X18 X30 X39 X107 X108 X119 X121 X131)) := by
  have hv132 : Re (s := S8x1024) _ (c2 (pay30_v132 X131)) := Reals.sameShape shapeCasts_S8x1024_S8x1024 h131
  have hv133 : Re (s := S256x1024) _ (c2 (pay30_v133 X3)) := Reals.rows broadcasts_S1x1024_S256x1024 h3
  have hv134 : Re (s := S256x1024) _ (c2 (pay30_v134 X3 X18 X30 X39 X107 X108 X119 X121)) := Reals.mul (t_pay29 h18 h30 h39 h107 h108 h119 h121) hv133
  have hv135 : Re (s := S32x8x1024) _ (c3 (pay30_v135 X3 X18 X30 X39 X107 X108 X119 X121)) := Reals.eights (by norm_num) shapeCasts_S256x1024_S32x8x1024 hv134
  have hv136 : Re (s := S8x1024) _ (c2 (pay30_v136 X3 X18 X30 X39 X107 X108 X119 X121)) := Reals.headSum reduces_S32x8x1024_S8x1024 (.inl rfl) rfl hv135
  have hv137 : Re (s := S8x1024) _ (c2 (pay30_v137 X3 X18 X30 X39 X107 X108 X119 X121 X131)) := Reals.add hv132 hv136
  exact hv137
def pay31_v140 (X139 : Mat 8 1024) : Mat 8 1024 := fun i j => X139 i j
def pay31 (X139 : Mat 8 1024) : Mat 8 1024 := (pay31_v140 X139)
theorem t_pay31 {v139 : FVec Ideal S8x1024 .f32} {X139 : Mat 8 1024} (h139 : Re v139 (c2 X139)) :
    Re (s := S8x1024) (k0_pay31 (F := Ideal) v139) (c2 (pay31 X139)) := by
  have hv140 : Re (s := S8x1024) _ (c2 (pay31_v140 X139)) := Reals.sameShape shapeCasts_S8x1024_S8x1024 h139
  exact hv140

end Cert.FfnIdeal.Reals
-- ==== Proof.FfnRefReals.lean ====
/-
  The reference of the feed-forward part on real inputs: each of its arrays, over the reals.
-/
module

public import proofs.«01_k».proof.Proof.Reals
public import proofs.«01_k».proof.Proof.Gen.FfnRefIdeal.Read

@[expose] public section

noncomputable section

namespace Cert.FfnRefIdeal.Reals

open Cert.FfnRefIdeal Cert.FfnRefIdeal.Read Idealize.ShloMosaic Idealize.ShloMosaic.ValueIdx Cert.Reals

section
variable (X0 : Mat 16384 1024) (X1 : Mat 16384 1024) (X2 : Mat 8 1024) (X3 : Mat 1024 2816) (X4 : Mat 1024 2816) (X5 : Mat 2816 1024)

def q_v0 : Mat 1024 2816 := fun i j => X3 i j
def q_v1 : Mat 1024 2816 := fun i j => X4 i j
def q_v2 : Mat 2816 1024 := fun i j => X5 i j
def q_v3 : Mat 1 1024 := fun i j => X2 0 j
def q_v4 : Fin 1024 → ℝ := fun i => q_v3 X2 0 i
def q_v5 : Mat 16384 1024 := fun i j => q_v4 X2 j
def q_v6 : Mat 1 1024 := fun i j => X2 1 j
def q_v7 : Fin 1024 → ℝ := fun i => q_v6 X2 0 i
def q_v8 : Mat 16384 1024 := fun i j => q_v7 X2 j
def q_v9 : Mat 1 1024 := fun i j => X2 2 j
def q_v10 : Fin 1024 → ℝ := fun i => q_v9 X2 0 i
def q_v11 : Mat 16384 1024 := fun i j => q_v10 X2 j
def q_v12 : Mat 1 1024 := fun i j => X2 3 j
def q_v13 : Fin 1024 → ℝ := fun i => q_v12 X2 0 i
def q_v14 : Mat 16384 1024 := fun i j => q_v13 X2 j
def q_v15 : Mat 1 1024 := fun i j => X2 4 j
def q_v16 : Fin 1024 → ℝ := fun i => q_v15 X2 0 i
def q_v17 : Mat 16384 1024 := fun i j => q_v16 X2 j
def q_v18 : Mat 16384 1024 := fun i j => X0 i j * X0 i j
def q_cst : ℝ := 0
def q_v19 : Fin 16384 → ℝ := fun i => ∑ k, q_v18 X0 i k
def q_v20 : Mat 16384 1 := fun i j => q_v19 X0 i
def q_cst_0 : ℝ := 1024
def q_v21 : Mat 16384 1 := fun i j => q_cst_0
def q_v22 : Mat 16384 1 := fun i j => q_v20 X0 i j / q_v21 i j
def q_cst_1 : ℝ := eps
def q_v23 : Mat 16384 1 := fun i j => q_cst_1
def q_v24 : Mat 16384 1 := fun i j => q_v22 X0 i j + q_v23 i j
def q_v25 : Mat 16384 1 := fun i j => (Real.sqrt (q_v24 X0 i j))⁻¹
def q_v26 : Mat 16384 1 := fun i j => q_v25 X0 i j / q_v24 X0 i j
def q_cst_2 : ℝ := (-(1 / 2))
def q_v27 : Mat 16384 1 := fun i j => q_cst_2
def q_v28 : Mat 16384 1 := fun i j => q_v27 i j * q_v26 X0 i j
def q_v29 : Mat 16384 1024 := fun i j => q_v25 X0 i 0
def q_v30 : Mat 16384 1024 := fun i j => X0 i j * q_v29 X0 i j
def q_v31 : Mat 16384 1024 := fun i j => q_v30 X0 i j * q_v5 X2 i j
def q_cst_3 : ℝ := 1
def q_v32 : Mat 16384 1024 := fun i j => q_cst_3
def q_v33 : Mat 16384 1024 := fun i j => q_v32 i j + q_v11 X2 i j
def q_v34 : Mat 16384 1024 := fun i j => q_v31 X0 X2 i j * q_v33 X2 i j
def q_v35 : Mat 16384 1024 := fun i j => q_v34 X0 X2 i j + q_v8 X2 i j
def q_v36 : Mat 16384 2816 := fun i j => ∑ k, q_v35 X0 X2 i k * q_v0 X3 k j
def q_v37 : Mat 16384 2816 := fun i j => ∑ k, q_v35 X0 X2 i k * q_v1 X4 k j
def q_call0_v0 : Mat 16384 2816 := fun i j => - q_v36 X0 X2 X3 i j
def q_call0_v1 : Mat 16384 2816 := fun i j => Real.exp (q_call0_v0 X0 X2 X3 i j)
def q_call0_cst : ℝ := 1
def q_call0_v2 : Mat 16384 2816 := fun i j => q_call0_cst
def q_call0_v3 : Mat 16384 2816 := fun i j => q_call0_v2 i j + q_call0_v1 X0 X2 X3 i j
def q_call0_cst_0 : ℝ := 1
def q_call0_v4 : Mat 16384 2816 := fun i j => q_call0_cst_0
def q_v38_2 : Mat 16384 2816 := fun i j => q_call0_v4 i j / q_call0_v3 X0 X2 X3 i j
def q_call0_cst_1 : ℝ := 1
def q_call0_v6 : Mat 16384 2816 := fun i j => q_call0_cst_1
def q_call0_v7 : Mat 16384 2816 := fun i j => q_call0_v6 i j - q_v38_2 X0 X2 X3 i j
def q_v38_1 : Mat 16384 2816 := fun i j => q_v38_2 X0 X2 X3 i j * q_call0_v7 X0 X2 X3 i j
def q_v38_0 : Mat 16384 2816 := fun i j => q_v36 X0 X2 X3 i j * q_v38_2 X0 X2 X3 i j
def q_v39 : Mat 16384 2816 := fun i j => q_v38_0 X0 X2 X3 i j * q_v37 X0 X2 X4 i j
def q_v40 : Mat 16384 1024 := fun i j => ∑ k, q_v39 X0 X2 X3 X4 i k * q_v2 X5 k j
def q_v41 : Mat 16384 1024 := fun i j => q_v14 X2 i j * q_v40 X0 X2 X3 X4 X5 i j
def q_v42 : Mat 16384 1024 := fun i j => X0 i j + q_v41 X0 X2 X3 X4 X5 i j
def q_v43 : Mat 16384 1024 := fun i j => q_v42 X0 X2 X3 X4 X5 i j * q_v42 X0 X2 X3 X4 X5 i j
def q_cst_4 : ℝ := 0
def q_v44 : Fin 16384 → ℝ := fun i => ∑ k, q_v43 X0 X2 X3 X4 X5 i k
def q_v45 : Mat 16384 1 := fun i j => q_v44 X0 X2 X3 X4 X5 i
def q_cst_5 : ℝ := 1024
def q_v46 : Mat 16384 1 := fun i j => q_cst_5
def q_v47 : Mat 16384 1 := fun i j => q_v45 X0 X2 X3 X4 X5 i j / q_v46 i j
def q_cst_6 : ℝ := eps
def q_v48 : Mat 16384 1 := fun i j => q_cst_6
def q_v49 : Mat 16384 1 := fun i j => q_v47 X0 X2 X3 X4 X5 i j + q_v48 i j
def q_v50 : Mat 16384 1 := fun i j => (Real.sqrt (q_v49 X0 X2 X3 X4 X5 i j))⁻¹
def q_v51 : Mat 16384 1 := fun i j => q_v50 X0 X2 X3 X4 X5 i j / q_v49 X0 X2 X3 X4 X5 i j
def q_cst_7 : ℝ := (-(1 / 2))
def q_v52 : Mat 16384 1 := fun i j => q_cst_7
def q_v53 : Mat 16384 1 := fun i j => q_v52 i j * q_v51 X0 X2 X3 X4 X5 i j
def q_v54 : Mat 16384 1024 := fun i j => q_v50 X0 X2 X3 X4 X5 i 0
def q_v55 : Mat 16384 1024 := fun i j => q_v42 X0 X2 X3 X4 X5 i j * q_v54 X0 X2 X3 X4 X5 i j
def q_v56 : Mat 16384 1024 := fun i j => q_v55 X0 X2 X3 X4 X5 i j * q_v17 X2 i j
def q_v57 : Mat 16384 1024 := fun i j => q_v56 X0 X2 X3 X4 X5 i j - X1 i j
def q_v58 : Mat 16384 1024 := fun i j => q_v57 X0 X1 X2 X3 X4 X5 i j * q_v57 X0 X1 X2 X3 X4 X5 i j
def q_cst_8 : ℝ := 2
def q_v59 : Mat 16384 1024 := fun i j => q_cst_8
def q_v60 : Mat 16384 1024 := fun i j => q_v59 i j * q_v57 X0 X1 X2 X3 X4 X5 i j
def q_cst_9 : ℝ := (1 / 2)
def q_v61 : Mat 16384 1024 := fun i j => q_cst_9
def q_v62 : Mat 16384 1024 := fun i j => q_v61 i j * q_v58 X0 X1 X2 X3 X4 X5 i j
def q_cst_10 : ℝ := 1024
def q_v63 : Mat 16384 1024 := fun i j => q_cst_10
def q_v64 : Mat 16384 1024 := fun i j => q_v62 X0 X1 X2 X3 X4 X5 i j / q_v63 i j
def q_cst_11 : ℝ := 1
def q_v65 : Mat 16384 1024 := fun i j => q_cst_11
def q_cst_12 : ℝ := 1024
def q_v66 : Mat 16384 1024 := fun i j => q_cst_12
def q_v67 : Mat 16384 1024 := fun i j => q_v65 i j / q_v66 i j
def q_cst_13 : ℝ := (1 / 2)
def q_v68 : Mat 16384 1024 := fun i j => q_cst_13
def q_v69 : Mat 16384 1024 := fun i j => q_v68 i j * q_v67 i j
def q_v70 : Mat 16384 1024 := fun i j => q_v69 i j * q_v60 X0 X1 X2 X3 X4 X5 i j
def q_v71 : Mat 16384 1024 := fun i j => q_v55 X0 X2 X3 X4 X5 i j * q_v70 X0 X1 X2 X3 X4 X5 i j
def q_v72 : Mat 16384 1024 := fun i j => q_v70 X0 X1 X2 X3 X4 X5 i j * q_v17 X2 i j
def q_v73 : Mat 16384 1024 := fun i j => q_v42 X0 X2 X3 X4 X5 i j * q_v72 X0 X1 X2 X3 X4 X5 i j
def q_cst_14 : ℝ := 0
def q_v74 : Fin 16384 → ℝ := fun i => ∑ k, q_v73 X0 X1 X2 X3 X4 X5 i k
def q_v75 : Mat 16384 1 := fun i j => q_v74 X0 X1 X2 X3 X4 X5 i
def q_v76 : Mat 16384 1024 := fun i j => q_v50 X0 X2 X3 X4 X5 i 0
def q_v77 : Mat 16384 1024 := fun i j => q_v72 X0 X1 X2 X3 X4 X5 i j * q_v76 X0 X2 X3 X4 X5 i j
def q_v78 : Mat 16384 1 := fun i j => q_v75 X0 X1 X2 X3 X4 X5 i j * q_v53 X0 X2 X3 X4 X5 i j
def q_cst_15 : ℝ := 1024
def q_v79 : Mat 16384 1 := fun i j => q_cst_15
def q_v80 : Mat 16384 1 := fun i j => q_v78 X0 X1 X2 X3 X4 X5 i j / q_v79 i j
def q_cst_16 : ℝ := 0
def q_v81 : Fin 16384 → ℝ := fun i => ∑ k, q_v80 X0 X1 X2 X3 X4 X5 i k
def q_v82 : Mat 16384 1024 := fun i j => q_v81 X0 X1 X2 X3 X4 X5 i
def q_v83 : Mat 16384 1024 := fun i j => q_v42 X0 X2 X3 X4 X5 i j * q_v82 X0 X1 X2 X3 X4 X5 i j
def q_v84 : Mat 16384 1024 := fun i j => q_v77 X0 X1 X2 X3 X4 X5 i j + q_v83 X0 X1 X2 X3 X4 X5 i j
def q_v85 : Mat 16384 1024 := fun i j => q_v82 X0 X1 X2 X3 X4 X5 i j * q_v42 X0 X2 X3 X4 X5 i j
def q_v86 : Mat 16384 1024 := fun i j => q_v84 X0 X1 X2 X3 X4 X5 i j + q_v85 X0 X1 X2 X3 X4 X5 i j
def q_v87 : Mat 16384 1024 := fun i j => q_v14 X2 i j * q_v86 X0 X1 X2 X3 X4 X5 i j
def q_v88 : Mat 16384 1024 := fun i j => q_v86 X0 X1 X2 X3 X4 X5 i j * q_v40 X0 X2 X3 X4 X5 i j
def q_v89 : Mat 16384 2816 := fun i j => ∑ k, q_v87 X0 X1 X2 X3 X4 X5 i k * q_v2 X5 j k
def q_v90 : Mat 16384 2816 := fun i j => q_v38_0 X0 X2 X3 i j * q_v89 X0 X1 X2 X3 X4 X5 i j
def q_v91 : Mat 16384 2816 := fun i j => q_v89 X0 X1 X2 X3 X4 X5 i j * q_v37 X0 X2 X4 i j
def q_call1_v0 : Mat 16384 2816 := fun i j => q_v36 X0 X2 X3 i j * q_v91 X0 X1 X2 X3 X4 X5 i j
def q_call1_v1 : Mat 16384 2816 := fun i j => q_v91 X0 X1 X2 X3 X4 X5 i j * q_v38_2 X0 X2 X3 i j
def q_call1_v2 : Mat 16384 2816 := fun i j => q_call1_v0 X0 X1 X2 X3 X4 X5 i j * q_v38_1 X0 X2 X3 i j
def q_v92 : Mat 16384 2816 := fun i j => q_call1_v1 X0 X1 X2 X3 X4 X5 i j + q_call1_v2 X0 X1 X2 X3 X4 X5 i j
def q_v93 : Mat 16384 1024 := fun i j => ∑ k, q_v92 X0 X1 X2 X3 X4 X5 i k * q_v0 X3 j k
def q_v94 : Mat 16384 1024 := fun i j => ∑ k, q_v90 X0 X1 X2 X3 X4 X5 i k * q_v1 X4 j k
def q_v95 : Mat 16384 1024 := fun i j => q_v93 X0 X1 X2 X3 X4 X5 i j + q_v94 X0 X1 X2 X3 X4 X5 i j
def q_v96 : Mat 16384 1024 := fun i j => q_v31 X0 X2 i j * q_v95 X0 X1 X2 X3 X4 X5 i j
def q_v97 : Mat 16384 1024 := fun i j => q_v95 X0 X1 X2 X3 X4 X5 i j * q_v33 X2 i j
def q_v98 : Mat 16384 1024 := fun i j => q_v30 X0 i j * q_v97 X0 X1 X2 X3 X4 X5 i j
def q_v99 : Mat 16384 1024 := fun i j => q_v97 X0 X1 X2 X3 X4 X5 i j * q_v5 X2 i j
def q_v100 : Mat 16384 1024 := fun i j => X0 i j * q_v99 X0 X1 X2 X3 X4 X5 i j
def q_cst_17 : ℝ := 0
def q_v101 : Fin 16384 → ℝ := fun i => ∑ k, q_v100 X0 X1 X2 X3 X4 X5 i k
def q_v102 : Mat 16384 1 := fun i j => q_v101 X0 X1 X2 X3 X4 X5 i
def q_v103 : Mat 16384 1024 := fun i j => q_v25 X0 i 0
def q_v104 : Mat 16384 1024 := fun i j => q_v99 X0 X1 X2 X3 X4 X5 i j * q_v103 X0 i j
def q_v105 : Mat 16384 1 := fun i j => q_v102 X0 X1 X2 X3 X4 X5 i j * q_v28 X0 i j
def q_cst_18 : ℝ := 1024
def q_v106 : Mat 16384 1 := fun i j => q_cst_18
def q_v107 : Mat 16384 1 := fun i j => q_v105 X0 X1 X2 X3 X4 X5 i j / q_v106 i j
def q_cst_19 : ℝ := 0
def q_v108 : Fin 16384 → ℝ := fun i => ∑ k, q_v107 X0 X1 X2 X3 X4 X5 i k
def q_v109 : Mat 16384 1024 := fun i j => q_v108 X0 X1 X2 X3 X4 X5 i
def q_v110 : Mat 16384 1024 := fun i j => X0 i j * q_v109 X0 X1 X2 X3 X4 X5 i j
def q_v111 : Mat 16384 1024 := fun i j => q_v104 X0 X1 X2 X3 X4 X5 i j + q_v110 X0 X1 X2 X3 X4 X5 i j
def q_v112 : Mat 16384 1024 := fun i j => q_v109 X0 X1 X2 X3 X4 X5 i j * X0 i j
def q_v113 : Mat 16384 1024 := fun i j => q_v111 X0 X1 X2 X3 X4 X5 i j + q_v112 X0 X1 X2 X3 X4 X5 i j
def q_v114 : Fin 2048 → Mat 8 1024 := fun i j l => ((q_v71 X0 X1 X2 X3 X4 X5) ⟨8 * i.val + j.val, by omega⟩ l)
def q_cst_20 : ℝ := 0
def q_v115 : Mat 8 1024 := fun i j => ∑ k, q_v114 X0 X1 X2 X3 X4 X5 k i j
def q_v116 : Fin 2048 → Mat 8 1024 := fun i j l => ((q_v88 X0 X1 X2 X3 X4 X5) ⟨8 * i.val + j.val, by omega⟩ l)
def q_cst_21 : ℝ := 0
def q_v117 : Mat 8 1024 := fun i j => ∑ k, q_v116 X0 X1 X2 X3 X4 X5 k i j
def q_v118 : Fin 2048 → Mat 8 1024 := fun i j l => ((q_v95 X0 X1 X2 X3 X4 X5) ⟨8 * i.val + j.val, by omega⟩ l)
def q_cst_22 : ℝ := 0
def q_v119 : Mat 8 1024 := fun i j => ∑ k, q_v118 X0 X1 X2 X3 X4 X5 k i j
def q_v120 : Fin 2048 → Mat 8 1024 := fun i j l => ((q_v96 X0 X1 X2 X3 X4 X5) ⟨8 * i.val + j.val, by omega⟩ l)
def q_cst_23 : ℝ := 0
def q_v121 : Mat 8 1024 := fun i j => ∑ k, q_v120 X0 X1 X2 X3 X4 X5 k i j
def q_v122 : Fin 2048 → Mat 8 1024 := fun i j l => ((q_v98 X0 X1 X2 X3 X4 X5) ⟨8 * i.val + j.val, by omega⟩ l)
def q_cst_24 : ℝ := 0
def q_v123 : Mat 8 1024 := fun i j => ∑ k, q_v122 X0 X1 X2 X3 X4 X5 k i j
def q_v124 : Fin 2048 → Mat 8 1024 := fun i j l => ((q_v64 X0 X1 X2 X3 X4 X5) ⟨8 * i.val + j.val, by omega⟩ l)
def q_cst_25 : ℝ := 0
def q_v125 : Mat 8 1024 := fun i j => ∑ k, q_v124 X0 X1 X2 X3 X4 X5 k i j
def q_v126 : Mat 16384 1024 := fun i j => q_v86 X0 X1 X2 X3 X4 X5 i j + q_v113 X0 X1 X2 X3 X4 X5 i j
def q_v127 : Mat 16384 1024 := fun i j => q_v35 X0 X2 i j
def q_v128 : Mat 16384 2816 := fun i j => q_v39 X0 X2 X3 X4 i j
def q_v129 : Mat 16384 2816 := fun i j => q_v92 X0 X1 X2 X3 X4 X5 i j
def q_v130 : Mat 16384 2816 := fun i j => q_v90 X0 X1 X2 X3 X4 X5 i j
def q_v131 : Mat 16384 1024 := fun i j => q_v87 X0 X1 X2 X3 X4 X5 i j
end

variable {X0 : Mat 16384 1024} {X1 : Mat 16384 1024} {X2 : Mat 8 1024} {X3 : Mat 1024 2816} {X4 : Mat 1024 2816} {X5 : Mat 2816 1024} {x0 : S16384x1024.Idx → EReal} {x1 : S16384x1024.Idx → EReal} {x2 : S8x1024.Idx → EReal} {x3 : S1024x2816.Idx → EReal} {x4 : S1024x2816.Idx → EReal} {x5 : S2816x1024.Idx → EReal}

theorem t_v0 (h3 : Re x3 (c2 X3)) : Re (s := S1024x2816) (val_main_v0 (F := Ideal) x3) (c2 (q_v0 X3)) :=
  Reals.ext _ h3
theorem t_v1 (h4 : Re x4 (c2 X4)) : Re (s := S1024x2816) (val_main_v1 (F := Ideal) x4) (c2 (q_v1 X4)) :=
  Reals.ext _ h4
theorem t_v2 (h5 : Re x5 (c2 X5)) : Re (s := S2816x1024) (val_main_v2 (F := Ideal) x5) (c2 (q_v2 X5)) :=
  Reals.ext _ h5
theorem t_v3 (h2 : Re x2 (c2 X2)) : Re (s := S1x1024) (val_main_v3 (F := Ideal) x2) (c2 (q_v3 X2)) :=
  Reals.hslice (n := 8) 0 _ h2
theorem t_v4 (h2 : Re x2 (c2 X2)) : Re (s := S1024) (val_main_v4 (F := Ideal) x2) (c1 (q_v4 X2)) :=
  Reals.squeeze _ (t_v3 h2)
theorem t_v5 (h2 : Re x2 (c2 X2)) : Re (s := S16384x1024) (val_main_v5 (F := Ideal) x2) (c2 (q_v5 X2)) :=
  Reals.hrow _ (t_v4 h2)
theorem t_v6 (h2 : Re x2 (c2 X2)) : Re (s := S1x1024) (val_main_v6 (F := Ideal) x2) (c2 (q_v6 X2)) :=
  Reals.hslice (n := 8) 1 _ h2
theorem t_v7 (h2 : Re x2 (c2 X2)) : Re (s := S1024) (val_main_v7 (F := Ideal) x2) (c1 (q_v7 X2)) :=
  Reals.squeeze _ (t_v6 h2)
theorem t_v8 (h2 : Re x2 (c2 X2)) : Re (s := S16384x1024) (val_main_v8 (F := Ideal) x2) (c2 (q_v8 X2)) :=
  Reals.hrow _ (t_v7 h2)
theorem t_v9 (h2 : Re x2 (c2 X2)) : Re (s := S1x1024) (val_main_v9 (F := Ideal) x2) (c2 (q_v9 X2)) :=
  Reals.hslice (n := 8) 2 _ h2
theorem t_v10 (h2 : Re x2 (c2 X2)) : Re (s := S1024) (val_main_v10 (F := Ideal) x2) (c1 (q_v10 X2)) :=
  Reals.squeeze _ (t_v9 h2)
theorem t_v11 (h2 : Re x2 (c2 X2)) : Re (s := S16384x1024) (val_main_v11 (F := Ideal) x2) (c2 (q_v11 X2)) :=
  Reals.hrow _ (t_v10 h2)
theorem t_v12 (h2 : Re x2 (c2 X2)) : Re (s := S1x1024) (val_main_v12 (F := Ideal) x2) (c2 (q_v12 X2)) :=
  Reals.hslice (n := 8) 3 _ h2
theorem t_v13 (h2 : Re x2 (c2 X2)) : Re (s := S1024) (val_main_v13 (F := Ideal) x2) (c1 (q_v13 X2)) :=
  Reals.squeeze _ (t_v12 h2)
theorem t_v14 (h2 : Re x2 (c2 X2)) : Re (s := S16384x1024) (val_main_v14 (F := Ideal) x2) (c2 (q_v14 X2)) :=
  Reals.hrow _ (t_v13 h2)
theorem t_v15 (h2 : Re x2 (c2 X2)) : Re (s := S1x1024) (val_main_v15 (F := Ideal) x2) (c2 (q_v15 X2)) :=
  Reals.hslice (n := 8) 4 _ h2
theorem t_v16 (h2 : Re x2 (c2 X2)) : Re (s := S1024) (val_main_v16 (F := Ideal) x2) (c1 (q_v16 X2)) :=
  Reals.squeeze _ (t_v15 h2)
theorem t_v17 (h2 : Re x2 (c2 X2)) : Re (s := S16384x1024) (val_main_v17 (F := Ideal) x2) (c2 (q_v17 X2)) :=
  Reals.hrow _ (t_v16 h2)
theorem t_v18 (h0 : Re x0 (c2 X0)) : Re (s := S16384x1024) (val_main_v18 (F := Ideal) x0) (c2 (q_v18 X0)) :=
  Reals.mul h0 h0
theorem t_cst : Re (s := S_) (val_main_cst (F := Ideal)) (c0 q_cst) :=
  Reals.const w_zero
theorem t_v19 (h0 : Re x0 (c2 X0)) : Re (s := S16384) (val_main_v19 (F := Ideal) x0) (c1 (q_v19 X0)) :=
  Reals.hrowSum _ (by decide) _ (t_v18 h0) t_cst
theorem t_v20 (h0 : Re x0 (c2 X0)) : Re (s := S16384x1) (val_main_v20 (F := Ideal) x0) (c2 (q_v20 X0)) :=
  Reals.hcol _ (t_v19 h0)
theorem t_cst_0 : Re (s := S_) (val_main_cst_0 (F := Ideal)) (c0 q_cst_0) :=
  Reals.const w_1024
theorem t_v21 : Re (s := S16384x1) (val_main_v21 (F := Ideal)) (c2 q_v21) :=
  Reals.hscal _ t_cst_0
theorem t_v22 (h0 : Re x0 (c2 X0)) : Re (s := S16384x1) (val_main_v22 (F := Ideal) x0) (c2 (q_v22 X0)) :=
  Reals.hdiv (t_v20 h0) t_v21 (fun _ => (by norm_num : (1024 : ℝ) ≠ 0))
theorem t_cst_1 : Re (s := S_) (val_main_cst_1 (F := Ideal)) (c0 q_cst_1) :=
  Reals.const w_eps
theorem t_v23 : Re (s := S16384x1) (val_main_v23 (F := Ideal)) (c2 q_v23) :=
  Reals.hscal _ t_cst_1
theorem t_v24 (h0 : Re x0 (c2 X0)) : Re (s := S16384x1) (val_main_v24 (F := Ideal) x0) (c2 (q_v24 X0)) :=
  Reals.add (t_v22 h0) t_v23
theorem t_v25 (h0 : Re x0 (c2 X0)) : Re (s := S16384x1) (val_main_v25 (F := Ideal) x0) (c2 (q_v25 X0)) :=
  Reals.hrsqrt (t_v24 h0) (fun i : Shape.Idx S16384x1 => pos_ms (fun k => (X0 (i 0) k)))
theorem t_v26 (h0 : Re x0 (c2 X0)) : Re (s := S16384x1) (val_main_v26 (F := Ideal) x0) (c2 (q_v26 X0)) :=
  Reals.hdiv (t_v25 h0) (t_v24 h0) (fun i => ((fun i : Shape.Idx S16384x1 => pos_ms (fun k => (X0 (i 0) k))) i).ne')
theorem t_cst_2 : Re (s := S_) (val_main_cst_2 (F := Ideal)) (c0 q_cst_2) :=
  Reals.const w_neg_half
theorem t_v27 : Re (s := S16384x1) (val_main_v27 (F := Ideal)) (c2 q_v27) :=
  Reals.hscal _ t_cst_2
theorem t_v28 (h0 : Re x0 (c2 X0)) : Re (s := S16384x1) (val_main_v28 (F := Ideal) x0) (c2 (q_v28 X0)) :=
  Reals.mul t_v27 (t_v26 h0)
theorem t_v29 (h0 : Re x0 (c2 X0)) : Re (s := S16384x1024) (val_main_v29 (F := Ideal) x0) (c2 (q_v29 X0)) :=
  Reals.hcols _ (t_v25 h0)
theorem t_v30 (h0 : Re x0 (c2 X0)) : Re (s := S16384x1024) (val_main_v30 (F := Ideal) x0) (c2 (q_v30 X0)) :=
  Reals.mul h0 (t_v29 h0)
theorem t_v31 (h0 : Re x0 (c2 X0)) (h2 : Re x2 (c2 X2)) : Re (s := S16384x1024) (val_main_v31 (F := Ideal) x0 x2) (c2 (q_v31 X0 X2)) :=
  Reals.mul (t_v30 h0) (t_v5 h2)
theorem t_cst_3 : Re (s := S_) (val_main_cst_3 (F := Ideal)) (c0 q_cst_3) :=
  Reals.const w_one
theorem t_v32 : Re (s := S16384x1024) (val_main_v32 (F := Ideal)) (c2 q_v32) :=
  Reals.hscal _ t_cst_3
theorem t_v33 (h2 : Re x2 (c2 X2)) : Re (s := S16384x1024) (val_main_v33 (F := Ideal) x2) (c2 (q_v33 X2)) :=
  Reals.add t_v32 (t_v11 h2)
theorem t_v34 (h0 : Re x0 (c2 X0)) (h2 : Re x2 (c2 X2)) : Re (s := S16384x1024) (val_main_v34 (F := Ideal) x0 x2) (c2 (q_v34 X0 X2)) :=
  Reals.mul (t_v31 h0 h2) (t_v33 h2)
theorem t_v35 (h0 : Re x0 (c2 X0)) (h2 : Re x2 (c2 X2)) : Re (s := S16384x1024) (val_main_v35 (F := Ideal) x0 x2) (c2 (q_v35 X0 X2)) :=
  Reals.add (t_v34 h0 h2) (t_v8 h2)
theorem t_v36 (h0 : Re x0 (c2 X0)) (h2 : Re x2 (c2 X2)) (h3 : Re x3 (c2 X3)) : Re (s := S16384x2816) (val_main_v36 (F := Ideal) x0 x2 x3) (c2 (q_v36 X0 X2 X3)) :=
  Reals.host_dotNN (t_v35 h0 h2) (t_v0 h3)
theorem t_v37 (h0 : Re x0 (c2 X0)) (h2 : Re x2 (c2 X2)) (h4 : Re x4 (c2 X4)) : Re (s := S16384x2816) (val_main_v37 (F := Ideal) x0 x2 x4) (c2 (q_v37 X0 X2 X4)) :=
  Reals.host_dotNN (t_v35 h0 h2) (t_v1 h4)
theorem t_call0_v0 (h0 : Re x0 (c2 X0)) (h2 : Re x2 (c2 X2)) (h3 : Re x3 (c2 X3)) : Re (s := S16384x2816) (val_main_call0_v0 (F := Ideal) x0 x2 x3) (c2 (q_call0_v0 X0 X2 X3)) :=
  Reals.neg (t_v36 h0 h2 h3)
theorem t_call0_v1 (h0 : Re x0 (c2 X0)) (h2 : Re x2 (c2 X2)) (h3 : Re x3 (c2 X3)) : Re (s := S16384x2816) (val_main_call0_v1 (F := Ideal) x0 x2 x3) (c2 (q_call0_v1 X0 X2 X3)) :=
  Reals.hexp (t_call0_v0 h0 h2 h3)
theorem t_call0_cst : Re (s := S_) (val_main_call0_cst (F := Ideal)) (c0 q_call0_cst) :=
  Reals.const w_one
theorem t_call0_v2 : Re (s := S16384x2816) (val_main_call0_v2 (F := Ideal)) (c2 q_call0_v2) :=
  Reals.hscal _ t_call0_cst
theorem t_call0_v3 (h0 : Re x0 (c2 X0)) (h2 : Re x2 (c2 X2)) (h3 : Re x3 (c2 X3)) : Re (s := S16384x2816) (val_main_call0_v3 (F := Ideal) x0 x2 x3) (c2 (q_call0_v3 X0 X2 X3)) :=
  Reals.add t_call0_v2 (t_call0_v1 h0 h2 h3)
theorem t_call0_cst_0 : Re (s := S_) (val_main_call0_cst_0 (F := Ideal)) (c0 q_call0_cst_0) :=
  Reals.const w_one
theorem t_call0_v4 : Re (s := S16384x2816) (val_main_call0_v4 (F := Ideal)) (c2 q_call0_v4) :=
  Reals.hscal _ t_call0_cst_0
theorem t_v38_2 (h0 : Re x0 (c2 X0)) (h2 : Re x2 (c2 X2)) (h3 : Re x3 (c2 X3)) : Re (s := S16384x2816) (val_main_v38_2 (F := Ideal) x0 x2 x3) (c2 (q_v38_2 X0 X2 X3)) :=
  Reals.hdiv t_call0_v4 (t_call0_v3 h0 h2 h3) (fun _ => (one_add_exp_pos _).ne')
theorem t_call0_cst_1 : Re (s := S_) (val_main_call0_cst_1 (F := Ideal)) (c0 q_call0_cst_1) :=
  Reals.const w_one
theorem t_call0_v6 : Re (s := S16384x2816) (val_main_call0_v6 (F := Ideal)) (c2 q_call0_v6) :=
  Reals.hscal _ t_call0_cst_1
theorem t_call0_v7 (h0 : Re x0 (c2 X0)) (h2 : Re x2 (c2 X2)) (h3 : Re x3 (c2 X3)) : Re (s := S16384x2816) (val_main_call0_v7 (F := Ideal) x0 x2 x3) (c2 (q_call0_v7 X0 X2 X3)) :=
  Reals.sub t_call0_v6 (t_v38_2 h0 h2 h3)
theorem t_v38_1 (h0 : Re x0 (c2 X0)) (h2 : Re x2 (c2 X2)) (h3 : Re x3 (c2 X3)) : Re (s := S16384x2816) (val_main_v38_1 (F := Ideal) x0 x2 x3) (c2 (q_v38_1 X0 X2 X3)) :=
  Reals.mul (t_v38_2 h0 h2 h3) (t_call0_v7 h0 h2 h3)
theorem t_v38_0 (h0 : Re x0 (c2 X0)) (h2 : Re x2 (c2 X2)) (h3 : Re x3 (c2 X3)) : Re (s := S16384x2816) (val_main_v38_0 (F := Ideal) x0 x2 x3) (c2 (q_v38_0 X0 X2 X3)) :=
  Reals.mul (t_v36 h0 h2 h3) (t_v38_2 h0 h2 h3)
theorem t_v39 (h0 : Re x0 (c2 X0)) (h2 : Re x2 (c2 X2)) (h3 : Re x3 (c2 X3)) (h4 : Re x4 (c2 X4)) : Re (s := S16384x2816) (val_main_v39 (F := Ideal) x0 x2 x3 x4) (c2 (q_v39 X0 X2 X3 X4)) :=
  Reals.mul (t_v38_0 h0 h2 h3) (t_v37 h0 h2 h4)
theorem t_v40 (h0 : Re x0 (c2 X0)) (h2 : Re x2 (c2 X2)) (h3 : Re x3 (c2 X3)) (h4 : Re x4 (c2 X4)) (h5 : Re x5 (c2 X5)) : Re (s := S16384x1024) (val_main_v40 (F := Ideal) x0 x2 x3 x4 x5) (c2 (q_v40 X0 X2 X3 X4 X5)) :=
  Reals.host_dotNN (t_v39 h0 h2 h3 h4) (t_v2 h5)
theorem t_v41 (h0 : Re x0 (c2 X0)) (h2 : Re x2 (c2 X2)) (h3 : Re x3 (c2 X3)) (h4 : Re x4 (c2 X4)) (h5 : Re x5 (c2 X5)) : Re (s := S16384x1024) (val_main_v41 (F := Ideal) x0 x2 x3 x4 x5) (c2 (q_v41 X0 X2 X3 X4 X5)) :=
  Reals.mul (t_v14 h2) (t_v40 h0 h2 h3 h4 h5)
theorem t_v42 (h0 : Re x0 (c2 X0)) (h2 : Re x2 (c2 X2)) (h3 : Re x3 (c2 X3)) (h4 : Re x4 (c2 X4)) (h5 : Re x5 (c2 X5)) : Re (s := S16384x1024) (val_main_v42 (F := Ideal) x0 x2 x3 x4 x5) (c2 (q_v42 X0 X2 X3 X4 X5)) :=
  Reals.add h0 (t_v41 h0 h2 h3 h4 h5)
theorem t_v43 (h0 : Re x0 (c2 X0)) (h2 : Re x2 (c2 X2)) (h3 : Re x3 (c2 X3)) (h4 : Re x4 (c2 X4)) (h5 : Re x5 (c2 X5)) : Re (s := S16384x1024) (val_main_v43 (F := Ideal) x0 x2 x3 x4 x5) (c2 (q_v43 X0 X2 X3 X4 X5)) :=
  Reals.mul (t_v42 h0 h2 h3 h4 h5) (t_v42 h0 h2 h3 h4 h5)
theorem t_cst_4 : Re (s := S_) (val_main_cst_4 (F := Ideal)) (c0 q_cst_4) :=
  Reals.const w_zero
theorem t_v44 (h0 : Re x0 (c2 X0)) (h2 : Re x2 (c2 X2)) (h3 : Re x3 (c2 X3)) (h4 : Re x4 (c2 X4)) (h5 : Re x5 (c2 X5)) : Re (s := S16384) (val_main_v44 (F := Ideal) x0 x2 x3 x4 x5) (c1 (q_v44 X0 X2 X3 X4 X5)) :=
  Reals.hrowSum _ (by decide) _ (t_v43 h0 h2 h3 h4 h5) t_cst_4
theorem t_v45 (h0 : Re x0 (c2 X0)) (h2 : Re x2 (c2 X2)) (h3 : Re x3 (c2 X3)) (h4 : Re x4 (c2 X4)) (h5 : Re x5 (c2 X5)) : Re (s := S16384x1) (val_main_v45 (F := Ideal) x0 x2 x3 x4 x5) (c2 (q_v45 X0 X2 X3 X4 X5)) :=
  Reals.hcol _ (t_v44 h0 h2 h3 h4 h5)
theorem t_cst_5 : Re (s := S_) (val_main_cst_5 (F := Ideal)) (c0 q_cst_5) :=
  Reals.const w_1024
theorem t_v46 : Re (s := S16384x1) (val_main_v46 (F := Ideal)) (c2 q_v46) :=
  Reals.hscal _ t_cst_5
theorem t_v47 (h0 : Re x0 (c2 X0)) (h2 : Re x2 (c2 X2)) (h3 : Re x3 (c2 X3)) (h4 : Re x4 (c2 X4)) (h5 : Re x5 (c2 X5)) : Re (s := S16384x1) (val_main_v47 (F := Ideal) x0 x2 x3 x4 x5) (c2 (q_v47 X0 X2 X3 X4 X5)) :=
  Reals.hdiv (t_v45 h0 h2 h3 h4 h5) t_v46 (fun _ => (by norm_num : (1024 : ℝ) ≠ 0))
theorem t_cst_6 : Re (s := S_) (val_main_cst_6 (F := Ideal)) (c0 q_cst_6) :=
  Reals.const w_eps
theorem t_v48 : Re (s := S16384x1) (val_main_v48 (F := Ideal)) (c2 q_v48) :=
  Reals.hscal _ t_cst_6
theorem t_v49 (h0 : Re x0 (c2 X0)) (h2 : Re x2 (c2 X2)) (h3 : Re x3 (c2 X3)) (h4 : Re x4 (c2 X4)) (h5 : Re x5 (c2 X5)) : Re (s := S16384x1) (val_main_v49 (F := Ideal) x0 x2 x3 x4 x5) (c2 (q_v49 X0 X2 X3 X4 X5)) :=
  Reals.add (t_v47 h0 h2 h3 h4 h5) t_v48
theorem t_v50 (h0 : Re x0 (c2 X0)) (h2 : Re x2 (c2 X2)) (h3 : Re x3 (c2 X3)) (h4 : Re x4 (c2 X4)) (h5 : Re x5 (c2 X5)) : Re (s := S16384x1) (val_main_v50 (F := Ideal) x0 x2 x3 x4 x5) (c2 (q_v50 X0 X2 X3 X4 X5)) :=
  Reals.hrsqrt (t_v49 h0 h2 h3 h4 h5) (fun i : Shape.Idx S16384x1 => pos_ms (fun k => ((q_v42 X0 X2 X3 X4 X5) (i 0) k)))
theorem t_v51 (h0 : Re x0 (c2 X0)) (h2 : Re x2 (c2 X2)) (h3 : Re x3 (c2 X3)) (h4 : Re x4 (c2 X4)) (h5 : Re x5 (c2 X5)) : Re (s := S16384x1) (val_main_v51 (F := Ideal) x0 x2 x3 x4 x5) (c2 (q_v51 X0 X2 X3 X4 X5)) :=
  Reals.hdiv (t_v50 h0 h2 h3 h4 h5) (t_v49 h0 h2 h3 h4 h5) (fun i => ((fun i : Shape.Idx S16384x1 => pos_ms (fun k => ((q_v42 X0 X2 X3 X4 X5) (i 0) k))) i).ne')
theorem t_cst_7 : Re (s := S_) (val_main_cst_7 (F := Ideal)) (c0 q_cst_7) :=
  Reals.const w_neg_half
theorem t_v52 : Re (s := S16384x1) (val_main_v52 (F := Ideal)) (c2 q_v52) :=
  Reals.hscal _ t_cst_7
theorem t_v53 (h0 : Re x0 (c2 X0)) (h2 : Re x2 (c2 X2)) (h3 : Re x3 (c2 X3)) (h4 : Re x4 (c2 X4)) (h5 : Re x5 (c2 X5)) : Re (s := S16384x1) (val_main_v53 (F := Ideal) x0 x2 x3 x4 x5) (c2 (q_v53 X0 X2 X3 X4 X5)) :=
  Reals.mul t_v52 (t_v51 h0 h2 h3 h4 h5)
theorem t_v54 (h0 : Re x0 (c2 X0)) (h2 : Re x2 (c2 X2)) (h3 : Re x3 (c2 X3)) (h4 : Re x4 (c2 X4)) (h5 : Re x5 (c2 X5)) : Re (s := S16384x1024) (val_main_v54 (F := Ideal) x0 x2 x3 x4 x5) (c2 (q_v54 X0 X2 X3 X4 X5)) :=
  Reals.hcols _ (t_v50 h0 h2 h3 h4 h5)
theorem t_v55 (h0 : Re x0 (c2 X0)) (h2 : Re x2 (c2 X2)) (h3 : Re x3 (c2 X3)) (h4 : Re x4 (c2 X4)) (h5 : Re x5 (c2 X5)) : Re (s := S16384x1024) (val_main_v55 (F := Ideal) x0 x2 x3 x4 x5) (c2 (q_v55 X0 X2 X3 X4 X5)) :=
  Reals.mul (t_v42 h0 h2 h3 h4 h5) (t_v54 h0 h2 h3 h4 h5)
theorem t_v56 (h0 : Re x0 (c2 X0)) (h2 : Re x2 (c2 X2)) (h3 : Re x3 (c2 X3)) (h4 : Re x4 (c2 X4)) (h5 : Re x5 (c2 X5)) : Re (s := S16384x1024) (val_main_v56 (F := Ideal) x0 x2 x3 x4 x5) (c2 (q_v56 X0 X2 X3 X4 X5)) :=
  Reals.mul (t_v55 h0 h2 h3 h4 h5) (t_v17 h2)
theorem t_cst_8 : Re (s := S_) (val_main_cst_8 (F := Ideal)) (c0 q_cst_8) :=
  Reals.const w_two
theorem t_v59 : Re (s := S16384x1024) (val_main_v59 (F := Ideal)) (c2 q_v59) :=
  Reals.hscal _ t_cst_8
theorem t_cst_9 : Re (s := S_) (val_main_cst_9 (F := Ideal)) (c0 q_cst_9) :=
  Reals.const w_half
theorem t_v61 : Re (s := S16384x1024) (val_main_v61 (F := Ideal)) (c2 q_v61) :=
  Reals.hscal _ t_cst_9
theorem t_cst_10 : Re (s := S_) (val_main_cst_10 (F := Ideal)) (c0 q_cst_10) :=
  Reals.const w_1024
theorem t_v63 : Re (s := S16384x1024) (val_main_v63 (F := Ideal)) (c2 q_v63) :=
  Reals.hscal _ t_cst_10
theorem t_cst_11 : Re (s := S_) (val_main_cst_11 (F := Ideal)) (c0 q_cst_11) :=
  Reals.const w_one
theorem t_v65 : Re (s := S16384x1024) (val_main_v65 (F := Ideal)) (c2 q_v65) :=
  Reals.hscal _ t_cst_11
theorem t_cst_12 : Re (s := S_) (val_main_cst_12 (F := Ideal)) (c0 q_cst_12) :=
  Reals.const w_1024
theorem t_v66 : Re (s := S16384x1024) (val_main_v66 (F := Ideal)) (c2 q_v66) :=
  Reals.hscal _ t_cst_12
theorem t_v67 : Re (s := S16384x1024) (val_main_v67 (F := Ideal)) (c2 q_v67) :=
  Reals.hdiv t_v65 t_v66 (fun _ => (by norm_num : (1024 : ℝ) ≠ 0))
theorem t_cst_13 : Re (s := S_) (val_main_cst_13 (F := Ideal)) (c0 q_cst_13) :=
  Reals.const w_half
theorem t_v68 : Re (s := S16384x1024) (val_main_v68 (F := Ideal)) (c2 q_v68) :=
  Reals.hscal _ t_cst_13
theorem t_v69 : Re (s := S16384x1024) (val_main_v69 (F := Ideal)) (c2 q_v69) :=
  Reals.mul t_v68 t_v67
theorem t_cst_14 : Re (s := S_) (val_main_cst_14 (F := Ideal)) (c0 q_cst_14) :=
  Reals.const w_zero
theorem t_v76 (h0 : Re x0 (c2 X0)) (h2 : Re x2 (c2 X2)) (h3 : Re x3 (c2 X3)) (h4 : Re x4 (c2 X4)) (h5 : Re x5 (c2 X5)) : Re (s := S16384x1024) (val_main_v76 (F := Ideal) x0 x2 x3 x4 x5) (c2 (q_v76 X0 X2 X3 X4 X5)) :=
  Reals.hcols _ (t_v50 h0 h2 h3 h4 h5)
theorem t_cst_15 : Re (s := S_) (val_main_cst_15 (F := Ideal)) (c0 q_cst_15) :=
  Reals.const w_1024
theorem t_v79 : Re (s := S16384x1) (val_main_v79 (F := Ideal)) (c2 q_v79) :=
  Reals.hscal _ t_cst_15
theorem t_cst_16 : Re (s := S_) (val_main_cst_16 (F := Ideal)) (c0 q_cst_16) :=
  Reals.const w_zero
theorem t_cst_17 : Re (s := S_) (val_main_cst_17 (F := Ideal)) (c0 q_cst_17) :=
  Reals.const w_zero
theorem t_v103 (h0 : Re x0 (c2 X0)) : Re (s := S16384x1024) (val_main_v103 (F := Ideal) x0) (c2 (q_v103 X0)) :=
  Reals.hcols _ (t_v25 h0)
theorem t_cst_18 : Re (s := S_) (val_main_cst_18 (F := Ideal)) (c0 q_cst_18) :=
  Reals.const w_1024
theorem t_v106 : Re (s := S16384x1) (val_main_v106 (F := Ideal)) (c2 q_v106) :=
  Reals.hscal _ t_cst_18
theorem t_cst_19 : Re (s := S_) (val_main_cst_19 (F := Ideal)) (c0 q_cst_19) :=
  Reals.const w_zero
theorem t_cst_20 : Re (s := S_) (val_main_cst_20 (F := Ideal)) (c0 q_cst_20) :=
  Reals.const w_zero
theorem t_cst_21 : Re (s := S_) (val_main_cst_21 (F := Ideal)) (c0 q_cst_21) :=
  Reals.const w_zero
theorem t_cst_22 : Re (s := S_) (val_main_cst_22 (F := Ideal)) (c0 q_cst_22) :=
  Reals.const w_zero
theorem t_cst_23 : Re (s := S_) (val_main_cst_23 (F := Ideal)) (c0 q_cst_23) :=
  Reals.const w_zero
theorem t_cst_24 : Re (s := S_) (val_main_cst_24 (F := Ideal)) (c0 q_cst_24) :=
  Reals.const w_zero
theorem t_cst_25 : Re (s := S_) (val_main_cst_25 (F := Ideal)) (c0 q_cst_25) :=
  Reals.const w_zero
theorem t_v127 (h0 : Re x0 (c2 X0)) (h2 : Re x2 (c2 X2)) : Re (s := S16384x1024) (val_main_v127 (F := Ideal) x0 x2) (c2 (q_v127 X0 X2)) :=
  Reals.trunc _ (t_v35 h0 h2)
theorem t_v128 (h0 : Re x0 (c2 X0)) (h2 : Re x2 (c2 X2)) (h3 : Re x3 (c2 X3)) (h4 : Re x4 (c2 X4)) : Re (s := S16384x2816) (val_main_v128 (F := Ideal) x0 x2 x3 x4) (c2 (q_v128 X0 X2 X3 X4)) :=
  Reals.trunc _ (t_v39 h0 h2 h3 h4)

variable (h0 : Re x0 (c2 X0)) (h1 : Re x1 (c2 X1)) (h2 : Re x2 (c2 X2)) (h3 : Re x3 (c2 X3)) (h4 : Re x4 (c2 X4)) (h5 : Re x5 (c2 X5))
include h0 h1 h2 h3 h4 h5

theorem t_v57 : Re (s := S16384x1024) (val_main_v57 (F := Ideal) x0 x1 x2 x3 x4 x5) (c2 (q_v57 X0 X1 X2 X3 X4 X5)) :=
  Reals.sub (t_v56 h0 h2 h3 h4 h5) h1
theorem t_v58 : Re (s := S16384x1024) (val_main_v58 (F := Ideal) x0 x1 x2 x3 x4 x5) (c2 (q_v58 X0 X1 X2 X3 X4 X5)) :=
  Reals.mul (t_v57 h0 h1 h2 h3 h4 h5) (t_v57 h0 h1 h2 h3 h4 h5)
theorem t_v60 : Re (s := S16384x1024) (val_main_v60 (F := Ideal) x0 x1 x2 x3 x4 x5) (c2 (q_v60 X0 X1 X2 X3 X4 X5)) :=
  Reals.mul t_v59 (t_v57 h0 h1 h2 h3 h4 h5)
theorem t_v62 : Re (s := S16384x1024) (val_main_v62 (F := Ideal) x0 x1 x2 x3 x4 x5) (c2 (q_v62 X0 X1 X2 X3 X4 X5)) :=
  Reals.mul t_v61 (t_v58 h0 h1 h2 h3 h4 h5)
theorem t_v64 : Re (s := S16384x1024) (val_main_v64 (F := Ideal) x0 x1 x2 x3 x4 x5) (c2 (q_v64 X0 X1 X2 X3 X4 X5)) :=
  Reals.hdiv (t_v62 h0 h1 h2 h3 h4 h5) t_v63 (fun _ => (by norm_num : (1024 : ℝ) ≠ 0))
theorem t_v70 : Re (s := S16384x1024) (val_main_v70 (F := Ideal) x0 x1 x2 x3 x4 x5) (c2 (q_v70 X0 X1 X2 X3 X4 X5)) :=
  Reals.mul t_v69 (t_v60 h0 h1 h2 h3 h4 h5)
theorem t_v71 : Re (s := S16384x1024) (val_main_v71 (F := Ideal) x0 x1 x2 x3 x4 x5) (c2 (q_v71 X0 X1 X2 X3 X4 X5)) :=
  Reals.mul (t_v55 h0 h2 h3 h4 h5) (t_v70 h0 h1 h2 h3 h4 h5)
theorem t_v72 : Re (s := S16384x1024) (val_main_v72 (F := Ideal) x0 x1 x2 x3 x4 x5) (c2 (q_v72 X0 X1 X2 X3 X4 X5)) :=
  Reals.mul (t_v70 h0 h1 h2 h3 h4 h5) (t_v17 h2)
theorem t_v73 : Re (s := S16384x1024) (val_main_v73 (F := Ideal) x0 x1 x2 x3 x4 x5) (c2 (q_v73 X0 X1 X2 X3 X4 X5)) :=
  Reals.mul (t_v42 h0 h2 h3 h4 h5) (t_v72 h0 h1 h2 h3 h4 h5)
theorem t_v74 : Re (s := S16384) (val_main_v74 (F := Ideal) x0 x1 x2 x3 x4 x5) (c1 (q_v74 X0 X1 X2 X3 X4 X5)) :=
  Reals.hrowSum _ (by decide) _ (t_v73 h0 h1 h2 h3 h4 h5) t_cst_14
theorem t_v75 : Re (s := S16384x1) (val_main_v75 (F := Ideal) x0 x1 x2 x3 x4 x5) (c2 (q_v75 X0 X1 X2 X3 X4 X5)) :=
  Reals.column _ (t_v74 h0 h1 h2 h3 h4 h5)
theorem t_v77 : Re (s := S16384x1024) (val_main_v77 (F := Ideal) x0 x1 x2 x3 x4 x5) (c2 (q_v77 X0 X1 X2 X3 X4 X5)) :=
  Reals.mul (t_v72 h0 h1 h2 h3 h4 h5) (t_v76 h0 h2 h3 h4 h5)
theorem t_v78 : Re (s := S16384x1) (val_main_v78 (F := Ideal) x0 x1 x2 x3 x4 x5) (c2 (q_v78 X0 X1 X2 X3 X4 X5)) :=
  Reals.mul (t_v75 h0 h1 h2 h3 h4 h5) (t_v53 h0 h2 h3 h4 h5)
theorem t_v80 : Re (s := S16384x1) (val_main_v80 (F := Ideal) x0 x1 x2 x3 x4 x5) (c2 (q_v80 X0 X1 X2 X3 X4 X5)) :=
  Reals.hdiv (t_v78 h0 h1 h2 h3 h4 h5) t_v79 (fun _ => (by norm_num : (1024 : ℝ) ≠ 0))
theorem t_v81 : Re (s := S16384) (val_main_v81 (F := Ideal) x0 x1 x2 x3 x4 x5) (c1 (q_v81 X0 X1 X2 X3 X4 X5)) :=
  Reals.hrowSum _ (by decide) _ (t_v80 h0 h1 h2 h3 h4 h5) t_cst_16
theorem t_v82 : Re (s := S16384x1024) (val_main_v82 (F := Ideal) x0 x1 x2 x3 x4 x5) (c2 (q_v82 X0 X1 X2 X3 X4 X5)) :=
  Reals.hcol _ (t_v81 h0 h1 h2 h3 h4 h5)
theorem t_v83 : Re (s := S16384x1024) (val_main_v83 (F := Ideal) x0 x1 x2 x3 x4 x5) (c2 (q_v83 X0 X1 X2 X3 X4 X5)) :=
  Reals.mul (t_v42 h0 h2 h3 h4 h5) (t_v82 h0 h1 h2 h3 h4 h5)
theorem t_v84 : Re (s := S16384x1024) (val_main_v84 (F := Ideal) x0 x1 x2 x3 x4 x5) (c2 (q_v84 X0 X1 X2 X3 X4 X5)) :=
  Reals.add (t_v77 h0 h1 h2 h3 h4 h5) (t_v83 h0 h1 h2 h3 h4 h5)
theorem t_v85 : Re (s := S16384x1024) (val_main_v85 (F := Ideal) x0 x1 x2 x3 x4 x5) (c2 (q_v85 X0 X1 X2 X3 X4 X5)) :=
  Reals.mul (t_v82 h0 h1 h2 h3 h4 h5) (t_v42 h0 h2 h3 h4 h5)
theorem t_v86 : Re (s := S16384x1024) (val_main_v86 (F := Ideal) x0 x1 x2 x3 x4 x5) (c2 (q_v86 X0 X1 X2 X3 X4 X5)) :=
  Reals.add (t_v84 h0 h1 h2 h3 h4 h5) (t_v85 h0 h1 h2 h3 h4 h5)
theorem t_v87 : Re (s := S16384x1024) (val_main_v87 (F := Ideal) x0 x1 x2 x3 x4 x5) (c2 (q_v87 X0 X1 X2 X3 X4 X5)) :=
  Reals.mul (t_v14 h2) (t_v86 h0 h1 h2 h3 h4 h5)
theorem t_v88 : Re (s := S16384x1024) (val_main_v88 (F := Ideal) x0 x1 x2 x3 x4 x5) (c2 (q_v88 X0 X1 X2 X3 X4 X5)) :=
  Reals.mul (t_v86 h0 h1 h2 h3 h4 h5) (t_v40 h0 h2 h3 h4 h5)
theorem t_v89 : Re (s := S16384x2816) (val_main_v89 (F := Ideal) x0 x1 x2 x3 x4 x5) (c2 (q_v89 X0 X1 X2 X3 X4 X5)) :=
  Reals.host_dotNT (t_v87 h0 h1 h2 h3 h4 h5) (t_v2 h5)
theorem t_v90 : Re (s := S16384x2816) (val_main_v90 (F := Ideal) x0 x1 x2 x3 x4 x5) (c2 (q_v90 X0 X1 X2 X3 X4 X5)) :=
  Reals.mul (t_v38_0 h0 h2 h3) (t_v89 h0 h1 h2 h3 h4 h5)
theorem t_v91 : Re (s := S16384x2816) (val_main_v91 (F := Ideal) x0 x1 x2 x3 x4 x5) (c2 (q_v91 X0 X1 X2 X3 X4 X5)) :=
  Reals.mul (t_v89 h0 h1 h2 h3 h4 h5) (t_v37 h0 h2 h4)
theorem t_call1_v0 : Re (s := S16384x2816) (val_main_call1_v0 (F := Ideal) x0 x1 x2 x3 x4 x5) (c2 (q_call1_v0 X0 X1 X2 X3 X4 X5)) :=
  Reals.mul (t_v36 h0 h2 h3) (t_v91 h0 h1 h2 h3 h4 h5)
theorem t_call1_v1 : Re (s := S16384x2816) (val_main_call1_v1 (F := Ideal) x0 x1 x2 x3 x4 x5) (c2 (q_call1_v1 X0 X1 X2 X3 X4 X5)) :=
  Reals.mul (t_v91 h0 h1 h2 h3 h4 h5) (t_v38_2 h0 h2 h3)
theorem t_call1_v2 : Re (s := S16384x2816) (val_main_call1_v2 (F := Ideal) x0 x1 x2 x3 x4 x5) (c2 (q_call1_v2 X0 X1 X2 X3 X4 X5)) :=
  Reals.mul (t_call1_v0 h0 h1 h2 h3 h4 h5) (t_v38_1 h0 h2 h3)
theorem t_v92 : Re (s := S16384x2816) (val_main_v92 (F := Ideal) x0 x1 x2 x3 x4 x5) (c2 (q_v92 X0 X1 X2 X3 X4 X5)) :=
  Reals.add (t_call1_v1 h0 h1 h2 h3 h4 h5) (t_call1_v2 h0 h1 h2 h3 h4 h5)
theorem t_v93 : Re (s := S16384x1024) (val_main_v93 (F := Ideal) x0 x1 x2 x3 x4 x5) (c2 (q_v93 X0 X1 X2 X3 X4 X5)) :=
  Reals.host_dotNT (t_v92 h0 h1 h2 h3 h4 h5) (t_v0 h3)
theorem t_v94 : Re (s := S16384x1024) (val_main_v94 (F := Ideal) x0 x1 x2 x3 x4 x5) (c2 (q_v94 X0 X1 X2 X3 X4 X5)) :=
  Reals.host_dotNT (t_v90 h0 h1 h2 h3 h4 h5) (t_v1 h4)
theorem t_v95 : Re (s := S16384x1024) (val_main_v95 (F := Ideal) x0 x1 x2 x3 x4 x5) (c2 (q_v95 X0 X1 X2 X3 X4 X5)) :=
  Reals.add (t_v93 h0 h1 h2 h3 h4 h5) (t_v94 h0 h1 h2 h3 h4 h5)
theorem t_v96 : Re (s := S16384x1024) (val_main_v96 (F := Ideal) x0 x1 x2 x3 x4 x5) (c2 (q_v96 X0 X1 X2 X3 X4 X5)) :=
  Reals.mul (t_v31 h0 h2) (t_v95 h0 h1 h2 h3 h4 h5)
theorem t_v97 : Re (s := S16384x1024) (val_main_v97 (F := Ideal) x0 x1 x2 x3 x4 x5) (c2 (q_v97 X0 X1 X2 X3 X4 X5)) :=
  Reals.mul (t_v95 h0 h1 h2 h3 h4 h5) (t_v33 h2)
theorem t_v98 : Re (s := S16384x1024) (val_main_v98 (F := Ideal) x0 x1 x2 x3 x4 x5) (c2 (q_v98 X0 X1 X2 X3 X4 X5)) :=
  Reals.mul (t_v30 h0) (t_v97 h0 h1 h2 h3 h4 h5)
theorem t_v99 : Re (s := S16384x1024) (val_main_v99 (F := Ideal) x0 x1 x2 x3 x4 x5) (c2 (q_v99 X0 X1 X2 X3 X4 X5)) :=
  Reals.mul (t_v97 h0 h1 h2 h3 h4 h5) (t_v5 h2)
theorem t_v100 : Re (s := S16384x1024) (val_main_v100 (F := Ideal) x0 x1 x2 x3 x4 x5) (c2 (q_v100 X0 X1 X2 X3 X4 X5)) :=
  Reals.mul h0 (t_v99 h0 h1 h2 h3 h4 h5)
theorem t_v101 : Re (s := S16384) (val_main_v101 (F := Ideal) x0 x1 x2 x3 x4 x5) (c1 (q_v101 X0 X1 X2 X3 X4 X5)) :=
  Reals.hrowSum _ (by decide) _ (t_v100 h0 h1 h2 h3 h4 h5) t_cst_17
theorem t_v102 : Re (s := S16384x1) (val_main_v102 (F := Ideal) x0 x1 x2 x3 x4 x5) (c2 (q_v102 X0 X1 X2 X3 X4 X5)) :=
  Reals.column _ (t_v101 h0 h1 h2 h3 h4 h5)
theorem t_v104 : Re (s := S16384x1024) (val_main_v104 (F := Ideal) x0 x1 x2 x3 x4 x5) (c2 (q_v104 X0 X1 X2 X3 X4 X5)) :=
  Reals.mul (t_v99 h0 h1 h2 h3 h4 h5) (t_v103 h0)
theorem t_v105 : Re (s := S16384x1) (val_main_v105 (F := Ideal) x0 x1 x2 x3 x4 x5) (c2 (q_v105 X0 X1 X2 X3 X4 X5)) :=
  Reals.mul (t_v102 h0 h1 h2 h3 h4 h5) (t_v28 h0)
theorem t_v107 : Re (s := S16384x1) (val_main_v107 (F := Ideal) x0 x1 x2 x3 x4 x5) (c2 (q_v107 X0 X1 X2 X3 X4 X5)) :=
  Reals.hdiv (t_v105 h0 h1 h2 h3 h4 h5) t_v106 (fun _ => (by norm_num : (1024 : ℝ) ≠ 0))
theorem t_v108 : Re (s := S16384) (val_main_v108 (F := Ideal) x0 x1 x2 x3 x4 x5) (c1 (q_v108 X0 X1 X2 X3 X4 X5)) :=
  Reals.hrowSum _ (by decide) _ (t_v107 h0 h1 h2 h3 h4 h5) t_cst_19
theorem t_v109 : Re (s := S16384x1024) (val_main_v109 (F := Ideal) x0 x1 x2 x3 x4 x5) (c2 (q_v109 X0 X1 X2 X3 X4 X5)) :=
  Reals.hcol _ (t_v108 h0 h1 h2 h3 h4 h5)
theorem t_v110 : Re (s := S16384x1024) (val_main_v110 (F := Ideal) x0 x1 x2 x3 x4 x5) (c2 (q_v110 X0 X1 X2 X3 X4 X5)) :=
  Reals.mul h0 (t_v109 h0 h1 h2 h3 h4 h5)
theorem t_v111 : Re (s := S16384x1024) (val_main_v111 (F := Ideal) x0 x1 x2 x3 x4 x5) (c2 (q_v111 X0 X1 X2 X3 X4 X5)) :=
  Reals.add (t_v104 h0 h1 h2 h3 h4 h5) (t_v110 h0 h1 h2 h3 h4 h5)
theorem t_v112 : Re (s := S16384x1024) (val_main_v112 (F := Ideal) x0 x1 x2 x3 x4 x5) (c2 (q_v112 X0 X1 X2 X3 X4 X5)) :=
  Reals.mul (t_v109 h0 h1 h2 h3 h4 h5) h0
theorem t_v113 : Re (s := S16384x1024) (val_main_v113 (F := Ideal) x0 x1 x2 x3 x4 x5) (c2 (q_v113 X0 X1 X2 X3 X4 X5)) :=
  Reals.add (t_v111 h0 h1 h2 h3 h4 h5) (t_v112 h0 h1 h2 h3 h4 h5)
theorem t_v114 : Re (s := S2048x8x1024) (val_main_v114 (F := Ideal) x0 x1 x2 x3 x4 x5) (c3 (q_v114 X0 X1 X2 X3 X4 X5)) :=
  Reals.eights (by norm_num) _ (t_v71 h0 h1 h2 h3 h4 h5)
theorem t_v115 : Re (s := S8x1024) (val_main_v115 (F := Ideal) x0 x1 x2 x3 x4 x5) (c2 (q_v115 X0 X1 X2 X3 X4 X5)) :=
  Reals.hheadSum _ (by decide) _ (t_v114 h0 h1 h2 h3 h4 h5) t_cst_20
theorem t_v116 : Re (s := S2048x8x1024) (val_main_v116 (F := Ideal) x0 x1 x2 x3 x4 x5) (c3 (q_v116 X0 X1 X2 X3 X4 X5)) :=
  Reals.eights (by norm_num) _ (t_v88 h0 h1 h2 h3 h4 h5)
theorem t_v117 : Re (s := S8x1024) (val_main_v117 (F := Ideal) x0 x1 x2 x3 x4 x5) (c2 (q_v117 X0 X1 X2 X3 X4 X5)) :=
  Reals.hheadSum _ (by decide) _ (t_v116 h0 h1 h2 h3 h4 h5) t_cst_21
theorem t_v118 : Re (s := S2048x8x1024) (val_main_v118 (F := Ideal) x0 x1 x2 x3 x4 x5) (c3 (q_v118 X0 X1 X2 X3 X4 X5)) :=
  Reals.eights (by norm_num) _ (t_v95 h0 h1 h2 h3 h4 h5)
theorem t_v119 : Re (s := S8x1024) (val_main_v119 (F := Ideal) x0 x1 x2 x3 x4 x5) (c2 (q_v119 X0 X1 X2 X3 X4 X5)) :=
  Reals.hheadSum _ (by decide) _ (t_v118 h0 h1 h2 h3 h4 h5) t_cst_22
theorem t_v120 : Re (s := S2048x8x1024) (val_main_v120 (F := Ideal) x0 x1 x2 x3 x4 x5) (c3 (q_v120 X0 X1 X2 X3 X4 X5)) :=
  Reals.eights (by norm_num) _ (t_v96 h0 h1 h2 h3 h4 h5)
theorem t_v121 : Re (s := S8x1024) (val_main_v121 (F := Ideal) x0 x1 x2 x3 x4 x5) (c2 (q_v121 X0 X1 X2 X3 X4 X5)) :=
  Reals.hheadSum _ (by decide) _ (t_v120 h0 h1 h2 h3 h4 h5) t_cst_23
theorem t_v122 : Re (s := S2048x8x1024) (val_main_v122 (F := Ideal) x0 x1 x2 x3 x4 x5) (c3 (q_v122 X0 X1 X2 X3 X4 X5)) :=
  Reals.eights (by norm_num) _ (t_v98 h0 h1 h2 h3 h4 h5)
theorem t_v123 : Re (s := S8x1024) (val_main_v123 (F := Ideal) x0 x1 x2 x3 x4 x5) (c2 (q_v123 X0 X1 X2 X3 X4 X5)) :=
  Reals.hheadSum _ (by decide) _ (t_v122 h0 h1 h2 h3 h4 h5) t_cst_24
theorem t_v124 : Re (s := S2048x8x1024) (val_main_v124 (F := Ideal) x0 x1 x2 x3 x4 x5) (c3 (q_v124 X0 X1 X2 X3 X4 X5)) :=
  Reals.eights (by norm_num) _ (t_v64 h0 h1 h2 h3 h4 h5)
theorem t_v125 : Re (s := S8x1024) (val_main_v125 (F := Ideal) x0 x1 x2 x3 x4 x5) (c2 (q_v125 X0 X1 X2 X3 X4 X5)) :=
  Reals.hheadSum _ (by decide) _ (t_v124 h0 h1 h2 h3 h4 h5) t_cst_25
theorem t_v126 : Re (s := S16384x1024) (val_main_v126 (F := Ideal) x0 x1 x2 x3 x4 x5) (c2 (q_v126 X0 X1 X2 X3 X4 X5)) :=
  Reals.add (t_v86 h0 h1 h2 h3 h4 h5) (t_v113 h0 h1 h2 h3 h4 h5)
theorem t_v129 : Re (s := S16384x2816) (val_main_v129 (F := Ideal) x0 x1 x2 x3 x4 x5) (c2 (q_v129 X0 X1 X2 X3 X4 X5)) :=
  Reals.trunc _ (t_v92 h0 h1 h2 h3 h4 h5)
theorem t_v130 : Re (s := S16384x2816) (val_main_v130 (F := Ideal) x0 x1 x2 x3 x4 x5) (c2 (q_v130 X0 X1 X2 X3 X4 X5)) :=
  Reals.trunc _ (t_v90 h0 h1 h2 h3 h4 h5)
theorem t_v131 : Re (s := S16384x1024) (val_main_v131 (F := Ideal) x0 x1 x2 x3 x4 x5) (c2 (q_v131 X0 X1 X2 X3 X4 X5)) :=
  Reals.trunc _ (t_v87 h0 h1 h2 h3 h4 h5)

end Cert.FfnRefIdeal.Reals
-- ==== Proof.FfnSame.lean ====
/-
  On real inputs one block of the feed-forward kernel computes, token by token, what the reference computes
  for the tokens of that block.
-/
module

public import proofs.«01_k».proof.Proof.FfnReals
public import proofs.«01_k».proof.Proof.FfnRefReals

@[expose] public section

noncomputable section

namespace Cert.FfnIdeal.Reals

open Cert.FfnRefIdeal.Reals Cert.Reals

/-- The gradient of a normalised row, in the form the kernel writes it and in the reference's. -/
theorem rms_vjp {n : ℕ} (x d : Fin n → ℝ) (v : ℝ) (hv : 0 < v) (j : Fin n) :
    (Real.sqrt v)⁻¹ * (d j - x j * (Real.sqrt v)⁻¹ * ((∑ k, d k * (x k * (Real.sqrt v)⁻¹)) / 1024))
      = d j * (Real.sqrt v)⁻¹ + x j * (∑ _k : Fin 1, (∑ k, x k * d k) * (-(1 / 2) * ((Real.sqrt v)⁻¹ / v)) / 1024)
        + (∑ _k : Fin 1, (∑ k, x k * d k) * (-(1 / 2) * ((Real.sqrt v)⁻¹ / v)) / 1024) * x j := by
  have e1 : ∑ k, d k * (x k * (Real.sqrt v)⁻¹) = (∑ k, x k * d k) * (Real.sqrt v)⁻¹ := by
    rw [Finset.sum_mul]; exact Finset.sum_congr rfl fun k _ => by ring
  have e2 : (Real.sqrt v)⁻¹ / v = (Real.sqrt v)⁻¹ * (Real.sqrt v)⁻¹ * (Real.sqrt v)⁻¹ := by
    have : v⁻¹ = (Real.sqrt v)⁻¹ * (Real.sqrt v)⁻¹ := by rw [← mul_inv, Real.mul_self_sqrt hv.le]
    rw [div_eq_mul_inv, this]; ring
  rw [e1, e2, Fin.sum_univ_one]
  ring

/-- A row of the table of vectors. -/
abbrev row (X : Mat 8 1024) (q : Fin 8) : Mat 1 1024 := fun _ j => X q j
/-- The rows `e` names. -/
abbrev blk {n : ℕ} (e : Fin 256 → Fin 16384) (X : Mat 16384 n) : Mat 256 n := fun i => X (e i)
/-- What one block adds to one of the eight rows a sum over the tokens is kept in. -/
abbrev part (e : Fin 256 → Fin 16384) (X : Mat 16384 1024) : Mat 8 1024 :=
  fun i j => ∑ k : Fin 32, X (e ⟨8 * k.val + i.val, by have := i.isLt; have := k.isLt; omega⟩) j

variable (e : Fin 256 → Fin 16384) (X0 X1 : Mat 16384 1024) (X2 : Mat 8 1024)
  (X3 X4 : Mat 1024 2816) (X5 : Mat 2816 1024)

theorem s_r2 : pay4 (blk e X0) = blk e (q_v25 X0) := rfl
theorem s_xn2 : pay5 (blk e X0) = blk e (q_v30 X0) := rfl
theorem s_h2 : pay6 (row X2 0) (row X2 1) (row X2 2) (blk e X0) = blk e (q_v35 X0 X2) := rfl
theorem s_gt : pay7 (row X2 0) (row X2 1) (row X2 2) (blk e X0) X3 = blk e (q_v36 X0 X2 X3) := rfl
theorem s_up : pay8 (blk e (q_v35 X0 X2)) X4 = blk e (q_v37 X0 X2 X4) := rfl
theorem s_sg : pay9 (blk e (q_v36 X0 X2 X3)) = blk e (q_v38_2 X0 X2 X3) := by
  funext i j
  show 1 / (1 + Real.exp (0 - q_v36 X0 X2 X3 (e i) j)) = 1 / (1 + Real.exp (-q_v36 X0 X2 X3 (e i) j))
  rw [zero_sub]
theorem s_sil : pay10 (blk e (q_v36 X0 X2 X3)) = blk e (q_v38_0 X0 X2 X3) := by
  funext i j
  show _ * pay9 (blk e (q_v36 X0 X2 X3)) i j = _
  rw [s_sg]; rfl
theorem s_act : pay11 (blk e (q_v35 X0 X2)) (blk e (q_v36 X0 X2 X3)) X4 = blk e (q_v39 X0 X2 X3 X4) := by
  funext i j
  show pay10 (blk e (q_v36 X0 X2 X3)) i j * _ = _
  rw [s_sil]; rfl
theorem s_y2 : pay12 (blk e (q_v35 X0 X2)) (blk e (q_v36 X0 X2 X3)) X4 X5 = blk e (q_v40 X0 X2 X3 X4 X5) := by
  funext i j
  show ∑ k, pay11 (blk e (q_v35 X0 X2)) (blk e (q_v36 X0 X2 X3)) X4 i k * X5 k j = _
  rw [s_act]; rfl
theorem s_x2 : pay13 (row X2 3) (blk e X0) (blk e (q_v35 X0 X2)) (blk e (q_v36 X0 X2 X3)) X4 X5 = blk e (q_v42 X0 X2 X3 X4 X5) := by
  funext i j
  show _ + _ * pay12 (blk e (q_v35 X0 X2)) (blk e (q_v36 X0 X2 X3)) X4 X5 i j = _
  rw [s_y2]; rfl
theorem s_r3 : pay14 (row X2 3) (blk e X0) (blk e (q_v35 X0 X2)) (blk e (q_v36 X0 X2 X3)) X4 X5 = blk e (q_v50 X0 X2 X3 X4 X5) := by
  have h := s_x2 e X0 X2 X3 X4 X5
  funext i j
  show (Real.sqrt ((∑ k, pay13 (row X2 3) (blk e X0) (blk e (q_v35 X0 X2)) (blk e (q_v36 X0 X2 X3)) X4 X5 i k
    * pay13 (row X2 3) (blk e X0) (blk e (q_v35 X0 X2)) (blk e (q_v36 X0 X2 X3)) X4 X5 i k) / 1024 + eps))⁻¹ = _
  rw [h]; rfl
theorem s_xn3 : pay15 (row X2 3) (blk e X0) (blk e (q_v35 X0 X2)) (blk e (q_v36 X0 X2 X3)) X4 X5 = blk e (q_v55 X0 X2 X3 X4 X5) := by
  funext i j
  show pay13 (row X2 3) (blk e X0) (blk e (q_v35 X0 X2)) (blk e (q_v36 X0 X2 X3)) X4 X5 i j
    * pay14 (row X2 3) (blk e X0) (blk e (q_v35 X0 X2)) (blk e (q_v36 X0 X2 X3)) X4 X5 i 0 = _
  rw [s_x2, s_r3]; rfl
theorem s_e : pay16 (row X2 3) (row X2 4) (blk e X0) (blk e (q_v35 X0 X2)) (blk e (q_v36 X0 X2 X3)) X4 X5 (blk e X1)
    = blk e (q_v57 X0 X1 X2 X3 X4 X5) := by
  funext i j
  show pay15 (row X2 3) (blk e X0) (blk e (q_v35 X0 X2)) (blk e (q_v36 X0 X2 X3)) X4 X5 i j * _ - _ = _
  rw [s_xn3]; rfl
theorem s_dyo : pay18 (blk e (q_v57 X0 X1 X2 X3 X4 X5)) = blk e (q_v70 X0 X1 X2 X3 X4 X5) := by
  funext i j
  show q_v57 X0 X1 X2 X3 X4 X5 (e i) j * (1 / 1024) = (1 / 2 * (1 / 1024)) * (2 * q_v57 X0 X1 X2 X3 X4 X5 (e i) j)
  ring
theorem s_dx2 : pay20 (row X2 4) (blk e (q_v50 X0 X2 X3 X4 X5)) (blk e (q_v55 X0 X2 X3 X4 X5)) (blk e (q_v57 X0 X1 X2 X3 X4 X5))
    = blk e (q_v86 X0 X1 X2 X3 X4 X5) := by
  funext i j
  show q_v50 X0 X2 X3 X4 X5 (e i) 0 * (pay18 (blk e (q_v57 X0 X1 X2 X3 X4 X5)) i j * X2 4 j - q_v55 X0 X2 X3 X4 X5 (e i) j
    * ((∑ k, pay18 (blk e (q_v57 X0 X1 X2 X3 X4 X5)) i k * X2 4 k * q_v55 X0 X2 X3 X4 X5 (e i) k) / 1024)) = _
  rw [s_dyo]
  exact rms_vjp (q_v42 X0 X2 X3 X4 X5 (e i)) (q_v72 X0 X1 X2 X3 X4 X5 (e i)) _ (pos_ms _) j
theorem s_dy2 : pay22 (row X2 3) (row X2 4) (blk e (q_v50 X0 X2 X3 X4 X5)) (blk e (q_v55 X0 X2 X3 X4 X5)) (blk e (q_v57 X0 X1 X2 X3 X4 X5))
    = blk e (q_v87 X0 X1 X2 X3 X4 X5) := by
  funext i j
  show pay20 (row X2 4) (blk e (q_v50 X0 X2 X3 X4 X5)) (blk e (q_v55 X0 X2 X3 X4 X5)) (blk e (q_v57 X0 X1 X2 X3 X4 X5)) i j * X2 3 j = _
  rw [s_dx2]; exact mul_comm _ _
theorem s_dact : pay23 (row X2 3) (row X2 4) (blk e (q_v50 X0 X2 X3 X4 X5)) (blk e (q_v55 X0 X2 X3 X4 X5)) (blk e (q_v57 X0 X1 X2 X3 X4 X5)) X5
    = blk e (q_v89 X0 X1 X2 X3 X4 X5) := by
  funext i j
  show ∑ k, pay22 (row X2 3) (row X2 4) (blk e (q_v50 X0 X2 X3 X4 X5)) (blk e (q_v55 X0 X2 X3 X4 X5)) (blk e (q_v57 X0 X1 X2 X3 X4 X5)) i k * X5 j k = _
  rw [s_dy2]; rfl
theorem s_dup : pay24 (row X2 3) (row X2 4) (blk e (q_v38_0 X0 X2 X3)) (blk e (q_v50 X0 X2 X3 X4 X5)) (blk e (q_v55 X0 X2 X3 X4 X5)) (blk e (q_v57 X0 X1 X2 X3 X4 X5)) X5
    = blk e (q_v90 X0 X1 X2 X3 X4 X5) := by
  funext i j
  show pay23 (row X2 3) (row X2 4) (blk e (q_v50 X0 X2 X3 X4 X5)) (blk e (q_v55 X0 X2 X3 X4 X5)) (blk e (q_v57 X0 X1 X2 X3 X4 X5)) X5 i j * _ = _
  rw [s_dact]; exact mul_comm _ _
theorem s_dau : pay25 (row X2 3) (row X2 4) (blk e (q_v37 X0 X2 X4)) (blk e (q_v50 X0 X2 X3 X4 X5)) (blk e (q_v55 X0 X2 X3 X4 X5)) (blk e (q_v57 X0 X1 X2 X3 X4 X5)) X5
    = blk e (q_v91 X0 X1 X2 X3 X4 X5) := by
  funext i j
  show pay23 (row X2 3) (row X2 4) (blk e (q_v50 X0 X2 X3 X4 X5)) (blk e (q_v55 X0 X2 X3 X4 X5)) (blk e (q_v57 X0 X1 X2 X3 X4 X5)) X5 i j * _ = _
  rw [s_dact]; rfl
theorem s_dgt : pay26 (blk e (q_v36 X0 X2 X3)) (blk e (q_v38_2 X0 X2 X3)) (blk e (q_v91 X0 X1 X2 X3 X4 X5)) = blk e (q_v92 X0 X1 X2 X3 X4 X5) := by
  funext i j
  show q_v91 X0 X1 X2 X3 X4 X5 (e i) j * (q_v38_2 X0 X2 X3 (e i) j * (1 + q_v36 X0 X2 X3 (e i) j * (1 - q_v38_2 X0 X2 X3 (e i) j)))
    = q_v91 X0 X1 X2 X3 X4 X5 (e i) j * q_v38_2 X0 X2 X3 (e i) j
      + q_v36 X0 X2 X3 (e i) j * q_v91 X0 X1 X2 X3 X4 X5 (e i) j * (q_v38_2 X0 X2 X3 (e i) j * (1 - q_v38_2 X0 X2 X3 (e i) j))
  ring
theorem s_dh2 : pay27 (blk e (q_v36 X0 X2 X3)) (blk e (q_v38_2 X0 X2 X3)) (blk e (q_v90 X0 X1 X2 X3 X4 X5)) (blk e (q_v91 X0 X1 X2 X3 X4 X5)) X3 X4
    = blk e (q_v95 X0 X1 X2 X3 X4 X5) := by
  funext i j
  show (∑ k, pay26 (blk e (q_v36 X0 X2 X3)) (blk e (q_v38_2 X0 X2 X3)) (blk e (q_v91 X0 X1 X2 X3 X4 X5)) i k * X3 j k) + _ = _
  rw [s_dgt]; rfl
theorem s_dx1 : pay2 (row X2 0) (row X2 2) (blk e (q_v25 X0)) (blk e (q_v30 X0)) (blk e (q_v86 X0 X1 X2 X3 X4 X5)) (blk e (q_v95 X0 X1 X2 X3 X4 X5))
    = blk e (q_v126 X0 X1 X2 X3 X4 X5) := by
  funext i j
  have h : ∀ k, q_v95 X0 X1 X2 X3 X4 X5 (e i) k * ((1 + X2 2 k) * X2 0 k) = q_v99 X0 X1 X2 X3 X4 X5 (e i) k := fun k => (mul_assoc _ _ _).symm
  show q_v86 X0 X1 X2 X3 X4 X5 (e i) j + q_v25 X0 (e i) 0 * (q_v95 X0 X1 X2 X3 X4 X5 (e i) j * ((1 + X2 2 j) * X2 0 j) - q_v30 X0 (e i) j
    * ((∑ k, q_v95 X0 X1 X2 X3 X4 X5 (e i) k * ((1 + X2 2 k) * X2 0 k) * q_v30 X0 (e i) k) / 1024)) = _
  simp only [h]
  exact congrArg (q_v86 X0 X1 X2 X3 X4 X5 (e i) j + ·) (rms_vjp (X0 (e i)) (q_v99 X0 X1 X2 X3 X4 X5 (e i)) _ (pos_ms _) j)

theorem s_loss (Y : Mat 8 1024) :
    pay17 (row X2 3) (row X2 4) (blk e X0) (blk e (q_v35 X0 X2)) (blk e (q_v36 X0 X2 X3)) X4 X5 (blk e X1) Y
      = fun i j => Y i j + part e (q_v64 X0 X1 X2 X3 X4 X5) i j := by
  have h := s_e e X0 X1 X2 X3 X4 X5
  funext i j
  show Y i j + (∑ k : Fin 32, pay16 (row X2 3) (row X2 4) (blk e X0) (blk e (q_v35 X0 X2)) (blk e (q_v36 X0 X2 X3)) X4 X5 (blk e X1) ⟨8 * k.val + i.val, _⟩ j
    * pay16 (row X2 3) (row X2 4) (blk e X0) (blk e (q_v35 X0 X2)) (blk e (q_v36 X0 X2 X3)) X4 X5 (blk e X1) ⟨8 * k.val + i.val, _⟩ j) * (1 / 2048) = _
  rw [h, Finset.sum_mul]
  refine congrArg (Y i j + ·) (Finset.sum_congr rfl fun k _ => ?_)
  show q_v57 X0 X1 X2 X3 X4 X5 (e ⟨8 * k.val + i.val, _⟩) j * q_v57 X0 X1 X2 X3 X4 X5 (e ⟨8 * k.val + i.val, _⟩) j * (1 / 2048)
    = 1 / 2 * (q_v57 X0 X1 X2 X3 X4 X5 (e ⟨8 * k.val + i.val, _⟩) j * q_v57 X0 X1 X2 X3 X4 X5 (e ⟨8 * k.val + i.val, _⟩) j) / 1024
  ring
theorem s_dfg (Y : Mat 8 1024) :
    pay19 (blk e (q_v55 X0 X2 X3 X4 X5)) (blk e (q_v57 X0 X1 X2 X3 X4 X5)) Y = fun i j => Y i j + part e (q_v71 X0 X1 X2 X3 X4 X5) i j := by
  have h := s_dyo e X0 X1 X2 X3 X4 X5
  funext i j
  show Y i j + (∑ k : Fin 32, pay18 (blk e (q_v57 X0 X1 X2 X3 X4 X5)) ⟨8 * k.val + i.val, _⟩ j * _) = _
  rw [h]
  exact congrArg (Y i j + ·) (Finset.sum_congr rfl fun k _ => mul_comm _ _)
theorem s_dg2 (Y : Mat 8 1024) :
    pay21 (row X2 4) (blk e (q_v40 X0 X2 X3 X4 X5)) (blk e (q_v50 X0 X2 X3 X4 X5)) (blk e (q_v55 X0 X2 X3 X4 X5)) (blk e (q_v57 X0 X1 X2 X3 X4 X5)) Y
      = fun i j => Y i j + part e (q_v88 X0 X1 X2 X3 X4 X5) i j := by
  have h := s_dx2 e X0 X1 X2 X3 X4 X5
  funext i j
  show Y i j + (∑ k : Fin 32, pay20 (row X2 4) (blk e (q_v50 X0 X2 X3 X4 X5)) (blk e (q_v55 X0 X2 X3 X4 X5)) (blk e (q_v57 X0 X1 X2 X3 X4 X5)) ⟨8 * k.val + i.val, _⟩ j * _) = _
  rw [h]; rfl
theorem s_dsh2 (Y : Mat 8 1024) :
    pay28 (blk e (q_v36 X0 X2 X3)) (blk e (q_v38_2 X0 X2 X3)) (blk e (q_v90 X0 X1 X2 X3 X4 X5)) (blk e (q_v91 X0 X1 X2 X3 X4 X5)) X3 X4 Y
      = fun i j => Y i j + part e (q_v95 X0 X1 X2 X3 X4 X5) i j := by
  have h := s_dh2 e X0 X1 X2 X3 X4 X5
  funext i j
  show Y i j + (∑ k : Fin 32, pay27 (blk e (q_v36 X0 X2 X3)) (blk e (q_v38_2 X0 X2 X3)) (blk e (q_v90 X0 X1 X2 X3 X4 X5)) (blk e (q_v91 X0 X1 X2 X3 X4 X5)) X3 X4 ⟨8 * k.val + i.val, _⟩ j) = _
  rw [h]
theorem s_t : pay29 (blk e (q_v30 X0)) (blk e (q_v36 X0 X2 X3)) (blk e (q_v38_2 X0 X2 X3)) (blk e (q_v90 X0 X1 X2 X3 X4 X5)) (blk e (q_v91 X0 X1 X2 X3 X4 X5)) X3 X4
    = blk e (fun i j => q_v95 X0 X1 X2 X3 X4 X5 i j * q_v30 X0 i j) := by
  have h := s_dh2 e X0 X1 X2 X3 X4 X5
  funext i j
  show pay27 (blk e (q_v36 X0 X2 X3)) (blk e (q_v38_2 X0 X2 X3)) (blk e (q_v90 X0 X1 X2 X3 X4 X5)) (blk e (q_v91 X0 X1 X2 X3 X4 X5)) X3 X4 i j * _ = _
  rw [h]
theorem s_dsc2 (Y : Mat 8 1024) :
    pay30 (row X2 0) (blk e (q_v30 X0)) (blk e (q_v36 X0 X2 X3)) (blk e (q_v38_2 X0 X2 X3)) (blk e (q_v90 X0 X1 X2 X3 X4 X5)) (blk e (q_v91 X0 X1 X2 X3 X4 X5)) X3 X4 Y
      = fun i j => Y i j + part e (q_v96 X0 X1 X2 X3 X4 X5) i j := by
  have h := s_t e X0 X1 X2 X3 X4 X5
  funext i j
  show Y i j + (∑ k : Fin 32, pay29 (blk e (q_v30 X0)) (blk e (q_v36 X0 X2 X3)) (blk e (q_v38_2 X0 X2 X3)) (blk e (q_v90 X0 X1 X2 X3 X4 X5)) (blk e (q_v91 X0 X1 X2 X3 X4 X5)) X3 X4 ⟨8 * k.val + i.val, _⟩ j * _) = _
  rw [h]
  refine congrArg (Y i j + ·) (Finset.sum_congr rfl fun k _ => ?_)
  show _ * q_v30 X0 _ j * X2 0 j = q_v30 X0 _ j * X2 0 j * _
  ring
theorem s_dn2g (Y : Mat 8 1024) :
    pay1 (row X2 2) (blk e (fun i j => q_v95 X0 X1 X2 X3 X4 X5 i j * q_v30 X0 i j)) Y
      = fun i j => Y i j + part e (q_v98 X0 X1 X2 X3 X4 X5) i j := by
  funext i j
  refine congrArg (Y i j + ·) (Finset.sum_congr rfl fun k _ => ?_)
  show q_v95 X0 X1 X2 X3 X4 X5 _ j * q_v30 X0 _ j * (1 + X2 2 j) = q_v30 X0 _ j * (q_v95 X0 X1 X2 X3 X4 X5 _ j * (1 + X2 2 j))
  ring

end Cert.FfnIdeal.Reals
-- ==== Proof.FfnBlock.lean ====
/-
  What one point of the feed-forward kernel's grid leaves in each of its output blocks, on real inputs: the
  reference's values for the tokens of the block.
-/
module

public import proofs.«01_k».proof.Proof.FfnSame
public import proofs.«01_k».proof.Proof.Gen.FfnIdeal.Value

@[expose] public section

noncomputable section

namespace Cert.FfnIdeal.Block

open Cert.FfnIdeal Cert.FfnIdeal.Gen Cert.FfnIdeal.Reals Cert.FfnRefIdeal.Reals Cert.Reals
open Idealize.ShloMosaic Idealize.ShloMosaic.TcCoe Idealize.SL.Sem Idealize.ShloMosaic.ValueIdx

theorem zero2 : (![0, 0] : Fin 2 → ℕ) = fun _ => 0 := by decide

/-- A row loaded from the table of vectors. -/
theorem ld_row {x : FVec Ideal S8x1024 .f32} {X : Mat 8 1024} (h : Re x (c2 X)) (q : ℕ) (hq : q < 8)
    (inb : ∀ a, (![q, 0] : Fin 2 → ℕ) a + S1x1024.size a ≤ S8x1024.size a) :
    Re (s := S1x1024) (View.ld (Val := Elt Ideal) (e' := .f32) x (Rect.unit (s := S8x1024) ![q, 0] S1x1024.size inb)) (c2 (row X ⟨q, hq⟩)) := by
  intro i
  have h0 : (i 0).val = 0 := by have : (i 0).val < 1 := (i 0).isLt; omega
  refine Eq.trans (congrArg x (funext fun a => Fin.ext ?_)) (h (ix2 ⟨q, hq⟩ (i 1)))
  match a with
  | 0 => show q + 1 * (i 0).val = q; omega
  | 1 => show 0 + 1 * (i 1).val = (i 1).val; omega

/-- Eight rows loaded from the array of sums. -/
theorem ld_eight {x : FVec Ideal S48x1024 .f32} {X : Mat 48 1024} (h : Re x (c2 X)) (q : ℕ) (hq : q + 8 ≤ 48)
    (inb : ∀ a, (![q, 0] : Fin 2 → ℕ) a + S8x1024.size a ≤ S48x1024.size a) :
    Re (s := S8x1024) (View.ld (Val := Elt Ideal) (e' := .f32) x (Rect.unit (s := S48x1024) ![q, 0] S8x1024.size inb))
      (c2 fun i j => X ⟨q + i.val, by omega⟩ j) := by
  intro i
  have h8 : (i 0).val < 8 := (i 0).isLt
  refine Eq.trans (congrArg x (funext fun a => Fin.ext ?_)) (h (ix2 ⟨q + (i 0).val, by omega⟩ (i 1)))
  match a with
  | 0 => show q + 1 * (i 0).val = q + (i 0).val; omega
  | 1 => show 0 + 1 * (i 1).val = (i 1).val; omega

/-- A store of eight rows. -/
abbrev eight (q : ℕ) (inb : ∀ a, (![q, 0] : Fin 2 → ℕ) a + S8x1024.size a ≤ S48x1024.size a) (w : FVec Ideal S8x1024 .f32) :
    View.Piece (Elt Ideal) S48x1024 .f32 := ⟨Rect.unit (s := S48x1024) ![q, 0] S8x1024.size inb, w⟩

theorem eight_emb (q : ℕ) (inb : ∀ a, (![q, 0] : Fin 2 → ℕ) a + S8x1024.size a ≤ S48x1024.size a) (x : S8x1024.Idx) :
    (((Rect.unit (s := S48x1024) ![q, 0] S8x1024.size inb).emb x 0).val = q + (x 0).val)
      ∧ (((Rect.unit (s := S48x1024) ![q, 0] S8x1024.size inb).emb x 1).val = (x 1).val) := by
  constructor
  · show q + 1 * (x 0).val = _; omega
  · show 0 + 1 * (x 1).val = _; omega

/-- In its rows a store of eight rows is what was stored, -/
theorem canon_hit (q : ℕ) (inb) (w : FVec Ideal S8x1024 .f32) (L : List (View.Piece (Elt Ideal) S48x1024 .f32)) (y : S48x1024.Idx)
    (h : q ≤ (y 0).val) (h' : (y 0).val - q < 8) :
    View.canon (eight q inb w :: L) y = w (ix2 ⟨(y 0).val - q, h'⟩ (y 1)) := by
  have hy : y = (Rect.unit (s := S48x1024) ![q, 0] S8x1024.size inb).emb (ix2 ⟨(y 0).val - q, h'⟩ (y 1)) := by
    have e := eight_emb q inb (ix2 ⟨(y 0).val - q, h'⟩ (y 1))
    funext a
    refine Fin.ext ?_
    match a with
    | 0 => refine Eq.trans ?_ e.1.symm; show (y 0).val = q + ((y 0).val - q); omega
    | 1 => exact e.2.symm
  conv_lhs => rw [hy]
  exact View.canon_cons_emb (Rect.unit (s := S48x1024) ![q, 0] S8x1024.size inb) w L _

/-- off them, what was there. -/
theorem canon_skip (q : ℕ) (inb) (w : FVec Ideal S8x1024 .f32) (L : List (View.Piece (Elt Ideal) S48x1024 .f32)) (y : S48x1024.Idx)
    (h : (y 0).val < q ∨ q + 8 ≤ (y 0).val) : View.canon (eight q inb w :: L) y = View.canon L y := by
  refine View.canon_cons_of_not_mem _ L fun hm => ?_
  have e : q ≤ (y 0).val ∧ (y 0).val < q + 8 := (Rect.mem_set_unit (inb := inb)).1 hm 0
  omega

/-- The rows from `q` on, eight of them, still hold the zeros the first store put there. -/
def Fresh (q : ℕ) (L : List (View.Piece (Elt Ideal) S48x1024 .f32)) : Prop :=
  ∀ y : S48x1024.Idx, (q ≤ (y 0).val ∧ (y 0).val < q + 8 → View.canon L y = ((0 : ℝ) : EReal)) ∧ ∃ p ∈ L, y ∈ p.1.set

theorem fresh_zero (q : ℕ) (inb : ∀ a, (![0, 0] : Fin 2 → ℕ) a + S48x1024.size a ≤ S48x1024.size a) :
    Fresh q [(⟨Rect.unit (s := S48x1024) ![0, 0] S48x1024.size inb, k0_pay3 (F := Ideal)⟩ : View.Piece (Elt Ideal) S48x1024 .f32)] := by
  intro y
  refine ⟨fun _ => ?_, _, List.mem_singleton_self _, ?_⟩
  · rw [View.canon_unit_zero (S := S48x1024) zero2]
    exact t_pay3 y
  · refine (Rect.mem_set_unit (inb := inb)).2 fun a => ⟨?_, ?_⟩
    · match a with
      | 0 => exact Nat.zero_le _
      | 1 => exact Nat.zero_le _
    · match a with
      | 0 => exact (Nat.zero_add 48).symm ▸ (y 0).isLt
      | 1 => exact (Nat.zero_add 1024).symm ▸ (y 1).isLt

theorem fresh_cons (q o : ℕ) (inb) (w : FVec Ideal S8x1024 .f32) {L : List (View.Piece (Elt Ideal) S48x1024 .f32)} (h : Fresh q L)
    (ho : o + 8 ≤ q ∨ q + 8 ≤ o) : Fresh q (eight o inb w :: L) := by
  intro y
  obtain ⟨h1, p, hp, hy⟩ := h y
  refine ⟨fun hq => ?_, p, List.mem_cons_of_mem _ hp, hy⟩
  rw [canon_skip o inb w L y (by omega)]
  exact h1 hq

theorem fresh_read (v : View sig .tc .vmem S48x1024 .f32) (q : ℕ) (hq : q + 8 ≤ 48) (inb) {L : List (View.Piece (Elt Ideal) S48x1024 .f32)} (h : Fresh q L) :
    Re (s := S8x1024) (v.readCov (Val := Elt Ideal) L (Rect.unit (s := S48x1024) ![q, 0] S8x1024.size inb).toLoadRect) (c2 fun _ _ => 0) := by
  rw [View.readCov_eq_canon_ld _ _ _ fun y => (h y).2]
  intro i
  have h8 : (i 0).val < 8 := (i 0).isLt
  refine Eq.trans (congrArg (View.canon L) (funext fun a => Fin.ext ?_))
    ((h (ix2 ⟨q + (i 0).val, by omega⟩ (i 1))).1 ⟨Nat.le_add_right _ _, by show q + (i 0).val < q + 8; omega⟩)
  match a with
  | 0 => show q + 1 * (i 0).val = q + (i 0).val; omega
  | 1 => show 0 + 1 * (i 1).val = (i 1).val; omega

/-- Six arrays of eight rows, one under another. -/
def stack (S : Fin 6 → Mat 8 1024) : Mat 48 1024 :=
  fun i j => S ⟨i.val / 8, by omega⟩ ⟨i.val % 8, by omega⟩ j

/-- The six stores of a point leave the six arrays they stored. -/
theorem re_stack (S : Fin 6 → Mat 8 1024) {w0 w1 w2 w3 w4 w5 : FVec Ideal S8x1024 .f32} (b0 b1 b2 b3 b4 b5)
    (L : List (View.Piece (Elt Ideal) S48x1024 .f32)) (h0 : Re w0 (c2 (S 0))) (h1 : Re w1 (c2 (S 1))) (h2 : Re w2 (c2 (S 2)))
    (h3 : Re w3 (c2 (S 3))) (h4 : Re w4 (c2 (S 4))) (h5 : Re w5 (c2 (S 5))) :
    Re (s := S48x1024) (View.canon (eight 32 b4 w4 :: eight 24 b3 w3 :: eight 16 b2 w2 :: eight 8 b1 w1 :: eight 0 b0 w0 :: eight 40 b5 w5 :: L))
      (c2 (stack S)) := by
  intro y
  have hy : (y 0).val < 48 := (y 0).isLt
  have key : ∀ (k : Fin 6) (w : FVec Ideal S8x1024 .f32) (h : (y 0).val - 8 * k.val < 8) (_ : 8 * k.val ≤ (y 0).val) (_ : Re w (c2 (S k))),
      w (ix2 ⟨(y 0).val - 8 * k.val, h⟩ (y 1)) = ((stack S (y 0) (y 1) : ℝ) : EReal) := by
    intro k w h hk hw
    refine (hw _).trans (congrArg _ ?_)
    have e1 : (⟨(y 0).val / 8, by omega⟩ : Fin 6) = k := Fin.ext (by show (y 0).val / 8 = k.val; omega)
    have e2 : (⟨(y 0).val % 8, by omega⟩ : Fin 8) = ⟨(y 0).val - 8 * k.val, h⟩ := Fin.ext (by show (y 0).val % 8 = (y 0).val - 8 * k.val; omega)
    show S k ⟨(y 0).val - 8 * k.val, h⟩ (y 1) = S ⟨(y 0).val / 8, _⟩ ⟨(y 0).val % 8, _⟩ (y 1)
    rw [e1, e2]
  by_cases c4 : 32 ≤ (y 0).val ∧ (y 0).val < 40
  · rw [canon_hit 32 _ _ _ _ c4.1 (by omega)]; exact key 4 w4 (by show (y 0).val - 8 * 4 < 8; omega) (by show 8 * 4 ≤ _; omega) h4
  rw [canon_skip 32 _ _ _ _ (by omega)]
  by_cases c3 : 24 ≤ (y 0).val ∧ (y 0).val < 32
  · rw [canon_hit 24 _ _ _ _ c3.1 (by omega)]; exact key 3 w3 (by show (y 0).val - 8 * 3 < 8; omega) (by show 8 * 3 ≤ _; omega) h3
  rw [canon_skip 24 _ _ _ _ (by omega)]
  by_cases c2' : 16 ≤ (y 0).val ∧ (y 0).val < 24
  · rw [canon_hit 16 _ _ _ _ c2'.1 (by omega)]; exact key 2 w2 (by show (y 0).val - 8 * 2 < 8; omega) (by show 8 * 2 ≤ _; omega) h2
  rw [canon_skip 16 _ _ _ _ (by omega)]
  by_cases c1 : 8 ≤ (y 0).val ∧ (y 0).val < 16
  · rw [canon_hit 8 _ _ _ _ c1.1 (by omega)]; exact key 1 w1 (by show (y 0).val - 8 * 1 < 8; omega) (by show 8 * 1 ≤ _; omega) h1
  rw [canon_skip 8 _ _ _ _ (by omega)]
  by_cases c0 : (y 0).val < 8
  · rw [canon_hit 0 _ _ _ _ (by omega) (by omega)]; exact key 0 w0 (by show (y 0).val - 8 * 0 < 8; omega) (by show 8 * 0 ≤ _; omega) h0
  rw [canon_skip 0 _ _ _ _ (by omega), canon_hit 40 _ _ _ _ (by omega) (by omega)]
  exact key 5 w5 (by show (y 0).val - 8 * 5 < 8; omega) (by show 8 * 5 ≤ _; omega) h5

theorem reTo {a b : ℕ} {v : (⟨2, ![a, b]⟩ : Shape).Idx → EReal} {r r' : Mat a b} (h : Re v (c2 r)) (e : r = r') : Re v (c2 r') := e ▸ h

/-- The six sums over the tokens: what each token adds to them. -/
def token (X0 X1 : Mat 16384 1024) (X2 : Mat 8 1024) (X3 X4 : Mat 1024 2816) (X5 : Mat 2816 1024) :
    Fin 6 → Mat 16384 1024 :=
  ![q_v71 X0 X1 X2 X3 X4 X5, q_v88 X0 X1 X2 X3 X4 X5, q_v95 X0 X1 X2 X3 X4 X5, q_v96 X0 X1 X2 X3 X4 X5, q_v98 X0 X1 X2 X3 X4 X5, q_v64 X0 X1 X2 X3 X4 X5]

variable {e : Fin 256 → Fin 16384} {X0 X1 : Mat 16384 1024} {X2 : Mat 8 1024}
  {X3 X4 : Mat 1024 2816} {X5 : Mat 2816 1024}

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S48x1024 .f32) (harg13 : arg13.IsWhole)
variable (x0 : Vec Ideal S256x1024 .f32) (x1 : Vec Ideal S256x1024 .f32) (x2 : Vec Ideal S8x1024 .f32) (x3 : Vec Ideal S1024x2816 .bf16) (x4 : Vec Ideal S1024x2816 .bf16) (x5 : Vec Ideal S2816x1024 .bf16)

theorem out_A_6 (hc0 : cond0_0 i)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x1024) (out0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (c2 (blk e (q_v126 X0 X1 X2 X3 X4 X5))) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have v6 := ld_row k2 3 (by norm_num) inb_S8x1024_S1x1024_3_0
  have v7 := ld_row k2 4 (by norm_num) inb_S8x1024_S1x1024_4_0
  have a16 := reTo (t_pay4 k0) (s_r2 e X0)
  have a18 := reTo (t_pay5 k0) (s_xn2 e X0)
  have a27 := reTo (t_pay6 v3 v4 v5 k0) (s_h2 e X0 X2)
  have a30 := reTo (t_pay7 v3 v4 v5 k0 k3) (s_gt e X0 X2 X3)
  have a32 := reTo (t_pay8 a27 k4) (s_up e X0 X2 X4)
  have a39 := reTo (t_pay9 a30) (s_sg e X0 X2 X3)
  have a40 := reTo (t_pay10 a30) (s_sil e X0 X2 X3)
  have a56 := reTo (t_pay14 v6 k0 a27 a30 k4 k5) (s_r3 e X0 X2 X3 X4 X5)
  have a58 := reTo (t_pay15 v6 k0 a27 a30 k4 k5) (s_xn3 e X0 X2 X3 X4 X5)
  have a62 := reTo (t_pay16 v6 v7 k0 a27 a30 k4 k5 k1) (s_e e X0 X1 X2 X3 X4 X5)
  have a92 := reTo (t_pay20 v7 a56 a58 a62) (s_dx2 e X0 X1 X2 X3 X4 X5)
  have a107 := reTo (t_pay24 v6 v7 a40 a56 a58 a62 k5) (s_dup e X0 X1 X2 X3 X4 X5)
  have a108 := reTo (t_pay25 v6 v7 a32 a56 a58 a62 k5) (s_dau e X0 X1 X2 X3 X4 X5)
  have a123 := reTo (t_pay27 a30 a39 a107 a108 k3 k4) (s_dh2 e X0 X1 X2 X3 X4 X5)
  have a2 := reTo (t_pay2 v3 v5 a16 a18 a92 a123) (s_dx1 e X0 X1 X2 X3 X4 X5)
  exact a2

theorem out_B_6 (hc0 : ¬cond0_0 i) (xo12 : Vec Ideal S48x1024 .f32)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x1024) (out0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12) (c2 (blk e (q_v126 X0 X1 X2 X3 X4 X5))) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have v6 := ld_row k2 3 (by norm_num) inb_S8x1024_S1x1024_3_0
  have v7 := ld_row k2 4 (by norm_num) inb_S8x1024_S1x1024_4_0
  have a16 := reTo (t_pay4 k0) (s_r2 e X0)
  have a18 := reTo (t_pay5 k0) (s_xn2 e X0)
  have a27 := reTo (t_pay6 v3 v4 v5 k0) (s_h2 e X0 X2)
  have a30 := reTo (t_pay7 v3 v4 v5 k0 k3) (s_gt e X0 X2 X3)
  have a32 := reTo (t_pay8 a27 k4) (s_up e X0 X2 X4)
  have a39 := reTo (t_pay9 a30) (s_sg e X0 X2 X3)
  have a40 := reTo (t_pay10 a30) (s_sil e X0 X2 X3)
  have a56 := reTo (t_pay14 v6 k0 a27 a30 k4 k5) (s_r3 e X0 X2 X3 X4 X5)
  have a58 := reTo (t_pay15 v6 k0 a27 a30 k4 k5) (s_xn3 e X0 X2 X3 X4 X5)
  have a62 := reTo (t_pay16 v6 v7 k0 a27 a30 k4 k5 k1) (s_e e X0 X1 X2 X3 X4 X5)
  have a92 := reTo (t_pay20 v7 a56 a58 a62) (s_dx2 e X0 X1 X2 X3 X4 X5)
  have a107 := reTo (t_pay24 v6 v7 a40 a56 a58 a62 k5) (s_dup e X0 X1 X2 X3 X4 X5)
  have a108 := reTo (t_pay25 v6 v7 a32 a56 a58 a62 k5) (s_dau e X0 X1 X2 X3 X4 X5)
  have a123 := reTo (t_pay27 a30 a39 a107 a108 k3 k4) (s_dh2 e X0 X1 X2 X3 X4 X5)
  have a2 := reTo (t_pay2 v3 v5 a16 a18 a92 a123) (s_dx1 e X0 X1 X2 X3 X4 X5)
  exact a2

theorem out_A_7 (hc0 : cond0_0 i)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x1024) (out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (c2 (blk e (q_v35 X0 X2))) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have a27 := reTo (t_pay6 v3 v4 v5 k0) (s_h2 e X0 X2)
  exact a27

theorem out_B_7 (hc0 : ¬cond0_0 i) (xo12 : Vec Ideal S48x1024 .f32)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x1024) (out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12) (c2 (blk e (q_v35 X0 X2))) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have a27 := reTo (t_pay6 v3 v4 v5 k0) (s_h2 e X0 X2)
  exact a27

theorem out_A_8 (hc0 : cond0_0 i)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x2816) (out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (c2 (blk e (q_v39 X0 X2 X3 X4))) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have a27 := reTo (t_pay6 v3 v4 v5 k0) (s_h2 e X0 X2)
  have a30 := reTo (t_pay7 v3 v4 v5 k0 k3) (s_gt e X0 X2 X3)
  have a11 := reTo (t_pay11 a27 a30 k4) (s_act e X0 X2 X3 X4)
  exact a11

theorem out_B_8 (hc0 : ¬cond0_0 i) (xo12 : Vec Ideal S48x1024 .f32)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x2816) (out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12) (c2 (blk e (q_v39 X0 X2 X3 X4))) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have a27 := reTo (t_pay6 v3 v4 v5 k0) (s_h2 e X0 X2)
  have a30 := reTo (t_pay7 v3 v4 v5 k0 k3) (s_gt e X0 X2 X3)
  have a11 := reTo (t_pay11 a27 a30 k4) (s_act e X0 X2 X3 X4)
  exact a11

theorem out_A_9 (hc0 : cond0_0 i)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x2816) (out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (c2 (blk e (q_v92 X0 X1 X2 X3 X4 X5))) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have v6 := ld_row k2 3 (by norm_num) inb_S8x1024_S1x1024_3_0
  have v7 := ld_row k2 4 (by norm_num) inb_S8x1024_S1x1024_4_0
  have a27 := reTo (t_pay6 v3 v4 v5 k0) (s_h2 e X0 X2)
  have a30 := reTo (t_pay7 v3 v4 v5 k0 k3) (s_gt e X0 X2 X3)
  have a32 := reTo (t_pay8 a27 k4) (s_up e X0 X2 X4)
  have a39 := reTo (t_pay9 a30) (s_sg e X0 X2 X3)
  have a56 := reTo (t_pay14 v6 k0 a27 a30 k4 k5) (s_r3 e X0 X2 X3 X4 X5)
  have a58 := reTo (t_pay15 v6 k0 a27 a30 k4 k5) (s_xn3 e X0 X2 X3 X4 X5)
  have a62 := reTo (t_pay16 v6 v7 k0 a27 a30 k4 k5 k1) (s_e e X0 X1 X2 X3 X4 X5)
  have a108 := reTo (t_pay25 v6 v7 a32 a56 a58 a62 k5) (s_dau e X0 X1 X2 X3 X4 X5)
  have a26 := reTo (t_pay26 a30 a39 a108) (s_dgt e X0 X1 X2 X3 X4 X5)
  exact a26

theorem out_B_9 (hc0 : ¬cond0_0 i) (xo12 : Vec Ideal S48x1024 .f32)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x2816) (out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12) (c2 (blk e (q_v92 X0 X1 X2 X3 X4 X5))) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have v6 := ld_row k2 3 (by norm_num) inb_S8x1024_S1x1024_3_0
  have v7 := ld_row k2 4 (by norm_num) inb_S8x1024_S1x1024_4_0
  have a27 := reTo (t_pay6 v3 v4 v5 k0) (s_h2 e X0 X2)
  have a30 := reTo (t_pay7 v3 v4 v5 k0 k3) (s_gt e X0 X2 X3)
  have a32 := reTo (t_pay8 a27 k4) (s_up e X0 X2 X4)
  have a39 := reTo (t_pay9 a30) (s_sg e X0 X2 X3)
  have a56 := reTo (t_pay14 v6 k0 a27 a30 k4 k5) (s_r3 e X0 X2 X3 X4 X5)
  have a58 := reTo (t_pay15 v6 k0 a27 a30 k4 k5) (s_xn3 e X0 X2 X3 X4 X5)
  have a62 := reTo (t_pay16 v6 v7 k0 a27 a30 k4 k5 k1) (s_e e X0 X1 X2 X3 X4 X5)
  have a108 := reTo (t_pay25 v6 v7 a32 a56 a58 a62 k5) (s_dau e X0 X1 X2 X3 X4 X5)
  have a26 := reTo (t_pay26 a30 a39 a108) (s_dgt e X0 X1 X2 X3 X4 X5)
  exact a26

theorem out_A_10 (hc0 : cond0_0 i)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x2816) (out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (c2 (blk e (q_v90 X0 X1 X2 X3 X4 X5))) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have v6 := ld_row k2 3 (by norm_num) inb_S8x1024_S1x1024_3_0
  have v7 := ld_row k2 4 (by norm_num) inb_S8x1024_S1x1024_4_0
  have a27 := reTo (t_pay6 v3 v4 v5 k0) (s_h2 e X0 X2)
  have a30 := reTo (t_pay7 v3 v4 v5 k0 k3) (s_gt e X0 X2 X3)
  have a40 := reTo (t_pay10 a30) (s_sil e X0 X2 X3)
  have a56 := reTo (t_pay14 v6 k0 a27 a30 k4 k5) (s_r3 e X0 X2 X3 X4 X5)
  have a58 := reTo (t_pay15 v6 k0 a27 a30 k4 k5) (s_xn3 e X0 X2 X3 X4 X5)
  have a62 := reTo (t_pay16 v6 v7 k0 a27 a30 k4 k5 k1) (s_e e X0 X1 X2 X3 X4 X5)
  have a107 := reTo (t_pay24 v6 v7 a40 a56 a58 a62 k5) (s_dup e X0 X1 X2 X3 X4 X5)
  exact a107

theorem out_B_10 (hc0 : ¬cond0_0 i) (xo12 : Vec Ideal S48x1024 .f32)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x2816) (out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12) (c2 (blk e (q_v90 X0 X1 X2 X3 X4 X5))) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have v6 := ld_row k2 3 (by norm_num) inb_S8x1024_S1x1024_3_0
  have v7 := ld_row k2 4 (by norm_num) inb_S8x1024_S1x1024_4_0
  have a27 := reTo (t_pay6 v3 v4 v5 k0) (s_h2 e X0 X2)
  have a30 := reTo (t_pay7 v3 v4 v5 k0 k3) (s_gt e X0 X2 X3)
  have a40 := reTo (t_pay10 a30) (s_sil e X0 X2 X3)
  have a56 := reTo (t_pay14 v6 k0 a27 a30 k4 k5) (s_r3 e X0 X2 X3 X4 X5)
  have a58 := reTo (t_pay15 v6 k0 a27 a30 k4 k5) (s_xn3 e X0 X2 X3 X4 X5)
  have a62 := reTo (t_pay16 v6 v7 k0 a27 a30 k4 k5 k1) (s_e e X0 X1 X2 X3 X4 X5)
  have a107 := reTo (t_pay24 v6 v7 a40 a56 a58 a62 k5) (s_dup e X0 X1 X2 X3 X4 X5)
  exact a107

theorem out_A_11 (hc0 : cond0_0 i)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x1024) (out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (c2 (blk e (q_v87 X0 X1 X2 X3 X4 X5))) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have v6 := ld_row k2 3 (by norm_num) inb_S8x1024_S1x1024_3_0
  have v7 := ld_row k2 4 (by norm_num) inb_S8x1024_S1x1024_4_0
  have a27 := reTo (t_pay6 v3 v4 v5 k0) (s_h2 e X0 X2)
  have a30 := reTo (t_pay7 v3 v4 v5 k0 k3) (s_gt e X0 X2 X3)
  have a56 := reTo (t_pay14 v6 k0 a27 a30 k4 k5) (s_r3 e X0 X2 X3 X4 X5)
  have a58 := reTo (t_pay15 v6 k0 a27 a30 k4 k5) (s_xn3 e X0 X2 X3 X4 X5)
  have a62 := reTo (t_pay16 v6 v7 k0 a27 a30 k4 k5 k1) (s_e e X0 X1 X2 X3 X4 X5)
  have a22 := reTo (t_pay22 v6 v7 a56 a58 a62) (s_dy2 e X0 X1 X2 X3 X4 X5)
  exact a22

theorem out_B_11 (hc0 : ¬cond0_0 i) (xo12 : Vec Ideal S48x1024 .f32)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S256x1024) (out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12) (c2 (blk e (q_v87 X0 X1 X2 X3 X4 X5))) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  try sl_unfold_words
  rw [View.canon_unit_zero zero2]
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have v6 := ld_row k2 3 (by norm_num) inb_S8x1024_S1x1024_3_0
  have v7 := ld_row k2 4 (by norm_num) inb_S8x1024_S1x1024_4_0
  have a27 := reTo (t_pay6 v3 v4 v5 k0) (s_h2 e X0 X2)
  have a30 := reTo (t_pay7 v3 v4 v5 k0 k3) (s_gt e X0 X2 X3)
  have a56 := reTo (t_pay14 v6 k0 a27 a30 k4 k5) (s_r3 e X0 X2 X3 X4 X5)
  have a58 := reTo (t_pay15 v6 k0 a27 a30 k4 k5) (s_xn3 e X0 X2 X3 X4 X5)
  have a62 := reTo (t_pay16 v6 v7 k0 a27 a30 k4 k5 k1) (s_e e X0 X1 X2 X3 X4 X5)
  have a22 := reTo (t_pay22 v6 v7 a56 a58 a62) (s_dy2 e X0 X1 X2 X3 X4 X5)
  exact a22

theorem out_A_12 (hc0 : cond0_0 i)
    (k0 : Re x0 (c2 (blk e X0))) (k1 : Re x1 (c2 (blk e X1))) (k2 : Re x2 (c2 X2)) (k3 : Re x3 (c2 X3)) (k4 : Re x4 (c2 X4)) (k5 : Re x5 (c2 X5)) :
    Re (s := S48x1024) (out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5) (c2 (stack fun k i j => 0 + part e (token X0 X1 X2 X3 X4 X5 k) i j)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  try sl_unfold_words
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have v6 := ld_row k2 3 (by norm_num) inb_S8x1024_S1x1024_3_0
  have v7 := ld_row k2 4 (by norm_num) inb_S8x1024_S1x1024_4_0
  have a18 := reTo (t_pay5 k0) (s_xn2 e X0)
  have a27 := reTo (t_pay6 v3 v4 v5 k0) (s_h2 e X0 X2)
  have a30 := reTo (t_pay7 v3 v4 v5 k0 k3) (s_gt e X0 X2 X3)
  have a32 := reTo (t_pay8 a27 k4) (s_up e X0 X2 X4)
  have a39 := reTo (t_pay9 a30) (s_sg e X0 X2 X3)
  have a40 := reTo (t_pay10 a30) (s_sil e X0 X2 X3)
  have a45 := reTo (t_pay12 a27 a30 k4 k5) (s_y2 e X0 X2 X3 X4 X5)
  have a56 := reTo (t_pay14 v6 k0 a27 a30 k4 k5) (s_r3 e X0 X2 X3 X4 X5)
  have a58 := reTo (t_pay15 v6 k0 a27 a30 k4 k5) (s_xn3 e X0 X2 X3 X4 X5)
  have a62 := reTo (t_pay16 v6 v7 k0 a27 a30 k4 k5 k1) (s_e e X0 X1 X2 X3 X4 X5)
  have a107 := reTo (t_pay24 v6 v7 a40 a56 a58 a62 k5) (s_dup e X0 X1 X2 X3 X4 X5)
  have a108 := reTo (t_pay25 v6 v7 a32 a56 a58 a62 k5) (s_dau e X0 X1 X2 X3 X4 X5)
  have a130 := reTo (t_pay29 a18 a30 a39 a107 a108 k3 k4) (s_t e X0 X1 X2 X3 X4 X5)
  exact re_stack (fun k i j => 0 + part e (token X0 X1 X2 X3 X4 X5 k) i j) _ _ _ _ _ _ _
    (reTo (t_pay19 a58 a62 (fresh_read _ 0 (by norm_num) _ (fresh_cons _ 40 _ _ (fresh_zero _ _) (by norm_num)))) (s_dfg e X0 X1 X2 X3 X4 X5 _))
    (reTo (t_pay21 v7 a45 a56 a58 a62 (fresh_read _ 8 (by norm_num) _ (fresh_cons _ 0 _ _ (fresh_cons _ 40 _ _ (fresh_zero _ _) (by norm_num)) (by norm_num)))) (s_dg2 e X0 X1 X2 X3 X4 X5 _))
    (reTo (t_pay28 a30 a39 a107 a108 k3 k4 (fresh_read _ 16 (by norm_num) _ (fresh_cons _ 8 _ _ (fresh_cons _ 0 _ _ (fresh_cons _ 40 _ _ (fresh_zero _ _) (by norm_num)) (by norm_num)) (by norm_num)))) (s_dsh2 e X0 X1 X2 X3 X4 X5 _))
    (reTo (t_pay30 v3 a18 a30 a39 a107 a108 k3 k4 (fresh_read _ 24 (by norm_num) _ (fresh_cons _ 16 _ _ (fresh_cons _ 8 _ _ (fresh_cons _ 0 _ _ (fresh_cons _ 40 _ _ (fresh_zero _ _) (by norm_num)) (by norm_num)) (by norm_num)) (by norm_num)))) (s_dsc2 e X0 X1 X2 X3 X4 X5 _))
    (reTo (t_pay1 v5 a130 (t_pay31 (fresh_read _ 32 (by norm_num) _ (fresh_cons _ 24 _ _ (fresh_cons _ 16 _ _ (fresh_cons _ 8 _ _ (fresh_cons _ 0 _ _ (fresh_cons _ 40 _ _ (fresh_zero _ _) (by norm_num)) (by norm_num)) (by norm_num)) (by norm_num)) (by norm_num))))) (s_dn2g e X0 X1 X2 X3 X4 X5 _))
    (reTo (t_pay17 v6 v7 k0 a27 a30 k4 k5 k1 (fresh_read _ 40 (by norm_num) _ (fresh_zero _ _))) (s_loss e X0 X1 X2 X3 X4 X5 _))

theorem out_B_12 (hc0 : ¬cond0_0 i) (xo12 : Vec Ideal S48x1024 .f32)
    (k0 : Re x0 (c2 (blk e X0))) (k1 : Re x1 (c2 (blk e X1))) (k2 : Re x2 (c2 X2)) (k3 : Re x3 (c2 X3)) (k4 : Re x4 (c2 X4)) (k5 : Re x5 (c2 X5)) {XO : Mat 48 1024} (ko : Re xo12 (c2 XO)) :
    Re (s := S48x1024) (out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12) (c2 (stack fun k i j => XO ⟨8 * k.val + i.val, by omega⟩ j + part e (token X0 X1 X2 X3 X4 X5 k) i j)) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo12)]
  unfold kernelRun0_B
  dsimp only
  try sl_unfold_words
  simp only [View.readAt_eq_ld, Memref.IsWhole.read_unread, View.ld_unit_zero (S := S256x1024) zero2, View.ld_unit_zero (S := S1024x2816) zero2, View.ld_unit_zero (S := S2816x1024) zero2, View.ld_unit_zero (S := S256x2816) zero2]
  have v3 := ld_row k2 0 (by norm_num) inb_S8x1024_S1x1024_0_0
  have v4 := ld_row k2 1 (by norm_num) inb_S8x1024_S1x1024_1_0
  have v5 := ld_row k2 2 (by norm_num) inb_S8x1024_S1x1024_2_0
  have v6 := ld_row k2 3 (by norm_num) inb_S8x1024_S1x1024_3_0
  have v7 := ld_row k2 4 (by norm_num) inb_S8x1024_S1x1024_4_0
  have a18 := reTo (t_pay5 k0) (s_xn2 e X0)
  have a27 := reTo (t_pay6 v3 v4 v5 k0) (s_h2 e X0 X2)
  have a30 := reTo (t_pay7 v3 v4 v5 k0 k3) (s_gt e X0 X2 X3)
  have a32 := reTo (t_pay8 a27 k4) (s_up e X0 X2 X4)
  have a39 := reTo (t_pay9 a30) (s_sg e X0 X2 X3)
  have a40 := reTo (t_pay10 a30) (s_sil e X0 X2 X3)
  have a45 := reTo (t_pay12 a27 a30 k4 k5) (s_y2 e X0 X2 X3 X4 X5)
  have a56 := reTo (t_pay14 v6 k0 a27 a30 k4 k5) (s_r3 e X0 X2 X3 X4 X5)
  have a58 := reTo (t_pay15 v6 k0 a27 a30 k4 k5) (s_xn3 e X0 X2 X3 X4 X5)
  have a62 := reTo (t_pay16 v6 v7 k0 a27 a30 k4 k5 k1) (s_e e X0 X1 X2 X3 X4 X5)
  have a107 := reTo (t_pay24 v6 v7 a40 a56 a58 a62 k5) (s_dup e X0 X1 X2 X3 X4 X5)
  have a108 := reTo (t_pay25 v6 v7 a32 a56 a58 a62 k5) (s_dau e X0 X1 X2 X3 X4 X5)
  have a130 := reTo (t_pay29 a18 a30 a39 a107 a108 k3 k4) (s_t e X0 X1 X2 X3 X4 X5)
  exact re_stack (fun k i j => XO ⟨8 * k.val + i.val, by omega⟩ j + part e (token X0 X1 X2 X3 X4 X5 k) i j) _ _ _ _ _ _ _
    (reTo (t_pay19 a58 a62 (ld_eight ko 0 (by norm_num) inb_S48x1024_S8x1024_0_0)) (s_dfg e X0 X1 X2 X3 X4 X5 _))
    (reTo (t_pay21 v7 a45 a56 a58 a62 (ld_eight ko 8 (by norm_num) inb_S48x1024_S8x1024_8_0)) (s_dg2 e X0 X1 X2 X3 X4 X5 _))
    (reTo (t_pay28 a30 a39 a107 a108 k3 k4 (ld_eight ko 16 (by norm_num) inb_S48x1024_S8x1024_16_0)) (s_dsh2 e X0 X1 X2 X3 X4 X5 _))
    (reTo (t_pay30 v3 a18 a30 a39 a107 a108 k3 k4 (ld_eight ko 24 (by norm_num) inb_S48x1024_S8x1024_24_0)) (s_dsc2 e X0 X1 X2 X3 X4 X5 _))
    (reTo (t_pay1 v5 a130 (t_pay31 (ld_eight ko 32 (by norm_num) inb_S48x1024_S8x1024_32_0))) (s_dn2g e X0 X1 X2 X3 X4 X5 _))
    (reTo (t_pay17 v6 v7 k0 a27 a30 k4 k5 k1 (ld_eight ko 40 (by norm_num) inb_S48x1024_S8x1024_40_0)) (s_loss e X0 X1 X2 X3 X4 X5 _))

end Cert.FfnIdeal.Block
-- ==== Proof.Heads.lean ====
/-
  Arrays of reals whose 512 columns are four heads of 128: splitting and joining the columns, sums over one head, a
  head's slice, and what a store into one head's columns leaves.
-/
module

public import proofs.«01_k».proof.Proof.Reals
public import Idealize.ShloMosaic.Lib.Pipeline.ValueKit

@[expose] public section

noncomputable section

namespace Cert.Reals

open Idealize.ShloMosaic Idealize.ShloMosaic.ValueIdx Idealize.SL.Sem

theorem w_128 : Ideal.ofBits .f32 0x43000000#32 = ((128 : ℝ) : EReal) := by
  simp [Ideal.ofBits, Ideal.ieee, -EReal.coe_mul]; norm_num

theorem reTo {a b : ℕ} {v : (⟨2, ![a, b]⟩ : Shape).Idx → EReal} {r r' : Mat a b} (h : Re v (c2 r)) (e : ∀ i j, r i j = r' i j) :
    Re v (c2 r') := fun i => (h i).trans (congrArg _ (e (i 0) (i 1)))
theorem reTo3 {a b c : ℕ} {v : (⟨3, ![a, b, c]⟩ : Shape).Idx → EReal} {r r' : Fin a → Mat b c} (h : Re v (c3 r))
    (e : ∀ i j k, r i j k = r' i j k) : Re v (c3 r') := fun i => (h i).trans (congrArg _ (e (i 0) (i 1) (i 2)))

/-- Column `l` of head `h`; the head of a column, and its place in the head. -/
def hd (h : Fin 4) (l : Fin 128) : Fin 512 := ⟨128 * h.val + l.val, by omega⟩
def hq (c : Fin 512) : Fin 4 := ⟨c.val / 128, by omega⟩
def hr (c : Fin 512) : Fin 128 := ⟨c.val % 128, by omega⟩
theorem hd_hq (c : Fin 512) : hd (hq c) (hr c) = c := Fin.ext (by show 128 * (c.val / 128) + c.val % 128 = c.val; omega)

/-- The array of four heads, as columns. -/
def cat4 {n : ℕ} (f : Fin n → Mat 4 128) : Mat n 512 := fun i c => f i (hq c) (hr c)
theorem cat4_hd {n : ℕ} (f : Fin n → Mat 4 128) (i : Fin n) (h : Fin 4) (l : Fin 128) : cat4 f i (hd h l) = f i h l := by
  have e1 : hq (hd h l) = h := Fin.ext (by show (128 * h.val + l.val) / 128 = h.val; omega)
  have e2 : hr (hd h l) = l := Fin.ext (by show (128 * h.val + l.val) % 128 = l.val; omega)
  unfold cat4
  rw [e1, e2]

section
variable {n m k p : ℕ} {φ : FTy}

/-- The columns from `q` on. -/
theorem cslice {v : (⟨2, ![n, m]⟩ : Shape).Idx → EReal} {f : Mat n m} {q : ℕ} (σ : Fin p → Fin m) (hσ : ∀ l, (σ l).val = q + l.val)
    (h : (⟨2, ![n, m]⟩ : Shape).Slices ![0, q] ⟨2, ![n, p]⟩) (hv : Re v (c2 f)) :
    Re (extractStridedSlice (⟨2, ![n, p]⟩ : Shape) ![0, q] v h) (c2 fun i l => f i (σ l)) :=
  of_entry hv fun i => ⟨ValueIdx.ix2 (i 0) (σ (i 1)), extractStridedSlice_apply _ v h i _ fun a => by
    match a with
    | ⟨0, _⟩ => exact (Nat.zero_add _).symm
    | ⟨1, _⟩ => exact hσ (i 1), rfl⟩
theorem split {v : (⟨2, ![n, 512]⟩ : Shape).Idx → EReal} {f : Mat n 512} (h : (⟨2, ![n, 512]⟩ : Shape).ShapeCasts ⟨3, ![n, 4, 128]⟩)
    (hv : Re v (c2 f)) : Re (shapeCast (⟨3, ![n, 4, 128]⟩ : Shape) v h) (c3 fun i a l => f i (hd a l)) :=
  of_entry hv fun i => ⟨ValueIdx.ix2 (i 0) (hd (i 1) (i 2)), shapeCast_apply v h i _ (by
    rw [Shape.rowMajor_val_two, Shape.rowMajor_val_three]
    show (i 0).val * 512 + (128 * (i 1).val + (i 2).val) = ((i 0).val * 4 + (i 1).val) * 128 + (i 2).val
    omega), rfl⟩
theorem join {v : (⟨3, ![n, 4, 128]⟩ : Shape).Idx → EReal} {f : Fin n → Mat 4 128} (h : (⟨3, ![n, 4, 128]⟩ : Shape).ShapeCasts ⟨2, ![n, 512]⟩)
    (hv : Re v (c3 f)) : Re (shapeCast (⟨2, ![n, 512]⟩ : Shape) v h) (c2 (cat4 f)) :=
  of_entry hv fun i => ⟨ValueIdx.ix3 (i 0) (hq (i 1)) (hr (i 1)), shapeCast_apply v h i _ (by
    rw [Shape.rowMajor_val_two, Shape.rowMajor_val_three]
    show ((i 0).val * 4 + (i 1).val / 128) * 128 + (i 1).val % 128 = (i 0).val * 512 + (i 1).val
    omega), rfl⟩
/-- The sum over the last axis (host). -/
theorem hlastSum {v : FVec Ideal (⟨3, ![n, m, k]⟩ : Shape) φ} {f : Fin n → Mat m k} {z : FVec Ideal (⟨0, ![]⟩ : Shape) φ}
    (h' : (⟨3, ![n, m, k]⟩ : Shape).ReducesTo [2] ⟨2, ![n, m]⟩) (h : (⟨3, ![n, m, k]⟩ : Shape).Reduces [2] ⟨2, ![n, m]⟩)
    (h0 : 0 < (⟨0, ![]⟩ : Shape).numel) (hv : Re v (c3 f)) (hz : Re z (c0 0)) :
    Re (s := ⟨2, ![n, m]⟩) (Host.reduceAdd v z h' h0) (c2 fun i j => ∑ l, f i j l) := fun i => by
  refine (Ideal.hostReduceAdd_single h' h v _ i).trans ?_
  refine (congrArg (· + _) (hz _)).trans ?_
  refine (congrArg (_ + ·) (Eq.trans ?_ (coe_sum (fun a => f (i 0) (i 1) a)))).trans (by rw [← EReal.coe_add, zero_add])
  exact Finset.sum_congr rfl fun j _ => hv _
/-- A last axis added, `k` times the same (host). -/
theorem hthird {v : (⟨2, ![n, m]⟩ : Shape).Idx → EReal} {f : Mat n m} (h : (⟨2, ![n, m]⟩ : Shape).BroadcastsInDim ⟨3, ![n, m, k]⟩ ![0, 1])
    (hv : Re v (c2 f)) : Re (broadcastInDim (⟨3, ![n, m, k]⟩ : Shape) ![0, 1] h v) (c3 fun i j _ => f i j) :=
  of_entry hv fun i => ⟨ValueIdx.ix2 (i 0) (i 1), broadcastInDim_apply _ h v i _ fun a => by
    match a with
    | ⟨0, _⟩ =>
      show (i 0).val = if n = 1 then 0 else (i 0).val
      have : (i 0).val < n := (i 0).isLt
      split <;> omega
    | ⟨1, _⟩ =>
      show (i 1).val = if m = 1 then 0 else (i 1).val
      have : (i 1).val < m := (i 1).isLt
      split <;> omega, rfl⟩
theorem hfill {v : (⟨3, ![n, m, 1]⟩ : Shape).Idx → EReal} {f : Fin n → Mat m 1}
    (h : (⟨3, ![n, m, 1]⟩ : Shape).BroadcastsInDim ⟨3, ![n, m, k]⟩ ![0, 1, 2]) (hv : Re v (c3 f)) :
    Re (broadcastInDim (⟨3, ![n, m, k]⟩ : Shape) ![0, 1, 2] h v) (c3 fun i j _ => f i j 0) :=
  of_entry hv fun i => ⟨ValueIdx.ix3 (i 0) (i 1) 0, broadcastInDim_apply _ h v i _ fun a => by
    match a with
    | ⟨0, _⟩ =>
      show (i 0).val = if n = 1 then 0 else (i 0).val
      have : (i 0).val < n := (i 0).isLt
      split <;> omega
    | ⟨1, _⟩ =>
      show (i 1).val = if m = 1 then 0 else (i 1).val
      have : (i 1).val < m := (i 1).isLt
      split <;> omega
    | ⟨2, _⟩ => rfl, rfl⟩
theorem addAxis {v : (⟨2, ![n, m]⟩ : Shape).Idx → EReal} {f : Mat n m} (h : (⟨2, ![n, m]⟩ : Shape).ShapeCasts ⟨3, ![n, m, 1]⟩)
    (hv : Re v (c2 f)) : Re (shapeCast (⟨3, ![n, m, 1]⟩ : Shape) v h) (c3 fun i j _ => f i j) :=
  of_entry hv fun i => ⟨ValueIdx.ix2 (i 0) (i 1), shapeCast_apply v h i _ (by
    rw [Shape.rowMajor_val_two, Shape.rowMajor_val_three]
    show (i 0).val * m + (i 1).val = ((i 0).val * m + (i 1).val) * 1 + (i 2).val
    have : (i 2).val < 1 := (i 2).isLt
    omega), rfl⟩

/-- The mean square of a head, and its root's inverse. -/
def ms (f : Fin 128 → ℝ) : ℝ := (∑ l, f l * f l) / 128 + eps
def rs (f : Fin 128 → ℝ) : ℝ := (Real.sqrt (ms f))⁻¹
theorem ms_pos (f : Fin 128 → ℝ) : 0 < ms f := by
  have : 0 ≤ ∑ l, f l * f l := Finset.sum_nonneg fun j _ => mul_self_nonneg _
  have := eps_pos
  unfold ms
  positivity
theorem rs_div (f : Fin 128 → ℝ) : rs f / ms f = rs f * (rs f * rs f) := by
  have h := ms_pos f
  have hs : Real.sqrt (ms f) * Real.sqrt (ms f) = ms f := Real.mul_self_sqrt h.le
  have h0 : Real.sqrt (ms f) ≠ 0 := (Real.sqrt_pos.2 h).ne'
  unfold rs
  rw [← mul_inv, hs, div_eq_mul_inv]

/-- The sum of each row over 128 (kernel). -/
theorem kmean {x : FVec Ideal (⟨2, ![n, 128]⟩ : Shape) .f32} {f : Mat n 128} (h : (⟨2, ![n, 128]⟩ : Shape).Reduces [1] ⟨1, ![n]⟩)
    (hc : (⟨1, ![n]⟩ : Shape).ShapeCasts ⟨2, ![n, 1]⟩) (hx : Re x (c2 f)) :
    Re (s := ⟨2, ![n, 1]⟩) (divf (shapeCast (⟨2, ![n, 1]⟩ : Shape) (multiReduction .add [1] (⟨1, ![n]⟩ : Shape) x 0x00000000#32 h (.inl rfl) rfl) hc)
      (broadcast (⟨2, ![n, 1]⟩ : Shape) (Scalar.ofBits (F := Ideal) .f32 0x43000000#32))) (c2 fun i _ => (∑ l, f i l) / 128) :=
  div (column _ (rowSum _ _ _ hx)) (splat w_128) fun _ => by norm_num
theorem kroot {x : FVec Ideal (⟨2, ![n, 128]⟩ : Shape) .f32} {f : Mat n 128} (h : (⟨2, ![n, 128]⟩ : Shape).Reduces [1] ⟨1, ![n]⟩)
    (hc : (⟨1, ![n]⟩ : Shape).ShapeCasts ⟨2, ![n, 1]⟩) (hx : Re x (c2 f)) :
    Re (s := ⟨2, ![n, 1]⟩) (Idealize.ShloMosaic.rsqrt (addf (divf (shapeCast (⟨2, ![n, 1]⟩ : Shape) (multiReduction .add [1] (⟨1, ![n]⟩ : Shape) (mulf x x) 0x00000000#32 h (.inl rfl) rfl) hc)
      (broadcast (⟨2, ![n, 1]⟩ : Shape) (Scalar.ofBits (F := Ideal) .f32 0x43000000#32)))
      (broadcast (⟨2, ![n, 1]⟩ : Shape) (Scalar.ofBits (F := Ideal) .f32 0x358637BD#32)))) (c2 fun i _ => rs (f i)) :=
  rsqrt (add (kmean (f := fun i l => f i l * f i l) h hc (mul hx hx)) (splat w_eps)) fun i => ms_pos (f (i 0))
/-- Rows regrouped eight by eight and added to what was there (kernel). -/
theorem kacc {b : ℕ} (hb : b * 8 = n) {a : FVec Ideal (⟨2, ![8, m]⟩ : Shape) .f32} {x : FVec Ideal (⟨2, ![n, m]⟩ : Shape) .f32} {r : Mat 8 m} {f : Mat n m}
    (hs : (⟨2, ![8, m]⟩ : Shape).ShapeCasts ⟨2, ![8, m]⟩) (hc : (⟨2, ![n, m]⟩ : Shape).ShapeCasts ⟨3, ![b, 8, m]⟩)
    (h : (⟨3, ![b, 8, m]⟩ : Shape).Reduces [0] ⟨2, ![8, m]⟩) (ha : Re a (c2 r)) (hx : Re x (c2 f)) :
    Re (s := ⟨2, ![8, m]⟩) (addf (shapeCast (⟨2, ![8, m]⟩ : Shape) a hs)
      (multiReduction .add [0] (⟨2, ![8, m]⟩ : Shape) (shapeCast (⟨3, ![b, 8, m]⟩ : Shape) x hc) 0x00000000#32 h (.inl rfl) rfl))
      (c2 fun i j => r i j + ∑ k : Fin b, f ⟨8 * k.val + i.val, by omega⟩ j) :=
  add (sameShape _ ha) (headSum _ _ _ (eights hb _ hx))
end

/-! Stores into the columns of one head. -/

section
variable {n : ℕ} {e : EltTy}

abbrev colOk (n q : ℕ) : Prop := ∀ a, (![0, q] : Fin 2 → ℕ) a + (⟨2, ![n, 128]⟩ : Shape).size a ≤ (⟨2, ![n, 512]⟩ : Shape).size a

abbrev colR (n q : ℕ) (inb : colOk n q) : Rect (⟨2, ![n, 512]⟩ : Shape) := Rect.unit (s := ⟨2, ![n, 512]⟩) ![0, q] (⟨2, ![n, 128]⟩ : Shape).size inb

/-- A store of one head's columns. -/
abbrev colP (q : ℕ) (inb : colOk n q) (w : (⟨2, ![n, 128]⟩ : Shape).Idx → Elt Ideal e) : View.Piece (Elt Ideal) (⟨2, ![n, 512]⟩ : Shape) e := ⟨colR n q inb, w⟩

theorem col_hit (q : ℕ) (inb : colOk n q) (w : (⟨2, ![n, 128]⟩ : Shape).Idx → Elt Ideal e) (L : List (View.Piece (Elt Ideal) (⟨2, ![n, 512]⟩ : Shape) e))
    (y : (⟨2, ![n, 512]⟩ : Shape).Idx) (h : q ≤ (y 1).val) (h' : (y 1).val - q < 128) :
    View.canon (colP q inb w :: L) y = w (ValueIdx.ix2 (y 0) ⟨(y 1).val - q, h'⟩) := by
  have hy : y = (colR n q inb).emb (ValueIdx.ix2 (y 0) ⟨(y 1).val - q, h'⟩) := by
    funext a
    refine Fin.ext ?_
    match a with
    | 0 => show (y 0).val = 0 + 1 * (y 0).val; omega
    | 1 => show (y 1).val = q + 1 * ((y 1).val - q); omega
  conv_lhs => rw [hy]
  exact View.canon_cons_emb (colR n q inb) w L _

theorem col_skip (q : ℕ) (inb : colOk n q) (w : (⟨2, ![n, 128]⟩ : Shape).Idx → Elt Ideal e) (L : List (View.Piece (Elt Ideal) (⟨2, ![n, 512]⟩ : Shape) e))
    (y : (⟨2, ![n, 512]⟩ : Shape).Idx) (h : (y 1).val < q ∨ q + 128 ≤ (y 1).val) : View.canon (colP q inb w :: L) y = View.canon L y := by
  refine View.canon_cons_of_not_mem _ L fun hm => ?_
  have e : q ≤ (y 1).val ∧ (y 1).val < q + 128 := (Rect.mem_set_unit (inb := inb)).1 hm 1
  omega

end

/-- The four heads stored one after the other leave the array of the four. -/
theorem cols_canon {n : ℕ} {e : EltTy} (t : (⟨2, ![n, 512]⟩ : Shape).Idx → Elt Ideal e) {w0 w1 w2 w3 : (⟨2, ![n, 128]⟩ : Shape).Idx → Elt Ideal e} (b0 b1 b2 b3)
    (L : List (View.Piece (Elt Ideal) (⟨2, ![n, 512]⟩ : Shape) e)) (h0 : ∀ i, w0 i = t (ValueIdx.ix2 (i 0) (hd 0 (i 1)))) (h1 : ∀ i, w1 i = t (ValueIdx.ix2 (i 0) (hd 1 (i 1))))
    (h2 : ∀ i, w2 i = t (ValueIdx.ix2 (i 0) (hd 2 (i 1)))) (h3 : ∀ i, w3 i = t (ValueIdx.ix2 (i 0) (hd 3 (i 1)))) (y : (⟨2, ![n, 512]⟩ : Shape).Idx) :
    View.canon (colP 384 b3 w3 :: colP 256 b2 w2 :: colP 128 b1 w1 :: colP 0 b0 w0 :: L) y = t y := by
  have hy : (y 1).val < 512 := (y 1).isLt
  have key : ∀ (k : Fin 4) (w : (⟨2, ![n, 128]⟩ : Shape).Idx → Elt Ideal e) (h : (y 1).val - 128 * k.val < 128) (_ : 128 * k.val ≤ (y 1).val)
      (_ : ∀ i, w i = t (ValueIdx.ix2 (i 0) (hd k (i 1)))), w (ValueIdx.ix2 (y 0) ⟨(y 1).val - 128 * k.val, h⟩) = t y := by
    intro k w h hk hw
    refine (hw _).trans (congrArg t (funext fun a => Fin.ext ?_))
    match a with
    | 0 => rfl
    | 1 => show 128 * k.val + ((y 1).val - 128 * k.val) = (y 1).val; omega
  by_cases c3 : 384 ≤ (y 1).val
  · rw [col_hit 384 _ _ _ _ c3 (by omega)]; exact key 3 w3 (by show (y 1).val - 128 * 3 < 128; omega) (by show 128 * 3 ≤ _; omega) h3
  rw [col_skip 384 _ _ _ _ (by omega)]
  by_cases c2' : 256 ≤ (y 1).val
  · rw [col_hit 256 _ _ _ _ c2' (by omega)]; exact key 2 w2 (by show (y 1).val - 128 * 2 < 128; omega) (by show 128 * 2 ≤ _; omega) h2
  rw [col_skip 256 _ _ _ _ (by omega)]
  by_cases c1 : 128 ≤ (y 1).val
  · rw [col_hit 128 _ _ _ _ c1 (by omega)]; exact key 1 w1 (by show (y 1).val - 128 * 1 < 128; omega) (by show 128 * 1 ≤ _; omega) h1
  rw [col_skip 128 _ _ _ _ (by omega), col_hit 0 _ _ _ _ (by omega) (by omega)]
  exact key 0 w0 (by show (y 1).val - 128 * 0 < 128; omega) (by show 128 * 0 ≤ _; omega) h0

theorem re_cols16 {n : ℕ} (f : Fin n → Mat 4 128) {w0 w1 w2 w3 : FVec Ideal (⟨2, ![n, 128]⟩ : Shape) .bf16} (b0 b1 b2 b3)
    (L : List (View.Piece (Elt Ideal) (⟨2, ![n, 512]⟩ : Shape) .bf16)) (h0 : Re w0 (c2 fun i l => f i 0 l)) (h1 : Re w1 (c2 fun i l => f i 1 l))
    (h2 : Re w2 (c2 fun i l => f i 2 l)) (h3 : Re w3 (c2 fun i l => f i 3 l)) :
    Re (s := ⟨2, ![n, 512]⟩) (View.canon (colP (e := .bf16) 384 b3 w3 :: colP 256 b2 w2 :: colP 128 b1 w1 :: colP 0 b0 w0 :: L)) (c2 (cat4 f)) :=
  fun y => cols_canon (e := .bf16) (fun y => (((c2 (cat4 f)) y : ℝ) : EReal)) b0 b1 b2 b3 L (fun i => (h0 i).trans (congrArg _ (cat4_hd f _ _ _).symm))
    (fun i => (h1 i).trans (congrArg _ (cat4_hd f _ _ _).symm)) (fun i => (h2 i).trans (congrArg _ (cat4_hd f _ _ _).symm))
    (fun i => (h3 i).trans (congrArg _ (cat4_hd f _ _ _).symm)) y

theorem re_cols32 {n : ℕ} (f : Fin n → Mat 4 128) {w0 w1 w2 w3 : FVec Ideal (⟨2, ![n, 128]⟩ : Shape) .f32} (b0 b1 b2 b3)
    (L : List (View.Piece (Elt Ideal) (⟨2, ![n, 512]⟩ : Shape) .f32)) (h0 : Re w0 (c2 fun i l => f i 0 l)) (h1 : Re w1 (c2 fun i l => f i 1 l))
    (h2 : Re w2 (c2 fun i l => f i 2 l)) (h3 : Re w3 (c2 fun i l => f i 3 l)) :
    Re (s := ⟨2, ![n, 512]⟩) (View.canon (colP (e := .f32) 384 b3 w3 :: colP 256 b2 w2 :: colP 128 b1 w1 :: colP 0 b0 w0 :: L)) (c2 (cat4 f)) :=
  fun y => cols_canon (e := .f32) (fun y => (((c2 (cat4 f)) y : ℝ) : EReal)) b0 b1 b2 b3 L (fun i => (h0 i).trans (congrArg _ (cat4_hd f _ _ _).symm))
    (fun i => (h1 i).trans (congrArg _ (cat4_hd f _ _ _).symm)) (fun i => (h2 i).trans (congrArg _ (cat4_hd f _ _ _).symm))
    (fun i => (h3 i).trans (congrArg _ (cat4_hd f _ _ _).symm)) y

/-- A row loaded. -/
theorem ld_row {n m : ℕ} {x : FVec Ideal (⟨2, ![n, m]⟩ : Shape) .f32} {f : Mat n m} (h : Re x (c2 f)) (r : Fin n) {q : ℕ} (hq : q = r.val)
    (inb : ∀ a, (![q, 0] : Fin 2 → ℕ) a + (⟨2, ![1, m]⟩ : Shape).size a ≤ (⟨2, ![n, m]⟩ : Shape).size a) :
    Re (s := ⟨2, ![1, m]⟩) (View.ld (Val := Elt Ideal) (e' := .f32) x (Rect.unit (s := ⟨2, ![n, m]⟩) ![q, 0] (⟨2, ![1, m]⟩ : Shape).size inb)) (c2 fun _ j => f r j) := by
  intro i
  have h0 : (i 0).val < 1 := (i 0).isLt
  refine Eq.trans (congrArg x (funext fun a => Fin.ext ?_)) (h (ValueIdx.ix2 r (i 1)))
  match a with
  | 0 => show q + 1 * (i 0).val = r.val; omega
  | 1 => show 0 + 1 * (i 1).val = (i 1).val; omega

/-- A head's columns loaded. -/
theorem ld_cols {n : ℕ} {x : FVec Ideal (⟨2, ![n, 512]⟩ : Shape) .f32} {f : Mat n 512} (h : Re x (c2 f)) (k : Fin 4) {q : ℕ} (hk : q = 128 * k.val)
    (inb : colOk n q) : Re (s := ⟨2, ![n, 128]⟩) (View.ld (Val := Elt Ideal) (e' := .f32) x (colR n q inb)) (c2 fun i l => f i (hd k l)) := by
  intro i
  refine Eq.trans (congrArg x (funext fun a => Fin.ext ?_)) (h (ValueIdx.ix2 (i 0) (hd k (i 1))))
  match a with
  | 0 => show 0 + 1 * (i 0).val = (i 0).val; omega
  | 1 => show q + 1 * (i 1).val = 128 * k.val + (i 1).val; omega

/-- A head's columns of a single row. -/
theorem ld_cols1 {x : FVec Ideal (⟨2, ![1, 512]⟩ : Shape) .f32} {f : Mat 1 512} (h : Re x (c2 f)) (k : Fin 4) {q : ℕ} (hk : q = 128 * k.val) (inb) :
    Re (s := ⟨2, ![1, 128]⟩) (View.ld (Val := Elt Ideal) (e' := .f32) x (colR 1 q inb)) (c2 fun _ l => f 0 (hd k l)) :=
  reTo (ld_cols h k hk inb) (fun i _ => by rw [Subsingleton.elim i 0])

/-- The columns from `q` on, 128 of them, still hold the zeros stored first. -/
def Fresh {n : ℕ} (q : ℕ) (L : List (View.Piece (Elt Ideal) (⟨2, ![n, 512]⟩ : Shape) .f32)) : Prop :=
  ∀ y : (⟨2, ![n, 512]⟩ : Shape).Idx, (q ≤ (y 1).val ∧ (y 1).val < q + 128 → (View.canon L y : EReal) = ((0 : ℝ) : EReal)) ∧ ∃ p ∈ L, y ∈ p.1.set

theorem fresh_zero {n : ℕ} (q : ℕ) {z : FVec Ideal (⟨2, ![n, 512]⟩ : Shape) .f32} (hz : Re z (c2 fun _ _ => 0))
    (inb : ∀ a, (![0, 0] : Fin 2 → ℕ) a + (⟨2, ![n, 512]⟩ : Shape).size a ≤ (⟨2, ![n, 512]⟩ : Shape).size a) :
    Fresh q [(⟨Rect.unit (s := ⟨2, ![n, 512]⟩) ![0, 0] (⟨2, ![n, 512]⟩ : Shape).size inb, z⟩ : View.Piece (Elt Ideal) (⟨2, ![n, 512]⟩ : Shape) .f32)] := by
  intro y
  refine ⟨fun _ => ?_, _, List.mem_singleton_self _, ?_⟩
  · rw [View.canon_unit_zero (S := ⟨2, ![n, 512]⟩) (by decide : (![0, 0] : Fin 2 → ℕ) = fun _ => 0)]
    exact hz y
  · refine (Rect.mem_set_unit (inb := inb)).2 fun a => ⟨?_, ?_⟩
    · match a with
      | 0 => exact Nat.zero_le _
      | 1 => exact Nat.zero_le _
    · match a with
      | 0 => exact (Nat.zero_add n).symm ▸ (y 0).isLt
      | 1 => exact (Nat.zero_add 512).symm ▸ (y 1).isLt

theorem fresh_cons {n : ℕ} (q o : ℕ) (inb) (w : FVec Ideal (⟨2, ![n, 128]⟩ : Shape) .f32)
    {L : List (View.Piece (Elt Ideal) (⟨2, ![n, 512]⟩ : Shape) .f32)} (h : Fresh q L) (ho : o + 128 ≤ q) : Fresh q (colP o inb w :: L) := by
  intro y
  obtain ⟨h1, p, hp, hy⟩ := h y
  refine ⟨fun hq => ?_, p, List.mem_cons_of_mem _ hp, hy⟩
  rw [col_skip o inb w L y (by omega)]
  exact h1 hq

theorem fresh_read {n : ℕ} {sig : RefSig} (v : View sig .tc .vmem (⟨2, ![n, 512]⟩ : Shape) .f32) (q : ℕ) (hq : q + 128 ≤ 512) (inb : colOk n q)
    {L : List (View.Piece (Elt Ideal) (⟨2, ![n, 512]⟩ : Shape) .f32)} (h : Fresh q L) :
    Re (s := ⟨2, ![n, 128]⟩) (v.readCov (Val := Elt Ideal) L (colR n q inb).toLoadRect) (c2 fun _ _ => 0) := by
  rw [View.readCov_eq_canon_ld _ _ _ fun y => (h y).2]
  intro i
  have h8 : (i 1).val < 128 := (i 1).isLt
  refine Eq.trans (congrArg (View.canon L) (funext fun a => Fin.ext ?_))
    ((h (ValueIdx.ix2 (i 0) ⟨q + (i 1).val, by omega⟩)).1 ⟨Nat.le_add_right _ _, by show q + (i 1).val < q + 128; omega⟩)
  match a with
  | 0 => show 0 + 1 * (i 0).val = (i 0).val; omega
  | 1 => show q + 1 * (i 1).val = q + (i 1).val; omega

end Cert.Reals
-- ==== Proof.Vals.lean ====
/-
  Arrays named entry by entry, whatever the entries are: each operation on such arrays is the operation on the entries.
-/
module

public import proofs.«01_k».proof.Proof.Heads

@[expose] public section

noncomputable section

namespace Cert.Vals

open Idealize.ShloMosaic Idealize.ShloMosaic.ValueIdx Idealize.SL.Sem Cert.Reals

/-- The entries of `v` are those `f` names. -/
def Is {s : Shape} (v : s.Idx → EReal) (f : s.Idx → EReal) : Prop := ∀ i, v i = f i

abbrev e0 {s : Shape} (x : EReal) : s.Idx → EReal := fun _ => x
abbrev e1 {n : ℕ} (f : Fin n → EReal) : (⟨1, ![n]⟩ : Shape).Idx → EReal := fun i => f (i 0)
abbrev e2 {n m : ℕ} (f : Fin n → Fin m → EReal) : (⟨2, ![n, m]⟩ : Shape).Idx → EReal := fun i => f (i 0) (i 1)
abbrev e3 {n m k : ℕ} (f : Fin n → Fin m → Fin k → EReal) : (⟨3, ![n, m, k]⟩ : Shape).Idx → EReal := fun i => f (i 0) (i 1) (i 2)

section Elementwise
variable {s : Shape} {φ : FTy} {a b : FVec Ideal s φ} {p q : s.Idx → EReal}

theorem is_mul (ha : Is a p) (hb : Is b q) : Is (s := s) (mulf a b) fun i => p i * q i := fun i => congrArg₂ (· * ·) (ha i) (hb i)
theorem is_add (ha : Is a p) (hb : Is b q) : Is (s := s) (addf a b) fun i => p i + q i := fun i => congrArg₂ (· + ·) (ha i) (hb i)
theorem is_sub (ha : Is a p) (hb : Is b q) : Is (s := s) (subf a b) fun i => p i - q i := fun i => congrArg₂ (· - ·) (ha i) (hb i)
theorem is_neg (ha : Is a p) : Is (s := s) (Host.negf a) fun i => - p i := fun i => congrArg (- ·) (ha i)
theorem is_div (ha : Is a p) (hb : Is b q) : Is (s := s) (divf a b) fun i => Ideal.div (p i) (q i) := fun i => congrArg₂ Ideal.div (ha i) (hb i)
theorem is_hdiv (ha : Is a p) (hb : Is b q) : Is (s := s) (Host.divf a b) fun i => Ideal.div (p i) (q i) := fun i => congrArg₂ Ideal.div (ha i) (hb i)
theorem is_rsqrt (ha : Is a p) : Is (s := s) (Idealize.ShloMosaic.rsqrt a) fun i => Ideal.rsqrt (p i) := fun i => congrArg Ideal.rsqrt (ha i)
theorem is_hrsqrt (ha : Is a p) : Is (s := s) (Host.rsqrt a) fun i => Ideal.rsqrt (p i) := fun i => congrArg Ideal.rsqrt (ha i)
theorem is_exp (ha : Is a p) : Is (s := s) (Idealize.ShloMosaic.exp a) fun i => Ideal.exp (p i) := fun i => congrArg Ideal.exp (ha i)
theorem is_hexp (ha : Is a p) : Is (s := s) (Host.exp a) fun i => Ideal.exp (p i) := fun i => congrArg Ideal.exp (ha i)
theorem is_trunc {ψ : FTy} (h : ψ.bits < φ.bits) (ha : Is a p) : Is (s := s) (truncf ψ a h) p := ha
theorem is_ext {ψ : FTy} (h : φ.bits < ψ.bits) (ha : Is a p) : Is (s := s) (extf ψ a h) p := ha
theorem is_const {w : BitVec φ.bits} {x : EReal} (h : Ideal.ofBits φ w = x) : Is (s := s) (constant (F := Ideal) s φ w) (e0 x) := fun _ => h
theorem is_splat {w : BitVec φ.bits} {x : EReal} (h : Ideal.ofBits φ w = x) : Is (s := s) (broadcast s (Scalar.ofBits (F := Ideal) φ w)) (e0 x) := fun _ => h
end Elementwise

section Layout
variable {n m k : ℕ} {φ : FTy}

theorem is_to {s : Shape} {v : s.Idx → EReal} {f g : s.Idx → EReal} (h : Is v f) (e : ∀ i, f i = g i) : Is v g := fun i => (h i).trans (e i)
theorem is_entry {s t : Shape} {v : s.Idx → EReal} {w : t.Idx → EReal} {f : s.Idx → EReal} {g : t.Idx → EReal} (hv : Is v f)
    (h : ∀ i, ∃ j, w i = v j ∧ f j = g i) : Is w g := fun i => by
  obtain ⟨j, h1, h2⟩ := h i
  rw [h1, hv j, h2]

/-- One row to many. -/
theorem is_rows {v : (⟨2, ![1, m]⟩ : Shape).Idx → EReal} {f : Fin 1 → Fin m → EReal} (h : (⟨2, ![1, m]⟩ : Shape).Broadcasts ⟨2, ![n, m]⟩) (hv : Is v (e2 f)) :
    Is (broadcastTo (⟨2, ![n, m]⟩ : Shape) v h) (e2 fun _ j => f 0 j) :=
  is_entry hv fun i => ⟨ValueIdx.ix2 0 (i 1), broadcastTo_apply v h i _ fun a => by
    match a with
    | ⟨0, _⟩ => rfl
    | ⟨1, _⟩ =>
      show (i 1).val = if m = 1 then 0 else (i 1).val
      have : (i 1).val < m := (i 1).isLt
      split <;> omega, rfl⟩
/-- One column to many. -/
theorem is_cols {v : (⟨2, ![n, 1]⟩ : Shape).Idx → EReal} {f : Fin n → Fin 1 → EReal} (h : (⟨2, ![n, 1]⟩ : Shape).Broadcasts ⟨2, ![n, m]⟩) (hv : Is v (e2 f)) :
    Is (broadcastTo (⟨2, ![n, m]⟩ : Shape) v h) (e2 fun i _ => f i 0) :=
  is_entry hv fun i => ⟨ValueIdx.ix2 (i 0) 0, broadcastTo_apply v h i _ fun a => by
    match a with
    | ⟨1, _⟩ => rfl
    | ⟨0, _⟩ =>
      show (i 0).val = if n = 1 then 0 else (i 0).val
      have : (i 0).val < n := (i 0).isLt
      split <;> omega, rfl⟩
theorem is_column {v : (⟨1, ![n]⟩ : Shape).Idx → EReal} {g : Fin n → EReal} (h : (⟨1, ![n]⟩ : Shape).ShapeCasts ⟨2, ![n, 1]⟩) (hv : Is v (e1 g)) :
    Is (shapeCast (⟨2, ![n, 1]⟩ : Shape) v h) (e2 fun i _ => g i) :=
  is_entry hv fun i => ⟨ValueIdx.ix1 (i 0), shapeCast_apply v h i _ (by
    rw [Shape.rowMajor_val_one, Shape.rowMajor_val_two]
    show (i 0).val = (i 0).val * 1 + (i 1).val
    have : (i 1).val < 1 := (i 1).isLt
    omega), rfl⟩
/-- The columns from `q` on. -/
theorem is_cslice {p : ℕ} {v : (⟨2, ![n, m]⟩ : Shape).Idx → EReal} {f : Fin n → Fin m → EReal} {q : ℕ} (σ : Fin p → Fin m) (hσ : ∀ l, (σ l).val = q + l.val)
    (h : (⟨2, ![n, m]⟩ : Shape).Slices ![0, q] ⟨2, ![n, p]⟩) (hv : Is v (e2 f)) :
    Is (extractStridedSlice (⟨2, ![n, p]⟩ : Shape) ![0, q] v h) (e2 fun i l => f i (σ l)) :=
  is_entry hv fun i => ⟨ValueIdx.ix2 (i 0) (σ (i 1)), extractStridedSlice_apply _ v h i _ fun a => by
    match a with
    | ⟨0, _⟩ => exact (Nat.zero_add _).symm
    | ⟨1, _⟩ => exact hσ (i 1), rfl⟩
theorem is_same {s : Shape} {v : s.Idx → EReal} {f : s.Idx → EReal} (h : s.ShapeCasts s) (hv : Is v f) : Is (shapeCast s v h) f := by
  rw [shapeCast_self]; exact hv

/-- The sum of each row. -/
theorem is_rowSum {v : FVec Ideal (⟨2, ![n, m]⟩ : Shape) φ} {f : Fin n → Fin m → EReal} {acc : BitVec φ.bits} (h : (⟨2, ![n, m]⟩ : Shape).Reduces [1] ⟨1, ![n]⟩)
    (hφ : FKind.Formats φ) (hacc : acc = FKind.add.neutral φ hφ) (hv : Is v (e2 f)) :
    Is (s := ⟨1, ![n]⟩) (multiReduction .add [1] (⟨1, ![n]⟩ : Shape) v acc h hφ hacc) (e1 fun i => ∑ j, f i j) := fun i =>
  (Ideal.multiReduction_add_single v acc h hφ hacc i).trans (Finset.sum_congr rfl fun j _ => hv _)

/-- The product of rows by columns. -/
theorem is_dot {p q : ℕ} {φ₁ φ₂ : FTy} {wf} {l : FVec Ideal (⟨2, ![p, n]⟩ : Shape) φ₁} {r : FVec Ideal (⟨2, ![n, q]⟩ : Shape) φ₂} {a : Fin p → Fin n → EReal}
    {b : Fin n → Fin q → EReal} {prec : Option ContractPrecision} (hl : Is l (e2 a)) (hr : Is r (e2 b)) :
    Is (s := ⟨2, ![p, q]⟩) (matmul (Dots.nn n p q wf) prec l r (constant (F := Ideal) (⟨2, ![p, q]⟩ : Shape) .f32 0x00000000#32)) (e2 fun i j => ∑ k, a i k * b k j) :=
  fun i => (Dots.nn_apply wf prec l r i).trans (Finset.sum_congr rfl fun k _ => congrArg₂ (· * ·) (hl _) (hr _))

/-- A row loaded. -/
theorem is_ld_row {x : FVec Ideal (⟨2, ![n, m]⟩ : Shape) .f32} {f : Fin n → Fin m → EReal} (h : Is x (e2 f)) (r : Fin n) {q : ℕ} (hq : q = r.val)
    (inb : ∀ a, (![q, 0] : Fin 2 → ℕ) a + (⟨2, ![1, m]⟩ : Shape).size a ≤ (⟨2, ![n, m]⟩ : Shape).size a) :
    Is (s := ⟨2, ![1, m]⟩) (View.ld (Val := Elt Ideal) (e' := .f32) x (Rect.unit (s := ⟨2, ![n, m]⟩) ![q, 0] (⟨2, ![1, m]⟩ : Shape).size inb)) (e2 fun _ j => f r j) := by
  intro i
  have h0 : (i 0).val < 1 := (i 0).isLt
  refine Eq.trans (congrArg x (funext fun a => Fin.ext ?_)) (h (ValueIdx.ix2 r (i 1)))
  match a with
  | 0 => show q + 1 * (i 0).val = r.val; omega
  | 1 => show 0 + 1 * (i 1).val = (i 1).val; omega

/-- A head's columns of a single row. -/
theorem is_ld_head {x : FVec Ideal (⟨2, ![1, 512]⟩ : Shape) .f32} {f : Fin 1 → Fin 512 → EReal} (h : Is x (e2 f)) (k : Fin 4) {q : ℕ} (hk : q = 128 * k.val)
    (inb : colOk 1 q) : Is (s := ⟨2, ![1, 128]⟩) (View.ld (Val := Elt Ideal) (e' := .f32) x (colR 1 q inb)) (e2 fun _ l => f 0 (hd k l)) := by
  intro i
  have h0 : (i 0).val < 1 := (i 0).isLt
  refine Eq.trans (congrArg x (funext fun a => Fin.ext ?_)) (h (ValueIdx.ix2 0 (hd k (i 1))))
  match a with
  | 0 => show 0 + 1 * (i 0).val = 0; omega
  | 1 => show q + 1 * (i 1).val = 128 * k.val + (i 1).val; omega
end Layout

/-! The functions both sides name. -/

/-- One over one plus the exponential. -/
def lgs (x : EReal) : EReal := Ideal.div (1 : ℝ) ((1 : ℝ) + Ideal.exp (-x))

/-- The inverse root of the mean square. -/
def root {n : ℕ} (N : ℝ) (f : Fin n → EReal) : EReal := Ideal.rsqrt (Ideal.div (∑ l, f l * f l) (N : EReal) + (eps : EReal))

end Cert.Vals
-- ==== Proof.Windows.lean ====
/-
  Blocks of rows: what a window of a grid reads of an array, and what it writes there, entry by entry.
-/
module

public import proofs.«01_k».proof.Proof.Vals

@[expose] public section

noncomputable section

namespace Cert.Vals

open Cert.Reals Idealize.ShloMosaic Idealize.ShloMosaic.ValueIdx

theorem zero2 : (![0, 0] : Fin 2 → ℕ) = fun _ => 0 := by decide

theorem at_zero {n b y : ℕ} (h : n = 0) : n * b + 1 * y = y := by subst h; omega

/-- The rows of block `t`, of `p` rows. -/
def rowsOf (p n : ℕ) (hn : 0 < n) (t : ℕ) : Fin p → Fin n := fun i => ⟨(p * t + i.val) % n, Nat.mod_lt _ hn⟩

section Windows
variable {p n m : ℕ} {hn : 0 < n}

/-- A block of rows read. -/
theorem is_block {x : (⟨2, ![n, m]⟩ : Shape).Idx → EReal} {f : Fin n → Fin m → EReal} (h : Is x (e2 f)) {v : (⟨2, ![p, m]⟩ : Shape).Idx → EReal}
    (E : (⟨2, ![p, m]⟩ : Shape).Idx → (⟨2, ![n, m]⟩ : Shape).Idx) (e : ∀ i, v i = x (E i)) {a b t : ℕ} (ht : p * t + p ≤ n) (ha : a = t) (hb : b = 0)
    (e0 : ∀ i, (E i 0).val = a * p + 1 * (i 0).val) (e1 : ∀ i, (E i 1).val = b * m + 1 * (i 1).val) : Is v (e2 fun i j => f (rowsOf p n hn t i) j) := fun i => by
  have h0 : (i 0).val < p := (i 0).isLt
  rw [e i]
  refine (h _).trans (congrArg₂ f (Fin.ext ((e0 i).trans ?_)) (Fin.ext ((e1 i).trans ?_)))
  · show a * p + 1 * (i 0).val = (p * t + (i 0).val) % n
    rw [Nat.mod_eq_of_lt (by omega), ha, Nat.mul_comm t p, Nat.one_mul]
  · rw [hb, Nat.zero_mul, Nat.zero_add, Nat.one_mul]

/-- A whole array read. -/
theorem is_whole {x v : (⟨2, ![n, m]⟩ : Shape).Idx → EReal} {f : Fin n → Fin m → EReal} (h : Is x (e2 f))
    (E : (⟨2, ![n, m]⟩ : Shape).Idx → (⟨2, ![n, m]⟩ : Shape).Idx) (e : ∀ i, v i = x (E i)) {a b : ℕ} (hab : a = 0 ∧ b = 0)
    (e0 : ∀ i, (E i 0).val = a * n + 1 * (i 0).val) (e1 : ∀ i, (E i 1).val = b * m + 1 * (i 1).val) : Is v (e2 f) := fun i => by
  rw [e i]
  refine (h _).trans (congrArg₂ f (Fin.ext ((e0 i).trans ?_)) (Fin.ext ((e1 i).trans ?_)))
  · rw [hab.1, Nat.zero_mul, Nat.zero_add, Nat.one_mul]
  · rw [hab.2, Nat.zero_mul, Nat.zero_add, Nat.one_mul]

/-- A block of rows written. -/
theorem at_block {v : (⟨2, ![p, m]⟩ : Shape).Idx → EReal} {f : Fin n → Fin m → EReal} {t : ℕ} (h : Is v (e2 fun i j => f (rowsOf p n hn t i) j)) {a b : ℕ} (ht : p * t + p ≤ n) (ha : a = t) (hb : b = 0)
    (y : (⟨2, ![p, m]⟩ : Shape).Idx) (z : (⟨2, ![n, m]⟩ : Shape).Idx) (e0 : (z 0).val = a * p + 1 * (y 0).val) (e1 : (z 1).val = b * m + 1 * (y 1).val) : v y = e2 f z := by
  have h0 : (y 0).val < p := (y 0).isLt
  refine (h y).trans (congrArg₂ f (Fin.ext (Eq.trans ?_ e0.symm)) (Fin.ext (Eq.trans ?_ e1.symm)))
  · show (p * t + (y 0).val) % n = a * p + 1 * (y 0).val
    rw [Nat.mod_eq_of_lt (by omega), ha, Nat.mul_comm t p, Nat.one_mul]
  · rw [hb, Nat.zero_mul, Nat.zero_add, Nat.one_mul]

/-! The same of arrays of reals. -/
theorem re_block {x : (⟨2, ![n, m]⟩ : Shape).Idx → EReal} {f : Fin n → Fin m → ℝ} (h : Re x (c2 f)) {v : (⟨2, ![p, m]⟩ : Shape).Idx → EReal}
    (E : (⟨2, ![p, m]⟩ : Shape).Idx → (⟨2, ![n, m]⟩ : Shape).Idx) (e : ∀ i, v i = x (E i)) {a b t : ℕ} (ht : p * t + p ≤ n) (ha : a = t) (hb : b = 0)
    (e0 : ∀ i, (E i 0).val = a * p + 1 * (i 0).val) (e1 : ∀ i, (E i 1).val = b * m + 1 * (i 1).val) : Re v (c2 fun i j => f (rowsOf p n hn t i) j) :=
  is_block (f := fun i j => (f i j : EReal)) h E e ht ha hb e0 e1
theorem re_whole {x v : (⟨2, ![n, m]⟩ : Shape).Idx → EReal} {f : Fin n → Fin m → ℝ} (h : Re x (c2 f))
    (E : (⟨2, ![n, m]⟩ : Shape).Idx → (⟨2, ![n, m]⟩ : Shape).Idx) (e : ∀ i, v i = x (E i)) {a b : ℕ} (hab : a = 0 ∧ b = 0)
    (e0 : ∀ i, (E i 0).val = a * n + 1 * (i 0).val) (e1 : ∀ i, (E i 1).val = b * m + 1 * (i 1).val) : Re v (c2 f) :=
  is_whole (f := fun i j => (f i j : EReal)) h E e hab e0 e1
theorem re_at {v : (⟨2, ![p, m]⟩ : Shape).Idx → EReal} {f : Fin n → Fin m → ℝ} {t : ℕ} (h : Re v (c2 fun i j => f (rowsOf p n hn t i) j)) {a b : ℕ} (ht : p * t + p ≤ n) (ha : a = t) (hb : b = 0)
    (y : (⟨2, ![p, m]⟩ : Shape).Idx) (z : (⟨2, ![n, m]⟩ : Shape).Idx) (e0 : (z 0).val = a * p + 1 * (y 0).val) (e1 : (z 1).val = b * m + 1 * (y 1).val) : v y = ((c2 f z : ℝ) : EReal) :=
  at_block (f := fun i j => (f i j : EReal)) h ht ha hb y z e0 e1
end Windows

/-- An array's entries. -/
def ent (a b : ℕ) (v : (⟨2, ![a, b]⟩ : Shape).Idx → EReal) : Fin a → Fin b → EReal := fun i j => v (ValueIdx.ix2 i j)
theorem is_read (a b : ℕ) (v : (⟨2, ![a, b]⟩ : Shape).Idx → EReal) : Is v (e2 (ent a b v)) := fun i => congrArg v (ValueIdx.eq_ix2 i)

theorem is_eqv {s : Shape} {v w f : s.Idx → EReal} (e : v = w) (h : Is w f) : Is v f := e ▸ h

end Cert.Vals
-- ==== Proof.FfnVal.lean ====
/-
  The feed-forward kernel's arrays are the reference's, whenever every entry of the six arguments is a number.
-/
module

public import proofs.«01_k».proof.Proof.FfnBlock
public import proofs.«01_k».proof.Proof.Windows
public import proofs.«01_k».proof.Proof.Gen.Pre_finite
public import proofs.«01_k».proof.Defs
public import Idealize.ShloMosaic.Lib.Pipeline.ValueKit

@[expose] public section

noncomputable section

namespace Cert.FfnIdeal.Val

open Cert.FfnIdeal Cert.FfnIdeal.Gen Cert.FfnIdeal.Value Cert.FfnIdeal.Reals Cert.FfnIdeal.Block Cert.FfnRefIdeal.Reals Cert.Reals
open Cert.Vals (re_block re_whole re_at)
open Idealize.ShloMosaic Idealize.ShloMosaic.TcCoe Idealize.SL.Sem Idealize.ShloMosaic.ValueIdx

variable (m : (ℓ : Loc nD τ sig) → Buf (Elt Ideal) ℓ)
variable {X0 X1 : Mat 16384 1024} {X2 : Mat 8 1024} {X3 X4 : Mat 1024 2816} {X5 : Mat 2816 1024}

/-- The arguments a device starts from are these real arrays. -/
structure Ins (c : Dev nD) (X0 X1 : Mat 16384 1024) (X2 : Mat 8 1024) (X3 X4 : Mat 1024 2816)
    (X5 : Mat 2816 1024) : Prop where
  h0 : Re (s := S16384x1024) (m ((c : Thread nD τ).loc main_arg0)) (c2 X0)
  h1 : Re (s := S16384x1024) (m ((c : Thread nD τ).loc main_arg1)) (c2 X1)
  h2 : Re (s := S8x1024) (m ((c : Thread nD τ).loc main_arg2)) (c2 X2)
  h3 : Re (s := S1024x2816) (m ((c : Thread nD τ).loc main_arg3)) (c2 X3)
  h4 : Re (s := S1024x2816) (m ((c : Thread nD τ).loc main_arg4)) (c2 X4)
  h5 : Re (s := S2816x1024) (m ((c : Thread nD τ).loc main_arg5)) (c2 X5)

variable {m} {c : Dev nD} (H : Ins m c X0 X1 X2 X3 X4 X5)
include H

/-- The tokens of block `n`. -/
def tok (n : ℕ) : Fin 256 → Fin 16384 := fun i => ⟨(256 * n + i.val) % 16384, Nat.mod_lt _ (by norm_num)⟩

omit H in
theorem lt64 (t : Fin cfg0.N) : t.val < 64 := Nat.lt_of_lt_of_eq t.isLt N_0

omit H in
theorem rows_le (t : Fin cfg0.N) : 256 * t.val + 256 ≤ 16384 := by
  have := lt64 t
  omega

omit H in
theorem idx0 : ∀ t : Fin cfg0.N, win0_0.index t (0 : Fin 2) = t.val ∧ win0_0.index t (1 : Fin 2) = 0 :=
  (by decide +kernel : ∀ t : Fin grid0.N, _)

theorem in0 (t : Fin cfg0.N) : Re (s := S256x1024) (iblk m c 0 t) (c2 (blk (tok t.val) X0)) :=
  re_block (hn := by decide) H.h0 ((cfg0.win 0).blk t).view.emb (fun _ => rfl) (rows_le t) (idx0 t).1 (idx0 t).2 (fun _ => rfl) (fun _ => rfl)

omit H in
theorem idx1 : ∀ t : Fin cfg0.N, win0_1.index t (0 : Fin 2) = t.val ∧ win0_1.index t (1 : Fin 2) = 0 :=
  (by decide +kernel : ∀ t : Fin grid0.N, _)

theorem in1 (t : Fin cfg0.N) : Re (s := S256x1024) (iblk m c 1 t) (c2 (blk (tok t.val) X1)) :=
  re_block (hn := by decide) H.h1 ((cfg0.win 1).blk t).view.emb (fun _ => rfl) (rows_le t) (idx1 t).1 (idx1 t).2 (fun _ => rfl) (fun _ => rfl)

omit H in
theorem idx2 : ∀ t : Fin cfg0.N, win0_2.index t (0 : Fin 2) = 0 ∧ win0_2.index t (1 : Fin 2) = 0 :=
  (by decide +kernel : ∀ t : Fin grid0.N, _)

theorem in2 (t : Fin cfg0.N) : Re (s := S8x1024) (iblk m c 2 t) (c2 X2) :=
  re_whole H.h2 ((cfg0.win 2).blk t).view.emb (fun _ => rfl) (idx2 t) (fun _ => rfl) (fun _ => rfl)

omit H in
theorem idx3 : ∀ t : Fin cfg0.N, win0_3.index t (0 : Fin 2) = 0 ∧ win0_3.index t (1 : Fin 2) = 0 :=
  (by decide +kernel : ∀ t : Fin grid0.N, _)

theorem in3 (t : Fin cfg0.N) : Re (s := S1024x2816) (iblk m c 3 t) (c2 X3) :=
  re_whole H.h3 ((cfg0.win 3).blk t).view.emb (fun _ => rfl) (idx3 t) (fun _ => rfl) (fun _ => rfl)

omit H in
theorem idx4 : ∀ t : Fin cfg0.N, win0_4.index t (0 : Fin 2) = 0 ∧ win0_4.index t (1 : Fin 2) = 0 :=
  (by decide +kernel : ∀ t : Fin grid0.N, _)

theorem in4 (t : Fin cfg0.N) : Re (s := S1024x2816) (iblk m c 4 t) (c2 X4) :=
  re_whole H.h4 ((cfg0.win 4).blk t).view.emb (fun _ => rfl) (idx4 t) (fun _ => rfl) (fun _ => rfl)

omit H in
theorem idx5 : ∀ t : Fin cfg0.N, win0_5.index t (0 : Fin 2) = 0 ∧ win0_5.index t (1 : Fin 2) = 0 :=
  (by decide +kernel : ∀ t : Fin grid0.N, _)

theorem in5 (t : Fin cfg0.N) : Re (s := S2816x1024) (iblk m c 5 t) (c2 X5) :=
  re_whole H.h5 ((cfg0.win 5).blk t).view.emb (fun _ => rfl) (idx5 t) (fun _ => rfl) (fun _ => rfl)

theorem pt6 (t : Fin cfg0.N) : Re (s := S256x1024) ((outsAt0 m c t.val t.isLt).1) (c2 (blk (tok t.val) (q_v126 X0 X1 X2 X3 X4 X5))) := by
  by_cases h0 : t.val % 64 = 0
  · rw [outsAt0_A m c t h0]
    dsimp only
    exact out_A_6 c _ _ _ _ _ _ _ _ _ _ _ _ _ _ _ _ _ _ _ _ _ _ _ _ _ _ _ _ _ _ _ _ _ _ (in0 H t) (in1 H t) (in2 H t) (in3 H t) (in4 H t) (in5 H t)
  · rw [outsAt0_B m c t h0]
    dsimp only
    exact out_B_6 c _ _ _ _ _ _ _ _ _ _ _ _ _ _ _ _ _ _ _ _ _ _ _ _ _ _ _ _ _ _ _ _ _ _ _ (in0 H t) (in1 H t) (in2 H t) (in3 H t) (in4 H t) (in5 H t)

omit H in
theorem idx6 : ∀ t : Fin cfg0.N, win0_6.index t (0 : Fin 2) = t.val ∧ win0_6.index t (1 : Fin 2) = 0 :=
  (by decide +kernel : ∀ t : Fin grid0.N, _)

/-- The array of window 6. -/
theorem arr6 : (dats m 0 c).arrAt 6 cfg0.N = fun i : S16384x1024.Idx => ((c2 (q_v126 X0 X1 X2 X3 X4 X5) i : ℝ) : EReal) := by
  refine (dats m 0 c).arrAt_eq_of_covers 6 _ (by decide +kernel) fun t hf y => ?_
  blk_simp
  rw [after0_6]
  exact re_at (hn := by decide) (pt6 H t) (rows_le t) (idx6 t).1 (idx6 t).2 y _ rfl rfl

theorem pt7 (t : Fin cfg0.N) : Re (s := S256x1024) ((outsAt0 m c t.val t.isLt).2.1) (c2 (blk (tok t.val) (q_v35 X0 X2))) := by
  by_cases h0 : t.val % 64 = 0
  · rw [outsAt0_A m c t h0]
    dsimp only
    exact out_A_7 c _ _ _ _ _ _ _ _ _ _ _ _ _ _ _ _ _ _ _ _ _ _ _ _ _ _ _ _ _ _ _ _ _ _ (in0 H t) (in1 H t) (in2 H t) (in3 H t) (in4 H t) (in5 H t)
  · rw [outsAt0_B m c t h0]
    dsimp only
    exact out_B_7 c _ _ _ _ _ _ _ _ _ _ _ _ _ _ _ _ _ _ _ _ _ _ _ _ _ _ _ _ _ _ _ _ _ _ _ (in0 H t) (in1 H t) (in2 H t) (in3 H t) (in4 H t) (in5 H t)

omit H in
theorem idx7 : ∀ t : Fin cfg0.N, win0_7.index t (0 : Fin 2) = t.val ∧ win0_7.index t (1 : Fin 2) = 0 :=
  (by decide +kernel : ∀ t : Fin grid0.N, _)

/-- The array of window 7. -/
theorem arr7 : (dats m 0 c).arrAt 7 cfg0.N = fun i : S16384x1024.Idx => ((c2 (q_v35 X0 X2) i : ℝ) : EReal) := by
  refine (dats m 0 c).arrAt_eq_of_covers 7 _ (by decide +kernel) fun t hf y => ?_
  blk_simp
  rw [after0_7]
  exact re_at (hn := by decide) (pt7 H t) (rows_le t) (idx7 t).1 (idx7 t).2 y _ rfl rfl

theorem pt8 (t : Fin cfg0.N) : Re (s := S256x2816) ((outsAt0 m c t.val t.isLt).2.2.1) (c2 (blk (tok t.val) (q_v39 X0 X2 X3 X4))) := by
  by_cases h0 : t.val % 64 = 0
  · rw [outsAt0_A m c t h0]
    dsimp only
    exact out_A_8 c _ _ _ _ _ _ _ _ _ _ _ _ _ _ _ _ _ _ _ _ _ _ _ _ _ _ _ _ _ _ _ _ _ _ (in0 H t) (in1 H t) (in2 H t) (in3 H t) (in4 H t) (in5 H t)
  · rw [outsAt0_B m c t h0]
    dsimp only
    exact out_B_8 c _ _ _ _ _ _ _ _ _ _ _ _ _ _ _ _ _ _ _ _ _ _ _ _ _ _ _ _ _ _ _ _ _ _ _ (in0 H t) (in1 H t) (in2 H t) (in3 H t) (in4 H t) (in5 H t)

omit H in
theorem idx8 : ∀ t : Fin cfg0.N, win0_8.index t (0 : Fin 2) = t.val ∧ win0_8.index t (1 : Fin 2) = 0 :=
  (by decide +kernel : ∀ t : Fin grid0.N, _)

/-- The array of window 8. -/
theorem arr8 : (dats m 0 c).arrAt 8 cfg0.N = fun i : S16384x2816.Idx => ((c2 (q_v39 X0 X2 X3 X4) i : ℝ) : EReal) := by
  refine (dats m 0 c).arrAt_eq_of_covers 8 _ (by decide +kernel) fun t hf y => ?_
  blk_simp
  rw [after0_8]
  exact re_at (hn := by decide) (pt8 H t) (rows_le t) (idx8 t).1 (idx8 t).2 y _ rfl rfl

theorem pt9 (t : Fin cfg0.N) : Re (s := S256x2816) ((outsAt0 m c t.val t.isLt).2.2.2.1) (c2 (blk (tok t.val) (q_v92 X0 X1 X2 X3 X4 X5))) := by
  by_cases h0 : t.val % 64 = 0
  · rw [outsAt0_A m c t h0]
    dsimp only
    exact out_A_9 c _ _ _ _ _ _ _ _ _ _ _ _ _ _ _ _ _ _ _ _ _ _ _ _ _ _ _ _ _ _ _ _ _ _ (in0 H t) (in1 H t) (in2 H t) (in3 H t) (in4 H t) (in5 H t)
  · rw [outsAt0_B m c t h0]
    dsimp only
    exact out_B_9 c _ _ _ _ _ _ _ _ _ _ _ _ _ _ _ _ _ _ _ _ _ _ _ _ _ _ _ _ _ _ _ _ _ _ _ (in0 H t) (in1 H t) (in2 H t) (in3 H t) (in4 H t) (in5 H t)

omit H in
theorem idx9 : ∀ t : Fin cfg0.N, win0_9.index t (0 : Fin 2) = t.val ∧ win0_9.index t (1 : Fin 2) = 0 :=
  (by decide +kernel : ∀ t : Fin grid0.N, _)

/-- The array of window 9. -/
theorem arr9 : (dats m 0 c).arrAt 9 cfg0.N = fun i : S16384x2816.Idx => ((c2 (q_v92 X0 X1 X2 X3 X4 X5) i : ℝ) : EReal) := by
  refine (dats m 0 c).arrAt_eq_of_covers 9 _ (by decide +kernel) fun t hf y => ?_
  blk_simp
  rw [after0_9]
  exact re_at (hn := by decide) (pt9 H t) (rows_le t) (idx9 t).1 (idx9 t).2 y _ rfl rfl

theorem pt10 (t : Fin cfg0.N) : Re (s := S256x2816) ((outsAt0 m c t.val t.isLt).2.2.2.2.1) (c2 (blk (tok t.val) (q_v90 X0 X1 X2 X3 X4 X5))) := by
  by_cases h0 : t.val % 64 = 0
  · rw [outsAt0_A m c t h0]
    dsimp only
    exact out_A_10 c _ _ _ _ _ _ _ _ _ _ _ _ _ _ _ _ _ _ _ _ _ _ _ _ _ _ _ _ _ _ _ _ _ _ (in0 H t) (in1 H t) (in2 H t) (in3 H t) (in4 H t) (in5 H t)
  · rw [outsAt0_B m c t h0]
    dsimp only
    exact out_B_10 c _ _ _ _ _ _ _ _ _ _ _ _ _ _ _ _ _ _ _ _ _ _ _ _ _ _ _ _ _ _ _ _ _ _ _ (in0 H t) (in1 H t) (in2 H t) (in3 H t) (in4 H t) (in5 H t)

omit H in
theorem idx10 : ∀ t : Fin cfg0.N, win0_10.index t (0 : Fin 2) = t.val ∧ win0_10.index t (1 : Fin 2) = 0 :=
  (by decide +kernel : ∀ t : Fin grid0.N, _)

/-- The array of window 10. -/
theorem arr10 : (dats m 0 c).arrAt 10 cfg0.N = fun i : S16384x2816.Idx => ((c2 (q_v90 X0 X1 X2 X3 X4 X5) i : ℝ) : EReal) := by
  refine (dats m 0 c).arrAt_eq_of_covers 10 _ (by decide +kernel) fun t hf y => ?_
  blk_simp
  rw [after0_10]
  exact re_at (hn := by decide) (pt10 H t) (rows_le t) (idx10 t).1 (idx10 t).2 y _ rfl rfl

theorem pt11 (t : Fin cfg0.N) : Re (s := S256x1024) ((outsAt0 m c t.val t.isLt).2.2.2.2.2.1) (c2 (blk (tok t.val) (q_v87 X0 X1 X2 X3 X4 X5))) := by
  by_cases h0 : t.val % 64 = 0
  · rw [outsAt0_A m c t h0]
    dsimp only
    exact out_A_11 c _ _ _ _ _ _ _ _ _ _ _ _ _ _ _ _ _ _ _ _ _ _ _ _ _ _ _ _ _ _ _ _ _ _ (in0 H t) (in1 H t) (in2 H t) (in3 H t) (in4 H t) (in5 H t)
  · rw [outsAt0_B m c t h0]
    dsimp only
    exact out_B_11 c _ _ _ _ _ _ _ _ _ _ _ _ _ _ _ _ _ _ _ _ _ _ _ _ _ _ _ _ _ _ _ _ _ _ _ (in0 H t) (in1 H t) (in2 H t) (in3 H t) (in4 H t) (in5 H t)

omit H in
theorem idx11 : ∀ t : Fin cfg0.N, win0_11.index t (0 : Fin 2) = t.val ∧ win0_11.index t (1 : Fin 2) = 0 :=
  (by decide +kernel : ∀ t : Fin grid0.N, _)

/-- The array of window 11. -/
theorem arr11 : (dats m 0 c).arrAt 11 cfg0.N = fun i : S16384x1024.Idx => ((c2 (q_v87 X0 X1 X2 X3 X4 X5) i : ℝ) : EReal) := by
  refine (dats m 0 c).arrAt_eq_of_covers 11 _ (by decide +kernel) fun t hf y => ?_
  blk_simp
  rw [after0_11]
  exact re_at (hn := by decide) (pt11 H t) (rows_le t) (idx11 t).1 (idx11 t).2 y _ rfl rfl

omit H in
theorem stack_at (S : Fin 6 → Mat 8 1024) (k : Fin 6) (i : Fin 8) (j : Fin 1024) :
    stack S ⟨8 * k.val + i.val, by omega⟩ j = S k i j := by
  have e1 : (⟨(8 * k.val + i.val) / 8, by omega⟩ : Fin 6) = k := Fin.ext (by show (8 * k.val + i.val) / 8 = k.val; omega)
  have e2 : (⟨(8 * k.val + i.val) % 8, by omega⟩ : Fin 8) = i := Fin.ext (by show (8 * k.val + i.val) % 8 = i.val; omega)
  show S ⟨(8 * k.val + i.val) / 8, _⟩ ⟨(8 * k.val + i.val) % 8, _⟩ j = _
  rw [e1, e2]

/-- After point `n` the sums hold what the blocks up to it add. -/
theorem pt12 : ∀ (n : ℕ) (hn : n < cfg0.N), Re (s := S48x1024) ((outsAt0 m c n hn).2.2.2.2.2.2)
    (c2 (stack fun k i j => ∑ s ∈ Finset.range (n + 1), part (tok s) (token X0 X1 X2 X3 X4 X5 k) i j))
  | 0, hn => by
    have t : Fin cfg0.N := ⟨0, hn⟩
    rw [outsAt0_A m c ⟨0, hn⟩ rfl]
    dsimp only
    refine Cert.FfnIdeal.Block.reTo (out_A_12 c _ _ _ _ _ _ _ _ _ _ _ _ _ _ _ _ _ _ _ _ _ _ _ _ _ _ _ _ _ _ _ _ _ _ (in0 H ⟨0, hn⟩) (in1 H ⟨0, hn⟩) (in2 H ⟨0, hn⟩) (in3 H ⟨0, hn⟩) (in4 H ⟨0, hn⟩) (in5 H ⟨0, hn⟩)) ?_
    funext i j
    unfold stack
    simp only [zero_add, Finset.sum_range_one]
  | n + 1, hn => by
    have h0 : ¬ (n + 1) % 64 = 0 := by have := lt64 ⟨n + 1, hn⟩; show ¬ (n + 1) % 64 = 0; have : n + 1 < 64 := this; omega
    rw [outsAt0_B m c ⟨n + 1, hn⟩ h0]
    dsimp only
    refine Cert.FfnIdeal.Block.reTo (out_B_12 c _ _ _ _ _ _ _ _ _ _ _ _ _ _ _ _ _ _ _ _ _ _ _ _ _ _ _ _ _ _ _ _ _ _ _ (in0 H ⟨n + 1, hn⟩) (in1 H ⟨n + 1, hn⟩) (in2 H ⟨n + 1, hn⟩) (in3 H ⟨n + 1, hn⟩) (in4 H ⟨n + 1, hn⟩) (in5 H ⟨n + 1, hn⟩) (pt12 n (Nat.lt_of_succ_lt hn))) ?_
    congr 1
    funext k a b
    rw [stack_at, Finset.sum_range_succ _ (n + 1)]

omit H in
theorem sum_blocks (a b : ℕ) (f : ℕ → ℝ) :
    ∑ s ∈ Finset.range a, ∑ k : Fin b, f (b * s + k.val) = ∑ k : Fin (a * b), f k.val := by
  rw [← Finset.sum_range (f := f)]
  have e : ∀ s, ∑ k : Fin b, f (b * s + k.val) = ∑ k ∈ Finset.range b, f (b * s + k) := fun s =>
    (Finset.sum_range (fun k => f (b * s + k))).symm
  simp only [e]
  induction a with
  | zero => simp
  | succ a ih => rw [Finset.sum_range_succ, ih, Nat.succ_mul, Finset.sum_range_add, Nat.mul_comm]

/-- A sum over the tokens kept in eight rows: row `i` adds the tokens `8 k + i`. -/
def eighth (T : Mat 16384 1024) : Mat 8 1024 :=
  fun i j => ∑ k : Fin 2048, T ⟨8 * k.val + i.val, by omega⟩ j

omit H in
theorem parts (T : Mat 16384 1024) (i : Fin 8) (j : Fin 1024) :
    ∑ s ∈ Finset.range 64, part (tok s) T i j = eighth T i j := by
  have h := sum_blocks 64 32 fun n => T ⟨(8 * n + i.val) % 16384, Nat.mod_lt _ (by norm_num)⟩ j
  refine Eq.trans (Finset.sum_congr rfl fun s _ => Finset.sum_congr rfl fun k _ => ?_) (h.trans (Finset.sum_congr rfl fun k _ => ?_))
  · refine congrArg (fun q => T q j) (Fin.ext ?_)
    show (256 * s + (8 * k.val + i.val)) % 16384 = (8 * (32 * s + k.val) + i.val) % 16384
    congr 1; ring
  · refine congrArg (fun q => T q j) (Fin.ext ?_)
    have hk : k.val < 2048 := k.isLt
    show (8 * k.val + i.val) % 16384 = 8 * k.val + i.val
    omega

omit H in
theorem h63 : 63 < cfg0.N := by rw [show cfg0.N = 64 from N_0]; norm_num

omit H in
theorem whole63 : (cfg0.win 12).WholeAt ⟨63, h63⟩ := by decide +kernel

omit H in
theorem whole12 : ∀ t : Fin cfg0.N, t.val = 63 → (cfg0.win 12).WholeAt t := by
  rintro ⟨n, hn⟩ h
  subst h
  exact whole63

theorem after12 (t : Fin cfg0.N) : Re (s := S48x1024) ((dats m 0 c).after 12 t)
    (c2 (stack fun k i j => ∑ s ∈ Finset.range (t.val + 1), part (tok s) (token X0 X1 X2 X3 X4 X5 k) i j)) := by
  rw [after0_12]
  exact pt12 H t.val t.isLt

/-- The array of the sums. -/
theorem arr12 : (dats m 0 c).arrAt 12 cfg0.N = fun i : S48x1024.Idx => ((c2 (stack fun k => eighth (token X0 X1 X2 X3 X4 X5 k)) i : ℝ) : EReal) := by
  obtain ⟨t, ht⟩ : ∃ t : Fin cfg0.N, t.val = 63 := ⟨⟨63, h63⟩, rfl⟩
  refine (dats m 0 c).arrAt_eq_of_after_last 12 t (whole12 t ht) _ fun y => ?_
  refine (after12 H t _).trans (congrArg (Real.toEReal) ?_)
  rw [ht]
  show stack _ _ _ = stack _ _ _
  congr 1
  funext k a b
  exact parts _ a b

omit H in
/-- Six arrays of eight rows joined along the rows. -/
theorem re_join (S : Fin 6 → Mat 8 1024) {w0 w1 w2 w3 w4 w5 : S8x1024.Idx → EReal}
    (h0 : Re w0 (c2 (S 0))) (h1 : Re w1 (c2 (S 1))) (h2 : Re w2 (c2 (S 2))) (h3 : Re w3 (c2 (S 3))) (h4 : Re w4 (c2 (S 4))) (h5 : Re w5 (c2 (S 5)))
    (hc : Shape.Concatenates ([(⟨S8x1024, w0⟩ : (s : Shape) × (s.Idx → EReal)), ⟨S8x1024, w1⟩, ⟨S8x1024, w2⟩, ⟨S8x1024, w3⟩, ⟨S8x1024, w4⟩, ⟨S8x1024, w5⟩].map (·.1)) S48x1024 0) :
    Re (s := S48x1024) (concatenate S48x1024 0 [(⟨S8x1024, w0⟩ : (s : Shape) × (s.Idx → EReal)), ⟨S8x1024, w1⟩, ⟨S8x1024, w2⟩, ⟨S8x1024, w3⟩, ⟨S8x1024, w4⟩, ⟨S8x1024, w5⟩] hc) (c2 (stack S)) := by
  intro y
  have hy : (y 0).val < 48 := (y 0).isLt
  have key : ∀ (k : Fin 6) (w : S8x1024.Idx → EReal) (_ : Re w (c2 (S k))) (h : (y 0).val / 8 = k.val)
      (_ : concatenate S48x1024 0 [(⟨S8x1024, w0⟩ : (s : Shape) × (s.Idx → EReal)), ⟨S8x1024, w1⟩, ⟨S8x1024, w2⟩, ⟨S8x1024, w3⟩, ⟨S8x1024, w4⟩, ⟨S8x1024, w5⟩] hc y
        = w (ValueIdx.ix2 ⟨(y 0).val % 8, Nat.mod_lt _ (by norm_num)⟩ (y 1))),
      concatenate S48x1024 0 [(⟨S8x1024, w0⟩ : (s : Shape) × (s.Idx → EReal)), ⟨S8x1024, w1⟩, ⟨S8x1024, w2⟩, ⟨S8x1024, w3⟩, ⟨S8x1024, w4⟩, ⟨S8x1024, w5⟩] hc y
        = ((stack S (y 0) (y 1) : ℝ) : EReal) := by
    intro k w hw h e
    rw [e]
    refine (hw _).trans (congrArg (Real.toEReal) ?_)
    have e1 : (⟨(y 0).val / 8, by omega⟩ : Fin 6) = k := Fin.ext h
    show S k ⟨(y 0).val % 8, _⟩ (y 1) = S ⟨(y 0).val / 8, _⟩ ⟨(y 0).val % 8, _⟩ (y 1)
    rw [e1]
  have hk : (y 0).val / 8 < 6 := by omega
  have off : ∀ b : Fin S8x1024.rank, b.cast (rfl : S8x1024.rank = S48x1024.rank) ≠ 0 →
      ((ValueIdx.ix2 ⟨(y 0).val % 8, Nat.mod_lt _ (by norm_num)⟩ (y 1) : S8x1024.Idx) b).val = (y (b.cast rfl)).val := by
    intro b hb
    match b with
    | 0 => exact absurd rfl hb
    | 1 => rfl
  rcases (by omega : (y 0).val / 8 = 0 ∨ (y 0).val / 8 = 1 ∨ (y 0).val / 8 = 2 ∨ (y 0).val / 8 = 3 ∨ (y 0).val / 8 = 4 ∨ (y 0).val / 8 = 5) with h | h | h | h | h | h
  · exact key 0 w0 h0 h (concatenate_apply_piece 0 _ hc y 0 (by show 0 < 6; norm_num) S8x1024 w0 rfl rfl 0 rfl
      (ValueIdx.ix2 ⟨(y 0).val % 8, Nat.mod_lt _ (by norm_num)⟩ (y 1)) off (by show 0 + (y 0).val % 8 = (y 0).val; omega))
  · exact key 1 w1 h1 h (concatenate_apply_piece 0 _ hc y 1 (by show 1 < 6; norm_num) S8x1024 w1 rfl rfl 8 rfl
      (ValueIdx.ix2 ⟨(y 0).val % 8, Nat.mod_lt _ (by norm_num)⟩ (y 1)) off (by show 8 + (y 0).val % 8 = (y 0).val; omega))
  · exact key 2 w2 h2 h (concatenate_apply_piece 0 _ hc y 2 (by show 2 < 6; norm_num) S8x1024 w2 rfl rfl 16 rfl
      (ValueIdx.ix2 ⟨(y 0).val % 8, Nat.mod_lt _ (by norm_num)⟩ (y 1)) off (by show 16 + (y 0).val % 8 = (y 0).val; omega))
  · exact key 3 w3 h3 h (concatenate_apply_piece 0 _ hc y 3 (by show 3 < 6; norm_num) S8x1024 w3 rfl rfl 24 rfl
      (ValueIdx.ix2 ⟨(y 0).val % 8, Nat.mod_lt _ (by norm_num)⟩ (y 1)) off (by show 24 + (y 0).val % 8 = (y 0).val; omega))
  · exact key 4 w4 h4 h (concatenate_apply_piece 0 _ hc y 4 (by show 4 < 6; norm_num) S8x1024 w4 rfl rfl 32 rfl
      (ValueIdx.ix2 ⟨(y 0).val % 8, Nat.mod_lt _ (by norm_num)⟩ (y 1)) off (by show 32 + (y 0).val % 8 = (y 0).val; omega))
  · exact key 5 w5 h5 h (concatenate_apply_piece 0 _ hc y 5 (by show 5 < 6; norm_num) S8x1024 w5 rfl rfl 40 rfl
      (ValueIdx.ix2 ⟨(y 0).val % 8, Nat.mod_lt _ (by norm_num)⟩ (y 1)) off (by show 40 + (y 0).val % 8 = (y 0).val; omega))

omit H in
/-- The reference's sums. -/
theorem t_v132 {x0 x1 : S16384x1024.Idx → EReal} {x2 : S8x1024.Idx → EReal} {x3 x4 : S1024x2816.Idx → EReal} {x5 : S2816x1024.Idx → EReal}
    (h0 : Re x0 (c2 X0)) (h1 : Re x1 (c2 X1)) (h2 : Re x2 (c2 X2)) (h3 : Re x3 (c2 X3)) (h4 : Re x4 (c2 X4)) (h5 : Re x5 (c2 X5)) :
    Re (s := S48x1024) (Cert.FfnRefIdeal.Read.val_main_v132 (F := Ideal) x0 x1 x2 x3 x4 x5) (c2 (stack fun k => eighth (token X0 X1 X2 X3 X4 X5 k))) :=
  re_join (fun k => eighth (token X0 X1 X2 X3 X4 X5 k)) (t_v115 h0 h1 h2 h3 h4 h5) (t_v117 h0 h1 h2 h3 h4 h5) (t_v119 h0 h1 h2 h3 h4 h5)
    (t_v121 h0 h1 h2 h3 h4 h5) (t_v123 h0 h1 h2 h3 h4 h5) (t_v125 h0 h1 h2 h3 h4 h5) _

/-! The precondition. -/

omit H in
/-- A mask that says an entry is below infinity in absolute value. -/
theorem real_of_mask {x : EReal} (h : FloatOps.cmpf (F := Ideal) (φ := .f32) .olt (max x (-x)) (Ideal.ofBits .f32 0x7F800000#32) = 1#1) :
    x = ((x.toReal : ℝ) : EReal) := by
  refine real_of_abs ?_
  rw [w_inf] at h
  by_contra hn
  have e : FloatOps.cmpf (F := Ideal) (φ := .f32) .olt (max x (-x)) (⊤ : EReal) = BitVec.ofBool (decide (max x (-x) < ⊤)) := rfl
  rw [e, decide_eq_false hn] at h
  exact absurd h (by decide)

omit H in
/-- An array all of whose entries are numbers is an array of reals. -/
theorem re_of_entries {a b : ℕ} {x : (⟨2, ![a, b]⟩ : Shape).Idx → EReal} (h : ∀ i, x i = (((x i).toReal : ℝ) : EReal)) :
    Re x (c2 fun i j => (x (ValueIdx.ix2 i j)).toReal) := by
  intro i
  have e : i = ValueIdx.ix2 (i 0) (i 1) := by
    funext k
    match k with
    | 0 => rfl
    | 1 => rfl
  refine (h i).trans (congrArg (fun q => (((x q).toReal : ℝ) : EReal)) e)

omit H in
/-- Under the precondition the arguments are arrays of reals. -/
theorem ins_of_pre {m : (ℓ : Loc nD τ sig) → Buf (Elt Ideal) ℓ} (h : Cert.Pre_FfnIdeal_finite (hPre_finite := Cert.Pre_finite.Gen.facts) m) (c : Dev nD) :
    ∃ X0 X1 X2 X3 X4 X5, Ins m c X0 X1 X2 X3 X4 X5 := by
  obtain ⟨p0, p1, p2, p3, p4, p5⟩ := h c
  exact ⟨_, _, _, _, _, _, re_of_entries fun i => real_of_mask (congrFun p0 i), re_of_entries fun i => real_of_mask (congrFun p1 i),
    re_of_entries fun i => real_of_mask (congrFun p2 i), re_of_entries fun i => real_of_mask (congrFun p3 i),
    re_of_entries fun i => real_of_mask (congrFun p4 i), re_of_entries fun i => real_of_mask (congrFun p5 i)⟩

omit H in
/-- The kernel's arrays are the reference's. -/
theorem values : Cert.algebraic_FfnIdeal_FfnRefIdeal_pre_finite := by
  intro m g m' g' hpre harg
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, run_blocks m g, ?_⟩
  refine (θ_run _ _ _).mono (fun r h c => ?_) (Cert.FfnRefIdeal.Value.run m' g')
  obtain ⟨e0, e1, e2, e3, e4, e5⟩ := harg c
  obtain ⟨X0, X1, X2, X3, X4, X5, H⟩ := ins_of_pre hpre c
  obtain ⟨r6, r7, r8, r9, r10, r11, r12, hk⟩ := h c
  have k0 : Re (s := S16384x1024) (m' ((c.tc : Thread Cert.FfnRefIdeal.nD Cert.FfnRefIdeal.τ).loc Cert.FfnRefIdeal.main_arg0)) (c2 X0) := by rw [e0]; exact H.h0
  have k1 : Re (s := S16384x1024) (m' ((c.tc : Thread Cert.FfnRefIdeal.nD Cert.FfnRefIdeal.τ).loc Cert.FfnRefIdeal.main_arg1)) (c2 X1) := by rw [e1]; exact H.h1
  have k2 : Re (s := S8x1024) (m' ((c.tc : Thread Cert.FfnRefIdeal.nD Cert.FfnRefIdeal.τ).loc Cert.FfnRefIdeal.main_arg2)) (c2 X2) := by rw [e2]; exact H.h2
  have k3 : Re (s := S1024x2816) (m' ((c.tc : Thread Cert.FfnRefIdeal.nD Cert.FfnRefIdeal.τ).loc Cert.FfnRefIdeal.main_arg3)) (c2 X3) := by rw [e3]; exact H.h3
  have k4 : Re (s := S1024x2816) (m' ((c.tc : Thread Cert.FfnRefIdeal.nD Cert.FfnRefIdeal.τ).loc Cert.FfnRefIdeal.main_arg4)) (c2 X4) := by rw [e4]; exact H.h4
  have k5 : Re (s := S2816x1024) (m' ((c.tc : Thread Cert.FfnRefIdeal.nD Cert.FfnRefIdeal.τ).loc Cert.FfnRefIdeal.main_arg5)) (c2 X5) := by rw [e5]; exact H.h5
  refine ⟨r6.trans ?_, r7.trans ?_, r8.trans ?_, r9.trans ?_, r10.trans ?_, r11.trans ?_, r12.trans ?_, hk⟩
  · refine (Cert.FfnRefIdeal.Read.val_main_v126_eq (F := Ideal) (StableHlo.launchContents m' c)).trans (Eq.trans ?_ (arr6 H).symm)
    exact funext fun i => t_v126 k0 k1 k2 k3 k4 k5 i
  · refine (Cert.FfnRefIdeal.Read.val_main_v127_eq (F := Ideal) (StableHlo.launchContents m' c)).trans (Eq.trans ?_ (arr7 H).symm)
    exact funext fun i => t_v127 k0 k2 i
  · refine (Cert.FfnRefIdeal.Read.val_main_v128_eq (F := Ideal) (StableHlo.launchContents m' c)).trans (Eq.trans ?_ (arr8 H).symm)
    exact funext fun i => t_v128 k0 k2 k3 k4 i
  · refine (Cert.FfnRefIdeal.Read.val_main_v129_eq (F := Ideal) (StableHlo.launchContents m' c)).trans (Eq.trans ?_ (arr9 H).symm)
    exact funext fun i => t_v129 k0 k1 k2 k3 k4 k5 i
  · refine (Cert.FfnRefIdeal.Read.val_main_v130_eq (F := Ideal) (StableHlo.launchContents m' c)).trans (Eq.trans ?_ (arr10 H).symm)
    exact funext fun i => t_v130 k0 k1 k2 k3 k4 k5 i
  · refine (Cert.FfnRefIdeal.Read.val_main_v131_eq (F := Ideal) (StableHlo.launchContents m' c)).trans (Eq.trans ?_ (arr11 H).symm)
    exact funext fun i => t_v131 k0 k1 k2 k3 k4 k5 i
  · refine (Cert.FfnRefIdeal.Read.val_main_v132_eq (F := Ideal) (StableHlo.launchContents m' c)).trans (Eq.trans ?_ (arr12 H).symm)
    exact funext fun i => t_v132 k0 k1 k2 k3 k4 k5 i

omit H in
/-- The reference ends with its arguments unchanged and every counter at zero. -/
theorem frame_ref : Cert.quiescent_FfnRefIdeal := fun m ρ _ =>
  (θ_run Cert.FfnRefIdeal.defs _ _).mono (fun r h => ⟨fun c => (h c).2.2.2.2.2.2.2, Idealize.ShloMosaic.sem_eq_zero_of_no_sems (by decide) r.2⟩)
    (Cert.FfnRefIdeal.Value.run (F := Ideal) m ρ)

end Cert.FfnIdeal.Val
-- ==== Proof.Sums.lean ====
/-
  Arrays of rank two read at natural coordinates, and a sum over all rows as a sum of sums over row blocks.
-/
module

public import Idealize.ShloMosaic.Lib.ValueIdx
public import Idealize.ShloMosaic.PureOps.Ideal.Laws

@[expose] public section

noncomputable section

namespace Cert.Sums

open Idealize.ShloMosaic Idealize.ShloMosaic.ValueIdx

/-- The entry of `x` in row `a` and column `b`; zero outside the array. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

/-- An index of the array reads the entry at its two coordinates. -/
theorem eq_at2 {n0 n1 : ℕ} (x : (⟨2, ![n0, n1]⟩ : Shape).Idx → EReal) (i : (⟨2, ![n0, n1]⟩ : Shape).Idx)
    (a b : ℕ) (ha : (i 0).val = a) (hb : (i 1).val = b) : x i = at2 x a b := by
  subst ha; subst hb
  rw [at2, dif_pos ⟨(i 0).isLt, (i 1).isLt⟩]
  exact congrArg x (eq_ix2 i)

/-- Summing over `a` blocks of `b` rows each is summing over all the rows. -/
theorem sum_blocks (a b : ℕ) (f : ℕ → EReal) :
    ∑ s ∈ Finset.range a, ∑ k : Fin b, f (b * s + k.val) = ∑ k : Fin (a * b), f k.val := by
  rw [← Finset.sum_range (f := f)]
  have e : ∀ s, ∑ k : Fin b, f (b * s + k.val) = ∑ k ∈ Finset.range b, f (b * s + k) := fun s =>
    (Finset.sum_range (fun k => f (b * s + k))).symm
  simp only [e]
  induction a with
  | zero => simp
  | succ a ih => rw [Finset.sum_range_succ, ih, Nat.succ_mul, Finset.sum_range_add, Nat.mul_comm]

end Cert.Sums
-- ==== Proof.WgradGateVal.lean ====
/-
  The weight gradient `gate and up`: the array the kernel leaves is, entry by entry, the sum over all the tokens
  of the products of the two activations, the one the reference states.
-/
module

public import proofs.«01_k».proof.Proof.Sums
public import proofs.«01_k».proof.Proof.Dots
public import proofs.«01_k».proof.Proof.Gen.WgradGateIdeal.Value
public import proofs.«01_k».proof.Proof.Gen.WgradGateRefIdeal.Read
public import proofs.«01_k».proof.Defs
public import Idealize.ShloMosaic.Lib.Quiescent

@[expose] public section

noncomputable section

namespace Cert.WgradGateIdeal.Val

open Cert.WgradGateIdeal Cert.WgradGateIdeal.Gen Cert.WgradGateIdeal.Value Idealize.ShloMosaic Idealize.ShloMosaic.TcCoe Idealize.SL.Sem
open Idealize.ShloMosaic.ValueIdx Cert.Sums

variable (m : (ℓ : Loc nD τ sig) → Buf (Elt Ideal) ℓ)

/-- The two activations at a device. -/
abbrev lhs (c : Dev nD) : (⟨2, ![16384, 1024]⟩ : Shape).Idx → EReal := m ((c : Thread nD τ).loc main_arg0)
abbrev rhs (c : Dev nD) : (⟨2, ![16384, 2816]⟩ : Shape).Idx → EReal := m ((c : Thread nD τ).loc main_arg1)

theorem idx0 : ∀ t : Fin cfg0.N, win0_0.index t (0 : Fin 2) = t.val % 8 ∧ win0_0.index t (1 : Fin 2) = t.val / 8 :=
  (by decide +kernel : ∀ t : Fin grid0.N, _)
theorem idx1 : ∀ t : Fin cfg0.N, win0_1.index t (0 : Fin 2) = t.val % 8 ∧ win0_1.index t (1 : Fin 2) = 0 :=
  (by decide +kernel : ∀ t : Fin grid0.N, _)

theorem blk0 (c : Dev nD) (t : Fin cfg0.N) (j : S2048x512.Idx) :
    (iblk m c 0 t : Vec Ideal S2048x512 .bf16) j = at2 (lhs m c) (2048 * (t.val % 8) + (j 0).val) (512 * (t.val / 8) + (j 1).val) := by
  have e : (iblk m c 0 t : Vec Ideal S2048x512 .bf16) j = lhs m c (((cfg0.win 0).blk t).view.emb j) := rfl
  rw [e]
  refine eq_at2 _ _ _ _ ?_ ?_
  · show win0_0.index t (0 : Fin 2) * 2048 + 1 * (j 0).val = _
    rw [(idx0 t).1]; omega
  · show win0_0.index t (1 : Fin 2) * 512 + 1 * (j 1).val = _
    rw [(idx0 t).2]; omega

theorem blk1 (c : Dev nD) (t : Fin cfg0.N) (j : S2048x2816.Idx) :
    (iblk m c 1 t : Vec Ideal S2048x2816 .bf16) j = at2 (rhs m c) (2048 * (t.val % 8) + (j 0).val) (j 1).val := by
  have e : (iblk m c 1 t : Vec Ideal S2048x2816 .bf16) j = rhs m c (((cfg0.win 1).blk t).view.emb j) := rfl
  rw [e]
  refine eq_at2 _ _ _ _ ?_ ?_
  · show win0_1.index t (0 : Fin 2) * 2048 + 1 * (j 0).val = _
    rw [(idx1 t).1]; omega
  · show win0_1.index t (1 : Fin 2) * 2816 + 1 * (j 1).val = _
    rw [(idx1 t).2]; omega

/-- One step adds to each entry the products of one block of tokens. -/
theorem pay_apply (acc : Vec Ideal S512x2816 .f32) (l : Vec Ideal S2048x512 .bf16) (r : Vec Ideal S2048x2816 .bf16) (i : S512x2816.Idx) :
    k0_pay2 acc l r i = acc i + ∑ k : Fin 2048, (l (ix2 k (i 0)) * r (ix2 k (i 1)) : EReal) := by
  unfold k0_pay2
  simp only [shapeCast_self]
  exact congrArg (acc i + ·) (Dots.tn_apply _ none l r i)

/-- What point `n` adds at an entry of the block. -/
def addend (c : Dev nD) (n : ℕ) (i : S512x2816.Idx) : EReal :=
  ∑ k : Fin 2048, at2 (lhs m c) (2048 * (n % 8) + k.val) (512 * (n / 8) + (i 0).val) * at2 (rhs m c) (2048 * (n % 8) + k.val) (i 1).val

theorem step_apply (c : Dev nD) (n : ℕ) (h : n < cfg0.N) (acc : Vec Ideal S512x2816 .f32) (i : S512x2816.Idx) :
    step2 m c n h acc i = acc i + addend m c n i := by
  unfold step2 addend
  rw [pay_apply]
  congr 1
  refine Finset.sum_congr rfl fun k _ => ?_
  rw [blk0, blk1]

theorem reset_apply (c : Dev nD) (n : ℕ) (h : n < cfg0.N) (i : S512x2816.Idx) :
    reset2 m c n h i = 0 + addend m c n i := by
  refine (step_apply m c n h _ i).trans ?_
  congr 1
  exact Ideal.ofBits_zero_f32

/-- The array the kernel leaves. -/
theorem out_apply (c : Dev nD) (i : S1024x2816.Idx) :
    G2 m c i = (∑ k : Fin 16384, at2 (lhs m c) k.val (i 0).val * at2 (rhs m c) k.val (i 1).val : EReal) := by
  have h0 : (i 0).val < 1024 := (i 0).isLt
  have h1 : (i 1).val < 2816 := (i 1).isLt
  have hr : run2Of i = (i 0).val / 512 := by
    show 1 * ((i 0).val / 512 - 0) + 1 * ((i 1).val / 2816 - 0) = _
    omega
  have hN : cfg0.N = 16 := N_0
  unfold G2
  rw [dif_pos (by rw [hr, hN]; omega)]
  refine (Pipeline.accAt_add_apply (β := EReal) (reset2 m c) (step2 m c) (fun _ => 0) (addend m c) (8 * run2Of i) 7
    (fun h j => reset_apply m c _ h j) (fun n h acc j _ _ => step_apply m c n h acc j) 7 le_rfl _ _).trans ?_
  have hs := sum_blocks 8 2048 fun n => at2 (lhs m c) n (i 0).val * at2 (rhs m c) n (i 1).val
  refine (zero_add (M := EReal) _).trans ?_
  refine Eq.trans ?_ hs
  refine Finset.sum_congr rfl fun s hs => ?_
  have hs8 : s < 8 := Finset.mem_range.1 hs
  unfold addend
  rw [hr, show (8 * ((i 0).val / 512) + s) % 8 = s by omega, show (8 * ((i 0).val / 512) + s) / 8 = (i 0).val / 512 by omega]
  refine Finset.sum_congr rfl fun k _ => ?_
  show at2 (lhs m c) _ (512 * ((i 0).val / 512) + (i 0).val % 512) * at2 (rhs m c) _ ((i 1).val % 2816) = _
  rw [show 512 * ((i 0).val / 512) + (i 0).val % 512 = (i 0).val by omega, show (i 1).val % 2816 = (i 1).val by omega]

/-- The reference's array. -/
theorem ref_apply (x0 : (⟨2, ![16384, 1024]⟩ : Shape).Idx → EReal) (x1 : (⟨2, ![16384, 2816]⟩ : Shape).Idx → EReal) (i : S1024x2816.Idx) :
    Cert.WgradGateRefIdeal.Read.val_main_v5 (F := Ideal) x0 x1 i = (∑ k : Fin 16384, at2 x0 k.val (i 0).val * at2 x1 k.val (i 1).val : EReal) := by
  rw [Cert.WgradGateRefIdeal.Read.val_main_v5_apply, Cert.WgradGateRefIdeal.Read.val_main_v4_apply]
  skip
  refine Finset.sum_congr rfl fun k _ => ?_
  refine (mul_comm (G := EReal) _ _).trans ?_
  exact congrArg₂ (· * ·) (eq_at2 x0 _ _ _ rfl rfl) (eq_at2 x1 _ _ _ rfl rfl)

/-- The kernel's array is the reference's. -/
theorem values : Cert.algebraic_WgradGateIdeal_WgradGateRefIdeal := by
  intro m g m' g' _ harg
  refine ⟨fun c => G2 m c, run m g, ?_⟩
  refine (θ_run _ _ _).mono (fun r h c => ?_) (Cert.WgradGateRefIdeal.Value.run m' g')
  obtain ⟨h0, hk⟩ := h c
  refine ⟨h0.trans ?_, hk⟩
  funext i
  refine (ref_apply (m' ((c.tc : Thread Cert.WgradGateRefIdeal.nD Cert.WgradGateRefIdeal.τ).loc Cert.WgradGateRefIdeal.main_arg0)) (m' ((c.tc : Thread Cert.WgradGateRefIdeal.nD Cert.WgradGateRefIdeal.τ).loc Cert.WgradGateRefIdeal.main_arg1)) i).trans ?_
  refine Eq.trans ?_ (out_apply m c i).symm
  have e0 := (harg c).1
  have e1 := (harg c).2
  skip
  rw [e0, e1]

/-- The reference ends with its arguments unchanged and every counter at zero. -/
theorem frame_ref : Cert.quiescent_WgradGateRefIdeal := fun m ρ _ =>
  (θ_run Cert.WgradGateRefIdeal.defs _ _).mono (fun r h => ⟨fun c => (h c).2, Idealize.ShloMosaic.sem_eq_zero_of_no_sems (by decide) r.2⟩)
    (Cert.WgradGateRefIdeal.Value.run (F := Ideal) m ρ)

end Cert.WgradGateIdeal.Val
-- ==== Proof.WgradDownVal.lean ====
/-
  The weight gradient `down`: the array the kernel leaves is, entry by entry, the sum over all the tokens
  of the products of the two activations, the one the reference states.
-/
module

public import proofs.«01_k».proof.Proof.Sums
public import proofs.«01_k».proof.Proof.Dots
public import proofs.«01_k».proof.Proof.Gen.WgradDownIdeal.Value
public import proofs.«01_k».proof.Proof.Gen.WgradDownRefIdeal.Read
public import proofs.«01_k».proof.Defs
public import Idealize.ShloMosaic.Lib.Quiescent

@[expose] public section

noncomputable section

namespace Cert.WgradDownIdeal.Val

open Cert.WgradDownIdeal Cert.WgradDownIdeal.Gen Cert.WgradDownIdeal.Value Idealize.ShloMosaic Idealize.ShloMosaic.TcCoe Idealize.SL.Sem
open Idealize.ShloMosaic.ValueIdx Cert.Sums

variable (m : (ℓ : Loc nD τ sig) → Buf (Elt Ideal) ℓ)

/-- The two activations at a device. -/
abbrev lhs (c : Dev nD) : (⟨2, ![16384, 2816]⟩ : Shape).Idx → EReal := m ((c : Thread nD τ).loc main_arg0)
abbrev rhs (c : Dev nD) : (⟨2, ![16384, 1024]⟩ : Shape).Idx → EReal := m ((c : Thread nD τ).loc main_arg1)

theorem idx0 : ∀ t : Fin cfg0.N, win0_0.index t (0 : Fin 2) = t.val % 8 ∧ win0_0.index t (1 : Fin 2) = t.val / 8 :=
  (by decide +kernel : ∀ t : Fin grid0.N, _)
theorem idx1 : ∀ t : Fin cfg0.N, win0_1.index t (0 : Fin 2) = t.val % 8 ∧ win0_1.index t (1 : Fin 2) = 0 :=
  (by decide +kernel : ∀ t : Fin grid0.N, _)

theorem blk0 (c : Dev nD) (t : Fin cfg0.N) (j : S2048x1408.Idx) :
    (iblk m c 0 t : Vec Ideal S2048x1408 .bf16) j = at2 (lhs m c) (2048 * (t.val % 8) + (j 0).val) (1408 * (t.val / 8) + (j 1).val) := by
  have e : (iblk m c 0 t : Vec Ideal S2048x1408 .bf16) j = lhs m c (((cfg0.win 0).blk t).view.emb j) := rfl
  rw [e]
  refine eq_at2 _ _ _ _ ?_ ?_
  · show win0_0.index t (0 : Fin 2) * 2048 + 1 * (j 0).val = _
    rw [(idx0 t).1]; omega
  · show win0_0.index t (1 : Fin 2) * 1408 + 1 * (j 1).val = _
    rw [(idx0 t).2]; omega

theorem blk1 (c : Dev nD) (t : Fin cfg0.N) (j : S2048x1024.Idx) :
    (iblk m c 1 t : Vec Ideal S2048x1024 .bf16) j = at2 (rhs m c) (2048 * (t.val % 8) + (j 0).val) (j 1).val := by
  have e : (iblk m c 1 t : Vec Ideal S2048x1024 .bf16) j = rhs m c (((cfg0.win 1).blk t).view.emb j) := rfl
  rw [e]
  refine eq_at2 _ _ _ _ ?_ ?_
  · show win0_1.index t (0 : Fin 2) * 2048 + 1 * (j 0).val = _
    rw [(idx1 t).1]; omega
  · show win0_1.index t (1 : Fin 2) * 1024 + 1 * (j 1).val = _
    rw [(idx1 t).2]; omega

/-- One step adds to each entry the products of one block of tokens. -/
theorem pay_apply (acc : Vec Ideal S1408x1024 .f32) (l : Vec Ideal S2048x1408 .bf16) (r : Vec Ideal S2048x1024 .bf16) (i : S1408x1024.Idx) :
    k0_pay2 acc l r i = acc i + ∑ k : Fin 2048, (l (ix2 k (i 0)) * r (ix2 k (i 1)) : EReal) := by
  unfold k0_pay2
  simp only [shapeCast_self]
  exact congrArg (acc i + ·) (Dots.tn_apply _ none l r i)

/-- What point `n` adds at an entry of the block. -/
def addend (c : Dev nD) (n : ℕ) (i : S1408x1024.Idx) : EReal :=
  ∑ k : Fin 2048, at2 (lhs m c) (2048 * (n % 8) + k.val) (1408 * (n / 8) + (i 0).val) * at2 (rhs m c) (2048 * (n % 8) + k.val) (i 1).val

theorem step_apply (c : Dev nD) (n : ℕ) (h : n < cfg0.N) (acc : Vec Ideal S1408x1024 .f32) (i : S1408x1024.Idx) :
    step2 m c n h acc i = acc i + addend m c n i := by
  unfold step2 addend
  rw [pay_apply]
  congr 1
  refine Finset.sum_congr rfl fun k _ => ?_
  rw [blk0, blk1]

theorem reset_apply (c : Dev nD) (n : ℕ) (h : n < cfg0.N) (i : S1408x1024.Idx) :
    reset2 m c n h i = 0 + addend m c n i := by
  refine (step_apply m c n h _ i).trans ?_
  congr 1
  exact Ideal.ofBits_zero_f32

/-- The array the kernel leaves. -/
theorem out_apply (c : Dev nD) (i : S2816x1024.Idx) :
    G2 m c i = (∑ k : Fin 16384, at2 (lhs m c) k.val (i 0).val * at2 (rhs m c) k.val (i 1).val : EReal) := by
  have h0 : (i 0).val < 2816 := (i 0).isLt
  have h1 : (i 1).val < 1024 := (i 1).isLt
  have hr : run2Of i = (i 0).val / 1408 := by
    show 1 * ((i 0).val / 1408 - 0) + 1 * ((i 1).val / 1024 - 0) = _
    omega
  have hN : cfg0.N = 16 := N_0
  unfold G2
  rw [dif_pos (by rw [hr, hN]; omega)]
  refine (Pipeline.accAt_add_apply (β := EReal) (reset2 m c) (step2 m c) (fun _ => 0) (addend m c) (8 * run2Of i) 7
    (fun h j => reset_apply m c _ h j) (fun n h acc j _ _ => step_apply m c n h acc j) 7 le_rfl _ _).trans ?_
  have hs := sum_blocks 8 2048 fun n => at2 (lhs m c) n (i 0).val * at2 (rhs m c) n (i 1).val
  refine (zero_add (M := EReal) _).trans ?_
  refine Eq.trans ?_ hs
  refine Finset.sum_congr rfl fun s hs => ?_
  have hs8 : s < 8 := Finset.mem_range.1 hs
  unfold addend
  rw [hr, show (8 * ((i 0).val / 1408) + s) % 8 = s by omega, show (8 * ((i 0).val / 1408) + s) / 8 = (i 0).val / 1408 by omega]
  refine Finset.sum_congr rfl fun k _ => ?_
  show at2 (lhs m c) _ (1408 * ((i 0).val / 1408) + (i 0).val % 1408) * at2 (rhs m c) _ ((i 1).val % 1024) = _
  rw [show 1408 * ((i 0).val / 1408) + (i 0).val % 1408 = (i 0).val by omega, show (i 1).val % 1024 = (i 1).val by omega]

/-- The reference's array. -/
theorem ref_apply (x0 : (⟨2, ![16384, 2816]⟩ : Shape).Idx → EReal) (x1 : (⟨2, ![16384, 1024]⟩ : Shape).Idx → EReal) (i : S2816x1024.Idx) :
    Cert.WgradDownRefIdeal.Read.val_main_v5 (F := Ideal) x0 x1 i = (∑ k : Fin 16384, at2 x0 k.val (i 0).val * at2 x1 k.val (i 1).val : EReal) := by
  rw [Cert.WgradDownRefIdeal.Read.val_main_v5_apply, Cert.WgradDownRefIdeal.Read.val_main_v4_apply]
  skip
  refine Finset.sum_congr rfl fun k _ => ?_
  refine (mul_comm (G := EReal) _ _).trans ?_
  exact congrArg₂ (· * ·) (eq_at2 x0 _ _ _ rfl rfl) (eq_at2 x1 _ _ _ rfl rfl)

/-- The kernel's array is the reference's. -/
theorem values : Cert.algebraic_WgradDownIdeal_WgradDownRefIdeal := by
  intro m g m' g' _ harg
  refine ⟨fun c => G2 m c, run m g, ?_⟩
  refine (θ_run _ _ _).mono (fun r h c => ?_) (Cert.WgradDownRefIdeal.Value.run m' g')
  obtain ⟨h0, hk⟩ := h c
  refine ⟨h0.trans ?_, hk⟩
  funext i
  refine (ref_apply (m' ((c.tc : Thread Cert.WgradDownRefIdeal.nD Cert.WgradDownRefIdeal.τ).loc Cert.WgradDownRefIdeal.main_arg0)) (m' ((c.tc : Thread Cert.WgradDownRefIdeal.nD Cert.WgradDownRefIdeal.τ).loc Cert.WgradDownRefIdeal.main_arg1)) i).trans ?_
  refine Eq.trans ?_ (out_apply m c i).symm
  have e0 := (harg c).1
  have e1 := (harg c).2
  skip
  rw [e0, e1]

/-- The reference ends with its arguments unchanged and every counter at zero. -/
theorem frame_ref : Cert.quiescent_WgradDownRefIdeal := fun m ρ _ =>
  (θ_run Cert.WgradDownRefIdeal.defs _ _).mono (fun r h => ⟨fun c => (h c).2, Idealize.ShloMosaic.sem_eq_zero_of_no_sems (by decide) r.2⟩)
    (Cert.WgradDownRefIdeal.Value.run (F := Ideal) m ρ)

end Cert.WgradDownIdeal.Val
-- ==== Proof.WgradOutVal.lean ====
/-
  The weight gradient `output projection`: the array the kernel leaves is, entry by entry, the sum over all the tokens
  of the products of the two activations, the one the reference states.
-/
module

public import proofs.«01_k».proof.Proof.Sums
public import proofs.«01_k».proof.Proof.Dots
public import proofs.«01_k».proof.Proof.Gen.WgradOutIdeal.Value
public import proofs.«01_k».proof.Proof.Gen.WgradOutRefIdeal.Read
public import proofs.«01_k».proof.Defs
public import Idealize.ShloMosaic.Lib.Quiescent

@[expose] public section

noncomputable section

namespace Cert.WgradOutIdeal.Val

open Cert.WgradOutIdeal Cert.WgradOutIdeal.Gen Cert.WgradOutIdeal.Value Idealize.ShloMosaic Idealize.ShloMosaic.TcCoe Idealize.SL.Sem
open Idealize.ShloMosaic.ValueIdx Cert.Sums

variable (m : (ℓ : Loc nD τ sig) → Buf (Elt Ideal) ℓ)

/-- The two activations at a device. -/
abbrev lhs (c : Dev nD) : (⟨2, ![16384, 1024]⟩ : Shape).Idx → EReal := m ((c : Thread nD τ).loc main_arg0)
abbrev rhs (c : Dev nD) : (⟨2, ![16384, 1024]⟩ : Shape).Idx → EReal := m ((c : Thread nD τ).loc main_arg1)

theorem idx0 : ∀ t : Fin cfg0.N, win0_0.index t (0 : Fin 2) = t.val % 8 ∧ win0_0.index t (1 : Fin 2) = t.val / 8 :=
  (by decide +kernel : ∀ t : Fin grid0.N, _)
theorem idx1 : ∀ t : Fin cfg0.N, win0_1.index t (0 : Fin 2) = t.val % 8 ∧ win0_1.index t (1 : Fin 2) = 0 :=
  (by decide +kernel : ∀ t : Fin grid0.N, _)

theorem blk0 (c : Dev nD) (t : Fin cfg0.N) (j : S2048x1024.Idx) :
    (iblk m c 0 t : Vec Ideal S2048x1024 .bf16) j = at2 (lhs m c) (2048 * (t.val % 8) + (j 0).val) (1024 * (t.val / 8) + (j 1).val) := by
  have e : (iblk m c 0 t : Vec Ideal S2048x1024 .bf16) j = lhs m c (((cfg0.win 0).blk t).view.emb j) := rfl
  rw [e]
  refine eq_at2 _ _ _ _ ?_ ?_
  · show win0_0.index t (0 : Fin 2) * 2048 + 1 * (j 0).val = _
    rw [(idx0 t).1]; omega
  · show win0_0.index t (1 : Fin 2) * 1024 + 1 * (j 1).val = _
    rw [(idx0 t).2]; omega

theorem blk1 (c : Dev nD) (t : Fin cfg0.N) (j : S2048x1024.Idx) :
    (iblk m c 1 t : Vec Ideal S2048x1024 .bf16) j = at2 (rhs m c) (2048 * (t.val % 8) + (j 0).val) (j 1).val := by
  have e : (iblk m c 1 t : Vec Ideal S2048x1024 .bf16) j = rhs m c (((cfg0.win 1).blk t).view.emb j) := rfl
  rw [e]
  refine eq_at2 _ _ _ _ ?_ ?_
  · show win0_1.index t (0 : Fin 2) * 2048 + 1 * (j 0).val = _
    rw [(idx1 t).1]; omega
  · show win0_1.index t (1 : Fin 2) * 1024 + 1 * (j 1).val = _
    rw [(idx1 t).2]; omega

/-- One step adds to each entry the products of one block of tokens. -/
theorem pay_apply (acc : Vec Ideal S1024x1024 .f32) (l : Vec Ideal S2048x1024 .bf16) (r : Vec Ideal S2048x1024 .bf16) (i : S1024x1024.Idx) :
    k0_pay2 acc l r i = acc i + ∑ k : Fin 2048, (l (ix2 k (i 0)) * r (ix2 k (i 1)) : EReal) := by
  unfold k0_pay2
  simp only [shapeCast_self]
  exact congrArg (acc i + ·) (Dots.tn_apply _ none l r i)

/-- What point `n` adds at an entry of the block. -/
def addend (c : Dev nD) (n : ℕ) (i : S1024x1024.Idx) : EReal :=
  ∑ k : Fin 2048, at2 (lhs m c) (2048 * (n % 8) + k.val) (1024 * (n / 8) + (i 0).val) * at2 (rhs m c) (2048 * (n % 8) + k.val) (i 1).val

theorem step_apply (c : Dev nD) (n : ℕ) (h : n < cfg0.N) (acc : Vec Ideal S1024x1024 .f32) (i : S1024x1024.Idx) :
    step2 m c n h acc i = acc i + addend m c n i := by
  unfold step2 addend
  rw [pay_apply]
  congr 1
  refine Finset.sum_congr rfl fun k _ => ?_
  rw [blk0, blk1]

theorem reset_apply (c : Dev nD) (n : ℕ) (h : n < cfg0.N) (i : S1024x1024.Idx) :
    reset2 m c n h i = 0 + addend m c n i := by
  refine (step_apply m c n h _ i).trans ?_
  congr 1
  exact Ideal.ofBits_zero_f32

/-- The array the kernel leaves. -/
theorem out_apply (c : Dev nD) (i : S1024x1024.Idx) :
    G2 m c i = (∑ k : Fin 16384, at2 (lhs m c) k.val (i 0).val * at2 (rhs m c) k.val (i 1).val : EReal) := by
  have h0 : (i 0).val < 1024 := (i 0).isLt
  have h1 : (i 1).val < 1024 := (i 1).isLt
  have hr : run2Of i = (i 0).val / 1024 := by
    show 1 * ((i 0).val / 1024 - 0) + 1 * ((i 1).val / 1024 - 0) = _
    omega
  have hN : cfg0.N = 8 := N_0
  unfold G2
  rw [dif_pos (by rw [hr, hN]; omega)]
  refine (Pipeline.accAt_add_apply (β := EReal) (reset2 m c) (step2 m c) (fun _ => 0) (addend m c) (8 * run2Of i) 7
    (fun h j => reset_apply m c _ h j) (fun n h acc j _ _ => step_apply m c n h acc j) 7 le_rfl _ _).trans ?_
  have hs := sum_blocks 8 2048 fun n => at2 (lhs m c) n (i 0).val * at2 (rhs m c) n (i 1).val
  refine (zero_add (M := EReal) _).trans ?_
  refine Eq.trans ?_ hs
  refine Finset.sum_congr rfl fun s hs => ?_
  have hs8 : s < 8 := Finset.mem_range.1 hs
  unfold addend
  rw [hr, show (8 * ((i 0).val / 1024) + s) % 8 = s by omega, show (8 * ((i 0).val / 1024) + s) / 8 = (i 0).val / 1024 by omega]
  refine Finset.sum_congr rfl fun k _ => ?_
  show at2 (lhs m c) _ (1024 * ((i 0).val / 1024) + (i 0).val % 1024) * at2 (rhs m c) _ ((i 1).val % 1024) = _
  rw [show 1024 * ((i 0).val / 1024) + (i 0).val % 1024 = (i 0).val by omega, show (i 1).val % 1024 = (i 1).val by omega]

/-- The reference's array. -/
theorem ref_apply (x0 : (⟨2, ![16384, 1024]⟩ : Shape).Idx → EReal) (x1 : (⟨2, ![16384, 1024]⟩ : Shape).Idx → EReal) (i : S1024x1024.Idx) :
    Cert.WgradOutRefIdeal.Read.val_main_v5 (F := Ideal) x0 x1 i = (∑ k : Fin 16384, at2 x0 k.val (i 0).val * at2 x1 k.val (i 1).val : EReal) := by
  rw [Cert.WgradOutRefIdeal.Read.val_main_v5_apply, Cert.WgradOutRefIdeal.Read.val_main_v4_apply]
  skip
  refine Finset.sum_congr rfl fun k _ => ?_
  refine (mul_comm (G := EReal) _ _).trans ?_
  exact congrArg₂ (· * ·) (eq_at2 x0 _ _ _ rfl rfl) (eq_at2 x1 _ _ _ rfl rfl)

/-- The kernel's array is the reference's. -/
theorem values : Cert.algebraic_WgradOutIdeal_WgradOutRefIdeal := by
  intro m g m' g' _ harg
  refine ⟨fun c => G2 m c, run m g, ?_⟩
  refine (θ_run _ _ _).mono (fun r h c => ?_) (Cert.WgradOutRefIdeal.Value.run m' g')
  obtain ⟨h0, hk⟩ := h c
  refine ⟨h0.trans ?_, hk⟩
  funext i
  refine (ref_apply (m' ((c.tc : Thread Cert.WgradOutRefIdeal.nD Cert.WgradOutRefIdeal.τ).loc Cert.WgradOutRefIdeal.main_arg0)) (m' ((c.tc : Thread Cert.WgradOutRefIdeal.nD Cert.WgradOutRefIdeal.τ).loc Cert.WgradOutRefIdeal.main_arg1)) i).trans ?_
  refine Eq.trans ?_ (out_apply m c i).symm
  have e0 := (harg c).1
  have e1 := (harg c).2
  skip
  rw [e0, e1]

/-- The reference ends with its arguments unchanged and every counter at zero. -/
theorem frame_ref : Cert.quiescent_WgradOutRefIdeal := fun m ρ _ =>
  (θ_run Cert.WgradOutRefIdeal.defs _ _).mono (fun r h => ⟨fun c => (h c).2, Idealize.ShloMosaic.sem_eq_zero_of_no_sems (by decide) r.2⟩)
    (Cert.WgradOutRefIdeal.Value.run (F := Ideal) m ρ)

end Cert.WgradOutIdeal.Val
-- ==== Proof.WgradInVal.lean ====
/-
  The weight gradient `input projection, on top of the context's gradient`: the array the kernel leaves is, entry by entry, the sum over all the tokens
  of the products of the two activations, the one the reference states.
-/
module

public import proofs.«01_k».proof.Proof.Sums
public import proofs.«01_k».proof.Proof.Dots
public import proofs.«01_k».proof.Proof.Gen.WgradInIdeal.Value
public import proofs.«01_k».proof.Proof.Gen.WgradInRefIdeal.Read
public import proofs.«01_k».proof.Defs
public import Idealize.ShloMosaic.Lib.Quiescent

@[expose] public section

noncomputable section

namespace Cert.WgradInIdeal.Val

open Cert.WgradInIdeal Cert.WgradInIdeal.Gen Cert.WgradInIdeal.Value Idealize.ShloMosaic Idealize.ShloMosaic.TcCoe Idealize.SL.Sem
open Idealize.ShloMosaic.ValueIdx Cert.Sums

variable (m : (ℓ : Loc nD τ sig) → Buf (Elt Ideal) ℓ)

/-- The two activations at a device. -/
abbrev lhs (c : Dev nD) : (⟨2, ![16384, 1024]⟩ : Shape).Idx → EReal := m ((c : Thread nD τ).loc main_arg0)
abbrev rhs (c : Dev nD) : (⟨2, ![16384, 2688]⟩ : Shape).Idx → EReal := m ((c : Thread nD τ).loc main_arg1)
/-- The gradient the sum starts from. -/
abbrev ini (c : Dev nD) : (⟨2, ![1024, 2688]⟩ : Shape).Idx → EReal := m ((c : Thread nD τ).loc main_arg2)

theorem idx0 : ∀ t : Fin cfg0.N, win0_0.index t (0 : Fin 2) = t.val % 8 ∧ win0_0.index t (1 : Fin 2) = t.val / 8 :=
  (by decide +kernel : ∀ t : Fin grid0.N, _)
theorem idx1 : ∀ t : Fin cfg0.N, win0_1.index t (0 : Fin 2) = t.val % 8 ∧ win0_1.index t (1 : Fin 2) = 0 :=
  (by decide +kernel : ∀ t : Fin grid0.N, _)

theorem blk0 (c : Dev nD) (t : Fin cfg0.N) (j : S2048x512.Idx) :
    (iblk m c 0 t : Vec Ideal S2048x512 .bf16) j = at2 (lhs m c) (2048 * (t.val % 8) + (j 0).val) (512 * (t.val / 8) + (j 1).val) := by
  have e : (iblk m c 0 t : Vec Ideal S2048x512 .bf16) j = lhs m c (((cfg0.win 0).blk t).view.emb j) := rfl
  rw [e]
  refine eq_at2 _ _ _ _ ?_ ?_
  · show win0_0.index t (0 : Fin 2) * 2048 + 1 * (j 0).val = _
    rw [(idx0 t).1]; omega
  · show win0_0.index t (1 : Fin 2) * 512 + 1 * (j 1).val = _
    rw [(idx0 t).2]; omega

theorem blk1 (c : Dev nD) (t : Fin cfg0.N) (j : S2048x2688.Idx) :
    (iblk m c 1 t : Vec Ideal S2048x2688 .bf16) j = at2 (rhs m c) (2048 * (t.val % 8) + (j 0).val) (j 1).val := by
  have e : (iblk m c 1 t : Vec Ideal S2048x2688 .bf16) j = rhs m c (((cfg0.win 1).blk t).view.emb j) := rfl
  rw [e]
  refine eq_at2 _ _ _ _ ?_ ?_
  · show win0_1.index t (0 : Fin 2) * 2048 + 1 * (j 0).val = _
    rw [(idx1 t).1]; omega
  · show win0_1.index t (1 : Fin 2) * 2688 + 1 * (j 1).val = _
    rw [(idx1 t).2]; omega

theorem idx2 : ∀ t : Fin cfg0.N, win0_2.index t (0 : Fin 2) = t.val / 8 ∧ win0_2.index t (1 : Fin 2) = 0 :=
  (by decide +kernel : ∀ t : Fin grid0.N, _)

theorem blk2 (c : Dev nD) (t : Fin cfg0.N) (j : S512x2688.Idx) :
    (iblk m c 2 t : Vec Ideal S512x2688 .f32) j = at2 (ini m c) (512 * (t.val / 8) + (j 0).val) (j 1).val := by
  have e : (iblk m c 2 t : Vec Ideal S512x2688 .f32) j = ini m c (((cfg0.win 2).blk t).view.emb j) := rfl
  rw [e]
  refine eq_at2 _ _ _ _ ?_ ?_
  · show win0_2.index t (0 : Fin 2) * 512 + 1 * (j 0).val = _
    rw [(idx2 t).1]; omega
  · show win0_2.index t (1 : Fin 2) * 2688 + 1 * (j 1).val = _
    rw [(idx2 t).2]; omega

/-- One step adds to each entry the products of one block of tokens. -/
theorem pay_apply (acc : Vec Ideal S512x2688 .f32) (l : Vec Ideal S2048x512 .bf16) (r : Vec Ideal S2048x2688 .bf16) (i : S512x2688.Idx) :
    k0_pay1 acc l r i = acc i + ∑ k : Fin 2048, (l (ix2 k (i 0)) * r (ix2 k (i 1)) : EReal) := by
  unfold k0_pay1
  simp only [shapeCast_self]
  exact congrArg (acc i + ·) (Dots.tn_apply _ none l r i)

/-- What point `n` adds at an entry of the block. -/
def addend (c : Dev nD) (n : ℕ) (i : S512x2688.Idx) : EReal :=
  ∑ k : Fin 2048, at2 (lhs m c) (2048 * (n % 8) + k.val) (512 * (n / 8) + (i 0).val) * at2 (rhs m c) (2048 * (n % 8) + k.val) (i 1).val

theorem step_apply (c : Dev nD) (n : ℕ) (h : n < cfg0.N) (acc : Vec Ideal S512x2688 .f32) (i : S512x2688.Idx) :
    step3 m c n h acc i = acc i + addend m c n i := by
  unfold step3 addend
  rw [pay_apply]
  congr 1
  refine Finset.sum_congr rfl fun k _ => ?_
  rw [blk0, blk1]

/-- What the run's first point starts from. -/
def start (c : Dev nD) (n : ℕ) (i : S512x2688.Idx) : EReal := at2 (ini m c) (512 * (n / 8) + (i 0).val) (i 1).val

theorem reset_apply (c : Dev nD) (n : ℕ) (h : n < cfg0.N) (i : S512x2688.Idx) :
    reset3 m c n h i = start m c n i + addend m c n i := by
  refine (step_apply m c n h _ i).trans ?_
  rw [blk2]; rfl

/-- The array the kernel leaves. -/
theorem out_apply (c : Dev nD) (i : S1024x2688.Idx) :
    G3 m c i = (at2 (ini m c) (i 0).val (i 1).val + ∑ k : Fin 16384, at2 (lhs m c) k.val (i 0).val * at2 (rhs m c) k.val (i 1).val : EReal) := by
  have h0 : (i 0).val < 1024 := (i 0).isLt
  have h1 : (i 1).val < 2688 := (i 1).isLt
  have hr : run3Of i = (i 0).val / 512 := by
    show 1 * ((i 0).val / 512 - 0) + 1 * ((i 1).val / 2688 - 0) = _
    omega
  have hN : cfg0.N = 16 := N_0
  unfold G3
  rw [dif_pos (by rw [hr, hN]; omega)]
  refine (Pipeline.accAt_add_apply (β := EReal) (reset3 m c) (step3 m c) (start m c (8 * run3Of i)) (addend m c) (8 * run3Of i) 7
    (fun h j => reset_apply m c _ h j) (fun n h acc j _ _ => step_apply m c n h acc j) 7 le_rfl _ _).trans ?_
  have hs := sum_blocks 8 2048 fun n => at2 (lhs m c) n (i 0).val * at2 (rhs m c) n (i 1).val
  refine congrArg₂ (· + ·) ?_ (Eq.trans ?_ hs)
  · unfold start
    rw [hr]
    show at2 (ini m c) (512 * (8 * ((i 0).val / 512) / 8) + (i 0).val % 512) ((i 1).val % 2688) = _
    congr 1 <;> omega
  refine Finset.sum_congr rfl fun s hs => ?_
  have hs8 : s < 8 := Finset.mem_range.1 hs
  unfold addend
  rw [hr, show (8 * ((i 0).val / 512) + s) % 8 = s by omega, show (8 * ((i 0).val / 512) + s) / 8 = (i 0).val / 512 by omega]
  refine Finset.sum_congr rfl fun k _ => ?_
  show at2 (lhs m c) _ (512 * ((i 0).val / 512) + (i 0).val % 512) * at2 (rhs m c) _ ((i 1).val % 2688) = _
  rw [show 512 * ((i 0).val / 512) + (i 0).val % 512 = (i 0).val by omega, show (i 1).val % 2688 = (i 1).val by omega]

/-- The reference's array. -/
theorem ref_apply (x0 : (⟨2, ![16384, 1024]⟩ : Shape).Idx → EReal) (x1 : (⟨2, ![16384, 2688]⟩ : Shape).Idx → EReal) (x2 : (⟨2, ![1024, 2688]⟩ : Shape).Idx → EReal) (i : S1024x2688.Idx) :
    Cert.WgradInRefIdeal.Read.val_main_v6 (F := Ideal) x0 x1 x2 i = (at2 x2 (i 0).val (i 1).val + ∑ k : Fin 16384, at2 x0 k.val (i 0).val * at2 x1 k.val (i 1).val : EReal) := by
  rw [Cert.WgradInRefIdeal.Read.val_main_v6_apply, Cert.WgradInRefIdeal.Read.val_main_v5_apply, Cert.WgradInRefIdeal.Read.val_main_v4_apply]
  refine congrArg₂ (· + ·) (eq_at2 x2 i _ _ rfl rfl) ?_
  refine Finset.sum_congr rfl fun k _ => ?_
  refine (mul_comm (G := EReal) _ _).trans ?_
  exact congrArg₂ (· * ·) (eq_at2 x0 _ _ _ rfl rfl) (eq_at2 x1 _ _ _ rfl rfl)

/-- The kernel's array is the reference's. -/
theorem values : Cert.algebraic_WgradInIdeal_WgradInRefIdeal := by
  intro m g m' g' _ harg
  refine ⟨fun c => G3 m c, run m g, ?_⟩
  refine (θ_run _ _ _).mono (fun r h c => ?_) (Cert.WgradInRefIdeal.Value.run m' g')
  obtain ⟨h0, hk⟩ := h c
  refine ⟨h0.trans ?_, hk⟩
  funext i
  refine (ref_apply (m' ((c.tc : Thread Cert.WgradInRefIdeal.nD Cert.WgradInRefIdeal.τ).loc Cert.WgradInRefIdeal.main_arg0)) (m' ((c.tc : Thread Cert.WgradInRefIdeal.nD Cert.WgradInRefIdeal.τ).loc Cert.WgradInRefIdeal.main_arg1)) (m' ((c.tc : Thread Cert.WgradInRefIdeal.nD Cert.WgradInRefIdeal.τ).loc Cert.WgradInRefIdeal.main_arg2)) i).trans ?_
  refine Eq.trans ?_ (out_apply m c i).symm
  have e0 := (harg c).1
  have e1 := (harg c).2.1
  have e2 := (harg c).2.2
  rw [e0, e1, e2]

/-- The reference ends with its arguments unchanged and every counter at zero. -/
theorem frame_ref : Cert.quiescent_WgradInRefIdeal := fun m ρ _ =>
  (θ_run Cert.WgradInRefIdeal.defs _ _).mono (fun r h => ⟨fun c => (h c).2, Idealize.ShloMosaic.sem_eq_zero_of_no_sems (by decide) r.2⟩)
    (Cert.WgradInRefIdeal.Value.run (F := Ideal) m ρ)

end Cert.WgradInIdeal.Val
-- ==== Proof.AdamInVal.lean ====
/-
  The optimiser on input projection: every block of the arrays the kernel leaves is, entry by entry, the step and the two
  moments the reference states.
-/
module

public import proofs.«01_k».proof.Proof.Windows
public import proofs.«01_k».proof.Proof.Gen.AdamInIdeal.Value
public import proofs.«01_k».proof.Proof.Gen.AdamInRefIdeal.Run
public import proofs.«01_k».proof.Proof.Gen.AdamInRefIdeal.Read
public import proofs.«01_k».proof.Defs
public import Idealize.ShloMosaic.Lib.Quiescent
public import Idealize.ShloMosaic.Lib.Pipeline.ValueKit

@[expose] public section

noncomputable section

namespace Cert.AdamInIdeal.Val

open Cert.AdamInIdeal Cert.AdamInIdeal.Gen Cert.AdamInIdeal.Value Idealize.ShloMosaic Idealize.ShloMosaic.TcCoe Idealize.SL.Sem
open Cert.AdamInRefIdeal.Read Cert.Vals

variable (m : (ℓ : Loc nD τ sig) → Buf (Elt Ideal) ℓ)

/-- The argument arrays at a device. -/
abbrev a0 (c : Dev nD) : S1024x672.Idx → EReal := m ((c : Thread nD τ).loc main_arg0)
abbrev a1 (c : Dev nD) : S1024x672.Idx → EReal := m ((c : Thread nD τ).loc main_arg1)
abbrev a2 (c : Dev nD) : S1024x672.Idx → EReal := m ((c : Thread nD τ).loc main_arg2)
abbrev a3 (c : Dev nD) : S1024x672.Idx → EReal := m ((c : Thread nD τ).loc main_arg3)

/-- The arrays the kernel leaves: the step, the two moments and the gradient, handed on. -/
theorem arrs (c : Dev nD) : (dats m 0 c).arrAt 4 cfg0.N = val_main_v23 (F := Ideal) (a0 m c) (a1 m c) (a2 m c) (a3 m c)
    ∧ (dats m 0 c).arrAt 5 cfg0.N = val_main_v4 (F := Ideal) (a1 m c) (a2 m c)
    ∧ (dats m 0 c).arrAt 6 cfg0.N = val_main_v10 (F := Ideal) (a1 m c) (a3 m c)
    ∧ (dats m 0 c).arrAt 7 cfg0.N = a1 m c := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_, (dats m 0 c).arrAt_eq_of_covers 7 _ (by decide +kernel) fun t hf y => ?_⟩ <;> blk_simp
  · rw [after0_4]; unfold out0_4 k0_pay3; rw [View.canon_unit_zero zero2]; repeat rw [View.ld_unit_zero zero2]
    rfl
  · rw [after0_5]; unfold out0_5; rw [View.canon_unit_zero zero2]; repeat rw [View.ld_unit_zero zero2]
    rfl
  · rw [after0_6]; unfold out0_6; rw [View.canon_unit_zero zero2]; repeat rw [View.ld_unit_zero zero2]
    rfl
  · rw [after0_7]; unfold out0_7; rw [View.canon_unit_zero zero2]; repeat rw [View.ld_unit_zero zero2]
    rfl

/-- The kernel's arrays are the reference's. -/
theorem values : Cert.algebraic_AdamInIdeal_AdamInRefIdeal := by
  intro m g m' g' _ harg
  refine ⟨fun c => (dats m 0 c).arrAt 4 cfg0.N, fun c => (dats m 0 c).arrAt 5 cfg0.N, fun c => (dats m 0 c).arrAt 6 cfg0.N, fun c => (dats m 0 c).arrAt 7 cfg0.N, run_blocks m g, ?_⟩
  refine (θ_run _ _ _).mono (fun r h c => ?_) (Cert.AdamInRefIdeal.Value.run m' g')
  obtain ⟨q4, q5, q6, q7⟩ := arrs m c
  obtain ⟨h0, h1, h2, h3, hk⟩ := h c
  obtain ⟨e0, e1, e2, e3⟩ := harg c
  refine ⟨h0.trans (Eq.trans ?_ q4.symm), h1.trans (Eq.trans ?_ q5.symm), h2.trans (Eq.trans ?_ q6.symm), h3.trans (Eq.trans ?_ q7.symm), hk⟩
  · rw [e0, e1, e2, e3]; exact val_main_v23_eq (F := Ideal) _ _ _ _
  · rw [e1, e2]; exact val_main_v4_eq (F := Ideal) _ _
  · rw [e1, e3]; exact val_main_v10_eq (F := Ideal) _ _
  · exact e1

/-- The reference ends with its arguments unchanged and every counter at zero. -/
theorem frame_ref : Cert.quiescent_AdamInRefIdeal := fun m ρ _ =>
  (θ_run Cert.AdamInRefIdeal.defs _ _).mono (fun r h => ⟨fun c => (h c).2.2.2.2, Idealize.ShloMosaic.sem_eq_zero_of_no_sems (by decide) r.2⟩)
    (Cert.AdamInRefIdeal.Value.run (F := Ideal) m ρ)

end Cert.AdamInIdeal.Val
-- ==== Proof.Adam.lean ====
/-
  The optimiser at one entry: the two moments and the step.
-/
module

public import proofs.«01_k».proof.Proof.Windows

@[expose] public section

noncomputable section

namespace Cert.Adam

open Idealize.ShloMosaic

/-- The first moment at an entry, from the gradient and the moment before. -/
def mom (g m : EReal) : EReal :=
  (FloatOps.addf (F := Ideal) (φ := .f32) (FloatOps.mulf (F := Ideal) (φ := .f32) (FloatOps.ofBits (F := Ideal) .f32 0x3F666666#32) m)
    (FloatOps.mulf (F := Ideal) (φ := .f32) (FloatOps.ofBits (F := Ideal) .f32 0x3DCCCCCD#32) g) : EReal)

/-- The second moment at an entry. -/
def sec (g v : EReal) : EReal :=
  (FloatOps.addf (F := Ideal) (φ := .f32) (FloatOps.mulf (F := Ideal) (φ := .f32) (FloatOps.ofBits (F := Ideal) .f32 0x3F7FBE77#32) v)
    (FloatOps.mulf (F := Ideal) (φ := .f32) (FloatOps.ofBits (F := Ideal) .f32 0x3A83126F#32) (FloatOps.mulf (F := Ideal) (φ := .f32) g g)) : EReal)

/-- The step at an entry. -/
def delta (w g m v : EReal) : EReal :=
  (FloatOps.mulf (F := Ideal) (φ := .f32) (FloatOps.ofBits (F := Ideal) .f32 0xBA83126F#32)
    (FloatOps.addf (F := Ideal) (φ := .f32)
      (FloatOps.divf (F := Ideal) (φ := .f32) (FloatOps.divf (F := Ideal) (φ := .f32) (mom g m) (FloatOps.ofBits (F := Ideal) .f32 0x3F26BD02#32))
        (FloatOps.addf (F := Ideal) (φ := .f32) (FloatOps.sqrt (F := Ideal) (φ := .f32) (FloatOps.divf (F := Ideal) (φ := .f32) (sec g v) (FloatOps.ofBits (F := Ideal) .f32 0x3C231ACC#32)))
          (FloatOps.ofBits (F := Ideal) .f32 0x322BCC77#32)))
      (FloatOps.mulf (F := Ideal) (φ := .f32) (FloatOps.ofBits (F := Ideal) .f32 0x3C23D70A#32) w)) : EReal)

end Cert.Adam
-- ==== Proof.AdamOutVal.lean ====
/-
  The optimiser on output projection: every block of the arrays the kernel leaves is, entry by entry, the step and the two
  moments the reference states.
-/
module

public import proofs.«01_k».proof.Proof.Adam
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Defs
public import Idealize.ShloMosaic.Lib.Quiescent
public import Idealize.ShloMosaic.Lib.Pipeline.ValueKit

@[expose] public section

noncomputable section

namespace Cert.AdamOutIdeal.Val

open Cert.AdamOutIdeal Cert.AdamOutIdeal.Gen Cert.AdamOutIdeal.Value Idealize.ShloMosaic Idealize.ShloMosaic.TcCoe Idealize.SL.Sem
open Cert.AdamOutRefIdeal.Read Cert.Adam Cert.Vals

theorem pay1_apply (x1 x2 : S256x1024.Idx → EReal) (y : S256x1024.Idx) : k0_pay1 (F := Ideal) x1 x2 y = mom (x1 y) (x2 y) := rfl

theorem pay2_apply (x1 x3 : S256x1024.Idx → EReal) (y : S256x1024.Idx) : k0_pay2 (F := Ideal) x1 x3 y = sec (x1 y) (x3 y) := rfl

theorem pay3_apply (x0 x1 : S256x1024.Idx → EReal) (x2 x3 : S256x1024.Idx → EReal) (y : S256x1024.Idx) : k0_pay3 (F := Ideal) x1 x2 x3 x0 y = delta (x0 y) (x1 y) (x2 y) (x3 y) := by
  unfold delta
  rw [← pay1_apply x1 x2 y, ← pay2_apply x1 x3 y]
  unfold k0_pay3; rfl

theorem ref4_apply (x1 x2 : S256x1024.Idx → EReal) (i : S256x1024.Idx) : val_main_v4 (F := Ideal) x1 x2 i = mom (x1 i) (x2 i) := rfl

theorem ref10_apply (x1 x3 : S256x1024.Idx → EReal) (i : S256x1024.Idx) : val_main_v10 (F := Ideal) x1 x3 i = sec (x1 i) (x3 i) := rfl

theorem ref23_apply (x0 x1 : S256x1024.Idx → EReal) (x2 x3 : S256x1024.Idx → EReal) (i : S256x1024.Idx) : val_main_v23 (F := Ideal) x0 x1 x2 x3 i = delta (x0 i) (x1 i) (x2 i) (x3 i) := rfl

variable (m : (ℓ : Loc nD τ sig) → Buf (Elt Ideal) ℓ)

/-- The argument arrays at a device. -/
abbrev a0 (c : Dev nD) : S256x1024.Idx → EReal := m ((c : Thread nD τ).loc main_arg0)
abbrev a1 (c : Dev nD) : S256x1024.Idx → EReal := m ((c : Thread nD τ).loc main_arg1)
abbrev a2 (c : Dev nD) : S256x1024.Idx → EReal := m ((c : Thread nD τ).loc main_arg2)
abbrev a3 (c : Dev nD) : S256x1024.Idx → EReal := m ((c : Thread nD τ).loc main_arg3)

/-- The step: the array the kernel leaves. -/
theorem arr4 (c : Dev nD) : (dats m 0 c).arrAt 4 cfg0.N = (val_main_v23 (F := Ideal) (a0 m c) (a1 m c) (a2 m c) (a3 m c)) := by
  refine (dats m 0 c).arrAt_eq_of_covers 4 _ (by decide +kernel) fun t hf y => ?_
  blk_simp
  rw [after0_4]
  unfold out0_4
  rw [View.canon_unit_zero zero2]
  refine (pay3_apply _ _ _ _ _).trans ?_
  refine Eq.trans ?_ (ref23_apply _ _ _ _ _).symm
  repeat rw [View.ld_unit_zero zero2]
  rfl

/-- The first moment: the array the kernel leaves. -/
theorem arr5 (c : Dev nD) : (dats m 0 c).arrAt 5 cfg0.N = (val_main_v4 (F := Ideal) (a1 m c) (a2 m c)) := by
  refine (dats m 0 c).arrAt_eq_of_covers 5 _ (by decide +kernel) fun t hf y => ?_
  blk_simp
  rw [after0_5]
  unfold out0_5
  rw [View.canon_unit_zero zero2]
  refine (pay1_apply _ _ _).trans ?_
  refine Eq.trans ?_ (ref4_apply _ _ _).symm
  repeat rw [View.ld_unit_zero zero2]
  rfl

/-- The second moment: the array the kernel leaves. -/
theorem arr6 (c : Dev nD) : (dats m 0 c).arrAt 6 cfg0.N = (val_main_v10 (F := Ideal) (a1 m c) (a3 m c)) := by
  refine (dats m 0 c).arrAt_eq_of_covers 6 _ (by decide +kernel) fun t hf y => ?_
  blk_simp
  rw [after0_6]
  unfold out0_6
  rw [View.canon_unit_zero zero2]
  refine (pay2_apply _ _ _).trans ?_
  refine Eq.trans ?_ (ref10_apply _ _ _).symm
  repeat rw [View.ld_unit_zero zero2]
  rfl

/-- The gradient, handed on. -/
theorem arr7 (c : Dev nD) : (dats m 0 c).arrAt 7 cfg0.N = a1 m c := by
  refine (dats m 0 c).arrAt_eq_of_covers 7 _ (by decide +kernel) fun t hf y => ?_
  blk_simp
  rw [after0_7]
  unfold out0_7
  rw [View.canon_unit_zero zero2, View.ld_unit_zero zero2]
  rfl

/-- The kernel's arrays are the reference's. -/
theorem values : Cert.algebraic_AdamOutIdeal_AdamOutRefIdeal := by
  intro m g m' g' _ harg
  refine ⟨fun c => (dats m 0 c).arrAt 4 cfg0.N, fun c => (dats m 0 c).arrAt 5 cfg0.N, fun c => (dats m 0 c).arrAt 6 cfg0.N, fun c => (dats m 0 c).arrAt 7 cfg0.N, run_blocks m g, ?_⟩
  refine (θ_run _ _ _).mono (fun r h c => ?_) (Cert.AdamOutRefIdeal.Value.run m' g')
  obtain ⟨h0, h1, h2, h3, hk⟩ := h c
  obtain ⟨e0, e1, e2, e3⟩ := harg c
  refine ⟨h0.trans (Eq.trans ?_ (arr4 m c).symm), h1.trans (Eq.trans ?_ (arr5 m c).symm), h2.trans (Eq.trans ?_ (arr6 m c).symm), h3.trans (Eq.trans ?_ (arr7 m c).symm), hk⟩
  · rw [e0, e1, e2, e3]; exact val_main_v23_eq (F := Ideal) _ _ _ _
  · rw [e1, e2]; exact val_main_v4_eq (F := Ideal) _ _
  · rw [e1, e3]; exact val_main_v10_eq (F := Ideal) _ _
  · exact e1

/-- The reference ends with its arguments unchanged and every counter at zero. -/
theorem frame_ref : Cert.quiescent_AdamOutRefIdeal := fun m ρ _ =>
  (θ_run Cert.AdamOutRefIdeal.defs _ _).mono (fun r h => ⟨fun c => (h c).2.2.2.2, Idealize.ShloMosaic.sem_eq_zero_of_no_sems (by decide) r.2⟩)
    (Cert.AdamOutRefIdeal.Value.run (F := Ideal) m ρ)

end Cert.AdamOutIdeal.Val
-- ==== Proof.AdamGateVal.lean ====
/-
  The optimiser on gate (and up) projection: every block of the arrays the kernel leaves is, entry by entry, the step and the two
  moments the reference states.
-/
module

public import proofs.«01_k».proof.Proof.Windows
public import proofs.«01_k».proof.Proof.Gen.AdamGateIdeal.Value
public import proofs.«01_k».proof.Proof.Gen.AdamGateRefIdeal.Run
public import proofs.«01_k».proof.Proof.Gen.AdamGateRefIdeal.Read
public import proofs.«01_k».proof.Defs
public import Idealize.ShloMosaic.Lib.Quiescent
public import Idealize.ShloMosaic.Lib.Pipeline.ValueKit

@[expose] public section

noncomputable section

namespace Cert.AdamGateIdeal.Val

open Cert.AdamGateIdeal Cert.AdamGateIdeal.Gen Cert.AdamGateIdeal.Value Idealize.ShloMosaic Idealize.ShloMosaic.TcCoe Idealize.SL.Sem
open Cert.AdamGateRefIdeal.Read Cert.Vals

variable (m : (ℓ : Loc nD τ sig) → Buf (Elt Ideal) ℓ)

/-- The argument arrays at a device. -/
abbrev a0 (c : Dev nD) : S1024x704.Idx → EReal := m ((c : Thread nD τ).loc main_arg0)
abbrev a1 (c : Dev nD) : S1024x704.Idx → EReal := m ((c : Thread nD τ).loc main_arg1)
abbrev a2 (c : Dev nD) : S1024x704.Idx → EReal := m ((c : Thread nD τ).loc main_arg2)
abbrev a3 (c : Dev nD) : S1024x704.Idx → EReal := m ((c : Thread nD τ).loc main_arg3)

/-- The arrays the kernel leaves: the step, the two moments and the gradient, handed on. -/
theorem arrs (c : Dev nD) : (dats m 0 c).arrAt 4 cfg0.N = val_main_v23 (F := Ideal) (a0 m c) (a1 m c) (a2 m c) (a3 m c)
    ∧ (dats m 0 c).arrAt 5 cfg0.N = val_main_v4 (F := Ideal) (a1 m c) (a2 m c)
    ∧ (dats m 0 c).arrAt 6 cfg0.N = val_main_v10 (F := Ideal) (a1 m c) (a3 m c)
    ∧ (dats m 0 c).arrAt 7 cfg0.N = a1 m c := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_, (dats m 0 c).arrAt_eq_of_covers 7 _ (by decide +kernel) fun t hf y => ?_⟩ <;> blk_simp
  · rw [after0_4]; unfold out0_4 k0_pay3; rw [View.canon_unit_zero zero2]; repeat rw [View.ld_unit_zero zero2]
    rfl
  · rw [after0_5]; unfold out0_5; rw [View.canon_unit_zero zero2]; repeat rw [View.ld_unit_zero zero2]
    rfl
  · rw [after0_6]; unfold out0_6; rw [View.canon_unit_zero zero2]; repeat rw [View.ld_unit_zero zero2]
    rfl
  · rw [after0_7]; unfold out0_7; rw [View.canon_unit_zero zero2]; repeat rw [View.ld_unit_zero zero2]
    rfl

/-- The kernel's arrays are the reference's. -/
theorem values : Cert.algebraic_AdamGateIdeal_AdamGateRefIdeal := by
  intro m g m' g' _ harg
  refine ⟨fun c => (dats m 0 c).arrAt 4 cfg0.N, fun c => (dats m 0 c).arrAt 5 cfg0.N, fun c => (dats m 0 c).arrAt 6 cfg0.N, fun c => (dats m 0 c).arrAt 7 cfg0.N, run_blocks m g, ?_⟩
  refine (θ_run _ _ _).mono (fun r h c => ?_) (Cert.AdamGateRefIdeal.Value.run m' g')
  obtain ⟨q4, q5, q6, q7⟩ := arrs m c
  obtain ⟨h0, h1, h2, h3, hk⟩ := h c
  obtain ⟨e0, e1, e2, e3⟩ := harg c
  refine ⟨h0.trans (Eq.trans ?_ q4.symm), h1.trans (Eq.trans ?_ q5.symm), h2.trans (Eq.trans ?_ q6.symm), h3.trans (Eq.trans ?_ q7.symm), hk⟩
  · rw [e0, e1, e2, e3]; exact val_main_v23_eq (F := Ideal) _ _ _ _
  · rw [e1, e2]; exact val_main_v4_eq (F := Ideal) _ _
  · rw [e1, e3]; exact val_main_v10_eq (F := Ideal) _ _
  · exact e1

/-- The reference ends with its arguments unchanged and every counter at zero. -/
theorem frame_ref : Cert.quiescent_AdamGateRefIdeal := fun m ρ _ =>
  (θ_run Cert.AdamGateRefIdeal.defs _ _).mono (fun r h => ⟨fun c => (h c).2.2.2.2, Idealize.ShloMosaic.sem_eq_zero_of_no_sems (by decide) r.2⟩)
    (Cert.AdamGateRefIdeal.Value.run (F := Ideal) m ρ)

end Cert.AdamGateIdeal.Val
-- ==== Proof.AdamDownVal.lean ====
/-
  The optimiser on down projection: every block of the arrays the kernel leaves is, entry by entry, the step and the two
  moments the reference states.
-/
module

public import proofs.«01_k».proof.Proof.Windows
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Defs
public import Idealize.ShloMosaic.Lib.Quiescent
public import Idealize.ShloMosaic.Lib.Pipeline.ValueKit

@[expose] public section

noncomputable section

namespace Cert.AdamDownIdeal.Val

open Cert.AdamDownIdeal Cert.AdamDownIdeal.Gen Cert.AdamDownIdeal.Value Idealize.ShloMosaic Idealize.ShloMosaic.TcCoe Idealize.SL.Sem
open Cert.AdamDownRefIdeal.Read Cert.Vals

variable (m : (ℓ : Loc nD τ sig) → Buf (Elt Ideal) ℓ)

/-- The argument arrays at a device. -/
abbrev a0 (c : Dev nD) : S704x1024.Idx → EReal := m ((c : Thread nD τ).loc main_arg0)
abbrev a1 (c : Dev nD) : S704x1024.Idx → EReal := m ((c : Thread nD τ).loc main_arg1)
abbrev a2 (c : Dev nD) : S704x1024.Idx → EReal := m ((c : Thread nD τ).loc main_arg2)
abbrev a3 (c : Dev nD) : S704x1024.Idx → EReal := m ((c : Thread nD τ).loc main_arg3)

/-- The arrays the kernel leaves: the step, the two moments and the gradient, handed on. -/
theorem arrs (c : Dev nD) : (dats m 0 c).arrAt 4 cfg0.N = val_main_v23 (F := Ideal) (a0 m c) (a1 m c) (a2 m c) (a3 m c)
    ∧ (dats m 0 c).arrAt 5 cfg0.N = val_main_v4 (F := Ideal) (a1 m c) (a2 m c)
    ∧ (dats m 0 c).arrAt 6 cfg0.N = val_main_v10 (F := Ideal) (a1 m c) (a3 m c)
    ∧ (dats m 0 c).arrAt 7 cfg0.N = a1 m c := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_, (dats m 0 c).arrAt_eq_of_covers 7 _ (by decide +kernel) fun t hf y => ?_⟩ <;> blk_simp
  · rw [after0_4]; unfold out0_4 k0_pay3; rw [View.canon_unit_zero zero2]; repeat rw [View.ld_unit_zero zero2]
    rfl
  · rw [after0_5]; unfold out0_5; rw [View.canon_unit_zero zero2]; repeat rw [View.ld_unit_zero zero2]
    rfl
  · rw [after0_6]; unfold out0_6; rw [View.canon_unit_zero zero2]; repeat rw [View.ld_unit_zero zero2]
    rfl
  · rw [after0_7]; unfold out0_7; rw [View.canon_unit_zero zero2]; repeat rw [View.ld_unit_zero zero2]
    rfl

/-- The kernel's arrays are the reference's. -/
theorem values : Cert.algebraic_AdamDownIdeal_AdamDownRefIdeal := by
  intro m g m' g' _ harg
  refine ⟨fun c => (dats m 0 c).arrAt 4 cfg0.N, fun c => (dats m 0 c).arrAt 5 cfg0.N, fun c => (dats m 0 c).arrAt 6 cfg0.N, fun c => (dats m 0 c).arrAt 7 cfg0.N, run_blocks m g, ?_⟩
  refine (θ_run _ _ _).mono (fun r h c => ?_) (Cert.AdamDownRefIdeal.Value.run m' g')
  obtain ⟨q4, q5, q6, q7⟩ := arrs m c
  obtain ⟨h0, h1, h2, h3, hk⟩ := h c
  obtain ⟨e0, e1, e2, e3⟩ := harg c
  refine ⟨h0.trans (Eq.trans ?_ q4.symm), h1.trans (Eq.trans ?_ q5.symm), h2.trans (Eq.trans ?_ q6.symm), h3.trans (Eq.trans ?_ q7.symm), hk⟩
  · rw [e0, e1, e2, e3]; exact val_main_v23_eq (F := Ideal) _ _ _ _
  · rw [e1, e2]; exact val_main_v4_eq (F := Ideal) _ _
  · rw [e1, e3]; exact val_main_v10_eq (F := Ideal) _ _
  · exact e1

/-- The reference ends with its arguments unchanged and every counter at zero. -/
theorem frame_ref : Cert.quiescent_AdamDownRefIdeal := fun m ρ _ =>
  (θ_run Cert.AdamDownRefIdeal.defs _ _).mono (fun r h => ⟨fun c => (h c).2.2.2.2, Idealize.ShloMosaic.sem_eq_zero_of_no_sems (by decide) r.2⟩)
    (Cert.AdamDownRefIdeal.Value.run (F := Ideal) m ρ)

end Cert.AdamDownIdeal.Val
-- ==== Proof.AdamModVal.lean ====
/-
  The optimiser on modulation weights: every block of the arrays the kernel leaves is, entry by entry, the step and the two
  moments the reference states.
-/
module

public import proofs.«01_k».proof.Proof.Windows
public import proofs.«01_k».proof.Proof.Gen.AdamModIdeal.Value
public import proofs.«01_k».proof.Proof.Gen.AdamModRefIdeal.Run
public import proofs.«01_k».proof.Proof.Gen.AdamModRefIdeal.Read
public import proofs.«01_k».proof.Defs
public import Idealize.ShloMosaic.Lib.Quiescent
public import Idealize.ShloMosaic.Lib.Pipeline.ValueKit

@[expose] public section

noncomputable section

namespace Cert.AdamModIdeal.Val

open Cert.AdamModIdeal Cert.AdamModIdeal.Gen Cert.AdamModIdeal.Value Idealize.ShloMosaic Idealize.ShloMosaic.TcCoe Idealize.SL.Sem
open Cert.AdamModRefIdeal.Read Cert.Vals

variable (m : (ℓ : Loc nD τ sig) → Buf (Elt Ideal) ℓ)

/-- The argument arrays at a device. -/
abbrev a0 (c : Dev nD) : S1024x1536.Idx → EReal := m ((c : Thread nD τ).loc main_arg0)
abbrev a1 (c : Dev nD) : S1024x1536.Idx → EReal := m ((c : Thread nD τ).loc main_arg1)
abbrev a2 (c : Dev nD) : S1024x1536.Idx → EReal := m ((c : Thread nD τ).loc main_arg2)
abbrev a3 (c : Dev nD) : S1024x1536.Idx → EReal := m ((c : Thread nD τ).loc main_arg3)

/-- The arrays the kernel leaves: the step, the two moments. -/
theorem arrs (c : Dev nD) : (dats m 0 c).arrAt 4 cfg0.N = val_main_v23 (F := Ideal) (a0 m c) (a1 m c) (a2 m c) (a3 m c)
    ∧ (dats m 0 c).arrAt 5 cfg0.N = val_main_v4 (F := Ideal) (a1 m c) (a2 m c)
    ∧ (dats m 0 c).arrAt 6 cfg0.N = val_main_v10 (F := Ideal) (a1 m c) (a3 m c) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; unfold out0_4 k0_pay3; rw [View.canon_unit_zero zero2]; repeat rw [View.ld_unit_zero zero2]
    rfl
  · rw [after0_5]; unfold out0_5; rw [View.canon_unit_zero zero2]; repeat rw [View.ld_unit_zero zero2]
    rfl
  · rw [after0_6]; unfold out0_6; rw [View.canon_unit_zero zero2]; repeat rw [View.ld_unit_zero zero2]
    rfl

/-- The kernel's arrays are the reference's. -/
theorem values : Cert.algebraic_AdamModIdeal_AdamModRefIdeal := by
  intro m g m' g' _ harg
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ?_) (Cert.AdamModRefIdeal.Value.run m' g')
  obtain ⟨q4, q5, q6⟩ := arrs m c
  obtain ⟨h0, h1, h2, hk⟩ := h c
  obtain ⟨e0, e1, e2, e3⟩ := harg c
  refine ⟨h0.trans (Eq.trans ?_ q4.symm), h1.trans (Eq.trans ?_ q5.symm), h2.trans (Eq.trans ?_ q6.symm), hk⟩
  · rw [e0, e1, e2, e3]; exact val_main_v23_eq (F := Ideal) _ _ _ _
  · rw [e1, e2]; exact val_main_v4_eq (F := Ideal) _ _
  · rw [e1, e3]; exact val_main_v10_eq (F := Ideal) _ _

/-- The reference ends with its arguments unchanged and every counter at zero. -/
theorem frame_ref : Cert.quiescent_AdamModRefIdeal := fun m ρ _ =>
  (θ_run Cert.AdamModRefIdeal.defs _ _).mono (fun r h => ⟨fun c => (h c).2.2.2, Idealize.ShloMosaic.sem_eq_zero_of_no_sems (by decide) r.2⟩)
    (Cert.AdamModRefIdeal.Value.run (F := Ideal) m ρ)

end Cert.AdamModIdeal.Val
-- ==== Proof.AdamSmallVal.lean ====
/-
  The optimiser on packed small parameters: every block of the arrays the kernel leaves is, entry by entry, the step and the two
  moments the reference states.
-/
module

public import proofs.«01_k».proof.Proof.Adam
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Defs
public import Idealize.ShloMosaic.Lib.Quiescent
public import Idealize.ShloMosaic.Lib.Pipeline.ValueKit

@[expose] public section

noncomputable section

namespace Cert.AdamSmallIdeal.Val

open Cert.AdamSmallIdeal Cert.AdamSmallIdeal.Gen Cert.AdamSmallIdeal.Value Idealize.ShloMosaic Idealize.ShloMosaic.TcCoe Idealize.SL.Sem
open Cert.AdamSmallRefIdeal.Read Cert.Adam Cert.Vals

theorem pay1_apply (x1 x2 : S24x1024.Idx → EReal) (y : S24x1024.Idx) : k0_pay1 (F := Ideal) x1 x2 y = mom (x1 y) (x2 y) := rfl

theorem pay2_apply (x1 x3 : S24x1024.Idx → EReal) (y : S24x1024.Idx) : k0_pay2 (F := Ideal) x1 x3 y = sec (x1 y) (x3 y) := rfl

theorem pay3_apply (x0 x1 : S24x1024.Idx → EReal) (x2 x3 : S24x1024.Idx → EReal) (y : S24x1024.Idx) : k0_pay3 (F := Ideal) x1 x2 x3 x0 y = delta (x0 y) (x1 y) (x2 y) (x3 y) := by
  unfold delta
  rw [← pay1_apply x1 x2 y, ← pay2_apply x1 x3 y]
  unfold k0_pay3; rfl

theorem ref4_apply (x1 x2 : S24x1024.Idx → EReal) (i : S24x1024.Idx) : val_main_v4 (F := Ideal) x1 x2 i = mom (x1 i) (x2 i) := rfl

theorem ref10_apply (x1 x3 : S24x1024.Idx → EReal) (i : S24x1024.Idx) : val_main_v10 (F := Ideal) x1 x3 i = sec (x1 i) (x3 i) := rfl

theorem ref23_apply (x0 x1 : S24x1024.Idx → EReal) (x2 x3 : S24x1024.Idx → EReal) (i : S24x1024.Idx) : val_main_v23 (F := Ideal) x0 x1 x2 x3 i = delta (x0 i) (x1 i) (x2 i) (x3 i) := rfl

variable (m : (ℓ : Loc nD τ sig) → Buf (Elt Ideal) ℓ)

/-- The argument arrays at a device. -/
abbrev a0 (c : Dev nD) : S24x1024.Idx → EReal := m ((c : Thread nD τ).loc main_arg0)
abbrev a1 (c : Dev nD) : S24x1024.Idx → EReal := m ((c : Thread nD τ).loc main_arg1)
abbrev a2 (c : Dev nD) : S24x1024.Idx → EReal := m ((c : Thread nD τ).loc main_arg2)
abbrev a3 (c : Dev nD) : S24x1024.Idx → EReal := m ((c : Thread nD τ).loc main_arg3)

/-- The step: the array the kernel leaves. -/
theorem arr4 (c : Dev nD) : (dats m 0 c).arrAt 4 cfg0.N = (val_main_v23 (F := Ideal) (a0 m c) (a1 m c) (a2 m c) (a3 m c)) := by
  refine (dats m 0 c).arrAt_eq_of_covers 4 _ (by decide +kernel) fun t hf y => ?_
  blk_simp
  rw [after0_4]
  unfold out0_4
  rw [View.canon_unit_zero zero2]
  refine (pay3_apply _ _ _ _ _).trans ?_
  refine Eq.trans ?_ (ref23_apply _ _ _ _ _).symm
  repeat rw [View.ld_unit_zero zero2]
  rfl

/-- The first moment: the array the kernel leaves. -/
theorem arr5 (c : Dev nD) : (dats m 0 c).arrAt 5 cfg0.N = (val_main_v4 (F := Ideal) (a1 m c) (a2 m c)) := by
  refine (dats m 0 c).arrAt_eq_of_covers 5 _ (by decide +kernel) fun t hf y => ?_
  blk_simp
  rw [after0_5]
  unfold out0_5
  rw [View.canon_unit_zero zero2]
  refine (pay1_apply _ _ _).trans ?_
  refine Eq.trans ?_ (ref4_apply _ _ _).symm
  repeat rw [View.ld_unit_zero zero2]
  rfl

/-- The second moment: the array the kernel leaves. -/
theorem arr6 (c : Dev nD) : (dats m 0 c).arrAt 6 cfg0.N = (val_main_v10 (F := Ideal) (a1 m c) (a3 m c)) := by
  refine (dats m 0 c).arrAt_eq_of_covers 6 _ (by decide +kernel) fun t hf y => ?_
  blk_simp
  rw [after0_6]
  unfold out0_6
  rw [View.canon_unit_zero zero2]
  refine (pay2_apply _ _ _).trans ?_
  refine Eq.trans ?_ (ref10_apply _ _ _).symm
  repeat rw [View.ld_unit_zero zero2]
  rfl

/-- The kernel's arrays are the reference's. -/
theorem values : Cert.algebraic_AdamSmallIdeal_AdamSmallRefIdeal := by
  intro m g m' g' _ harg
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ?_) (Cert.AdamSmallRefIdeal.Value.run m' g')
  obtain ⟨h0, h1, h2, hk⟩ := h c
  obtain ⟨e0, e1, e2, e3⟩ := harg c
  refine ⟨h0.trans (Eq.trans ?_ (arr4 m c).symm), h1.trans (Eq.trans ?_ (arr5 m c).symm), h2.trans (Eq.trans ?_ (arr6 m c).symm), hk⟩
  · rw [e0, e1, e2, e3]; exact val_main_v23_eq (F := Ideal) _ _ _ _
  · rw [e1, e2]; exact val_main_v4_eq (F := Ideal) _ _
  · rw [e1, e3]; exact val_main_v10_eq (F := Ideal) _ _

/-- The reference ends with its arguments unchanged and every counter at zero. -/
theorem frame_ref : Cert.quiescent_AdamSmallRefIdeal := fun m ρ _ =>
  (θ_run Cert.AdamSmallRefIdeal.defs _ _).mono (fun r h => ⟨fun c => (h c).2.2.2, Idealize.ShloMosaic.sem_eq_zero_of_no_sems (by decide) r.2⟩)
    (Cert.AdamSmallRefIdeal.Value.run (F := Ideal) m ρ)

end Cert.AdamSmallIdeal.Val
-- ==== Proof.ModBwdVal.lean ====
/-
  The modulation head's backward pass: the weight's gradient and the gradient of the context's activation are, entry by entry, the
  contractions the reference states.
-/
module

public import proofs.«01_k».proof.Proof.Dots
public import proofs.«01_k».proof.Proof.Gen.ModBwdIdeal.Value
public import proofs.«01_k».proof.Proof.Gen.ModBwdRefIdeal.Run
public import proofs.«01_k».proof.Proof.Gen.ModBwdRefIdeal.Read
public import proofs.«01_k».proof.Defs
public import Idealize.ShloMosaic.Lib.Quiescent

@[expose] public section

noncomputable section

namespace Cert.ModBwdIdeal.Val

open Cert.ModBwdIdeal Cert.ModBwdIdeal.Gen Cert.ModBwdIdeal.Value Idealize.ShloMosaic Idealize.ShloMosaic.TcCoe Idealize.SL.Sem
open Cert.ModBwdRefIdeal.Read (val_main_v0 val_main_v3 val_main_v4 lidx_main_v2 ridx_main_v2 lidx_main_v4 ridx_main_v4 idx_main_v3)

/-- The activation of the context: the kernel's form, the difference from zero, is the negation. -/
theorem act_apply (x0 : S16x1024.Idx → EReal) (i : S16x1024.Idx) :
    (x0 i * Ideal.div (Ideal.ofBits .f32 0x3F800000#32) (Ideal.ofBits .f32 0x3F800000#32 + Ideal.exp (Ideal.ofBits .f32 0x00000000#32 - x0 i)) : EReal)
      = val_main_v0 (F := Ideal) x0 i := by
  have h : (Ideal.ofBits .f32 0x00000000#32 - x0 i : EReal) = - x0 i :=
    (congrArg (· - x0 i) Ideal.ofBits_zero_f32).trans (by rw [sub_eq_add_neg, zero_add])
  rw [h, Cert.ModBwdRefIdeal.Read.val_main_v0_apply, Cert.ModBwdRefIdeal.Read.val_main_call0_v5_apply,
    Cert.ModBwdRefIdeal.Read.val_main_call0_v4_apply, Cert.ModBwdRefIdeal.Read.val_main_call0_v3_apply,
    Cert.ModBwdRefIdeal.Read.val_main_call0_v2_apply, Cert.ModBwdRefIdeal.Read.val_main_call0_v1_apply,
    Cert.ModBwdRefIdeal.Read.val_main_call0_v0_apply]
  rfl

/-- The weight's gradient. -/
theorem weight (x0 : S16x1024.Idx → EReal) (x1 : S16x1536.Idx → EReal) : k0_pay2 (F := Ideal) x1 x0 = val_main_v3 (F := Ideal) x0 x1 := by
  funext i
  unfold k0_pay2 k0_pay1
  refine (Dots.tn_apply _ none _ _ i).trans ?_
  rw [Cert.ModBwdRefIdeal.Read.val_main_v3_apply, Cert.ModBwdRefIdeal.Read.val_main_v2_apply]
  refine Finset.sum_congr rfl fun k _ => ?_
  rw [← act_apply, mul_comm]
  have e1 : ridx_main_v2 (idx_main_v3 i) k = ValueIdx.ix2 k (i 0) := funext fun a => by fin_cases a <;> rfl
  have e2 : lidx_main_v2 (idx_main_v3 i) k = ValueIdx.ix2 k (i 1) := funext fun a => by fin_cases a <;> rfl
  rw [e1, e2]
  rfl

/-- The gradient of the context's activation. -/
theorem activation (x1 : S16x1536.Idx → EReal) (x2 : S1024x1536.Idx → EReal) : k0_pay3 (F := Ideal) x1 x2 = val_main_v4 (F := Ideal) x1 x2 := by
  funext i
  unfold k0_pay3 k0_pay1
  refine (Dots.nt_apply _ none _ _ i).trans ?_
  rw [Cert.ModBwdRefIdeal.Read.val_main_v4_apply]
  refine Finset.sum_congr rfl fun k _ => ?_
  have e1 : lidx_main_v4 i k = ValueIdx.ix2 (i 0) k := funext fun a => by fin_cases a <;> rfl
  have e2 : ridx_main_v4 i k = ValueIdx.ix2 (i 1) k := funext fun a => by fin_cases a <;> rfl
  rw [e1, e2]
  rfl

/-- The kernel's arrays are the reference's. -/
theorem values : Cert.algebraic_ModBwdIdeal_ModBwdRefIdeal := by
  intro m g m' g' _ harg
  refine ⟨fun c => _, fun c => _, run m g, ?_⟩
  refine (θ_run _ _ _).mono (fun r h c => ?_) (Cert.ModBwdRefIdeal.Value.run m' g')
  obtain ⟨h0, h1, hk⟩ := h c
  obtain ⟨e0, e1, e2⟩ := harg c
  refine ⟨h0.trans ?_, h1.trans ?_, hk⟩
  · rw [e0, e1]; exact (Cert.ModBwdRefIdeal.Read.val_main_v3_eq (F := Ideal) _ _).trans (weight _ _).symm
  · rw [e1, e2]; exact (Cert.ModBwdRefIdeal.Read.val_main_v4_eq (F := Ideal) _ _).trans (activation _ _).symm

/-- The reference ends with its arguments unchanged and every counter at zero. -/
theorem frame_ref : Cert.quiescent_ModBwdRefIdeal := fun m ρ _ =>
  (θ_run Cert.ModBwdRefIdeal.defs _ _).mono (fun r h => ⟨fun c => (h c).2.2, Idealize.ShloMosaic.sem_eq_zero_of_no_sems (by decide) r.2⟩)
    (Cert.ModBwdRefIdeal.Value.run (F := Ideal) m ρ)

end Cert.ModBwdIdeal.Val
-- ==== Proof.TotalsVal.lean ====
/-
  The sums over the devices of the packed rows: each of the three arrays the kernel leaves is, entry by entry, the one the reference
  states.
-/
module

public import proofs.«01_k».proof.Proof.Windows
public import proofs.«01_k».proof.Proof.Gen.TotalsIdeal.Value
public import proofs.«01_k».proof.Proof.Gen.TotalsRefIdeal.Run
public import proofs.«01_k».proof.Proof.Gen.TotalsRefIdeal.Read
public import proofs.«01_k».proof.Defs
public import Idealize.ShloMosaic.Lib.Quiescent
public import Idealize.ShloMosaic.Lib.Pipeline.ValueKit
public import Idealize.ShloMosaic.Lib.ValueIdxRank1

@[expose] public section

noncomputable section

namespace Cert.TotalsIdeal.Val

open Cert.TotalsIdeal Cert.TotalsIdeal.Gen Cert.TotalsIdeal.Value Idealize.ShloMosaic Idealize.ShloMosaic.TcCoe Idealize.SL.Sem
open Cert.Vals (zero2 at_zero)
open Cert.TotalsRefIdeal.Read (val_main_v0 val_main_v6 val_main_v10)

/-- The sum over the devices of an entry of the packed rows. -/
def tot (x : S8x48x1024.Idx → EReal) (i : Fin 48) (j : Fin 1024) : EReal := ∑ k : Fin 8, x (ValueIdx.ix3 k i j)

/-- One device's rows, loaded and regrouped. -/
theorem dev (x : S8x48x1024.Idx → EReal) (k : ℕ) (hk : k < 8) (inb : ∀ a, (![k, 0, 0] : Fin 3 → ℕ) a + S1x48x1024.size a ≤ S8x48x1024.size a)
    (h : S1x48x1024.ShapeCasts S48x1024) (y : S48x1024.Idx) :
    shapeCast S48x1024 (View.ld (Val := Elt Ideal) (e' := .f32) x (Rect.unit (s := S8x48x1024) ![k, 0, 0] S1x48x1024.size inb) : S1x48x1024.Idx → EReal) h y
      = x (ValueIdx.ix3 ⟨k, hk⟩ (y 0) (y 1)) := by
  refine (shapeCast_apply _ h y (ValueIdx.ix3 0 (y 0) (y 1)) ?_).trans ?_
  · rw [Shape.rowMajor_val_three, Shape.rowMajor_val_two]
    show (0 * 48 + (y 0).val) * 1024 + (y 1).val = (y 0).val * 1024 + (y 1).val
    omega
  · refine congrArg x (funext fun a => Fin.ext ?_)
    match a with
    | 0 => show k + 1 * 0 = k; omega
    | 1 => show 0 + 1 * (y 0).val = (y 0).val; omega
    | 2 => show 0 + 1 * (y 1).val = (y 1).val; omega

/-- The rows of device `k` of an argument. -/
abbrev rows (x : S8x48x1024.Idx → EReal) (k : ℕ) (inb : ∀ a, (![k, 0, 0] : Fin 3 → ℕ) a + S1x48x1024.size a ≤ S8x48x1024.size a) : Vec Ideal S1x48x1024 .f32 :=
  View.ld (Val := Elt Ideal) (e' := .f32) x (Rect.unit (s := S8x48x1024) ![k, 0, 0] S1x48x1024.size inb)

theorem pay3_apply (x : S8x48x1024.Idx → EReal) (b0 b1 b2 b3 b4 b5 b6 b7) (y : S48x1024.Idx) :
    k0_pay3 (F := Ideal) (rows x 0 b0) (rows x 1 b1) (rows x 2 b2) (rows x 3 b3) (rows x 4 b4) (rows x 5 b5) (rows x 6 b6) (rows x 7 b7) y = tot x (y 0) (y 1) := by
  unfold tot
  rw [Fin.sum_univ_eight]
  have e := fun k hk inb => dev x k hk inb shapeCasts_S1x48x1024_S48x1024 y
  refine (congrArg₂ (fun p q : EReal => p + q) (congrArg₂ (fun p q : EReal => p + q) (congrArg₂ (fun p q : EReal => p + q) (congrArg₂ (fun p q : EReal => p + q)
    (congrArg₂ (fun p q : EReal => p + q) (congrArg₂ (fun p q : EReal => p + q) (congrArg₂ (fun p q : EReal => p + q) (e 0 (by norm_num) b0) (e 1 (by norm_num) b1))
      (e 2 (by norm_num) b2)) (e 3 (by norm_num) b3)) (e 4 (by norm_num) b4)) (e 5 (by norm_num) b5)) (e 6 (by norm_num) b6)) (e 7 (by norm_num) b7))

/-- Rows `q`, `q + 1`, … of an array of sums. -/
theorem slice_apply {p : ℕ} (v : S48x1024.Idx → EReal) (q : ℕ) (h : S48x1024.Slices ![q, 0] ⟨2, ![p, 1024]⟩) (y : (⟨2, ![p, 1024]⟩ : Shape).Idx) (hq : q + (y 0).val < 48) :
    extractStridedSlice (⟨2, ![p, 1024]⟩ : Shape) ![q, 0] v h y = v (ValueIdx.ix2 ⟨q + (y 0).val, hq⟩ (y 1)) :=
  extractStridedSlice_apply _ v h y _ fun a => by
    match a with
    | 0 => rfl
    | 1 => show (y 1).val = 0 + (y 1).val; omega

theorem pay1_apply (v : S48x1024.Idx → EReal) (w : S2x1024.Idx → EReal) (y : S2x1024.Idx) (hq : 6 + (y 0).val < 48) :
    k0_pay1 (F := Ideal) v w y = (w y + v (ValueIdx.ix2 ⟨6 + (y 0).val, hq⟩ (y 1)) : EReal) := by
  unfold k0_pay1
  refine congrArg₂ (fun p q : EReal => p + q) ?_ (slice_apply v 6 _ y hq)
  rw [shapeCast_self]

theorem pay2_apply (v : S48x1024.Idx → EReal) (y : S8x128.Idx) : k0_pay2 (F := Ideal) v y = ∑ j : Fin 1024, v (ValueIdx.ix2 14 j) := by
  unfold k0_pay2
  refine (broadcastTo_apply _ _ y (ValueIdx.ix2 0 0) fun a => ?_).trans ?_
  · match a with
    | 0 => rfl
    | 1 => rfl
  rw [shapeCast_self]
  refine (shapeCast_apply _ _ _ (ValueIdx.ix1 0) ?_).trans ?_
  · rw [Shape.rowMajor_val_one, Shape.rowMajor_val_two]; rfl
  refine (Ideal.multiReduction_add_single _ _ _ _ _ _).trans ?_
  refine Finset.sum_congr rfl fun j _ => ?_
  have h0 : ((reduces_S1x1024_S1.lift (ValueIdx.ix1 0) j : S1x1024.Idx) 0).val = 0 := by
    have : ((reduces_S1x1024_S1.lift (ValueIdx.ix1 0) j : S1x1024.Idx) 0).val < 1 := ((reduces_S1x1024_S1.lift (ValueIdx.ix1 0) j : S1x1024.Idx) 0).isLt
    omega
  refine (slice_apply v 14 _ _ (by omega)).trans (congrArg v (funext fun a => Fin.ext ?_))
  match a with
  | 0 => show 14 + ((reduces_S1x1024_S1.lift (ValueIdx.ix1 0) j : S1x1024.Idx) 0).val = 14; omega
  | 1 => rfl

/-- A store of rows from the first on, as a piece. -/
abbrev top (p : ℕ) (inb : ∀ a, (![0, 0] : Fin 2 → ℕ) a + (⟨2, ![p, 1024]⟩ : Shape).size a ≤ S8x1024.size a) (w : (⟨2, ![p, 1024]⟩ : Shape).Idx → EReal) :
    View.Piece (Elt Ideal) S8x1024 .f32 := ⟨Rect.unit (s := S8x1024) ![0, 0] (⟨2, ![p, 1024]⟩ : Shape).size inb, w⟩

theorem canon_hit (p : ℕ) (inb) (w : (⟨2, ![p, 1024]⟩ : Shape).Idx → EReal) (L : List (View.Piece (Elt Ideal) S8x1024 .f32)) (y : S8x1024.Idx)
    (h : (y 0).val < p) : View.canon (top p inb w :: L) y = w (ValueIdx.ix2 ⟨(y 0).val, h⟩ (y 1)) := by
  have hy : y = (Rect.unit (s := S8x1024) ![0, 0] (⟨2, ![p, 1024]⟩ : Shape).size inb).emb (ValueIdx.ix2 ⟨(y 0).val, h⟩ (y 1)) := by
    funext a
    refine Fin.ext ?_
    match a with
    | 0 => show (y 0).val = 0 + 1 * (y 0).val; omega
    | 1 => show (y 1).val = 0 + 1 * (y 1).val; omega
  conv_lhs => rw [hy]
  exact View.canon_cons_emb (Rect.unit (s := S8x1024) ![0, 0] (⟨2, ![p, 1024]⟩ : Shape).size inb) w L _

theorem canon_skip (p : ℕ) (inb) (w : (⟨2, ![p, 1024]⟩ : Shape).Idx → EReal) (L : List (View.Piece (Elt Ideal) S8x1024 .f32)) (y : S8x1024.Idx)
    (h : p ≤ (y 0).val) : View.canon (top p inb w :: L) y = View.canon L y := by
  refine View.canon_cons_of_not_mem _ L fun hm => ?_
  have e : 0 ≤ (y 0).val ∧ (y 0).val < 0 + p := (Rect.mem_set_unit (inb := inb)).1 hm 0
  omega

/-- What the bias rows hold: the six sums, the first two of them with the sums two devices' rows further added. -/
def bias (x : S8x48x1024.Idx → EReal) (i : Fin 8) (j : Fin 1024) : EReal :=
  if h : i.val < 6 then (if i.val < 2 then tot x ⟨i.val, by omega⟩ j + tot x ⟨6 + i.val, by omega⟩ j else tot x ⟨i.val, by omega⟩ j) else 0

/-- The first rows, read back after the two stores so far. -/
theorem read_back (v : View sig .tc .vmem S8x1024 .f32) (w : S6x1024.Idx → EReal) (z : S8x1024.Idx → EReal) (b6 b8) (inb) (y : S2x1024.Idx) :
    (v.readCov (Val := Elt Ideal) [top 6 b6 w, top 8 b8 z] (Rect.unit (s := S8x1024) ![0, 0] S2x1024.size inb).toLoadRect : S2x1024.Idx → EReal) y
      = w (ValueIdx.ix2 ⟨(y 0).val, Nat.lt_trans (y 0).isLt (by show 2 < 6; norm_num)⟩ (y 1)) := by
  have hy : (y 0).val < 2 := (y 0).isLt
  rw [View.readCov_eq_canon_ld _ _ _ fun j => ⟨top 8 b8 z, by simp, (Rect.mem_set_unit (inb := b8)).2 fun a => ⟨by
    match a with
    | 0 => exact Nat.zero_le _
    | 1 => exact Nat.zero_le _, by
    match a with
    | 0 => exact (Nat.zero_add 8).symm ▸ (j 0).isLt
    | 1 => exact (Nat.zero_add 1024).symm ▸ (j 1).isLt⟩⟩]
  have e : (Rect.unit (s := S8x1024) ![0, 0] S2x1024.size inb).emb y = ValueIdx.ix2 ⟨(y 0).val, by omega⟩ (y 1) := funext fun a => Fin.ext (by
    match a with
    | 0 => show 0 + 1 * (y 0).val = (y 0).val; omega
    | 1 => show 0 + 1 * (y 1).val = (y 1).val; omega)
  refine (congrArg (View.canon _) e).trans ?_
  exact canon_hit 6 b6 w _ _ (by show (y 0).val < 6; omega)

section Points
variable (m : (ℓ : Loc nD τ sig) → Buf (Elt Ideal) ℓ) (c : Dev nD)

/-- The argument at a device. -/
abbrev arg : S8x48x1024.Idx → EReal := m ((c : Thread nD τ).loc main_arg0)

variable (arg0 : Memref sig .tc .vmem S8x48x1024 .f32) (harg0 : arg0.IsWhole) (arg1 : Memref sig .tc .vmem S48x1024 .f32) (harg1 : arg1.IsWhole)
  (arg2 : Memref sig .tc .vmem S8x1024 .f32) (harg2 : arg2.IsWhole) (arg3 : Memref sig .tc .vmem S8x128 .f32) (harg3 : arg3.IsWhole) (x : S8x48x1024.Idx → EReal)

theorem out1 : out0_A_1 (F := Ideal) c arg0 harg0 arg1 harg1 arg2 harg2 arg3 harg3 x = fun y => tot x (y 0 : Fin 48) (y 1 : Fin 1024) := by
  unfold out0_A_1
  rw [View.read_writes_eq_canon _ _ _ (cover0_A_1 (F := Ideal) c arg0 harg0 arg1 harg1 arg2 harg2 arg3 harg3 x)]
  unfold kernelRun0_A
  dsimp only
  try sl_unfold_words
  simp only [View.readAt_eq_ld, harg0.read_unread]
  rw [View.canon_unit_zero zero2]
  funext y
  exact pay3_apply x _ _ _ _ _ _ _ _ y

theorem out3 : out0_A_3 (F := Ideal) c arg0 harg0 arg1 harg1 arg2 harg2 arg3 harg3 x = fun _ => ∑ j : Fin 1024, tot x 14 j := by
  unfold out0_A_3
  rw [View.read_writes_eq_canon _ _ _ (cover0_A_3 (F := Ideal) c arg0 harg0 arg1 harg1 arg2 harg2 arg3 harg3 x)]
  unfold kernelRun0_A
  dsimp only
  try sl_unfold_words
  simp only [View.readAt_eq_ld, harg0.read_unread]
  rw [View.canon_unit_zero zero2]
  funext y
  refine (pay2_apply _ y).trans (Finset.sum_congr rfl fun j _ => ?_)
  exact pay3_apply x _ _ _ _ _ _ _ _ (ValueIdx.ix2 14 j)

theorem out2 : out0_A_2 (F := Ideal) c arg0 harg0 arg1 harg1 arg2 harg2 arg3 harg3 x = fun y => bias x (y 0) (y 1) := by
  unfold out0_A_2
  rw [View.read_writes_eq_canon _ _ _ (cover0_A_2 (F := Ideal) c arg0 harg0 arg1 harg1 arg2 harg2 arg3 harg3 x)]
  unfold kernelRun0_A
  dsimp only
  try sl_unfold_words
  simp only [View.readAt_eq_ld, harg0.read_unread]
  funext y
  have h8 : (y 0).val < 8 := (y 0).isLt
  have six : ∀ (z : S6x1024.Idx), k0_pay5 (F := Ideal) (rows x 0 inb_S8x48x1024_S1x48x1024_0_0_0) (rows x 1 inb_S8x48x1024_S1x48x1024_1_0_0) (rows x 2 inb_S8x48x1024_S1x48x1024_2_0_0) (rows x 3 inb_S8x48x1024_S1x48x1024_3_0_0) (rows x 4 inb_S8x48x1024_S1x48x1024_4_0_0) (rows x 5 inb_S8x48x1024_S1x48x1024_5_0_0) (rows x 6 inb_S8x48x1024_S1x48x1024_6_0_0) (rows x 7 inb_S8x48x1024_S1x48x1024_7_0_0) z
      = tot x ⟨(z 0).val, Nat.lt_trans (z 0).isLt (by show 6 < 48; norm_num)⟩ (z 1) := fun z => by
    have hz : (z 0).val < 6 := (z 0).isLt
    unfold k0_pay5
    refine (slice_apply _ 0 _ z (by omega)).trans ?_
    refine (pay3_apply x _ _ _ _ _ _ _ _ _).trans ?_
    congr 1
    exact Fin.ext (Nat.zero_add _)
  unfold bias
  by_cases h2 : (y 0).val < 2
  · rw [dif_pos (by omega), if_pos h2]
    refine (canon_hit 2 _ _ _ y h2).trans ?_
    refine (pay1_apply _ _ _ (by show 6 + (y 0).val < 48; omega)).trans ?_
    refine congrArg₂ (fun p q : EReal => p + q) ?_ (pay3_apply x _ _ _ _ _ _ _ _ _)
    refine (read_back _ _ _ _ _ _ _).trans ?_
    exact six _
  · by_cases h6 : (y 0).val < 6
    · rw [dif_pos h6, if_neg h2]
      refine (canon_skip 2 _ _ _ y (by omega)).trans ?_
      refine (canon_hit 6 _ _ _ y h6).trans ?_
      exact six _
    · rw [dif_neg h6]
      refine (canon_skip 2 _ _ _ y (by omega)).trans ?_
      refine (canon_skip 6 _ _ _ y (by omega)).trans ?_
      refine (canon_hit 8 _ _ _ y h8).trans ?_
      exact Ideal.ofBits_zero_f32

/-- The block the point reads is the argument. -/
theorem blk0 (t : Fin cfg0.N) : (iblk m c 0 t : Vec Ideal S8x48x1024 .f32) = arg m c := funext fun y =>
  congrArg (arg m c) (funext fun a => Fin.ext (at_zero ((by decide +kernel : ∀ (t : Fin grid0.N) a, win0_0.index t a = 0) t a)))

theorem arr1 : (dats m 0 c).arrAt 1 cfg0.N = fun y : S48x1024.Idx => tot (arg m c) (y 0 : Fin 48) (y 1 : Fin 1024) := by
  refine (dats m 0 c).arrAt_eq_of_covers 1 _ (by decide +kernel) fun t hf y => ?_
  have e : (((cfg0.win 1).blk t).view.emb y : S48x1024.Idx) = y :=
    funext fun a => Fin.ext (at_zero ((by decide +kernel : ∀ (t : Fin grid0.N) a, win0_1.index t a = 0) t a))
  blk_simp
  rw [after0_1]
  unfold outsAt0
  dsimp only
  rw [out1, blk0]
  exact (congrArg (fun y : S48x1024.Idx => tot (arg m c) (y 0 : Fin 48) (y 1 : Fin 1024)) e).symm

theorem arr2 : (dats m 0 c).arrAt 2 cfg0.N = fun y : S8x1024.Idx => bias (arg m c) (y 0 : Fin 8) (y 1 : Fin 1024) := by
  refine (dats m 0 c).arrAt_eq_of_covers 2 _ (by decide +kernel) fun t hf y => ?_
  have e : (((cfg0.win 2).blk t).view.emb y : S8x1024.Idx) = y :=
    funext fun a => Fin.ext (at_zero ((by decide +kernel : ∀ (t : Fin grid0.N) a, win0_2.index t a = 0) t a))
  blk_simp
  rw [after0_2]
  unfold outsAt0
  dsimp only
  rw [out2, blk0]
  exact (congrArg (fun y : S8x1024.Idx => bias (arg m c) (y 0 : Fin 8) (y 1 : Fin 1024)) e).symm

theorem arr3 : (dats m 0 c).arrAt 3 cfg0.N = fun _ : S8x128.Idx => ∑ j : Fin 1024, tot (arg m c) 14 j := by
  refine (dats m 0 c).arrAt_eq_of_covers 3 _ (by decide +kernel) fun t hf y => ?_
  have e : (((cfg0.win 3).blk t).view.emb y : S8x128.Idx) = y :=
    funext fun a => Fin.ext (at_zero ((by decide +kernel : ∀ (t : Fin grid0.N) a, win0_3.index t a = 0) t a))
  blk_simp
  rw [after0_3]
  unfold outsAt0
  dsimp only
  rw [out3, blk0]

end Points

/-! The reference. -/

theorem ref0 (x : S8x48x1024.Idx → EReal) : val_main_v0 (F := Ideal) x = fun y => tot x (y 0 : Fin 48) (y 1 : Fin 1024) := by
  funext y
  rw [Cert.TotalsRefIdeal.Read.val_main_v0_apply]
  refine (congrArg (· + _) Ideal.ofBits_zero_f32).trans ((zero_add _).trans ?_)
  refine Finset.sum_congr rfl fun k _ => congrArg x (funext fun a => Fin.ext ?_)
  match a with
  | 0 => rfl
  | 1 => rfl
  | 2 => rfl

theorem ref10 (x : S8x48x1024.Idx → EReal) : val_main_v10 (F := Ideal) x = fun _ => ∑ j : Fin 1024, tot x 14 j := by
  funext y
  rw [Cert.TotalsRefIdeal.Read.val_main_v10_apply, Cert.TotalsRefIdeal.Read.val_main_v9_apply]
  refine (congrArg (· + _) Ideal.ofBits_zero_f32).trans ((zero_add _).trans ?_)
  refine (Equiv.sum_comp (ValueIdx.idxEquiv1 (n := 1024)).symm _).symm.trans (Finset.sum_congr rfl fun j _ => ?_)
  rw [Cert.TotalsRefIdeal.Read.val_main_v8_apply, Cert.TotalsRefIdeal.Read.val_main_v7_apply, ref0]
  refine congrArg₂ (tot x) (Fin.ext ?_) (Fin.ext ?_)
  · rfl
  · show _ % _ = _
    exact Nat.mod_eq_of_lt j.isLt

theorem ref6 (x : S8x48x1024.Idx → EReal) : val_main_v6 (F := Ideal) x = fun y => bias x (y 0 : Fin 8) (y 1 : Fin 1024) := by
  funext y
  have h8 : (y 0).val < 8 := (y 0).isLt
  unfold val_main_v6 bias
  by_cases h6 : (y 0).val < 6
  · rw [dif_pos h6]
    by_cases h2 : (y 0).val < 2
    · rw [if_pos h2]
      refine (concatenate_apply_piece 0 _ _ y 0 (by show 0 < 3; norm_num) S2x1024 _ rfl rfl 0 rfl (ValueIdx.ix2 ⟨(y 0).val, h2⟩ (y 1)) (fun b hb => ?_) (by show 0 + (y 0).val = (y 0).val; omega)).trans ?_
      · match b with
        | 0 => exact absurd rfl hb
        | 1 => rfl
      rw [Cert.TotalsRefIdeal.Read.val_main_v3_apply, Cert.TotalsRefIdeal.Read.val_main_v1_apply, Cert.TotalsRefIdeal.Read.val_main_v2_apply, ref0]
      rfl
    · rw [if_neg h2]
      refine (concatenate_apply_piece 0 _ _ y 1 (by show 1 < 3; norm_num) Cert.TotalsRefIdeal.S4x1024 _ rfl rfl 2 rfl (ValueIdx.ix2 ⟨(y 0).val - 2, by show _ < 4; omega⟩ (y 1)) (fun b hb => ?_) (by show 2 + ((y 0).val - 2) = (y 0).val; omega)).trans ?_
      · match b with
        | 0 => exact absurd rfl hb
        | 1 => rfl
      rw [Cert.TotalsRefIdeal.Read.val_main_v4_apply, ref0]
      refine congrArg₂ (tot x) (Fin.ext ?_) (Fin.ext ?_)
      · show 2 + ((y 0).val - 2) = (y 0).val; omega
      · rfl
  · rw [dif_neg h6]
    refine (concatenate_apply_piece 0 _ _ y 2 (by show 2 < 3; norm_num) S2x1024 _ rfl rfl 6 rfl (ValueIdx.ix2 ⟨(y 0).val - 6, by show _ < 2; omega⟩ (y 1)) (fun b hb => ?_) (by show 6 + ((y 0).val - 6) = (y 0).val; omega)).trans ?_
    · match b with
      | 0 => exact absurd rfl hb
      | 1 => rfl
    rw [Cert.TotalsRefIdeal.Read.val_main_v5_apply]
    exact Ideal.ofBits_zero_f32

/-- The kernel's arrays are the reference's. -/
theorem values : Cert.algebraic_TotalsIdeal_TotalsRefIdeal := by
  intro m g m' g' _ harg
  refine ⟨fun c => (dats m 0 c).arrAt 1 cfg0.N, fun c => (dats m 0 c).arrAt 2 cfg0.N, fun c => (dats m 0 c).arrAt 3 cfg0.N, run_blocks m g, ?_⟩
  refine (θ_run _ _ _).mono (fun r h c => ?_) (Cert.TotalsRefIdeal.Value.run m' g')
  obtain ⟨h0, h1, h2, hk⟩ := h c
  have e0 := harg c
  refine ⟨h0.trans (Eq.trans ?_ (arr1 m c).symm), h1.trans (Eq.trans ?_ (arr2 m c).symm), h2.trans (Eq.trans ?_ (arr3 m c).symm), hk⟩
  · rw [e0]; exact (Cert.TotalsRefIdeal.Read.val_main_v0_eq (F := Ideal) _).trans (ref0 _)
  · rw [e0]; exact (Cert.TotalsRefIdeal.Read.val_main_v6_eq (F := Ideal) _).trans (ref6 _)
  · rw [e0]; exact (Cert.TotalsRefIdeal.Read.val_main_v10_eq (F := Ideal) _).trans (ref10 _)

/-- The reference ends with its arguments unchanged and every counter at zero. -/
theorem frame_ref : Cert.quiescent_TotalsRefIdeal := fun m ρ _ =>
  (θ_run Cert.TotalsRefIdeal.defs _ _).mono (fun r h => ⟨fun c => (h c).2.2.2, Idealize.ShloMosaic.sem_eq_zero_of_no_sems (by decide) r.2⟩)
    (Cert.TotalsRefIdeal.Value.run (F := Ideal) m ρ)

end Cert.TotalsIdeal.Val
-- ==== Proof.CtxGradVal.lean ====
/-
  The gradient of the context row: the array the kernel leaves is, entry by entry, the one the reference states, where the packed rows
  it sums are numbers.
-/
module

public import proofs.«01_k».proof.Proof.Gen.CtxGradIdeal.Value
public import proofs.«01_k».proof.Proof.Gen.CtxGradRefIdeal.Run
public import proofs.«01_k».proof.Proof.Gen.CtxGradRefIdeal.Read
public import proofs.«01_k».proof.Proof.Gen.Pre_finite_ctx
public import proofs.«01_k».proof.Proof.Reals
public import proofs.«01_k».proof.Defs
public import Idealize.ShloMosaic.Lib.Quiescent
public import Idealize.ShloMosaic.Lib.KernelVsHost
public import Idealize.ShloMosaic.Lib.Pipeline.ValueKit

@[expose] public section

noncomputable section

namespace Cert.CtxGradIdeal.Val

open Cert.CtxGradIdeal Cert.CtxGradIdeal.Gen Cert.CtxGradIdeal.Value Cert.Reals Idealize.ShloMosaic Idealize.ShloMosaic.TcCoe Idealize.SL.Sem
open Cert.CtxGradRefIdeal.Read (val_main_v3 val_main_v5 val_main_v7 val_main_v9)

/-! One entry: `s` the sum of the packed rows, `k` the context's entry. -/

/-- The logistic function. -/
def lgs (k : EReal) : EReal := Ideal.div ((1 : ℝ) : EReal) (((1 : ℝ) : EReal) + Ideal.exp (-k))

/-- The entry the kernel computes. -/
def ker (s k : EReal) : EReal := s * (lgs k * (((1 : ℝ) : EReal) + k * (((1 : ℝ) : EReal) - lgs k)))

/-- The entry the reference computes. -/
def ref (s k : EReal) : EReal := s * lgs k + k * s * (lgs k * (((1 : ℝ) : EReal) - lgs k))

theorem lgs_bot : lgs ⊥ = 0 := by
  unfold lgs
  rw [EReal.neg_bot, Ideal.exp_top, EReal.coe_add_top]
  unfold Ideal.div
  rw [if_neg (by simp), EReal.inv_top, mul_zero]

theorem lgs_top : lgs ⊤ = ((1 : ℝ) : EReal) := by
  unfold lgs
  rw [EReal.neg_top, Ideal.exp_bot, add_zero, div_coe_coe one_ne_zero, div_one]

theorem one_sub_one : ((1 : ℝ) : EReal) - ((1 : ℝ) : EReal) = 0 := by
  rw [← EReal.coe_sub, sub_self, EReal.coe_zero]

/-- The two entries agree where the sum is a number, whatever the context's entry. -/
theorem entry (r : ℝ) (k : EReal) : ref (r : EReal) k = ker (r : EReal) k := by
  unfold ref ker
  induction k with
  | bot => rw [lgs_bot, zero_mul, zero_mul, mul_zero, mul_zero, add_zero]
  | top => rw [lgs_top, one_sub_one, mul_zero, mul_zero, mul_zero, add_zero, add_zero, EReal.coe_one, mul_one, mul_one, mul_one]
  | coe x =>
    have e : lgs (x : EReal) = ((1 / (1 + Real.exp (-x)) : ℝ) : EReal) := by
      unfold lgs
      rw [← EReal.coe_neg, Ideal.exp_coe, ← EReal.coe_add, div_coe_coe (one_add_exp_pos _).ne']
    rw [e]
    generalize (1 / (1 + Real.exp (-x)) : ℝ) = g
    norm_cast
    ring

/-- The sum of the packed rows of the four devices the row is held by. -/
def tot (x : S8x8x1024.Idx → EReal) (j : Fin 1024) : EReal :=
  x (ValueIdx.ix3 0 0 j) + x (ValueIdx.ix3 2 0 j) + x (ValueIdx.ix3 4 0 j) + x (ValueIdx.ix3 6 0 j)

/-- What the array holds: the gradient in the first row, zero below. -/
def row (f : EReal → EReal → EReal) (x : S8x8x1024.Idx → EReal) (w : S8x1024.Idx → EReal) (i : Fin 8) (j : Fin 1024) : EReal :=
  if i.val < 1 then f (tot x j) (w (ValueIdx.ix2 0 j)) else 0

/-! The kernel. -/

/-- A packed row, loaded and regrouped. -/
theorem packed (x : S8x8x1024.Idx → EReal) (k : ℕ) (hk : k < 8) (inb : ∀ a, (![k, 0, 0] : Fin 3 → ℕ) a + S1x1x1024.size a ≤ S8x8x1024.size a)
    (h : S1x1x1024.ShapeCasts S1x1024) (y : S1x1024.Idx) :
    shapeCast S1x1024 (View.ld (Val := Elt Ideal) (e' := .f32) x (Rect.unit (s := S8x8x1024) ![k, 0, 0] S1x1x1024.size inb) : S1x1x1024.Idx → EReal) h y
      = x (ValueIdx.ix3 ⟨k, hk⟩ 0 (y 1)) := by
  have hy : (y 0).val < 1 := (y 0).isLt
  refine (shapeCast_apply _ h y (ValueIdx.ix3 0 0 (y 1)) ?_).trans ?_
  · rw [Shape.rowMajor_val_three, Shape.rowMajor_val_two]
    show (0 * 1 + 0) * 1024 + (y 1).val = (y 0).val * 1024 + (y 1).val
    omega
  · refine congrArg x (funext fun a => Fin.ext ?_)
    match a with
    | 0 => show k + 1 * 0 = k; omega
    | 1 => rfl
    | 2 => show 0 + 1 * (y 1).val = (y 1).val; omega

abbrev rows (x : S8x8x1024.Idx → EReal) (k : ℕ) (inb : ∀ a, (![k, 0, 0] : Fin 3 → ℕ) a + S1x1x1024.size a ≤ S8x8x1024.size a) : Vec Ideal S1x1x1024 .f32 :=
  View.ld (Val := Elt Ideal) (e' := .f32) x (Rect.unit (s := S8x8x1024) ![k, 0, 0] S1x1x1024.size inb)

theorem pay2_apply (x : S8x8x1024.Idx → EReal) (w : S8x1024.Idx → EReal) (b0 b2 b4 b6 b) (y : S1x1024.Idx) :
    k0_pay2 (F := Ideal) (rows x 0 b0) (rows x 2 b2) (rows x 4 b4) (rows x 6 b6) (View.ld (Val := Elt Ideal) (e' := .f32) w (Rect.unit (s := S8x1024) ![0, 0] S1x1024.size b)) y
      = ker (tot x (y 1)) (w (ValueIdx.ix2 0 (y 1))) := by
  have hy : (y 0).val < 1 := (y 0).isLt
  have e := fun k hk inb => packed x k hk inb shapeCasts_S1x1x1024_S1x1024 y
  have ew : (View.ld (Val := Elt Ideal) (e' := .f32) w (Rect.unit (s := S8x1024) ![0, 0] S1x1024.size b) : S1x1024.Idx → EReal) y = w (ValueIdx.ix2 0 (y 1)) := by
    refine congrArg w (funext fun a => Fin.ext ?_)
    match a with
    | 0 => show 0 + 1 * (y 0).val = 0; omega
    | 1 => show 0 + 1 * (y 1).val = (y 1).val; omega
  have es := congrArg₂ (fun p q : EReal => p + q) (congrArg₂ (fun p q : EReal => p + q) (congrArg₂ (fun p q : EReal => p + q) (e 0 (by norm_num) b0) (e 2 (by norm_num) b2))
    (e 4 (by norm_num) b4)) (e 6 (by norm_num) b6)
  have fin : ∀ s k : EReal, s * (Ideal.div (Ideal.ofBits .f32 0x3F800000#32) (Ideal.ofBits .f32 0x3F800000#32 + Ideal.exp (Ideal.ofBits .f32 0x00000000#32 - k))
      * (Ideal.ofBits .f32 0x3F800000#32 + k * (Ideal.ofBits .f32 0x3F800000#32 - Ideal.div (Ideal.ofBits .f32 0x3F800000#32)
        (Ideal.ofBits .f32 0x3F800000#32 + Ideal.exp (Ideal.ofBits .f32 0x00000000#32 - k))))) = ker s k := fun s k => by
    rw [w_one, w_zero, EReal.coe_zero, zero_sub]; rfl
  refine Eq.trans ?_ (fin (tot x (y 1)) (w (ValueIdx.ix2 0 (y 1))))
  rw [← ew]
  exact congrArg (fun s : EReal => s * _) es

/-- A store of rows from the first on, as a piece. -/
abbrev top (p : ℕ) (inb : ∀ a, (![0, 0] : Fin 2 → ℕ) a + (⟨2, ![p, 1024]⟩ : Shape).size a ≤ S8x1024.size a) (w : (⟨2, ![p, 1024]⟩ : Shape).Idx → EReal) :
    View.Piece (Elt Ideal) S8x1024 .f32 := ⟨Rect.unit (s := S8x1024) ![0, 0] (⟨2, ![p, 1024]⟩ : Shape).size inb, w⟩

theorem canon_hit (p : ℕ) (inb) (w : (⟨2, ![p, 1024]⟩ : Shape).Idx → EReal) (L : List (View.Piece (Elt Ideal) S8x1024 .f32)) (y : S8x1024.Idx)
    (h : (y 0).val < p) : View.canon (top p inb w :: L) y = w (ValueIdx.ix2 ⟨(y 0).val, h⟩ (y 1)) := by
  have hy : y = (Rect.unit (s := S8x1024) ![0, 0] (⟨2, ![p, 1024]⟩ : Shape).size inb).emb (ValueIdx.ix2 ⟨(y 0).val, h⟩ (y 1)) := by
    funext a
    refine Fin.ext ?_
    match a with
    | 0 => show (y 0).val = 0 + 1 * (y 0).val; omega
    | 1 => show (y 1).val = 0 + 1 * (y 1).val; omega
  conv_lhs => rw [hy]
  exact View.canon_cons_emb (Rect.unit (s := S8x1024) ![0, 0] (⟨2, ![p, 1024]⟩ : Shape).size inb) w L _

section Points
variable (m : (ℓ : Loc nD τ sig) → Buf (Elt Ideal) ℓ) (c : Dev nD)

abbrev argx : S8x8x1024.Idx → EReal := m ((c : Thread nD τ).loc main_arg0)
abbrev argw : S8x1024.Idx → EReal := m ((c : Thread nD τ).loc main_arg1)

variable (arg0 : Memref sig .tc .vmem S8x8x1024 .f32) (harg0 : arg0.IsWhole) (arg1 : Memref sig .tc .vmem S8x1024 .f32) (harg1 : arg1.IsWhole)
  (arg2 : Memref sig .tc .vmem S8x1024 .f32) (harg2 : arg2.IsWhole) (x : S8x8x1024.Idx → EReal) (w : S8x1024.Idx → EReal)

theorem out2 : out0_A_2 (F := Ideal) c arg0 harg0 arg1 harg1 arg2 harg2 x w = fun y => row ker x w (y 0 : Fin 8) (y 1 : Fin 1024) := by
  unfold out0_A_2
  rw [View.read_writes_eq_canon _ _ _ (cover0_A_2 (F := Ideal) c arg0 harg0 arg1 harg1 arg2 harg2 x w)]
  unfold kernelRun0_A
  dsimp only
  try sl_unfold_words
  simp only [View.readAt_eq_ld, harg0.read_unread, harg1.read_unread]
  funext y
  have h8 : (y 0).val < 8 := (y 0).isLt
  unfold row
  by_cases h1 : (y 0).val < 1
  · rw [if_pos h1]
    refine (canon_hit 1 _ _ _ y h1).trans ?_
    exact pay2_apply x w _ _ _ _ _ _
  · rw [if_neg h1]
    refine (View.canon_cons_of_not_mem _ _ fun hm => ?_).trans ?_
    · have e : 0 ≤ (y 0).val ∧ (y 0).val < 0 + 1 := (Rect.mem_set_unit (inb := inb_S8x1024_S1x1024_0_0)).1 hm 0
      omega
    refine (canon_hit 8 _ _ _ y h8).trans ?_
    exact Ideal.ofBits_zero_f32

theorem blk0 (t : Fin cfg0.N) : (iblk m c 0 t : Vec Ideal S8x8x1024 .f32) = argx m c := by
  funext y
  have e : (iblk m c 0 t : Vec Ideal S8x8x1024 .f32) y = argx m c (((cfg0.win 0).blk t).view.emb y) := rfl
  rw [e]
  refine congrArg (argx m c) (funext fun a => Fin.ext ?_)
  have h : ∀ t : Fin cfg0.N, win0_0.index t (0 : Fin 3) = 0 ∧ win0_0.index t (1 : Fin 3) = 0 ∧ win0_0.index t (2 : Fin 3) = 0 :=
    (by decide +kernel : ∀ t : Fin grid0.N, _)
  obtain ⟨h0, h1, h2⟩ := h t
  match a with
  | 0 => show win0_0.index t (0 : Fin 3) * 8 + 1 * (y 0).val = (y 0).val; rw [h0]; omega
  | 1 => show win0_0.index t (1 : Fin 3) * 8 + 1 * (y 1).val = (y 1).val; rw [h1]; omega
  | 2 => show win0_0.index t (2 : Fin 3) * 1024 + 1 * (y 2).val = (y 2).val; rw [h2]; omega

theorem blk1 (t : Fin cfg0.N) : (iblk m c 1 t : Vec Ideal S8x1024 .f32) = argw m c := by
  funext y
  have e : (iblk m c 1 t : Vec Ideal S8x1024 .f32) y = argw m c (((cfg0.win 1).blk t).view.emb y) := rfl
  rw [e]
  refine congrArg (argw m c) (funext fun a => Fin.ext ?_)
  have h : ∀ t : Fin cfg0.N, win0_1.index t (0 : Fin 2) = 0 ∧ win0_1.index t (1 : Fin 2) = 0 := (by decide +kernel : ∀ t : Fin grid0.N, _)
  obtain ⟨h0, h1⟩ := h t
  match a with
  | 0 => show win0_1.index t (0 : Fin 2) * 8 + 1 * (y 0).val = (y 0).val; rw [h0]; omega
  | 1 => show win0_1.index t (1 : Fin 2) * 1024 + 1 * (y 1).val = (y 1).val; rw [h1]; omega

theorem arr2 : (dats m 0 c).arrAt 2 cfg0.N = fun y : S8x1024.Idx => row ker (argx m c) (argw m c) (y 0 : Fin 8) (y 1 : Fin 1024) := by
  refine (dats m 0 c).arrAt_eq_of_covers 2 _ (by decide +kernel) fun t hf y => ?_
  have h : ∀ t : Fin cfg0.N, win0_2.index t (0 : Fin 2) = 0 ∧ win0_2.index t (1 : Fin 2) = 0 := (by decide +kernel : ∀ t : Fin grid0.N, _)
  obtain ⟨h0, h1⟩ := h t
  have e : (((cfg0.win 2).blk t).view.emb y : S8x1024.Idx) = y := funext fun a => Fin.ext (by
    match a with
    | 0 => show win0_2.index t (0 : Fin 2) * 8 + 1 * (y 0).val = (y 0).val; rw [h0]; omega
    | 1 => show win0_2.index t (1 : Fin 2) * 1024 + 1 * (y 1).val = (y 1).val; rw [h1]; omega)
  blk_simp
  rw [after0_2]
  unfold outsAt0
  rw [out2, blk0, blk1]
  exact (congrArg (fun y : S8x1024.Idx => row ker (argx m c) (argw m c) (y 0 : Fin 8) (y 1 : Fin 1024)) e).symm

end Points

/-! The reference. -/

theorem ref3 (x : S8x8x1024.Idx → EReal) (j : Fin 1024) : val_main_v3 (F := Ideal) x (ValueIdx.ix1 j) = tot x j := by
  have hj := j.isLt
  rw [Cert.CtxGradRefIdeal.Read.val_main_v3_apply]
  refine (congrArg (· + _) Ideal.ofBits_zero_f32).trans ((zero_add _).trans ?_)
  refine (Fin.sum_univ_four (M := EReal) _).trans ?_
  have e : ∀ (k : Fin 4) (q : Fin 8), q.val = 2 * k.val →
      Cert.CtxGradRefIdeal.Read.val_main_v2 (F := Ideal) x (Cert.CtxGradRefIdeal.Read.idx_main_v3 (ValueIdx.ix1 j) k) = x (ValueIdx.ix3 q 0 j) := fun k q hq => by
    have hk := k.isLt
    rw [Cert.CtxGradRefIdeal.Read.val_main_v2_apply, Cert.CtxGradRefIdeal.Read.val_main_v1_apply, Cert.CtxGradRefIdeal.Read.val_main_v0_apply]
    refine congrArg x (funext fun a => Fin.ext ?_)
    match a with
    | 0 => show (((((k.val * 1024 + j.val) / 1024) * 2 + 0) * 8 + 0) * 1024 + (k.val * 1024 + j.val) % 1024) / 8192 = q.val; omega
    | 1 => show (((((k.val * 1024 + j.val) / 1024) * 2 + 0) * 8 + 0) * 1024 + (k.val * 1024 + j.val) % 1024) / 1024 % 8 = 0; omega
    | 2 => show (((((k.val * 1024 + j.val) / 1024) * 2 + 0) * 8 + 0) * 1024 + (k.val * 1024 + j.val) % 1024) % 1024 = j.val; omega
  exact congrArg₂ (fun p q : EReal => p + q) (congrArg₂ (fun p q : EReal => p + q) (congrArg₂ (fun p q : EReal => p + q) (e 0 0 rfl) (e 1 2 rfl)) (e 2 4 rfl)) (e 3 6 rfl)

theorem ref5 (w : S8x1024.Idx → EReal) (j : Fin 1024) : val_main_v5 (F := Ideal) w (ValueIdx.ix1 j) = w (ValueIdx.ix2 0 j) := by
  rw [Cert.CtxGradRefIdeal.Read.val_main_v5_apply, Cert.CtxGradRefIdeal.Read.val_main_v4_apply]
  refine congrArg w (funext fun a => Fin.ext ?_)
  match a with
  | 0 => rfl
  | 1 => exact Nat.mod_eq_of_lt j.isLt

theorem ref7 (x : S8x8x1024.Idx → EReal) (w : S8x1024.Idx → EReal) (j : Fin 1024) : val_main_v7 (F := Ideal) x w (ValueIdx.ix1 j) = ref (tot x j) (w (ValueIdx.ix2 0 j)) := by
  have fin : ∀ s k : EReal, s * Ideal.div (Ideal.ofBits .f32 0x3F800000#32) (Ideal.ofBits .f32 0x3F800000#32 + Ideal.exp (-k))
      + k * s * (Ideal.div (Ideal.ofBits .f32 0x3F800000#32) (Ideal.ofBits .f32 0x3F800000#32 + Ideal.exp (-k))
        * (Ideal.ofBits .f32 0x3F800000#32 - Ideal.div (Ideal.ofBits .f32 0x3F800000#32) (Ideal.ofBits .f32 0x3F800000#32 + Ideal.exp (-k)))) = ref s k := fun s k => by
    rw [w_one]; rfl
  rw [← ref3 x j, ← ref5 w j]
  exact fin _ _

theorem ref9 (x : S8x8x1024.Idx → EReal) (w : S8x1024.Idx → EReal) : val_main_v9 (F := Ideal) x w = fun y => row ref x w (y 0 : Fin 8) (y 1 : Fin 1024) := by
  funext y
  unfold val_main_v9 row
  by_cases h1 : (y 0).val < 1
  · rw [if_pos h1]
    refine (pad_apply_of_inside _ _ _ _ _ _ _ y (ValueIdx.ix2 0 (y 1)) fun a => ?_).trans ?_
    · match a with
      | 0 => show (y 0).val = 0 + 0 * (0 + 1); omega
      | 1 => show (y 1).val = 0 + (y 1).val * (0 + 1); omega
    · refine (Cert.CtxGradRefIdeal.Read.val_main_v8_apply (F := Ideal) x w (ValueIdx.ix2 0 (y 1))).trans ?_
      refine (congrArg (val_main_v7 (F := Ideal) x w) (funext fun a => Fin.ext ?_)).trans (ref7 x w (y 1))
      match a with
      | 0 => rfl
  · rw [if_neg h1]
    refine (pad_apply_of_not_inside _ _ _ _ _ _ _ y 0 fun hin => ?_).trans ?_
    · have e : ((y 0).val - 0) / (0 + 1) < 1 := hin.2.2
      rw [Nat.div_one] at e
      omega
    · show (((0#32 : BitVec 32).toInt : ℝ) : EReal) = 0
      simp

/-- A comparison that comes out true says its operand is a number. -/
theorem real_of_true {x : EReal} (h : FloatOps.cmpf (F := Ideal) (φ := .f32) .olt (max x (-x)) (Ideal.ofBits .f32 0x7F800000#32) = 1#1) : ∃ r : ℝ, x = (r : EReal) := by
  refine ⟨_, real_of_abs ?_⟩
  rw [w_inf] at h
  by_contra hn
  have e : FloatOps.cmpf (F := Ideal) (φ := .f32) .olt (max x (-x)) (⊤ : EReal) = BitVec.ofBool (decide (max x (-x) < ⊤)) := rfl
  rw [e, decide_eq_false hn] at h
  exact absurd h (by decide)

/-- Sums of numbers are numbers. -/
theorem tot_real {x : S8x8x1024.Idx → EReal} (h : ∀ i, ∃ r : ℝ, x i = (r : EReal)) (j : Fin 1024) : ∃ r : ℝ, tot x j = (r : EReal) := by
  obtain ⟨a, ha⟩ := h (ValueIdx.ix3 0 0 j)
  obtain ⟨b, hb⟩ := h (ValueIdx.ix3 2 0 j)
  obtain ⟨d, hd⟩ := h (ValueIdx.ix3 4 0 j)
  obtain ⟨e, he⟩ := h (ValueIdx.ix3 6 0 j)
  refine ⟨a + b + d + e, ?_⟩
  unfold tot
  rw [ha, hb, hd, he]
  norm_cast

/-- The kernel's array is the reference's. -/
theorem values : Cert.algebraic_CtxGradIdeal_CtxGradRefIdeal_pre_finite_ctx (hPre_finite_ctx := Cert.Pre_finite_ctx.Gen.facts) := by
  intro m g m' g' hpre harg
  refine ⟨fun c => (dats m 0 c).arrAt 2 cfg0.N, run_blocks m g, ?_⟩
  refine (θ_run _ _ _).mono (fun r h c => ?_) (Cert.CtxGradRefIdeal.Value.run m' g')
  obtain ⟨h0, hk⟩ := h c
  obtain ⟨e0, e1⟩ := harg c
  have hx : ∀ i, ∃ q : ℝ, argx m c i = (q : EReal) := fun i => real_of_true (congrFun (hpre c) i)
  refine ⟨h0.trans (Eq.trans ?_ (arr2 m c).symm), hk⟩
  rw [e0, e1]
  refine (Cert.CtxGradRefIdeal.Read.val_main_v9_eq (F := Ideal) _ _).trans ((ref9 _ _).trans (funext fun y => ?_))
  unfold row
  obtain ⟨q, hq⟩ := tot_real hx (y 1)
  split
  · refine (congrArg (fun s => ref s _) hq).trans ((entry q _).trans (congrArg (fun s => ker s _) hq).symm)
  · rfl

/-- The reference ends with its arguments unchanged and every counter at zero. -/
theorem frame_ref : Cert.quiescent_CtxGradRefIdeal := fun m ρ _ =>
  (θ_run Cert.CtxGradRefIdeal.defs _ _).mono (fun r h => ⟨fun c => (h c).2, Idealize.ShloMosaic.sem_eq_zero_of_no_sems (by decide) r.2⟩)
    (Cert.CtxGradRefIdeal.Value.run (F := Ideal) m ρ)

end Cert.CtxGradIdeal.Val
-- ==== Proof.MergeReals.lean ====
/-
  The merge gradient on real arrays: its formulas for any number of tokens, the kernel's arithmetic on a block of them,
  and the reference's on all.
-/
module

public import proofs.«01_k».proof.Proof.Heads
public import proofs.«01_k».proof.Proof.Gen.MergeIdeal.Skeleton
public import proofs.«01_k».proof.Proof.Gen.MergeRefIdeal.Read

@[expose] public section

noncomputable section

namespace Cert.Merge

open Cert.Reals Idealize.ShloMosaic Idealize.ShloMosaic.ValueIdx

/-- The eight real arrays, over `n` tokens. -/
structure In (n : ℕ) where
  dx : Mat n 1024
  y : Mat n 1024
  a : Mat n 512
  b : Mat n 512
  g : Mat n 512
  v : Mat 8 1024
  gn : Mat 1 512
  w : Mat 1024 1024

namespace In
variable {n k : ℕ} (A : In n)

/-- The tokens `e` names. -/
def at_ (e : Fin k → Fin n) : In k := ⟨fun i => A.dx (e i), fun i => A.y (e i), fun i => A.a (e i), fun i => A.b (e i), fun i => A.g (e i), A.v, A.gn, A.w⟩

/-- The gradient of the block's output, of the concatenated branches, and of the gated branch. -/
def dy (i : Fin n) (j : Fin 1024) : ℝ := A.dx i j * A.v 0 j
def dc (i : Fin n) (c : Fin 1024) : ℝ := ∑ j, A.dy i j * A.w c j
def dco (i : Fin n) (c : Fin 512) : ℝ := A.dc i ⟨c.val, by omega⟩
def du (i : Fin n) (c : Fin 512) : ℝ := A.dc i ⟨512 + c.val, by omega⟩
/-- The two directions' sum, its root mean square by head, and the normalised sum. -/
def o (i : Fin n) (c : Fin 512) : ℝ := A.a i c + A.b i c
def r (i : Fin n) (h : Fin 4) : ℝ := rs fun l => A.o i (hd h l)
def nm (i : Fin n) (h : Fin 4) (l : Fin 128) : ℝ := A.o i (hd h l) * A.r i h
/-- The gate: the logistic of it, its product with it, and that product's slope. -/
def sg (i : Fin n) (c : Fin 512) : ℝ := 1 / (1 + Real.exp (0 - A.g i c))
def si (i : Fin n) (c : Fin 512) : ℝ := A.g i c * A.sg i c
def ds (i : Fin n) (c : Fin 512) : ℝ := A.sg i c * (1 + A.g i c * (1 - A.sg i c))
def e (i : Fin n) (h : Fin 4) (l : Fin 128) : ℝ := A.du i (hd h l) * A.si i (hd h l) * A.gn 0 (hd h l)
/-- The gradient of the sum of the directions, of the gate, and a token's part of the two weights' gradients. -/
def dO (i : Fin n) (h : Fin 4) (l : Fin 128) : ℝ := A.r i h * (A.e i h l - A.nm i h l * ((∑ x, A.e i h x * A.nm i h x) / 128))
def dG (i : Fin n) (h : Fin 4) (l : Fin 128) : ℝ := A.du i (hd h l) * A.nm i h l * A.gn 0 (hd h l) * A.ds i (hd h l)
def p1 (i : Fin n) (j : Fin 1024) : ℝ := A.dx i j * A.y i j
def p2 (i : Fin n) (h : Fin 4) (l : Fin 128) : ℝ := A.du i (hd h l) * A.si i (hd h l) * A.nm i h l
end In

/-! The kernel's arithmetic on 1024 tokens. -/

namespace Kernel
open Cert.MergeIdeal Cert.MergeIdeal.Gen

variable {A : In 1024}

/-- What a point loads. -/
structure Ld (A : In 1024) (x0 : Vec Ideal S1024x1024 .f32) (x1 : Vec Ideal S1024x1024 .bf16) (x2 x3 x4 : Vec Ideal S1024x512 .bf16)
    (xv : Vec Ideal S1x1024 .f32) (x7 : Vec Ideal S1024x1024 .bf16) : Prop where
  h0 : Re (s := S1024x1024) x0 (c2 A.dx)
  h1 : Re (s := S1024x1024) x1 (c2 A.y)
  h2 : Re (s := S1024x512) x2 (c2 A.a)
  h3 : Re (s := S1024x512) x3 (c2 A.b)
  h4 : Re (s := S1024x512) x4 (c2 A.g)
  hv : Re (s := S1x1024) xv (c2 fun _ j => A.v 0 j)
  h7 : Re (s := S1024x1024) x7 (c2 A.w)

variable {x0 : Vec Ideal S1024x1024 .f32} {x1 : Vec Ideal S1024x1024 .bf16} {x2 x3 x4 : Vec Ideal S1024x512 .bf16}
  {xv : Vec Ideal S1x1024 .f32} {x7 : Vec Ideal S1024x1024 .bf16} (H : Ld A x0 x1 x2 x3 x4 xv x7)
include H

theorem k5 {x : Vec Ideal S8x1024 .f32} {r : Mat 8 1024} (hx : Re (s := S8x1024) x (c2 r)) :
    Re (s := S8x1024) (k0_pay5 x0 x x1) (c2 fun i j => r i j + ∑ k : Fin 128, A.p1 ⟨8 * k.val + i.val, by omega⟩ j) :=
  kacc (n := 1024) (f := A.p1) (by norm_num) _ _ _ hx (mul H.h0 (ext bitsLt_bf16_f32 H.h1))
theorem k6 : Re (s := S1024x1024) (k0_pay6 x0 xv) (c2 A.dy) := trunc bitsLt_bf16_f32 (mul H.h0 (rows _ H.hv))
theorem k7 : Re (s := S1024x1024) (k0_pay7 x0 xv x7) (c2 A.dc) := dotNT (k6 H) H.h7
theorem k8 : Re (s := S1024x512) (k0_pay8 x0 xv x7) (c2 A.dco) :=
  trunc bitsLt_bf16_f32 (cslice (fun c : Fin 512 => (⟨c.val, by omega⟩ : Fin 1024)) (fun _ => (Nat.zero_add _).symm) _ (k7 H))
theorem k9 : Re (s := S1024x512) (k0_pay9 x2 x3) (c2 A.o) := add (ext bitsLt_bf16_f32 H.h2) (ext bitsLt_bf16_f32 H.h3)
theorem k23 : Re (s := S1024x512) (k0_pay23 x4) (c2 A.g) := ext bitsLt_bf16_f32 H.h4
theorem k24 : Re (s := S1024x512) (k0_pay24 x4) (c2 fun i c => 0 - A.g i c) := sub (splat w_zero) (k23 H)
theorem k25 : Re (s := S1024x512) (k0_pay25 (k0_pay24 x4)) (c2 A.sg) :=
  div (splat w_one) (add (splat w_one) (exp (k24 H))) fun _ => (one_add_exp_pos _).ne'
theorem k26 : Re (s := S1024x512) (k0_pay26 (k0_pay23 x4) (k0_pay24 x4)) (c2 A.si) := mul (k23 H) (k25 H)
theorem k27 : Re (s := S1024x512) (k0_pay27 (k0_pay23 x4) (k0_pay24 x4)) (c2 A.ds) :=
  mul (k25 H) (add (splat w_one) (mul (k23 H) (sub (splat w_one) (k25 H))))
omit H

/-! One head. -/

variable {h : Fin 4}

theorem re_r {x : FVec Ideal S1024x128 .f32} (hx : Re x (c2 fun i l => A.o i (hd h l))) (q1 q2) :
    Re (s := S1024x1) (rsqrt (addf (divf (shapeCast S1024x1 (multiReduction .add [1] S1024 (mulf x x) 0x00000000#32 q1 (.inl rfl) rfl) q2)
      (broadcast S1024x1 (Scalar.ofBits (F := Ideal) .f32 0x43000000#32))) (broadcast S1024x1 (Scalar.ofBits (F := Ideal) .f32 0x358637BD#32)))) (c2 fun i _ => A.r i h) :=
  kroot _ _ hx
theorem re_n {x : FVec Ideal S1024x128 .f32} {r : FVec Ideal S1024x1 .f32} (hx : Re x (c2 fun i l => A.o i (hd h l))) (hr : Re r (c2 fun i _ => A.r i h)) (q) :
    Re (s := S1024x128) (mulf x (broadcastTo S1024x128 r q)) (c2 fun i l => A.nm i h l) := mul hx (cols _ hr)
theorem re_acc {a : FVec Ideal S8x128 .f32} {u n : FVec Ideal S1024x128 .f32} {t : Mat 8 128} (ha : Re a (c2 t))
    (hu : Re u (c2 fun i l => A.du i (hd h l) * A.si i (hd h l))) (hn : Re n (c2 fun i l => A.nm i h l)) (q1 q2 q3) :
    Re (s := S8x128) (addf (shapeCast S8x128 a q1) (multiReduction .add [0] S8x128 (shapeCast S128x8x128 (mulf u n) q2) 0x00000000#32 q3 (.inl rfl) rfl))
      (c2 fun i l => t i l + ∑ k : Fin 128, A.p2 ⟨8 * k.val + i.val, by omega⟩ h l) :=
  kacc (n := 1024) (f := fun i l => A.p2 i h l) (by norm_num) _ _ _ ha (mul hu hn)
theorem re_o {r : FVec Ideal S1024x1 .f32} {n u : FVec Ideal S1024x128 .f32} {gn : FVec Ideal S1x128 .f32} (hr : Re r (c2 fun i _ => A.r i h))
    (hn : Re n (c2 fun i l => A.nm i h l)) (hu : Re u (c2 fun i l => A.du i (hd h l) * A.si i (hd h l)))
    (hg : Re gn (c2 fun _ l => A.gn 0 (hd h l))) (q1 q2 q3 q4 q5) :
    Re (s := S1024x128) (truncf .bf16 (mulf (broadcastTo S1024x128 r q1) (subf (mulf u (broadcastTo S1024x128 gn q2)) (mulf n (broadcastTo S1024x128
      (divf (shapeCast S1024x1 (multiReduction .add [1] S1024 (mulf (mulf u (broadcastTo S1024x128 gn q2)) n) 0x00000000#32 q3 (.inl rfl) rfl) q4)
        (broadcast S1024x1 (Scalar.ofBits (F := Ideal) .f32 0x43000000#32))) q1)))) q5) (c2 fun i l => A.dO i h l) :=
  have he := mul hu (rows q2 hg)
  trunc _ (mul (cols _ hr) (sub he (mul hn (cols _ (kmean (f := fun i l => A.e i h l * A.nm i h l) _ _ (mul he hn))))))
theorem re_g {n d s : FVec Ideal S1024x128 .f32} {gn : FVec Ideal S1x128 .f32}
    (hn : Re n (c2 fun i l => A.nm i h l)) (hd' : Re d (c2 fun i l => A.du i (hd h l))) (hs : Re s (c2 fun i l => A.ds i (hd h l)))
    (hg : Re gn (c2 fun _ l => A.gn 0 (hd h l))) (q1 q2) :
    Re (s := S1024x128) (truncf .bf16 (mulf (mulf (mulf d n) (broadcastTo S1024x128 gn q1)) s) q2) (c2 fun i l => A.dG i h l) :=
  trunc _ (mul (mul (mul hd' hn) (rows _ hg)) hs)
/-- A head's columns of the concatenated gradient. -/
theorem re_d {v : FVec Ideal S1024x1024 .f32} (hv : Re v (c2 A.dc)) {q : ℕ} (hq : q = 512 + 128 * h.val) (q1) :
    Re (s := S1024x128) (extractStridedSlice S1024x128 ![0, q] v q1) (c2 fun i l => A.du i (hd h l)) :=
  cslice (fun l => (⟨512 + (hd h l).val, by omega⟩ : Fin 1024)) (fun l => by show 512 + (128 * h.val + l.val) = q + l.val; omega) _ hv
theorem re_h {v : FVec Ideal S1024x512 .f32} {f : Mat 1024 512} (hv : Re v (c2 f)) {q : ℕ} (hq : q = 128 * h.val) (q1) :
    Re (s := S1024x128) (extractStridedSlice S1024x128 ![0, q] v q1) (c2 fun i l => f i (hd h l)) :=
  cslice (hd h) (fun l => by show 128 * h.val + l.val = q + l.val; omega) _ hv

include H

theorem x_0 : Re (s := S1024x128) (k0_pay10 x2 x3) (c2 fun i l => A.o i (hd 0 l)) := re_h (h := 0) (q := 0) (k9 H) rfl slices_S1024x512_o0_0_S1024x128
theorem r_0 : Re (s := S1024x1) (k0_pay12 (k0_pay11 x2 x3)) (c2 fun i _ => A.r i 0) := re_r (x_0 H) reduces_S1024x128_S1024 shapeCasts_S1024_S1024x1
theorem n_0 : Re (s := S1024x128) (k0_pay13 (k0_pay10 x2 x3) (k0_pay11 x2 x3)) (c2 fun i l => A.nm i 0 l) := re_n (x_0 H) (r_0 H) broadcasts_S1024x1_S1024x128
theorem d_0 : Re (s := S1024x128) (k0_pay28 (k0_pay7 x0 xv x7)) (c2 fun i l => A.du i (hd 0 l)) := re_d (h := 0) (q := 512) (k7 H) rfl slices_S1024x1024_o0_512_S1024x128
theorem u_0 : Re (s := S1024x128) (k0_pay29 (k0_pay7 x0 xv x7) (k0_pay23 x4) (k0_pay24 x4)) (c2 fun i l => A.du i (hd 0 l) * A.si i (hd 0 l)) := mul (d_0 H) (re_h (h := 0) (q := 0) (k26 H) rfl slices_S1024x512_o0_0_S1024x128)
theorem s2_0 {x : FVec Ideal S8x128 .f32} {t : Mat 8 128} (hx : Re x (c2 t)) :
    Re (s := S8x128) (k0_pay30 (k0_pay7 x0 xv x7) (k0_pay13 (k0_pay10 x2 x3) (k0_pay11 x2 x3)) (k0_pay23 x4) (k0_pay24 x4) x) (c2 fun i l => t i l + ∑ k : Fin 128, A.p2 ⟨8 * k.val + i.val, by omega⟩ 0 l) :=
  re_acc hx (u_0 H) (n_0 H) shapeCasts_S8x128_S8x128 shapeCasts_S1024x128_S128x8x128 reduces_S128x8x128_S8x128
theorem o_0 {gn : FVec Ideal S1x128 .f32} (hg : Re gn (c2 fun _ l => A.gn 0 (hd 0 l))) :
    Re (s := S1024x128) (k0_pay31 (k0_pay7 x0 xv x7) (k0_pay12 (k0_pay11 x2 x3)) (k0_pay13 (k0_pay10 x2 x3) (k0_pay11 x2 x3)) (k0_pay23 x4) (k0_pay24 x4) gn) (c2 fun i l => A.dO i 0 l) := re_o (r_0 H) (n_0 H) (u_0 H) hg broadcasts_S1024x1_S1024x128 broadcasts_S1x128_S1024x128 reduces_S1024x128_S1024 shapeCasts_S1024_S1024x1 bitsLt_bf16_f32
theorem g_0 {gn : FVec Ideal S1x128 .f32} (hg : Re gn (c2 fun _ l => A.gn 0 (hd 0 l))) :
    Re (s := S1024x128) (k0_pay32 (k0_pay7 x0 xv x7) (k0_pay13 (k0_pay10 x2 x3) (k0_pay11 x2 x3)) (k0_pay23 x4) (k0_pay24 x4) gn) (c2 fun i l => A.dG i 0 l) := re_g (n_0 H) (d_0 H) (re_h (h := 0) (q := 0) (k27 H) rfl slices_S1024x512_o0_0_S1024x128) hg broadcasts_S1x128_S1024x128 bitsLt_bf16_f32

theorem x_1 : Re (s := S1024x128) (k0_pay14 (k0_pay9 x2 x3)) (c2 fun i l => A.o i (hd 1 l)) := re_h (h := 1) (q := 128) (k9 H) rfl slices_S1024x512_o0_128_S1024x128
theorem r_1 : Re (s := S1024x1) (k0_pay15 (k0_pay9 x2 x3)) (c2 fun i _ => A.r i 1) := re_r (x_1 H) reduces_S1024x128_S1024 shapeCasts_S1024_S1024x1
theorem n_1 : Re (s := S1024x128) (k0_pay16 (k0_pay9 x2 x3)) (c2 fun i l => A.nm i 1 l) := re_n (x_1 H) (r_1 H) broadcasts_S1024x1_S1024x128
theorem d_1 : Re (s := S1024x128) (k0_pay33 (k0_pay7 x0 xv x7)) (c2 fun i l => A.du i (hd 1 l)) := re_d (h := 1) (q := 640) (k7 H) rfl slices_S1024x1024_o0_640_S1024x128
theorem u_1 : Re (s := S1024x128) (k0_pay34 (k0_pay7 x0 xv x7) (k0_pay26 (k0_pay23 x4) (k0_pay24 x4))) (c2 fun i l => A.du i (hd 1 l) * A.si i (hd 1 l)) := mul (d_1 H) (re_h (h := 1) (q := 128) (k26 H) rfl slices_S1024x512_o0_128_S1024x128)
theorem s2_1 {x : FVec Ideal S8x128 .f32} {t : Mat 8 128} (hx : Re x (c2 t)) :
    Re (s := S8x128) (k0_pay35 (k0_pay7 x0 xv x7) (k0_pay16 (k0_pay9 x2 x3)) (k0_pay26 (k0_pay23 x4) (k0_pay24 x4)) x) (c2 fun i l => t i l + ∑ k : Fin 128, A.p2 ⟨8 * k.val + i.val, by omega⟩ 1 l) :=
  re_acc hx (u_1 H) (n_1 H) shapeCasts_S8x128_S8x128 shapeCasts_S1024x128_S128x8x128 reduces_S128x8x128_S8x128
theorem o_1 {gn : FVec Ideal S1x128 .f32} (hg : Re gn (c2 fun _ l => A.gn 0 (hd 1 l))) :
    Re (s := S1024x128) (k0_pay36 (k0_pay7 x0 xv x7) (k0_pay15 (k0_pay9 x2 x3)) (k0_pay16 (k0_pay9 x2 x3)) (k0_pay26 (k0_pay23 x4) (k0_pay24 x4)) gn) (c2 fun i l => A.dO i 1 l) := re_o (r_1 H) (n_1 H) (u_1 H) hg broadcasts_S1024x1_S1024x128 broadcasts_S1x128_S1024x128 reduces_S1024x128_S1024 shapeCasts_S1024_S1024x1 bitsLt_bf16_f32
theorem g_1 {gn : FVec Ideal S1x128 .f32} (hg : Re gn (c2 fun _ l => A.gn 0 (hd 1 l))) :
    Re (s := S1024x128) (k0_pay37 (k0_pay7 x0 xv x7) (k0_pay16 (k0_pay9 x2 x3)) (k0_pay27 (k0_pay23 x4) (k0_pay24 x4)) gn) (c2 fun i l => A.dG i 1 l) := re_g (n_1 H) (d_1 H) (re_h (h := 1) (q := 128) (k27 H) rfl slices_S1024x512_o0_128_S1024x128) hg broadcasts_S1x128_S1024x128 bitsLt_bf16_f32

theorem x_2 : Re (s := S1024x128) (k0_pay17 (k0_pay9 x2 x3)) (c2 fun i l => A.o i (hd 2 l)) := re_h (h := 2) (q := 256) (k9 H) rfl slices_S1024x512_o0_256_S1024x128
theorem r_2 : Re (s := S1024x1) (k0_pay18 (k0_pay9 x2 x3)) (c2 fun i _ => A.r i 2) := re_r (x_2 H) reduces_S1024x128_S1024 shapeCasts_S1024_S1024x1
theorem n_2 : Re (s := S1024x128) (k0_pay19 (k0_pay9 x2 x3)) (c2 fun i l => A.nm i 2 l) := re_n (x_2 H) (r_2 H) broadcasts_S1024x1_S1024x128
theorem d_2 : Re (s := S1024x128) (k0_pay38 (k0_pay7 x0 xv x7)) (c2 fun i l => A.du i (hd 2 l)) := re_d (h := 2) (q := 768) (k7 H) rfl slices_S1024x1024_o0_768_S1024x128
theorem u_2 : Re (s := S1024x128) (k0_pay39 (k0_pay7 x0 xv x7) (k0_pay26 (k0_pay23 x4) (k0_pay24 x4))) (c2 fun i l => A.du i (hd 2 l) * A.si i (hd 2 l)) := mul (d_2 H) (re_h (h := 2) (q := 256) (k26 H) rfl slices_S1024x512_o0_256_S1024x128)
theorem s2_2 {x : FVec Ideal S8x128 .f32} {t : Mat 8 128} (hx : Re x (c2 t)) :
    Re (s := S8x128) (k0_pay40 (k0_pay19 (k0_pay9 x2 x3)) (k0_pay39 (k0_pay7 x0 xv x7) (k0_pay26 (k0_pay23 x4) (k0_pay24 x4))) x) (c2 fun i l => t i l + ∑ k : Fin 128, A.p2 ⟨8 * k.val + i.val, by omega⟩ 2 l) :=
  re_acc hx (u_2 H) (n_2 H) shapeCasts_S8x128_S8x128 shapeCasts_S1024x128_S128x8x128 reduces_S128x8x128_S8x128
theorem o_2 {gn : FVec Ideal S1x128 .f32} (hg : Re gn (c2 fun _ l => A.gn 0 (hd 2 l))) :
    Re (s := S1024x128) (k0_pay41 (k0_pay18 (k0_pay9 x2 x3)) (k0_pay19 (k0_pay9 x2 x3)) gn (k0_pay39 (k0_pay7 x0 xv x7) (k0_pay26 (k0_pay23 x4) (k0_pay24 x4)))) (c2 fun i l => A.dO i 2 l) := re_o (r_2 H) (n_2 H) (u_2 H) hg broadcasts_S1024x1_S1024x128 broadcasts_S1x128_S1024x128 reduces_S1024x128_S1024 shapeCasts_S1024_S1024x1 bitsLt_bf16_f32
theorem g_2 {gn : FVec Ideal S1x128 .f32} (hg : Re gn (c2 fun _ l => A.gn 0 (hd 2 l))) :
    Re (s := S1024x128) (k0_pay42 (k0_pay19 (k0_pay9 x2 x3)) (k0_pay27 (k0_pay23 x4) (k0_pay24 x4)) (k0_pay38 (k0_pay7 x0 xv x7)) gn) (c2 fun i l => A.dG i 2 l) := re_g (n_2 H) (d_2 H) (re_h (h := 2) (q := 256) (k27 H) rfl slices_S1024x512_o0_256_S1024x128) hg broadcasts_S1x128_S1024x128 bitsLt_bf16_f32

theorem x_3 : Re (s := S1024x128) (k0_pay20 (k0_pay9 x2 x3)) (c2 fun i l => A.o i (hd 3 l)) := re_h (h := 3) (q := 384) (k9 H) rfl slices_S1024x512_o0_384_S1024x128
theorem r_3 : Re (s := S1024x1) (k0_pay21 (k0_pay9 x2 x3)) (c2 fun i _ => A.r i 3) := re_r (x_3 H) reduces_S1024x128_S1024 shapeCasts_S1024_S1024x1
theorem n_3 : Re (s := S1024x128) (k0_pay22 (k0_pay9 x2 x3)) (c2 fun i l => A.nm i 3 l) := re_n (x_3 H) (r_3 H) broadcasts_S1024x1_S1024x128
theorem d_3 : Re (s := S1024x128) (k0_pay43 (k0_pay7 x0 xv x7)) (c2 fun i l => A.du i (hd 3 l)) := re_d (h := 3) (q := 896) (k7 H) rfl slices_S1024x1024_o0_896_S1024x128
theorem u_3 : Re (s := S1024x128) (k0_pay44 (k0_pay7 x0 xv x7) (k0_pay26 (k0_pay23 x4) (k0_pay24 x4))) (c2 fun i l => A.du i (hd 3 l) * A.si i (hd 3 l)) := mul (d_3 H) (re_h (h := 3) (q := 384) (k26 H) rfl slices_S1024x512_o0_384_S1024x128)
theorem s2_3 {x : FVec Ideal S8x128 .f32} {t : Mat 8 128} (hx : Re x (c2 t)) :
    Re (s := S8x128) (k0_pay45 (k0_pay7 x0 xv x7) (k0_pay22 (k0_pay9 x2 x3)) (k0_pay26 (k0_pay23 x4) (k0_pay24 x4)) x) (c2 fun i l => t i l + ∑ k : Fin 128, A.p2 ⟨8 * k.val + i.val, by omega⟩ 3 l) :=
  re_acc hx (u_3 H) (n_3 H) shapeCasts_S8x128_S8x128 shapeCasts_S1024x128_S128x8x128 reduces_S128x8x128_S8x128
theorem o_3 {gn : FVec Ideal S1x128 .f32} (hg : Re gn (c2 fun _ l => A.gn 0 (hd 3 l))) :
    Re (s := S1024x128) (k0_pay1 (k0_pay21 (k0_pay9 x2 x3)) (k0_pay22 (k0_pay9 x2 x3)) (k0_pay44 (k0_pay7 x0 xv x7) (k0_pay26 (k0_pay23 x4) (k0_pay24 x4))) (k0_pay46 gn)) (c2 fun i l => A.dO i 3 l) := re_o (r_3 H) (n_3 H) (u_3 H) hg broadcasts_S1024x1_S1024x128 broadcasts_S1x128_S1024x128 reduces_S1024x128_S1024 shapeCasts_S1024_S1024x1 bitsLt_bf16_f32
theorem g_3 {gn : FVec Ideal S1x128 .f32} (hg : Re gn (c2 fun _ l => A.gn 0 (hd 3 l))) :
    Re (s := S1024x128) (k0_pay2 (k0_pay22 (k0_pay9 x2 x3)) (k0_pay27 (k0_pay23 x4) (k0_pay24 x4)) (k0_pay43 (k0_pay7 x0 xv x7)) gn) (c2 fun i l => A.dG i 3 l) := re_g (n_3 H) (d_3 H) (re_h (h := 3) (q := 384) (k27 H) rfl slices_S1024x512_o0_384_S1024x128) hg broadcasts_S1x128_S1024x128 bitsLt_bf16_f32

omit H
end Kernel

/-! The reference's arithmetic on all tokens. -/

namespace Reference
open Cert.MergeRefIdeal Cert.MergeRefIdeal.Read

variable {A : In 16384} {x0 : S16384x1024.Idx → EReal} {x1 : S16384x1024.Idx → EReal} {x2 x3 x4 : S16384x512.Idx → EReal}
  {x5 : S8x1024.Idx → EReal} {x6 : S1x512.Idx → EReal} {x7 : S1024x1024.Idx → EReal}

/-- The arguments are these arrays. -/
structure Args (A : In 16384) (x0 : S16384x1024.Idx → EReal) (x1 : S16384x1024.Idx → EReal) (x2 x3 x4 : S16384x512.Idx → EReal)
    (x5 : S8x1024.Idx → EReal) (x6 : S1x512.Idx → EReal) (x7 : S1024x1024.Idx → EReal) : Prop where
  h0 : Re x0 (c2 A.dx)
  h1 : Re x1 (c2 A.y)
  h2 : Re x2 (c2 A.a)
  h3 : Re x3 (c2 A.b)
  h4 : Re x4 (c2 A.g)
  h5 : Re x5 (c2 A.v)
  h6 : Re x6 (c2 A.gn)
  h7 : Re x7 (c2 A.w)

variable (H : Args A x0 x1 x2 x3 x4 x5 x6 x7)
include H

theorem rv8 : Re (s := S16384x1024) (val_main_v8 (F := Ideal) x5) (c2 fun _ j => A.v 0 j) :=
  hrow _ (squeeze _ (hslice 0 _ H.h5))
theorem rv10 : Re (s := S16384x512) (val_main_v10 (F := Ideal) x6) (c2 fun _ c => A.gn 0 c) :=
  hrow _ (squeeze _ H.h6)
theorem rv12 : Re (s := S16384x1024) (val_main_v12 (F := Ideal) x0 x5) (c2 A.dy) :=
  reTo (r := fun i j => A.v 0 j * A.dx i j) (mul (rv8 H) H.h0) fun i j => mul_comm _ _
theorem rv13 : Re (s := S16384x1024) (val_main_v13 (F := Ideal) x0 x1) (c2 A.p1) :=
  mul H.h0 (ext (by decide) H.h1)
theorem rv16 : Re (s := S16384x1024) (val_main_v16 (F := Ideal) x0 x5 x7) (c2 A.dc) :=
  host_dotNT (rv12 H) (ext (by decide) H.h7)
theorem rv3 : Re (s := S16384x512) (val_main_v3 (F := Ideal) x2 x3) (c2 A.o) :=
  add (ext (by decide) H.h2) (ext (by decide) H.h3)
theorem rv17 : Re (s := S16384x4x128) (val_main_v17 (F := Ideal) x2 x3) (c3 fun i h l => A.o i (hd h l)) :=
  split _ (rv3 H)
theorem rv18 : Re (s := S16384x4x128) (val_main_v18 (F := Ideal) x6) (c3 fun _ h l => A.gn 0 (hd h l)) :=
  split _ (rv10 H)
theorem rv20 : Re (s := S16384x4) (val_main_v20 (F := Ideal) x2 x3) (c2 fun i h => ∑ l, A.o i (hd h l) * A.o i (hd h l)) :=
  hlastSum (f := fun i h l => A.o i (hd h l) * A.o i (hd h l)) _ (by decide) _ (mul (rv17 H) (rv17 H)) (const w_zero)
theorem rv25 : Re (s := S16384x4x1) (val_main_v25 (F := Ideal) x2 x3) (c3 fun i h _ => ms fun l => A.o i (hd h l)) :=
  add (hdiv (hthird _ (rv20 H)) (hscal _ (const w_128)) fun _ => by norm_num) (hscal _ (const w_eps))
theorem rv26 : Re (s := S16384x4x1) (val_main_v26 (F := Ideal) x2 x3) (c3 fun i h _ => A.r i h) :=
  hrsqrt (rv25 H) fun _ => ms_pos _
theorem rv29 : Re (s := S16384x4x1) (val_main_v29 (F := Ideal) x2 x3) (c3 fun i h _ => -(1 / 2) * (A.r i h * (A.r i h * A.r i h))) :=
  reTo3 (r := fun i h _ => -(1 / 2) * (rs (fun l => A.o i (hd h l)) / ms (fun l => A.o i (hd h l)))) (mul (hscal _ (const w_neg_half)) (hdiv (rv26 H) (rv25 H) fun _ => (ms_pos _).ne')) fun i h _ => congrArg (-(1 / 2) * ·) (rs_div _)
theorem rv30 : Re (s := S16384x4x128) (val_main_v30 (F := Ideal) x2 x3) (c3 fun i h _ => A.r i h) :=
  hfill _ (rv26 H)
theorem rv31 : Re (s := S16384x4x128) (val_main_v31 (F := Ideal) x2 x3) (c3 A.nm) :=
  mul (rv17 H) (rv30 H)
theorem rv33 : Re (s := S16384x512) (val_main_v33 (F := Ideal) x2 x3 x6) (c2 (cat4 fun i h l => A.nm i h l * A.gn 0 (hd h l))) :=
  join _ (mul (rv31 H) (rv18 H))
theorem rsg : Re (s := S16384x512) (val_main_v34_2 (F := Ideal) x4) (c2 A.sg) :=
  reTo (r := fun i c => 1 / (1 + Real.exp (-A.g i c))) (hdiv (hscal _ (const w_one)) (add (hscal _ (const w_one)) (hexp (neg H.h4))) fun _ => (one_add_exp_pos _).ne')
    fun i c => by show 1 / (1 + Real.exp (-A.g i c)) = 1 / (1 + Real.exp (0 - A.g i c)); rw [zero_sub]
theorem rsi : Re (s := S16384x512) (val_main_v34_0 (F := Ideal) x4) (c2 A.si) := mul (ext (by decide) H.h4) (rsg H)
theorem rdsg : Re (s := S16384x512) (val_main_v34_1 (F := Ideal) x4) (c2 fun i c => A.sg i c * (1 - A.sg i c)) := mul (rsg H) (sub (hscal _ (const w_one)) (rsg H))
theorem rv36 : Re (s := S16384x512) (val_main_v36 (F := Ideal) x0 x5 x7) (c2 A.du) :=
  cslice (fun c : Fin 512 => (⟨512 + c.val, by omega⟩ : Fin 1024)) (fun _ => rfl) _ (rv16 H)
theorem rv38 : Re (s := S16384x512) (val_main_v38 (F := Ideal) x0 x4 x5 x7) (c2 fun i c => A.du i c * A.si i c) :=
  mul (rv36 H) (rsi H)
theorem rv39 : Re (s := S16384x512) (val_main_v39 (F := Ideal) x0 x2 x3 x4 x5 x6 x7) (c2 (cat4 A.dG)) :=
  reTo (r := fun i c => cat4 (fun i h l => A.nm i h l * A.gn 0 (hd h l)) i c * A.du i c * A.sg i c + A.g i c * (cat4 (fun i h l => A.nm i h l * A.gn 0 (hd h l)) i c * A.du i c) * (A.sg i c * (1 - A.sg i c))) (add (mul (mul (rv33 H) (rv36 H)) (rsg H)) (mul (mul (ext (by decide) H.h4) (mul (rv33 H) (rv36 H))) (rdsg H))) fun i c => by
    rw [← hd_hq c, cat4_hd, cat4_hd, In.dG, In.ds]
    ring
theorem rv40 : Re (s := S16384x4x128) (val_main_v40 (F := Ideal) x0 x4 x5 x7) (c3 fun i h l => A.du i (hd h l) * A.si i (hd h l)) :=
  split _ (rv38 H)
theorem rv41 : Re (s := S16384x4x128) (val_main_v41 (F := Ideal) x0 x2 x3 x4 x5 x7) (c3 A.p2) :=
  reTo3 (r := fun i h l => A.nm i h l * (A.du i (hd h l) * A.si i (hd h l))) (mul (rv31 H) (rv40 H)) fun i h l => mul_comm _ _
theorem rv42 : Re (s := S16384x4x128) (val_main_v42 (F := Ideal) x0 x4 x5 x6 x7) (c3 A.e) :=
  mul (rv40 H) (rv18 H)
theorem rv44 : Re (s := S16384x4) (val_main_v44 (F := Ideal) x0 x2 x3 x4 x5 x6 x7) (c2 fun i h => ∑ l, A.o i (hd h l) * A.e i h l) :=
  hlastSum (f := fun i h l => A.o i (hd h l) * A.e i h l) _ (by decide) _ (mul (rv17 H) (rv42 H)) (const w_zero)
theorem rv50 : Re (s := S16384x4x1) (val_main_v50 (F := Ideal) x0 x2 x3 x4 x5 x6 x7) (c3 fun i h _ => (∑ l, A.o i (hd h l) * A.e i h l) * (-(1 / 2) * (A.r i h * (A.r i h * A.r i h))) / 128) :=
  hdiv (mul (addAxis _ (rv44 H)) (rv29 H)) (hscal _ (const w_128)) fun _ => by norm_num
theorem rv51 : Re (s := S16384x4) (val_main_v51 (F := Ideal) x0 x2 x3 x4 x5 x6 x7) (c2 fun i h => ∑ _l : Fin 1, (∑ l, A.o i (hd h l) * A.e i h l) * (-(1 / 2) * (A.r i h * (A.r i h * A.r i h))) / 128) :=
  hlastSum (f := fun i h _ => (∑ l, A.o i (hd h l) * A.e i h l) * (-(1 / 2) * (A.r i h * (A.r i h * A.r i h))) / 128) _ (by decide) _ (rv50 H) (const w_zero)
theorem rv56 : Re (s := S16384x4x128) (val_main_v56 (F := Ideal) x0 x2 x3 x4 x5 x6 x7) (c3 A.dO) :=
  reTo3 (r := fun i h l => A.e i h l * A.r i h + A.o i (hd h l) * (∑ _l : Fin 1, (∑ l, A.o i (hd h l) * A.e i h l) * (-(1 / 2) * (A.r i h * (A.r i h * A.r i h))) / 128) + (∑ _l : Fin 1, (∑ l, A.o i (hd h l) * A.e i h l) * (-(1 / 2) * (A.r i h * (A.r i h * A.r i h))) / 128) * A.o i (hd h l)) (add (add (mul (rv42 H) (hfill _ (rv26 H))) (mul (rv17 H) (hthird _ (rv51 H)))) (mul (hthird _ (rv51 H)) (rv17 H))) fun i h l => by
    have e : ∑ x, A.e i h x * A.nm i h x = A.r i h * ∑ x, A.o i (hd h x) * A.e i h x := by
      rw [Finset.mul_sum]
      exact Finset.sum_congr rfl fun x _ => by rw [In.nm]; ring
    rw [In.dO, e, In.nm, Fin.sum_univ_one]
    ring
theorem rv58 : Re (s := S16384x512) (val_main_v58 (F := Ideal) x0 x2 x3 x4 x5 x6 x7) (c2 (cat4 A.dO)) :=
  join _ (rv56 H)
theorem rv60 : Re (s := S8x1024) (val_main_v60 (F := Ideal) x0 x1) (c2 fun i j => ∑ k : Fin 2048, A.p1 ⟨8 * k.val + i.val, by omega⟩ j) :=
  hheadSum _ (by decide) _ (eights (b := 2048) (by norm_num) _ (rv13 H)) (const w_zero)
theorem rv62 : Re (s := S8x512) (val_main_v62 (F := Ideal) x0 x2 x3 x4 x5 x7) (c2 fun i j => ∑ k : Fin 2048, cat4 A.p2 ⟨8 * k.val + i.val, by omega⟩ j) :=
  hheadSum _ (by decide) _ (eights (b := 2048) (by norm_num) _ (join _ (rv41 H))) (const w_zero)
theorem rv64 : Re (s := S16384x1024) (val_main_v64 (F := Ideal) x0 x5) (c2 A.dy) :=
  Reals.trunc (by decide) (rv12 H)
theorem rv65 : Re (s := S16384x512) (val_main_v65 (F := Ideal) x0 x5 x7) (c2 A.dco) :=
  Reals.trunc (by decide) (cslice (fun c : Fin 512 => (⟨c.val, by omega⟩ : Fin 1024)) (fun _ => (Nat.zero_add _).symm) _ (rv16 H))
theorem rv66 : Re (s := S16384x512) (val_main_v66 (F := Ideal) x0 x2 x3 x4 x5 x6 x7) (c2 (cat4 A.dO)) :=
  Reals.trunc (by decide) (rv58 H)
theorem rv67 : Re (s := S16384x512) (val_main_v67 (F := Ideal) x0 x2 x3 x4 x5 x6 x7) (c2 (cat4 A.dG)) :=
  Reals.trunc (by decide) (rv39 H)

end Reference

end Cert.Merge
-- ==== Proof.MergeBlock.lean ====
/-
  What one point of the merge gradient's grid leaves in each of its output blocks, on real inputs.
-/
module

public import proofs.«01_k».proof.Proof.MergeReals
public import proofs.«01_k».proof.Proof.Gen.MergeIdeal.Value

@[expose] public section

noncomputable section

namespace Cert.Merge.Block

open Cert.MergeIdeal Cert.MergeIdeal.Gen Cert.Merge.Kernel Cert.Reals
open Idealize.ShloMosaic Idealize.ShloMosaic.TcCoe Idealize.SL.Sem Idealize.ShloMosaic.ValueIdx

theorem zero2 : (![0, 0] : Fin 2 → ℕ) = fun _ => 0 := by decide

/-- What a point's eight blocks hold. -/
structure Blk (A : In 1024) (x0 : Vec Ideal S1024x1024 .f32) (x1 : Vec Ideal S1024x1024 .bf16) (x2 x3 x4 : Vec Ideal S1024x512 .bf16)
    (x5 : Vec Ideal S8x1024 .f32) (x6 : Vec Ideal S1x512 .f32) (x7 : Vec Ideal S1024x1024 .bf16) : Prop where
  h0 : Re (s := S1024x1024) x0 (c2 A.dx)
  h1 : Re (s := S1024x1024) x1 (c2 A.y)
  h2 : Re (s := S1024x512) x2 (c2 A.a)
  h3 : Re (s := S1024x512) x3 (c2 A.b)
  h4 : Re (s := S1024x512) x4 (c2 A.g)
  h5 : Re (s := S8x1024) x5 (c2 A.v)
  h6 : Re (s := S1x512) x6 (c2 A.gn)
  h7 : Re (s := S1024x1024) x7 (c2 A.w)

variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S8x1024 .f32) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S8x1024 .f32) (harg13 : arg13.IsWhole) (arg14 : Memref sig .tc .vmem S8x512 .f32) (harg14 : arg14.IsWhole)
variable (x0 : Vec Ideal S1024x1024 .f32) (x1 : Vec Ideal S1024x1024 .bf16) (x2 x3 x4 : Vec Ideal S1024x512 .bf16)
  (x5 : Vec Ideal S8x1024 .f32) (x6 : Vec Ideal S1x512 .f32) (x7 : Vec Ideal S1024x1024 .bf16) {A : In 1024}

section
variable (hc0 : cond0_0 i)
theorem out_A_8 (H : Blk A x0 x1 x2 x3 x4 x5 x6 x7) :
    Re (s := S1024x1024) (out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (c2 A.dy) := by
  have L : Ld A x0 x1 x2 x3 x4 _ x7 := ⟨H.h0, H.h1, H.h2, H.h3, H.h4, ld_row H.h5 0 rfl inb_S8x1024_S1x1024_0_0, H.h7⟩
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  try sl_unfold_words
  rw [View.canon_unit_zero zero2]
  simp only [View.readAt_eq_ld, Memref.IsWhole.read_unread, View.ld_unit_zero (S := S1024x1024) zero2, View.ld_unit_zero (S := S1024x512) zero2, View.ld_unit_zero (S := S8x1024) zero2]
  exact k6 L

theorem out_A_9 (H : Blk A x0 x1 x2 x3 x4 x5 x6 x7) :
    Re (s := S1024x512) (out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (c2 A.dco) := by
  have L : Ld A x0 x1 x2 x3 x4 _ x7 := ⟨H.h0, H.h1, H.h2, H.h3, H.h4, ld_row H.h5 0 rfl inb_S8x1024_S1x1024_0_0, H.h7⟩
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  try sl_unfold_words
  rw [View.canon_unit_zero zero2]
  simp only [View.readAt_eq_ld, Memref.IsWhole.read_unread, View.ld_unit_zero (S := S1024x1024) zero2, View.ld_unit_zero (S := S1024x512) zero2, View.ld_unit_zero (S := S8x1024) zero2]
  exact k8 L

theorem out_A_10 (H : Blk A x0 x1 x2 x3 x4 x5 x6 x7) :
    Re (s := S1024x512) (out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (c2 (cat4 A.dO)) := by
  have L : Ld A x0 x1 x2 x3 x4 _ x7 := ⟨H.h0, H.h1, H.h2, H.h3, H.h4, ld_row H.h5 0 rfl inb_S8x1024_S1x1024_0_0, H.h7⟩
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  try sl_unfold_words
  simp only [View.readAt_eq_ld, Memref.IsWhole.read_unread, View.ld_unit_zero (S := S1024x1024) zero2, View.ld_unit_zero (S := S1024x512) zero2, View.ld_unit_zero (S := S8x1024) zero2]
  exact re_cols16 A.dO _ _ _ _ _ (o_0 L (ld_cols1 H.h6 0 rfl inb_S1x512_S1x128_0_0)) (o_1 L (ld_cols1 H.h6 1 rfl inb_S1x512_S1x128_0_128)) (o_2 L (ld_cols1 H.h6 2 rfl inb_S1x512_S1x128_0_256)) (o_3 L (ld_cols1 H.h6 3 rfl inb_S1x512_S1x128_0_384))

theorem out_A_11 (H : Blk A x0 x1 x2 x3 x4 x5 x6 x7) :
    Re (s := S1024x512) (out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (c2 (cat4 A.dG)) := by
  have L : Ld A x0 x1 x2 x3 x4 _ x7 := ⟨H.h0, H.h1, H.h2, H.h3, H.h4, ld_row H.h5 0 rfl inb_S8x1024_S1x1024_0_0, H.h7⟩
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  try sl_unfold_words
  simp only [View.readAt_eq_ld, Memref.IsWhole.read_unread, View.ld_unit_zero (S := S1024x1024) zero2, View.ld_unit_zero (S := S1024x512) zero2, View.ld_unit_zero (S := S8x1024) zero2]
  exact re_cols16 A.dG _ _ _ _ _ (g_0 L (ld_cols1 H.h6 0 rfl inb_S1x512_S1x128_0_0)) (g_1 L (ld_cols1 H.h6 1 rfl inb_S1x512_S1x128_0_128)) (g_2 L (ld_cols1 H.h6 2 rfl inb_S1x512_S1x128_0_256)) (g_3 L (ld_cols1 H.h6 3 rfl inb_S1x512_S1x128_0_384))

theorem out_A_12 (H : Blk A x0 x1 x2 x3 x4 x5 x6 x7) :
    Re (s := S8x1024) (out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (c2 fun i j => 0 + ∑ k : Fin 128, A.p1 ⟨8 * k.val + i.val, by omega⟩ j) := by
  have L : Ld A x0 x1 x2 x3 x4 _ x7 := ⟨H.h0, H.h1, H.h2, H.h3, H.h4, ld_row H.h5 0 rfl inb_S8x1024_S1x1024_0_0, H.h7⟩
  unfold out0_A_12
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  try sl_unfold_words
  simp only [View.readAt_eq_ld, Memref.IsWhole.read_unread, View.ld_unit_zero (S := S1024x1024) zero2, View.ld_unit_zero (S := S1024x512) zero2, View.ld_unit_zero (S := S8x1024) zero2]
  rw [View.canon_cons_unit_zero zero2]
  rw [View.readCov_unit_zero (S := S8x1024) _ zero2]
  exact k5 L (splat w_zero)

theorem out_A_13 (H : Blk A x0 x1 x2 x3 x4 x5 x6 x7) :
    Re (s := S8x512) (out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (c2 (cat4 fun i h l => 0 + ∑ k : Fin 128, A.p2 ⟨8 * k.val + i.val, by omega⟩ h l)) := by
  have L : Ld A x0 x1 x2 x3 x4 _ x7 := ⟨H.h0, H.h1, H.h2, H.h3, H.h4, ld_row H.h5 0 rfl inb_S8x1024_S1x1024_0_0, H.h7⟩
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  try sl_unfold_words
  simp only [View.readAt_eq_ld, Memref.IsWhole.read_unread, View.ld_unit_zero (S := S1024x1024) zero2, View.ld_unit_zero (S := S1024x512) zero2, View.ld_unit_zero (S := S8x1024) zero2]
  exact re_cols32 (fun i h l => 0 + ∑ k : Fin 128, A.p2 ⟨8 * k.val + i.val, by omega⟩ h l) _ _ _ _ _ (s2_0 L (fresh_read _ 0 (by norm_num) inb_S8x512_S8x128_0_0 (fresh_zero 0 (z := k0_pay4 (F := Ideal)) (splat w_zero) inb_S8x512_S8x512_0_0))) (s2_1 L (fresh_read _ 128 (by norm_num) inb_S8x512_S8x128_0_128 (fresh_cons 128 0 _ _ (fresh_zero 128 (z := k0_pay4 (F := Ideal)) (splat w_zero) inb_S8x512_S8x512_0_0) (by norm_num)))) (s2_2 L (fresh_read _ 256 (by norm_num) inb_S8x512_S8x128_0_256 (fresh_cons 256 128 _ _ (fresh_cons 256 0 _ _ (fresh_zero 256 (z := k0_pay4 (F := Ideal)) (splat w_zero) inb_S8x512_S8x512_0_0) (by norm_num)) (by norm_num)))) (s2_3 L (fresh_read _ 384 (by norm_num) inb_S8x512_S8x128_0_384 (fresh_cons 384 256 _ _ (fresh_cons 384 128 _ _ (fresh_cons 384 0 _ _ (fresh_zero 384 (z := k0_pay4 (F := Ideal)) (splat w_zero) inb_S8x512_S8x512_0_0) (by norm_num)) (by norm_num)) (by norm_num))))

end

section
variable (hc0 : ¬cond0_0 i) (xo12 : Vec Ideal S8x1024 .f32) (xo13 : Vec Ideal S8x512 .f32)
theorem out_B_8 (H : Blk A x0 x1 x2 x3 x4 x5 x6 x7) :
    Re (s := S1024x1024) (out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13) (c2 A.dy) := by
  have L : Ld A x0 x1 x2 x3 x4 _ x7 := ⟨H.h0, H.h1, H.h2, H.h3, H.h4, ld_row H.h5 0 rfl inb_S8x1024_S1x1024_0_0, H.h7⟩
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13)]
  unfold kernelRun0_B
  dsimp only
  try sl_unfold_words
  rw [View.canon_unit_zero zero2]
  simp only [View.readAt_eq_ld, Memref.IsWhole.read_unread, View.ld_unit_zero (S := S1024x1024) zero2, View.ld_unit_zero (S := S1024x512) zero2, View.ld_unit_zero (S := S8x1024) zero2]
  exact k6 L

theorem out_B_9 (H : Blk A x0 x1 x2 x3 x4 x5 x6 x7) :
    Re (s := S1024x512) (out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13) (c2 A.dco) := by
  have L : Ld A x0 x1 x2 x3 x4 _ x7 := ⟨H.h0, H.h1, H.h2, H.h3, H.h4, ld_row H.h5 0 rfl inb_S8x1024_S1x1024_0_0, H.h7⟩
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13)]
  unfold kernelRun0_B
  dsimp only
  try sl_unfold_words
  rw [View.canon_unit_zero zero2]
  simp only [View.readAt_eq_ld, Memref.IsWhole.read_unread, View.ld_unit_zero (S := S1024x1024) zero2, View.ld_unit_zero (S := S1024x512) zero2, View.ld_unit_zero (S := S8x1024) zero2]
  exact k8 L

theorem out_B_10 (H : Blk A x0 x1 x2 x3 x4 x5 x6 x7) :
    Re (s := S1024x512) (out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13) (c2 (cat4 A.dO)) := by
  have L : Ld A x0 x1 x2 x3 x4 _ x7 := ⟨H.h0, H.h1, H.h2, H.h3, H.h4, ld_row H.h5 0 rfl inb_S8x1024_S1x1024_0_0, H.h7⟩
  unfold out0_B_10
  rw [View.read_writes_eq_canon _ _ _ (cover0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13)]
  unfold kernelRun0_B
  dsimp only
  try sl_unfold_words
  simp only [View.readAt_eq_ld, Memref.IsWhole.read_unread, View.ld_unit_zero (S := S1024x1024) zero2, View.ld_unit_zero (S := S1024x512) zero2, View.ld_unit_zero (S := S8x1024) zero2]
  exact re_cols16 A.dO _ _ _ _ _ (o_0 L (ld_cols1 H.h6 0 rfl inb_S1x512_S1x128_0_0)) (o_1 L (ld_cols1 H.h6 1 rfl inb_S1x512_S1x128_0_128)) (o_2 L (ld_cols1 H.h6 2 rfl inb_S1x512_S1x128_0_256)) (o_3 L (ld_cols1 H.h6 3 rfl inb_S1x512_S1x128_0_384))

theorem out_B_11 (H : Blk A x0 x1 x2 x3 x4 x5 x6 x7) :
    Re (s := S1024x512) (out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13) (c2 (cat4 A.dG)) := by
  have L : Ld A x0 x1 x2 x3 x4 _ x7 := ⟨H.h0, H.h1, H.h2, H.h3, H.h4, ld_row H.h5 0 rfl inb_S8x1024_S1x1024_0_0, H.h7⟩
  unfold out0_B_11
  rw [View.read_writes_eq_canon _ _ _ (cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13)]
  unfold kernelRun0_B
  dsimp only
  try sl_unfold_words
  simp only [View.readAt_eq_ld, Memref.IsWhole.read_unread, View.ld_unit_zero (S := S1024x1024) zero2, View.ld_unit_zero (S := S1024x512) zero2, View.ld_unit_zero (S := S8x1024) zero2]
  exact re_cols16 A.dG _ _ _ _ _ (g_0 L (ld_cols1 H.h6 0 rfl inb_S1x512_S1x128_0_0)) (g_1 L (ld_cols1 H.h6 1 rfl inb_S1x512_S1x128_0_128)) (g_2 L (ld_cols1 H.h6 2 rfl inb_S1x512_S1x128_0_256)) (g_3 L (ld_cols1 H.h6 3 rfl inb_S1x512_S1x128_0_384))

theorem out_B_12 (H : Blk A x0 x1 x2 x3 x4 x5 x6 x7) {X : Mat 8 1024} (ko : Re (s := S8x1024) xo12 (c2 X)) :
    Re (s := S8x1024) (out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13) (c2 fun i j => X i j + ∑ k : Fin 128, A.p1 ⟨8 * k.val + i.val, by omega⟩ j) := by
  have L : Ld A x0 x1 x2 x3 x4 _ x7 := ⟨H.h0, H.h1, H.h2, H.h3, H.h4, ld_row H.h5 0 rfl inb_S8x1024_S1x1024_0_0, H.h7⟩
  unfold out0_B_12
  rw [View.read_writes_eq_canon _ _ _ (cover0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13)]
  unfold kernelRun0_B
  dsimp only
  try sl_unfold_words
  simp only [View.readAt_eq_ld, Memref.IsWhole.read_unread, View.ld_unit_zero (S := S1024x1024) zero2, View.ld_unit_zero (S := S1024x512) zero2, View.ld_unit_zero (S := S8x1024) zero2]
  rw [View.canon_unit_zero zero2]
  exact k5 L (ko)

theorem out_B_13 (H : Blk A x0 x1 x2 x3 x4 x5 x6 x7) {X : Mat 8 512} (ko : Re (s := S8x512) xo13 (c2 X)) :
    Re (s := S8x512) (out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13) (c2 (cat4 fun i h l => X i (hd h l) + ∑ k : Fin 128, A.p2 ⟨8 * k.val + i.val, by omega⟩ h l)) := by
  have L : Ld A x0 x1 x2 x3 x4 _ x7 := ⟨H.h0, H.h1, H.h2, H.h3, H.h4, ld_row H.h5 0 rfl inb_S8x1024_S1x1024_0_0, H.h7⟩
  unfold out0_B_13
  rw [View.read_writes_eq_canon _ _ _ (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13)]
  unfold kernelRun0_B
  dsimp only
  try sl_unfold_words
  simp only [View.readAt_eq_ld, Memref.IsWhole.read_unread, View.ld_unit_zero (S := S1024x1024) zero2, View.ld_unit_zero (S := S1024x512) zero2, View.ld_unit_zero (S := S8x1024) zero2]
  exact re_cols32 (fun i h l => X i (hd h l) + ∑ k : Fin 128, A.p2 ⟨8 * k.val + i.val, by omega⟩ h l) _ _ _ _ _ (s2_0 L (ld_cols ko 0 rfl inb_S8x512_S8x128_0_0)) (s2_1 L (ld_cols ko 1 rfl inb_S8x512_S8x128_0_128)) (s2_2 L (ld_cols ko 2 rfl inb_S8x512_S8x128_0_256)) (s2_3 L (ld_cols ko 3 rfl inb_S8x512_S8x128_0_384))

end

end Cert.Merge.Block
-- ==== Proof.MergeVal.lean ====
/-
  The merge gradient's arrays are the reference's, whenever every entry of the eight arguments is a number.
-/
module

public import proofs.«01_k».proof.Proof.MergeBlock
public import proofs.«01_k».proof.Proof.FfnVal
public import proofs.«01_k».proof.Proof.Gen.Pre_finite_merge
public import proofs.«01_k».proof.Proof.Gen.MergeRefIdeal.Run
public import proofs.«01_k».proof.Defs
public import Idealize.ShloMosaic.Lib.Pipeline.ValueKit

@[expose] public section

noncomputable section

namespace Cert.MergeIdeal.Val

open Cert.MergeIdeal Cert.MergeIdeal.Gen Cert.MergeIdeal.Value Cert.Merge Cert.Merge.Block Cert.Reals
open Cert.Vals (re_block re_whole re_at)
open Idealize.ShloMosaic Idealize.ShloMosaic.TcCoe Idealize.SL.Sem Idealize.ShloMosaic.ValueIdx

variable (m : (ℓ : Loc nD τ sig) → Buf (Elt Ideal) ℓ)

/-- The arguments a device starts from are these real arrays. -/
structure Ins (c : Dev nD) (A : In 16384) : Prop where
  h0 : Re (s := S16384x1024) (m ((c : Thread nD τ).loc main_arg0)) (c2 A.dx)
  h1 : Re (s := S16384x1024) (m ((c : Thread nD τ).loc main_arg1)) (c2 A.y)
  h2 : Re (s := S16384x512) (m ((c : Thread nD τ).loc main_arg2)) (c2 A.a)
  h3 : Re (s := S16384x512) (m ((c : Thread nD τ).loc main_arg3)) (c2 A.b)
  h4 : Re (s := S16384x512) (m ((c : Thread nD τ).loc main_arg4)) (c2 A.g)
  h5 : Re (s := S8x1024) (m ((c : Thread nD τ).loc main_arg5)) (c2 A.v)
  h6 : Re (s := S1x512) (m ((c : Thread nD τ).loc main_arg6)) (c2 A.gn)
  h7 : Re (s := S1024x1024) (m ((c : Thread nD τ).loc main_arg7)) (c2 A.w)

variable {m} {c : Dev nD} {A : In 16384} (H : Ins m c A)
include H

/-- The tokens of block `n`. -/
def tok (n : ℕ) : Fin 1024 → Fin 16384 := fun i => ⟨(1024 * n + i.val) % 16384, Nat.mod_lt _ (by norm_num)⟩

omit H in
theorem lt16 (t : Fin cfg0.N) : t.val < 16 := Nat.lt_of_lt_of_eq t.isLt N_0

omit H in
theorem rows_le (t : Fin cfg0.N) : 1024 * t.val + 1024 ≤ 16384 := by
  have := lt16 t
  omega

omit H in
theorem idx0 : ∀ t : Fin cfg0.N, win0_0.index t (0 : Fin 2) = t.val ∧ win0_0.index t (1 : Fin 2) = 0 :=
  (by decide +kernel : ∀ t : Fin grid0.N, _)

theorem in0 (t : Fin cfg0.N) : Re (s := S1024x1024) (iblk m c 0 t) (c2 (A.at_ (tok t.val)).dx) :=
  re_block (hn := by decide) H.h0 ((cfg0.win 0).blk t).view.emb (fun _ => rfl) (rows_le t) (idx0 t).1 (idx0 t).2 (fun _ => rfl) (fun _ => rfl)

omit H in
theorem idx1 : ∀ t : Fin cfg0.N, win0_1.index t (0 : Fin 2) = t.val ∧ win0_1.index t (1 : Fin 2) = 0 :=
  (by decide +kernel : ∀ t : Fin grid0.N, _)

theorem in1 (t : Fin cfg0.N) : Re (s := S1024x1024) (iblk m c 1 t) (c2 (A.at_ (tok t.val)).y) :=
  re_block (hn := by decide) H.h1 ((cfg0.win 1).blk t).view.emb (fun _ => rfl) (rows_le t) (idx1 t).1 (idx1 t).2 (fun _ => rfl) (fun _ => rfl)

omit H in
theorem idx2 : ∀ t : Fin cfg0.N, win0_2.index t (0 : Fin 2) = t.val ∧ win0_2.index t (1 : Fin 2) = 0 :=
  (by decide +kernel : ∀ t : Fin grid0.N, _)

theorem in2 (t : Fin cfg0.N) : Re (s := S1024x512) (iblk m c 2 t) (c2 (A.at_ (tok t.val)).a) :=
  re_block (hn := by decide) H.h2 ((cfg0.win 2).blk t).view.emb (fun _ => rfl) (rows_le t) (idx2 t).1 (idx2 t).2 (fun _ => rfl) (fun _ => rfl)

omit H in
theorem idx3 : ∀ t : Fin cfg0.N, win0_3.index t (0 : Fin 2) = t.val ∧ win0_3.index t (1 : Fin 2) = 0 :=
  (by decide +kernel : ∀ t : Fin grid0.N, _)

theorem in3 (t : Fin cfg0.N) : Re (s := S1024x512) (iblk m c 3 t) (c2 (A.at_ (tok t.val)).b) :=
  re_block (hn := by decide) H.h3 ((cfg0.win 3).blk t).view.emb (fun _ => rfl) (rows_le t) (idx3 t).1 (idx3 t).2 (fun _ => rfl) (fun _ => rfl)

omit H in
theorem idx4 : ∀ t : Fin cfg0.N, win0_4.index t (0 : Fin 2) = t.val ∧ win0_4.index t (1 : Fin 2) = 0 :=
  (by decide +kernel : ∀ t : Fin grid0.N, _)

theorem in4 (t : Fin cfg0.N) : Re (s := S1024x512) (iblk m c 4 t) (c2 (A.at_ (tok t.val)).g) :=
  re_block (hn := by decide) H.h4 ((cfg0.win 4).blk t).view.emb (fun _ => rfl) (rows_le t) (idx4 t).1 (idx4 t).2 (fun _ => rfl) (fun _ => rfl)

omit H in
theorem idx5 : ∀ t : Fin cfg0.N, win0_5.index t (0 : Fin 2) = 0 ∧ win0_5.index t (1 : Fin 2) = 0 :=
  (by decide +kernel : ∀ t : Fin grid0.N, _)

theorem in5 (t : Fin cfg0.N) : Re (s := S8x1024) (iblk m c 5 t) (c2 (A.at_ (tok t.val)).v) :=
  re_whole H.h5 ((cfg0.win 5).blk t).view.emb (fun _ => rfl) (idx5 t) (fun _ => rfl) (fun _ => rfl)

omit H in
theorem idx6 : ∀ t : Fin cfg0.N, win0_6.index t (0 : Fin 2) = 0 ∧ win0_6.index t (1 : Fin 2) = 0 :=
  (by decide +kernel : ∀ t : Fin grid0.N, _)

theorem in6 (t : Fin cfg0.N) : Re (s := S1x512) (iblk m c 6 t) (c2 (A.at_ (tok t.val)).gn) :=
  re_whole H.h6 ((cfg0.win 6).blk t).view.emb (fun _ => rfl) (idx6 t) (fun _ => rfl) (fun _ => rfl)

omit H in
theorem idx7 : ∀ t : Fin cfg0.N, win0_7.index t (0 : Fin 2) = 0 ∧ win0_7.index t (1 : Fin 2) = 0 :=
  (by decide +kernel : ∀ t : Fin grid0.N, _)

theorem in7 (t : Fin cfg0.N) : Re (s := S1024x1024) (iblk m c 7 t) (c2 (A.at_ (tok t.val)).w) :=
  re_whole H.h7 ((cfg0.win 7).blk t).view.emb (fun _ => rfl) (idx7 t) (fun _ => rfl) (fun _ => rfl)

theorem blks (t : Fin cfg0.N) : Blk (A.at_ (tok t.val)) (iblk m c 0 t) (iblk m c 1 t) (iblk m c 2 t) (iblk m c 3 t) (iblk m c 4 t) (iblk m c 5 t) (iblk m c 6 t) (iblk m c 7 t) :=
  ⟨in0 H t, in1 H t, in2 H t, in3 H t, in4 H t, in5 H t, in6 H t, in7 H t⟩

theorem pt8 (t : Fin cfg0.N) : Re (s := S1024x1024) ((outsAt0 m c t.val t.isLt).1) (c2 (A.at_ (tok t.val)).dy) := by
  by_cases h0 : t.val % 16 = 0
  · rw [outsAt0_A m c t h0]
    dsimp only
    exact out_A_8 c _ _ _ _ _ _ _ _ _ _ _ _ _ _ _ _ _ _ _ _ _ _ _ _ _ _ _ _ _ _ _ _ _ _ _ _ _ _ (blks H t)
  · rw [outsAt0_B m c t h0]
    dsimp only
    exact out_B_8 c _ _ _ _ _ _ _ _ _ _ _ _ _ _ _ _ _ _ _ _ _ _ _ _ _ _ _ _ _ _ _ _ _ _ _ _ _ _ _ _ (blks H t)

omit H in
theorem idx8 : ∀ t : Fin cfg0.N, win0_8.index t (0 : Fin 2) = t.val ∧ win0_8.index t (1 : Fin 2) = 0 :=
  (by decide +kernel : ∀ t : Fin grid0.N, _)

/-- The array of window 8. -/
theorem arr8 : (dats m 0 c).arrAt 8 cfg0.N = fun i : S16384x1024.Idx => ((c2 A.dy i : ℝ) : EReal) := by
  refine (dats m 0 c).arrAt_eq_of_covers 8 _ (by decide +kernel) fun t hf y => ?_
  blk_simp
  rw [after0_8]
  exact re_at (hn := by decide) (pt8 H t) (rows_le t) (idx8 t).1 (idx8 t).2 y _ rfl rfl

theorem pt9 (t : Fin cfg0.N) : Re (s := S1024x512) ((outsAt0 m c t.val t.isLt).2.1) (c2 (A.at_ (tok t.val)).dco) := by
  by_cases h0 : t.val % 16 = 0
  · rw [outsAt0_A m c t h0]
    dsimp only
    exact out_A_9 c _ _ _ _ _ _ _ _ _ _ _ _ _ _ _ _ _ _ _ _ _ _ _ _ _ _ _ _ _ _ _ _ _ _ _ _ _ _ (blks H t)
  · rw [outsAt0_B m c t h0]
    dsimp only
    exact out_B_9 c _ _ _ _ _ _ _ _ _ _ _ _ _ _ _ _ _ _ _ _ _ _ _ _ _ _ _ _ _ _ _ _ _ _ _ _ _ _ _ _ (blks H t)

omit H in
theorem idx9 : ∀ t : Fin cfg0.N, win0_9.index t (0 : Fin 2) = t.val ∧ win0_9.index t (1 : Fin 2) = 0 :=
  (by decide +kernel : ∀ t : Fin grid0.N, _)

/-- The array of window 9. -/
theorem arr9 : (dats m 0 c).arrAt 9 cfg0.N = fun i : S16384x512.Idx => ((c2 A.dco i : ℝ) : EReal) := by
  refine (dats m 0 c).arrAt_eq_of_covers 9 _ (by decide +kernel) fun t hf y => ?_
  blk_simp
  rw [after0_9]
  exact re_at (hn := by decide) (pt9 H t) (rows_le t) (idx9 t).1 (idx9 t).2 y _ rfl rfl

theorem pt10 (t : Fin cfg0.N) : Re (s := S1024x512) ((outsAt0 m c t.val t.isLt).2.2.1) (c2 (cat4 (A.at_ (tok t.val)).dO)) := by
  by_cases h0 : t.val % 16 = 0
  · rw [outsAt0_A m c t h0]
    dsimp only
    exact out_A_10 c _ _ _ _ _ _ _ _ _ _ _ _ _ _ _ _ _ _ _ _ _ _ _ _ _ _ _ _ _ _ _ _ _ _ _ _ _ _ (blks H t)
  · rw [outsAt0_B m c t h0]
    dsimp only
    exact out_B_10 c _ _ _ _ _ _ _ _ _ _ _ _ _ _ _ _ _ _ _ _ _ _ _ _ _ _ _ _ _ _ _ _ _ _ _ _ _ _ _ _ (blks H t)

omit H in
theorem idx10 : ∀ t : Fin cfg0.N, win0_10.index t (0 : Fin 2) = t.val ∧ win0_10.index t (1 : Fin 2) = 0 :=
  (by decide +kernel : ∀ t : Fin grid0.N, _)

/-- The array of window 10. -/
theorem arr10 : (dats m 0 c).arrAt 10 cfg0.N = fun i : S16384x512.Idx => ((c2 (cat4 A.dO) i : ℝ) : EReal) := by
  refine (dats m 0 c).arrAt_eq_of_covers 10 _ (by decide +kernel) fun t hf y => ?_
  blk_simp
  rw [after0_10]
  exact re_at (hn := by decide) (pt10 H t) (rows_le t) (idx10 t).1 (idx10 t).2 y _ rfl rfl

theorem pt11 (t : Fin cfg0.N) : Re (s := S1024x512) ((outsAt0 m c t.val t.isLt).2.2.2.1) (c2 (cat4 (A.at_ (tok t.val)).dG)) := by
  by_cases h0 : t.val % 16 = 0
  · rw [outsAt0_A m c t h0]
    dsimp only
    exact out_A_11 c _ _ _ _ _ _ _ _ _ _ _ _ _ _ _ _ _ _ _ _ _ _ _ _ _ _ _ _ _ _ _ _ _ _ _ _ _ _ (blks H t)
  · rw [outsAt0_B m c t h0]
    dsimp only
    exact out_B_11 c _ _ _ _ _ _ _ _ _ _ _ _ _ _ _ _ _ _ _ _ _ _ _ _ _ _ _ _ _ _ _ _ _ _ _ _ _ _ _ _ (blks H t)

omit H in
theorem idx11 : ∀ t : Fin cfg0.N, win0_11.index t (0 : Fin 2) = t.val ∧ win0_11.index t (1 : Fin 2) = 0 :=
  (by decide +kernel : ∀ t : Fin grid0.N, _)

/-- The array of window 11. -/
theorem arr11 : (dats m 0 c).arrAt 11 cfg0.N = fun i : S16384x512.Idx => ((c2 (cat4 A.dG) i : ℝ) : EReal) := by
  refine (dats m 0 c).arrAt_eq_of_covers 11 _ (by decide +kernel) fun t hf y => ?_
  blk_simp
  rw [after0_11]
  exact re_at (hn := by decide) (pt11 H t) (rows_le t) (idx11 t).1 (idx11 t).2 y _ rfl rfl

omit H in
theorem h15 : 15 < cfg0.N := Nat.lt_of_lt_of_eq (by norm_num) N_0.symm

/-- What the block's tokens add to the eight rows. -/
def part {b : ℕ} (T : Mat 16384 b) (s : ℕ) (i : Fin 8) (j : Fin b) : ℝ := ∑ k : Fin 128, T (tok s ⟨8 * k.val + i.val, by omega⟩) j

omit H in
/-- Over all blocks: row `i` adds the tokens `8 k + i`. -/
theorem parts {b : ℕ} (T : Mat 16384 b) (i : Fin 8) (j : Fin b) :
    ∑ s ∈ Finset.range 16, part T s i j = ∑ k : Fin 2048, T ⟨8 * k.val + i.val, by omega⟩ j := by
  refine Eq.trans (Eq.trans ?_ (Cert.FfnIdeal.Val.sum_blocks 16 128 fun k => T ⟨(8 * k + i.val) % 16384, Nat.mod_lt _ (by norm_num)⟩ j)) ?_
  · refine Finset.sum_congr rfl fun s _ => Finset.sum_congr rfl fun k _ => congrArg (T · j) (Fin.ext ?_)
    show (1024 * s + (8 * k.val + i.val)) % 16384 = (8 * (128 * s + k.val) + i.val) % 16384
    congr 1; omega
  · refine Finset.sum_congr rfl fun k _ => congrArg (T · j) (Fin.ext ?_)
    have hk : k.val < 2048 := k.isLt
    show (8 * k.val + i.val) % 16384 = 8 * k.val + i.val
    omega

/-- After point `n` the eight rows hold what the blocks up to it add. -/
theorem pt12 : ∀ (n : ℕ) (hn : n < cfg0.N), Re (s := S8x1024) ((outsAt0 m c n hn).2.2.2.2.1)
    (c2 fun i j => ∑ s ∈ Finset.range (n + 1), part A.p1 s i j)
  | 0, hn => by
    rw [outsAt0_A m c ⟨0, hn⟩ rfl]
    dsimp only
    refine reTo (out_A_12 c _ _ _ _ _ _ _ _ _ _ _ _ _ _ _ _ _ _ _ _ _ _ _ _ _ _ _ _ _ _ _ _ _ _ _ _ _ _ (blks H ⟨0, hn⟩)) fun i j => ?_
    rw [Finset.sum_range_one]
    exact zero_add _
  | n + 1, hn => by
    have h0 : ¬ (n + 1) % 16 = 0 := by have := lt16 ⟨n + 1, hn⟩; show ¬ (n + 1) % 16 = 0; have : n + 1 < 16 := this; omega
    rw [outsAt0_B m c ⟨n + 1, hn⟩ h0]
    dsimp only
    refine reTo (out_B_12 c _ _ _ _ _ _ _ _ _ _ _ _ _ _ _ _ _ _ _ _ _ _ _ _ _ _ _ _ _ _ _ _ _ _ _ _ _ _ _ _ (blks H ⟨n + 1, hn⟩) (pt12 n (Nat.lt_of_succ_lt hn))) fun i j => ?_
    rw [Finset.sum_range_succ _ (n + 1)]
    rfl

omit H in
theorem whole12_15 : (cfg0.win 12).WholeAt ⟨15, h15⟩ := by decide +kernel

omit H in
theorem whole12 : ∀ t : Fin cfg0.N, t.val = 15 → (cfg0.win 12).WholeAt t := by
  rintro ⟨n, hn⟩ h
  subst h
  exact whole12_15

theorem after12 (t : Fin cfg0.N) : Re (s := S8x1024) ((dats m 0 c).after 12 t) (c2 fun i j => ∑ s ∈ Finset.range (t.val + 1), part A.p1 s i j) := by
  rw [after0_12]
  exact pt12 H t.val t.isLt

/-- The array of window 12. -/
theorem arr12 : (dats m 0 c).arrAt 12 cfg0.N = fun i : S8x1024.Idx => ((c2 (fun (i : Fin 8) (j : Fin 1024) => ∑ k : Fin 2048, A.p1 ⟨8 * k.val + i.val, by omega⟩ j) i : ℝ) : EReal) := by
  obtain ⟨t, ht⟩ : ∃ t : Fin cfg0.N, t.val = 15 := ⟨⟨15, h15⟩, rfl⟩
  refine (dats m 0 c).arrAt_eq_of_after_last 12 t (whole12 t ht) _ fun y => ?_
  refine (after12 H t _).trans (congrArg (Real.toEReal) ?_)
  rw [ht]
  exact parts _ _ _

/-- After point `n` the eight rows hold what the blocks up to it add. -/
theorem pt13 : ∀ (n : ℕ) (hn : n < cfg0.N), Re (s := S8x512) ((outsAt0 m c n hn).2.2.2.2.2)
    (c2 fun i j => ∑ s ∈ Finset.range (n + 1), part (cat4 A.p2) s i j)
  | 0, hn => by
    rw [outsAt0_A m c ⟨0, hn⟩ rfl]
    dsimp only
    refine reTo (out_A_13 c _ _ _ _ _ _ _ _ _ _ _ _ _ _ _ _ _ _ _ _ _ _ _ _ _ _ _ _ _ _ _ _ _ _ _ _ _ _ (blks H ⟨0, hn⟩)) fun i j => ?_
    rw [Finset.sum_range_one]
    exact zero_add _
  | n + 1, hn => by
    have h0 : ¬ (n + 1) % 16 = 0 := by have := lt16 ⟨n + 1, hn⟩; show ¬ (n + 1) % 16 = 0; have : n + 1 < 16 := this; omega
    rw [outsAt0_B m c ⟨n + 1, hn⟩ h0]
    dsimp only
    refine reTo (out_B_13 c _ _ _ _ _ _ _ _ _ _ _ _ _ _ _ _ _ _ _ _ _ _ _ _ _ _ _ _ _ _ _ _ _ _ _ _ _ _ _ _ (blks H ⟨n + 1, hn⟩) (pt13 n (Nat.lt_of_succ_lt hn))) fun i j => ?_
    rw [Finset.sum_range_succ _ (n + 1)]
    exact congrArg₂ (· + ·) (by rw [hd_hq]) rfl

omit H in
theorem whole13_15 : (cfg0.win 13).WholeAt ⟨15, h15⟩ := by decide +kernel

omit H in
theorem whole13 : ∀ t : Fin cfg0.N, t.val = 15 → (cfg0.win 13).WholeAt t := by
  rintro ⟨n, hn⟩ h
  subst h
  exact whole13_15

theorem after13 (t : Fin cfg0.N) : Re (s := S8x512) ((dats m 0 c).after 13 t) (c2 fun i j => ∑ s ∈ Finset.range (t.val + 1), part (cat4 A.p2) s i j) := by
  rw [after0_13]
  exact pt13 H t.val t.isLt

/-- The array of window 13. -/
theorem arr13 : (dats m 0 c).arrAt 13 cfg0.N = fun i : S8x512.Idx => ((c2 (fun (i : Fin 8) (j : Fin 512) => ∑ k : Fin 2048, (cat4 A.p2) ⟨8 * k.val + i.val, by omega⟩ j) i : ℝ) : EReal) := by
  obtain ⟨t, ht⟩ : ∃ t : Fin cfg0.N, t.val = 15 := ⟨⟨15, h15⟩, rfl⟩
  refine (dats m 0 c).arrAt_eq_of_after_last 13 t (whole13 t ht) _ fun y => ?_
  refine (after13 H t _).trans (congrArg (Real.toEReal) ?_)
  rw [ht]
  exact parts _ _ _

/-! The precondition, and the claims. -/

omit H in
/-- Under the precondition the arguments are arrays of reals. -/
theorem ins_of_pre {m : (ℓ : Loc nD τ sig) → Buf (Elt Ideal) ℓ} (h : Cert.Pre_MergeIdeal_finite_merge (hPre_finite_merge := Cert.Pre_finite_merge.Gen.facts) m) (c : Dev nD) :
    ∃ A, Ins m c A := by
  obtain ⟨p0, p1, p2, p3, p4, p5, p6, p7⟩ := h c
  exact ⟨⟨_, _, _, _, _, _, _, _⟩, (Cert.FfnIdeal.Val.re_of_entries fun i => Cert.FfnIdeal.Val.real_of_mask (congrFun p0 i)),
    (Cert.FfnIdeal.Val.re_of_entries fun i => Cert.FfnIdeal.Val.real_of_mask (congrFun p1 i)),
    (Cert.FfnIdeal.Val.re_of_entries fun i => Cert.FfnIdeal.Val.real_of_mask (congrFun p2 i)),
    (Cert.FfnIdeal.Val.re_of_entries fun i => Cert.FfnIdeal.Val.real_of_mask (congrFun p3 i)),
    (Cert.FfnIdeal.Val.re_of_entries fun i => Cert.FfnIdeal.Val.real_of_mask (congrFun p4 i)),
    (Cert.FfnIdeal.Val.re_of_entries fun i => Cert.FfnIdeal.Val.real_of_mask (congrFun p5 i)),
    (Cert.FfnIdeal.Val.re_of_entries fun i => Cert.FfnIdeal.Val.real_of_mask (congrFun p6 i)),
    (Cert.FfnIdeal.Val.re_of_entries fun i => Cert.FfnIdeal.Val.real_of_mask (congrFun p7 i))⟩

omit H in
/-- The kernel's arrays are the reference's. -/
theorem values : Cert.algebraic_MergeIdeal_MergeRefIdeal_pre_finite_merge := by
  intro m g m' g' hpre harg
  refine ⟨fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, run_blocks m g, ?_⟩
  refine (θ_run _ _ _).mono (fun r h c => ?_) (Cert.MergeRefIdeal.Value.run m' g')
  obtain ⟨e0, e1, e2, e3, e4, e5, e6, e7⟩ := harg c
  obtain ⟨A, H⟩ := ins_of_pre hpre c
  obtain ⟨r8, r9, r10, r11, r12, r13, hk⟩ := h c
  have k0 : Re (s := S16384x1024) (m' ((c.tc : Thread Cert.MergeRefIdeal.nD Cert.MergeRefIdeal.τ).loc Cert.MergeRefIdeal.main_arg0)) (c2 A.dx) := by rw [e0]; exact H.h0
  have k1 : Re (s := S16384x1024) (m' ((c.tc : Thread Cert.MergeRefIdeal.nD Cert.MergeRefIdeal.τ).loc Cert.MergeRefIdeal.main_arg1)) (c2 A.y) := by rw [e1]; exact H.h1
  have k2 : Re (s := S16384x512) (m' ((c.tc : Thread Cert.MergeRefIdeal.nD Cert.MergeRefIdeal.τ).loc Cert.MergeRefIdeal.main_arg2)) (c2 A.a) := by rw [e2]; exact H.h2
  have k3 : Re (s := S16384x512) (m' ((c.tc : Thread Cert.MergeRefIdeal.nD Cert.MergeRefIdeal.τ).loc Cert.MergeRefIdeal.main_arg3)) (c2 A.b) := by rw [e3]; exact H.h3
  have k4 : Re (s := S16384x512) (m' ((c.tc : Thread Cert.MergeRefIdeal.nD Cert.MergeRefIdeal.τ).loc Cert.MergeRefIdeal.main_arg4)) (c2 A.g) := by rw [e4]; exact H.h4
  have k5 : Re (s := S8x1024) (m' ((c.tc : Thread Cert.MergeRefIdeal.nD Cert.MergeRefIdeal.τ).loc Cert.MergeRefIdeal.main_arg5)) (c2 A.v) := by rw [e5]; exact H.h5
  have k6 : Re (s := S1x512) (m' ((c.tc : Thread Cert.MergeRefIdeal.nD Cert.MergeRefIdeal.τ).loc Cert.MergeRefIdeal.main_arg6)) (c2 A.gn) := by rw [e6]; exact H.h6
  have k7 : Re (s := S1024x1024) (m' ((c.tc : Thread Cert.MergeRefIdeal.nD Cert.MergeRefIdeal.τ).loc Cert.MergeRefIdeal.main_arg7)) (c2 A.w) := by rw [e7]; exact H.h7
  have K := Cert.Merge.Reference.Args.mk (A := A) k0 k1 k2 k3 k4 k5 k6 k7
  refine ⟨r8.trans ?_, r9.trans ?_, r10.trans ?_, r11.trans ?_, r12.trans ?_, r13.trans ?_, hk⟩
  · refine (Cert.MergeRefIdeal.Read.val_main_v64_eq (F := Ideal) _ _).trans (Eq.trans ?_ (arr8 H).symm)
    exact funext fun i => Cert.Merge.Reference.rv64 K i
  · refine (Cert.MergeRefIdeal.Read.val_main_v65_eq (F := Ideal) _ _ _).trans (Eq.trans ?_ (arr9 H).symm)
    exact funext fun i => Cert.Merge.Reference.rv65 K i
  · refine (Cert.MergeRefIdeal.Read.val_main_v66_eq (F := Ideal) m' c).trans (Eq.trans ?_ (arr10 H).symm)
    exact funext fun i => Cert.Merge.Reference.rv66 K i
  · refine (Cert.MergeRefIdeal.Read.val_main_v67_eq (F := Ideal) m' c).trans (Eq.trans ?_ (arr11 H).symm)
    exact funext fun i => Cert.Merge.Reference.rv67 K i
  · refine (Cert.MergeRefIdeal.Read.val_main_v60_eq (F := Ideal) _ _).trans (Eq.trans ?_ (arr12 H).symm)
    exact funext fun i => Cert.Merge.Reference.rv60 K i
  · refine (Cert.MergeRefIdeal.Read.val_main_v62_eq (F := Ideal) _ _ _ _ _ _).trans (Eq.trans ?_ (arr13 H).symm)
    exact funext fun i => Cert.Merge.Reference.rv62 K i

omit H in
/-- The reference ends with its arguments unchanged and every counter at zero. -/
theorem frame_ref : Cert.quiescent_MergeRefIdeal := fun m ρ _ =>
  (θ_run Cert.MergeRefIdeal.defs _ _).mono (fun r h => ⟨fun c => (h c).2.2.2.2.2.2, Idealize.ShloMosaic.sem_eq_zero_of_no_sems (by decide) r.2⟩)
    (Cert.MergeRefIdeal.Value.run (F := Ideal) m ρ)

end Cert.MergeIdeal.Val
-- ==== Proof.JoinVal.lean ====
/-
  The joining of the two branches: the arrays the kernel leaves are, entry by entry, the reference's, whatever the eight arguments hold.
-/
module

public import proofs.«01_k».proof.Proof.Windows
public import proofs.«01_k».proof.Proof.Gen.JoinIdeal.Value
public import proofs.«01_k».proof.Proof.Gen.JoinRefIdeal.Run
public import proofs.«01_k».proof.Proof.Gen.JoinRefIdeal.Read
public import proofs.«01_k».proof.Defs
public import Idealize.ShloMosaic.Lib.Quiescent
public import Idealize.ShloMosaic.Lib.KernelVsHost
public import Idealize.ShloMosaic.Lib.Pipeline.ValueKit

@[expose] public section

noncomputable section

namespace Cert.JoinIdeal.Val

open Cert.JoinIdeal Cert.JoinIdeal.Gen Cert.JoinIdeal.Value Cert.Vals Cert.Reals
open Idealize.ShloMosaic Idealize.ShloMosaic.TcCoe Idealize.SL.Sem Idealize.ShloMosaic.ValueIdx

/-- The arguments, over `n` tokens: the block's input, the two scans' outputs, the gate, the convolution branch, the vectors, the
    gain of the norm, the weight. -/
structure In (n : ℕ) where
  x : Fin n → Fin 1024 → EReal
  a : Fin n → Fin 512 → EReal
  b : Fin n → Fin 512 → EReal
  g : Fin n → Fin 512 → EReal
  co : Fin n → Fin 512 → EReal
  v : Fin 8 → Fin 1024 → EReal
  gn : Fin 1 → Fin 512 → EReal
  w : Fin 1024 → Fin 1024 → EReal

namespace In
variable {n : ℕ} (A : In n)

/-- The tokens `f` names. -/
def at_ {k : ℕ} (f : Fin k → Fin n) : In k := ⟨fun i => A.x (f i), fun i => A.a (f i), fun i => A.b (f i), fun i => A.g (f i), fun i => A.co (f i), A.v, A.gn, A.w⟩

def o (i : Fin n) (c : Fin 512) : EReal := A.a i c + A.b i c
/-- The scans' output, normed head by head and gated. -/
def gated (i : Fin n) (h : Fin 4) (l : Fin 128) : EReal :=
  A.o i (hd h l) * root 128 (fun l => A.o i (hd h l)) * A.gn 0 (hd h l) * (A.g i (hd h l) * lgs (A.g i (hd h l)))
/-- The two branches side by side. -/
def cat (i : Fin n) (j : Fin 1024) : EReal :=
  if h : j.val < 512 then A.co i ⟨j.val, h⟩ else A.gated i (hq ⟨j.val - 512, by omega⟩) (hr ⟨j.val - 512, by omega⟩)
def y (i : Fin n) (j : Fin 1024) : EReal := ∑ k, A.cat i k * A.w k j
def out (i : Fin n) (j : Fin 1024) : EReal := A.x i j + A.v 0 j * A.y i j

theorem gated_at (i : Fin n) (c : Fin 512) :
    A.gated i (hq c) (hr c) = A.o i c * root 128 (fun l => A.o i (hd (hq c) l)) * A.gn 0 c * (A.g i c * lgs (A.g i c)) := by
  unfold gated
  rw [hd_hq]
theorem cat_left (i : Fin n) (c : Fin 512) : A.cat i ⟨c.val, by omega⟩ = A.co i c := by
  unfold cat
  rw [dif_pos c.isLt]
theorem cat_right (i : Fin n) (h : Fin 4) (l : Fin 128) {j : Fin 1024} (hj : j.val = 512 + 128 * h.val + l.val) : A.cat i j = A.gated i h l := by
  have e1 : hq ⟨j.val - 512, by omega⟩ = h := Fin.ext (by show (j.val - 512) / 128 = h.val; omega)
  have e2 : hr ⟨j.val - 512, by omega⟩ = l := Fin.ext (by show (j.val - 512) % 128 = l.val; omega)
  unfold cat
  rw [dif_neg (by omega), e1, e2]
end In

/-! The kernel's block. -/

section Block
variable {A : In 1024} {x0 : Vec Ideal S1024x1024 .f32} {x1 x2 x3 x4 : Vec Ideal S1024x512 .bf16}
  {x5 : Vec Ideal S8x1024 .f32} {x6 : Vec Ideal S1x512 .f32} {x7 : Vec Ideal S1024x1024 .bf16}

/-- What a point's eight blocks hold. -/
structure Blk (A : In 1024) (x0 : Vec Ideal S1024x1024 .f32) (x1 x2 x3 x4 : Vec Ideal S1024x512 .bf16)
    (x5 : Vec Ideal S8x1024 .f32) (x6 : Vec Ideal S1x512 .f32) (x7 : Vec Ideal S1024x1024 .bf16) : Prop where
  h0 : Is (s := S1024x1024) x0 (e2 A.x)
  h1 : Is (s := S1024x512) x1 (e2 A.a)
  h2 : Is (s := S1024x512) x2 (e2 A.b)
  h3 : Is (s := S1024x512) x3 (e2 A.g)
  h4 : Is (s := S1024x512) x4 (e2 A.co)
  h5 : Is (s := S8x1024) x5 (e2 A.v)
  h6 : Is (s := S1x512) x6 (e2 A.gn)
  h7 : Is (s := S1024x1024) x7 (e2 A.w)

variable (H : Blk A x0 x1 x2 x3 x4 x5 x6 x7)
include H

theorem k5 : Is (s := S1024x512) (k0_pay5 x1 x2) (e2 A.o) := is_add (is_ext _ H.h1) (is_ext _ H.h2)
theorem k12 : Is (s := S1024x512) (k0_pay12 x3) (e2 fun i c => A.g i c * lgs (A.g i c)) :=
  is_to (is_mul (is_ext _ H.h3) (is_div (is_splat w_one) (is_add (is_splat w_one) (is_exp (is_sub (is_splat w_zero) (is_ext _ H.h3)))))) fun i => by
    unfold lgs
    rw [EReal.coe_zero, zero_sub]

omit H in
/-- One head's columns, normed. -/
theorem normed {x : FVec Ideal S1024x128 .f32} {f : Fin 1024 → Fin 128 → EReal} (hx : Is x (e2 f)) :
    Is (s := S1024x128) (mulf x (broadcastTo S1024x128 (Idealize.ShloMosaic.rsqrt (addf (divf (shapeCast S1024x1 (multiReduction .add [1] S1024 (mulf x x) 0x00000000#32
      reduces_S1024x128_S1024 (.inl rfl) rfl) shapeCasts_S1024_S1024x1) (broadcast S1024x1 (Scalar.ofBits (F := Ideal) .f32 0x43000000#32)))
      (broadcast S1024x1 (Scalar.ofBits (F := Ideal) .f32 0x358637BD#32)))) broadcasts_S1024x1_S1024x128)) (e2 fun i l => f i l * root 128 (f i)) :=
  is_mul hx (is_cols (f := fun i _ => root 128 (f i)) _ (is_rsqrt (is_add (is_div (is_column (g := fun i => ∑ l, f i l * f i l) _
    (is_rowSum (f := fun i l => f i l * f i l) _ _ _ (is_mul hx hx))) (is_splat w_128)) (is_splat w_eps))))

theorem piece0 {u : Vec Ideal S1x128 .f32} (hu : Is (s := S1x128) u (e2 fun _ l => A.gn 0 (hd 0 l))) :
    Is (s := S1024x128) (k0_pay13 (k0_pay6 x1 x2) x3 u) (e2 fun i l => A.gated i 0 l) :=
  is_trunc _ (is_mul (is_mul (normed (f := fun i l => A.o i (hd 0 l)) (is_cslice (q := 0) (f := A.o) (hd 0) (fun _ => rfl) slices_S1024x512_o0_0_S1024x128 (k5 H)))
    (is_rows (f := fun _ l => A.gn 0 (hd 0 l)) _ hu)) (is_cslice (q := 0) (f := fun i c => A.g i c * lgs (A.g i c)) (hd 0) (fun _ => rfl) slices_S1024x512_o0_0_S1024x128 (k12 H)))

theorem piece1 {u : Vec Ideal S1x128 .f32} (hu : Is (s := S1x128) u (e2 fun _ l => A.gn 0 (hd 1 l))) :
    Is (s := S1024x128) (k0_pay14 (k0_pay7 x1 x2) x3 u) (e2 fun i l => A.gated i 1 l) :=
  is_trunc _ (is_mul (is_mul (normed (f := fun i l => A.o i (hd 1 l)) (is_cslice (q := 128) (f := A.o) (hd 1) (fun _ => rfl) slices_S1024x512_o0_128_S1024x128 (k5 H)))
    (is_rows (f := fun _ l => A.gn 0 (hd 1 l)) _ hu)) (is_cslice (q := 128) (f := fun i c => A.g i c * lgs (A.g i c)) (hd 1) (fun _ => rfl) slices_S1024x512_o0_128_S1024x128 (k12 H)))

theorem piece2 {u : Vec Ideal S1x128 .f32} (hu : Is (s := S1x128) u (e2 fun _ l => A.gn 0 (hd 2 l))) :
    Is (s := S1024x128) (k0_pay15 (k0_pay8 x1 x2) x3 u) (e2 fun i l => A.gated i 2 l) :=
  is_trunc _ (is_mul (is_mul (normed (f := fun i l => A.o i (hd 2 l)) (is_cslice (q := 256) (f := A.o) (hd 2) (fun _ => rfl) slices_S1024x512_o0_256_S1024x128 (k5 H)))
    (is_rows (f := fun _ l => A.gn 0 (hd 2 l)) _ hu)) (is_cslice (q := 256) (f := fun i c => A.g i c * lgs (A.g i c)) (hd 2) (fun _ => rfl) slices_S1024x512_o0_256_S1024x128 (k12 H)))

theorem piece3 {u : Vec Ideal S1x128 .f32} (hu : Is (s := S1x128) u (e2 fun _ l => A.gn 0 (hd 3 l))) :
    Is (s := S1024x128) (k0_pay1 (k0_pay11 (k0_pay9 x1 x2) (k0_pay10 x1 x2)) (k0_pay12 x3) u) (e2 fun i l => A.gated i 3 l) :=
  is_trunc _ (is_mul (is_mul (normed (f := fun i l => A.o i (hd 3 l)) (is_cslice (q := 384) (f := A.o) (hd 3) (fun _ => rfl) slices_S1024x512_o0_384_S1024x128 (k5 H)))
    (is_rows (f := fun _ l => A.gn 0 (hd 3 l)) _ hu)) (is_cslice (q := 384) (f := fun i c => A.g i c * lgs (A.g i c)) (hd 3) (fun _ => rfl) slices_S1024x512_o0_384_S1024x128 (k12 H)))

omit H in
/-- A store of 128 columns from `512 + 128 h` on. -/
theorem hit (h : Fin 4) (q : ℕ) (hq' : q = 512 + 128 * h.val) (inb : ∀ a, (![0, q] : Fin 2 → ℕ) a + S1024x128.size a ≤ S1024x1024.size a) {w : Vec Ideal S1024x128 .bf16}
    (hw : Is (s := S1024x128) w (e2 fun i l => A.gated i h l)) (L : List (View.Piece (Elt Ideal) S1024x1024 .bf16)) (y : S1024x1024.Idx) (hL : (y 1).val < q → View.canon L y = A.cat (y 0) (y 1))
    (hy' : (y 1).val < q + 128) :
    View.canon (⟨Rect.unit (s := S1024x1024) ![0, q] S1024x128.size inb, w⟩ :: L) y = A.cat (y 0) (y 1) := by
  by_cases hy : (y 1).val < q
  · refine Eq.trans (View.canon_cons_of_not_mem _ L fun hm => ?_) (hL hy)
    have e : q ≤ (y 1).val ∧ (y 1).val < q + 128 := (Rect.mem_set_unit (inb := inb)).1 hm 1
    omega
  · have e : y = (Rect.unit (s := S1024x1024) ![0, q] S1024x128.size inb).emb (ValueIdx.ix2 (y 0) ⟨(y 1).val - q, by omega⟩) := by
      funext a
      refine Fin.ext ?_
      match a with
      | 0 => show (y 0).val = 0 + 1 * (y 0).val; omega
      | 1 => show (y 1).val = q + 1 * ((y 1).val - q); omega
    have ec : A.cat (y 0) (y 1) = A.gated (y 0) h ⟨(y 1).val - q, by omega⟩ := A.cat_right _ _ _ (by show (y 1).val = 512 + 128 * h.val + ((y 1).val - q); omega)
    rw [ec]
    conv_lhs => rw [e]
    exact (View.canon_cons_emb (Rect.unit (s := S1024x1024) ![0, q] S1024x128.size inb) w L _).trans (hw _)

/-- The five stores the joined array is made of. -/
theorem stores {w0 w1 w2 w3 : Vec Ideal S1024x128 .bf16} (h0 : Is w0 (e2 fun i l => A.gated i 0 l)) (h1 : Is w1 (e2 fun i l => A.gated i 1 l))
    (h2 : Is w2 (e2 fun i l => A.gated i 2 l)) (h3 : Is w3 (e2 fun i l => A.gated i 3 l)) (y : S1024x1024.Idx) :
    View.canon (Val := Elt Ideal) (e := .bf16) [⟨Rect.unit (s := S1024x1024) ![0, 896] S1024x128.size inb_S1024x1024_S1024x128_0_896, w3⟩,
      ⟨Rect.unit (s := S1024x1024) ![0, 768] S1024x128.size inb_S1024x1024_S1024x128_0_768, w2⟩,
      ⟨Rect.unit (s := S1024x1024) ![0, 640] S1024x128.size inb_S1024x1024_S1024x128_0_640, w1⟩,
      ⟨Rect.unit (s := S1024x1024) ![0, 512] S1024x128.size inb_S1024x1024_S1024x128_0_512, w0⟩,
      ⟨Rect.unit (s := S1024x1024) ![0, 0] S1024x512.size inb_S1024x1024_S1024x512_0_0, x4⟩] y = A.cat (y 0) (y 1) := by
  have hy : (y 1).val < 1024 := (y 1).isLt
  refine hit 3 896 rfl _ h3 _ y (fun b3 => hit 2 768 rfl _ h2 _ y (fun b2 => hit 1 640 rfl _ h1 _ y (fun b1 => hit 0 512 rfl _ h0 _ y (fun b0 => ?_) b1) b2) b3) hy
  have e : y = (Rect.unit (s := S1024x1024) ![0, 0] S1024x512.size inb_S1024x1024_S1024x512_0_0).emb (ValueIdx.ix2 (y 0) ⟨(y 1).val, b0⟩) := by
    funext a
    refine Fin.ext ?_
    match a with
    | 0 => show (y 0).val = 0 + 1 * (y 0).val; omega
    | 1 => show (y 1).val = 0 + 1 * (y 1).val; omega
  refine Eq.trans ?_ (A.cat_left (y 0) ⟨(y 1).val, b0⟩).symm
  conv_lhs => rw [e]
  exact (View.canon_cons_emb (Rect.unit (s := S1024x1024) ![0, 0] S1024x512.size inb_S1024x1024_S1024x512_0_0) x4 [] _).trans (H.h4 _)

omit H in
theorem in_cols {p : ℕ} (q : ℕ) (inb : ∀ a, (![0, q] : Fin 2 → ℕ) a + (⟨2, ![1024, p]⟩ : Shape).size a ≤ S1024x1024.size a) (y : S1024x1024.Idx) (h : q ≤ (y 1).val ∧ (y 1).val < q + p) :
    y ∈ (Rect.unit (s := S1024x1024) ![0, q] (⟨2, ![1024, p]⟩ : Shape).size inb).set :=
  (Rect.mem_set_unit (inb := inb)).2 fun a => by
    match a with
    | ⟨0, _⟩ => exact ⟨Nat.zero_le _, by have h0 : (y 0).val < 1024 := (y 0).isLt; show (y 0).val < 0 + 1024; omega⟩
    | ⟨1, _⟩ => exact h

omit H in
theorem covered {w0 w1 w2 w3 : Vec Ideal S1024x128 .bf16} (x4 : Vec Ideal S1024x512 .bf16) (y : S1024x1024.Idx) :
    ∃ p ∈ ([⟨Rect.unit (s := S1024x1024) ![0, 896] S1024x128.size inb_S1024x1024_S1024x128_0_896, w3⟩,
      ⟨Rect.unit (s := S1024x1024) ![0, 768] S1024x128.size inb_S1024x1024_S1024x128_0_768, w2⟩,
      ⟨Rect.unit (s := S1024x1024) ![0, 640] S1024x128.size inb_S1024x1024_S1024x128_0_640, w1⟩,
      ⟨Rect.unit (s := S1024x1024) ![0, 512] S1024x128.size inb_S1024x1024_S1024x128_0_512, w0⟩,
      ⟨Rect.unit (s := S1024x1024) ![0, 0] S1024x512.size inb_S1024x1024_S1024x512_0_0, x4⟩] : List (View.Piece (Elt Ideal) S1024x1024 .bf16)), y ∈ p.1.set := by
  have hy : (y 1).val < 1024 := (y 1).isLt
  rcases (by omega : (y 1).val < 512 ∨ (512 ≤ (y 1).val ∧ (y 1).val < 640) ∨ (640 ≤ (y 1).val ∧ (y 1).val < 768) ∨ (768 ≤ (y 1).val ∧ (y 1).val < 896) ∨ 896 ≤ (y 1).val) with h | h | h | h | h
  · exact ⟨_, List.mem_cons_of_mem _ (List.mem_cons_of_mem _ (List.mem_cons_of_mem _ (List.mem_cons_of_mem _ List.mem_cons_self))), in_cols 0 inb_S1024x1024_S1024x512_0_0 y (by omega)⟩
  · exact ⟨_, List.mem_cons_of_mem _ (List.mem_cons_of_mem _ (List.mem_cons_of_mem _ List.mem_cons_self)), in_cols 512 inb_S1024x1024_S1024x128_0_512 y (by omega)⟩
  · exact ⟨_, List.mem_cons_of_mem _ (List.mem_cons_of_mem _ List.mem_cons_self), in_cols 640 inb_S1024x1024_S1024x128_0_640 y (by omega)⟩
  · exact ⟨_, List.mem_cons_of_mem _ List.mem_cons_self, in_cols 768 inb_S1024x1024_S1024x128_0_768 y (by omega)⟩
  · exact ⟨_, List.mem_cons_self, in_cols 896 inb_S1024x1024_S1024x128_0_896 y (by omega)⟩

omit H in
theorem k2 {v89 v91 : Vec Ideal S1024x1024 .bf16} (h89 : Is (s := S1024x1024) v89 (e2 A.cat)) (h91 : Is (s := S1024x1024) v91 (e2 A.w)) :
    Is (s := S1024x1024) (k0_pay2 v89 v91) (e2 A.y) := is_dot (is_same _ h89) h91
end Block

/-! The kernel's arrays. -/

section Arrays
variable (m : (ℓ : Loc nD τ sig) → Buf (Elt Ideal) ℓ)

/-- The arguments a device starts from. -/
structure Ins (c : Dev nD) (A : In 16384) : Prop where
  h0 : Is (s := S16384x1024) (m ((c : Thread nD τ).loc main_arg0)) (e2 A.x)
  h1 : Is (s := S16384x512) (m ((c : Thread nD τ).loc main_arg1)) (e2 A.a)
  h2 : Is (s := S16384x512) (m ((c : Thread nD τ).loc main_arg2)) (e2 A.b)
  h3 : Is (s := S16384x512) (m ((c : Thread nD τ).loc main_arg3)) (e2 A.g)
  h4 : Is (s := S16384x512) (m ((c : Thread nD τ).loc main_arg4)) (e2 A.co)
  h5 : Is (s := S8x1024) (m ((c : Thread nD τ).loc main_arg5)) (e2 A.v)
  h6 : Is (s := S1x512) (m ((c : Thread nD τ).loc main_arg6)) (e2 A.gn)
  h7 : Is (s := S1024x1024) (m ((c : Thread nD τ).loc main_arg7)) (e2 A.w)

/-- The tokens of block `t`. -/
abbrev tok (t : Fin cfg0.N) : Fin 1024 → Fin 16384 := rowsOf 1024 16384 (by decide) t.val

variable {m} {c : Dev nD} {A : In 16384} (H : Ins m c A)
theorem rows_le (t : Fin cfg0.N) : 1024 * t.val + 1024 ≤ 16384 := by
  have ht : t.val < 16 := Nat.lt_of_lt_of_eq t.isLt N_0
  omega

theorem idxW : ∀ t : Fin cfg0.N, (win0_5.index t (0 : Fin 2) = 0 ∧ win0_5.index t (1 : Fin 2) = 0) ∧ (win0_6.index t (0 : Fin 2) = 0 ∧ win0_6.index t (1 : Fin 2) = 0) ∧ (win0_7.index t (0 : Fin 2) = 0 ∧ win0_7.index t (1 : Fin 2) = 0) :=
  (by decide +kernel : ∀ t : Fin grid0.N, _)
theorem idxT : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_3.index t (0 : Fin 2) = t.val ∧ win0_3.index t (1 : Fin 2) = 0) ∧ (win0_4.index t (0 : Fin 2) = t.val ∧ win0_4.index t (1 : Fin 2) = 0) ∧ (win0_8.index t (0 : Fin 2) = t.val ∧ win0_8.index t (1 : Fin 2) = 0) ∧ (win0_9.index t (0 : Fin 2) = t.val ∧ win0_9.index t (1 : Fin 2) = 0) ∧ (win0_10.index t (0 : Fin 2) = t.val ∧ win0_10.index t (1 : Fin 2) = 0) :=
  (by decide +kernel : ∀ t : Fin grid0.N, _)

include H
theorem blks (t : Fin cfg0.N) : Blk (A.at_ (tok t)) (iblk m c 0 t) (iblk m c 1 t) (iblk m c 2 t) (iblk m c 3 t) (iblk m c 4 t) (iblk m c 5 t) (iblk m c 6 t) (iblk m c 7 t) :=
  ⟨is_block H.h0 ((cfg0.win 0).blk t).view.emb (fun _ => rfl) (rows_le t) (idxT t).1.1 (idxT t).1.2 (fun _ => rfl) (fun _ => rfl),
    is_block H.h1 ((cfg0.win 1).blk t).view.emb (fun _ => rfl) (rows_le t) (idxT t).2.1.1 (idxT t).2.1.2 (fun _ => rfl) (fun _ => rfl),
    is_block H.h2 ((cfg0.win 2).blk t).view.emb (fun _ => rfl) (rows_le t) (idxT t).2.2.1.1 (idxT t).2.2.1.2 (fun _ => rfl) (fun _ => rfl),
    is_block H.h3 ((cfg0.win 3).blk t).view.emb (fun _ => rfl) (rows_le t) (idxT t).2.2.2.1.1 (idxT t).2.2.2.1.2 (fun _ => rfl) (fun _ => rfl),
    is_block H.h4 ((cfg0.win 4).blk t).view.emb (fun _ => rfl) (rows_le t) (idxT t).2.2.2.2.1.1 (idxT t).2.2.2.2.1.2 (fun _ => rfl) (fun _ => rfl),
    is_whole H.h5 ((cfg0.win 5).blk t).view.emb (fun _ => rfl) (idxW t).1 (fun _ => rfl) (fun _ => rfl),
    is_whole H.h6 ((cfg0.win 6).blk t).view.emb (fun _ => rfl) (idxW t).2.1 (fun _ => rfl) (fun _ => rfl),
    is_whole H.h7 ((cfg0.win 7).blk t).view.emb (fun _ => rfl) (idxW t).2.2 (fun _ => rfl) (fun _ => rfl)⟩

theorem pt8 (t : Fin cfg0.N) : Is (s := S1024x1024) ((outsAt0 m c t).1) (e2 (A.at_ (tok t)).out) := by
  have B := blks H t
  unfold outsAt0
  dsimp only
  unfold out0_A_8
  rw [View.read_writes_eq_canon _ _ _ (cover0_A_8 (F := Ideal) _ _ _ _ _ _ _ _ _ _ _ _ _ _ _ _ _ _ _ _ _ _ _ _ _ _ _ _ _ _ _ _)]
  unfold kernelRun0_A
  dsimp only
  try sl_unfold_words
  rw [View.canon_unit_zero zero2]
  simp only [View.readAt_eq_ld, Memref.IsWhole.read_unread, View.ld_unit_zero (S := S1024x512) zero2, View.ld_unit_zero (S := S1024x1024) zero2]
  rw [View.readCov_eq_canon_ld _ _ _ (covered _), View.ld_unit_zero (S := S1024x1024) zero2]
  exact is_add B.h0 (is_mul (is_rows (f := fun _ j => (A.at_ (tok t)).v 0 j) _ (is_ld_row B.h5 0 rfl inb_S8x1024_S1x1024_0_0)) (k2 (stores B (piece0 B (is_ld_head B.h6 0 rfl inb_S1x512_S1x128_0_0)) (piece1 B (is_ld_head B.h6 1 rfl inb_S1x512_S1x128_0_128))
    (piece2 B (is_ld_head B.h6 2 rfl inb_S1x512_S1x128_0_256)) (piece3 B (is_ld_head B.h6 3 rfl inb_S1x512_S1x128_0_384))) B.h7))

theorem pt9 (t : Fin cfg0.N) : Is (s := S1024x1024) ((outsAt0 m c t).2.1) (e2 (A.at_ (tok t)).y) := by
  have B := blks H t
  unfold outsAt0
  dsimp only
  unfold out0_A_9
  rw [View.read_writes_eq_canon _ _ _ (cover0_A_9 (F := Ideal) _ _ _ _ _ _ _ _ _ _ _ _ _ _ _ _ _ _ _ _ _ _ _ _ _ _ _ _ _ _ _ _)]
  unfold kernelRun0_A
  dsimp only
  try sl_unfold_words
  rw [View.canon_unit_zero zero2]
  simp only [View.readAt_eq_ld, Memref.IsWhole.read_unread, View.ld_unit_zero (S := S1024x512) zero2, View.ld_unit_zero (S := S1024x1024) zero2]
  rw [View.readCov_eq_canon_ld _ _ _ (covered _), View.ld_unit_zero (S := S1024x1024) zero2]
  exact is_trunc _ (k2 (stores B (piece0 B (is_ld_head B.h6 0 rfl inb_S1x512_S1x128_0_0)) (piece1 B (is_ld_head B.h6 1 rfl inb_S1x512_S1x128_0_128))
    (piece2 B (is_ld_head B.h6 2 rfl inb_S1x512_S1x128_0_256)) (piece3 B (is_ld_head B.h6 3 rfl inb_S1x512_S1x128_0_384))) B.h7)

theorem pt10 (t : Fin cfg0.N) : Is (s := S1024x1024) ((outsAt0 m c t).2.2) (e2 (A.at_ (tok t)).cat) := by
  have B := blks H t
  unfold outsAt0
  dsimp only
  unfold out0_A_10
  rw [View.read_writes_eq_canon _ _ _ (cover0_A_10 (F := Ideal) _ _ _ _ _ _ _ _ _ _ _ _ _ _ _ _ _ _ _ _ _ _ _ _ _ _ _ _ _ _ _ _)]
  unfold kernelRun0_A
  dsimp only
  try sl_unfold_words
  simp only [View.readAt_eq_ld, Memref.IsWhole.read_unread, View.ld_unit_zero (S := S1024x512) zero2, View.ld_unit_zero (S := S1024x1024) zero2]
  exact stores B (piece0 B (is_ld_head B.h6 0 rfl inb_S1x512_S1x128_0_0)) (piece1 B (is_ld_head B.h6 1 rfl inb_S1x512_S1x128_0_128))
    (piece2 B (is_ld_head B.h6 2 rfl inb_S1x512_S1x128_0_256)) (piece3 B (is_ld_head B.h6 3 rfl inb_S1x512_S1x128_0_384))

theorem arr8 : (dats m 0 c).arrAt 8 cfg0.N = fun i : S16384x1024.Idx => e2 A.out i := by
  refine (dats m 0 c).arrAt_eq_of_covers 8 _ (by decide +kernel) fun t hf y => ?_
  blk_simp
  rw [after0_8]
  exact at_block (pt8 H t) (rows_le t) (idxT t).2.2.2.2.2.1.1 (idxT t).2.2.2.2.2.1.2 y _ rfl rfl

theorem arr9 : (dats m 0 c).arrAt 9 cfg0.N = fun i : S16384x1024.Idx => e2 A.y i := by
  refine (dats m 0 c).arrAt_eq_of_covers 9 _ (by decide +kernel) fun t hf y => ?_
  blk_simp
  rw [after0_9]
  exact at_block (pt9 H t) (rows_le t) (idxT t).2.2.2.2.2.2.1.1 (idxT t).2.2.2.2.2.2.1.2 y _ rfl rfl

theorem arr10 : (dats m 0 c).arrAt 10 cfg0.N = fun i : S16384x1024.Idx => e2 A.cat i := by
  refine (dats m 0 c).arrAt_eq_of_covers 10 _ (by decide +kernel) fun t hf y => ?_
  blk_simp
  rw [after0_10]
  exact at_block (pt10 H t) (rows_le t) (idxT t).2.2.2.2.2.2.2.1 (idxT t).2.2.2.2.2.2.2.2 y _ rfl rfl
end Arrays

/-! The reference's arrays. -/

section Reference
open Cert.JoinRefIdeal.Read
variable {A : In 16384} {x0 : S16384x1024.Idx → EReal} {x1 x2 x3 x4 : S16384x512.Idx → EReal} {x5 : S8x1024.Idx → EReal} {x6 : S1x512.Idx → EReal} {x7 : S1024x1024.Idx → EReal}

/-- What the reference's arguments hold. -/
structure Args (A : In 16384) (x0 : S16384x1024.Idx → EReal) (x1 x2 x3 x4 : S16384x512.Idx → EReal) (x5 : S8x1024.Idx → EReal) (x6 : S1x512.Idx → EReal) (x7 : S1024x1024.Idx → EReal) : Prop where
  h0 : Is x0 (e2 A.x)
  h1 : Is x1 (e2 A.a)
  h2 : Is x2 (e2 A.b)
  h3 : Is x3 (e2 A.g)
  h4 : Is x4 (e2 A.co)
  h5 : Is x5 (e2 A.v)
  h6 : Is x6 (e2 A.gn)
  h7 : Is x7 (e2 A.w)

variable (K : Args A x0 x1 x2 x3 x4 x5 x6 x7)
include K

theorem rv2 : Is (s := S16384x512) (val_main_v2 (F := Ideal) x1 x2) (e2 A.o) := is_add (is_ext _ K.h1) (is_ext _ K.h2)
theorem rv4 : Is (s := Cert.JoinRefIdeal.S16384x4x128) (val_main_v4 (F := Ideal) x1 x2) (e3 fun i h l => A.o i (hd h l)) :=
  is_entry (rv2 K) fun i => by
    have h0 : (i 0).val < 16384 := (i 0).isLt
    have h1 : (i 1).val < 4 := (i 1).isLt
    have h2 : (i 2).val < 128 := (i 2).isLt
    refine ⟨_, val_main_v4_apply (F := Ideal) x1 x2 i, congrArg₂ A.o (Fin.ext ?_) (Fin.ext ?_)⟩
    · show (((i 0).val * 4 + (i 1).val) * 128 + (i 2).val) / 512 = (i 0).val; omega
    · show (((i 0).val * 4 + (i 1).val) * 128 + (i 2).val) % 512 = 128 * (i 1).val + (i 2).val; omega
theorem rv5 : Is (s := Cert.JoinRefIdeal.S1x4x128) (val_main_v5 (F := Ideal) x6) (e3 fun _ h l => A.gn 0 (hd h l)) :=
  is_entry K.h6 fun i => by
    have h0 : (i 0).val < 1 := (i 0).isLt
    have h1 : (i 1).val < 4 := (i 1).isLt
    have h2 : (i 2).val < 128 := (i 2).isLt
    refine ⟨_, val_main_v5_apply (F := Ideal) x6 i, congrArg₂ A.gn rfl (Fin.ext ?_)⟩
    show (((i 0).val * 4 + (i 1).val) * 128 + (i 2).val) % 512 = 128 * (i 1).val + (i 2).val; omega
theorem rv7 : Is (s := Cert.JoinRefIdeal.S16384x4) (val_main_v7 (F := Ideal) x1 x2) (e2 fun i h => ∑ l, A.o i (hd h l) * A.o i (hd h l)) := fun i => by
  rw [val_main_v7_apply]
  refine Eq.trans (congrArg (· + _) w_zero) ?_
  rw [EReal.coe_zero, zero_add]
  exact Finset.sum_congr rfl fun k _ => is_mul (s := Cert.JoinRefIdeal.S16384x4x128) (φ := .f32) (rv4 K) (rv4 K) _
theorem rv13 : Is (s := Cert.JoinRefIdeal.S16384x4x1) (val_main_v13 (F := Ideal) x1 x2) (e3 fun i h _ => root 128 fun l => A.o i (hd h l)) :=
  is_hrsqrt (is_add (is_hdiv (is_entry (rv7 K) fun i => ⟨_, val_main_v8_apply (F := Ideal) x1 x2 i, rfl⟩) (fun i => (val_main_v9_apply (F := Ideal) i).trans w_128))
    (fun i => (val_main_v11_apply (F := Ideal) i).trans w_eps))
theorem rv17 : Is (s := Cert.JoinRefIdeal.S16384x4x128) (val_main_v17 (F := Ideal) x1 x2 x6) (e3 fun i h l => A.o i (hd h l) * root 128 (fun l => A.o i (hd h l)) * A.gn 0 (hd h l)) :=
  is_mul (is_mul (rv4 K) (is_entry (g := e3 fun i h _ => root 128 fun l => A.o i (hd h l)) (rv13 K) fun i => ⟨_, val_main_v14_apply (F := Ideal) x1 x2 i, rfl⟩))
    (is_entry (g := e3 fun _ h l => A.gn 0 (hd h l)) (rv5 K) fun i => ⟨_, val_main_v16_apply (F := Ideal) x6 i, rfl⟩)
theorem rv18 : Is (s := S16384x512) (val_main_v18 (F := Ideal) x1 x2 x6) (e2 fun i c => A.o i c * root 128 (fun l => A.o i (hd (hq c) l)) * A.gn 0 c) :=
  is_entry (rv17 K) fun i => by
    have h0 : (i 0).val < 16384 := (i 0).isLt
    have h1 : (i 1).val < 512 := (i 1).isLt
    have a0 : (idx_main_v18 i) 0 = i 0 := Fin.ext (by show ((i 0).val * 512 + (i 1).val) / 512 = (i 0).val; omega)
    have a1 : (idx_main_v18 i) 1 = hq (i 1) := Fin.ext (by show ((i 0).val * 512 + (i 1).val) / 128 % 4 = (i 1).val / 128; omega)
    have a2 : hd ((idx_main_v18 i) 1) ((idx_main_v18 i) 2) = i 1 := Fin.ext (by show 128 * (((i 0).val * 512 + (i 1).val) / 128 % 4) + ((i 0).val * 512 + (i 1).val) % 128 = (i 1).val; omega)
    refine ⟨_, val_main_v18_apply (F := Ideal) x1 x2 x6 i, ?_⟩
    show A.o ((idx_main_v18 i) 0) (hd ((idx_main_v18 i) 1) ((idx_main_v18 i) 2)) * root 128 (fun l => A.o ((idx_main_v18 i) 0) (hd ((idx_main_v18 i) 1) l)) * A.gn 0 (hd ((idx_main_v18 i) 1) ((idx_main_v18 i) 2)) = _
    rw [a2, a0, a1]
theorem rv19 : Is (s := S16384x512) (val_main_v19 (F := Ideal) x3) (e2 fun i c => A.g i c * lgs (A.g i c)) :=
  is_mul (is_ext _ K.h3) (is_hdiv (fun i => (val_main_call0_v4_apply (F := Ideal) i).trans w_one)
    (is_add (fun i => (val_main_call0_v2_apply (F := Ideal) i).trans w_one) (is_hexp (is_neg (is_ext _ K.h3)))))
theorem rv21 : Is (s := S16384x512) (val_main_v21 (F := Ideal) x1 x2 x3 x6) (e2 fun i c => A.gated i (hq c) (hr c)) :=
  is_trunc _ (is_to (is_mul (rv18 K) (rv19 K)) fun i => (A.gated_at (i 0) (i 1)).symm)
theorem rv22 : Is (s := S16384x1024) (val_main_v22 (F := Ideal) x1 x2 x3 x4 x6) (e2 A.cat) := fun y => by
  have hy : (y 1).val < 1024 := (y 1).isLt
  have off : ∀ (z : Fin 512) (b : Fin S16384x512.rank), b.cast (rfl : S16384x512.rank = S16384x1024.rank) ≠ 1 →
      ((ValueIdx.ix2 (y 0) z : S16384x512.Idx) b).val = (y (b.cast rfl)).val := by
    intro z b hb
    match b with
    | 0 => rfl
    | 1 => exact absurd rfl hb
  unfold val_main_v22
  by_cases h : (y 1).val < 512
  · refine (concatenate_apply_piece 1 _ _ y 0 (by show 0 < 2; norm_num) S16384x512 x4 rfl rfl 0 rfl
      (ValueIdx.ix2 (y 0) ⟨(y 1).val, h⟩) (off _) (by show 0 + (y 1).val = (y 1).val; omega)).trans ((K.h4 _).trans ?_)
    exact (A.cat_left (y 0) ⟨(y 1).val, h⟩).symm
  · refine (concatenate_apply_piece 1 _ _ y 1 (by show 1 < 2; norm_num) S16384x512 (val_main_v21 (F := Ideal) x1 x2 x3 x6) rfl rfl 512 rfl
      (ValueIdx.ix2 (y 0) ⟨(y 1).val - 512, by omega⟩) (off _) (by show 512 + ((y 1).val - 512) = (y 1).val; omega)).trans ((rv21 K _).trans ?_)
    exact (A.cat_right (y 0) _ _ (by show (y 1).val = 512 + 128 * (((y 1).val - 512) / 128) + ((y 1).val - 512) % 128; omega)).symm
theorem rv25 : Is (s := S16384x1024) (val_main_v25 (F := Ideal) x1 x2 x3 x4 x6 x7) (e2 A.y) := fun i => by
  rw [val_main_v25_apply]
  exact Finset.sum_congr rfl fun k _ => congrArg₂ (· * ·) (is_ext _ (rv22 K) _) (is_ext _ K.h7 _)
theorem rv32 : Is (s := S16384x1024) (val_main_v32 (F := Ideal) x1 x2 x3 x4 x6 x7) (e2 A.y) := is_trunc _ (rv25 K)
theorem rv29 : Is (s := S16384x1024) (val_main_v29 (F := Ideal) x5) (e2 fun _ j => A.v 0 j) :=
  is_entry K.h5 fun i => by
    have h1 : (i 1).val < 1024 := (i 1).isLt
    refine ⟨_, (val_main_v29_apply (F := Ideal) x5 i).trans ((val_main_v28_apply (F := Ideal) x5 _).trans ((val_main_v27_apply (F := Ideal) x5 _).trans (val_main_v26_apply (F := Ideal) x5 _))), congrArg₂ A.v (Fin.ext rfl) (Fin.ext ?_)⟩
    show (i 1).val % 1024 = (i 1).val; omega
theorem rv31 : Is (s := S16384x1024) (val_main_v31 (F := Ideal) x0 x1 x2 x3 x4 x5 x6 x7) (e2 A.out) := is_add K.h0 (is_mul (rv29 K) (rv25 K))
end Reference

/-! The claims. -/

/-- The arguments a device starts from, entry by entry. -/
def read (m : (ℓ : Loc nD τ sig) → Buf (Elt Ideal) ℓ) (c : Dev nD) : In 16384 :=
  ⟨ent 16384 1024 (m ((c : Thread nD τ).loc main_arg0)),
    ent 16384 512 (m ((c : Thread nD τ).loc main_arg1)),
    ent 16384 512 (m ((c : Thread nD τ).loc main_arg2)),
    ent 16384 512 (m ((c : Thread nD τ).loc main_arg3)),
    ent 16384 512 (m ((c : Thread nD τ).loc main_arg4)),
    ent 8 1024 (m ((c : Thread nD τ).loc main_arg5)),
    ent 1 512 (m ((c : Thread nD τ).loc main_arg6)),
    ent 1024 1024 (m ((c : Thread nD τ).loc main_arg7))⟩

theorem reads (m : (ℓ : Loc nD τ sig) → Buf (Elt Ideal) ℓ) (c : Dev nD) : Ins m c (read m c) := by
  constructor
  · exact is_read 16384 1024 (m ((c : Thread nD τ).loc main_arg0))
  · exact is_read 16384 512 (m ((c : Thread nD τ).loc main_arg1))
  · exact is_read 16384 512 (m ((c : Thread nD τ).loc main_arg2))
  · exact is_read 16384 512 (m ((c : Thread nD τ).loc main_arg3))
  · exact is_read 16384 512 (m ((c : Thread nD τ).loc main_arg4))
  · exact is_read 8 1024 (m ((c : Thread nD τ).loc main_arg5))
  · exact is_read 1 512 (m ((c : Thread nD τ).loc main_arg6))
  · exact is_read 1024 1024 (m ((c : Thread nD τ).loc main_arg7))

theorem values : Cert.algebraic_JoinIdeal_JoinRefIdeal := by
  intro m g m' g' _ harg
  refine ⟨fun c => (dats m 0 c).arrAt 8 cfg0.N, fun c => (dats m 0 c).arrAt 9 cfg0.N, fun c => (dats m 0 c).arrAt 10 cfg0.N, run_blocks m g, ?_⟩
  refine (θ_run _ _ _).mono (fun r h c => ?_) (Cert.JoinRefIdeal.Value.run m' g')
  obtain ⟨e0, e1, e2, e3, e4, e5, e6, e7⟩ := harg c
  have H := reads m c
  have K : Args (read m c) (m' ((c.tc : Thread Cert.JoinRefIdeal.nD Cert.JoinRefIdeal.τ).loc Cert.JoinRefIdeal.main_arg0)) (m' ((c.tc : Thread Cert.JoinRefIdeal.nD Cert.JoinRefIdeal.τ).loc Cert.JoinRefIdeal.main_arg1)) (m' ((c.tc : Thread Cert.JoinRefIdeal.nD Cert.JoinRefIdeal.τ).loc Cert.JoinRefIdeal.main_arg2)) (m' ((c.tc : Thread Cert.JoinRefIdeal.nD Cert.JoinRefIdeal.τ).loc Cert.JoinRefIdeal.main_arg3)) (m' ((c.tc : Thread Cert.JoinRefIdeal.nD Cert.JoinRefIdeal.τ).loc Cert.JoinRefIdeal.main_arg4)) (m' ((c.tc : Thread Cert.JoinRefIdeal.nD Cert.JoinRefIdeal.τ).loc Cert.JoinRefIdeal.main_arg5)) (m' ((c.tc : Thread Cert.JoinRefIdeal.nD Cert.JoinRefIdeal.τ).loc Cert.JoinRefIdeal.main_arg6)) (m' ((c.tc : Thread Cert.JoinRefIdeal.nD Cert.JoinRefIdeal.τ).loc Cert.JoinRefIdeal.main_arg7)) :=
    ⟨is_eqv e0 H.h0, is_eqv e1 H.h1, is_eqv e2 H.h2, is_eqv e3 H.h3, is_eqv e4 H.h4, is_eqv e5 H.h5, is_eqv e6 H.h6, is_eqv e7 H.h7⟩
  obtain ⟨r8, r9, r10, hk⟩ := h c
  exact ⟨r8.trans ((Cert.JoinRefIdeal.Read.val_main_v31_eq (F := Ideal) _ _ _ _ _ _ _ _).trans (Eq.trans (funext fun i => rv31 K i) (arr8 H).symm)),
    r9.trans ((Cert.JoinRefIdeal.Read.val_main_v32_eq (F := Ideal) _ _ _ _ _ _).trans (Eq.trans (funext fun i => rv32 K i) (arr9 H).symm)),
    r10.trans ((Cert.JoinRefIdeal.Read.val_main_v22_eq (F := Ideal) _ _ _ _ _).trans (Eq.trans (funext fun i => rv22 K i) (arr10 H).symm)), hk⟩

/-- The reference ends with its arguments unchanged and every counter at zero. -/
theorem frame_ref : Cert.quiescent_JoinRefIdeal := fun m ρ _ =>
  (θ_run Cert.JoinRefIdeal.defs _ _).mono (fun r h => ⟨fun c => (h c).2.2.2, Idealize.ShloMosaic.sem_eq_zero_of_no_sems (by decide) r.2⟩)
    (Cert.JoinRefIdeal.Value.run (F := Ideal) m ρ)

end Cert.JoinIdeal.Val
-- ==== Proof.PackVal.lean ====
/-
  The packing of the small parameters' gradients: each row of the packed array the kernel leaves is, entry by entry, the sum the
  reference states.
-/
module

public import proofs.«01_k».proof.Proof.Windows
public import proofs.«01_k».proof.Proof.Gen.PackIdeal.Value
public import proofs.«01_k».proof.Proof.Gen.PackRefIdeal.Run
public import proofs.«01_k».proof.Proof.Gen.PackRefIdeal.Read
public import proofs.«01_k».proof.Defs
public import Idealize.ShloMosaic.Lib.Quiescent
public import Idealize.ShloMosaic.Lib.KernelVsHost
public import Idealize.ShloMosaic.Lib.Pipeline.ValueKit
public import Idealize.ShloMosaic.Lib.ValueIdxRank1

@[expose] public section

noncomputable section

namespace Cert.PackIdeal.Val

open Cert.PackIdeal Cert.PackIdeal.Gen Cert.PackIdeal.Value Idealize.ShloMosaic Idealize.ShloMosaic.TcCoe Idealize.SL.Sem
open Cert.PackRefIdeal.Read Cert.Vals

/-- The sum of the eight rows from row `o` on. -/
def eight {n w : ℕ} (x : (⟨2, ![n, w]⟩ : Shape).Idx → EReal) (o : ℕ) (h : o + 8 ≤ n) (j : Fin w) : EReal :=
  ∑ k : Fin 8, x (ValueIdx.ix2 ⟨o + k.val, by omega⟩ j)

/-- The packed rows. -/
def row (sf : S48x1024.Idx → EReal) (s1 : S8x1024.Idx → EReal) (s2 : S8x512.Idx → EReal) (sd : S40x1024.Idx → EReal) (sc : S8x1024.Idx → EReal) (j : Fin 1024) : ℕ → EReal
  | 0 => eight sd 0 (by norm_num) j
  | 1 => eight sd 8 (by norm_num) j
  | 2 => eight s1 0 (by norm_num) j
  | 3 => eight sf 16 (by norm_num) j
  | 4 => eight sf 24 (by norm_num) j
  | 5 => eight sf 8 (by norm_num) j
  | 6 => sc (ValueIdx.ix2 1 j)
  | 7 => sc (ValueIdx.ix2 2 j)
  | 8 => eight sd 16 (by norm_num) j + sc (ValueIdx.ix2 0 j)
  | 9 => eight sf 32 (by norm_num) j
  | 10 => eight sf 0 (by norm_num) j
  | 11 => eight sd 24 (by norm_num) j
  | 12 => eight sd 32 (by norm_num) j + sc (ValueIdx.ix2 3 j)
  | 13 => if h : j.val < 128 then ∑ p : Fin 4, eight s2 0 (by norm_num) ⟨p.val * 128 + j.val, by omega⟩ else 0
  | 14 => eight sf 40 (by norm_num) j
  | _ => 0

/-- The packed array. -/
def packed (sf : S48x1024.Idx → EReal) (s1 : S8x1024.Idx → EReal) (s2 : S8x512.Idx → EReal) (sd : S40x1024.Idx → EReal) (sc : S8x1024.Idx → EReal) (y : S16x1024.Idx) : EReal :=
  row sf s1 s2 sd sc (y 1) (y 0).val

/-! The kernel. -/

/-- Eight rows loaded and added. -/
theorem red {n w : ℕ} (x : (⟨2, ![n, w]⟩ : Shape).Idx → EReal) (o : ℕ) (h : o + 8 ≤ n) (inb : ∀ a, (![o, 0] : Fin 2 → ℕ) a + (⟨2, ![8, w]⟩ : Shape).size a ≤ (⟨2, ![n, w]⟩ : Shape).size a)
    (hr : (⟨2, ![8, w]⟩ : Shape).Reduces [0] ⟨1, ![w]⟩) (hφ) (ha) (j : Fin w) :
    multiReduction (F := Ideal) (φ := .f32) .add [0] ⟨1, ![w]⟩ (View.ld (Val := Elt Ideal) (e' := .f32) x (Rect.unit (s := ⟨2, ![n, w]⟩) ![o, 0] (⟨2, ![8, w]⟩ : Shape).size inb)) 0x00000000#32 hr hφ ha (ValueIdx.ix1 j)
      = eight x o h j := by
  refine (Ideal.multiReduction_add_single _ _ _ _ _ _).trans ?_
  refine Finset.sum_congr rfl fun k _ => congrArg x (funext fun a => Fin.ext ?_)
  match a with
  | 0 => show o + 1 * k.val = o + k.val; omega
  | 1 => show 0 + 1 * j.val = j.val; omega

/-- A row of sums of eight loaded rows. -/
theorem pay {n : ℕ} (x : (⟨2, ![n, 1024]⟩ : Shape).Idx → EReal) (o : ℕ) (h : o + 8 ≤ n) (inb) (j : Fin 1024) :
    k0_pay2 (F := Ideal) (View.ld (Val := Elt Ideal) (e' := .f32) x (Rect.unit (s := ⟨2, ![n, 1024]⟩) ![o, 0] S8x1024.size inb)) (ValueIdx.ix2 0 j) = eight x o h j := by
  unfold k0_pay2
  refine (shapeCast_apply _ _ _ (ValueIdx.ix1 j) ?_).trans (red x o h inb _ _ _ j)
  rw [Shape.rowMajor_val_one, Shape.rowMajor_val_two]
  show j.val = 0 * 1024 + j.val
  omega

/-- One loaded row. -/
theorem one (x : S8x1024.Idx → EReal) (o : ℕ) (h : o < 8) (inb) (j : Fin 1024) :
    (View.ld (Val := Elt Ideal) (e' := .f32) x (Rect.unit (s := S8x1024) ![o, 0] S1x1024.size inb) : S1x1024.Idx → EReal) (ValueIdx.ix2 0 j) = x (ValueIdx.ix2 ⟨o, h⟩ j) :=
  congrArg x (funext fun a => Fin.ext (by
    match a with
    | 0 => show o + 1 * 0 = o; omega
    | 1 => show 0 + 1 * j.val = j.val; omega))

/-- The four heads' sums, added over the heads. -/
theorem pay13 (x : S8x512.Idx → EReal) (inb) (j : Fin 128) :
    k0_pay13 (F := Ideal) (View.ld (Val := Elt Ideal) (e' := .f32) x (Rect.unit (s := S8x512) ![0, 0] S8x512.size inb)) (ValueIdx.ix2 0 j)
      = ∑ p : Fin 4, eight x 0 (by norm_num) ⟨p.val * 128 + j.val, by omega⟩ := by
  have e : ∀ (p : ℕ) (hp : p * 128 + j.val < 512) (hs : S1x512.Slices ![0, p * 128] S1x128) (v : S1x512.Idx → EReal),
      extractStridedSlice S1x128 ![0, p * 128] v hs (ValueIdx.ix2 0 j) = v (ValueIdx.ix2 0 ⟨p * 128 + j.val, hp⟩) := fun p hp hs v =>
    extractStridedSlice_apply _ v hs _ _ fun a => by
      match a with
      | 0 => rfl
      | 1 => rfl
  have f : ∀ (i : Fin 512) (h), shapeCast S1x512 (multiReduction (F := Ideal) (φ := .f32) .add [0] S512 (View.ld (Val := Elt Ideal) (e' := .f32) x (Rect.unit (s := S8x512) ![0, 0] S8x512.size inb)) 0x00000000#32 reduces_S8x512_S512 (.inl rfl) rfl) h (ValueIdx.ix2 0 i)
      = eight x 0 (by norm_num) i := fun i h => by
    refine (shapeCast_apply _ _ _ (ValueIdx.ix1 i) ?_).trans (red x 0 _ inb _ _ _ i)
    rw [Shape.rowMajor_val_one, Shape.rowMajor_val_two]
    show i.val = 0 * 512 + i.val
    omega
  rw [Fin.sum_univ_four]
  unfold k0_pay13
  exact congrArg₂ (fun p q : EReal => p + q) (congrArg₂ (fun p q : EReal => p + q) (congrArg₂ (fun p q : EReal => p + q)
    ((e 0 (by omega) _ _).trans (f _ _)) ((e 1 (by omega) _ _).trans (f _ _))) ((e 2 (by omega) _ _).trans (f _ _))) ((e 3 (by omega) _ _).trans (f _ _))

/-- A store of the first `w` columns of row `r`, read at an entry of row `i`. -/
theorem at_row {w : ℕ} (r : ℕ) (inb) (v : (⟨2, ![1, w]⟩ : Shape).Idx → EReal) (L : List (View.Piece (Elt Ideal) S16x1024 .f32)) (i : ℕ) (hi : i < 16) (j : Fin 1024) :
    View.canon (⟨Rect.unit (s := S16x1024) ![r, 0] (⟨2, ![1, w]⟩ : Shape).size inb, v⟩ :: L) (ValueIdx.ix2 ⟨i, hi⟩ j)
      = if h : i = r ∧ j.val < w then v (ValueIdx.ix2 0 ⟨j.val, h.2⟩) else View.canon L (ValueIdx.ix2 ⟨i, hi⟩ j) := by
  split_ifs with h
  · obtain ⟨rfl, hj⟩ := h
    have e : (ValueIdx.ix2 ⟨i, hi⟩ j : S16x1024.Idx) = (Rect.unit (s := S16x1024) ![i, 0] (⟨2, ![1, w]⟩ : Shape).size inb).emb (ValueIdx.ix2 0 ⟨j.val, hj⟩) :=
      funext fun a => Fin.ext (by
        match a with
        | 0 => show i = i + 1 * 0; omega
        | 1 => show j.val = 0 + 1 * j.val; omega)
    conv_lhs => rw [e]
    exact View.canon_cons_emb (Rect.unit (s := S16x1024) ![i, 0] (⟨2, ![1, w]⟩ : Shape).size inb) v L _
  · refine View.canon_cons_of_not_mem _ L fun hm => h ?_
    have e0 : r ≤ i ∧ i < r + 1 := (Rect.mem_set_unit (inb := inb)).1 hm 0
    have e1 : 0 ≤ j.val ∧ j.val < 0 + w := (Rect.mem_set_unit (inb := inb)).1 hm 1
    omega

section Points
variable (m : (ℓ : Loc nD τ sig) → Buf (Elt Ideal) ℓ) (c : Dev nD)

variable (arg0 : Memref sig .tc .vmem S48x1024 .f32) (harg0 : arg0.IsWhole) (arg1 : Memref sig .tc .vmem S8x1024 .f32) (harg1 : arg1.IsWhole)
  (arg2 : Memref sig .tc .vmem S8x512 .f32) (harg2 : arg2.IsWhole) (arg3 : Memref sig .tc .vmem S40x1024 .f32) (harg3 : arg3.IsWhole)
  (arg4 : Memref sig .tc .vmem S8x1024 .f32) (harg4 : arg4.IsWhole) (arg5 : Memref sig .tc .vmem S32x512 .f32) (harg5 : arg5.IsWhole)
  (arg6 : Memref sig .tc .vmem S128x512 .f32) (harg6 : arg6.IsWhole) (arg7 : Memref sig .tc .vmem S128x512 .f32) (harg7 : arg7.IsWhole)
  (arg8 : Memref sig .tc .vmem S16x1024 .f32) (harg8 : arg8.IsWhole) (arg9 : Memref sig .tc .vmem S32x512 .f32) (harg9 : arg9.IsWhole)
  (arg10 : Memref sig .tc .vmem S32x512 .f32) (harg10 : arg10.IsWhole)
  (x0 : S48x1024.Idx → EReal) (x1 : S8x1024.Idx → EReal) (x2 : S8x512.Idx → EReal) (x3 : S40x1024.Idx → EReal) (x4 : S8x1024.Idx → EReal)
  (x5 : S32x512.Idx → EReal) (x6 x7 : S128x512.Idx → EReal)

theorem out8 : out0_A_8 (F := Ideal) c arg0 harg0 arg1 harg1 arg2 harg2 arg3 harg3 arg4 harg4 arg5 harg5 arg6 harg6 arg7 harg7 arg8 harg8 arg9 harg9 arg10 harg10 x0 x1 x2 x3 x4 x5 x6 x7
    = packed x0 x1 x2 x3 x4 := by
  unfold out0_A_8
  rw [View.read_writes_eq_canon _ _ _ (cover0_A_8 (F := Ideal) _ _ _ _ _ _ _ _ _ _ _ _ _ _ _ _ _ _ _ _ _ _ _ _ _ _ _ _ _ _ _)]
  unfold kernelRun0_A
  dsimp only
  try sl_unfold_words
  simp only [View.readAt_eq_ld, harg0.read_unread, harg1.read_unread, harg2.read_unread, harg3.read_unread, harg4.read_unread]
  funext y
  obtain ⟨i, j, rfl⟩ : ∃ (i : Fin 16) (j : Fin 1024), y = ValueIdx.ix2 i j := ⟨y 0, y 1, funext fun a => by
    match a with
    | 0 => rfl
    | 1 => rfl⟩
  obtain ⟨i, hi⟩ := i
  show _ = row x0 x1 x2 x3 x4 j i
  rw [at_row, at_row, at_row, at_row, at_row, at_row, at_row, at_row, at_row, at_row, at_row, at_row, at_row, at_row, at_row, View.canon_unit_zero zero2]
  have hj := j.isLt
  interval_cases i <;> simp only [Nat.reduceEqDiff, false_and, dite_false, true_and, hj, dite_true]
  · exact pay x3 0 (by norm_num) _ j
  · exact pay x3 8 (by norm_num) _ j
  · exact pay x1 0 (by norm_num) _ j
  · exact pay x0 16 (by norm_num) _ j
  · exact pay x0 24 (by norm_num) _ j
  · exact pay x0 8 (by norm_num) _ j
  · exact one x4 1 (by norm_num) _ j
  · exact one x4 2 (by norm_num) _ j
  · exact congrArg₂ (fun p q : EReal => p + q) (pay x3 16 (by norm_num) _ j) (one x4 0 (by norm_num) _ j)
  · exact pay x0 32 (by norm_num) _ j
  · exact pay x0 0 (by norm_num) _ j
  · exact pay x3 24 (by norm_num) _ j
  · exact congrArg₂ (fun p q : EReal => p + q) (pay x3 32 (by norm_num) _ j) (one x4 3 (by norm_num) _ j)
  · show _ = if h : j.val < 128 then _ else _
    split_ifs with h
    · exact pay13 x2 _ _
    · exact Ideal.ofBits_zero_f32
  · exact pay x0 40 (by norm_num) _ j
  · exact Ideal.ofBits_zero_f32

theorem out9 : out0_A_9 (F := Ideal) c arg0 harg0 arg1 harg1 arg2 harg2 arg3 harg3 arg4 harg4 arg5 harg5 arg6 harg6 arg7 harg7 arg8 harg8 arg9 harg9 arg10 harg10 x0 x1 x2 x3 x4 x5 x6 x7 = x5 := by
  unfold out0_A_9
  rw [View.read_writes_eq_canon _ _ _ (cover0_A_9 (F := Ideal) _ _ _ _ _ _ _ _ _ _ _ _ _ _ _ _ _ _ _ _ _ _ _ _ _ _ _ _ _ _ _)]
  unfold kernelRun0_A
  dsimp only
  try sl_unfold_words
  simp only [View.readAt_eq_ld, harg5.read_unread]
  rw [View.canon_unit_zero zero2]
  exact View.ld_unit_zero zero2 _ _

/-- The first rows of the two branches' sums, added. -/
def both (y : S32x512.Idx) : EReal := x6 (ValueIdx.ix2 ⟨(y 0).val, Nat.lt_trans (y 0).isLt (by show 32 < 128; norm_num)⟩ (y 1)) + x7 (ValueIdx.ix2 ⟨(y 0).val, Nat.lt_trans (y 0).isLt (by show 32 < 128; norm_num)⟩ (y 1))

theorem out10 : out0_A_10 (F := Ideal) c arg0 harg0 arg1 harg1 arg2 harg2 arg3 harg3 arg4 harg4 arg5 harg5 arg6 harg6 arg7 harg7 arg8 harg8 arg9 harg9 arg10 harg10 x0 x1 x2 x3 x4 x5 x6 x7 = both x6 x7 := by
  unfold out0_A_10
  rw [View.read_writes_eq_canon _ _ _ (cover0_A_10 (F := Ideal) _ _ _ _ _ _ _ _ _ _ _ _ _ _ _ _ _ _ _ _ _ _ _ _ _ _ _ _ _ _ _)]
  unfold kernelRun0_A
  dsimp only
  try sl_unfold_words
  simp only [View.readAt_eq_ld, harg6.read_unread, harg7.read_unread]
  rw [View.canon_unit_zero zero2]
  funext y
  have e : ∀ (inb), (Rect.unit (s := S128x512) ![0, 0] S32x512.size inb).emb y = ValueIdx.ix2 ⟨(y 0).val, Nat.lt_trans (y 0).isLt (by show 32 < 128; norm_num)⟩ (y 1) := fun inb =>
    funext fun a => Fin.ext (by
      match a with
      | 0 => show 0 + 1 * (y 0).val = (y 0).val; omega
      | 1 => show 0 + 1 * (y 1).val = (y 1).val; omega)
  exact congrArg₂ (fun p q : EReal => p + q) (congrArg x6 (e _)) (congrArg x7 (e _))

/-! The blocks are the whole arrays. -/

theorem blk0 (t : Fin cfg0.N) : (iblk m c 0 t : Vec Ideal S48x1024 .f32) = m ((c : Thread nD τ).loc main_arg0) := funext fun y =>
  congrArg (m ((c : Thread nD τ).loc main_arg0)) (funext fun a => Fin.ext (at_zero ((by decide +kernel : ∀ (t : Fin grid0.N) a, win0_0.index t a = 0) t a)))

theorem blk1 (t : Fin cfg0.N) : (iblk m c 1 t : Vec Ideal S8x1024 .f32) = m ((c : Thread nD τ).loc main_arg1) := funext fun y =>
  congrArg (m ((c : Thread nD τ).loc main_arg1)) (funext fun a => Fin.ext (at_zero ((by decide +kernel : ∀ (t : Fin grid0.N) a, win0_1.index t a = 0) t a)))

theorem blk2 (t : Fin cfg0.N) : (iblk m c 2 t : Vec Ideal S8x512 .f32) = m ((c : Thread nD τ).loc main_arg2) := funext fun y =>
  congrArg (m ((c : Thread nD τ).loc main_arg2)) (funext fun a => Fin.ext (at_zero ((by decide +kernel : ∀ (t : Fin grid0.N) a, win0_2.index t a = 0) t a)))

theorem blk3 (t : Fin cfg0.N) : (iblk m c 3 t : Vec Ideal S40x1024 .f32) = m ((c : Thread nD τ).loc main_arg3) := funext fun y =>
  congrArg (m ((c : Thread nD τ).loc main_arg3)) (funext fun a => Fin.ext (at_zero ((by decide +kernel : ∀ (t : Fin grid0.N) a, win0_3.index t a = 0) t a)))

theorem blk4 (t : Fin cfg0.N) : (iblk m c 4 t : Vec Ideal S8x1024 .f32) = m ((c : Thread nD τ).loc main_arg4) := funext fun y =>
  congrArg (m ((c : Thread nD τ).loc main_arg4)) (funext fun a => Fin.ext (at_zero ((by decide +kernel : ∀ (t : Fin grid0.N) a, win0_4.index t a = 0) t a)))

theorem blk5 (t : Fin cfg0.N) : (iblk m c 5 t : Vec Ideal S32x512 .f32) = m ((c : Thread nD τ).loc main_arg5) := funext fun y =>
  congrArg (m ((c : Thread nD τ).loc main_arg5)) (funext fun a => Fin.ext (at_zero ((by decide +kernel : ∀ (t : Fin grid0.N) a, win0_5.index t a = 0) t a)))

theorem blk6 (t : Fin cfg0.N) : (iblk m c 6 t : Vec Ideal S128x512 .f32) = m ((c : Thread nD τ).loc main_arg6) := funext fun y =>
  congrArg (m ((c : Thread nD τ).loc main_arg6)) (funext fun a => Fin.ext (at_zero ((by decide +kernel : ∀ (t : Fin grid0.N) a, win0_6.index t a = 0) t a)))

theorem blk7 (t : Fin cfg0.N) : (iblk m c 7 t : Vec Ideal S128x512 .f32) = m ((c : Thread nD τ).loc main_arg7) := funext fun y =>
  congrArg (m ((c : Thread nD τ).loc main_arg7)) (funext fun a => Fin.ext (at_zero ((by decide +kernel : ∀ (t : Fin grid0.N) a, win0_7.index t a = 0) t a)))

theorem arr8 : (dats m 0 c).arrAt 8 cfg0.N = (packed (m ((c : Thread nD τ).loc main_arg0)) (m ((c : Thread nD τ).loc main_arg1)) (m ((c : Thread nD τ).loc main_arg2)) (m ((c : Thread nD τ).loc main_arg3)) (m ((c : Thread nD τ).loc main_arg4)) : S16x1024.Idx → EReal) := by
  refine (dats m 0 c).arrAt_eq_of_covers 8 _ (by decide +kernel) fun t hf y => ?_
  have e : (((cfg0.win 8).blk t).view.emb y : S16x1024.Idx) = y :=
    funext fun a => Fin.ext (at_zero ((by decide +kernel : ∀ (t : Fin grid0.N) a, win0_8.index t a = 0) t a))
  blk_simp
  rw [after0_8]
  unfold outsAt0
  dsimp only
  rw [out8, blk0, blk1, blk2, blk3, blk4]
  exact (congrArg (packed (m ((c : Thread nD τ).loc main_arg0)) (m ((c : Thread nD τ).loc main_arg1)) (m ((c : Thread nD τ).loc main_arg2)) (m ((c : Thread nD τ).loc main_arg3)) (m ((c : Thread nD τ).loc main_arg4)) : S16x1024.Idx → EReal) e).symm

theorem arr9 : (dats m 0 c).arrAt 9 cfg0.N = (m ((c : Thread nD τ).loc main_arg5) : S32x512.Idx → EReal) := by
  refine (dats m 0 c).arrAt_eq_of_covers 9 _ (by decide +kernel) fun t hf y => ?_
  have e : (((cfg0.win 9).blk t).view.emb y : S32x512.Idx) = y :=
    funext fun a => Fin.ext (at_zero ((by decide +kernel : ∀ (t : Fin grid0.N) a, win0_9.index t a = 0) t a))
  blk_simp
  rw [after0_9]
  unfold outsAt0
  dsimp only
  rw [out9, blk5]
  exact (congrArg (m ((c : Thread nD τ).loc main_arg5) : S32x512.Idx → EReal) e).symm

theorem arr10 : (dats m 0 c).arrAt 10 cfg0.N = (both (m ((c : Thread nD τ).loc main_arg6)) (m ((c : Thread nD τ).loc main_arg7)) : S32x512.Idx → EReal) := by
  refine (dats m 0 c).arrAt_eq_of_covers 10 _ (by decide +kernel) fun t hf y => ?_
  have e : (((cfg0.win 10).blk t).view.emb y : S32x512.Idx) = y :=
    funext fun a => Fin.ext (at_zero ((by decide +kernel : ∀ (t : Fin grid0.N) a, win0_10.index t a = 0) t a))
  blk_simp
  rw [after0_10]
  unfold outsAt0
  dsimp only
  rw [out10, blk6, blk7]
  exact (congrArg (both (m ((c : Thread nD τ).loc main_arg6)) (m ((c : Thread nD τ).loc main_arg7)) : S32x512.Idx → EReal) e).symm

end Points

/-! The reference. -/

theorem ref1 (x : S48x1024.Idx → EReal) (i : Cert.PackRefIdeal.S6x1024.Idx) (o : ℕ) (h : o + 8 ≤ 48) (j : Fin 1024) (h0 : (i 0).val * 8 = o) (h1 : (i 1).val = j.val) :
    val_main_v1 (F := Ideal) x i = eight x o h j := by
  rw [val_main_v1_apply]
  refine (congrArg (· + _) Ideal.ofBits_zero_f32).trans ((zero_add _).trans ?_)
  refine Finset.sum_congr rfl fun k _ => (val_main_v0_apply (F := Ideal) x _).trans (congrArg x (funext fun a => Fin.ext ?_))
  have hk : k.val < 8 := k.isLt
  match a with
  | 0 => show (((i 0).val * 8 + k.val) * 1024 + (i 1).val) / 1024 = o + k.val; omega
  | 1 => show (((i 0).val * 8 + k.val) * 1024 + (i 1).val) % 1024 = j.val; omega

theorem ref3 (x : S40x1024.Idx → EReal) (i : Cert.PackRefIdeal.S5x1024.Idx) (o : ℕ) (h : o + 8 ≤ 40) (j : Fin 1024) (h0 : (i 0).val * 8 = o) (h1 : (i 1).val = j.val) :
    val_main_v3 (F := Ideal) x i = eight x o h j := by
  rw [val_main_v3_apply]
  refine (congrArg (· + _) Ideal.ofBits_zero_f32).trans ((zero_add _).trans ?_)
  refine Finset.sum_congr rfl fun k _ => (val_main_v2_apply (F := Ideal) x _).trans (congrArg x (funext fun a => Fin.ext ?_))
  have hk : k.val < 8 := k.isLt
  match a with
  | 0 => show (((i 0).val * 8 + k.val) * 1024 + (i 1).val) / 1024 = o + k.val; omega
  | 1 => show (((i 0).val * 8 + k.val) * 1024 + (i 1).val) % 1024 = j.val; omega

theorem ref4 (x : S8x1024.Idx → EReal) (j : Fin 1024) : val_main_v4 (F := Ideal) x (ValueIdx.ix1 j) = eight x 0 (by norm_num) j := by
  rw [val_main_v4_apply]
  refine (congrArg (· + _) Ideal.ofBits_zero_f32).trans ((zero_add _).trans ?_)
  refine Finset.sum_congr rfl fun k _ => congrArg x (funext fun a => Fin.ext ?_)
  match a with
  | 0 => exact (Nat.zero_add _).symm
  | 1 => rfl

theorem ref7 (x : S8x512.Idx → EReal) (j : Fin 128) : val_main_v7 (F := Ideal) x (ValueIdx.ix1 j) = ∑ p : Fin 4, eight x 0 (by norm_num) ⟨p.val * 128 + j.val, by omega⟩ := by
  rw [val_main_v7_apply]
  refine (congrArg (· + _) Ideal.ofBits_zero_f32).trans ((zero_add _).trans ?_)
  refine Finset.sum_congr rfl fun p _ => ?_
  rw [val_main_v6_apply, val_main_v5_apply]
  refine (congrArg (· + _) Ideal.ofBits_zero_f32).trans ((zero_add _).trans ?_)
  refine Finset.sum_congr rfl fun k _ => congrArg x (funext fun a => Fin.ext ?_)
  match a with
  | 0 => exact (Nat.zero_add _).symm
  | 1 => rfl

theorem ref8 (x : S8x512.Idx → EReal) (j : Fin 1024) : val_main_v8 (F := Ideal) x (ValueIdx.ix1 j)
    = if h : j.val < 128 then ∑ p : Fin 4, eight x 0 (by norm_num) ⟨p.val * 128 + j.val, by omega⟩ else 0 := by
  unfold val_main_v8
  split_ifs with h
  · refine (pad_apply_of_inside _ _ _ _ _ _ _ _ (ValueIdx.ix1 (⟨j.val, h⟩ : Fin 128)) fun a => ?_).trans (ref7 x ⟨j.val, h⟩)
    match a with
    | 0 => show j.val = 0 + j.val * (0 + 1); omega
  · refine (pad_apply_of_not_inside _ _ _ _ _ _ _ _ 0 fun hin => h ?_).trans ?_
    · have := hin.2.2
      exact (by simpa using this : j.val < 128)
    · show ((((0#32 : BitVec 32).toInt : ℤ) : ℝ) : EReal) = 0
      simp

/-- A row of `x4`. -/
theorem idx4 (x : S8x1024.Idx → EReal) (i : S8x1024.Idx) (r : Fin 8) (j : Fin 1024) (h0 : (i 0).val = r.val) (h1 : (i 1).val = j.val) : x i = x (ValueIdx.ix2 r j) :=
  congrArg x (funext fun a => Fin.ext (by
    match a with
    | 0 => exact h0
    | 1 => exact h1))

set_option maxHeartbeats 1000000 in
theorem ref58 (x0 : S48x1024.Idx → EReal) (x1 : S8x1024.Idx → EReal) (x2 : S8x512.Idx → EReal) (x3 : S40x1024.Idx → EReal) (x4 : S8x1024.Idx → EReal) :
    val_main_v58 (F := Ideal) x0 x1 x2 x3 x4 = packed x0 x1 x2 x3 x4 := by
  funext y
  obtain ⟨i, j, rfl⟩ : ∃ (i : Fin 16) (j : Fin 1024), y = ValueIdx.ix2 i j := ⟨y 0, y 1, funext fun a => by
    match a with
    | 0 => rfl
    | 1 => rfl⟩
  obtain ⟨i, hi⟩ := i
  show _ = row x0 x1 x2 x3 x4 j i
  have e : j.val % 1024 = j.val := Nat.mod_eq_of_lt j.isLt
  unfold val_main_v58
  have hb : ∀ b : Fin S1x1024.rank, b.cast (rfl : S1x1024.rank = S16x1024.rank) ≠ 0 → ((ValueIdx.ix2 0 j : S1x1024.Idx) b).val = ((ValueIdx.ix2 ⟨i, hi⟩ j : S16x1024.Idx) (b.cast rfl)).val := fun b h => by
    match b with
    | 0 => exact absurd rfl h
    | 1 => rfl
  have q : ∀ i : S1024.Idx, (i 0).val = j.val → i = ValueIdx.ix1 j := fun i h => funext fun a => Fin.ext (by
    match a with
    | 0 => exact h)
  refine (concatenate_apply_piece 0 _ _ (ValueIdx.ix2 ⟨i, hi⟩ j) i ?_ S1x1024
    ((![val_main_v42 (F := Ideal) x3, val_main_v43 (F := Ideal) x3, val_main_v44 (F := Ideal) x1, val_main_v45 (F := Ideal) x0, val_main_v46 (F := Ideal) x0, val_main_v47 (F := Ideal) x0, val_main_v48 (F := Ideal) x4, val_main_v49 (F := Ideal) x4, val_main_v50 (F := Ideal) x3 x4, val_main_v51 (F := Ideal) x0, val_main_v52 (F := Ideal) x0, val_main_v53 (F := Ideal) x3, val_main_v54 (F := Ideal) x3 x4, val_main_v55 (F := Ideal) x2, val_main_v56 (F := Ideal) x0, val_main_v57 (F := Ideal)] : Fin 16 → S1x1024.Idx → EReal) ⟨i, hi⟩) ?_ rfl i ?_ (ValueIdx.ix2 0 j) hb rfl).trans ?_
  · exact hi
  · interval_cases i <;> rfl
  · interval_cases i <;> rfl
  interval_cases i
  · show val_main_v42 (F := Ideal) x3 _ = _; rw [val_main_v42_apply, val_main_v10_apply, val_main_v9_apply]; exact ref3 x3 _ 0 (by norm_num) j rfl e
  · show val_main_v43 (F := Ideal) x3 _ = _; rw [val_main_v43_apply, val_main_v12_apply, val_main_v11_apply]; exact ref3 x3 _ 8 (by norm_num) j rfl e
  · show val_main_v44 (F := Ideal) x1 _ = _; rw [val_main_v44_apply]; exact (congrArg (val_main_v4 (F := Ideal) x1) (q _ rfl)).trans (ref4 x1 j)
  · show val_main_v45 (F := Ideal) x0 _ = _; rw [val_main_v45_apply, val_main_v14_apply, val_main_v13_apply]; exact ref1 x0 _ 16 (by norm_num) j rfl e
  · show val_main_v46 (F := Ideal) x0 _ = _; rw [val_main_v46_apply, val_main_v16_apply, val_main_v15_apply]; exact ref1 x0 _ 24 (by norm_num) j rfl e
  · show val_main_v47 (F := Ideal) x0 _ = _; rw [val_main_v47_apply, val_main_v18_apply, val_main_v17_apply]; exact ref1 x0 _ 8 (by norm_num) j rfl e
  · show val_main_v48 (F := Ideal) x4 _ = _; rw [val_main_v48_apply, val_main_v20_apply, val_main_v19_apply]; exact idx4 x4 _ 1 j rfl e
  · show val_main_v49 (F := Ideal) x4 _ = _; rw [val_main_v49_apply, val_main_v22_apply, val_main_v21_apply]; exact idx4 x4 _ 2 j rfl e
  · show val_main_v50 (F := Ideal) x3 x4 _ = _; rw [val_main_v50_apply, val_main_v27_apply, val_main_v24_apply, val_main_v23_apply, val_main_v26_apply, val_main_v25_apply]; exact congrArg₂ (fun p q : EReal => p + q) (ref3 x3 _ 16 (by norm_num) j rfl e) (idx4 x4 _ 0 j rfl e)
  · show val_main_v51 (F := Ideal) x0 _ = _; rw [val_main_v51_apply, val_main_v29_apply, val_main_v28_apply]; exact ref1 x0 _ 32 (by norm_num) j rfl e
  · show val_main_v52 (F := Ideal) x0 _ = _; rw [val_main_v52_apply, val_main_v31_apply, val_main_v30_apply]; exact ref1 x0 _ 0 (by norm_num) j rfl e
  · show val_main_v53 (F := Ideal) x3 _ = _; rw [val_main_v53_apply, val_main_v33_apply, val_main_v32_apply]; exact ref3 x3 _ 24 (by norm_num) j rfl e
  · show val_main_v54 (F := Ideal) x3 x4 _ = _; rw [val_main_v54_apply, val_main_v38_apply, val_main_v35_apply, val_main_v34_apply, val_main_v37_apply, val_main_v36_apply]; exact congrArg₂ (fun p q : EReal => p + q) (ref3 x3 _ 32 (by norm_num) j rfl e) (idx4 x4 _ 3 j rfl e)
  · show val_main_v55 (F := Ideal) x2 _ = _; rw [val_main_v55_apply]; exact (congrArg (val_main_v8 (F := Ideal) x2) (q _ rfl)).trans (ref8 x2 j)
  · show val_main_v56 (F := Ideal) x0 _ = _; rw [val_main_v56_apply, val_main_v40_apply, val_main_v39_apply]; exact ref1 x0 _ 40 (by norm_num) j rfl e
  · show val_main_v57 (F := Ideal) (ValueIdx.ix2 0 j) = _; rw [val_main_v57_apply, val_main_v41_apply]; exact Ideal.ofBits_zero_f32

/-- The kernel's arrays are the reference's. -/
theorem values : Cert.algebraic_PackIdeal_PackRefIdeal := by
  intro m g m' g' _ harg
  refine ⟨fun c => (dats m 0 c).arrAt 8 cfg0.N, fun c => (dats m 0 c).arrAt 9 cfg0.N, fun c => (dats m 0 c).arrAt 10 cfg0.N, run_blocks m g, ?_⟩
  refine (θ_run _ _ _).mono (fun r h c => ?_) (Cert.PackRefIdeal.Value.run m' g')
  obtain ⟨h0, h1, h2, hk⟩ := h c
  obtain ⟨e0, e1, e2, e3, e4, e5, e6, e7⟩ := harg c
  refine ⟨h0.trans (Eq.trans ?_ (arr8 m c).symm), h1.trans (Eq.trans e5 (arr9 m c).symm), h2.trans (Eq.trans ?_ (arr10 m c).symm), hk⟩
  · rw [val_main_v58_eq, e0, e1, e2, e3, e4]; exact ref58 _ _ _ _ _
  · rw [e6, e7]
    refine (val_main_v60_eq (F := Ideal) _ _).trans (funext fun y => ?_)
    rw [val_main_v60_apply, val_main_v59_apply]
    refine congrArg₂ (fun p q : EReal => p + q) (congrArg _ (funext fun a => ?_)) (congrArg _ (funext fun a => ?_)) <;>
    · match a with
      | 0 => rfl
      | 1 => rfl

/-- The reference ends with its arguments unchanged and every counter at zero. -/
theorem frame_ref : Cert.quiescent_PackRefIdeal := fun m ρ _ =>
  (θ_run Cert.PackRefIdeal.defs _ _).mono (fun r h => ⟨fun c => (h c).2.2.2, Idealize.ShloMosaic.sem_eq_zero_of_no_sems (by decide) r.2⟩)
    (Cert.PackRefIdeal.Value.run (F := Ideal) m ρ)

end Cert.PackIdeal.Val
-- ==== Proof.EntryVal.lean ====
/-
  The entry of the block: the arrays the kernel leaves are, entry by entry, the reference's, whatever the seven arguments hold.
-/
module

public import proofs.«01_k».proof.Proof.Windows
public import proofs.«01_k».proof.Proof.Gen.EntryIdeal.Value
public import proofs.«01_k».proof.Proof.Gen.EntryRefIdeal.Run
public import proofs.«01_k».proof.Proof.Gen.EntryRefIdeal.Read
public import proofs.«01_k».proof.Defs
public import Idealize.ShloMosaic.Lib.Quiescent
public import Idealize.ShloMosaic.Lib.KernelVsHost
public import Idealize.ShloMosaic.Lib.Pipeline.ValueKit

@[expose] public section

noncomputable section

namespace Cert.EntryIdeal.Val

open Cert.EntryIdeal Cert.EntryIdeal.Gen Cert.EntryIdeal.Value Cert.Vals Cert.Reals
open Idealize.ShloMosaic Idealize.ShloMosaic.TcCoe Idealize.SL.Sem Idealize.ShloMosaic.ValueIdx

/-! One number. -/

theorem w_512 : Ideal.ofBits .f32 0x44000000#32 = ((512 : ℝ) : EReal) := by
  simp [Ideal.ofBits, Ideal.ieee, -EReal.coe_mul]; norm_num
theorem w_16 : Ideal.ofBits .f32 0x41800000#32 = ((16 : ℝ) : EReal) := by
  simp [Ideal.ofBits, Ideal.ieee, -EReal.coe_mul]; norm_num
theorem w_16th : Ideal.ofBits .f32 0x3D800000#32 = ((16⁻¹ : ℝ) : EReal) := by
  simp [Ideal.ofBits, Ideal.ieee, -EReal.coe_mul]; norm_num

theorem div16 (x : EReal) : Ideal.div x ((16 : ℝ) : EReal) = x * ((16⁻¹ : ℝ) : EReal) := by
  unfold Ideal.div
  rw [if_neg (by exact_mod_cast (by norm_num : (16 : ℝ) ≠ 0)), EReal.coe_inv]

/-- The logarithm of `lgs`, as the kernel writes it. -/
def lsg (x : EReal) : EReal := min x 0 - Ideal.log (1 + Ideal.exp (-max x (-x)))

theorem exp_nonneg (x : EReal) : 0 ≤ Ideal.exp x := by
  induction x with
  | bot => exact le_refl _
  | top => exact le_top
  | coe r => exact EReal.coe_nonneg.2 (Real.exp_pos r).le
theorem log_nonneg {x : EReal} (h : 1 ≤ x) : 0 ≤ Ideal.log x := by
  induction x with
  | bot => exact absurd (EReal.bot_lt_zero.trans_le (zero_le_one.trans h)) (lt_irrefl _)
  | top => exact le_top
  | coe r =>
    have h' : (1 : ℝ) ≤ r := by exact_mod_cast h
    show (0 : EReal) ≤ if r ≤ 0 then ⊥ else (Real.log r : EReal)
    rw [if_neg (by linarith)]
    exact EReal.coe_nonneg.2 (Real.log_nonneg h')
/-- The reference writes it as the negation of a sum. -/
theorem lsg_neg (x : EReal) : -(max (-x) 0 + Ideal.log (1 + Ideal.exp (-max (-x) x))) = lsg x := by
  have hb : (0 : EReal) ≤ Ideal.log (1 + Ideal.exp (-max (-x) x)) := log_nonneg (le_add_of_nonneg_right (exp_nonneg _))
  have ha : (0 : EReal) ≤ max (-x) 0 := le_max_right _ _
  have h0 : (⊥ : EReal) < 0 := EReal.bot_lt_zero
  have hm : -max (-x) 0 = min x 0 := by
    rcases le_total x 0 with h | h
    · rw [max_eq_left (EReal.neg_nonneg.2 h), min_eq_left h, neg_neg]
    · rw [max_eq_right (by rw [← neg_zero]; exact EReal.neg_le_neg_iff.2 h), min_eq_right h, neg_zero]
  rw [EReal.neg_add (.inl (h0.trans_le ha).ne') (.inr (h0.trans_le hb).ne'), hm, max_comm (-x) x]
  rfl

/-- The sum of 31 terms in the kernel's order, and in the reference's. -/
theorem sum_k (t : Fin 31 → EReal) : 0 + t 7 + t 15 + t 23 + t 0 + t 8 + t 16 + t 24 + t 1 + t 9 + t 17 + t 25 + t 2 + t 10 + t 18 + t 26 + t 3 + t 11 + t 19 + t 27 + t 4 + t 12 + t 20 + t 28 + t 5 + t 13 + t 21 + t 29 + t 6 + t 14 + t 22 + t 30 = ∑ j, t j := by
  have e : ∑ j, t j = t 0 + (t 1 + (t 2 + (t 3 + (t 4 + (t 5 + (t 6 + (t 7 + (t 8 + (t 9 + (t 10 + (t 11 + (t 12 + (t 13 + (t 14 + (t 15 + (t 16 + (t 17 + (t 18 + (t 19 + (t 20 + (t 21 + (t 22 + (t 23 + (t 24 + (t 25 + (t 26 + (t 27 + (t 28 + (t 29 + (t 30 + 0)))))))))))))))))))))))))))))) := by
    simp only [Fin.sum_univ_succ, Fin.sum_univ_zero]; rfl
  rw [e]; abel
theorem sum_r (t : Fin 31 → EReal) : 0 + t 0 + t 1 + t 2 + t 3 + t 4 + t 5 + t 6 + t 7 + t 8 + t 9 + t 10 + t 11 + t 12 + t 13 + t 14 + t 15 + t 16 + t 17 + t 18 + t 19 + t 20 + t 21 + t 22 + t 23 + t 24 + t 25 + t 26 + t 27 + t 28 + t 29 + t 30 = ∑ j, t j := by
  have e : ∑ j, t j = t 0 + (t 1 + (t 2 + (t 3 + (t 4 + (t 5 + (t 6 + (t 7 + (t 8 + (t 9 + (t 10 + (t 11 + (t 12 + (t 13 + (t 14 + (t 15 + (t 16 + (t 17 + (t 18 + (t 19 + (t 20 + (t 21 + (t 22 + (t 23 + (t 24 + (t 25 + (t 26 + (t 27 + (t 28 + (t 29 + (t 30 + 0)))))))))))))))))))))))))))))) := by
    simp only [Fin.sum_univ_succ, Fin.sum_univ_zero]; rfl
  rw [e]; abel

/-! The arguments. -/

/-- The arguments, over `n` tokens: the block's input, the vectors, the input weight, the taps, the convolution's vectors, the
    second gate weight and its bias. -/
structure In (n : ℕ) where
  x : Fin n → Fin 1024 → EReal
  v : Fin 8 → Fin 1024 → EReal
  w : Fin 1024 → Fin 2688 → EReal
  cw : Fin 32 → Fin 512 → EReal
  cv : Fin 8 → Fin 512 → EReal
  wa : Fin 128 → Fin 512 → EReal
  ba : Fin 1 → Fin 512 → EReal

/-- A row less its mean. -/
def off (f : Fin 512 → EReal) (c : Fin 512) : EReal := f c - Ideal.div (∑ l, f l) ((512 : ℝ) : EReal)

namespace In
variable {n : ℕ} (A : In n)

/-- The tokens `f` names. -/
def at_ {k : ℕ} (f : Fin k → Fin n) : In k := ⟨fun i => A.x (f i), A.v, A.w, A.cw, A.cv, A.wa, A.ba⟩

def h (i : Fin n) (j : Fin 1024) : EReal := A.x i j * root 1024 (A.x i) * A.v 0 j * ((1 : ℝ) + A.v 2 j) + A.v 1 j
def p (i : Fin n) (q : Fin 2688) : EReal := ∑ k, A.h i k * A.w k q
def ag (i : Fin n) (j : Fin 1024) : EReal := A.p i ⟨0 + j.val, by omega⟩
def qk (i : Fin n) (c : Fin 512) : EReal := A.p i ⟨1024 + c.val, by omega⟩
def vv (i : Fin n) (c : Fin 512) : EReal := A.p i ⟨1536 + c.val, by omega⟩
def g (i : Fin n) (c : Fin 512) : EReal := A.p i ⟨2048 + c.val, by omega⟩
def r (i : Fin n) (c : Fin 128) : EReal := A.p i ⟨2560 + c.val, by omega⟩
def la (i : Fin n) (c : Fin 512) : EReal := lsg ((∑ k, A.r i k * A.wa k c) + A.ba 0 c) * ((16⁻¹ : ℝ) : EReal)
def val (i : Fin n) (c : Fin 512) : EReal := A.ag i ⟨0 + c.val, by omega⟩ * lgs (A.ag i ⟨512 + c.val, by omega⟩)
/-- The value `j - 15` places on in the token's segment of 64, zero outside it. -/
def near (i : Fin n) (j : Fin 31) (c : Fin 512) : EReal :=
  if 15 ≤ i.val % 64 + j.val ∧ i.val % 64 + j.val < 79 then A.val ⟨(i.val + j.val - 15) % n, Nat.mod_lt _ i.pos⟩ c else 0
def y (i : Fin n) (c : Fin 512) : EReal := (∑ j : Fin 31, A.cw ⟨j.val, by omega⟩ c * A.near i j c) + A.cv 0 c
def z (i : Fin n) (c : Fin 512) : EReal := off (A.y i) c * root 512 (off (A.y i)) * A.cv 1 c + A.cv 2 c
def co (i : Fin n) (c : Fin 512) : EReal := A.z i c * lgs (A.z i c)
/-- The values of eight segments, each between two sixteens of zeros. -/
def padded (A : In 512) (s : Fin 8) (q : Fin 96) (c : Fin 512) : EReal :=
  if h : 16 ≤ q.val ∧ q.val < 80 then A.val ⟨64 * s.val + q.val - 16, by omega⟩ c else 0

theorem padded_near (A : In 512) (s : Fin 8) (a : Fin 64) (j : Fin 31) (c : Fin 512) :
    A.padded s ⟨a.val + j.val + 1, by omega⟩ c = A.near ⟨64 * s.val + a.val, by omega⟩ j c := by
  unfold padded near
  by_cases h : 15 ≤ a.val + j.val ∧ a.val + j.val < 79
  · rw [dif_pos (by dsimp only; omega), if_pos (by dsimp only; omega)]
    exact congrArg (A.val · c) (Fin.ext (by dsimp only; omega))
  · rw [dif_neg (by dsimp only; omega), if_neg (by dsimp only; omega)]
end In

/-! The kernel's block. -/

/-- A rectangle loaded. -/
theorem is_ld {n m p q : ℕ} {x : (⟨2, ![n, m]⟩ : Shape).Idx → EReal} {f : Fin n → Fin m → EReal} (h : Is x (e2 f)) {a b : ℕ}
    (inb : ∀ d, (![a, b] : Fin 2 → ℕ) d + (⟨2, ![p, q]⟩ : Shape).size d ≤ (⟨2, ![n, m]⟩ : Shape).size d) (ρ : Fin p → Fin n) (σ : Fin q → Fin m)
    (hρ : ∀ i, (ρ i).val = a + i.val) (hσ : ∀ j, (σ j).val = b + j.val) :
    Is (s := ⟨2, ![p, q]⟩) (fun i => x ((Rect.unit (s := ⟨2, ![n, m]⟩) ![a, b] (⟨2, ![p, q]⟩ : Shape).size inb).idx i)) (e2 fun i j => f (ρ i) (σ j)) := fun i => by
  refine Eq.trans (congrArg x (funext fun d => Fin.ext ?_)) (h (ValueIdx.ix2 (ρ (i 0)) (σ (i 1))))
  match d with
  | 0 => exact (congrArg (a + ·) (Nat.one_mul _)).trans (hρ (i 0)).symm
  | 1 => exact (congrArg (b + ·) (Nat.one_mul _)).trans (hσ (i 1)).symm

section Conv

/-- One tap added. -/
def tap (acc : FVec Ideal S64x128 .f32) (w : FVec Ideal S1x128 .f32) (u : FVec Ideal S96x128 .f32) (o : ℕ) (h : S96x128.Slices ![o, 0] S64x128) : FVec Ideal S64x128 .f32 :=
  addf acc (mulf (broadcastTo S64x128 w broadcasts_S1x128_S64x128) (extractStridedSlice S64x128 ![o, 0] u h))

/-- The segment's rows moved back by `96 - k`. -/
def rot (k : BitVec 32) (u : FVec Ideal S1x96x128 .f32) : FVec Ideal S96x128 .f32 := dynamicRotate 0 k none (k0_pay10 (F := Ideal) u) rotates_S96x128_d0

theorem tap_is {acc : FVec Ideal S64x128 .f32} {w : FVec Ideal S1x128 .f32} {u : FVec Ideal S96x128 .f32} {o : ℕ} (h : S96x128.Slices ![o, 0] S64x128)
    {f : Fin 64 → Fin 128 → EReal} {b : Fin 128 → EReal} {g : Fin 64 → Fin 128 → EReal} (ha : Is acc (e2 f)) (hw : Is w (e2 fun _ l => b l))
    (hu : ∀ (a : Fin 64) (l : Fin 128) (i : Fin 96), i.val = o + a.val → u (ValueIdx.ix2 i l) = g a l) (ho : o ≤ 24) : Is (tap acc w u o h) (e2 fun a l => f a l + b l * g a l) :=
  is_add ha (is_mul (is_rows (f := fun _ l => b l) _ hw) fun i => by
    have h0 : (i 0).val < 64 := (i 0).isLt
    refine (extractStridedSlice_apply _ u h i (ValueIdx.ix2 ⟨o + (i 0).val, by omega⟩ (i 1)) fun a => ?_).trans (hu (i 0) (i 1) _ rfl)
    match a with
    | ⟨0, _⟩ => rfl
    | ⟨1, _⟩ => exact (Nat.zero_add _).symm)

variable {u : FVec Ideal S1x96x128 .f32} {f : Fin 96 → Fin 128 → EReal}

theorem base_at (hu : Is u (e3 fun _ a l => f a l)) : Is (s := S96x128) (k0_pay10 (F := Ideal) u) (e2 f) :=
  is_entry hu fun i => ⟨ValueIdx.ix3 0 (i 0) (i 1), shapeCast_apply u _ i _ (by
    rw [Shape.rowMajor_val_two, Shape.rowMajor_val_three]
    show (0 * 96 + (i 0).val) * 128 + (i 1).val = (i 0).val * 128 + (i 1).val
    omega), rfl⟩
theorem rot_at (hu : Is u (e3 fun _ a l => f a l)) {k : BitVec 32} {r o : ℕ} (hk : k.toNat = 96 - r) (hr : r ≤ 7) (h0 : 0 < r) (ho : o ≤ 24) (j : ℕ) (hj : j + 1 = o + r) (a : Fin 64) (l : Fin 128)
    (i : Fin 96) (hi : i.val = o + a.val) : rot k u (ValueIdx.ix2 i l) = f ⟨a.val + j + 1, by omega⟩ l := by
  refine (dynamicRotate_apply 0 k (k0_pay10 (F := Ideal) u) _ _ (ValueIdx.ix2 (⟨a.val + j + 1, by omega⟩ : Fin 96) l) fun b => ?_).trans (base_at hu _)
  match b with
  | ⟨0, _⟩ =>
    show a.val + j + 1 = (i.val + 96 - k.toNat % 96) % 96
    rw [hk]; omega
  | ⟨1, _⟩ => rfl

theorem tap_base {acc : FVec Ideal S64x128 .f32} {g : Fin 64 → Fin 128 → EReal} (ha : Is acc (e2 g)) (hu : Is u (e3 fun _ a l => f a l)) {w : FVec Ideal S1x128 .f32} {b : Fin 128 → EReal}
    (hw : Is w (e2 fun _ l => b l)) (o j : ℕ) (h : S96x128.Slices ![o, 0] S64x128) (e : o ≤ 24 ∧ j + 1 = o) :
    Is (tap acc w (k0_pay10 (F := Ideal) u) o h) (e2 fun a l => g a l + b l * f ⟨a.val + j + 1, by omega⟩ l) :=
  tap_is h ha hw (fun a l i hi => (base_at hu _).trans (congrArg (f · l) (Fin.ext (by show i.val = a.val + j + 1; omega)))) e.1
theorem tap_rot {acc : FVec Ideal S64x128 .f32} {g : Fin 64 → Fin 128 → EReal} (ha : Is acc (e2 g)) (hu : Is u (e3 fun _ a l => f a l)) {w : FVec Ideal S1x128 .f32} {b : Fin 128 → EReal}
    (hw : Is w (e2 fun _ l => b l)) (k : BitVec 32) (r o j : ℕ) (h : S96x128.Slices ![o, 0] S64x128) (e : k.toNat = 96 - r ∧ r ≤ 7 ∧ 0 < r ∧ o ≤ 24 ∧ j + 1 = o + r) :
    Is (tap acc w (rot k u) o h) (e2 fun a l => g a l + b l * f ⟨a.val + j + 1, by omega⟩ l) :=
  tap_is h ha hw (rot_at hu e.1 e.2.1 e.2.2.1 e.2.2.2.1 j e.2.2.2.2) e.2.2.2.1

/-- The 31 taps over a segment, in the kernel's order. -/
def conv (u : FVec Ideal S1x96x128 .f32) (w : Fin 31 → FVec Ideal S1x128 .f32) (b : FVec Ideal S1x128 .f32) : FVec Ideal S64x128 .f32 :=
  addf (tap (tap (tap (tap (tap (tap (tap (tap (tap (tap (tap (tap (tap (tap (tap (tap (tap (tap (tap (tap (tap (tap (tap (tap (tap (tap (tap (tap (tap (tap (tap (broadcast S64x128 (Scalar.ofBits (F := Ideal) .f32 0x00000000#32)) (w 7) (k0_pay10 (F := Ideal) u) 8 slices_S96x128_o8_0_S64x128) (w 15) (k0_pay10 (F := Ideal) u) 16 slices_S96x128_o16_0_S64x128) (w 23) (k0_pay10 (F := Ideal) u) 24 slices_S96x128_o24_0_S64x128) (w 0) (rot 95#32 u) 0 slices_S96x128_o0_0_S64x128) (w 8) (rot 95#32 u) 8 slices_S96x128_o8_0_S64x128) (w 16) (rot 95#32 u) 16 slices_S96x128_o16_0_S64x128) (w 24) (rot 95#32 u) 24 slices_S96x128_o24_0_S64x128) (w 1) (rot 94#32 u) 0 slices_S96x128_o0_0_S64x128) (w 9) (rot 94#32 u) 8 slices_S96x128_o8_0_S64x128) (w 17) (rot 94#32 u) 16 slices_S96x128_o16_0_S64x128) (w 25) (rot 94#32 u) 24 slices_S96x128_o24_0_S64x128) (w 2) (rot 93#32 u) 0 slices_S96x128_o0_0_S64x128) (w 10) (rot 93#32 u) 8 slices_S96x128_o8_0_S64x128) (w 18) (rot 93#32 u) 16 slices_S96x128_o16_0_S64x128) (w 26) (rot 93#32 u) 24 slices_S96x128_o24_0_S64x128) (w 3) (rot 92#32 u) 0 slices_S96x128_o0_0_S64x128) (w 11) (rot 92#32 u) 8 slices_S96x128_o8_0_S64x128) (w 19) (rot 92#32 u) 16 slices_S96x128_o16_0_S64x128) (w 27) (rot 92#32 u) 24 slices_S96x128_o24_0_S64x128) (w 4) (rot 91#32 u) 0 slices_S96x128_o0_0_S64x128) (w 12) (rot 91#32 u) 8 slices_S96x128_o8_0_S64x128) (w 20) (rot 91#32 u) 16 slices_S96x128_o16_0_S64x128) (w 28) (rot 91#32 u) 24 slices_S96x128_o24_0_S64x128) (w 5) (rot 90#32 u) 0 slices_S96x128_o0_0_S64x128) (w 13) (rot 90#32 u) 8 slices_S96x128_o8_0_S64x128) (w 21) (rot 90#32 u) 16 slices_S96x128_o16_0_S64x128) (w 29) (rot 90#32 u) 24 slices_S96x128_o24_0_S64x128) (w 6) (rot 89#32 u) 0 slices_S96x128_o0_0_S64x128) (w 14) (rot 89#32 u) 8 slices_S96x128_o8_0_S64x128) (w 22) (rot 89#32 u) 16 slices_S96x128_o16_0_S64x128) (w 30) (rot 89#32 u) 24 slices_S96x128_o24_0_S64x128) (broadcastTo S64x128 b broadcasts_S1x128_S64x128)

theorem conv_is (hu : Is u (e3 fun _ a l => f a l)) {w : Fin 31 → FVec Ideal S1x128 .f32} {W : Fin 31 → Fin 128 → EReal} (hw : ∀ j, Is (w j) (e2 fun _ l => W j l))
    {b : FVec Ideal S1x128 .f32} {B : Fin 128 → EReal} (hb : Is b (e2 fun _ l => B l)) :
    Is (conv u w b) (e2 fun a l => (∑ j : Fin 31, W j l * f ⟨a.val + j.val + 1, by omega⟩ l) + B l) := by
  have T0 : Is (s := S64x128) (broadcast S64x128 (Scalar.ofBits (F := Ideal) .f32 0x00000000#32)) (e2 fun _ _ => (0 : EReal)) := fun i => w_zero.trans EReal.coe_zero
  have T1 := tap_base T0 hu (hw 7) 8 7 slices_S96x128_o8_0_S64x128 (by decide)
  have T2 := tap_base T1 hu (hw 15) 16 15 slices_S96x128_o16_0_S64x128 (by decide)
  have T3 := tap_base T2 hu (hw 23) 24 23 slices_S96x128_o24_0_S64x128 (by decide)
  have T4 := tap_rot T3 hu (hw 0) 95#32 1 0 0 slices_S96x128_o0_0_S64x128 (by decide)
  have T5 := tap_rot T4 hu (hw 8) 95#32 1 8 8 slices_S96x128_o8_0_S64x128 (by decide)
  have T6 := tap_rot T5 hu (hw 16) 95#32 1 16 16 slices_S96x128_o16_0_S64x128 (by decide)
  have T7 := tap_rot T6 hu (hw 24) 95#32 1 24 24 slices_S96x128_o24_0_S64x128 (by decide)
  have T8 := tap_rot T7 hu (hw 1) 94#32 2 0 1 slices_S96x128_o0_0_S64x128 (by decide)
  have T9 := tap_rot T8 hu (hw 9) 94#32 2 8 9 slices_S96x128_o8_0_S64x128 (by decide)
  have T10 := tap_rot T9 hu (hw 17) 94#32 2 16 17 slices_S96x128_o16_0_S64x128 (by decide)
  have T11 := tap_rot T10 hu (hw 25) 94#32 2 24 25 slices_S96x128_o24_0_S64x128 (by decide)
  have T12 := tap_rot T11 hu (hw 2) 93#32 3 0 2 slices_S96x128_o0_0_S64x128 (by decide)
  have T13 := tap_rot T12 hu (hw 10) 93#32 3 8 10 slices_S96x128_o8_0_S64x128 (by decide)
  have T14 := tap_rot T13 hu (hw 18) 93#32 3 16 18 slices_S96x128_o16_0_S64x128 (by decide)
  have T15 := tap_rot T14 hu (hw 26) 93#32 3 24 26 slices_S96x128_o24_0_S64x128 (by decide)
  have T16 := tap_rot T15 hu (hw 3) 92#32 4 0 3 slices_S96x128_o0_0_S64x128 (by decide)
  have T17 := tap_rot T16 hu (hw 11) 92#32 4 8 11 slices_S96x128_o8_0_S64x128 (by decide)
  have T18 := tap_rot T17 hu (hw 19) 92#32 4 16 19 slices_S96x128_o16_0_S64x128 (by decide)
  have T19 := tap_rot T18 hu (hw 27) 92#32 4 24 27 slices_S96x128_o24_0_S64x128 (by decide)
  have T20 := tap_rot T19 hu (hw 4) 91#32 5 0 4 slices_S96x128_o0_0_S64x128 (by decide)
  have T21 := tap_rot T20 hu (hw 12) 91#32 5 8 12 slices_S96x128_o8_0_S64x128 (by decide)
  have T22 := tap_rot T21 hu (hw 20) 91#32 5 16 20 slices_S96x128_o16_0_S64x128 (by decide)
  have T23 := tap_rot T22 hu (hw 28) 91#32 5 24 28 slices_S96x128_o24_0_S64x128 (by decide)
  have T24 := tap_rot T23 hu (hw 5) 90#32 6 0 5 slices_S96x128_o0_0_S64x128 (by decide)
  have T25 := tap_rot T24 hu (hw 13) 90#32 6 8 13 slices_S96x128_o8_0_S64x128 (by decide)
  have T26 := tap_rot T25 hu (hw 21) 90#32 6 16 21 slices_S96x128_o16_0_S64x128 (by decide)
  have T27 := tap_rot T26 hu (hw 29) 90#32 6 24 29 slices_S96x128_o24_0_S64x128 (by decide)
  have T28 := tap_rot T27 hu (hw 6) 89#32 7 0 6 slices_S96x128_o0_0_S64x128 (by decide)
  have T29 := tap_rot T28 hu (hw 14) 89#32 7 8 14 slices_S96x128_o8_0_S64x128 (by decide)
  have T30 := tap_rot T29 hu (hw 22) 89#32 7 16 22 slices_S96x128_o16_0_S64x128 (by decide)
  have T31 := tap_rot T30 hu (hw 30) 89#32 7 24 30 slices_S96x128_o24_0_S64x128 (by decide)
  exact is_add (is_to T31 fun i => sum_k fun j => W j (i 1) * f ⟨(i 0).val + j.val + 1, by have := (i 0).isLt; have : (i 0).val < 64 := this; omega⟩ (i 1)) (is_rows (f := fun _ l => B l) _ hb)
end Conv

section Block
variable {A : In 512} {x0 : Vec Ideal S512x1024 .f32} {x1 : Vec Ideal S8x1024 .f32} {x2 : Vec Ideal S1024x2688 .bf16} {x3 : Vec Ideal S32x512 .f32} {x4 : Vec Ideal S8x512 .f32}
  {x5 : Vec Ideal S128x512 .bf16} {x6 : Vec Ideal S1x512 .f32}

/-- What a point's seven blocks hold. -/
structure Blk (A : In 512) (x0 : Vec Ideal S512x1024 .f32) (x1 : Vec Ideal S8x1024 .f32) (x2 : Vec Ideal S1024x2688 .bf16) (x3 : Vec Ideal S32x512 .f32) (x4 : Vec Ideal S8x512 .f32)
    (x5 : Vec Ideal S128x512 .bf16) (x6 : Vec Ideal S1x512 .f32) : Prop where
  h0 : Is (s := S512x1024) x0 (e2 A.x)
  h1 : Is (s := S8x1024) x1 (e2 A.v)
  h2 : Is (s := S1024x2688) x2 (e2 A.w)
  h3 : Is (s := S32x512) x3 (e2 A.cw)
  h4 : Is (s := S8x512) x4 (e2 A.cv)
  h5 : Is (s := S128x512) x5 (e2 A.wa)
  h6 : Is (s := S1x512) x6 (e2 A.ba)

variable (H : Blk A x0 x1 x2 x3 x4 x5 x6)

/-- The rows of the vectors, and the two parts of the weight, as the kernel loads them. -/
abbrev row (x1 : Vec Ideal S8x1024 .f32) (q : ℕ) (inb : ∀ a, (![q, 0] : Fin 2 → ℕ) a + S1x1024.size a ≤ S8x1024.size a) : Vec Ideal S1x1024 .f32 :=
  View.ld (Val := Elt Ideal) (e' := .f32) x1 (Rect.unit (s := S8x1024) ![q, 0] S1x1024.size inb)
abbrev hk (x0 : Vec Ideal S512x1024 .f32) (x1 : Vec Ideal S8x1024 .f32) : FVec Ideal S512x1024 .bf16 :=
  k0_pay2 x0 (row x1 0 inb_S8x1024_S1x1024_0_0) (row x1 2 inb_S8x1024_S1x1024_2_0) (row x1 1 inb_S8x1024_S1x1024_1_0)
abbrev wl (x2 : Vec Ideal S1024x2688 .bf16) : Vec Ideal S1024x1024 .bf16 :=
  View.ld (Val := Elt Ideal) (e' := .bf16) x2 (Rect.unit (s := S1024x2688) ![0, 0] S1024x1024.size inb_S1024x2688_S1024x1024_0_0)
abbrev wr (x2 : Vec Ideal S1024x2688 .bf16) : Vec Ideal S1024x1664 .bf16 :=
  View.ld (Val := Elt Ideal) (e' := .bf16) x2 (Rect.unit (s := S1024x2688) ![0, 1024] S1024x1664.size inb_S1024x2688_S1024x1664_0_1024)
abbrev vk (x0 : Vec Ideal S512x1024 .f32) (x1 : Vec Ideal S8x1024 .f32) (x2 : Vec Ideal S1024x2688 .bf16) : FVec Ideal S512x512 .f32 :=
  k0_pay5 x0 (row x1 0 inb_S8x1024_S1x1024_0_0) (row x1 2 inb_S8x1024_S1x1024_2_0) (row x1 1 inb_S8x1024_S1x1024_1_0) (wl x2)
include H

theorem k2 : Is (s := S512x1024) (hk x0 x1) (e2 A.h) :=
  is_trunc _ (is_add (is_mul (is_mul (is_mul H.h0 (is_cols (f := fun i _ => root 1024 (A.x i)) _ (is_rsqrt (is_add (is_div (is_column (g := fun i => ∑ l, A.x i l * A.x i l) _
    (is_rowSum (f := fun i l => A.x i l * A.x i l) _ _ _ (is_mul H.h0 H.h0))) (is_splat w_1024)) (is_splat w_eps)))))
    (is_rows (f := fun _ j => A.v 0 j) _ (is_ld_row H.h1 0 rfl inb_S8x1024_S1x1024_0_0)))
    (is_rows (f := fun _ j => (1 : ℝ) + A.v 2 j) _ (is_add (is_splat w_one) (is_ld_row H.h1 2 rfl inb_S8x1024_S1x1024_2_0))))
    (is_rows (f := fun _ j => A.v 1 j) _ (is_ld_row H.h1 1 rfl inb_S8x1024_S1x1024_1_0)))

theorem k3 : Is (s := S512x1024) (k0_pay3 x0 (row x1 0 inb_S8x1024_S1x1024_0_0) (row x1 2 inb_S8x1024_S1x1024_2_0) (row x1 1 inb_S8x1024_S1x1024_1_0) (wl x2)) (e2 A.ag) :=
  is_dot (k2 H) (is_ld H.h2 inb_S1024x2688_S1024x1024_0_0 id (fun j => ⟨0 + j.val, by omega⟩) (fun _ => (Nat.zero_add _).symm) fun _ => rfl)
theorem k417 : Is (s := S512x1664) (k0_pay417 (hk x0 x1) (wr x2)) (e2 fun i (q : Fin 1664) => A.p i ⟨1024 + q.val, by omega⟩) :=
  is_dot (k2 H) (is_ld H.h2 inb_S1024x2688_S1024x1664_0_1024 id (fun j => ⟨1024 + j.val, by omega⟩) (fun _ => (Nat.zero_add _).symm) fun _ => rfl)
/-- Columns of the second product. -/
theorem part {q k : ℕ} (hq : q + k ≤ 1664) (h : S512x1664.Slices ![0, q] ⟨2, ![512, k]⟩) :
    Is (s := ⟨2, ![512, k]⟩) (extractStridedSlice (⟨2, ![512, k]⟩ : Shape) ![0, q] (k0_pay417 (hk x0 x1) (wr x2)) h) (e2 fun i (c : Fin k) => A.p i ⟨1024 + (q + c.val), by omega⟩) :=
  is_cslice (f := fun i (q : Fin 1664) => A.p i ⟨1024 + q.val, by omega⟩) (fun c => ⟨q + c.val, by omega⟩) (fun _ => rfl) h (k417 H)
theorem k421 : Is (s := S512x128) (k0_pay421 (hk x0 x1) (wr x2)) (e2 A.r) :=
  is_to (part H (by decide) slices_S512x1664_o0_1536_S512x128) fun i => congrArg (A.p (i 0)) (Fin.ext (by show 1024 + (1536 + (i 1).val) = 2560 + (i 1).val; omega))
theorem k5 : Is (s := S512x512) (vk x0 x1 x2) (e2 A.val) :=
  is_mul (is_cslice (fun l => ⟨0 + l.val, by omega⟩) (fun _ => rfl) slices_S512x1024_o0_0_S512x512 (k3 H))
    (is_to (is_div (is_splat w_one) (is_add (is_splat w_one) (is_exp (is_sub (is_splat w_zero)
      (is_cslice (fun l => ⟨512 + l.val, by omega⟩) (fun _ => rfl) slices_S512x1024_o0_512_S512x512 (k3 H)))))) fun i => by
        unfold lgs
        rw [EReal.coe_zero, zero_sub])
theorem k422 : Is (s := S512x512) (k0_pay423 (k0_pay422 (hk x0 x1) (wr x2) x5 x6) (Scalar.ofBits (F := Ideal) .f32 0x3D800000#32)) (e2 A.la) := by
  have a : Is (s := S512x512) (addf (matmul dot_S512x128_S128x512_S512x512_1_0_0_1_n_n none (k0_pay421 (hk x0 x1) (wr x2)) (x5 : FVec Ideal S128x512 .bf16) (constant S512x512 .f32 0x00000000#32))
      (broadcastTo S512x512 x6 broadcasts_S1x512_S512x512)) (e2 fun i c => (∑ k, A.r i k * A.wa k c) + A.ba 0 c) :=
    is_add (is_dot (φ₂ := .bf16) (k421 H) H.h5) (is_rows _ H.h6)
  let L (z : EReal) : EReal := min z (Ideal.ofBits .f32 0x00000000#32) - Ideal.log (Ideal.ofBits .f32 0x3F800000#32 + Ideal.exp (Ideal.ofBits .f32 0x00000000#32 - max z (-z)))
  have l (z : EReal) : L z = lsg z := by
    unfold lsg
    show min z _ - Ideal.log (_ + Ideal.exp (_ - max z (-z))) = _
    rw [w_zero, w_one, EReal.coe_zero, EReal.coe_one, zero_sub]
  exact is_mul (fun i => Eq.trans (b := L _) rfl ((congrArg L (a i)).trans (l _))) (is_splat w_16th)

omit H in
/-- The padded segments, as three stores. -/
abbrev padL (v : FVec Ideal S512x512 .f32) : List (View.Piece (Elt Ideal) S8x96x512 .f32) :=
  [⟨Rect.unit (s := S8x96x512) ![0, 16, 0] S8x64x512.size inb_S8x96x512_S8x64x512_0_16_0, k0_pay9 v⟩,
    ⟨Rect.unit (s := S8x96x512) ![0, 80, 0] S8x16x512.size inb_S8x96x512_S8x16x512_0_80_0, k0_pay8 (FloatOps.ofBits (F := Ideal) .f32 0#32)⟩,
    ⟨Rect.unit (s := S8x96x512) ![0, 0, 0] S8x16x512.size inb_S8x96x512_S8x16x512_0_0_0, k0_pay7 (FloatOps.ofBits (F := Ideal) .f32 0#32)⟩]
omit H in
theorem in_rows {b k : ℕ} (inb : ∀ a, (![0, b, 0] : Fin 3 → ℕ) a + (⟨3, ![8, k, 512]⟩ : Shape).size a ≤ S8x96x512.size a) (y : S8x96x512.Idx) (h : b ≤ (y 1).val ∧ (y 1).val < b + k) :
    y ∈ (Rect.unit (s := S8x96x512) ![0, b, 0] (⟨3, ![8, k, 512]⟩ : Shape).size inb).set :=
  (Rect.mem_set_unit (inb := inb)).2 fun a => by
    match a with
    | ⟨0, _⟩ => exact ⟨Nat.zero_le _, by have h0 : (y 0).val < 8 := (y 0).isLt; show (y 0).val < 0 + 8; omega⟩
    | ⟨1, _⟩ => exact h
    | ⟨2, _⟩ => exact ⟨Nat.zero_le _, by have h0 : (y 2).val < 512 := (y 2).isLt; show (y 2).val < 0 + 512; omega⟩
omit H in
theorem pad_cover (v : FVec Ideal S512x512 .f32) (y : S8x96x512.Idx) : ∃ p ∈ padL v, y ∈ p.1.set := by
  have hy : (y 1).val < 96 := (y 1).isLt
  rcases (by omega : (y 1).val < 16 ∨ (16 ≤ (y 1).val ∧ (y 1).val < 80) ∨ 80 ≤ (y 1).val) with h | h | h
  · exact ⟨_, List.mem_cons_of_mem _ (List.mem_cons_of_mem _ List.mem_cons_self), in_rows inb_S8x96x512_S8x16x512_0_0_0 y (by omega)⟩
  · exact ⟨_, List.mem_cons_self, in_rows inb_S8x96x512_S8x64x512_0_16_0 y (by omega)⟩
  · exact ⟨_, List.mem_cons_of_mem _ List.mem_cons_self, in_rows inb_S8x96x512_S8x16x512_0_80_0 y (by omega)⟩
omit H in
theorem segs {v : FVec Ideal S512x512 .f32} (hv : Is v (e2 A.val)) : Is (s := S8x64x512) (k0_pay9 v) (e3 fun (s : Fin 8) (a : Fin 64) c => A.val ⟨64 * s.val + a.val, by omega⟩ c) :=
  is_same shapeCasts_S8x64x512_S8x64x512 (is_entry hv fun i => by
    have a0 : (i 0).val < 8 := (i 0).isLt
    have a1 : (i 1).val < 64 := (i 1).isLt
    exact ⟨ValueIdx.ix2 ⟨64 * (i 0).val + (i 1).val, by omega⟩ (i 2), shapeCast_apply v _ i _ (by
      rw [Shape.rowMajor_val_two, Shape.rowMajor_val_three]
      show (64 * (i 0).val + (i 1).val) * 512 + (i 2).val = ((i 0).val * 64 + (i 1).val) * 512 + (i 2).val
      omega), rfl⟩)
omit H in
theorem pads {v : FVec Ideal S512x512 .f32} (hv : Is v (e2 A.val)) (y : S8x96x512.Idx) : View.canon (padL v) y = e3 A.padded y := by
  refine View.canon_apply_of_pieces (Val := Elt Ideal) (e := .f32) (e3 A.padded) _ ?_ y (pad_cover v y)
  have z : ∀ (b : ℕ) (inb : ∀ a, (![0, b, 0] : Fin 3 → ℕ) a + S8x16x512.size a ≤ S8x96x512.size a) (_ : b = 0 ∨ b = 80) (x : S8x16x512.Idx),
      k0_pay7 (FloatOps.ofBits (F := Ideal) .f32 0#32) x = e3 A.padded ((Rect.unit (s := S8x96x512) ![0, b, 0] S8x16x512.size inb).emb x) := fun b inb hb x => by
    have h1 : (x 1).val < 16 := (x 1).isLt
    refine Eq.trans (is_same (f := e0 (0 : EReal)) shapeCasts_S8x16x512_S8x16x512 (fun i => w_zero.trans EReal.coe_zero) x) (Eq.symm ?_)
    show A.padded _ _ _ = 0
    exact dif_neg fun h => by
      have h' : 16 ≤ b + 1 * (x 1).val ∧ b + 1 * (x 1).val < 80 := h
      omega
  refine List.forall_mem_cons.2 ⟨fun x => ?_, List.forall_mem_cons.2 ⟨z 80 inb_S8x96x512_S8x16x512_0_80_0 (.inr rfl), List.forall_mem_cons.2 ⟨z 0 inb_S8x96x512_S8x16x512_0_0_0 (.inl rfl), fun _ h => absurd h List.not_mem_nil⟩⟩⟩
  have h0 : (x 0).val < 8 := (x 0).isLt
  have h1 : (x 1).val < 64 := (x 1).isLt
  have h2 : (x 2).val < 512 := (x 2).isLt
  refine (segs hv x).trans (Eq.symm ((dif_pos (by show 16 ≤ 16 + 1 * (x 1).val ∧ 16 + 1 * (x 1).val < 80; omega)).trans (congrArg₂ A.val (Fin.ext ?_) (Fin.ext ?_))))
  · show 64 * (0 + 1 * (x 0).val) + (16 + 1 * (x 1).val) - 16 = 64 * (x 0).val + (x 1).val; omega
  · show 0 + 1 * (x 2).val = (x 2).val; omega

omit H in
/-- A segment's 64 rows, 128 columns: what one store of the convolution holds. -/
abbrev tile (v : FVec Ideal S512x512 .f32) (x3 : Vec Ideal S32x512 .f32) (x4 : Vec Ideal S8x512 .f32) (s : Fin 8) (g : Fin 4) : FVec Ideal S64x128 .f32 :=
  conv ((View.whole cc0_scratch0).readCov (padL v) (Rect.unit (s := S8x96x512) ![s.val, 0, 128 * g.val] S1x96x128.size (by
      intro a
      match a with
      | ⟨0, _⟩ => show s.val + 1 ≤ 8; omega
      | ⟨1, _⟩ => show 0 + 96 ≤ 96; omega
      | ⟨2, _⟩ => show 128 * g.val + 128 ≤ 512; omega)).toLoadRect)
    (fun j => View.ld (Val := Elt Ideal) (e' := .f32) x3 (Rect.unit (s := S32x512) ![j.val, 128 * g.val] S1x128.size (by
      intro a
      match a with
      | ⟨0, _⟩ => show j.val + 1 ≤ 32; omega
      | ⟨1, _⟩ => show 128 * g.val + 128 ≤ 512; omega)))
    (View.ld (Val := Elt Ideal) (e' := .f32) x4 (Rect.unit (s := S8x512) ![0, 128 * g.val] S1x128.size (by
      intro a
      match a with
      | ⟨0, _⟩ => show 0 + 1 ≤ 8; omega
      | ⟨1, _⟩ => show 128 * g.val + 128 ≤ 512; omega)))

theorem tile_is (s : Fin 8) (g : Fin 4) (r q : ℕ) (inb : ∀ a, (![r, q] : Fin 2 → ℕ) a + S64x128.size a ≤ S512x512.size a) (hr : r = 64 * s.val) (hq : q = 128 * g.val) (x : S64x128.Idx) :
    tile (vk x0 x1 x2) x3 x4 s g x = e2 A.y ((Rect.unit (s := S512x512) ![r, q] S64x128.size inb).emb x) := by
  have h0 : (x 0).val < 64 := (x 0).isLt
  have h1 : (x 1).val < 128 := (x 1).isLt
  refine (conv_is (f := fun a l => A.padded s a (hd g l)) (W := fun j l => A.cw ⟨j.val, by omega⟩ (hd g l)) (B := fun l => A.cv 0 (hd g l)) (fun i => ?_)
    (fun j => is_ld H.h3 _ (fun _ => ⟨j.val, by omega⟩) (hd g) (fun i => by show j.val = j.val + i.val; omega) fun _ => rfl)
    (is_ld H.h4 _ (fun _ => 0) (hd g) (fun i => by show 0 = 0 + i.val; omega) fun _ => rfl) x).trans ?_
  · have i0 : (i 0).val < 1 := (i 0).isLt
    rw [View.readCov_eq_canon_ld _ _ _ (pad_cover _)]
    refine (pads (k5 H) _).trans ?_
    refine (congrArg₂ (A.padded · · _) (Fin.ext ?_) (Fin.ext ?_)).trans (congrArg (A.padded s (i 1)) (Fin.ext ?_))
    · show s.val + 1 * (i 0).val = s.val; omega
    · show 0 + 1 * (i 1).val = (i 1).val; omega
    · show 128 * g.val + 1 * (i 2).val = 128 * g.val + (i 2).val; omega
  · have e0 : (⟨64 * s.val + (x 0).val, by omega⟩ : Fin 512) = (Rect.unit (s := S512x512) ![r, q] S64x128.size inb).emb x 0 := Fin.ext (by show 64 * s.val + (x 0).val = r + 1 * (x 0).val; omega)
    have e1 : hd g (x 1) = (Rect.unit (s := S512x512) ![r, q] S64x128.size inb).emb x 1 := Fin.ext (by show 128 * g.val + (x 1).val = q + 1 * (x 1).val; omega)
    refine Eq.trans ?_ (congrArg₂ A.y e0 e1)
    exact congrArg (· + _) (Finset.sum_congr rfl fun j _ => congrArg (_ * ·) (A.padded_near s (x 0) j _))

omit H in
/-- The convolution, normed and gated. -/
theorem k1 {y : Vec Ideal S512x512 .f32} (hy : Is (s := S512x512) y (e2 A.y)) {a b : Vec Ideal S1x512 .f32} (ha : Is (s := S1x512) a (e2 fun _ c => A.cv 1 c))
    (hb : Is (s := S1x512) b (e2 fun _ c => A.cv 2 c)) : Is (s := S512x512) (k0_pay1 (k0_pay424 y a b) (k0_pay425 y a b) (Scalar.ofBits (F := Ideal) .f32 0x3F800000#32)) (e2 A.co) := by
  have hm {f : Fin 512 → Fin 512 → EReal} {v : FVec Ideal S512x512 .f32} (hv : Is v (e2 f)) : Is (s := S512x1) (divf (shapeCast S512x1 (multiReduction .add [1] S512 v 0x00000000#32
      reduces_S512x512_S512 (.inl rfl) rfl) shapeCasts_S512_S512x1) (broadcast S512x1 (Scalar.ofBits (F := Ideal) .f32 0x44000000#32))) (e2 fun i _ => Ideal.div (∑ l, f i l) ((512 : ℝ) : EReal)) :=
    is_div (is_column (g := fun i => ∑ l, f i l) _ (is_rowSum (f := f) _ _ _ hv)) (is_splat w_512)
  have hs := is_same shapeCasts_S512x512_S512x512 hy
  have ho := is_sub (φ := .f32) hs (is_cols (f := fun i _ => Ideal.div (∑ l, A.y i l) ((512 : ℝ) : EReal)) broadcasts_S512x1_S512x512 (hm hs))
  have hz : Is (s := S512x512) (k0_pay424 y a b) (e2 A.z) :=
    is_add (is_mul (is_mul ho (is_cols (f := fun i _ => root 512 (off (A.y i))) _ (is_rsqrt (is_add (hm (f := fun i l => off (A.y i) l * off (A.y i) l) (is_mul ho ho)) (is_splat w_eps)))))
      (is_rows (f := fun _ c => A.cv 1 c) _ ha)) (is_rows (f := fun _ c => A.cv 2 c) _ hb)
  exact is_trunc _ (is_mul hz (is_to (is_div (is_splat w_one) (is_add (is_splat w_one) (is_exp (is_sub (is_splat w_zero) hz)))) fun i => by
    unfold lgs
    rw [EReal.coe_zero, zero_sub]))
end Block

/-! The kernel's arrays. -/

section Arrays
variable (m : (ℓ : Loc nD τ sig) → Buf (Elt Ideal) ℓ)

/-- The arguments a device starts from. -/
structure Ins (c : Dev nD) (A : In 16384) : Prop where
  h0 : Is (s := S16384x1024) (m ((c : Thread nD τ).loc main_arg0)) (e2 A.x)
  h1 : Is (s := S8x1024) (m ((c : Thread nD τ).loc main_arg1)) (e2 A.v)
  h2 : Is (s := S1024x2688) (m ((c : Thread nD τ).loc main_arg2)) (e2 A.w)
  h3 : Is (s := S32x512) (m ((c : Thread nD τ).loc main_arg3)) (e2 A.cw)
  h4 : Is (s := S8x512) (m ((c : Thread nD τ).loc main_arg4)) (e2 A.cv)
  h5 : Is (s := S128x512) (m ((c : Thread nD τ).loc main_arg5)) (e2 A.wa)
  h6 : Is (s := S1x512) (m ((c : Thread nD τ).loc main_arg6)) (e2 A.ba)

/-- The tokens of block `t`. -/
abbrev tok (t : Fin cfg0.N) : Fin 512 → Fin 16384 := rowsOf 512 16384 (by decide) t.val

/-- The convolution of a block's tokens is the whole's. -/
theorem In.at_y (A : In 16384) (t : Fin cfg0.N) : (A.at_ (tok t)).y = fun i c => A.y (tok t i) c := by
  refine funext fun i => funext fun c => congrArg (· + _) (Finset.sum_congr rfl fun j _ => congrArg (_ * ·) ?_)
  have ht : t.val < 32 := Nat.lt_of_lt_of_eq t.isLt N_0
  have e : (tok t i).val = 512 * t.val + i.val := Nat.mod_eq_of_lt (by omega)
  unfold In.near
  by_cases h : 15 ≤ i.val % 64 + j.val ∧ i.val % 64 + j.val < 79
  · rw [if_pos h, if_pos (by rw [e]; omega)]
    exact congrArg (A.val · c) (Fin.ext (by show (512 * t.val + (i.val + j.val - 15) % 512) % 16384 = ((tok t i).val + j.val - 15) % 16384; rw [e]; omega))
  · rw [if_neg h, if_neg (by rw [e]; omega)]
theorem In.at_co (A : In 16384) (t : Fin cfg0.N) : (A.at_ (tok t)).co = fun i c => A.co (tok t i) c := by
  unfold In.co In.z
  rw [A.at_y t]
  rfl

variable {m} {c : Dev nD} {A : In 16384} (H : Ins m c A)
theorem rows_le (t : Fin cfg0.N) : 512 * t.val + 512 ≤ 16384 := by
  have ht : t.val < 32 := Nat.lt_of_lt_of_eq t.isLt N_0
  omega

theorem on_cons {α : Type*} {p : α → Prop} {a : α} {l : List α} (h : p a) (g : ∀ x ∈ l, p x) : ∀ x ∈ a :: l, p x := List.forall_mem_cons.2 ⟨h, g⟩
theorem idxW : ∀ t : Fin cfg0.N, (win0_1.index t (0 : Fin 2) = 0 ∧ win0_1.index t (1 : Fin 2) = 0) ∧ (win0_2.index t (0 : Fin 2) = 0 ∧ win0_2.index t (1 : Fin 2) = 0) ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = 0 ∧ win0_5.index t (1 : Fin 2) = 0) ∧ (win0_6.index t (0 : Fin 2) = 0 ∧ win0_6.index t (1 : Fin 2) = 0) :=
  (by decide +kernel : ∀ t : Fin grid0.N, _)
theorem idxT : ∀ t : Fin cfg0.N, (win0_0.index t (0 : Fin 2) = t.val ∧ win0_0.index t (1 : Fin 2) = 0) ∧ (win0_7.index t (0 : Fin 2) = t.val ∧ win0_7.index t (1 : Fin 2) = 0) ∧ (win0_8.index t (0 : Fin 2) = t.val ∧ win0_8.index t (1 : Fin 2) = 0) ∧ (win0_9.index t (0 : Fin 2) = t.val ∧ win0_9.index t (1 : Fin 2) = 0) ∧ (win0_10.index t (0 : Fin 2) = t.val ∧ win0_10.index t (1 : Fin 2) = 0) ∧ (win0_11.index t (0 : Fin 2) = t.val ∧ win0_11.index t (1 : Fin 2) = 0) ∧ (win0_12.index t (0 : Fin 2) = t.val ∧ win0_12.index t (1 : Fin 2) = 0) ∧ (win0_13.index t (0 : Fin 2) = t.val ∧ win0_13.index t (1 : Fin 2) = 0) ∧ (win0_14.index t (0 : Fin 2) = t.val ∧ win0_14.index t (1 : Fin 2) = 0) :=
  (by decide +kernel : ∀ t : Fin grid0.N, _)
theorem reread {f : Fin 512 → Fin 512 → EReal} {L : List (View.Piece (Elt Ideal) S512x512 .f32)} (hL : View.Piece.tiledL L S64x128.size = true) (h : Is (s := S512x512) (View.canon L) (e2 f)) {κ sp} (v : View sig κ sp S512x512 .f32) :
    Is (s := S512x512) (v.readCov L (Rect.unit (s := S512x512) ![0, 0] S512x512.size inb_S512x512_S512x512_0_0).toLoadRect) (e2 f) := by
  rw [View.readCov_eq_canon_ld _ _ _ (View.cover_of_tiledL L S64x128.size hL), View.ld_unit_zero (S := S512x512) zero2]
  exact h

include H
theorem blks (t : Fin cfg0.N) : Blk (A.at_ (tok t)) (iblk m c 0 t) (iblk m c 1 t) (iblk m c 2 t) (iblk m c 3 t) (iblk m c 4 t) (iblk m c 5 t) (iblk m c 6 t) :=
  ⟨is_block H.h0 ((cfg0.win 0).blk t).view.emb (fun _ => rfl) (rows_le t) (idxT t).1.1 (idxT t).1.2 (fun _ => rfl) (fun _ => rfl),
    is_whole H.h1 ((cfg0.win 1).blk t).view.emb (fun _ => rfl) (idxW t).1 (fun _ => rfl) (fun _ => rfl),
    is_whole H.h2 ((cfg0.win 2).blk t).view.emb (fun _ => rfl) (idxW t).2.1 (fun _ => rfl) (fun _ => rfl),
    is_whole H.h3 ((cfg0.win 3).blk t).view.emb (fun _ => rfl) (idxW t).2.2.1 (fun _ => rfl) (fun _ => rfl),
    is_whole H.h4 ((cfg0.win 4).blk t).view.emb (fun _ => rfl) (idxW t).2.2.2.1 (fun _ => rfl) (fun _ => rfl),
    is_whole H.h5 ((cfg0.win 5).blk t).view.emb (fun _ => rfl) (idxW t).2.2.2.2.1 (fun _ => rfl) (fun _ => rfl),
    is_whole H.h6 ((cfg0.win 6).blk t).view.emb (fun _ => rfl) (idxW t).2.2.2.2.2 (fun _ => rfl) (fun _ => rfl)⟩

theorem pt7 (t : Fin cfg0.N) : Is (s := S512x1024) ((outsAt0 m c t).1) (e2 (A.at_ (tok t)).ag) := by
  unfold outsAt0
  dsimp only
  unfold out0_A_7
  rw [View.read_writes_eq_canon _ _ _ (cover0_A_7 (F := Ideal) _ _ _ _ _ _ _ _ _ _ _ _ _ _ _ _ _ _ _ _ _ _ _ _ _ _ _ _ _ _ _ _ _ _ _ _ _ _ _ _ _)]
  unfold kernelRun0_A
  dsimp only
  try sl_unfold_words
  rw [View.canon_unit_zero zero2]
  simp only [View.readAt_eq_ld, Memref.IsWhole.read_unread, View.ld_unit_zero (S := S512x1024) zero2]
  exact is_trunc _ (k3 (blks H t))

set_option maxHeartbeats 4000000 in
theorem pt8 (t : Fin cfg0.N) : Is (s := S512x512) ((outsAt0 m c t).2.1) (e2 (A.at_ (tok t)).y) := by
  unfold outsAt0
  dsimp only
  unfold out0_A_8
  rw [View.read_writes_eq_canon _ _ _ (cover0_A_8 (F := Ideal) _ _ _ _ _ _ _ _ _ _ _ _ _ _ _ _ _ _ _ _ _ _ _ _ _ _ _ _ _ _ _ _ _ _ _ _ _ _ _ _ _)]
  intro i
  refine View.canon_apply_of_pieces (Val := Elt Ideal) (e := .f32) (e2 (A.at_ (tok t)).y) _ ?_ i (cover0_A_8 (F := Ideal) _ _ _ _ _ _ _ _ _ _ _ _ _ _ _ _ _ _ _ _ _ _ _ _ _ _ _ _ _ _ _ _ _ _ _ _ _ _ _ _ _ i)
  unfold kernelRun0_A
  dsimp only
  try sl_unfold_words
  simp only [View.readAt_eq_ld, Memref.IsWhole.read_unread, View.ld_unit_zero (S := S512x1024) zero2]
  have T := tile_is (blks H t)
  exact on_cons (T 7 3 448 384 inb_S512x512_S64x128_448_384 rfl rfl) <| on_cons (T 7 2 448 256 inb_S512x512_S64x128_448_256 rfl rfl) <| on_cons (T 7 1 448 128 inb_S512x512_S64x128_448_128 rfl rfl) <| on_cons (T 7 0 448 0 inb_S512x512_S64x128_448_0 rfl rfl) <| on_cons (T 6 3 384 384 inb_S512x512_S64x128_384_384 rfl rfl) <| on_cons (T 6 2 384 256 inb_S512x512_S64x128_384_256 rfl rfl) <| on_cons (T 6 1 384 128 inb_S512x512_S64x128_384_128 rfl rfl) <| on_cons (T 6 0 384 0 inb_S512x512_S64x128_384_0 rfl rfl) <| on_cons (T 5 3 320 384 inb_S512x512_S64x128_320_384 rfl rfl) <| on_cons (T 5 2 320 256 inb_S512x512_S64x128_320_256 rfl rfl) <| on_cons (T 5 1 320 128 inb_S512x512_S64x128_320_128 rfl rfl) <| on_cons (T 5 0 320 0 inb_S512x512_S64x128_320_0 rfl rfl) <| on_cons (T 4 3 256 384 inb_S512x512_S64x128_256_384 rfl rfl) <| on_cons (T 4 2 256 256 inb_S512x512_S64x128_256_256 rfl rfl) <| on_cons (T 4 1 256 128 inb_S512x512_S64x128_256_128 rfl rfl) <| on_cons (T 4 0 256 0 inb_S512x512_S64x128_256_0 rfl rfl) <| on_cons (T 3 3 192 384 inb_S512x512_S64x128_192_384 rfl rfl) <| on_cons (T 3 2 192 256 inb_S512x512_S64x128_192_256 rfl rfl) <| on_cons (T 3 1 192 128 inb_S512x512_S64x128_192_128 rfl rfl) <| on_cons (T 3 0 192 0 inb_S512x512_S64x128_192_0 rfl rfl) <| on_cons (T 2 3 128 384 inb_S512x512_S64x128_128_384 rfl rfl) <| on_cons (T 2 2 128 256 inb_S512x512_S64x128_128_256 rfl rfl) <| on_cons (T 2 1 128 128 inb_S512x512_S64x128_128_128 rfl rfl) <| on_cons (T 2 0 128 0 inb_S512x512_S64x128_128_0 rfl rfl) <| on_cons (T 1 3 64 384 inb_S512x512_S64x128_64_384 rfl rfl) <| on_cons (T 1 2 64 256 inb_S512x512_S64x128_64_256 rfl rfl) <| on_cons (T 1 1 64 128 inb_S512x512_S64x128_64_128 rfl rfl) <| on_cons (T 1 0 64 0 inb_S512x512_S64x128_64_0 rfl rfl) <| on_cons (T 0 3 0 384 inb_S512x512_S64x128_0_384 rfl rfl) <| on_cons (T 0 2 0 256 inb_S512x512_S64x128_0_256 rfl rfl) <| on_cons (T 0 1 0 128 inb_S512x512_S64x128_0_128 rfl rfl) <| on_cons (T 0 0 0 0 inb_S512x512_S64x128_0_0 rfl rfl) <| fun _ h => absurd h List.not_mem_nil

theorem pt9 (t : Fin cfg0.N) : Is (s := S512x512) ((outsAt0 m c t).2.2.1) (e2 (A.at_ (tok t)).co) := by
  unfold outsAt0
  dsimp only
  unfold out0_A_9
  rw [View.read_writes_eq_canon _ _ _ (cover0_A_9 (F := Ideal) _ _ _ _ _ _ _ _ _ _ _ _ _ _ _ _ _ _ _ _ _ _ _ _ _ _ _ _ _ _ _ _ _ _ _ _ _ _ _ _ _)]
  have hy := pt8 H t
  unfold outsAt0 at hy
  dsimp only at hy
  unfold out0_A_8 at hy
  rw [View.read_writes_eq_canon _ _ _ (cover0_A_8 (F := Ideal) _ _ _ _ _ _ _ _ _ _ _ _ _ _ _ _ _ _ _ _ _ _ _ _ _ _ _ _ _ _ _ _ _ _ _ _ _ _ _ _ _)] at hy
  unfold kernelRun0_A at hy ⊢
  dsimp only at hy ⊢
  revert hy
  try sl_unfold_words
  rw [View.canon_unit_zero zero2]
  simp only [View.readAt_eq_ld, Memref.IsWhole.read_unread, View.ld_unit_zero (S := S512x1024) zero2]
  exact fun hy => k1 (reread (by sl_kernel_rfl) hy _) (is_ld_row (blks H t).h4 1 rfl inb_S8x512_S1x512_1_0) (is_ld_row (blks H t).h4 2 rfl inb_S8x512_S1x512_2_0)

theorem pt10 (t : Fin cfg0.N) : Is (s := S512x512) ((outsAt0 m c t).2.2.2.1) (e2 (A.at_ (tok t)).qk) := by
  unfold outsAt0
  dsimp only
  unfold out0_A_10
  rw [View.read_writes_eq_canon _ _ _ (cover0_A_10 (F := Ideal) _ _ _ _ _ _ _ _ _ _ _ _ _ _ _ _ _ _ _ _ _ _ _ _ _ _ _ _ _ _ _ _ _ _ _ _ _ _ _ _ _)]
  unfold kernelRun0_A
  dsimp only
  try sl_unfold_words
  rw [View.canon_unit_zero zero2]
  simp only [View.readAt_eq_ld, Memref.IsWhole.read_unread, View.ld_unit_zero (S := S512x1024) zero2]
  exact is_trunc _ (is_to (part (q := 0) (k := 512) (blks H t) (by decide) slices_S512x1664_o0_0_S512x512) fun i => congrArg ((A.at_ (tok t)).p (i 0)) (Fin.ext (by show 1024 + (0 + (i 1).val) = 1024 + (i 1).val; omega)))

theorem pt11 (t : Fin cfg0.N) : Is (s := S512x512) ((outsAt0 m c t).2.2.2.2.1) (e2 (A.at_ (tok t)).vv) := by
  unfold outsAt0
  dsimp only
  unfold out0_A_11
  rw [View.read_writes_eq_canon _ _ _ (cover0_A_11 (F := Ideal) _ _ _ _ _ _ _ _ _ _ _ _ _ _ _ _ _ _ _ _ _ _ _ _ _ _ _ _ _ _ _ _ _ _ _ _ _ _ _ _ _)]
  unfold kernelRun0_A
  dsimp only
  try sl_unfold_words
  rw [View.canon_unit_zero zero2]
  simp only [View.readAt_eq_ld, Memref.IsWhole.read_unread, View.ld_unit_zero (S := S512x1024) zero2]
  exact is_trunc _ (is_to (part (q := 512) (k := 512) (blks H t) (by decide) slices_S512x1664_o0_512_S512x512) fun i => congrArg ((A.at_ (tok t)).p (i 0)) (Fin.ext (by show 1024 + (512 + (i 1).val) = 1536 + (i 1).val; omega)))

theorem pt12 (t : Fin cfg0.N) : Is (s := S512x512) ((outsAt0 m c t).2.2.2.2.2.1) (e2 (A.at_ (tok t)).g) := by
  unfold outsAt0
  dsimp only
  unfold out0_A_12
  rw [View.read_writes_eq_canon _ _ _ (cover0_A_12 (F := Ideal) _ _ _ _ _ _ _ _ _ _ _ _ _ _ _ _ _ _ _ _ _ _ _ _ _ _ _ _ _ _ _ _ _ _ _ _ _ _ _ _ _)]
  unfold kernelRun0_A
  dsimp only
  try sl_unfold_words
  rw [View.canon_unit_zero zero2]
  simp only [View.readAt_eq_ld, Memref.IsWhole.read_unread, View.ld_unit_zero (S := S512x1024) zero2]
  exact is_trunc _ (is_to (part (q := 1024) (k := 512) (blks H t) (by decide) slices_S512x1664_o0_1024_S512x512) fun i => congrArg ((A.at_ (tok t)).p (i 0)) (Fin.ext (by show 1024 + (1024 + (i 1).val) = 2048 + (i 1).val; omega)))

theorem pt13 (t : Fin cfg0.N) : Is (s := S512x512) ((outsAt0 m c t).2.2.2.2.2.2.1) (e2 (A.at_ (tok t)).la) := by
  unfold outsAt0
  dsimp only
  unfold out0_A_13
  rw [View.read_writes_eq_canon _ _ _ (cover0_A_13 (F := Ideal) _ _ _ _ _ _ _ _ _ _ _ _ _ _ _ _ _ _ _ _ _ _ _ _ _ _ _ _ _ _ _ _ _ _ _ _ _ _ _ _ _)]
  unfold kernelRun0_A
  dsimp only
  try sl_unfold_words
  rw [View.canon_unit_zero zero2]
  simp only [View.readAt_eq_ld, Memref.IsWhole.read_unread, View.ld_unit_zero (S := S512x1024) zero2, View.ld_unit_zero (S := S128x512) zero2, View.ld_unit_zero (S := S1x512) zero2]
  exact k422 (blks H t)

theorem pt14 (t : Fin cfg0.N) : Is (s := S512x128) ((outsAt0 m c t).2.2.2.2.2.2.2) (e2 (A.at_ (tok t)).r) := by
  unfold outsAt0
  dsimp only
  unfold out0_A_14
  rw [View.read_writes_eq_canon _ _ _ (cover0_A_14 (F := Ideal) _ _ _ _ _ _ _ _ _ _ _ _ _ _ _ _ _ _ _ _ _ _ _ _ _ _ _ _ _ _ _ _ _ _ _ _ _ _ _ _ _)]
  unfold kernelRun0_A
  dsimp only
  try sl_unfold_words
  rw [View.canon_unit_zero zero2]
  simp only [View.readAt_eq_ld, Memref.IsWhole.read_unread, View.ld_unit_zero (S := S512x1024) zero2, View.ld_unit_zero (S := S128x512) zero2, View.ld_unit_zero (S := S1x512) zero2]
  exact k421 (blks H t)

theorem arr7 : (dats m 0 c).arrAt 7 cfg0.N = fun i : S16384x1024.Idx => e2 A.ag i := by
  refine (dats m 0 c).arrAt_eq_of_covers 7 _ (by decide +kernel) fun t hf y => ?_
  blk_simp
  rw [after0_7]
  exact at_block (pt7 H t) (rows_le t) (idxT t).2.1.1 (idxT t).2.1.2 y _ rfl rfl

theorem arr8 : (dats m 0 c).arrAt 8 cfg0.N = fun i : S16384x512.Idx => e2 A.y i := by
  refine (dats m 0 c).arrAt_eq_of_covers 8 _ (by decide +kernel) fun t hf y => ?_
  blk_simp
  rw [after0_8]
  exact at_block (A.at_y t ▸ pt8 H t) (rows_le t) (idxT t).2.2.1.1 (idxT t).2.2.1.2 y _ rfl rfl

theorem arr9 : (dats m 0 c).arrAt 9 cfg0.N = fun i : S16384x512.Idx => e2 A.co i := by
  refine (dats m 0 c).arrAt_eq_of_covers 9 _ (by decide +kernel) fun t hf y => ?_
  blk_simp
  rw [after0_9]
  exact at_block (A.at_co t ▸ pt9 H t) (rows_le t) (idxT t).2.2.2.1.1 (idxT t).2.2.2.1.2 y _ rfl rfl

theorem arr10 : (dats m 0 c).arrAt 10 cfg0.N = fun i : S16384x512.Idx => e2 A.qk i := by
  refine (dats m 0 c).arrAt_eq_of_covers 10 _ (by decide +kernel) fun t hf y => ?_
  blk_simp
  rw [after0_10]
  exact at_block (pt10 H t) (rows_le t) (idxT t).2.2.2.2.1.1 (idxT t).2.2.2.2.1.2 y _ rfl rfl

theorem arr11 : (dats m 0 c).arrAt 11 cfg0.N = fun i : S16384x512.Idx => e2 A.vv i := by
  refine (dats m 0 c).arrAt_eq_of_covers 11 _ (by decide +kernel) fun t hf y => ?_
  blk_simp
  rw [after0_11]
  exact at_block (pt11 H t) (rows_le t) (idxT t).2.2.2.2.2.1.1 (idxT t).2.2.2.2.2.1.2 y _ rfl rfl

theorem arr12 : (dats m 0 c).arrAt 12 cfg0.N = fun i : S16384x512.Idx => e2 A.g i := by
  refine (dats m 0 c).arrAt_eq_of_covers 12 _ (by decide +kernel) fun t hf y => ?_
  blk_simp
  rw [after0_12]
  exact at_block (pt12 H t) (rows_le t) (idxT t).2.2.2.2.2.2.1.1 (idxT t).2.2.2.2.2.2.1.2 y _ rfl rfl

theorem arr13 : (dats m 0 c).arrAt 13 cfg0.N = fun i : S16384x512.Idx => e2 A.la i := by
  refine (dats m 0 c).arrAt_eq_of_covers 13 _ (by decide +kernel) fun t hf y => ?_
  blk_simp
  rw [after0_13]
  exact at_block (pt13 H t) (rows_le t) (idxT t).2.2.2.2.2.2.2.1.1 (idxT t).2.2.2.2.2.2.2.1.2 y _ rfl rfl

theorem arr14 : (dats m 0 c).arrAt 14 cfg0.N = fun i : S16384x128.Idx => e2 A.r i := by
  refine (dats m 0 c).arrAt_eq_of_covers 14 _ (by decide +kernel) fun t hf y => ?_
  blk_simp
  rw [after0_14]
  exact at_block (pt14 H t) (rows_le t) (idxT t).2.2.2.2.2.2.2.2.1 (idxT t).2.2.2.2.2.2.2.2.2 y _ rfl rfl

end Arrays

/-! The reference's arrays. -/

section Reference
open Cert.EntryRefIdeal Cert.EntryRefIdeal.Gen Cert.EntryRefIdeal.Read
variable {A : In 16384} {x0 : S16384x1024.Idx → EReal} {x1 : S8x1024.Idx → EReal} {x2 : S1024x2688.Idx → EReal} {x3 : S32x512.Idx → EReal} {x4 : S8x512.Idx → EReal} {x5 : S128x512.Idx → EReal} {x6 : S1x512.Idx → EReal}

/-- What the reference's arguments hold. -/
structure Args (A : In 16384) (x0 : S16384x1024.Idx → EReal) (x1 : S8x1024.Idx → EReal) (x2 : S1024x2688.Idx → EReal) (x3 : S32x512.Idx → EReal) (x4 : S8x512.Idx → EReal) (x5 : S128x512.Idx → EReal) (x6 : S1x512.Idx → EReal) : Prop where
  h0 : Is x0 (e2 A.x)
  h1 : Is x1 (e2 A.v)
  h2 : Is x2 (e2 A.w)
  h3 : Is x3 (e2 A.cw)
  h4 : Is x4 (e2 A.cv)
  h5 : Is x5 (e2 A.wa)
  h6 : Is x6 (e2 A.ba)

variable (K : Args A x0 x1 x2 x3 x4 x5 x6)
include K

theorem rv3 : Is (s := S16384) (val_main_v3 (F := Ideal) x0) (e1 fun i => ∑ l, A.x i l * A.x i l) := fun i => by
  rw [val_main_v3_apply]
  refine Eq.trans (congrArg (· + _) w_zero) ?_
  rw [EReal.coe_zero, zero_add]
  exact Finset.sum_congr rfl fun k _ => is_mul (s := S16384x1024) (φ := .f32) K.h0 K.h0 _
theorem rv9 : Is (s := S16384x1) (val_main_v9 (F := Ideal) x0) (e2 fun i _ => root 1024 (A.x i)) :=
  is_hrsqrt (is_add (is_hdiv (is_entry (rv3 K) fun i => ⟨_, val_main_v4_apply (F := Ideal) x0 i, rfl⟩) (fun i => (val_main_v5_apply (F := Ideal) i).trans w_1024)) (fun i => (val_main_v7_apply (F := Ideal) i).trans w_eps))
theorem rv13 : Is (s := S16384x1024) (val_main_v13 (F := Ideal) x1) (e2 fun _ j => A.v 0 j) :=
  is_entry K.h1 fun i => ⟨_, (val_main_v13_apply (F := Ideal) x1 i).trans ((val_main_v12_apply (F := Ideal) x1 _).trans ((val_main_v1_apply (F := Ideal) x1 _).trans (val_main_v0_apply (F := Ideal) x1 _))), congrArg₂ A.v (Fin.ext rfl) (Fin.ext (Nat.mod_eq_of_lt (i 1).isLt))⟩
theorem rv25 : Is (s := S16384x1024) (val_main_v25 (F := Ideal) x1) (e2 fun _ j => A.v 1 j) :=
  is_entry K.h1 fun i => ⟨_, (val_main_v25_apply (F := Ideal) x1 i).trans ((val_main_v24_apply (F := Ideal) x1 _).trans ((val_main_v16_apply (F := Ideal) x1 _).trans (val_main_v15_apply (F := Ideal) x1 _))), congrArg₂ A.v (Fin.ext rfl) (Fin.ext (Nat.mod_eq_of_lt (i 1).isLt))⟩
theorem rv20 : Is (s := S1024) (val_main_v20 (F := Ideal) x1) (e1 fun j => (1 : ℝ) + A.v 2 j) :=
  is_add (fun i => (val_main_v19_apply (F := Ideal) i).trans w_one) (is_entry (g := e1 fun j => A.v 2 j) K.h1 fun i => ⟨_, (val_main_v18_apply (F := Ideal) x1 i).trans (val_main_v17_apply (F := Ideal) x1 _), congrArg₂ A.v (Fin.ext rfl) (Fin.ext (Nat.mod_eq_of_lt (i 0).isLt))⟩)
theorem rv27 : Is (s := S16384x1024) (val_main_v27 (F := Ideal) x0 x1) (e2 A.h) :=
  is_trunc _ (is_add (is_mul (is_mul (is_mul K.h0 (is_entry (g := e2 fun i _ => root 1024 (A.x i)) (rv9 K) fun i => ⟨_, val_main_v10_apply (F := Ideal) x0 i, rfl⟩)) (rv13 K))
    (is_entry (g := e2 fun _ j => (1 : ℝ) + A.v 2 j) (rv20 K) fun i => ⟨_, (val_main_v22_apply (F := Ideal) x1 i).trans (val_main_v21_apply (F := Ideal) x1 _), rfl⟩)) (rv25 K))
theorem rv30 : Is (s := S16384x2688) (val_main_v30 (F := Ideal) x0 x1 x2) (e2 A.p) := fun i => by
  rw [val_main_v30_apply]
  exact Finset.sum_congr rfl fun k _ => congrArg₂ (· * ·) (is_ext _ (rv27 K) _) (is_ext _ K.h2 _)
theorem rv31 : Is (s := S16384x1024) (val_main_v31 (F := Ideal) x0 x1 x2) (e2 A.ag) := is_cslice (f := A.p) (fun l => ⟨0 + l.val, by omega⟩) (fun _ => rfl) slices_S16384x2688_S16384x1024_0_0 (rv30 K)
theorem rv32 : Is (s := S16384x512) (val_main_v32 (F := Ideal) x0 x1 x2) (e2 A.qk) := is_cslice (f := A.p) (fun l => ⟨1024 + l.val, by omega⟩) (fun _ => rfl) slices_S16384x2688_S16384x512_0_1024 (rv30 K)
theorem rv33 : Is (s := S16384x512) (val_main_v33 (F := Ideal) x0 x1 x2) (e2 A.vv) := is_cslice (f := A.p) (fun l => ⟨1536 + l.val, by omega⟩) (fun _ => rfl) slices_S16384x2688_S16384x512_0_1536 (rv30 K)
theorem rv34 : Is (s := S16384x512) (val_main_v34 (F := Ideal) x0 x1 x2) (e2 A.g) := is_cslice (f := A.p) (fun l => ⟨2048 + l.val, by omega⟩) (fun _ => rfl) slices_S16384x2688_S16384x512_0_2048 (rv30 K)
theorem rv35 : Is (s := S16384x128) (val_main_v35 (F := Ideal) x0 x1 x2) (e2 A.r) := is_cslice (f := A.p) (fun l => ⟨2560 + l.val, by omega⟩) (fun _ => rfl) slices_S16384x2688_S16384x128_0_2560 (rv30 K)
theorem rv41 : Is (s := S16384x512) (val_main_v41 (F := Ideal) x0 x1 x2 x5 x6) (e2 fun i c => (∑ k, A.r i k * A.wa k c) + A.ba 0 c) :=
  is_add (fun i => by
    rw [val_main_v39_apply]
    exact Finset.sum_congr rfl fun k _ => congrArg₂ (· * ·) (is_ext _ (is_trunc _ (rv35 K)) _) (is_ext _ K.h5 _))
    (is_entry (g := e2 fun _ c => A.ba 0 c) K.h6 fun i => ⟨_, val_main_v40_apply (F := Ideal) x6 i, congrArg₂ A.ba (Fin.ext rfl) (Fin.ext rfl)⟩)
theorem rv44 : Is (s := S16384x512) (val_main_v44 (F := Ideal) x0 x1 x2 x5 x6) (e2 A.la) := fun i => by
  have l (z : EReal) (y w : EReal) (hz : z = y) : -(if Ideal.cmp .une (-z - Ideal.ofBits .f32 0x00000000#32) (-z - Ideal.ofBits .f32 0x00000000#32) = 1 then w
      else max (-z) (Ideal.ofBits .f32 0x00000000#32) + Ideal.log (1 + Ideal.exp (-max (-z - Ideal.ofBits .f32 0x00000000#32) (-(-z - Ideal.ofBits .f32 0x00000000#32))))) = lsg y := by
    have h : ∀ u : EReal, Ideal.cmp .une u u ≠ 1 := fun u => by simp [Ideal.cmp]
    rw [if_neg (h _), w_zero, EReal.coe_zero, sub_zero, neg_neg, hz]
    exact lsg_neg y
  refine Eq.trans (congrArg₂ Ideal.div (l _ _ _ (rv41 K i)) ((val_main_v43_apply (F := Ideal) i).trans w_16)) (div16 _)
theorem rv53 : Is (s := S16384x512) (val_main_v53 (F := Ideal) x0 x1 x2) (e2 A.val) :=
  is_mul (is_cslice (f := A.ag) (fun l => ⟨0 + l.val, by omega⟩) (fun _ => rfl) slices_S16384x1024_S16384x512_0_0 (rv31 K)) (is_hdiv (fun i => (val_main_v51_apply (F := Ideal) i).trans w_one) (is_add (fun i => (val_main_v49_apply (F := Ideal) i).trans w_one)
    (is_hexp (is_neg (is_cslice (f := A.ag) (fun l => ⟨512 + l.val, by omega⟩) (fun _ => rfl) slices_S16384x1024_S16384x512_0_512 (rv31 K))))))
/-- Each segment between two fifteens of zeros. -/
theorem rv55 : Is (s := S256x94x512) (val_main_v55 (F := Ideal) x0 x1 x2) (e3 fun (s : Fin 256) (q : Fin 94) c => if h : 15 ≤ q.val ∧ q.val < 79 then A.val ⟨64 * s.val + q.val - 15, by omega⟩ c else 0) := fun i => by
  have h0 : (i 0).val < 256 := (i 0).isLt
  have h2 : (i 2).val < 512 := (i 2).isLt
  unfold val_main_v55
  show _ = dite (15 ≤ (i 1).val ∧ (i 1).val < 79) _ _
  by_cases h : 15 ≤ (i 1).val ∧ (i 1).val < 79
  · rw [dif_pos h]
    refine (pad_apply_of_inside _ _ _ _ _ _ _ i (ValueIdx.ix3 (i 0) (⟨(i 1).val - 15, by omega⟩ : Fin 64) (i 2)) fun b => ?_).trans
      ((val_main_v54_apply (F := Ideal) x0 x1 x2 _).trans ((rv53 K _).trans (congrArg₂ A.val (Fin.ext ?_) (Fin.ext ?_))))
    · match b with
      | ⟨0, _⟩ => show (i 0).val = 0 + (i 0).val * (0 + 1); omega
      | ⟨1, _⟩ => show (i 1).val = 15 + ((i 1).val - 15) * (0 + 1); omega
      | ⟨2, _⟩ => show (i 2).val = 0 + (i 2).val * (0 + 1); omega
    · show (((i 0).val * 64 + ((i 1).val - 15)) * 512 + (i 2).val) / 512 = 64 * (i 0).val + (i 1).val - 15; omega
    · show (((i 0).val * 64 + ((i 1).val - 15)) * 512 + (i 2).val) % 512 = (i 2).val; omega
  · rw [dif_neg h]
    refine (pad_apply_of_not_inside _ _ _ _ _ _ _ i 1 fun b => h ?_).trans ?_
    · have b1 : 15 ≤ (i 1).val ∧ ((i 1).val - 15) % (0 + 1) = 0 ∧ ((i 1).val - 15) / (0 + 1) < 64 := b
      omega
    · show (((0#32 : BitVec 32).toInt : ℝ) : EReal) = 0
      simp

omit K in
/-- One tap added. -/
def rtap (acc : FVec Ideal S256x64x512 .f32) (x3 : FVec Ideal S32x512 .f32) (p : FVec Ideal S256x94x512 .f32) (j : Fin 31) (h1 : S32x512.Slices ![j.val, 0] S1x512) (h2 : S256x94x512.Slices ![0, j.val, 0] S256x64x512) : FVec Ideal S256x64x512 .f32 :=
  addf acc (mulf (broadcastInDim S256x64x512 ![0, 1, 2] bcast_S1x1x512_S256x64x512_0_1_2 (broadcastInDim S1x1x512 ![2] bcast_S512_S1x1x512_2 (shapeCast S512 (extractStridedSlice S1x512 ![j.val, 0] x3 h1) shapeCasts_S1x512_S512)))
    (extractStridedSlice S256x64x512 ![0, j.val, 0] p h2))
theorem rtap_is {acc : FVec Ideal S256x64x512 .f32} {f : Fin 256 → Fin 64 → Fin 512 → EReal} (ha : Is acc (e3 f)) (j : Fin 31) (h1 : S32x512.Slices ![j.val, 0] S1x512) (h2 : S256x94x512.Slices ![0, j.val, 0] S256x64x512) :
    Is (rtap acc x3 (val_main_v55 (F := Ideal) x0 x1 x2) j h1 h2) (e3 fun s a c => f s a c + A.cw ⟨j.val, by omega⟩ c * A.near ⟨64 * s.val + a.val, by omega⟩ j c) :=
  is_add ha (is_mul (is_entry (g := e3 fun (_ : Fin 256) (_ : Fin 64) c => A.cw ⟨j.val, by omega⟩ c) K.h3 fun i => ⟨ValueIdx.ix2 ⟨j.val, by omega⟩ (i 2), by
      refine (broadcastInDim_apply _ _ _ i (ValueIdx.ix3 0 0 (i 2)) fun a => ?_).trans ((broadcastInDim_apply _ _ _ _ (ValueIdx.ix1 (i 2) : S512.Idx) fun a => ?_).trans
        ((shapeCast_apply _ _ _ (ValueIdx.ix2 0 (i 2) : S1x512.Idx) ?_).trans (extractStridedSlice_apply _ _ _ _ _ fun a => ?_)))
      · match a with
        | ⟨0, _⟩ => rfl
        | ⟨1, _⟩ => rfl
        | ⟨2, _⟩ => rfl
      · match a with
        | ⟨0, _⟩ => rfl
      · rw [Shape.rowMajor_val_two, Shape.rowMajor_val_one]
        show 0 * 512 + (i 2).val = (i 2).val
        omega
      · match a with
        | ⟨0, _⟩ => rfl
        | ⟨1, _⟩ => exact (Nat.zero_add _).symm, rfl⟩)
    fun i => by
      have h0 : (i 0).val < 256 := (i 0).isLt
      have h3 : (i 1).val < 64 := (i 1).isLt
      refine (extractStridedSlice_apply _ _ h2 i (ValueIdx.ix3 (i 0) ⟨j.val + (i 1).val, by omega⟩ (i 2)) fun a => ?_).trans ((rv55 K _).trans ?_)
      · match a with
        | ⟨0, _⟩ => exact (Nat.zero_add _).symm
        | ⟨1, _⟩ => rfl
        | ⟨2, _⟩ => exact (Nat.zero_add _).symm
      · show dite (15 ≤ j.val + (i 1).val ∧ j.val + (i 1).val < 79) _ _ = ite (15 ≤ (64 * (i 0).val + (i 1).val) % 64 + j.val ∧ (64 * (i 0).val + (i 1).val) % 64 + j.val < 79) _ _
        by_cases h : 15 ≤ j.val + (i 1).val ∧ j.val + (i 1).val < 79
        · rw [dif_pos h, if_pos (by omega)]
          exact congrArg (A.val · _) (Fin.ext (by show 64 * (i 0).val + (j.val + (i 1).val) - 15 = (64 * (i 0).val + (i 1).val + j.val - 15) % 16384; omega))
        · rw [dif_neg h, if_neg (by omega)])

theorem rv273 : Is (s := S256x64x512) (val_main_v273 (F := Ideal) x0 x1 x2 x3) (e3 fun s a c => ∑ j : Fin 31, A.cw ⟨j.val, by omega⟩ c * A.near ⟨64 * s.val + a.val, by omega⟩ j c) := by
  have T0 : Is (s := S256x64x512) (val_main_v62 (F := Ideal)) (e3 fun _ _ _ => (0 : EReal)) := fun i => (val_main_v62_apply (F := Ideal) i).trans (w_zero.trans EReal.coe_zero)
  have T1 := rtap_is K T0 0 slices_S32x512_S1x512_0_0 slices_S256x94x512_S256x64x512_0_0_0
  have T2 := rtap_is K T1 1 slices_S32x512_S1x512_1_0 slices_S256x94x512_S256x64x512_0_1_0
  have T3 := rtap_is K T2 2 slices_S32x512_S1x512_2_0 slices_S256x94x512_S256x64x512_0_2_0
  have T4 := rtap_is K T3 3 slices_S32x512_S1x512_3_0 slices_S256x94x512_S256x64x512_0_3_0
  have T5 := rtap_is K T4 4 slices_S32x512_S1x512_4_0 slices_S256x94x512_S256x64x512_0_4_0
  have T6 := rtap_is K T5 5 slices_S32x512_S1x512_5_0 slices_S256x94x512_S256x64x512_0_5_0
  have T7 := rtap_is K T6 6 slices_S32x512_S1x512_6_0 slices_S256x94x512_S256x64x512_0_6_0
  have T8 := rtap_is K T7 7 slices_S32x512_S1x512_7_0 slices_S256x94x512_S256x64x512_0_7_0
  have T9 := rtap_is K T8 8 slices_S32x512_S1x512_8_0 slices_S256x94x512_S256x64x512_0_8_0
  have T10 := rtap_is K T9 9 slices_S32x512_S1x512_9_0 slices_S256x94x512_S256x64x512_0_9_0
  have T11 := rtap_is K T10 10 slices_S32x512_S1x512_10_0 slices_S256x94x512_S256x64x512_0_10_0
  have T12 := rtap_is K T11 11 slices_S32x512_S1x512_11_0 slices_S256x94x512_S256x64x512_0_11_0
  have T13 := rtap_is K T12 12 slices_S32x512_S1x512_12_0 slices_S256x94x512_S256x64x512_0_12_0
  have T14 := rtap_is K T13 13 slices_S32x512_S1x512_13_0 slices_S256x94x512_S256x64x512_0_13_0
  have T15 := rtap_is K T14 14 slices_S32x512_S1x512_14_0 slices_S256x94x512_S256x64x512_0_14_0
  have T16 := rtap_is K T15 15 slices_S32x512_S1x512_15_0 slices_S256x94x512_S256x64x512_0_15_0
  have T17 := rtap_is K T16 16 slices_S32x512_S1x512_16_0 slices_S256x94x512_S256x64x512_0_16_0
  have T18 := rtap_is K T17 17 slices_S32x512_S1x512_17_0 slices_S256x94x512_S256x64x512_0_17_0
  have T19 := rtap_is K T18 18 slices_S32x512_S1x512_18_0 slices_S256x94x512_S256x64x512_0_18_0
  have T20 := rtap_is K T19 19 slices_S32x512_S1x512_19_0 slices_S256x94x512_S256x64x512_0_19_0
  have T21 := rtap_is K T20 20 slices_S32x512_S1x512_20_0 slices_S256x94x512_S256x64x512_0_20_0
  have T22 := rtap_is K T21 21 slices_S32x512_S1x512_21_0 slices_S256x94x512_S256x64x512_0_21_0
  have T23 := rtap_is K T22 22 slices_S32x512_S1x512_22_0 slices_S256x94x512_S256x64x512_0_22_0
  have T24 := rtap_is K T23 23 slices_S32x512_S1x512_23_0 slices_S256x94x512_S256x64x512_0_23_0
  have T25 := rtap_is K T24 24 slices_S32x512_S1x512_24_0 slices_S256x94x512_S256x64x512_0_24_0
  have T26 := rtap_is K T25 25 slices_S32x512_S1x512_25_0 slices_S256x94x512_S256x64x512_0_25_0
  have T27 := rtap_is K T26 26 slices_S32x512_S1x512_26_0 slices_S256x94x512_S256x64x512_0_26_0
  have T28 := rtap_is K T27 27 slices_S32x512_S1x512_27_0 slices_S256x94x512_S256x64x512_0_27_0
  have T29 := rtap_is K T28 28 slices_S32x512_S1x512_28_0 slices_S256x94x512_S256x64x512_0_28_0
  have T30 := rtap_is K T29 29 slices_S32x512_S1x512_29_0 slices_S256x94x512_S256x64x512_0_29_0
  have T31 := rtap_is K T30 30 slices_S32x512_S1x512_30_0 slices_S256x94x512_S256x64x512_0_30_0
  exact is_to T31 fun i => sum_r fun j => A.cw ⟨j.val, by omega⟩ (i 2) * A.near ⟨64 * (i 0).val + (i 1).val, by have h0 : (i 0).val < 256 := (i 0).isLt; have h1 : (i 1).val < 64 := (i 1).isLt; omega⟩ j (i 2)
theorem rv278 : Is (s := S16384x512) (val_main_v278 (F := Ideal) x4) (e2 fun _ j => A.cv 0 j) :=
  is_entry K.h4 fun i => ⟨_, (val_main_v278_apply (F := Ideal) x4 i).trans ((val_main_v277_apply (F := Ideal) x4 _).trans ((val_main_v276_apply (F := Ideal) x4 _).trans (val_main_v275_apply (F := Ideal) x4 _))), congrArg₂ A.cv (Fin.ext rfl) (Fin.ext (Nat.mod_eq_of_lt (i 1).isLt))⟩
theorem rv303 : Is (s := S16384x512) (val_main_v303 (F := Ideal) x4) (e2 fun _ j => A.cv 1 j) :=
  is_entry K.h4 fun i => ⟨_, (val_main_v303_apply (F := Ideal) x4 i).trans ((val_main_v302_apply (F := Ideal) x4 _).trans ((val_main_v281_apply (F := Ideal) x4 _).trans (val_main_v280_apply (F := Ideal) x4 _))), congrArg₂ A.cv (Fin.ext rfl) (Fin.ext (Nat.mod_eq_of_lt (i 1).isLt))⟩
theorem rv306 : Is (s := S16384x512) (val_main_v306 (F := Ideal) x4) (e2 fun _ j => A.cv 2 j) :=
  is_entry K.h4 fun i => ⟨_, (val_main_v306_apply (F := Ideal) x4 i).trans ((val_main_v305_apply (F := Ideal) x4 _).trans ((val_main_v283_apply (F := Ideal) x4 _).trans (val_main_v282_apply (F := Ideal) x4 _))), congrArg₂ A.cv (Fin.ext rfl) (Fin.ext (Nat.mod_eq_of_lt (i 1).isLt))⟩
theorem rv279 : Is (s := S16384x512) (val_main_v279 (F := Ideal) x0 x1 x2 x3 x4) (e2 A.y) :=
  is_add (is_entry (g := e2 fun i c => ∑ j : Fin 31, A.cw ⟨j.val, by omega⟩ c * A.near i j c) (rv273 K) fun i => ⟨_, val_main_v274_apply (F := Ideal) x0 x1 x2 x3 i, by
    have h0 : (i 0).val < 16384 := (i 0).isLt
    have h1 : (i 1).val < 512 := (i 1).isLt
    have a0 : (⟨64 * (idx_main_v274 i 0).val + (idx_main_v274 i 1).val, by show 64 * (((i 0).val * 512 + (i 1).val) / 32768) + ((i 0).val * 512 + (i 1).val) / 512 % 64 < 16384; omega⟩ : Fin 16384) = i 0 := Fin.ext (by
      show 64 * (((i 0).val * 512 + (i 1).val) / 32768) + ((i 0).val * 512 + (i 1).val) / 512 % 64 = (i 0).val; omega)
    have a1 : idx_main_v274 i 2 = i 1 := Fin.ext (by show ((i 0).val * 512 + (i 1).val) % 512 = (i 1).val; omega)
    exact congrArg₂ (fun i c => ∑ j : Fin 31, A.cw ⟨j.val, by omega⟩ c * A.near i j c) a0 a1⟩) (rv278 K)
theorem rv284 : Is (s := S16384) (val_main_v284 (F := Ideal) x0 x1 x2 x3 x4) (e1 fun i => ∑ l, A.y i l) := fun i => by
  rw [val_main_v284_apply]
  refine Eq.trans (congrArg (· + _) w_zero) ?_
  rw [EReal.coe_zero, zero_add]
  exact Finset.sum_congr rfl fun k _ => rv279 K _
theorem rv287 : Is (s := S16384x1) (val_main_v287 (F := Ideal) x0 x1 x2 x3 x4) (e2 fun i _ => Ideal.div (∑ l, A.y i l) ((512 : ℝ) : EReal)) :=
  is_hdiv (is_entry (rv284 K) fun i => ⟨_, val_main_v285_apply (F := Ideal) x0 x1 x2 x3 x4 i, rfl⟩) (fun i => (val_main_v286_apply (F := Ideal) i).trans w_512)
theorem rv289 : Is (s := S16384x512) (val_main_v289 (F := Ideal) x0 x1 x2 x3 x4) (e2 fun i c => off (A.y i) c) :=
  is_sub (rv279 K) (is_entry (g := e2 fun i _ => Ideal.div (∑ l, A.y i l) ((512 : ℝ) : EReal)) (rv287 K) fun i => ⟨_, val_main_v288_apply (F := Ideal) x0 x1 x2 x3 x4 i, rfl⟩)
theorem rv291 : Is (s := S16384) (val_main_v291 (F := Ideal) x0 x1 x2 x3 x4) (e1 fun i => ∑ l, off (A.y i) l * off (A.y i) l) := fun i => by
  rw [val_main_v291_apply]
  refine Eq.trans (congrArg (· + _) w_zero) ?_
  rw [EReal.coe_zero, zero_add]
  exact Finset.sum_congr rfl fun k _ => is_mul (s := S16384x512) (φ := .f32) (rv289 K) (rv289 K) _
theorem rv299 : Is (s := S16384x1) (val_main_v299 (F := Ideal) x0 x1 x2 x3 x4) (e2 fun i _ => root 512 (off (A.y i))) :=
  is_hrsqrt (is_add (is_hdiv (is_entry (rv291 K) fun i => ⟨_, val_main_v292_apply (F := Ideal) x0 x1 x2 x3 x4 i, rfl⟩) (fun i => (val_main_v293_apply (F := Ideal) i).trans w_512)) (fun i => (val_main_v297_apply (F := Ideal) i).trans w_eps))
theorem rv307 : Is (s := S16384x512) (val_main_v307 (F := Ideal) x0 x1 x2 x3 x4) (e2 A.z) :=
  is_add (is_mul (is_mul (p := e2 fun i c => off (A.y i) c) (is_sub (rv279 K) (is_entry (g := e2 fun i _ => Ideal.div (∑ l, A.y i l) ((512 : ℝ) : EReal)) (rv287 K) fun i => ⟨_, val_main_v295_apply (F := Ideal) x0 x1 x2 x3 x4 i, rfl⟩))
    (is_entry (g := e2 fun i _ => root 512 (off (A.y i))) (rv299 K) fun i => ⟨_, val_main_v300_apply (F := Ideal) x0 x1 x2 x3 x4 i, rfl⟩)) (rv303 K)) (rv306 K)
theorem rv310 : Is (s := S16384x512) (val_main_v310 (F := Ideal) x0 x1 x2 x3 x4) (e2 A.co) :=
  is_trunc _ (is_mul (rv307 K) (is_hdiv (fun i => (val_main_call2_v4_apply (F := Ideal) i).trans w_one) (is_add (fun i => (val_main_call2_v2_apply (F := Ideal) i).trans w_one) (is_hexp (is_neg (rv307 K))))))
end Reference

/-! The claims. -/

/-- The arguments a device starts from, entry by entry. -/
def read (m : (ℓ : Loc nD τ sig) → Buf (Elt Ideal) ℓ) (c : Dev nD) : In 16384 :=
  ⟨ent 16384 1024 (m ((c : Thread nD τ).loc main_arg0)),
    ent 8 1024 (m ((c : Thread nD τ).loc main_arg1)),
    ent 1024 2688 (m ((c : Thread nD τ).loc main_arg2)),
    ent 32 512 (m ((c : Thread nD τ).loc main_arg3)),
    ent 8 512 (m ((c : Thread nD τ).loc main_arg4)),
    ent 128 512 (m ((c : Thread nD τ).loc main_arg5)),
    ent 1 512 (m ((c : Thread nD τ).loc main_arg6))⟩

theorem reads (m : (ℓ : Loc nD τ sig) → Buf (Elt Ideal) ℓ) (c : Dev nD) : Ins m c (read m c) := by
  constructor
  · exact is_read 16384 1024 (m ((c : Thread nD τ).loc main_arg0))
  · exact is_read 8 1024 (m ((c : Thread nD τ).loc main_arg1))
  · exact is_read 1024 2688 (m ((c : Thread nD τ).loc main_arg2))
  · exact is_read 32 512 (m ((c : Thread nD τ).loc main_arg3))
  · exact is_read 8 512 (m ((c : Thread nD τ).loc main_arg4))
  · exact is_read 128 512 (m ((c : Thread nD τ).loc main_arg5))
  · exact is_read 1 512 (m ((c : Thread nD τ).loc main_arg6))

theorem values : Cert.algebraic_EntryIdeal_EntryRefIdeal := by
  intro m g m' g' _ harg
  refine ⟨fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N, run_blocks m g, ?_⟩
  refine (θ_run _ _ _).mono (fun r h c => ?_) (Cert.EntryRefIdeal.Value.run m' g')
  obtain ⟨e0, e1, e2, e3, e4, e5, e6⟩ := harg c
  have H := reads m c
  let W := StableHlo.launchContents m' c
  have K : Args (read m c) (W (Proc.devRef .tc Cert.EntryRefIdeal.main_arg0)) (W (Proc.devRef .tc Cert.EntryRefIdeal.main_arg1)) (W (Proc.devRef .tc Cert.EntryRefIdeal.main_arg2)) (W (Proc.devRef .tc Cert.EntryRefIdeal.main_arg3)) (W (Proc.devRef .tc Cert.EntryRefIdeal.main_arg4)) (W (Proc.devRef .tc Cert.EntryRefIdeal.main_arg5)) (W (Proc.devRef .tc Cert.EntryRefIdeal.main_arg6)) :=
    ⟨is_eqv e0 H.h0, is_eqv e1 H.h1, is_eqv e2 H.h2, is_eqv e3 H.h3, is_eqv e4 H.h4, is_eqv e5 H.h5, is_eqv e6 H.h6⟩
  obtain ⟨r7, r8, r9, r10, r11, r12, r13, r14, hk⟩ := h c
  refine ⟨r7.trans ((Cert.EntryRefIdeal.Read.val_main_v309_eq W).trans (Eq.trans (funext fun i => is_trunc _ (rv31 K) i) (arr7 H).symm)),
    r8.trans ((Cert.EntryRefIdeal.Read.val_main_v279_eq W).trans (Eq.trans (funext fun i => rv279 K i) (arr8 H).symm)),
    r9.trans ((Cert.EntryRefIdeal.Read.val_main_v310_eq W).trans (Eq.trans (funext fun i => rv310 K i) (arr9 H).symm)),
    r10.trans ((Cert.EntryRefIdeal.Read.val_main_v311_eq W).trans (Eq.trans (funext fun i => is_trunc _ (rv32 K) i) (arr10 H).symm)),
    r11.trans ((Cert.EntryRefIdeal.Read.val_main_v312_eq W).trans (Eq.trans (funext fun i => is_trunc _ (rv33 K) i) (arr11 H).symm)),
    r12.trans ((Cert.EntryRefIdeal.Read.val_main_v313_eq W).trans (Eq.trans (funext fun i => is_trunc _ (rv34 K) i) (arr12 H).symm)),
    r13.trans ((Cert.EntryRefIdeal.Read.val_main_v44_eq W).trans (Eq.trans (funext fun i => rv44 K i) (arr13 H).symm)),
    r14.trans ((Cert.EntryRefIdeal.Read.val_main_v36_eq W).trans (Eq.trans (funext fun i => is_trunc _ (rv35 K) i) (arr14 H).symm)), hk⟩

/-- The reference ends with its arguments unchanged and every counter at zero. -/
theorem frame_ref : Cert.quiescent_EntryRefIdeal := fun m ρ _ =>
  (θ_run Cert.EntryRefIdeal.defs _ _).mono (fun r h => ⟨fun c => (h c).2.2.2.2.2.2.2.2, Idealize.ShloMosaic.sem_eq_zero_of_no_sems (by decide) r.2⟩)
    (Cert.EntryRefIdeal.Value.run (F := Ideal) m ρ)

end Cert.EntryIdeal.Val
-- ==== Proof.StatesSum.lean ====
/-
  The recurrence over 256 tokens summed up: a state that each token scales by `exp a` and adds `b` to ends as the sum of the `b`, each
  scaled by the exponentials after it; and the operations on arrays of reals the states are computed by.
-/
module

public import proofs.«01_k».proof.Proof.Heads
public import Idealize.ShloMosaic.Lib.WordCmp

@[expose] public section

noncomputable section

namespace Cert.States

open Idealize.ShloMosaic Idealize.SL.Sem Cert.Reals

/-- The token a number names. -/
def row (n : ℕ) : Fin 256 := ⟨n % 256, Nat.mod_lt _ (by norm_num)⟩
theorem row_val (i : Fin 256) : row i.val = i := Fin.ext (Nat.mod_eq_of_lt i.isLt)

/-- The state after `n` tokens. -/
def run (a b : ℕ → ℝ) (n : ℕ) : ℝ := ∑ t ∈ Finset.range n, Real.exp (∑ u ∈ Finset.Ico (t + 1) n, a u) * b t

theorem run_zero (a b : ℕ → ℝ) : run a b 0 = 0 := Finset.sum_range_zero _
theorem run_succ (a b : ℕ → ℝ) (n : ℕ) : run a b (n + 1) = Real.exp (a n) * run a b n + b n := by
  unfold run
  rw [Finset.sum_range_succ, Finset.Ico_self, Finset.sum_empty, Real.exp_zero, one_mul, Finset.mul_sum]
  refine congrArg (· + _) (Finset.sum_congr rfl fun t ht => ?_)
  rw [Finset.sum_Ico_succ_top (Finset.mem_range.1 ht), Real.exp_add]
  ring

theorem run_congr {a a' b b' : ℕ → ℝ} {n : ℕ} (ha : ∀ t < n, a t = a' t) (hb : ∀ t < n, b t = b' t) : run a b n = run a' b' n :=
  Finset.sum_congr rfl fun t ht => by
    rw [hb t (Finset.mem_range.1 ht), Finset.sum_congr rfl fun u hu => ha u (Finset.mem_Ico.1 hu).2]

/-- The sum of the tokens before `T`. -/
theorem mask_sum (f : Fin 256 → ℝ) {T : ℕ} (hT : T ≤ 256) : (∑ s : Fin 256, (if s.val < T then 1 else 0) * f s) = ∑ s ∈ Finset.range T, f (row s) := by
  have e : (∑ s : Fin 256, (if s.val < T then 1 else 0) * f s) = ∑ s ∈ Finset.range 256, (if s < T then 1 else 0) * f (row s) := by
    rw [Finset.sum_range]
    exact Finset.sum_congr rfl fun s _ => by rw [row_val]
  rw [e]
  refine (Finset.sum_subset (Finset.range_subset_range.2 hT) fun s _ hs => ?_).symm.trans (Finset.sum_congr rfl fun s hs => ?_)
  · rw [if_neg (by simpa using hs), zero_mul]
  · rw [if_pos (by simpa using hs), one_mul]

/-- From the first token: each is scaled by what the whole sum exceeds its own by. -/
theorem run_forward (f b : Fin 256 → ℝ) :
    run (fun n => f (row n)) (fun n => b (row n)) 256
      = ∑ t : Fin 256, b t * Real.exp ((∑ s : Fin 256, (if s.val < 255 + 1 then 1 else 0) * f s) - ∑ s : Fin 256, (if s.val < t.val + 1 then 1 else 0) * f s) := by
  unfold run
  rw [Finset.sum_range]
  refine Finset.sum_congr rfl fun t _ => ?_
  beta_reduce
  rw [row_val, mask_sum f (by omega), mask_sum f (T := t.val + 1) (by omega), Finset.sum_Ico_eq_sub _ (by omega), mul_comm]

/-- From the last token: each is scaled by the sum of those before it. -/
theorem run_backward (f b : Fin 256 → ℝ) :
    run (fun n => f (row (255 - n))) (fun n => b (row (255 - n))) 256 = ∑ t : Fin 256, b t * Real.exp (∑ s : Fin 256, (if s.val < t.val then 1 else 0) * f s) := by
  unfold run
  rw [← Finset.sum_range_reflect, Finset.sum_range]
  refine Finset.sum_congr rfl fun t _ => ?_
  have ht := t.isLt
  have e : 255 - (256 - 1 - t.val) = t.val := by omega
  have h : (∑ u ∈ Finset.Ico (256 - 1 - t.val + 1) 256, f (row (255 - u))) = ∑ s ∈ Finset.range t.val, f (row s) := by
    rw [Finset.sum_Ico_eq_sum_range, ← Finset.sum_range_reflect (fun s => f (row s)) t.val]
    refine Finset.sum_congr (congrArg Finset.range (by omega)) fun s hs => ?_
    have hs' : s < t.val := by
      have := Finset.mem_range.1 hs
      omega
    exact congrArg (fun n => f (row n)) (by omega)
  beta_reduce
  rw [e, row_val, h, mask_sum f ht.le, mul_comm]

/-- The logistic function's logarithm, written without overflow. -/
theorem log_sigmoid (z : ℝ) : min z 0 - Real.log (1 + Real.exp (0 - max z (-z))) = -Real.log (1 + Real.exp (-z)) := by
  rcases le_total 0 z with h | h
  · rw [min_eq_right h, max_eq_left (by linarith)]
    ring_nf
  · have e : 1 + Real.exp (-z) = Real.exp (-z) * (1 + Real.exp z) := by
      rw [mul_add, mul_one, ← Real.exp_add, neg_add_cancel, Real.exp_zero]
      ring
    rw [min_eq_left h, max_eq_right (by linarith), zero_sub, neg_neg, e, Real.log_mul (Real.exp_pos _).ne' (one_add_exp_pos z).ne', Real.log_exp]
    ring

/-! Operations on arrays of reals. -/

section Elementwise
variable {s : Shape} {a b : FVec Ideal s .f32} {ra rb : s.Idx → ℝ}

theorem log_pos {x : ℝ} (h : 0 < x) : Ideal.log (x : EReal) = ((Real.log x : ℝ) : EReal) := by
  rw [Ideal.log_coe, if_neg (not_le.2 h)]
theorem re_log (ha : Re a ra) (h : ∀ i, 0 < ra i) : Re (s := s) (log a) fun i => Real.log (ra i) :=
  fun i => (congrArg Ideal.log (ha i)).trans (log_pos (h i))
theorem re_hlog (ha : Re a ra) (h : ∀ i, 0 < ra i) : Re (s := s) (Host.log a) fun i => Real.log (ra i) :=
  fun i => (congrArg Ideal.log (ha i)).trans (log_pos (h i))
theorem re_min (ha : Re a ra) (hb : Re b rb) : Re (s := s) (minimumf a b) fun i => min (ra i) (rb i) :=
  fun i => (congrArg₂ (fun x y : EReal => min x y) (ha i) (hb i)).trans (EReal.coe_strictMono.monotone.map_min).symm
theorem re_abs (ha : Re a ra) : Re (s := s) (absf a) fun i => max (ra i) (-ra i) :=
  fun i => (congrArg (fun x : EReal => max x (-x)) (ha i)).trans (EReal.coe_strictMono.monotone.map_max).symm
end Elementwise

theorem w_16 : Ideal.ofBits .f32 0x41800000#32 = ((16 : ℝ) : EReal) := by
  simp [Ideal.ofBits, Ideal.ieee, -EReal.coe_mul]; norm_num
theorem w_inv_16 : Ideal.ofBits .f32 0x3D800000#32 = ((1 / 16 : ℝ) : EReal) := by
  simp [Ideal.ofBits, Ideal.ieee, -EReal.coe_mul]; norm_num

section
variable {n m p q : ℕ} {φ₁ φ₂ : FTy} {prec : Option ContractPrecision}

theorem dotTN {wf} {l : FVec Ideal (⟨2, ![n, p]⟩ : Shape) φ₁} {r : FVec Ideal (⟨2, ![n, q]⟩ : Shape) φ₂} {a : Mat n p} {b : Mat n q}
    (hl : Re l (c2 a)) (hr : Re r (c2 b)) :
    Re (s := ⟨2, ![p, q]⟩) (matmul (Dots.tn n p q wf) prec l r (constant (F := Ideal) (⟨2, ![p, q]⟩ : Shape) .f32 0x00000000#32)) (c2 fun i j => ∑ k, a k i * b k j) :=
  fun i => (Dots.tn_apply wf prec l r i).trans (sum_mul_coe (fun k => hl _) (fun k => hr _))

/-- The rows from the last. -/
theorem flip {v : (⟨2, ![256, m]⟩ : Shape).Idx → EReal} {f : Mat 256 m} (hv : Re v (c2 f)) : Re (s := ⟨2, ![256, m]⟩) (Host.reverse [0] v) (c2 fun i j => f (row (255 - i.val)) j) :=
  of_entry hv fun i => ⟨ValueIdx.ix2 (row (255 - (i 0).val)) (i 1), congrArg v (funext fun a => Fin.ext (by
    have h : (i 0).val < 256 := (i 0).isLt
    match a with
    | ⟨0, _⟩ =>
      show 256 - ((i 0).val + 1) = (255 - (i 0).val) % 256
      omega
    | ⟨1, _⟩ => rfl)), rfl⟩

/-- Two arrays stacked, their columns as eight heads: four of the first and four of the second. -/
theorem both (hm : m = 4 * p) {x y : (⟨2, ![256, m]⟩ : Shape).Idx → EReal} {f g : Mat 256 m} (hx : Re x (c2 f)) (hy : Re y (c2 g))
    (hb : (⟨2, ![256, m]⟩ : Shape).BroadcastsInDim ⟨3, ![256, 1, m]⟩ ![0, 2])
    (hc : Shape.Concatenates [(⟨3, ![256, 1, m]⟩ : Shape), ⟨3, ![256, 1, m]⟩] ⟨3, ![256, 2, m]⟩ 1)
    (hs : (⟨3, ![256, 2, m]⟩ : Shape).ShapeCasts ⟨3, ![256, 8, p]⟩) (hm0 : 1 < m) :
    Re (s := ⟨3, ![256, 8, p]⟩) (shapeCast (⟨3, ![256, 8, p]⟩ : Shape)
        (concatenate (⟨3, ![256, 2, m]⟩ : Shape) 1 [⟨⟨3, ![256, 1, m]⟩, broadcastInDim (⟨3, ![256, 1, m]⟩ : Shape) ![0, 2] hb x⟩, ⟨⟨3, ![256, 1, m]⟩, broadcastInDim (⟨3, ![256, 1, m]⟩ : Shape) ![0, 2] hb y⟩] hc) hs)
      (c3 fun i h d => if h.val < 4 then f i ⟨p * (h.val % 4) + d.val, by have := d.isLt; have : h.val % 4 < 4 := Nat.mod_lt _ (by norm_num); nlinarith⟩ else g i ⟨p * (h.val % 4) + d.val, by have := d.isLt; have : h.val % 4 < 4 := Nat.mod_lt _ (by norm_num); nlinarith⟩) := by
  have bc : ∀ {w : (⟨2, ![256, m]⟩ : Shape).Idx → EReal} (i : Fin 256) (u : Fin 1) (c : Fin m), broadcastInDim (⟨3, ![256, 1, m]⟩ : Shape) ![0, 2] hb w (ValueIdx.ix3 i u c) = w (ValueIdx.ix2 i c) := fun {w} i u c =>
    broadcastInDim_apply _ hb w _ _ fun a => by
      match a with
      | ⟨0, _⟩ => rfl
      | ⟨1, _⟩ =>
        show c.val = if m = 1 then 0 else c.val
        rw [if_neg (by omega)]
  intro i
  have h1 : (i 1).val < 8 := (i 1).isLt
  have h2 : (i 2).val < p := (i 2).isLt
  have hr : (i 1).val % 4 < 4 := Nat.mod_lt _ (by norm_num)
  have hcol : p * ((i 1).val % 4) + (i 2).val < m := by nlinarith
  refine (shapeCast_apply _ hs i (ValueIdx.ix3 (i 0) (⟨(i 1).val / 4, by omega⟩ : Fin 2) ⟨p * ((i 1).val % 4) + (i 2).val, hcol⟩) ?_).trans ?_
  · rw [Shape.rowMajor_val_three, Shape.rowMajor_val_three]
    show ((i 0).val * 2 + (i 1).val / 4) * m + (p * ((i 1).val % 4) + (i 2).val) = ((i 0).val * 8 + (i 1).val) * p + (i 2).val
    obtain ⟨q, r, e⟩ : ∃ q r, (i 1).val / 4 = q ∧ (i 1).val % 4 = r := ⟨_, _, rfl, rfl⟩
    have e1 : (i 1).val = 4 * q + r := by omega
    rw [e.1, e.2, e1, hm]
    ring
  · by_cases h : (i 1).val < 4
    · refine (concatenate_pair_apply_left (t := (⟨3, ![256, 2, m]⟩ : Shape)) (1 : Fin 3) _ _ hc _ rfl (ValueIdx.ix3 (i 0) 0 ⟨p * ((i 1).val % 4) + (i 2).val, hcol⟩) fun b => ?_).trans ((bc _ _ _).trans ((hx _).trans (congrArg Real.toEReal (if_pos h).symm)))
      match b with
      | ⟨0, _⟩ => rfl
      | ⟨1, _⟩ => show 0 = (i 1).val / 4; omega
      | ⟨2, _⟩ => rfl
    · refine (concatenate_pair_apply_right (t := (⟨3, ![256, 2, m]⟩ : Shape)) (1 : Fin 3) _ _ hc _ rfl rfl (ValueIdx.ix3 (i 0) 0 ⟨p * ((i 1).val % 4) + (i 2).val, hcol⟩) (fun b hb => ?_) ?_).trans ((bc _ _ _).trans ((hy _).trans (congrArg Real.toEReal (if_neg h).symm)))
      · match b with
        | ⟨0, _⟩ => rfl
        | ⟨1, _⟩ => exact absurd rfl hb
        | ⟨2, _⟩ => rfl
      · show 0 + 1 = (i 1).val / 4; omega

/-- One token of an array by tokens (host, at a number). -/
theorem token {v : (⟨3, ![256, 8, p]⟩ : Shape).Idx → EReal} {f : Fin 256 → Mat 8 p} (hv : Re v (c3 f)) (j : ℕ) (hj : j < 256) (st : Fin 3 → ℤ) (e0 : st 0 = (j : ℤ)) (e1 : st 1 = 0) (e2 : st 2 = 0)
    (h : (⟨3, ![256, 8, p]⟩ : Shape).Slices (fun _ => 0) ⟨3, ![1, 8, p]⟩) (hc : (⟨3, ![1, 8, p]⟩ : Shape).ShapeCasts ⟨2, ![8, p]⟩) :
    Re (s := ⟨2, ![8, p]⟩) (shapeCast (⟨2, ![8, p]⟩ : Shape) (Host.dynamicSlice (⟨3, ![1, 8, p]⟩ : Shape) v st h) hc) (c2 fun a d => f (row j) a d) := by
  have hk : (⟨3, ![256, 8, p]⟩ : Shape).Slices ![j, 0, 0] ⟨3, ![1, 8, p]⟩ := ⟨rfl, fun a => by
    match a with
    | ⟨0, _⟩ => show j + 1 ≤ 256; omega
    | ⟨1, _⟩ => show 0 + 8 ≤ 8; omega
    | ⟨2, _⟩ => show 0 + p ≤ p; omega⟩
  rw [WordCmp.dynamicSlice_eq_extract _ v st h ![j, 0, 0] hk fun a => by
    match a with
    | ⟨0, _⟩ => exact e0
    | ⟨1, _⟩ => exact e1
    | ⟨2, _⟩ => exact e2]
  refine of_entry hv fun i => ⟨ValueIdx.ix3 (row j) (i 0) (i 1), (shapeCast_apply _ hc i (ValueIdx.ix3 0 (i 0) (i 1)) ?_).trans (extractStridedSlice_apply _ v hk _ _ fun a => ?_), rfl⟩
  · rw [Shape.rowMajor_val_three, Shape.rowMajor_val_two]
    show (0 * 8 + (i 0).val) * p + (i 1).val = (i 0).val * p + (i 1).val
    rw [Nat.zero_mul, Nat.zero_add]
  · match a with
    | ⟨0, _⟩ => show j % 256 = j + 0; omega
    | ⟨1, _⟩ => exact (Nat.zero_add _).symm
    | ⟨2, _⟩ => exact (Nat.zero_add _).symm

/-- A head's keys along every value. -/
theorem keys {v : (⟨2, ![8, 64]⟩ : Shape).Idx → EReal} {f : Mat 8 64} (hv : Re v (c2 f)) (h1 : (⟨2, ![8, 64]⟩ : Shape).BroadcastsInDim ⟨3, ![8, 1, 64]⟩ ![0, 2])
    (h2 : (⟨3, ![8, 1, 64]⟩ : Shape).BroadcastsInDim ⟨3, ![8, 128, 64]⟩ ![0, 1, 2]) :
    Re (broadcastInDim (⟨3, ![8, 128, 64]⟩ : Shape) ![0, 1, 2] h2 (broadcastInDim (⟨3, ![8, 1, 64]⟩ : Shape) ![0, 2] h1 v)) (c3 fun a _ d => f a d) :=
  of_entry hv fun i => ⟨ValueIdx.ix2 (i 0) (i 2), (broadcastInDim_apply _ h2 _ i (ValueIdx.ix3 (i 0) 0 (i 2)) fun a => by
    match a with
    | ⟨0, _⟩ => rfl
    | ⟨1, _⟩ => rfl
    | ⟨2, _⟩ => rfl).trans (broadcastInDim_apply _ h1 v _ _ fun a => by
    match a with
    | ⟨0, _⟩ => rfl
    | ⟨1, _⟩ => rfl), rfl⟩

/-- A head's values along every key. -/
theorem vals {v : (⟨2, ![8, 128]⟩ : Shape).Idx → EReal} {f : Mat 8 128} (hv : Re v (c2 f)) (h1 : (⟨2, ![8, 128]⟩ : Shape).BroadcastsInDim ⟨3, ![8, 128, 1]⟩ ![0, 1])
    (h2 : (⟨3, ![8, 128, 1]⟩ : Shape).BroadcastsInDim ⟨3, ![8, 128, 64]⟩ ![0, 1, 2]) :
    Re (broadcastInDim (⟨3, ![8, 128, 64]⟩ : Shape) ![0, 1, 2] h2 (broadcastInDim (⟨3, ![8, 128, 1]⟩ : Shape) ![0, 1] h1 v)) (c3 fun a e _ => f a e) :=
  of_entry hv fun i => ⟨ValueIdx.ix2 (i 0) (i 1), (broadcastInDim_apply _ h2 _ i (ValueIdx.ix3 (i 0) (i 1) 0) fun a => by
    match a with
    | ⟨0, _⟩ => rfl
    | ⟨1, _⟩ => rfl
    | ⟨2, _⟩ => rfl).trans (broadcastInDim_apply _ h1 v _ _ fun a => by
    match a with
    | ⟨0, _⟩ => rfl
    | ⟨1, _⟩ => rfl), rfl⟩

/-- A comparison of words as the number one or zero. -/
theorem bit (c : Bool) : ((((BitVec.setWidth 32 (BitVec.ofBool c)).toInt : ℝ)) : EReal) = (((if c = true then 1 else 0 : ℝ)) : EReal) := by
  cases c <;> simp

/-- The tokens before `T i`, as ones. -/
theorem mask_re {c : IVec (⟨2, ![256, 256]⟩ : Shape) 1} (T : Fin 256 → ℕ) (hc : ∀ i, c i = BitVec.ofBool (decide ((i 1).val < T (i 0)))) (h : 1 < 32) (hb : FTy.bits .bf16 < FTy.bits .f32) :
    Re (s := ⟨2, ![256, 256]⟩) (truncf (F := Ideal) .bf16 (sitofp (F := Ideal) .f32 (extui 32 c h)) hb) (c2 fun i j => if j.val < T i then 1 else 0) := fun i => by
  show (((BitVec.setWidth 32 (c i)).toInt : ℝ) : EReal) = _
  rw [hc i, bit]
  simp

/-- A masked sum taken in two parts of the summand, the second of them zero. -/
theorem mask_dot {wf} {mk : FVec Ideal (⟨2, ![256, 256]⟩ : Shape) .bf16} {x : FVec Ideal (⟨2, ![256, 256]⟩ : Shape) .f32} {M f : Mat 256 256} (hm : Re mk (c2 M)) (hx : Re x (c2 f))
    (hb : FTy.bits .bf16 < FTy.bits .f32) :
    Re (s := ⟨2, ![256, 256]⟩) (addf (matmul (Dots.nn 256 256 256 wf) none mk (truncf .bf16 x hb) (constant (F := Ideal) (⟨2, ![256, 256]⟩ : Shape) .f32 0x00000000#32))
      (matmul (Dots.nn 256 256 256 wf) none mk (truncf .bf16 (subf x (extf .f32 (truncf .bf16 x hb) hb)) hb) (constant (F := Ideal) (⟨2, ![256, 256]⟩ : Shape) .f32 0x00000000#32)))
      (c2 fun i j => ∑ s, M i s * f s j) :=
  fun i => (add (dotNN hm (Reals.trunc hb hx)) (dotNN (b := fun i j => f i j - f i j) hm (Reals.trunc hb (sub hx (Reals.ext hb (Reals.trunc hb hx))))) i).trans (congrArg Real.toEReal (by
    simp only [c2, sub_self, mul_zero, Finset.sum_const_zero, add_zero]))

end

end Cert.States
-- ==== Proof.StatesVal.lean ====
/-
  The states the context's tokens leave: the array the kernel computes by two products per head is the one the reference computes token
  by token, whenever every entry of the five arguments is a number.
-/
module

public import proofs.«01_k».proof.Proof.StatesSum
public import proofs.«01_k».proof.Proof.FfnVal
public import proofs.«01_k».proof.Proof.Gen.StatesIdeal.Value
public import proofs.«01_k».proof.Proof.Gen.StatesRefIdeal.Step
public import proofs.«01_k».proof.Proof.Gen.Pre_finite_states
public import proofs.«01_k».proof.Defs
public import Idealize.ShloMosaic.Lib.Pipeline.ValueKit

@[expose] public section

noncomputable section

namespace Cert.StatesIdeal.Val

open Cert.StatesIdeal Cert.StatesIdeal.Gen Cert.StatesIdeal.Value Cert.Reals Cert.States
open Idealize.ShloMosaic Idealize.ShloMosaic.TcCoe Idealize.SL.Sem
open Cert.StatesRefIdeal.Step (State step init)

theorem lt31 (i : Fin 256) : i.val < 2 ^ (32 - 1) := by omega

/-- The five arguments: the context, the layer's vectors, the joined projection, the decay's second factor and its bias. -/
structure In where
  x : Mat 256 1024
  v : Mat 8 1024
  w : Mat 1024 2688
  wa : Mat 128 512
  ba : Mat 1 512

/-- The value a number names. -/
def vc (n : ℕ) : Fin 512 := ⟨n % 512, Nat.mod_lt _ (by norm_num)⟩

section
variable (A : In)

/-- The mean square of a token, and the token normalised, scaled and shifted. -/
def ms (i : Fin 256) : ℝ := (∑ j, A.x i j * A.x i j) / 1024 + eps
theorem ms_pos' (i : Fin 256) : 0 < ms A i := by
  have : 0 ≤ ∑ j, A.x i j * A.x i j := Finset.sum_nonneg fun j _ => mul_self_nonneg _
  have := eps_pos
  unfold ms
  positivity
def hid (i : Fin 256) (j : Fin 1024) : ℝ := A.x i j * (Real.sqrt (ms A i))⁻¹ * A.v 0 j * (1 + A.v 2 j) + A.v 1 j

/-- The projection; the keys, the values and the decay's first factor in it. -/
def proj (i : Fin 256) (c : Fin 2688) : ℝ := ∑ l, hid A i l * A.w l c
def key (i c : Fin 256) : ℝ := proj A i ⟨1280 + c.val, by omega⟩
def val (i : Fin 256) (c : Fin 512) : ℝ := proj A i ⟨1536 + c.val, by omega⟩
def low (i : Fin 256) (c : Fin 128) : ℝ := proj A i ⟨2560 + c.val, by omega⟩

/-- The decay's logarithm, in each direction. -/
def gate (i : Fin 256) (c : Fin 512) : ℝ := ∑ e, low A i e * A.wa e c + A.ba 0 c
def dec (i : Fin 256) (c : Fin 512) : ℝ := -Real.log (1 + Real.exp (-gate A i c)) / 16
def decF (i c : Fin 256) : ℝ := dec A i ⟨0 + c.val, by omega⟩
def decB (i c : Fin 256) : ℝ := dec A i ⟨256 + c.val, by omega⟩

/-- What a token's key is scaled by when the last token has passed, in each direction. -/
def wF (t c : Fin 256) : ℝ :=
  Real.exp ((∑ s : Fin 256, (if s.val < 255 + 1 then 1 else 0) * decF A s c) - ∑ s : Fin 256, (if s.val < t.val + 1 then 1 else 0) * decF A s c)
def wB (t c : Fin 256) : ℝ := Real.exp (∑ s : Fin 256, (if s.val < t.val then 1 else 0) * decB A s c)
def scaled (d : ℕ) (t c : Fin 256) : ℝ := key A t c * if d = 0 then wF A t c else wB A t c

/-- The state: direction `d`, pair of heads `p`, value `a`, key `c` of the pair. -/
def out (d p a c : ℕ) : ℝ := ∑ t, val A t (vc (128 * (2 * p + c / 64) + a)) * scaled A d t (row (128 * p + c))

end

/-! The kernel. -/

theorem ld_from {n m p : ℕ} {x : FVec Ideal (⟨2, ![n, m]⟩ : Shape) .bf16} {f : Mat n m} (h : Re x (c2 f)) {o : ℕ} (σ : Fin p → Fin m) (hσ : ∀ l, (σ l).val = o + l.val)
    (inb : ∀ a, (![0, o] : Fin 2 → ℕ) a + (⟨2, ![n, p]⟩ : Shape).size a ≤ (⟨2, ![n, m]⟩ : Shape).size a) :
    Re (s := ⟨2, ![n, p]⟩) (View.ld (Val := Elt Ideal) (e' := .bf16) x (Rect.unit (s := ⟨2, ![n, m]⟩) ![0, o] (⟨2, ![n, p]⟩ : Shape).size inb)) (c2 fun i l => f i (σ l)) := fun i => by
  refine Eq.trans (congrArg x (funext fun a => Fin.ext ?_)) (h (ValueIdx.ix2 (i 0) (σ (i 1))))
  match a with
  | 0 => show 0 + 1 * (i 0).val = (i 0).val; omega
  | 1 => exact (congrArg (o + ·) (Nat.one_mul _)).trans (hσ (i 1)).symm

theorem zero2 : (![0, 0] : Fin 2 → ℕ) = fun _ => 0 := by decide

section
variable {x0 : FVec Ideal S256x1024 .f32} {x1 : FVec Ideal S8x1024 .f32} {x2 : FVec Ideal S1024x2688 .bf16} {x3 : FVec Ideal S128x512 .bf16} {x4 : FVec Ideal S1x512 .f32} {A : In}

/-- The arguments are these real arrays. -/
structure Ins (x0 : FVec Ideal S256x1024 .f32) (x1 : FVec Ideal S8x1024 .f32) (x2 : FVec Ideal S1024x2688 .bf16) (x3 : FVec Ideal S128x512 .bf16)
    (x4 : FVec Ideal S1x512 .f32) (A : In) : Prop where
  h0 : Re x0 (c2 A.x)
  h1 : Re x1 (c2 A.v)
  h2 : Re x2 (c2 A.w)
  h3 : Re x3 (c2 A.wa)
  h4 : Re x4 (c2 A.ba)

variable (H : Ins x0 x1 x2 x3 x4 A)

theorem k4 {v0 : FVec Ideal S256x1024 .f32} {a b c : FVec Ideal S1x1024 .f32} (h0 : Re v0 (c2 A.x)) (ha : Re a (c2 fun _ j => A.v 0 j)) (hb : Re b (c2 fun _ j => A.v 2 j))
    (hc : Re c (c2 fun _ j => A.v 1 j)) : Re (s := S256x1024) (k0_pay4 (F := Ideal) v0 a b c) (c2 (hid A)) :=
  trunc _ (add (mul (mul (mul h0 (cols (f := fun i _ => (Real.sqrt (ms A i))⁻¹) _ (rsqrt (add (div (column (g := fun i => ∑ j, A.x i j * A.x i j) _ (rowSum (f := fun i j => A.x i j * A.x i j) _ _ _ (mul h0 h0))) (splat w_1024) (fun _ => by norm_num)) (splat w_eps)) fun i => ms_pos' A (i 0)))) (rows _ ha))
    (rows (f := fun _ j => 1 + A.v 2 j) _ (add (splat w_one) hb))) (rows _ hc))

theorem mask_lt (i : S256x256.Idx) : cmpi .slt (iota .tc S256x256 32 [1] iota_S256x256_d1_w32) (iota .tc S256x256 32 [0] iota_S256x256_d0_w32) i = BitVec.ofBool (decide ((i 1).val < (i 0).val)) := by
  show IntOp.cmpi .slt (iota .tc S256x256 32 [1] iota_S256x256_d1_w32 i) (iota .tc S256x256 32 [0] iota_S256x256_d0_w32 i) = _
  rw [iota_single_apply, iota_single_apply]
  exact WordCmp.cmpi_slt_ofNat (w := 32) (lt31 (i 1)) (lt31 (i 0))

theorem mask_le (i : S256x256.Idx) : cmpi .sle (iota .tc S256x256 32 [1] iota_S256x256_d1_w32) (iota .tc S256x256 32 [0] iota_S256x256_d0_w32) i = BitVec.ofBool (decide ((i 1).val < (i 0).val + 1)) := by
  show IntOp.cmpi .sle (iota .tc S256x256 32 [1] iota_S256x256_d1_w32 i) (iota .tc S256x256 32 [0] iota_S256x256_d0_w32 i) = _
  rw [iota_single_apply, iota_single_apply]
  exact (WordCmp.cmpi_sle_ofNat (w := 32) (lt31 (i 1)) (lt31 (i 0))).trans (congrArg BitVec.ofBool (decide_eq_decide.2 Nat.lt_succ_iff.symm))

include H

theorem k22 : Re (s := S256x768) (k0_pay22 (F := Ideal) x0 x1 x2 x3 x4) (c2 fun i c => proj A i ⟨1280 + c.val, by omega⟩) := by
  unfold k0_pay22 k0_pay5
  rw [View.ld_unit_zero zero2]
  exact ext _ (trunc _ (dotNN (k4 H.h0 (ld_row H.h1 0 rfl _) (ld_row H.h1 2 rfl _) (ld_row H.h1 1 rfl _)) (ld_from H.h2 (fun c => ⟨1280 + c.val, by omega⟩) (fun _ => rfl) _)))

theorem k23 : Re (s := S256x512) (k0_pay23 (F := Ideal) x0 x1 x2 x3 x4) (c2 (gate A)) := by
  unfold k0_pay23 k0_pay6
  rw [View.ld_unit_zero zero2, View.ld_unit_zero zero2, View.ld_unit_zero zero2]
  exact add (dotNN (trunc _ (dotNN (k4 H.h0 (ld_row H.h1 0 rfl _) (ld_row H.h1 2 rfl _) (ld_row H.h1 1 rfl _)) (ld_from H.h2 (fun c => ⟨2560 + c.val, by omega⟩) (fun _ => rfl) _))) H.h3)
    (rows _ H.h4)

theorem k8 : Re (s := S256x512) (k0_pay8 (k0_pay23 (F := Ideal) x0 x1 x2 x3 x4) (k0_pay24 (F := Ideal) x0 x1 x2 x3 x4)) (c2 (dec A)) :=
  fun i => (mul (sub (re_min (k23 H) (splat w_zero)) (re_log (add (splat w_one) (exp (sub (splat w_zero) (re_abs (k23 H))))) fun _ => one_add_exp_pos _)) (splat w_inv_16) i).trans (congrArg Real.toEReal (by
    show (min (gate A (i 0) (i 1)) 0 - Real.log (1 + Real.exp (0 - max (gate A (i 0) (i 1)) (-gate A (i 0) (i 1))))) * (1 / 16) = _
    rw [log_sigmoid, mul_one_div]
    rfl))

theorem k25 : Re (s := S256x256) (k0_pay25 (F := Ideal) x0 x1 x2 x3 x4) (c2 (wB A)) :=
  exp (mask_dot (wf := dot_S256x256_S256x256_S256x256_1_0_0_1_n_n.wf) (mask_re (fun i => i.val) mask_lt natLt_1_32 bitsLt_bf16_f32)
    (cslice (fun c : Fin 256 => (⟨256 + c.val, by omega⟩ : Fin 512)) (fun _ => rfl) slices_S256x512_o0_256_S256x256 (k8 H)) bitsLt_bf16_f32)

theorem k26 : Re (s := S256x256) (k0_pay26 (F := Ideal) x0 x1 x2 x3 x4) (c2 (key A)) :=
  reTo (cslice (fun c : Fin 256 => (⟨0 + c.val, by omega⟩ : Fin 768)) (fun _ => rfl) slices_S256x768_o0_0_S256x256 (k22 H)) fun i c => congrArg (proj A i) (Fin.ext (by show 1280 + (0 + c.val) = 1280 + c.val; omega))

theorem k27 : Re (s := S256x512) (k0_pay27 (F := Ideal) x0 x1 x2 x3 x4) (c2 (val A)) :=
  trunc _ (reTo (cslice (fun c => ⟨256 + c.val, by omega⟩) (fun _ => rfl) _ (k22 H)) fun i c => congrArg (proj A i) (Fin.ext (by show 1280 + (256 + c.val) = 1536 + c.val; omega)))

theorem k28 : Re (s := S256x256) (k0_pay28 (F := Ideal) x0 x1 x2 x3 x4) (c2 (scaled A 0)) := by
  have hs := mask_dot (wf := dot_S256x256_S256x256_S256x256_1_0_0_1_n_n.wf) (mask_re (fun i => i.val + 1) mask_le natLt_1_32 bitsLt_bf16_f32)
    (cslice (fun c => ⟨0 + c.val, by omega⟩) (fun _ => rfl) slices_S256x512_o0_0_S256x256 (k8 H)) bitsLt_bf16_f32
  exact trunc _ (mul (k26 H) (exp (sub (rows _ (hslice 255 _ hs)) hs)))

theorem k29 : Re (s := S256x256) (k0_pay29 (F := Ideal) x0 x1 x2 x3 x4) (c2 (scaled A 1)) := trunc _ (mul (k26 H) (k25 H))
omit H

/-- One head's product. -/
theorem tile {v : FVec Ideal S256x512 .bf16} {k : FVec Ideal S256x256 .bf16} (d p f : ℕ) (hp : p < 2) (hf : f < 2) (hv : Re v (c2 (val A))) (hk : Re k (c2 (scaled A d))) {qv qk : ℕ}
    (hqv : qv = 128 * (2 * p + f)) (hqk : qk = 64 * (2 * p + f)) (sv : S256x512.Slices ![0, qv] S256x128) (sk : S256x256.Slices ![0, qk] S256x64) :
    Re (s := S128x64) (matmul dot_S256x128_S256x64_S128x64_0_0_1_1_n_n none (extractStridedSlice S256x128 ![0, qv] v sv) (extractStridedSlice S256x64 ![0, qk] k sk) (constant S128x64 .f32 0x00000000#32))
      (c2 fun a b => out A d p a.val (64 * f + b.val)) :=
  reTo (dotTN (cslice (fun a => vc (qv + a.val)) (fun a => by show (qv + a.val) % 512 = _; omega) sv hv) (cslice (fun b => row (qk + b.val)) (fun b => by show (qk + b.val) % 256 = _; omega) sk hk)) fun a b => by
    have e1 : qv + a.val = 128 * (2 * p + (64 * f + b.val) / 64) + a.val := by omega
    have e2 : qk + b.val = 128 * p + (64 * f + b.val) := by omega
    unfold out
    rw [e1, e2]

/-- A head's product where it is stored. -/
theorem piece {T : FVec Ideal S128x64 .f32} (d p f : ℕ) (hT : Re T (c2 fun a b => out A d p a.val (64 * f + b.val))) {q : ℕ} (hq : q = 64 * f)
    (inb : ∀ a, (![d, p, 0, q] : Fin 4 → ℕ) a + S1x1x128x64.size a ≤ S2x2x128x128.size a) (h : S128x64.ShapeCasts S1x1x128x64) (y : S1x1x128x64.Idx) :
    shapeCast S1x1x128x64 T h y = (fun i : S2x2x128x128.Idx => ((out A (i 0).val (i 1).val (i 2).val (i 3).val : ℝ) : EReal)) ((Rect.unit (s := S2x2x128x128) ![d, p, 0, q] S1x1x128x64.size inb).emb y) := by
  have h0 : (y 0).val < 1 := (y 0).isLt
  have h1 : (y 1).val < 1 := (y 1).isLt
  refine (shapeCast_apply T h y (ValueIdx.ix2 (y 2) (y 3)) ?_).trans ((hT _).trans (congrArg Real.toEReal ?_))
  · rw [Shape.rowMajor_val_two, Shape.rowMajor_val_four]
    show (y 2).val * 64 + (y 3).val = (((y 0).val * 1 + (y 1).val) * 128 + (y 2).val) * 64 + (y 3).val
    omega
  · show out A d p (y 2).val (64 * f + (y 3).val) = out A (d + 1 * (y 0).val) (p + 1 * (y 1).val) (0 + 1 * (y 2).val) (q + 1 * (y 3).val)
    have e0 : d + 1 * (y 0).val = d := by omega
    have e1 : p + 1 * (y 1).val = p := by omega
    have e2 : 0 + 1 * (y 2).val = (y 2).val := by omega
    have e3 : q + 1 * (y 3).val = 64 * f + (y 3).val := by omega
    rw [e0, e1, e2, e3]

include H in
/-- The kernel's array. -/
theorem kernel (y : S2x2x128x128.Idx) : G5 (F := Ideal) x0 x1 x2 x3 x4 y = ((out A (y 0).val (y 1).val (y 2).val (y 3).val : ℝ) : EReal) := by
  refine View.canon_apply_of_pieces (Val := Elt Ideal) (e := .f32) (fun i : S2x2x128x128.Idx => ((out A (i 0).val (i 1).val (i 2).val (i 3).val : ℝ) : EReal)) _ ?_ y (cover0_5 (F := Ideal) _ _ _ _ _ _ _ _ y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_nil _⟩⟩⟩⟩⟩⟩⟩⟩
  · exact piece 1 1 1 (tile 1 1 1 (by norm_num) (by norm_num) (k27 H) (k29 H) (qv := 384) (qk := 192) rfl rfl slices_S256x512_o0_384_S256x128 slices_S256x256_o0_192_S256x64) (q := 64) rfl inb_S2x2x128x128_S1x1x128x64_1_1_0_64 shapeCasts_S128x64_S1x1x128x64
  · exact piece 1 1 0 (tile 1 1 0 (by norm_num) (by norm_num) (k27 H) (k29 H) (qv := 256) (qk := 128) rfl rfl slices_S256x512_o0_256_S256x128 slices_S256x256_o0_128_S256x64) (q := 0) rfl inb_S2x2x128x128_S1x1x128x64_1_1_0_0 shapeCasts_S128x64_S1x1x128x64
  · exact piece 1 0 1 (tile 1 0 1 (by norm_num) (by norm_num) (k27 H) (k29 H) (qv := 128) (qk := 64) rfl rfl slices_S256x512_o0_128_S256x128 slices_S256x256_o0_64_S256x64) (q := 64) rfl inb_S2x2x128x128_S1x1x128x64_1_0_0_64 shapeCasts_S128x64_S1x1x128x64
  · exact piece 1 0 0 (tile 1 0 0 (by norm_num) (by norm_num) (k27 H) (k29 H) (qv := 0) (qk := 0) rfl rfl slices_S256x512_o0_0_S256x128 slices_S256x256_o0_0_S256x64) (q := 0) rfl inb_S2x2x128x128_S1x1x128x64_1_0_0_0 shapeCasts_S128x64_S1x1x128x64
  · exact piece 0 1 1 (tile 0 1 1 (by norm_num) (by norm_num) (k27 H) (k28 H) (qv := 384) (qk := 192) rfl rfl slices_S256x512_o0_384_S256x128 slices_S256x256_o0_192_S256x64) (q := 64) rfl inb_S2x2x128x128_S1x1x128x64_0_1_0_64 shapeCasts_S128x64_S1x1x128x64
  · exact piece 0 1 0 (tile 0 1 0 (by norm_num) (by norm_num) (k27 H) (k28 H) (qv := 256) (qk := 128) rfl rfl slices_S256x512_o0_256_S256x128 slices_S256x256_o0_128_S256x64) (q := 0) rfl inb_S2x2x128x128_S1x1x128x64_0_1_0_0 shapeCasts_S128x64_S1x1x128x64
  · exact piece 0 0 1 (tile 0 0 1 (by norm_num) (by norm_num) (k27 H) (k28 H) (qv := 128) (qk := 64) rfl rfl slices_S256x512_o0_128_S256x128 slices_S256x256_o0_64_S256x64) (q := 64) rfl inb_S2x2x128x128_S1x1x128x64_0_0_0_64 shapeCasts_S128x64_S1x1x128x64
  · exact piece 0 0 0 (tile 0 0 0 (by norm_num) (by norm_num) (k27 H) (k28 H) (qv := 0) (qk := 0) rfl rfl slices_S256x512_o0_0_S256x128 slices_S256x256_o0_0_S256x64) (q := 0) rfl inb_S2x2x128x128_S1x1x128x64_0_0_0_0 shapeCasts_S128x64_S1x1x128x64

end

end Cert.StatesIdeal.Val
-- ==== Proof.StatesRef.lean ====
/-
  The states the context's tokens leave: what the token by token program computes, and that it is what the kernel computes.
-/
module

public import proofs.«01_k».proof.Proof.StatesVal

@[expose] public section

noncomputable section

namespace Cert.States.Reference

open Cert.StatesRefIdeal Cert.StatesRefIdeal.Gen Cert.StatesRefIdeal.Step Cert.Reals Cert.States
open Cert.StatesIdeal.Val hiding val
open Idealize.ShloMosaic Idealize.ShloMosaic.TcCoe Idealize.SL.Sem

theorem hrows {n m : ℕ} {v : (⟨2, ![1, m]⟩ : Shape).Idx → EReal} {f : Fin m → ℝ} (h : (⟨2, ![1, m]⟩ : Shape).BroadcastsInDim ⟨2, ![n, m]⟩ ![0, 1]) (hv : Re v (c2 fun _ j => f j)) :
    Re (broadcastInDim (⟨2, ![n, m]⟩ : Shape) ![0, 1] h v) (c2 fun _ j => f j) :=
  of_entry hv fun i => ⟨ValueIdx.ix2 0 (i 1), broadcastInDim_apply _ h v i _ fun a => by
    match a with
    | ⟨0, _⟩ => rfl
    | ⟨1, _⟩ =>
      show (i 1).val = if m = 1 then 0 else (i 1).val
      have h1 : (i 1).val < m := (i 1).isLt
      split <;> omega, rfl⟩

section
variable {a0 : FVec Ideal S256x1024 .f32} {a1 : FVec Ideal S8x1024 .f32} {a2 : FVec Ideal S1024x2688 .bf16} {a3 : FVec Ideal S128x512 .bf16} {a4 : FVec Ideal S1x512 .f32} {A : In}

variable (H : Ins a0 a1 a2 a3 a4 A)
include H

theorem r8 : Re (s := ⟨2, ![256, 1]⟩) (A_main_v8 (F := Ideal) a0 a1 a2 a3 a4) (c2 fun i _ => ms A i) := by
  unfold A_main_v8 A_main_v6 A_main_v4 A_main_v3 A_main_v2 K_main_v7 K_main_v5 K_main_cst K_main_cst_0 K_main_cst_1
  exact add (hdiv (hcol (f := fun i => ∑ j, A.x i j * A.x i j) _ (hrowSum (f := fun i j => A.x i j * A.x i j) _ (by decide) _ (mul H.h0 H.h0) fun _ => w_zero)) (hscal _ fun _ => w_1024) fun _ => by norm_num)
    (hscal _ fun _ => w_eps)

theorem r26 : Re (s := ⟨2, ![256, 1024]⟩) (A_main_v26 (F := Ideal) a0 a1 a2 a3 a4) (c2 (hid A)) := by
  unfold A_main_v26 A_main_v23 A_main_v14 A_main_v11 A_main_v10 A_main_v9 A_main_v13 A_main_v12 A_main_v1 A_main_v0 A_main_v22 A_main_v21 A_main_v20 A_main_v18 A_main_v17 A_main_v25 A_main_v24 A_main_v16
    A_main_v15 K_main_v19 K_main_cst_2
  exact add (mul (mul (mul H.h0 (hcols (f := fun i _ => (Real.sqrt (ms A i))⁻¹) _ (hrsqrt (r8 H) fun i => ms_pos' A (i 0)))) (hrows _ (hrow (f := A.v 0) _ (squeeze (f := fun _ => A.v 0) _ (hslice 0 _ H.h1)))))
    (hrows _ (hrow (f := fun j => 1 + A.v 2 j) _ (add (hscal _ fun _ => w_one) (squeeze (f := fun _ => A.v 2) _ (hslice 2 _ H.h1)))))) (hrows _ (hrow (f := A.v 1) _ (squeeze (f := fun _ => A.v 1) _ (hslice 1 _ H.h1))))

theorem r30 : Re (s := ⟨2, ![256, 2688]⟩) (A_main_v30 (F := Ideal) a0 a1 a2 a3 a4) (c2 (proj A)) := by
  unfold A_main_v30 A_main_v29 A_main_v28 A_main_v27
  exact host_dotNN (ext _ (trunc _ (r26 H))) (ext _ H.h2)

theorem r37 : Re (s := ⟨2, ![256, 256]⟩) (A_main_v37 (F := Ideal) a0 a1 a2 a3 a4) (c2 (key A)) := by
  unfold A_main_v37 A_main_v36 A_main_v32
  exact ext _ (trunc _ (cslice (fun c : Fin 256 => (⟨1280 + c.val, by omega⟩ : Fin 2688)) (fun _ => rfl) _ (r30 H)))

theorem r39 : Re (s := ⟨2, ![256, 512]⟩) (A_main_v39 (F := Ideal) a0 a1 a2 a3 a4) (c2 (Cert.StatesIdeal.Val.val A)) := by
  unfold A_main_v39 A_main_v38 A_main_v33
  exact ext _ (trunc _ (cslice (fun c : Fin 512 => (⟨1536 + c.val, by omega⟩ : Fin 2688)) (fun _ => rfl) _ (r30 H)))

theorem r45 : Re (s := ⟨2, ![256, 512]⟩) (A_main_v45 (F := Ideal) a0 a1 a2 a3 a4) (c2 (gate A)) := by
  unfold A_main_v45 A_main_v44 A_main_v43 A_main_v42 A_main_v41 A_main_v40 A_main_v35
  exact add (host_dotNN (ext _ (trunc _ (cslice (fun c : Fin 128 => (⟨2560 + c.val, by omega⟩ : Fin 2688)) (fun _ => rfl) _ (r30 H)))) (ext _ H.h3))
    (hrows (f := A.ba 0) _ (reTo H.h4 fun i j => by rw [Subsingleton.elim i 0]))

theorem r53 : Re (s := ⟨2, ![256, 512]⟩) (A_main_v53 (F := Ideal) a0 a1 a2 a3 a4) (c2 (dec A)) := by
  unfold A_main_v53 A_main_v51 A_main_v50 A_main_v49 A_main_v47 A_main_v46 K_main_v52 K_main_v48 K_main_cst_3 K_main_cst_4
  exact hdiv (neg (re_hlog (add (hscal _ fun _ => w_one) (hexp (neg (r45 H)))) fun _ => one_add_exp_pos _)) (hscal _ fun _ => w_16) fun _ => by norm_num

omit H
/-- A head's keys, values and decays, token by token: the last four heads' tokens come from the last. -/
def col (h c : ℕ) : Fin 256 := row (64 * (h % 4) + c)
def at' (h : ℕ) (i : Fin 256) : Fin 256 := if h < 4 then i else row (255 - i.val)
def KH (A : In) (i : Fin 256) (h : Fin 8) (d : Fin 64) : ℝ := key A (at' h.val i) (col h.val d.val)
def VH (A : In) (i : Fin 256) (h : Fin 8) (a : Fin 128) : ℝ := Cert.StatesIdeal.Val.val A (at' h.val i) (vc (128 * (h.val % 4) + a.val))
def LA (A : In) (i : Fin 256) (h : Fin 8) (d : Fin 64) : ℝ := if h.val < 4 then decF A i (col h.val d.val) else decB A (row (255 - i.val)) (col h.val d.val)

theorem row_mk {n : ℕ} (h : n < 256) : (⟨n, h⟩ : Fin 256) = row n := Fin.ext (Nat.mod_eq_of_lt h).symm
theorem vc_mk {n : ℕ} (h : n < 512) : (⟨n, h⟩ : Fin 512) = vc n := Fin.ext (Nat.mod_eq_of_lt h).symm

include H
theorem r59 : Re (s := ⟨3, ![256, 8, 64]⟩) (A_main_v59 (F := Ideal) a0 a1 a2 a3 a4) (c3 (KH A)) := by
  unfold A_main_v59 A_main_v58 A_main_v57 A_main_v56 A_main_v55
  refine reTo3 (both rfl (r37 H) (flip (r37 H)) _ _ _ (by norm_num)) fun i h d => ?_
  rw [row_mk]
  unfold KH at' col
  split <;> rfl

theorem r64 : Re (s := ⟨3, ![256, 8, 128]⟩) (A_main_v64 (F := Ideal) a0 a1 a2 a3 a4) (c3 (VH A)) := by
  unfold A_main_v64 A_main_v63 A_main_v62 A_main_v61 A_main_v60
  refine reTo3 (both rfl (r39 H) (flip (r39 H)) _ _ _ (by norm_num)) fun i h d => ?_
  rw [vc_mk]
  unfold VH at'
  split <;> rfl

theorem r71 : Re (s := ⟨3, ![256, 8, 64]⟩) (A_main_v71 (F := Ideal) a0 a1 a2 a3 a4) (c3 (LA A)) := by
  unfold A_main_v71 A_main_v70 A_main_v69 A_main_v68 A_main_v67 A_main_v66 A_main_v65
  refine reTo3 (both rfl (cslice (fun c : Fin 256 => (⟨0 + c.val, by omega⟩ : Fin 512)) (fun _ => rfl) slices_S256x512_S256x256_0_0 (r53 H))
    (flip (cslice (fun c : Fin 256 => (⟨256 + c.val, by omega⟩ : Fin 512)) (fun _ => rfl) slices_S256x512_S256x256_0_256 (r53 H))) _ _ _ (by norm_num)) fun i h d => ?_
  rw [row_mk]
  rfl
omit H
end

/-! The loop. -/

/-- The state after `n` tokens. -/
def stage (A : In) (n : ℕ) (h : Fin 8) (a : Fin 128) (d : Fin 64) : ℝ := run (fun t => LA A (row t) h d) (fun t => VH A (row t) h a * KH A (row t) h d) n

structure Inv (A : In) (n : ℕ) (s : State Ideal) : Prop where
  h4 : Re (s := ⟨3, ![8, 128, 64]⟩) s.main_v72_4 (c3 (stage A n))
  h0 : Re (s := ⟨3, ![256, 8, 64]⟩) s.main_v72_0 (c3 (KH A))
  h1 : Re (s := ⟨3, ![256, 8, 128]⟩) s.main_v72_1 (c3 (VH A))
  h2 : Re (s := ⟨3, ![256, 8, 64]⟩) s.main_v72_2 (c3 (LA A))

theorem word {j : ℕ} (hj : j < 256) : (BitVec.ofNat 32 j).toInt = (j : ℤ) := by
  rw [BitVec.toInt_eq_toNat_of_lt (by rw [BitVec.toNat_ofNat]; omega), BitVec.toNat_ofNat]
  omega

theorem inv_step {A : In} {j : ℕ} {s : State Ideal} (hj : j < 256) (I : Inv A j s) : Inv A (j + 1) (step j s) where
  h4 := by
    unfold step b21 b20 b19 b18 b17 b16 b15 b14 b13 b12
    have hl : Re (s := ⟨2, ![8, 64]⟩) (b11 j s) (c2 fun h d => LA A (row j) h d) := by
      unfold b11 b10 b9 b8
      exact token I.h2 j hj _ (word hj) rfl rfl _ _
    have hv : Re (s := ⟨2, ![8, 128]⟩) (b7 j s) (c2 fun h a => VH A (row j) h a) := by
      unfold b7 b6 b5 b4
      exact token I.h1 j hj _ (word hj) rfl rfl _ _
    have hk : Re (s := ⟨2, ![8, 64]⟩) (b3 j s) (c2 fun h d => KH A (row j) h d) := by
      unfold b3 b2 b1 b0
      exact token I.h0 j hj _ (word hj) rfl rfl _ _
    exact fun i => (add (mul (keys (f := fun h d => Real.exp (LA A (row j) h d)) (hexp hl) _ _) I.h4) (mul (vals hv _ _) (keys hk _ _)) i).trans (congrArg Real.toEReal
      (run_succ (fun t => LA A (row t) (i 0) (i 2)) (fun t => VH A (row t) (i 0) (i 1) * KH A (row t) (i 0) (i 2)) j).symm)
  h0 := I.h0
  h1 := I.h1
  h2 := I.h2

theorem inv_init {a0 : FVec Ideal S256x1024 .f32} {a1 : FVec Ideal S8x1024 .f32} {a2 : FVec Ideal S1024x2688 .bf16} {a3 : FVec Ideal S128x512 .bf16} {a4 : FVec Ideal S1x512 .f32} {A : In} (H : Ins a0 a1 a2 a3 a4 A) :
    Inv A 0 (init (F := Ideal) a0 a1 a2 a3 a4) where
  h4 := by
    have h : Re (s := ⟨3, ![8, 128, 64]⟩) (K_main_v54 (F := Ideal)) (c0 0) := hscal _ fun _ => w_zero
    exact fun i => (h i).trans (congrArg Real.toEReal (run_zero _ _).symm)
  h0 := r59 H
  h1 := r64 H
  h2 := r71 H

/-- What is read off the last state. -/
theorem result {s : State Ideal} {G : Fin 8 → Mat 128 64} (h : Re (s := ⟨3, ![8, 128, 64]⟩) s.main_v72_4 (c3 G)) (y : S2x2x128x128.Idx) (hh : 4 * (y 0).val + 2 * (y 1).val + (y 3).val / 64 < 8) (hd : (y 3).val % 64 < 64) :
    R_main_v75 (F := Ideal) s y = ((G ⟨_, hh⟩ (y 2) ⟨_, hd⟩ : ℝ) : EReal) := by
  have h3 : (y 3).val < 128 := (y 3).isLt
  unfold R_main_v75
  refine (shapeCast_apply _ _ y (ValueIdx.ix5 (y 0) (y 1) (y 2) (⟨(y 3).val / 64, by omega⟩ : Fin 2) (⟨(y 3).val % 64, hd⟩ : Fin 64)) ?_).trans ((transpose_apply _ _ _ _
    (ValueIdx.ix5 (y 0) (y 1) (⟨(y 3).val / 64, by omega⟩ : Fin 2) (y 2) (⟨(y 3).val % 64, hd⟩ : Fin 64)) fun b => ?_).trans ((shapeCast_apply _ _ _ (ValueIdx.ix3 (⟨_, hh⟩ : Fin 8) (y 2) ⟨_, hd⟩) ?_).trans (h _)))
  · refine (Shape.rowMajor_val_five _).trans (Eq.trans ?_ (Shape.rowMajor_val_four _).symm)
    show (((((y 0).val * 2 + (y 1).val) * 128 + (y 2).val) * 2 + (y 3).val / 64) * 64 + (y 3).val % 64) = (((y 0).val * 2 + (y 1).val) * 128 + (y 2).val) * 128 + (y 3).val
    omega
  · match b with
    | ⟨0, _⟩ => rfl
    | ⟨1, _⟩ => rfl
    | ⟨2, _⟩ => rfl
    | ⟨3, _⟩ => rfl
    | ⟨4, _⟩ => rfl
  · refine (Shape.rowMajor_val_three _).trans (Eq.trans ?_ (Shape.rowMajor_val_five _).symm)
    show ((4 * (y 0).val + 2 * (y 1).val + (y 3).val / 64) * 128 + (y 2).val) * 64 + (y 3).val % 64 = ((((y 0).val * 2 + (y 1).val) * 2 + (y 3).val / 64) * 128 + (y 2).val) * 64 + (y 3).val % 64
    omega

/-- The recurrence, summed. -/
theorem summed (A : In) {d p a c : ℕ} (hd : d < 2) (hp : p < 2) (ha : a < 128) (hc : c < 128) (hh : 4 * d + 2 * p + c / 64 < 8) (hk : c % 64 < 64) : stage A 256 ⟨_, hh⟩ ⟨a, ha⟩ ⟨_, hk⟩ = out A d p a c := by
  have e4 : (4 * d + 2 * p + c / 64) % 4 = 2 * p + c / 64 := by omega
  have e64 : 64 * (2 * p + c / 64) + c % 64 = 128 * p + c := by omega
  unfold stage out KH VH LA col
  rcases Nat.lt_or_ge 0 d with h | h
  · obtain rfl : d = 1 := by omega
    have h4 : ¬(4 * 1 + 2 * p + c / 64 < 4) := by omega
    simp only [at', if_neg h4, e4, e64]
    refine (run_congr (a' := fun n => decB A (row (255 - n)) (row (128 * p + c))) (b' := fun n => (fun t => Cert.StatesIdeal.Val.val A t (vc (128 * (2 * p + c / 64) + a)) * key A t (row (128 * p + c))) (row (255 - n)))
      (fun t ht => ?_) (fun t ht => ?_)).trans ((run_backward (fun t => decB A t (row (128 * p + c))) (fun t => Cert.StatesIdeal.Val.val A t (vc (128 * (2 * p + c / 64) + a)) * key A t (row (128 * p + c)))).trans (Finset.sum_congr rfl fun t _ => ?_))
    · rw [show (row t).val = t from Nat.mod_eq_of_lt ht]
    · rw [show (row t).val = t from Nat.mod_eq_of_lt ht]
    · exact mul_assoc _ _ _
  · obtain rfl : d = 0 := by omega
    have h4 : 4 * 0 + 2 * p + c / 64 < 4 := by omega
    simp only [at', if_pos h4, e4, e64]
    exact (run_forward (fun t => decF A t (row (128 * p + c))) (fun t => Cert.StatesIdeal.Val.val A t (vc (128 * (2 * p + c / 64) + a)) * key A t (row (128 * p + c)))).trans (Finset.sum_congr rfl fun t _ => mul_assoc _ _ _)

end Cert.States.Reference

end
-- ==== Proof.StatesRun.lean ====
/-
  The token by token program's run: its result is read from state number 256 of any sequence of states that starts where the loop starts
  and goes on by one token's step.
-/
module

public import proofs.«01_k».proof.Proof.Gen.StatesRefIdeal.Run
public import proofs.«01_k».proof.Proof.Gen.StatesRefIdeal.Step

@[expose] public section

noncomputable section

namespace Cert.States.Run

open Idealize.ShloMosaic Idealize.ShloMosaic.TcCoe Idealize.SL.Sem Idealize.ShloMosaic.StableHlo
open Cert.StatesRefIdeal Cert.StatesRefIdeal.Gen Cert.StatesRefIdeal.Value
open Cert.StatesRefIdeal.Step (State step init)

variable {F : FTy → Type} [FloatOps F] {V0 : Valuation τ sig (Elt F)} {s : State F} {j : ℕ}

/-- The buffers the loop carries hold the state and the token's number. -/
structure Holds (V0 : Valuation τ sig (Elt F)) (s : State F) (j : ℕ) : Prop where
  f4 : V0 (Proc.devRef .tc main_v72_4) = s.main_v72_4
  f0 : V0 (Proc.devRef .tc main_v72_0) = s.main_v72_0
  f1 : V0 (Proc.devRef .tc main_v72_1) = s.main_v72_1
  f2 : V0 (Proc.devRef .tc main_v72_2) = s.main_v72_2
  n3 : V0 (Proc.devRef .tc main_v72_3) = constantI S_ 32 (BitVec.ofNat 32 j)

open Cert.StatesRefIdeal.Step in
set_option maxRecDepth 8192 in
theorem holds_step (h : Holds V0 s j) : Holds (STEP V0) (step j s) (j + 1) where
  f4 := (STEP_main_v72_4 V0).trans (by
    unfold Value.step_main_v72_4 Cert.StatesRefIdeal.Step.step b21 b20 b19 b18 b17 b16 b15 b14 b13 b12 b11 b10 b9 b8 b7 b6 b5 b4 b3 b2 b1 b0
    rw [h.f4, h.f0, h.f1, h.f2, h.n3]
    rfl)
  n3 := (STEP_main_v72_3 V0).trans (by
    unfold step_main_v72_3
    rw [h.n3]
    funext i
    show BitVec.ofNat 32 j + 1#32 = BitVec.ofNat 32 (j + 1)
    simp only [BitVec.ofNat_add])
  f0 := (STEP_main_v72_0 V0).trans h.f0
  f1 := (STEP_main_v72_1 V0).trans h.f1
  f2 := (STEP_main_v72_2 V0).trans h.f2

/-- The state the loop starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4))

variable (m : (ℓ : Loc nD τ sig) → Buf (Elt F) ℓ) (c : Dev nD)

set_option maxRecDepth 65536 in
set_option maxHeartbeats 4000000 in
theorem entry_holds : Holds (entryContents preI m c) (initState m c) 0 := by
  constructor <;> (simp only [entryContents, afterL_cons, afterL_nil]; after_reads_simp) <;> rfl

theorem holds_iter (it : ℕ → State F) (h0 : it 0 = initState m c) (hs : ∀ n, it (n + 1) = step n (it n)) : ∀ k, Holds (STEP^[k] (entryContents preI m c)) (it k) k
  | 0 => h0 ▸ entry_holds m c
  | k + 1 => by
    rw [Function.iterate_succ_apply', hs k]
    exact holds_step (holds_iter it h0 hs k)

set_option maxRecDepth 8192 in
theorem run_iter (ρ : Dev nD → PrngReg) (it : Dev nD → ℕ → State F) (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v75) = Cert.StatesRefIdeal.Step.R_main_v75 (it c 256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
    unfold out_main_v75 Cert.StatesRefIdeal.Step.R_main_v75
    rw [(holds_iter m c (it c) (h0 c) (hs c) 256).f4]
    rfl), (h c).2⟩) (Value.run m ρ)

end Cert.States.Run

end
-- ==== Proof.StatesEq.lean ====
/-
  The states the context's tokens leave: the kernel's array is the token by token program's, whenever every entry of the five arguments is
  a number.
-/
module

public import proofs.«01_k».proof.Proof.StatesRef
public import proofs.«01_k».proof.Proof.StatesRun
public import Idealize.ShloMosaic.Lib.Quiescent

@[expose] public section

noncomputable section

namespace Cert.States.Eq

open Cert.Reals Cert.States.Reference Cert.States.Run
open Cert.StatesIdeal.Val hiding val
open Cert.StatesRefIdeal.Step (State step init)
open Idealize.ShloMosaic Idealize.ShloMosaic.TcCoe Idealize.SL.Sem

theorem values : Cert.algebraic_StatesIdeal_StatesRefIdeal_pre_finite_states (hPre_finite_states := Cert.Pre_finite_states.Gen.facts) := by
  intro m g m' g' hpre harg
  refine ⟨fun c => Cert.StatesIdeal.Value.G5 (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1))
    (m ((c.tc : Thread Cert.StatesIdeal.nD Cert.StatesIdeal.τ).loc Cert.StatesIdeal.main_arg2)) (m ((c.tc : Thread Cert.StatesIdeal.nD Cert.StatesIdeal.τ).loc Cert.StatesIdeal.main_arg3))
    (m ((c.tc : Thread Cert.StatesIdeal.nD Cert.StatesIdeal.τ).loc Cert.StatesIdeal.main_arg4)), Cert.StatesIdeal.Value.run m g, ?_⟩
  refine (θ_run _ _ _).mono (fun r h c => ?_) (run_iter m' g' (fun c n => Nat.rec (motive := fun _ => State Ideal) (initState m' c) (fun n s => step n s) n) (fun _ => rfl) fun _ _ => rfl)
  obtain ⟨r5, hk⟩ := h c
  refine ⟨r5.trans ?_, hk⟩
  obtain ⟨e0, e1, e2, e3, e4⟩ := harg c
  obtain ⟨p0, p1, p2, p3, p4⟩ := hpre c
  obtain ⟨A, H⟩ : ∃ A, Ins (m ((c.tc : Thread Cert.StatesIdeal.nD Cert.StatesIdeal.τ).loc Cert.StatesIdeal.main_arg0)) (m ((c.tc : Thread Cert.StatesIdeal.nD Cert.StatesIdeal.τ).loc Cert.StatesIdeal.main_arg1))
      (m ((c.tc : Thread Cert.StatesIdeal.nD Cert.StatesIdeal.τ).loc Cert.StatesIdeal.main_arg2)) (m ((c.tc : Thread Cert.StatesIdeal.nD Cert.StatesIdeal.τ).loc Cert.StatesIdeal.main_arg3))
      (m ((c.tc : Thread Cert.StatesIdeal.nD Cert.StatesIdeal.τ).loc Cert.StatesIdeal.main_arg4)) A :=
    ⟨⟨_, _, _, _, _⟩, Cert.FfnIdeal.Val.re_of_entries fun i => Cert.FfnIdeal.Val.real_of_mask (congrFun p0 i), Cert.FfnIdeal.Val.re_of_entries fun i => Cert.FfnIdeal.Val.real_of_mask (congrFun p1 i),
      Cert.FfnIdeal.Val.re_of_entries fun i => Cert.FfnIdeal.Val.real_of_mask (congrFun p2 i), Cert.FfnIdeal.Val.re_of_entries fun i => Cert.FfnIdeal.Val.real_of_mask (congrFun p3 i),
      Cert.FfnIdeal.Val.re_of_entries fun i => Cert.FfnIdeal.Val.real_of_mask (congrFun p4 i)⟩
  have I : ∀ n ≤ 256, Inv A n (Nat.rec (motive := fun _ => State Ideal) (initState m' c) (fun n s => step n s) n) := by
    intro n
    induction n with
    | zero =>
      intro _
      show Inv A 0 (init _ _ _ _ _)
      rw [e0, e1, e2, e3, e4]
      exact inv_init H
    | succ n ih => exact fun hn => inv_step (by omega) (ih (by omega))
  funext y
  have h0 : (y 0).val < 2 := (y 0).isLt
  have h1 : (y 1).val < 2 := (y 1).isLt
  have h2 : (y 2).val < 128 := (y 2).isLt
  have h3 : (y 3).val < 128 := (y 3).isLt
  refine (result (I 256 le_rfl).h4 y (by omega) (by omega)).trans (Eq.trans (congrArg Real.toEReal ?_) (kernel H y).symm)
  exact summed _ h0 h1 h2 h3 (by omega) (by omega)

/-- The reference ends with its arguments unchanged and every counter at zero. -/
theorem frame_ref : Cert.quiescent_StatesRefIdeal := fun m ρ _ =>
  (θ_run Cert.StatesRefIdeal.defs _ _).mono (fun r h => ⟨fun c => (h c).2, Idealize.ShloMosaic.sem_eq_zero_of_no_sems (by decide) r.2⟩) (Cert.StatesRefIdeal.Value.run (F := Ideal) m ρ)

end Cert.States.Eq

end
-- ==== Proof.lean ====
module

public import proofs.«01_k».proof.Defs
public import proofs.«01_k».proof.Proof.Gen.Pre_finite
public import proofs.«01_k».proof.Proof.Gen.Pre_finite_ctx
public import proofs.«01_k».proof.Proof.Gen.Pre_finite_merge
public import proofs.«01_k».proof.Proof.Gen.Pre_finite_states
public import proofs.«01_k».proof.Proof.Gen.Kernel
public import proofs.«01_k».proof.Proof.Gen.KernelIdeal
public import proofs.«01_k».proof.Proof.Same
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.FfnVal
public import proofs.«01_k».proof.Proof.Gen.WgradGate
public import proofs.«01_k».proof.Proof.Gen.WgradGate.Frame
public import proofs.«01_k».proof.Proof.Gen.WgradGateIdeal
public import proofs.«01_k».proof.Proof.Gen.WgradGateIdeal.Frame
public import proofs.«01_k».proof.Proof.Gen.WgradGateIdeal.Value
public import proofs.«01_k».proof.Proof.Gen.WgradGateRefIdeal
public import proofs.«01_k».proof.Proof.Gen.WgradGateRefIdeal.Run
public import proofs.«01_k».proof.Proof.Gen.WgradGateRefIdeal.Read
public import proofs.«01_k».proof.Proof.WgradGateVal
public import proofs.«01_k».proof.Proof.Gen.WgradDown
public import proofs.«01_k».proof.Proof.Gen.WgradDown.Frame
public import proofs.«01_k».proof.Proof.Gen.WgradDownIdeal
public import proofs.«01_k».proof.Proof.Gen.WgradDownIdeal.Frame
public import proofs.«01_k».proof.Proof.Gen.WgradDownIdeal.Value
public import proofs.«01_k».proof.Proof.Gen.WgradDownRefIdeal
public import proofs.«01_k».proof.Proof.Gen.WgradDownRefIdeal.Run
public import proofs.«01_k».proof.Proof.Gen.WgradDownRefIdeal.Read
public import proofs.«01_k».proof.Proof.WgradDownVal
public import proofs.«01_k».proof.Proof.Gen.WgradOut
public import proofs.«01_k».proof.Proof.Gen.WgradOut.Frame
public import proofs.«01_k».proof.Proof.Gen.WgradOutIdeal
public import proofs.«01_k».proof.Proof.Gen.WgradOutIdeal.Frame
public import proofs.«01_k».proof.Proof.Gen.WgradOutIdeal.Value
public import proofs.«01_k».proof.Proof.Gen.WgradOutRefIdeal
public import proofs.«01_k».proof.Proof.Gen.WgradOutRefIdeal.Run
public import proofs.«01_k».proof.Proof.Gen.WgradOutRefIdeal.Read
public import proofs.«01_k».proof.Proof.WgradOutVal
public import proofs.«01_k».proof.Proof.Gen.WgradIn
public import proofs.«01_k».proof.Proof.Gen.WgradIn.Frame
public import proofs.«01_k».proof.Proof.Gen.WgradInIdeal
public import proofs.«01_k».proof.Proof.Gen.WgradInIdeal.Frame
public import proofs.«01_k».proof.Proof.Gen.WgradInIdeal.Value
public import proofs.«01_k».proof.Proof.Gen.WgradInRefIdeal
public import proofs.«01_k».proof.Proof.Gen.WgradInRefIdeal.Run
public import proofs.«01_k».proof.Proof.Gen.WgradInRefIdeal.Read
public import proofs.«01_k».proof.Proof.WgradInVal
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.AdamInVal
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.AdamOutVal
public import proofs.«01_k».proof.Proof.Gen.AdamGate
public import proofs.«01_k».proof.Proof.Gen.AdamGate.Frame
public import proofs.«01_k».proof.Proof.Gen.AdamGateIdeal
public import proofs.«01_k».proof.Proof.Gen.AdamGateIdeal.Frame
public import proofs.«01_k».proof.Proof.Gen.AdamGateIdeal.Value
public import proofs.«01_k».proof.Proof.Gen.AdamGateRefIdeal
public import proofs.«01_k».proof.Proof.Gen.AdamGateRefIdeal.Run
public import proofs.«01_k».proof.Proof.Gen.AdamGateRefIdeal.Read
public import proofs.«01_k».proof.Proof.AdamGateVal
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.AdamDownVal
public import proofs.«01_k».proof.Proof.Gen.AdamMod
public import proofs.«01_k».proof.Proof.Gen.AdamMod.Frame
public import proofs.«01_k».proof.Proof.Gen.AdamModIdeal
public import proofs.«01_k».proof.Proof.Gen.AdamModIdeal.Frame
public import proofs.«01_k».proof.Proof.Gen.AdamModIdeal.Value
public import proofs.«01_k».proof.Proof.Gen.AdamModRefIdeal
public import proofs.«01_k».proof.Proof.Gen.AdamModRefIdeal.Run
public import proofs.«01_k».proof.Proof.Gen.AdamModRefIdeal.Read
public import proofs.«01_k».proof.Proof.AdamModVal
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.AdamSmallVal
public import proofs.«01_k».proof.Proof.Gen.ModBwd
public import proofs.«01_k».proof.Proof.Gen.ModBwd.Frame
public import proofs.«01_k».proof.Proof.Gen.ModBwdIdeal
public import proofs.«01_k».proof.Proof.Gen.ModBwdIdeal.Frame
public import proofs.«01_k».proof.Proof.Gen.ModBwdIdeal.Value
public import proofs.«01_k».proof.Proof.Gen.ModBwdRefIdeal
public import proofs.«01_k».proof.Proof.Gen.ModBwdRefIdeal.Run
public import proofs.«01_k».proof.Proof.Gen.ModBwdRefIdeal.Read
public import proofs.«01_k».proof.Proof.ModBwdVal
public import proofs.«01_k».proof.Proof.Gen.Totals
public import proofs.«01_k».proof.Proof.Gen.Totals.Frame
public import proofs.«01_k».proof.Proof.Gen.TotalsIdeal
public import proofs.«01_k».proof.Proof.Gen.TotalsIdeal.Frame
public import proofs.«01_k».proof.Proof.Gen.TotalsIdeal.Value
public import proofs.«01_k».proof.Proof.Gen.TotalsRefIdeal
public import proofs.«01_k».proof.Proof.Gen.TotalsRefIdeal.Run
public import proofs.«01_k».proof.Proof.Gen.TotalsRefIdeal.Read
public import proofs.«01_k».proof.Proof.TotalsVal
public import proofs.«01_k».proof.Proof.Gen.CtxGrad
public import proofs.«01_k».proof.Proof.Gen.CtxGrad.Frame
public import proofs.«01_k».proof.Proof.Gen.CtxGradIdeal
public import proofs.«01_k».proof.Proof.Gen.CtxGradIdeal.Frame
public import proofs.«01_k».proof.Proof.Gen.CtxGradIdeal.Value
public import proofs.«01_k».proof.Proof.Gen.CtxGradRefIdeal
public import proofs.«01_k».proof.Proof.Gen.CtxGradRefIdeal.Run
public import proofs.«01_k».proof.Proof.Gen.CtxGradRefIdeal.Read
public import proofs.«01_k».proof.Proof.CtxGradVal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.MergeVal
public import proofs.«01_k».proof.Proof.Gen.Join
public import proofs.«01_k».proof.Proof.Gen.Join.Frame
public import proofs.«01_k».proof.Proof.Gen.JoinIdeal
public import proofs.«01_k».proof.Proof.Gen.JoinIdeal.Frame
public import proofs.«01_k».proof.Proof.Gen.JoinIdeal.Value
public import proofs.«01_k».proof.Proof.Gen.JoinRefIdeal
public import proofs.«01_k».proof.Proof.Gen.JoinRefIdeal.Run
public import proofs.«01_k».proof.Proof.Gen.JoinRefIdeal.Read
public import proofs.«01_k».proof.Proof.JoinVal
public import proofs.«01_k».proof.Proof.Gen.Entry
public import proofs.«01_k».proof.Proof.Gen.Entry.Frame
public import proofs.«01_k».proof.Proof.Gen.States
public import proofs.«01_k».proof.Proof.PackVal
public import proofs.«01_k».proof.Proof.Gen.States.Frame
public import proofs.«01_k».proof.Proof.Gen.StatesIdeal
public import proofs.«01_k».proof.Proof.Gen.StatesIdeal.Frame
public import proofs.«01_k».proof.Proof.Gen.StatesIdeal.Value
public import proofs.«01_k».proof.Proof.Gen.StatesRefIdeal
public import proofs.«01_k».proof.Proof.Gen.StatesRefIdeal.Run
public import proofs.«01_k».proof.Proof.Gen.StatesRefIdeal.Step
public import proofs.«01_k».proof.Proof.Gen.Pack
public import proofs.«01_k».proof.Proof.Gen.Pack.Frame
public import proofs.«01_k».proof.Proof.Gen.PackIdeal
public import proofs.«01_k».proof.Proof.Gen.PackIdeal.Frame
public import proofs.«01_k».proof.Proof.Gen.PackIdeal.Value
public import proofs.«01_k».proof.Proof.Gen.PackRefIdeal
public import proofs.«01_k».proof.Proof.Gen.PackRefIdeal.Run
public import proofs.«01_k».proof.Proof.Gen.PackRefIdeal.Read
public import proofs.«01_k».proof.Proof.Gen.EntryIdeal
public import proofs.«01_k».proof.Proof.Gen.EntryIdeal.Frame
public import proofs.«01_k».proof.Proof.Gen.EntryIdeal.Value
public import proofs.«01_k».proof.Proof.Gen.EntryRefIdeal
public import proofs.«01_k».proof.Proof.Gen.EntryRefIdeal.Run
public import proofs.«01_k».proof.Proof.Gen.EntryRefIdeal.Read
public import proofs.«01_k».proof.Proof.EntryVal
public import proofs.«01_k».proof.Proof.StatesEq
public import Idealize.ShloMosaic.Adequacy
public import Idealize.ShloMosaic.Init

@[expose] public section

noncomputable section

namespace Cert.Proof

theorem claim : Cert.Claim :=
  ⟨Cert.Kernel.Gen.facts,
   Cert.KernelIdeal.Gen.facts,
   Cert.Ffn.Gen.facts,
   Cert.FfnIdeal.Gen.facts,
   Cert.FfnRefIdeal.Gen.facts,
   Cert.WgradGate.Gen.facts,
   Cert.WgradGateIdeal.Gen.facts,
   Cert.WgradGateRefIdeal.Gen.facts,
   Cert.WgradDown.Gen.facts,
   Cert.WgradDownIdeal.Gen.facts,
   Cert.WgradDownRefIdeal.Gen.facts,
   Cert.WgradOut.Gen.facts,
   Cert.WgradOutIdeal.Gen.facts,
   Cert.WgradOutRefIdeal.Gen.facts,
   Cert.WgradIn.Gen.facts,
   Cert.WgradInIdeal.Gen.facts,
   Cert.WgradInRefIdeal.Gen.facts,
   Cert.AdamIn.Gen.facts,
   Cert.AdamInIdeal.Gen.facts,
   Cert.AdamInRefIdeal.Gen.facts,
   Cert.AdamOut.Gen.facts,
   Cert.AdamOutIdeal.Gen.facts,
   Cert.AdamOutRefIdeal.Gen.facts,
   Cert.AdamGate.Gen.facts,
   Cert.AdamGateIdeal.Gen.facts,
   Cert.AdamGateRefIdeal.Gen.facts,
   Cert.AdamDown.Gen.facts,
   Cert.AdamDownIdeal.Gen.facts,
   Cert.AdamDownRefIdeal.Gen.facts,
   Cert.AdamMod.Gen.facts,
   Cert.AdamModIdeal.Gen.facts,
   Cert.AdamModRefIdeal.Gen.facts,
   Cert.AdamSmall.Gen.facts,
   Cert.AdamSmallIdeal.Gen.facts,
   Cert.AdamSmallRefIdeal.Gen.facts,
   Cert.ModBwd.Gen.facts,
   Cert.ModBwdIdeal.Gen.facts,
   Cert.ModBwdRefIdeal.Gen.facts,
   Cert.Totals.Gen.facts,
   Cert.TotalsIdeal.Gen.facts,
   Cert.TotalsRefIdeal.Gen.facts,
   Cert.CtxGrad.Gen.facts,
   Cert.CtxGradIdeal.Gen.facts,
   Cert.CtxGradRefIdeal.Gen.facts,
   Cert.Merge.Gen.facts,
   Cert.MergeIdeal.Gen.facts,
   Cert.MergeRefIdeal.Gen.facts,
   Cert.Join.Gen.facts,
   Cert.JoinIdeal.Gen.facts,
   Cert.JoinRefIdeal.Gen.facts,
   Cert.Entry.Gen.facts,
   Cert.EntryIdeal.Gen.facts,
   Cert.EntryRefIdeal.Gen.facts,
   Cert.States.Gen.facts,
   Cert.StatesIdeal.Gen.facts,
   Cert.StatesRefIdeal.Gen.facts,
   Cert.Pack.Gen.facts,
   Cert.PackIdeal.Gen.facts,
   Cert.PackRefIdeal.Gen.facts,
   Cert.Pre_finite.Gen.facts,
   Cert.Pre_finite_ctx.Gen.facts,
   Cert.Pre_finite_merge.Gen.facts,
   Cert.Pre_finite_states.Gen.facts,
   Cert.Gla.frame_kernel,
   Cert.Gla.frame_ideal,
   fun m ρ _ => Cert.Ffn.Gen.frame m ρ,
   fun m ρ _ => Cert.FfnIdeal.Gen.frame m ρ,
   fun m ρ _ => Cert.FfnIdeal.Gen.frame m ρ,
   Cert.FfnIdeal.Val.frame_ref,
   fun m ρ _ => Cert.FfnIdeal.Val.frame_ref m ρ trivial,
   fun m ρ _ => Cert.WgradGate.Gen.frame m ρ,
   fun m ρ _ => Cert.WgradGateIdeal.Gen.frame m ρ,
   Cert.WgradGateIdeal.Val.frame_ref,
   fun m ρ _ => Cert.WgradDown.Gen.frame m ρ,
   fun m ρ _ => Cert.WgradDownIdeal.Gen.frame m ρ,
   Cert.WgradDownIdeal.Val.frame_ref,
   fun m ρ _ => Cert.WgradOut.Gen.frame m ρ,
   fun m ρ _ => Cert.WgradOutIdeal.Gen.frame m ρ,
   Cert.WgradOutIdeal.Val.frame_ref,
   fun m ρ _ => Cert.WgradIn.Gen.frame m ρ,
   fun m ρ _ => Cert.WgradInIdeal.Gen.frame m ρ,
   Cert.WgradInIdeal.Val.frame_ref,
   fun m ρ _ => Cert.AdamIn.Gen.frame m ρ,
   fun m ρ _ => Cert.AdamInIdeal.Gen.frame m ρ,
   Cert.AdamInIdeal.Val.frame_ref,
   fun m ρ _ => Cert.AdamOut.Gen.frame m ρ,
   fun m ρ _ => Cert.AdamOutIdeal.Gen.frame m ρ,
   Cert.AdamOutIdeal.Val.frame_ref,
   fun m ρ _ => Cert.AdamGate.Gen.frame m ρ,
   fun m ρ _ => Cert.AdamGateIdeal.Gen.frame m ρ,
   Cert.AdamGateIdeal.Val.frame_ref,
   fun m ρ _ => Cert.AdamDown.Gen.frame m ρ,
   fun m ρ _ => Cert.AdamDownIdeal.Gen.frame m ρ,
   Cert.AdamDownIdeal.Val.frame_ref,
   fun m ρ _ => Cert.AdamMod.Gen.frame m ρ,
   fun m ρ _ => Cert.AdamModIdeal.Gen.frame m ρ,
   Cert.AdamModIdeal.Val.frame_ref,
   fun m ρ _ => Cert.AdamSmall.Gen.frame m ρ,
   fun m ρ _ => Cert.AdamSmallIdeal.Gen.frame m ρ,
   Cert.AdamSmallIdeal.Val.frame_ref,
   fun m ρ _ => Cert.ModBwd.Gen.frame m ρ,
   fun m ρ _ => Cert.ModBwdIdeal.Gen.frame m ρ,
   Cert.ModBwdIdeal.Val.frame_ref,
   fun m ρ _ => Cert.Totals.Gen.frame m ρ,
   fun m ρ _ => Cert.TotalsIdeal.Gen.frame m ρ,
   Cert.TotalsIdeal.Val.frame_ref,
   fun m ρ _ => Cert.CtxGrad.Gen.frame m ρ,
   fun m ρ _ => Cert.CtxGradIdeal.Gen.frame m ρ,
   fun m ρ _ => Cert.CtxGradIdeal.Gen.frame m ρ,
   Cert.CtxGradIdeal.Val.frame_ref,
   fun m ρ _ => Cert.CtxGradIdeal.Val.frame_ref m ρ trivial,
   fun m ρ _ => Cert.Merge.Gen.frame m ρ,
   fun m ρ _ => Cert.MergeIdeal.Gen.frame m ρ,
   fun m ρ _ => Cert.MergeIdeal.Gen.frame m ρ,
   Cert.MergeIdeal.Val.frame_ref,
   fun m ρ _ => Cert.MergeIdeal.Val.frame_ref m ρ trivial,
   fun m ρ _ => Cert.Join.Gen.frame m ρ,
   fun m ρ _ => Cert.JoinIdeal.Gen.frame m ρ,
   Cert.JoinIdeal.Val.frame_ref,
   fun m ρ _ => Cert.Entry.Gen.frame m ρ,
   fun m ρ _ => Cert.EntryIdeal.Gen.frame m ρ,
   Cert.EntryIdeal.Val.frame_ref,
   fun m ρ _ => Cert.States.Gen.frame m ρ,
   fun m ρ _ => Cert.StatesIdeal.Gen.frame m ρ,
   fun m ρ _ => Cert.StatesIdeal.Gen.frame m ρ,
   Cert.States.Eq.frame_ref,
   fun m ρ _ => Cert.States.Eq.frame_ref m ρ trivial,
   fun m ρ _ => Cert.Pack.Gen.frame m ρ,
   fun m ρ _ => Cert.PackIdeal.Gen.frame m ρ,
   Cert.PackIdeal.Val.frame_ref,
   trivial,
   trivial,
   Cert.FfnIdeal.Val.values,
   trivial,
   Cert.WgradGateIdeal.Val.values,
   trivial,
   Cert.WgradDownIdeal.Val.values,
   trivial,
   Cert.WgradOutIdeal.Val.values,
   trivial,
   Cert.WgradInIdeal.Val.values,
   trivial,
   Cert.AdamInIdeal.Val.values,
   trivial,
   Cert.AdamOutIdeal.Val.values,
   trivial,
   Cert.AdamGateIdeal.Val.values,
   trivial,
   Cert.AdamDownIdeal.Val.values,
   trivial,
   Cert.AdamModIdeal.Val.values,
   trivial,
   Cert.AdamSmallIdeal.Val.values,
   trivial,
   Cert.ModBwdIdeal.Val.values,
   trivial,
   Cert.TotalsIdeal.Val.values,
   trivial,
   Cert.CtxGradIdeal.Val.values,
   trivial,
   Cert.MergeIdeal.Val.values,
   trivial,
   Cert.JoinIdeal.Val.values,
   trivial,
   Cert.EntryIdeal.Val.values,
   trivial,
   Cert.States.Eq.values,
   trivial,
   Cert.PackIdeal.Val.values⟩

end Cert.Proof

end
